-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ProductIdeal (m : (ℓ : Loc Cert.ProductIdeal.nD Cert.ProductIdeal.τ Cert.ProductIdeal.sig) → Buf (Elt Ideal) ℓ) : Prop :=
  True

def Pre_Unpack (m : (ℓ : Loc Cert.Unpack.nD Cert.Unpack.τ Cert.Unpack.sig) → Buf (Elt Bits) ℓ) : Prop :=
  True

def Pre_UnpackIdeal (m : (ℓ : Loc Cert.UnpackIdeal.nD Cert.UnpackIdeal.τ Cert.UnpackIdeal.sig) → Buf (Elt Ideal) ℓ) : Prop :=
  True

def Pre_WeightsIdeal (m : (ℓ : Loc Cert.WeightsIdeal.nD Cert.WeightsIdeal.τ Cert.WeightsIdeal.sig) → Buf (Elt Ideal) ℓ) : Prop :=
  True

def Pre_Rotate (m : (ℓ : Loc Cert.Rotate.nD Cert.Rotate.τ Cert.Rotate.sig) → Buf (Elt Bits) ℓ) : Prop :=
  True

def Pre_RotateIdeal (m : (ℓ : Loc Cert.RotateIdeal.nD Cert.RotateIdeal.τ Cert.RotateIdeal.sig) → Buf (Elt Ideal) ℓ) : Prop :=
  True

def Pre_RotateIdeal_signs [hPre_signs : Cert.Pre_signs.Facts] (m : (ℓ : Loc Cert.RotateIdeal.nD Cert.RotateIdeal.τ Cert.RotateIdeal.sig) → Buf (Elt Ideal) ℓ) : Prop :=
  ∀ c : Dev Cert.RotateIdeal.nD,
    (Cert.Pre_signs.fn (F := Ideal) (m ((c.tc : Thread Cert.RotateIdeal.nD Cert.RotateIdeal.τ).loc Cert.RotateIdeal.main_arg0)) (m ((c.tc : Thread Cert.RotateIdeal.nD Cert.RotateIdeal.τ).loc Cert.RotateIdeal.main_arg1)) (m ((c.tc : Thread Cert.RotateIdeal.nD Cert.RotateIdeal.τ).loc Cert.RotateIdeal.main_arg2))) = (fun _ => 1#1)

def Pre_RotationIdeal (m : (ℓ : Loc Cert.RotationIdeal.nD Cert.RotationIdeal.τ Cert.RotationIdeal.sig) → Buf (Elt Ideal) ℓ) : Prop :=
  True

def Pre_RotationIdeal_signs [hPre_signs : Cert.Pre_signs.Facts] (m : (ℓ : Loc Cert.RotationIdeal.nD Cert.RotationIdeal.τ Cert.RotationIdeal.sig) → Buf (Elt Ideal) ℓ) : Prop :=
  ∀ c : Dev Cert.RotationIdeal.nD,
    (Cert.Pre_signs.fn (F := Ideal) (m ((c.tc : Thread Cert.RotationIdeal.nD Cert.RotationIdeal.τ).loc Cert.RotationIdeal.main_arg0)) (m ((c.tc : Thread Cert.RotationIdeal.nD Cert.RotationIdeal.τ).loc Cert.RotationIdeal.main_arg1)) (m ((c.tc : Thread Cert.RotationIdeal.nD Cert.RotationIdeal.τ).loc Cert.RotationIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ProductIdeal [hProductIdeal : Cert.ProductIdeal.Facts] : Prop :=
  ∀ (m : (ℓ : Loc Cert.ProductIdeal.nD Cert.ProductIdeal.τ Cert.ProductIdeal.sig) → Buf (Elt Ideal) ℓ) (g : Dev Cert.ProductIdeal.nD → PrngReg), Pre_ProductIdeal m →
    θ_run (Cert.ProductIdeal.defs (F := Ideal)) (onTc (τ := Cert.ProductIdeal.τ) (Cert.ProductIdeal.main (F := Ideal))) ⟨m, fun _ => 0, g⟩ (fun r => (∀ c : Dev Cert.ProductIdeal.nD,
      r.2.mem ((c.tc : Thread Cert.ProductIdeal.nD Cert.ProductIdeal.τ).loc Cert.ProductIdeal.main_arg0) = m ((c.tc : Thread Cert.ProductIdeal.nD Cert.ProductIdeal.τ).loc Cert.ProductIdeal.main_arg0)
      ∧ r.2.mem ((c.tc : Thread Cert.ProductIdeal.nD Cert.ProductIdeal.τ).loc Cert.ProductIdeal.main_arg1) = m ((c.tc : Thread Cert.ProductIdeal.nD Cert.ProductIdeal.τ).loc Cert.ProductIdeal.main_arg1)
      ∧ r.2.mem ((c.tc : Thread Cert.ProductIdeal.nD Cert.ProductIdeal.τ).loc Cert.ProductIdeal.main_arg2) = m ((c.tc : Thread Cert.ProductIdeal.nD Cert.ProductIdeal.τ).loc Cert.ProductIdeal.main_arg2)
      ∧ r.2.mem ((c.tc : Thread Cert.ProductIdeal.nD Cert.ProductIdeal.τ).loc Cert.ProductIdeal.main_arg3) = m ((c.tc : Thread Cert.ProductIdeal.nD Cert.ProductIdeal.τ).loc Cert.ProductIdeal.main_arg3)
      ∧ r.2.mem ((c.tc : Thread Cert.ProductIdeal.nD Cert.ProductIdeal.τ).loc Cert.ProductIdeal.main_arg4) = m ((c.tc : Thread Cert.ProductIdeal.nD Cert.ProductIdeal.τ).loc Cert.ProductIdeal.main_arg4))
      ∧ r.2.sem = fun _ => 0)

def quiescent_Unpack [hUnpack : Cert.Unpack.Facts] : Prop :=
  ∀ (m : (ℓ : Loc Cert.Unpack.nD Cert.Unpack.τ Cert.Unpack.sig) → Buf (Elt Bits) ℓ) (g : Dev Cert.Unpack.nD → PrngReg), Pre_Unpack m →
    θ_run (Cert.Unpack.defs (F := Bits)) (onTc (τ := Cert.Unpack.τ) (Cert.Unpack.main (F := Bits))) ⟨m, fun _ => 0, g⟩ (fun r => (∀ c : Dev Cert.Unpack.nD,
      r.2.mem ((c.tc : Thread Cert.Unpack.nD Cert.Unpack.τ).loc Cert.Unpack.main_arg0) = m ((c.tc : Thread Cert.Unpack.nD Cert.Unpack.τ).loc Cert.Unpack.main_arg0)
      ∧ r.2.mem ((c.tc : Thread Cert.Unpack.nD Cert.Unpack.τ).loc Cert.Unpack.main_arg1) = m ((c.tc : Thread Cert.Unpack.nD Cert.Unpack.τ).loc Cert.Unpack.main_arg1))
      ∧ r.2.sem = fun _ => 0)

def quiescent_UnpackIdeal [hUnpackIdeal : Cert.UnpackIdeal.Facts] : Prop :=
  ∀ (m : (ℓ : Loc Cert.UnpackIdeal.nD Cert.UnpackIdeal.τ Cert.UnpackIdeal.sig) → Buf (Elt Ideal) ℓ) (g : Dev Cert.UnpackIdeal.nD → PrngReg), Pre_UnpackIdeal m →
    θ_run (Cert.UnpackIdeal.defs (F := Ideal)) (onTc (τ := Cert.UnpackIdeal.τ) (Cert.UnpackIdeal.main (F := Ideal))) ⟨m, fun _ => 0, g⟩ (fun r => (∀ c : Dev Cert.UnpackIdeal.nD,
      r.2.mem ((c.tc : Thread Cert.UnpackIdeal.nD Cert.UnpackIdeal.τ).loc Cert.UnpackIdeal.main_arg0) = m ((c.tc : Thread Cert.UnpackIdeal.nD Cert.UnpackIdeal.τ).loc Cert.UnpackIdeal.main_arg0)
      ∧ r.2.mem ((c.tc : Thread Cert.UnpackIdeal.nD Cert.UnpackIdeal.τ).loc Cert.UnpackIdeal.main_arg1) = m ((c.tc : Thread Cert.UnpackIdeal.nD Cert.UnpackIdeal.τ).loc Cert.UnpackIdeal.main_arg1))
      ∧ r.2.sem = fun _ => 0)

def quiescent_WeightsIdeal [hWeightsIdeal : Cert.WeightsIdeal.Facts] : Prop :=
  ∀ (m : (ℓ : Loc Cert.WeightsIdeal.nD Cert.WeightsIdeal.τ Cert.WeightsIdeal.sig) → Buf (Elt Ideal) ℓ) (g : Dev Cert.WeightsIdeal.nD → PrngReg), Pre_WeightsIdeal m →
    θ_run (Cert.WeightsIdeal.defs (F := Ideal)) (onTc (τ := Cert.WeightsIdeal.τ) (Cert.WeightsIdeal.main (F := Ideal))) ⟨m, fun _ => 0, g⟩ (fun r => (∀ c : Dev Cert.WeightsIdeal.nD,
      r.2.mem ((c.tc : Thread Cert.WeightsIdeal.nD Cert.WeightsIdeal.τ).loc Cert.WeightsIdeal.main_arg0) = m ((c.tc : Thread Cert.WeightsIdeal.nD Cert.WeightsIdeal.τ).loc Cert.WeightsIdeal.main_arg0)
      ∧ r.2.mem ((c.tc : Thread Cert.WeightsIdeal.nD Cert.WeightsIdeal.τ).loc Cert.WeightsIdeal.main_arg1) = m ((c.tc : Thread Cert.WeightsIdeal.nD Cert.WeightsIdeal.τ).loc Cert.WeightsIdeal.main_arg1))
      ∧ r.2.sem = fun _ => 0)

def quiescent_Rotate [hRotate : Cert.Rotate.Facts] : Prop :=
  ∀ (m : (ℓ : Loc Cert.Rotate.nD Cert.Rotate.τ Cert.Rotate.sig) → Buf (Elt Bits) ℓ) (g : Dev Cert.Rotate.nD → PrngReg), Pre_Rotate m →
    θ_run (Cert.Rotate.defs (F := Bits)) (onTc (τ := Cert.Rotate.τ) (Cert.Rotate.main (F := Bits))) ⟨m, fun _ => 0, g⟩ (fun r => (∀ c : Dev Cert.Rotate.nD,
      r.2.mem ((c.tc : Thread Cert.Rotate.nD Cert.Rotate.τ).loc Cert.Rotate.main_arg0) = m ((c.tc : Thread Cert.Rotate.nD Cert.Rotate.τ).loc Cert.Rotate.main_arg0)
      ∧ r.2.mem ((c.tc : Thread Cert.Rotate.nD Cert.Rotate.τ).loc Cert.Rotate.main_arg1) = m ((c.tc : Thread Cert.Rotate.nD Cert.Rotate.τ).loc Cert.Rotate.main_arg1)
      ∧ r.2.mem ((c.tc : Thread Cert.Rotate.nD Cert.Rotate.τ).loc Cert.Rotate.main_arg2) = m ((c.tc : Thread Cert.Rotate.nD Cert.Rotate.τ).loc Cert.Rotate.main_arg2))
      ∧ r.2.sem = fun _ => 0)

def quiescent_RotateIdeal [hRotateIdeal : Cert.RotateIdeal.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
      ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2))
      ∧ r.2.sem = fun _ => 0)

def quiescent_RotateIdeal_pre_signs [hRotateIdeal : Cert.RotateIdeal.Facts] [hPre_signs : Cert.Pre_signs.Facts] : Prop :=
  ∀ (m : (ℓ : Loc Cert.RotateIdeal.nD Cert.RotateIdeal.τ Cert.RotateIdeal.sig) → Buf (Elt Ideal) ℓ) (g : Dev Cert.RotateIdeal.nD → PrngReg), Pre_RotateIdeal_signs m →
    θ_run (Cert.RotateIdeal.defs (F := Ideal)) (onTc (τ := Cert.RotateIdeal.τ) (Cert.RotateIdeal.main (F := Ideal))) ⟨m, fun _ => 0, g⟩ (fun r => (∀ c : Dev Cert.RotateIdeal.nD,
      r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
      ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
      ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2))
      ∧ r.2.sem = fun _ => 0)

def quiescent_RotationIdeal [hRotationIdeal : Cert.RotationIdeal.Facts] : Prop :=
  ∀ (m : (ℓ : Loc Cert.RotationIdeal.nD Cert.RotationIdeal.τ Cert.RotationIdeal.sig) → Buf (Elt Ideal) ℓ) (g : Dev Cert.RotationIdeal.nD → PrngReg), Pre_RotationIdeal m →
    θ_run (Cert.RotationIdeal.defs (F := Ideal)) (onTc (τ := Cert.RotationIdeal.τ) (Cert.RotationIdeal.main (F := Ideal))) ⟨m, fun _ => 0, g⟩ (fun r => (∀ c : Dev Cert.RotationIdeal.nD,
      r.2.mem ((c.tc : Thread Cert.RotationIdeal.nD Cert.RotationIdeal.τ).loc Cert.RotationIdeal.main_arg0) = m ((c.tc : Thread Cert.RotationIdeal.nD Cert.RotationIdeal.τ).loc Cert.RotationIdeal.main_arg0)
      ∧ r.2.mem ((c.tc : Thread Cert.RotationIdeal.nD Cert.RotationIdeal.τ).loc Cert.RotationIdeal.main_arg1) = m ((c.tc : Thread Cert.RotationIdeal.nD Cert.RotationIdeal.τ).loc Cert.RotationIdeal.main_arg1)
      ∧ r.2.mem ((c.tc : Thread Cert.RotationIdeal.nD Cert.RotationIdeal.τ).loc Cert.RotationIdeal.main_arg2) = m ((c.tc : Thread Cert.RotationIdeal.nD Cert.RotationIdeal.τ).loc Cert.RotationIdeal.main_arg2))
      ∧ r.2.sem = fun _ => 0)

def quiescent_RotationIdeal_pre_signs [hRotationIdeal : Cert.RotationIdeal.Facts] [hPre_signs : Cert.Pre_signs.Facts] : Prop :=
  ∀ (m : (ℓ : Loc Cert.RotationIdeal.nD Cert.RotationIdeal.τ Cert.RotationIdeal.sig) → Buf (Elt Ideal) ℓ) (g : Dev Cert.RotationIdeal.nD → PrngReg), Pre_RotationIdeal_signs m →
    θ_run (Cert.RotationIdeal.defs (F := Ideal)) (onTc (τ := Cert.RotationIdeal.τ) (Cert.RotationIdeal.main (F := Ideal))) ⟨m, fun _ => 0, g⟩ (fun r => (∀ c : Dev Cert.RotationIdeal.nD,
      r.2.mem ((c.tc : Thread Cert.RotationIdeal.nD Cert.RotationIdeal.τ).loc Cert.RotationIdeal.main_arg0) = m ((c.tc : Thread Cert.RotationIdeal.nD Cert.RotationIdeal.τ).loc Cert.RotationIdeal.main_arg0)
      ∧ r.2.mem ((c.tc : Thread Cert.RotationIdeal.nD Cert.RotationIdeal.τ).loc Cert.RotationIdeal.main_arg1) = m ((c.tc : Thread Cert.RotationIdeal.nD Cert.RotationIdeal.τ).loc Cert.RotationIdeal.main_arg1)
      ∧ r.2.mem ((c.tc : Thread Cert.RotationIdeal.nD Cert.RotationIdeal.τ).loc Cert.RotationIdeal.main_arg2) = m ((c.tc : Thread Cert.RotationIdeal.nD Cert.RotationIdeal.τ).loc Cert.RotationIdeal.main_arg2))
      ∧ r.2.sem = fun _ => 0)

def preserves_Kernel_KernelIdeal : Prop :=
  True

def algebraic_KernelIdeal_ProductIdeal [hKernelIdeal : Cert.KernelIdeal.Facts] [hProductIdeal : Cert.ProductIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ProductIdeal.nD Cert.ProductIdeal.τ Cert.ProductIdeal.sig) → Buf (Elt Ideal) ℓ) (g' : Dev Cert.ProductIdeal.nD → PrngReg), Pre_KernelIdeal m →
    (∀ c : Dev Cert.KernelIdeal.nD,
      m' ((c.tc : Thread Cert.ProductIdeal.nD Cert.ProductIdeal.τ).loc Cert.ProductIdeal.main_arg0) = m ((c.tc : Thread Cert.KernelIdeal.nD Cert.KernelIdeal.τ).loc Cert.KernelIdeal.main_arg0)
      ∧ m' ((c.tc : Thread Cert.ProductIdeal.nD Cert.ProductIdeal.τ).loc Cert.ProductIdeal.main_arg1) = m ((c.tc : Thread Cert.KernelIdeal.nD Cert.KernelIdeal.τ).loc Cert.KernelIdeal.main_arg1)
      ∧ m' ((c.tc : Thread Cert.ProductIdeal.nD Cert.ProductIdeal.τ).loc Cert.ProductIdeal.main_arg2) = m ((c.tc : Thread Cert.KernelIdeal.nD Cert.KernelIdeal.τ).loc Cert.KernelIdeal.main_arg2)
      ∧ m' ((c.tc : Thread Cert.ProductIdeal.nD Cert.ProductIdeal.τ).loc Cert.ProductIdeal.main_arg3) = m ((c.tc : Thread Cert.KernelIdeal.nD Cert.KernelIdeal.τ).loc Cert.KernelIdeal.main_arg3)
      ∧ m' ((c.tc : Thread Cert.ProductIdeal.nD Cert.ProductIdeal.τ).loc Cert.ProductIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ProductIdeal.defs (F := Ideal)) (onTc (τ := Cert.ProductIdeal.τ) (Cert.ProductIdeal.main (F := Ideal))) ⟨m', fun _ => 0, g'⟩ (fun r => ∀ c : Dev Cert.ProductIdeal.nD,
          r.2.mem ((c.tc : Thread Cert.ProductIdeal.nD Cert.ProductIdeal.τ).loc Cert.ProductIdeal.main_v1) = v0 c
          ∧ r.2.mem ((c.tc : Thread Cert.ProductIdeal.nD Cert.ProductIdeal.τ).loc Cert.ProductIdeal.main_arg0) = m' ((c.tc : Thread Cert.ProductIdeal.nD Cert.ProductIdeal.τ).loc Cert.ProductIdeal.main_arg0)
          ∧ r.2.mem ((c.tc : Thread Cert.ProductIdeal.nD Cert.ProductIdeal.τ).loc Cert.ProductIdeal.main_arg1) = m' ((c.tc : Thread Cert.ProductIdeal.nD Cert.ProductIdeal.τ).loc Cert.ProductIdeal.main_arg1)
          ∧ r.2.mem ((c.tc : Thread Cert.ProductIdeal.nD Cert.ProductIdeal.τ).loc Cert.ProductIdeal.main_arg2) = m' ((c.tc : Thread Cert.ProductIdeal.nD Cert.ProductIdeal.τ).loc Cert.ProductIdeal.main_arg2)
          ∧ r.2.mem ((c.tc : Thread Cert.ProductIdeal.nD Cert.ProductIdeal.τ).loc Cert.ProductIdeal.main_arg3) = m' ((c.tc : Thread Cert.ProductIdeal.nD Cert.ProductIdeal.τ).loc Cert.ProductIdeal.main_arg3)
          ∧ r.2.mem ((c.tc : Thread Cert.ProductIdeal.nD Cert.ProductIdeal.τ).loc Cert.ProductIdeal.main_arg4) = m' ((c.tc : Thread Cert.ProductIdeal.nD Cert.ProductIdeal.τ).loc Cert.ProductIdeal.main_arg4))

def preserves_Unpack_UnpackIdeal : Prop :=
  True

def algebraic_UnpackIdeal_WeightsIdeal [hUnpackIdeal : Cert.UnpackIdeal.Facts] [hWeightsIdeal : Cert.WeightsIdeal.Facts] : Prop :=
  ∀ (m : (ℓ : Loc Cert.UnpackIdeal.nD Cert.UnpackIdeal.τ Cert.UnpackIdeal.sig) → Buf (Elt Ideal) ℓ) (g : Dev Cert.UnpackIdeal.nD → PrngReg)
    (m' : (ℓ : Loc Cert.WeightsIdeal.nD Cert.WeightsIdeal.τ Cert.WeightsIdeal.sig) → Buf (Elt Ideal) ℓ) (g' : Dev Cert.WeightsIdeal.nD → PrngReg), Pre_UnpackIdeal m →
    (∀ c : Dev Cert.UnpackIdeal.nD,
      m' ((c.tc : Thread Cert.WeightsIdeal.nD Cert.WeightsIdeal.τ).loc Cert.WeightsIdeal.main_arg0) = m ((c.tc : Thread Cert.UnpackIdeal.nD Cert.UnpackIdeal.τ).loc Cert.UnpackIdeal.main_arg0)
      ∧ m' ((c.tc : Thread Cert.WeightsIdeal.nD Cert.WeightsIdeal.τ).loc Cert.WeightsIdeal.main_arg1) = m ((c.tc : Thread Cert.UnpackIdeal.nD Cert.UnpackIdeal.τ).loc Cert.UnpackIdeal.main_arg1)) →
    ∃ (v0 : (c : Dev Cert.UnpackIdeal.nD) → Buf (Elt Ideal) ((c.tc : Thread Cert.UnpackIdeal.nD Cert.UnpackIdeal.τ).loc Cert.UnpackIdeal.main_v11_0)) (v1 : (c : Dev Cert.UnpackIdeal.nD) → Buf (Elt Ideal) ((c.tc : Thread Cert.UnpackIdeal.nD Cert.UnpackIdeal.τ).loc Cert.UnpackIdeal.main_v11_1)),
      θ_run (Cert.UnpackIdeal.defs (F := Ideal)) (onTc (τ := Cert.UnpackIdeal.τ) (Cert.UnpackIdeal.main (F := Ideal))) ⟨m, fun _ => 0, g⟩ (fun r => ∀ c : Dev Cert.UnpackIdeal.nD,
          r.2.mem ((c.tc : Thread Cert.UnpackIdeal.nD Cert.UnpackIdeal.τ).loc Cert.UnpackIdeal.main_v11_0) = v0 c
          ∧ r.2.mem ((c.tc : Thread Cert.UnpackIdeal.nD Cert.UnpackIdeal.τ).loc Cert.UnpackIdeal.main_v11_1) = v1 c
          ∧ r.2.mem ((c.tc : Thread Cert.UnpackIdeal.nD Cert.UnpackIdeal.τ).loc Cert.UnpackIdeal.main_arg0) = m ((c.tc : Thread Cert.UnpackIdeal.nD Cert.UnpackIdeal.τ).loc Cert.UnpackIdeal.main_arg0)
          ∧ r.2.mem ((c.tc : Thread Cert.UnpackIdeal.nD Cert.UnpackIdeal.τ).loc Cert.UnpackIdeal.main_arg1) = m ((c.tc : Thread Cert.UnpackIdeal.nD Cert.UnpackIdeal.τ).loc Cert.UnpackIdeal.main_arg1))
      ∧ θ_run (Cert.WeightsIdeal.defs (F := Ideal)) (onTc (τ := Cert.WeightsIdeal.τ) (Cert.WeightsIdeal.main (F := Ideal))) ⟨m', fun _ => 0, g'⟩ (fun r => ∀ c : Dev Cert.WeightsIdeal.nD,
          r.2.mem ((c.tc : Thread Cert.WeightsIdeal.nD Cert.WeightsIdeal.τ).loc Cert.WeightsIdeal.main_v0_0) = v0 c
          ∧ r.2.mem ((c.tc : Thread Cert.WeightsIdeal.nD Cert.WeightsIdeal.τ).loc Cert.WeightsIdeal.main_v0_1) = v1 c
          ∧ r.2.mem ((c.tc : Thread Cert.WeightsIdeal.nD Cert.WeightsIdeal.τ).loc Cert.WeightsIdeal.main_arg0) = m' ((c.tc : Thread Cert.WeightsIdeal.nD Cert.WeightsIdeal.τ).loc Cert.WeightsIdeal.main_arg0)
          ∧ r.2.mem ((c.tc : Thread Cert.WeightsIdeal.nD Cert.WeightsIdeal.τ).loc Cert.WeightsIdeal.main_arg1) = m' ((c.tc : Thread Cert.WeightsIdeal.nD Cert.WeightsIdeal.τ).loc Cert.WeightsIdeal.main_arg1))

def preserves_Rotate_RotateIdeal : Prop :=
  IdealRules.bf16_pack.Statement Cert.RotateIdeal.S16x128

def algebraic_RotateIdeal_RotationIdeal_pre_signs [hRotateIdeal : Cert.RotateIdeal.Facts] [hRotationIdeal : Cert.RotationIdeal.Facts] [hPre_signs : Cert.Pre_signs.Facts] : Prop :=
  ∀ (m : (ℓ : Loc Cert.RotateIdeal.nD Cert.RotateIdeal.τ Cert.RotateIdeal.sig) → Buf (Elt Ideal) ℓ) (g : Dev Cert.RotateIdeal.nD → PrngReg)
    (m' : (ℓ : Loc Cert.RotationIdeal.nD Cert.RotationIdeal.τ Cert.RotationIdeal.sig) → Buf (Elt Ideal) ℓ) (g' : Dev Cert.RotationIdeal.nD → PrngReg), Pre_RotateIdeal_signs m →
    (∀ c : Dev Cert.RotateIdeal.nD,
      m' ((c.tc : Thread Cert.RotationIdeal.nD Cert.RotationIdeal.τ).loc Cert.RotationIdeal.main_arg0) = m ((c.tc : Thread Cert.RotateIdeal.nD Cert.RotateIdeal.τ).loc Cert.RotateIdeal.main_arg0)
      ∧ m' ((c.tc : Thread Cert.RotationIdeal.nD Cert.RotationIdeal.τ).loc Cert.RotationIdeal.main_arg1) = m ((c.tc : Thread Cert.RotateIdeal.nD Cert.RotateIdeal.τ).loc Cert.RotateIdeal.main_arg1)
      ∧ m' ((c.tc : Thread Cert.RotationIdeal.nD Cert.RotationIdeal.τ).loc Cert.RotationIdeal.main_arg2) = m ((c.tc : Thread Cert.RotateIdeal.nD Cert.RotateIdeal.τ).loc Cert.RotateIdeal.main_arg2)) →
    ∃ (v0 : (c : Dev Cert.RotateIdeal.nD) → Buf (Elt Ideal) ((c.tc : Thread Cert.RotateIdeal.nD Cert.RotateIdeal.τ).loc Cert.RotateIdeal.main_v30_0)) (v1 : (c : Dev Cert.RotateIdeal.nD) → Buf (Elt Ideal) ((c.tc : Thread Cert.RotateIdeal.nD Cert.RotateIdeal.τ).loc Cert.RotateIdeal.main_v30_1)),
      θ_run (Cert.RotateIdeal.defs (F := Ideal)) (onTc (τ := Cert.RotateIdeal.τ) (Cert.RotateIdeal.main (F := Ideal))) ⟨m, fun _ => 0, g⟩ (fun r => ∀ c : Dev Cert.RotateIdeal.nD,
          r.2.mem ((c.tc : Thread Cert.RotateIdeal.nD Cert.RotateIdeal.τ).loc Cert.RotateIdeal.main_v30_0) = v0 c
          ∧ r.2.mem ((c.tc : Thread Cert.RotateIdeal.nD Cert.RotateIdeal.τ).loc Cert.RotateIdeal.main_v30_1) = v1 c
          ∧ r.2.mem ((c.tc : Thread Cert.RotateIdeal.nD Cert.RotateIdeal.τ).loc Cert.RotateIdeal.main_arg0) = m ((c.tc : Thread Cert.RotateIdeal.nD Cert.RotateIdeal.τ).loc Cert.RotateIdeal.main_arg0)
          ∧ r.2.mem ((c.tc : Thread Cert.RotateIdeal.nD Cert.RotateIdeal.τ).loc Cert.RotateIdeal.main_arg1) = m ((c.tc : Thread Cert.RotateIdeal.nD Cert.RotateIdeal.τ).loc Cert.RotateIdeal.main_arg1)
          ∧ r.2.mem ((c.tc : Thread Cert.RotateIdeal.nD Cert.RotateIdeal.τ).loc Cert.RotateIdeal.main_arg2) = m ((c.tc : Thread Cert.RotateIdeal.nD Cert.RotateIdeal.τ).loc Cert.RotateIdeal.main_arg2))
      ∧ θ_run (Cert.RotationIdeal.defs (F := Ideal)) (onTc (τ := Cert.RotationIdeal.τ) (Cert.RotationIdeal.main (F := Ideal))) ⟨m', fun _ => 0, g'⟩ (fun r => ∀ c : Dev Cert.RotationIdeal.nD,
          r.2.mem ((c.tc : Thread Cert.RotationIdeal.nD Cert.RotationIdeal.τ).loc Cert.RotationIdeal.main_v64) = v0 c
          ∧ r.2.mem ((c.tc : Thread Cert.RotationIdeal.nD Cert.RotationIdeal.τ).loc Cert.RotationIdeal.main_v66) = v1 c
          ∧ r.2.mem ((c.tc : Thread Cert.RotationIdeal.nD Cert.RotationIdeal.τ).loc Cert.RotationIdeal.main_arg0) = m' ((c.tc : Thread Cert.RotationIdeal.nD Cert.RotationIdeal.τ).loc Cert.RotationIdeal.main_arg0)
          ∧ r.2.mem ((c.tc : Thread Cert.RotationIdeal.nD Cert.RotationIdeal.τ).loc Cert.RotationIdeal.main_arg1) = m' ((c.tc : Thread Cert.RotationIdeal.nD Cert.RotationIdeal.τ).loc Cert.RotationIdeal.main_arg1)
          ∧ r.2.mem ((c.tc : Thread Cert.RotationIdeal.nD Cert.RotationIdeal.τ).loc Cert.RotationIdeal.main_arg2) = m' ((c.tc : Thread Cert.RotationIdeal.nD Cert.RotationIdeal.τ).loc Cert.RotationIdeal.main_arg2))

def Claim : Prop :=
  ∃ (hKernel : Cert.Kernel.Facts) (hKernelIdeal : Cert.KernelIdeal.Facts) (hProductIdeal : Cert.ProductIdeal.Facts) (hUnpack : Cert.Unpack.Facts) (hUnpackIdeal : Cert.UnpackIdeal.Facts) (hWeightsIdeal : Cert.WeightsIdeal.Facts) (hRotate : Cert.Rotate.Facts) (hRotateIdeal : Cert.RotateIdeal.Facts) (hRotationIdeal : Cert.RotationIdeal.Facts) (hPre_signs : Cert.Pre_signs.Facts),
    quiescent_Kernel (hKernel := hKernel)
    ∧ quiescent_KernelIdeal (hKernelIdeal := hKernelIdeal)
    ∧ quiescent_ProductIdeal (hProductIdeal := hProductIdeal)
    ∧ quiescent_Unpack (hUnpack := hUnpack)
    ∧ quiescent_UnpackIdeal (hUnpackIdeal := hUnpackIdeal)
    ∧ quiescent_WeightsIdeal (hWeightsIdeal := hWeightsIdeal)
    ∧ quiescent_Rotate (hRotate := hRotate)
    ∧ quiescent_RotateIdeal (hRotateIdeal := hRotateIdeal)
    ∧ quiescent_RotateIdeal_pre_signs (hRotateIdeal := hRotateIdeal) (hPre_signs := hPre_signs)
    ∧ quiescent_RotationIdeal (hRotationIdeal := hRotationIdeal)
    ∧ quiescent_RotationIdeal_pre_signs (hRotationIdeal := hRotationIdeal) (hPre_signs := hPre_signs)
    ∧ preserves_Kernel_KernelIdeal
    ∧ algebraic_KernelIdeal_ProductIdeal (hKernelIdeal := hKernelIdeal) (hProductIdeal := hProductIdeal)
    ∧ preserves_Unpack_UnpackIdeal
    ∧ algebraic_UnpackIdeal_WeightsIdeal (hUnpackIdeal := hUnpackIdeal) (hWeightsIdeal := hWeightsIdeal)
    ∧ preserves_Rotate_RotateIdeal
    ∧ algebraic_RotateIdeal_RotationIdeal_pre_signs (hRotateIdeal := hRotateIdeal) (hRotationIdeal := hRotationIdeal) (hPre_signs := hPre_signs)
-- ==== Pre_signs.lean ====
abbrev S6144x24576 : Shape := ⟨2, ![6144, 24576]⟩
abbrev S12x12 : Shape := ⟨2, ![12, 12]⟩
abbrev S_ : Shape := ⟨0, ![]⟩

class Facts : Prop where
  bcast_S_S12x12 : S_.BroadcastsInDim S12x12 (![] : Fin 0 → Fin S12x12.rank)
  reducesTo_S12x12_S_d0_1 : S12x12.ReducesTo [0, 1] S_
  h_S_ : 0 < S_.numel

variable [Facts]

def fn {F : FTy → Type} [FloatOps F] (main_arg0 : FVec F S6144x24576 .bf16) (main_arg1 : FVec F S6144x24576 .bf16) (main_arg2 : FVec F S12x12 .f32) : IVec S_ 1 :=
  let main_cst : FVec F S_ .f32 := constant S_ .f32 0x3F800000#32
  let main_v0 : FVec F S12x12 .f32 := broadcastInDim S12x12 ![] bcast_S_S12x12 main_cst
  let main_v1 : IVec S12x12 1 := cmpf .oeq main_arg2 main_v0
  let main_cst_0 : FVec F S_ .f32 := constant S_ .f32 0xBF800000#32
  let main_v2 : FVec F S12x12 .f32 := broadcastInDim S12x12 ![] bcast_S_S12x12 main_cst_0
  let main_v3 : IVec S12x12 1 := cmpf .oeq main_arg2 main_v2
  let main_v4 : IVec S12x12 1 := ori main_v1 main_v3
  let main_c : IVec S_ 1 := constantI S_ 1 1#1
  let main_v5 : IVec S_ 1 := (fun x v => Host.reduce IntOp.andi x v reducesTo_S12x12_S_d0_1 h_S_) main_v4 main_c
  main_v5
-- ==== Kernel.lean ====
abbrev S6144x24576 : Shape := ⟨2, ![6144, 24576]⟩
abbrev S3072x12288 : Shape := ⟨2, ![3072, 12288]⟩
abbrev S6144x128 : Shape := ⟨2, ![6144, 128]⟩
abbrev S3072 : Shape := ⟨1, ![3072]⟩
abbrev S1x3072 : Shape := ⟨2, ![1, 3072]⟩
abbrev S6144x3072 : Shape := ⟨2, ![6144, 3072]⟩
abbrev S512x24576 : Shape := ⟨2, ![512, 24576]⟩
abbrev S256x12288 : Shape := ⟨2, ![256, 12288]⟩
abbrev S512x128 : Shape := ⟨2, ![512, 128]⟩
abbrev S1x256 : Shape := ⟨2, ![1, 256]⟩
abbrev S512x256 : Shape := ⟨2, ![512, 256]⟩
abbrev S512x12288 : Shape := ⟨2, ![512, 12288]⟩
abbrev S512x1 : Shape := ⟨2, ![512, 1]⟩

abbrev nBuf : Space → Nat
  | .hbm => 7
  | .vmem => 13
  | .smem => 0
  | _ => 0

abbrev bufTy : (tb : Table) → Fin (tcTables nBuf tb) → BufTy
  | .hbm, ⟨0, _⟩ => ⟨S6144x24576, .i8⟩
  | .hbm, ⟨1, _⟩ => ⟨S3072x12288, .fp8e4m3⟩
  | .hbm, ⟨2, _⟩ => ⟨S3072x12288, .fp8e4m3⟩
  | .hbm, ⟨3, _⟩ => ⟨S6144x128, .f32⟩
  | .hbm, ⟨4, _⟩ => ⟨S3072, .f32⟩
  | .hbm, ⟨5, _⟩ => ⟨S1x3072, .f32⟩
  | .hbm, ⟨6, _⟩ => ⟨S6144x3072, .bf16⟩
  | .local _ .vmem, ⟨0, _⟩ => ⟨S512x24576, .i8⟩
  | .local _ .vmem, ⟨1, _⟩ => ⟨S512x24576, .i8⟩
  | .local _ .vmem, ⟨2, _⟩ => ⟨S256x12288, .fp8e4m3⟩
  | .local _ .vmem, ⟨3, _⟩ => ⟨S256x12288, .fp8e4m3⟩
  | .local _ .vmem, ⟨4, _⟩ => ⟨S256x12288, .fp8e4m3⟩
  | .local _ .vmem, ⟨5, _⟩ => ⟨S256x12288, .fp8e4m3⟩
  | .local _ .vmem, ⟨6, _⟩ => ⟨S512x128, .f32⟩
  | .local _ .vmem, ⟨7, _⟩ => ⟨S512x128, .f32⟩
  | .local _ .vmem, ⟨8, _⟩ => ⟨S1x256, .f32⟩
  | .local _ .vmem, ⟨9, _⟩ => ⟨S1x256, .f32⟩
  | .local _ .vmem, ⟨10, _⟩ => ⟨S512x256, .bf16⟩
  | .local _ .vmem, ⟨11, _⟩ => ⟨S512x256, .bf16⟩
  | .local _ .vmem, ⟨12, _⟩ => ⟨S512x24576, .fp8e4m3⟩
  | _, _ => ⟨S6144x24576, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x24576 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x12288 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x12288 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ProductIdeal.lean ====
abbrev S6144x24576 : Shape := ⟨2, ![6144, 24576]⟩
abbrev S3072x12288 : Shape := ⟨2, ![3072, 12288]⟩
abbrev S6144x128 : Shape := ⟨2, ![6144, 128]⟩
abbrev S3072 : Shape := ⟨1, ![3072]⟩
abbrev S1x3072 : Shape := ⟨2, ![1, 3072]⟩
abbrev S6144x3072 : Shape := ⟨2, ![6144, 3072]⟩
abbrev S6144x12288 : Shape := ⟨2, ![6144, 12288]⟩
abbrev S6144x1 : Shape := ⟨2, ![6144, 1]⟩

abbrev nBuf : Space → Nat
  | .hbm => 7
  | .vmem => 6
  | .smem => 0
  | _ => 0

abbrev bufTy : (tb : Table) → Fin (tcTables nBuf tb) → BufTy
  | .hbm, ⟨0, _⟩ => ⟨S6144x24576, .i8⟩
  | .hbm, ⟨1, _⟩ => ⟨S3072x12288, .fp8e4m3⟩
  | .hbm, ⟨2, _⟩ => ⟨S3072x12288, .fp8e4m3⟩
  | .hbm, ⟨3, _⟩ => ⟨S6144x128, .f32⟩
  | .hbm, ⟨4, _⟩ => ⟨S3072, .f32⟩
  | .hbm, ⟨5, _⟩ => ⟨S1x3072, .f32⟩
  | .hbm, ⟨6, _⟩ => ⟨S6144x3072, .bf16⟩
  | .local _ .vmem, ⟨0, _⟩ => ⟨S6144x24576, .i8⟩
  | .local _ .vmem, ⟨1, _⟩ => ⟨S3072x12288, .fp8e4m3⟩
  | .local _ .vmem, ⟨2, _⟩ => ⟨S3072x12288, .fp8e4m3⟩
  | .local _ .vmem, ⟨3, _⟩ => ⟨S6144x128, .f32⟩
  | .local _ .vmem, ⟨4, _⟩ => ⟨S1x3072, .f32⟩
  | .local _ .vmem, ⟨5, _⟩ => ⟨S6144x3072, .bf16⟩
  | _, _ => ⟨S6144x24576, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S6144x24576 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x12288 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6144x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6144x3072 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Unpack.lean ====
abbrev S3072x12288 : Shape := ⟨2, ![3072, 12288]⟩
abbrev S3072x192 : Shape := ⟨2, ![3072, 192]⟩
abbrev S3072x2x6x16 : Shape := ⟨4, ![3072, 2, 6, 16]⟩
abbrev S6x2x3072x16 : Shape := ⟨4, ![6, 2, 3072, 16]⟩
abbrev S16 : Shape := ⟨1, ![16]⟩
abbrev S16x1 : Shape := ⟨2, ![16, 1]⟩
abbrev S2048 : Shape := ⟨1, ![2048]⟩
abbrev S1x2048 : Shape := ⟨2, ![1, 2048]⟩
abbrev S_ : Shape := ⟨0, ![]⟩
abbrev S16x2048 : Shape := ⟨2, ![16, 2048]⟩
abbrev S256x2048 : Shape := ⟨2, ![256, 2048]⟩
abbrev S1x2x256x16 : Shape := ⟨4, ![1, 2, 256, 16]⟩
abbrev S2x256x16 : Shape := ⟨3, ![2, 256, 16]⟩
abbrev S1x256x16 : Shape := ⟨3, ![1, 256, 16]⟩
abbrev S256x16 : Shape := ⟨2, ![256, 16]⟩

abbrev nBuf : Space → Nat
  | .hbm => 32
  | .vmem => 9
  | .smem => 0
  | _ => 0

abbrev bufTy : (tb : Table) → Fin (tcTables nBuf tb) → BufTy
  | .hbm, ⟨0, _⟩ => ⟨S3072x12288, .i8⟩
  | .hbm, ⟨1, _⟩ => ⟨S3072x192, .i8⟩
  | .hbm, ⟨2, _⟩ => ⟨S3072x2x6x16, .i8⟩
  | .hbm, ⟨3, _⟩ => ⟨S6x2x3072x16, .i8⟩
  | .hbm, ⟨4, _⟩ => ⟨S16, .i32⟩
  | .hbm, ⟨5, _⟩ => ⟨S16x1, .i32⟩
  | .hbm, ⟨6, _⟩ => ⟨S2048, .i32⟩
  | .hbm, ⟨7, _⟩ => ⟨S1x2048, .i32⟩
  | .hbm, ⟨8, _⟩ => ⟨S_, .i32⟩
  | .hbm, ⟨9, _⟩ => ⟨S_, .i32⟩
  | .hbm, ⟨10, _⟩ => ⟨S1x2048, .i32⟩
  | .hbm, ⟨11, _⟩ => ⟨S1x2048, .i32⟩
  | .hbm, ⟨12, _⟩ => ⟨S1x2048, .i32⟩
  | .hbm, ⟨13, _⟩ => ⟨S_, .i32⟩
  | .hbm, ⟨14, _⟩ => ⟨S1x2048, .i32⟩
  | .hbm, ⟨15, _⟩ => ⟨S1x2048, .i1⟩
  | .hbm, ⟨16, _⟩ => ⟨S1x2048, .i32⟩
  | .hbm, ⟨17, _⟩ => ⟨S1x2048, .i32⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S1x2048, .i1⟩
  | .hbm, ⟨22, _⟩ => ⟨S_, .i32⟩
  | .hbm, ⟨23, _⟩ => ⟨S1x2048, .i32⟩
  | .hbm, ⟨24, _⟩ => ⟨S1x2048, .i32⟩
  | .hbm, ⟨25, _⟩ => ⟨S1x2048, .i32⟩
  | .hbm, ⟨26, _⟩ => ⟨S16x2048, .i32⟩
  | .hbm, ⟨27, _⟩ => ⟨S16x2048, .i32⟩
  | .hbm, ⟨28, _⟩ => ⟨S16x2048, .i1⟩
  | .hbm, ⟨29, _⟩ => ⟨S16x2048, .bf16⟩
  | .hbm, ⟨30, _⟩ => ⟨S3072x12288, .fp8e4m3⟩
  | .hbm, ⟨31, _⟩ => ⟨S3072x12288, .fp8e4m3⟩
  | .local _ .vmem, ⟨0, _⟩ => ⟨S256x2048, .i8⟩
  | .local _ .vmem, ⟨1, _⟩ => ⟨S256x2048, .i8⟩
  | .local _ .vmem, ⟨2, _⟩ => ⟨S1x2x256x16, .i8⟩
  | .local _ .vmem, ⟨3, _⟩ => ⟨S1x2x256x16, .i8⟩
  | .local _ .vmem, ⟨4, _⟩ => ⟨S16x2048, .bf16⟩
  | .local _ .vmem, ⟨5, _⟩ => ⟨S256x2048, .fp8e4m3⟩
  | .local _ .vmem, ⟨6, _⟩ => ⟨S256x2048, .fp8e4m3⟩
  | .local _ .vmem, ⟨7, _⟩ => ⟨S256x2048, .fp8e4m3⟩
  | .local _ .vmem, ⟨8, _⟩ => ⟨S256x2048, .fp8e4m3⟩
  | _, _ => ⟨S3072x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![12, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x256x16 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S16x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== WeightsIdeal.lean ====
abbrev S3072x12288 : Shape := ⟨2, ![3072, 12288]⟩
abbrev S3072x192 : Shape := ⟨2, ![3072, 192]⟩
abbrev S3072x96 : Shape := ⟨2, ![3072, 96]⟩
abbrev S3072x96x128 : Shape := ⟨3, ![3072, 96, 128]⟩
abbrev S3072x96x1 : Shape := ⟨3, ![3072, 96, 1]⟩

abbrev nBuf : Space → Nat
  | .hbm => 4
  | .vmem => 4
  | .smem => 0
  | _ => 0

abbrev bufTy : (tb : Table) → Fin (tcTables nBuf tb) → BufTy
  | .hbm, ⟨0, _⟩ => ⟨S3072x12288, .i8⟩
  | .hbm, ⟨1, _⟩ => ⟨S3072x192, .i8⟩
  | .hbm, ⟨2, _⟩ => ⟨S3072x12288, .fp8e4m3⟩
  | .hbm, ⟨3, _⟩ => ⟨S3072x12288, .fp8e4m3⟩
  | .local _ .vmem, ⟨0, _⟩ => ⟨S3072x12288, .i8⟩
  | .local _ .vmem, ⟨1, _⟩ => ⟨S3072x192, .i8⟩
  | .local _ .vmem, ⟨2, _⟩ => ⟨S3072x12288, .fp8e4m3⟩
  | .local _ .vmem, ⟨3, _⟩ => ⟨S3072x12288, .fp8e4m3⟩
  | _, _ => ⟨S3072x12288, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S3072x12288 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3072x192 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3072x12288 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3072x12288 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Rotate.lean ====
abbrev S6144x24576 : Shape := ⟨2, ![6144, 24576]⟩
abbrev S12x12 : Shape := ⟨2, ![12, 12]⟩
abbrev S_ : Shape := ⟨0, ![]⟩
abbrev S12x4x3 : Shape := ⟨3, ![12, 4, 3]⟩
abbrev S12x4x1 : Shape := ⟨3, ![12, 4, 1]⟩
abbrev S12x4 : Shape := ⟨2, ![12, 4]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S6144x128 : Shape := ⟨2, ![6144, 128]⟩
abbrev S32x24576 : Shape := ⟨2, ![32, 24576]⟩
abbrev S32x128 : Shape := ⟨2, ![32, 128]⟩
abbrev S4x8x8x2x32x128 : Shape := ⟨6, ![4, 8, 8, 2, 32, 128]⟩
abbrev S2x3x256x256 : Shape := ⟨4, ![2, 3, 256, 256]⟩
abbrev S12x256x256 : Shape := ⟨3, ![12, 256, 256]⟩
abbrev S32x256 : Shape := ⟨2, ![32, 256]⟩
abbrev S16x128 : Shape := ⟨2, ![16, 128]⟩
abbrev S1x1x1x1x16x128 : Shape := ⟨6, ![1, 1, 1, 1, 16, 128]⟩
abbrev S1x1 : Shape := ⟨2, ![1, 1]⟩
abbrev S1x1x16x128 : Shape := ⟨4, ![1, 1, 16, 128]⟩
abbrev S1x1x256x256 : Shape := ⟨4, ![1, 1, 256, 256]⟩
abbrev S1x256x256 : Shape := ⟨3, ![1, 256, 256]⟩
abbrev S32 : Shape := ⟨1, ![32]⟩
abbrev S32x1 : Shape := ⟨2, ![32, 1]⟩
abbrev S1x32x256 : Shape := ⟨3, ![1, 32, 256]⟩

abbrev nBuf : Space → Nat
  | .hbm => 41
  | .vmem => 13
  | .smem => 1
  | _ => 0

abbrev bufTy : (tb : Table) → Fin (tcTables nBuf tb) → BufTy
  | .hbm, ⟨0, _⟩ => ⟨S6144x24576, .bf16⟩
  | .hbm, ⟨1, _⟩ => ⟨S6144x24576, .bf16⟩
  | .hbm, ⟨2, _⟩ => ⟨S12x12, .f32⟩
  | .hbm, ⟨3, _⟩ => ⟨S_, .f32⟩
  | .hbm, ⟨4, _⟩ => ⟨S12x12, .f32⟩
  | .hbm, ⟨5, _⟩ => ⟨S12x12, .i1⟩
  | .hbm, ⟨6, _⟩ => ⟨S12x12, .i32⟩
  | .hbm, ⟨7, _⟩ => ⟨S12x4x3, .i32⟩
  | .hbm, ⟨8, _⟩ => ⟨S12x4x1, .i32⟩
  | .hbm, ⟨9, _⟩ => ⟨S12x4, .i32⟩
  | .hbm, ⟨10, _⟩ => ⟨S_, .i32⟩
  | .hbm, ⟨11, _⟩ => ⟨S12x4, .i32⟩
  | .hbm, ⟨12, _⟩ => ⟨S12x4, .i32⟩
  | .hbm, ⟨13, _⟩ => ⟨S12x4x1, .i32⟩
  | .hbm, ⟨14, _⟩ => ⟨S12x4, .i32⟩
  | .hbm, ⟨15, _⟩ => ⟨S_, .i32⟩
  | .hbm, ⟨16, _⟩ => ⟨S12x4, .i32⟩
  | .hbm, ⟨17, _⟩ => ⟨S12x4, .i32⟩
  | .hbm, ⟨18, _⟩ => ⟨S12x4, .i32⟩
  | .hbm, ⟨19, _⟩ => ⟨S12x4x1, .i32⟩
  | .hbm, ⟨20, _⟩ => ⟨S12x4, .i32⟩
  | .hbm, ⟨21, _⟩ => ⟨S12x4, .i32⟩
  | .hbm, ⟨22, _⟩ => ⟨S256, .i32⟩
  | .hbm, ⟨23, _⟩ => ⟨S256x1, .i32⟩
  | .hbm, ⟨24, _⟩ => ⟨S1x256, .i32⟩
  | .hbm, ⟨25, _⟩ => ⟨S256x256, .i32⟩
  | .hbm, ⟨26, _⟩ => ⟨S256x256, .i32⟩
  | .hbm, ⟨27, _⟩ => ⟨S256x256, .i32⟩
  | .hbm, ⟨28, _⟩ => ⟨S256x256, .i32⟩
  | .hbm, ⟨29, _⟩ => ⟨S_, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i32⟩
  | .hbm, ⟨38, _⟩ => ⟨S256x256, .bf16⟩
  | .hbm, ⟨39, _⟩ => ⟨S6144x24576, .i8⟩
  | .hbm, ⟨40, _⟩ => ⟨S6144x128, .f32⟩
  | .local _ .vmem, ⟨0, _⟩ => ⟨S256x256, .bf16⟩
  | .local _ .vmem, ⟨1, _⟩ => ⟨S32x24576, .bf16⟩
  | .local _ .vmem, ⟨2, _⟩ => ⟨S32x24576, .bf16⟩
  | .local _ .vmem, ⟨3, _⟩ => ⟨S32x24576, .bf16⟩
  | .local _ .vmem, ⟨4, _⟩ => ⟨S32x24576, .bf16⟩
  | .local _ .vmem, ⟨5, _⟩ => ⟨S32x24576, .i8⟩
  | .local _ .vmem, ⟨6, _⟩ => ⟨S32x24576, .i8⟩
  | .local _ .vmem, ⟨7, _⟩ => ⟨S32x128, .f32⟩
  | .local _ .vmem, ⟨8, _⟩ => ⟨S32x128, .f32⟩
  | .local _ .vmem, ⟨9, _⟩ => ⟨S4x8x8x2x32x128, .f32⟩
  | .local _ .vmem, ⟨10, _⟩ => ⟨S2x3x256x256, .bf16⟩
  | .local _ .vmem, ⟨11, _⟩ => ⟨S12x256x256, .f32⟩
  | .local _ .vmem, ⟨12, _⟩ => ⟨S32x256, .f32⟩
  | .local _ .smem, ⟨0, _⟩ => ⟨S12x4, .i32⟩
  | _, _ => ⟨S6144x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_c_2 : Ref sig .tc := ⟨.hbm, 32, rfl⟩
abbrev main_v25 : Ref sig .tc := ⟨.hbm, 33, rfl⟩
abbrev main_v26 : Ref sig .tc := ⟨.hbm, 34, rfl⟩
abbrev main_c_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30_0 : Ref sig .tc := ⟨.hbm, 39, rfl⟩
abbrev main_v30_1 : Ref sig .tc := ⟨.hbm, 40, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [BitOps F]

abbrev grid0 : Pipeline.Grid := ⟨1, ![192], ![false]⟩

@[reducible] def k0_t1_loop : Scf.Loop 32 :=
  let c0_i32 : BitVec 32 := 0#32
  let c16_i32 : BitVec 32 := 16#32
  let v0 : BitVec 32 := Scalar.addi c0_i32 c16_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  v1532
def k0_mult2 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32 : BitVec 32 := 3#32
  let v1534 : BitVec 32 := Scalar.muli v1494 c3_i32
  let c0_i32_1387 : BitVec 32 := 0#32
  let v1535 : BitVec 32 := Scalar.addi v1534 c0_i32_1387
  let c2048_i32 : BitVec 32 := 2048#32
  let v1536 : BitVec 32 := Scalar.muli v1535 c2048_i32
  let c0_i32_1388 : BitVec 32 := 0#32
  let v1537 : BitVec 32 := Scalar.addi v1536 c0_i32_1388
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32 : BitVec 32 := 128#32
  let v1538 : BitVec 32 := Scalar.muli v1521 c128_i32
  let v1539 : BitVec 32 := Scalar.addi v1537 v1538
  v1539
def k0_off1 (k0_t1 : Fin k0_t1_loop.trips) (c0_i32_1387 : BitVec 32) (c0_i32_1388 : BitVec 32) : Fin 2 → Nat :=
  let c0_i32 : BitVec 32 := 0#32
  let c1_i32 : BitVec 32 := 1#32
  let arg11 : BitVec 32 := Scf.iv c0_i32 c1_i32 k0_t1
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1541 : Index := Scalar.indexCast v1533
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32 : BitVec 32 := 3#32
  let v1534 : BitVec 32 := Scalar.muli v1494 c3_i32
  let v1535 : BitVec 32 := Scalar.addi v1534 c0_i32_1387
  let c2048_i32 : BitVec 32 := 2048#32
  let v1536 : BitVec 32 := Scalar.muli v1535 c2048_i32
  let v1537 : BitVec 32 := Scalar.addi v1536 c0_i32_1388
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32 : BitVec 32 := 128#32
  let v1538 : BitVec 32 := Scalar.muli v1521 c128_i32
  let v1539 : BitVec 32 := Scalar.addi v1537 v1538
  let v1540 : BitVec 32 := v1539
  let v1542 : Index := Scalar.indexCast v1540
  ![v1541.toNat, v1542.toNat]
def k0_mult3 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1392 : BitVec 32 := 3#32
  let v1558 : BitVec 32 := Scalar.muli v1494 c3_i32_1392
  let c1_i32_1393 : BitVec 32 := 1#32
  let v1559 : BitVec 32 := Scalar.addi v1558 c1_i32_1393
  let c2048_i32_1394 : BitVec 32 := 2048#32
  let v1560 : BitVec 32 := Scalar.muli v1559 c2048_i32_1394
  let c0_i32_1395 : BitVec 32 := 0#32
  let v1561 : BitVec 32 := Scalar.addi v1560 c0_i32_1395
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1396 : BitVec 32 := 128#32
  let v1562 : BitVec 32 := Scalar.muli v1521 c128_i32_1396
  let v1563 : BitVec 32 := Scalar.addi v1561 v1562
  v1563
def k0_mult4 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1400 : BitVec 32 := 3#32
  let v1582 : BitVec 32 := Scalar.muli v1494 c3_i32_1400
  let c2_i32_1401 : BitVec 32 := 2#32
  let v1583 : BitVec 32 := Scalar.addi v1582 c2_i32_1401
  let c2048_i32_1402 : BitVec 32 := 2048#32
  let v1584 : BitVec 32 := Scalar.muli v1583 c2048_i32_1402
  let c0_i32_1403 : BitVec 32 := 0#32
  let v1585 : BitVec 32 := Scalar.addi v1584 c0_i32_1403
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1404 : BitVec 32 := 128#32
  let v1586 : BitVec 32 := Scalar.muli v1521 c128_i32_1404
  let v1587 : BitVec 32 := Scalar.addi v1585 v1586
  v1587
def k0_off2 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1612 : Index := Scalar.indexCast v1494
  let c0_1408 : Index := 0#32
  let c0_1409 : Index := 0#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1613 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1614 : Index := Scalar.indexCast v1533
  let c0_1410 : Index := 0#32
  ![v1612.toNat, 0, 0, v1613.toNat, v1614.toNat, 0]
def k0_off3 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1620 : Index := Scalar.indexCast v1494
  let c7_1412 : Index := 7#32
  let c0_1413 : Index := 0#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1621 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1622 : Index := Scalar.indexCast v1533
  let c0_1414 : Index := 0#32
  ![v1620.toNat, 7, 0, v1621.toNat, v1622.toNat, 0]
def k0_off4 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1626 : Index := Scalar.indexCast v1494
  let c1_1415 : Index := 1#32
  let c0_1416 : Index := 0#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1627 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1628 : Index := Scalar.indexCast v1533
  let c0_1417 : Index := 0#32
  ![v1626.toNat, 1, 0, v1627.toNat, v1628.toNat, 0]
def k0_off5 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1634 : Index := Scalar.indexCast v1494
  let c6_1419 : Index := 6#32
  let c0_1420 : Index := 0#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1635 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1636 : Index := Scalar.indexCast v1533
  let c0_1421 : Index := 0#32
  ![v1634.toNat, 6, 0, v1635.toNat, v1636.toNat, 0]
def k0_off6 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1640 : Index := Scalar.indexCast v1494
  let c2_1422 : Index := 2#32
  let c0_1423 : Index := 0#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1641 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1642 : Index := Scalar.indexCast v1533
  let c0_1424 : Index := 0#32
  ![v1640.toNat, 2, 0, v1641.toNat, v1642.toNat, 0]
def k0_off7 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1648 : Index := Scalar.indexCast v1494
  let c5_1426 : Index := 5#32
  let c0_1427 : Index := 0#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1649 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1650 : Index := Scalar.indexCast v1533
  let c0_1428 : Index := 0#32
  ![v1648.toNat, 5, 0, v1649.toNat, v1650.toNat, 0]
def k0_off8 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1654 : Index := Scalar.indexCast v1494
  let c3_1429 : Index := 3#32
  let c0_1430 : Index := 0#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1655 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1656 : Index := Scalar.indexCast v1533
  let c0_1431 : Index := 0#32
  ![v1654.toNat, 3, 0, v1655.toNat, v1656.toNat, 0]
def k0_off9 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1662 : Index := Scalar.indexCast v1494
  let c4_1433 : Index := 4#32
  let c0_1434 : Index := 0#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1663 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1664 : Index := Scalar.indexCast v1533
  let c0_1435 : Index := 0#32
  ![v1662.toNat, 4, 0, v1663.toNat, v1664.toNat, 0]
def k0_mult5 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1436 : BitVec 32 := 3#32
  let v1668 : BitVec 32 := Scalar.muli v1494 c3_i32_1436
  let c0_i32_1437 : BitVec 32 := 0#32
  let v1669 : BitVec 32 := Scalar.addi v1668 c0_i32_1437
  let c2048_i32_1438 : BitVec 32 := 2048#32
  let v1670 : BitVec 32 := Scalar.muli v1669 c2048_i32_1438
  let c256_i32 : BitVec 32 := 256#32
  let v1671 : BitVec 32 := Scalar.addi v1670 c256_i32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1439 : BitVec 32 := 128#32
  let v1672 : BitVec 32 := Scalar.muli v1521 c128_i32_1439
  let v1673 : BitVec 32 := Scalar.addi v1671 v1672
  v1673
def k0_mult6 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1443 : BitVec 32 := 3#32
  let v1692 : BitVec 32 := Scalar.muli v1494 c3_i32_1443
  let c1_i32_1444 : BitVec 32 := 1#32
  let v1693 : BitVec 32 := Scalar.addi v1692 c1_i32_1444
  let c2048_i32_1445 : BitVec 32 := 2048#32
  let v1694 : BitVec 32 := Scalar.muli v1693 c2048_i32_1445
  let c256_i32_1446 : BitVec 32 := 256#32
  let v1695 : BitVec 32 := Scalar.addi v1694 c256_i32_1446
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1447 : BitVec 32 := 128#32
  let v1696 : BitVec 32 := Scalar.muli v1521 c128_i32_1447
  let v1697 : BitVec 32 := Scalar.addi v1695 v1696
  v1697
def k0_mult7 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1451 : BitVec 32 := 3#32
  let v1716 : BitVec 32 := Scalar.muli v1494 c3_i32_1451
  let c2_i32_1452 : BitVec 32 := 2#32
  let v1717 : BitVec 32 := Scalar.addi v1716 c2_i32_1452
  let c2048_i32_1453 : BitVec 32 := 2048#32
  let v1718 : BitVec 32 := Scalar.muli v1717 c2048_i32_1453
  let c256_i32_1454 : BitVec 32 := 256#32
  let v1719 : BitVec 32 := Scalar.addi v1718 c256_i32_1454
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1455 : BitVec 32 := 128#32
  let v1720 : BitVec 32 := Scalar.muli v1521 c128_i32_1455
  let v1721 : BitVec 32 := Scalar.addi v1719 v1720
  v1721
def k0_off10 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1746 : Index := Scalar.indexCast v1494
  let c0_1459 : Index := 0#32
  let c1_1460 : Index := 1#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1747 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1748 : Index := Scalar.indexCast v1533
  let c0_1461 : Index := 0#32
  ![v1746.toNat, 0, 1, v1747.toNat, v1748.toNat, 0]
def k0_off11 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1754 : Index := Scalar.indexCast v1494
  let c7_1463 : Index := 7#32
  let c1_1464 : Index := 1#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1755 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1756 : Index := Scalar.indexCast v1533
  let c0_1465 : Index := 0#32
  ![v1754.toNat, 7, 1, v1755.toNat, v1756.toNat, 0]
def k0_off12 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1760 : Index := Scalar.indexCast v1494
  let c1_1466 : Index := 1#32
  let c1_1467 : Index := 1#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1761 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1762 : Index := Scalar.indexCast v1533
  let c0_1468 : Index := 0#32
  ![v1760.toNat, 1, 1, v1761.toNat, v1762.toNat, 0]
def k0_off13 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1768 : Index := Scalar.indexCast v1494
  let c6_1470 : Index := 6#32
  let c1_1471 : Index := 1#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1769 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1770 : Index := Scalar.indexCast v1533
  let c0_1472 : Index := 0#32
  ![v1768.toNat, 6, 1, v1769.toNat, v1770.toNat, 0]
def k0_off14 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1774 : Index := Scalar.indexCast v1494
  let c2_1473 : Index := 2#32
  let c1_1474 : Index := 1#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1775 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1776 : Index := Scalar.indexCast v1533
  let c0_1475 : Index := 0#32
  ![v1774.toNat, 2, 1, v1775.toNat, v1776.toNat, 0]
def k0_off15 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1782 : Index := Scalar.indexCast v1494
  let c5_1477 : Index := 5#32
  let c1_1478 : Index := 1#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1783 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1784 : Index := Scalar.indexCast v1533
  let c0_1479 : Index := 0#32
  ![v1782.toNat, 5, 1, v1783.toNat, v1784.toNat, 0]
def k0_off16 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1788 : Index := Scalar.indexCast v1494
  let c3_1480 : Index := 3#32
  let c1_1481 : Index := 1#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1789 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1790 : Index := Scalar.indexCast v1533
  let c0_1482 : Index := 0#32
  ![v1788.toNat, 3, 1, v1789.toNat, v1790.toNat, 0]
def k0_off17 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1796 : Index := Scalar.indexCast v1494
  let c4_1484 : Index := 4#32
  let c1_1485 : Index := 1#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1797 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1798 : Index := Scalar.indexCast v1533
  let c0_1486 : Index := 0#32
  ![v1796.toNat, 4, 1, v1797.toNat, v1798.toNat, 0]
def k0_mult8 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1487 : BitVec 32 := 3#32
  let v1802 : BitVec 32 := Scalar.muli v1494 c3_i32_1487
  let c0_i32_1488 : BitVec 32 := 0#32
  let v1803 : BitVec 32 := Scalar.addi v1802 c0_i32_1488
  let c2048_i32_1489 : BitVec 32 := 2048#32
  let v1804 : BitVec 32 := Scalar.muli v1803 c2048_i32_1489
  let c512_i32 : BitVec 32 := 512#32
  let v1805 : BitVec 32 := Scalar.addi v1804 c512_i32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1490 : BitVec 32 := 128#32
  let v1806 : BitVec 32 := Scalar.muli v1521 c128_i32_1490
  let v1807 : BitVec 32 := Scalar.addi v1805 v1806
  v1807
def k0_mult9 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1494 : BitVec 32 := 3#32
  let v1826 : BitVec 32 := Scalar.muli v1494 c3_i32_1494
  let c1_i32_1495 : BitVec 32 := 1#32
  let v1827 : BitVec 32 := Scalar.addi v1826 c1_i32_1495
  let c2048_i32_1496 : BitVec 32 := 2048#32
  let v1828 : BitVec 32 := Scalar.muli v1827 c2048_i32_1496
  let c512_i32_1497 : BitVec 32 := 512#32
  let v1829 : BitVec 32 := Scalar.addi v1828 c512_i32_1497
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1498 : BitVec 32 := 128#32
  let v1830 : BitVec 32 := Scalar.muli v1521 c128_i32_1498
  let v1831 : BitVec 32 := Scalar.addi v1829 v1830
  v1831
def k0_mult10 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1502 : BitVec 32 := 3#32
  let v1850 : BitVec 32 := Scalar.muli v1494 c3_i32_1502
  let c2_i32_1503 : BitVec 32 := 2#32
  let v1851 : BitVec 32 := Scalar.addi v1850 c2_i32_1503
  let c2048_i32_1504 : BitVec 32 := 2048#32
  let v1852 : BitVec 32 := Scalar.muli v1851 c2048_i32_1504
  let c512_i32_1505 : BitVec 32 := 512#32
  let v1853 : BitVec 32 := Scalar.addi v1852 c512_i32_1505
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1506 : BitVec 32 := 128#32
  let v1854 : BitVec 32 := Scalar.muli v1521 c128_i32_1506
  let v1855 : BitVec 32 := Scalar.addi v1853 v1854
  v1855
def k0_off18 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1880 : Index := Scalar.indexCast v1494
  let c0_1510 : Index := 0#32
  let c2_1511 : Index := 2#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1881 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1882 : Index := Scalar.indexCast v1533
  let c0_1512 : Index := 0#32
  ![v1880.toNat, 0, 2, v1881.toNat, v1882.toNat, 0]
def k0_off19 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1888 : Index := Scalar.indexCast v1494
  let c7_1514 : Index := 7#32
  let c2_1515 : Index := 2#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1889 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1890 : Index := Scalar.indexCast v1533
  let c0_1516 : Index := 0#32
  ![v1888.toNat, 7, 2, v1889.toNat, v1890.toNat, 0]
def k0_off20 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1894 : Index := Scalar.indexCast v1494
  let c1_1517 : Index := 1#32
  let c2_1518 : Index := 2#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1895 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1896 : Index := Scalar.indexCast v1533
  let c0_1519 : Index := 0#32
  ![v1894.toNat, 1, 2, v1895.toNat, v1896.toNat, 0]
def k0_off21 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1902 : Index := Scalar.indexCast v1494
  let c6_1521 : Index := 6#32
  let c2_1522 : Index := 2#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1903 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1904 : Index := Scalar.indexCast v1533
  let c0_1523 : Index := 0#32
  ![v1902.toNat, 6, 2, v1903.toNat, v1904.toNat, 0]
def k0_off22 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1908 : Index := Scalar.indexCast v1494
  let c2_1524 : Index := 2#32
  let c2_1525 : Index := 2#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1909 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1910 : Index := Scalar.indexCast v1533
  let c0_1526 : Index := 0#32
  ![v1908.toNat, 2, 2, v1909.toNat, v1910.toNat, 0]
def k0_off23 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1916 : Index := Scalar.indexCast v1494
  let c5_1528 : Index := 5#32
  let c2_1529 : Index := 2#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1917 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1918 : Index := Scalar.indexCast v1533
  let c0_1530 : Index := 0#32
  ![v1916.toNat, 5, 2, v1917.toNat, v1918.toNat, 0]
def k0_off24 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1922 : Index := Scalar.indexCast v1494
  let c3_1531 : Index := 3#32
  let c2_1532 : Index := 2#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1923 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1924 : Index := Scalar.indexCast v1533
  let c0_1533 : Index := 0#32
  ![v1922.toNat, 3, 2, v1923.toNat, v1924.toNat, 0]
def k0_off25 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v1930 : Index := Scalar.indexCast v1494
  let c4_1535 : Index := 4#32
  let c2_1536 : Index := 2#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v1931 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v1932 : Index := Scalar.indexCast v1533
  let c0_1537 : Index := 0#32
  ![v1930.toNat, 4, 2, v1931.toNat, v1932.toNat, 0]
def k0_mult11 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1538 : BitVec 32 := 3#32
  let v1936 : BitVec 32 := Scalar.muli v1494 c3_i32_1538
  let c0_i32_1539 : BitVec 32 := 0#32
  let v1937 : BitVec 32 := Scalar.addi v1936 c0_i32_1539
  let c2048_i32_1540 : BitVec 32 := 2048#32
  let v1938 : BitVec 32 := Scalar.muli v1937 c2048_i32_1540
  let c768_i32 : BitVec 32 := 768#32
  let v1939 : BitVec 32 := Scalar.addi v1938 c768_i32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1541 : BitVec 32 := 128#32
  let v1940 : BitVec 32 := Scalar.muli v1521 c128_i32_1541
  let v1941 : BitVec 32 := Scalar.addi v1939 v1940
  v1941
def k0_mult12 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1545 : BitVec 32 := 3#32
  let v1960 : BitVec 32 := Scalar.muli v1494 c3_i32_1545
  let c1_i32_1546 : BitVec 32 := 1#32
  let v1961 : BitVec 32 := Scalar.addi v1960 c1_i32_1546
  let c2048_i32_1547 : BitVec 32 := 2048#32
  let v1962 : BitVec 32 := Scalar.muli v1961 c2048_i32_1547
  let c768_i32_1548 : BitVec 32 := 768#32
  let v1963 : BitVec 32 := Scalar.addi v1962 c768_i32_1548
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1549 : BitVec 32 := 128#32
  let v1964 : BitVec 32 := Scalar.muli v1521 c128_i32_1549
  let v1965 : BitVec 32 := Scalar.addi v1963 v1964
  v1965
def k0_mult13 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1553 : BitVec 32 := 3#32
  let v1984 : BitVec 32 := Scalar.muli v1494 c3_i32_1553
  let c2_i32_1554 : BitVec 32 := 2#32
  let v1985 : BitVec 32 := Scalar.addi v1984 c2_i32_1554
  let c2048_i32_1555 : BitVec 32 := 2048#32
  let v1986 : BitVec 32 := Scalar.muli v1985 c2048_i32_1555
  let c768_i32_1556 : BitVec 32 := 768#32
  let v1987 : BitVec 32 := Scalar.addi v1986 c768_i32_1556
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1557 : BitVec 32 := 128#32
  let v1988 : BitVec 32 := Scalar.muli v1521 c128_i32_1557
  let v1989 : BitVec 32 := Scalar.addi v1987 v1988
  v1989
def k0_off26 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2014 : Index := Scalar.indexCast v1494
  let c0_1561 : Index := 0#32
  let c3_1562 : Index := 3#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2015 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2016 : Index := Scalar.indexCast v1533
  let c0_1563 : Index := 0#32
  ![v2014.toNat, 0, 3, v2015.toNat, v2016.toNat, 0]
def k0_off27 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2022 : Index := Scalar.indexCast v1494
  let c7_1565 : Index := 7#32
  let c3_1566 : Index := 3#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2023 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2024 : Index := Scalar.indexCast v1533
  let c0_1567 : Index := 0#32
  ![v2022.toNat, 7, 3, v2023.toNat, v2024.toNat, 0]
def k0_off28 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2028 : Index := Scalar.indexCast v1494
  let c1_1568 : Index := 1#32
  let c3_1569 : Index := 3#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2029 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2030 : Index := Scalar.indexCast v1533
  let c0_1570 : Index := 0#32
  ![v2028.toNat, 1, 3, v2029.toNat, v2030.toNat, 0]
def k0_off29 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2036 : Index := Scalar.indexCast v1494
  let c6_1572 : Index := 6#32
  let c3_1573 : Index := 3#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2037 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2038 : Index := Scalar.indexCast v1533
  let c0_1574 : Index := 0#32
  ![v2036.toNat, 6, 3, v2037.toNat, v2038.toNat, 0]
def k0_off30 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2042 : Index := Scalar.indexCast v1494
  let c2_1575 : Index := 2#32
  let c3_1576 : Index := 3#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2043 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2044 : Index := Scalar.indexCast v1533
  let c0_1577 : Index := 0#32
  ![v2042.toNat, 2, 3, v2043.toNat, v2044.toNat, 0]
def k0_off31 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2050 : Index := Scalar.indexCast v1494
  let c5_1579 : Index := 5#32
  let c3_1580 : Index := 3#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2051 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2052 : Index := Scalar.indexCast v1533
  let c0_1581 : Index := 0#32
  ![v2050.toNat, 5, 3, v2051.toNat, v2052.toNat, 0]
def k0_off32 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2056 : Index := Scalar.indexCast v1494
  let c3_1582 : Index := 3#32
  let c3_1583 : Index := 3#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2057 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2058 : Index := Scalar.indexCast v1533
  let c0_1584 : Index := 0#32
  ![v2056.toNat, 3, 3, v2057.toNat, v2058.toNat, 0]
def k0_off33 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2064 : Index := Scalar.indexCast v1494
  let c4_1586 : Index := 4#32
  let c3_1587 : Index := 3#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2065 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2066 : Index := Scalar.indexCast v1533
  let c0_1588 : Index := 0#32
  ![v2064.toNat, 4, 3, v2065.toNat, v2066.toNat, 0]
def k0_mult14 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1589 : BitVec 32 := 3#32
  let v2070 : BitVec 32 := Scalar.muli v1494 c3_i32_1589
  let c0_i32_1590 : BitVec 32 := 0#32
  let v2071 : BitVec 32 := Scalar.addi v2070 c0_i32_1590
  let c2048_i32_1591 : BitVec 32 := 2048#32
  let v2072 : BitVec 32 := Scalar.muli v2071 c2048_i32_1591
  let c1024_i32 : BitVec 32 := 1024#32
  let v2073 : BitVec 32 := Scalar.addi v2072 c1024_i32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1592 : BitVec 32 := 128#32
  let v2074 : BitVec 32 := Scalar.muli v1521 c128_i32_1592
  let v2075 : BitVec 32 := Scalar.addi v2073 v2074
  v2075
def k0_mult15 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1596 : BitVec 32 := 3#32
  let v2094 : BitVec 32 := Scalar.muli v1494 c3_i32_1596
  let c1_i32_1597 : BitVec 32 := 1#32
  let v2095 : BitVec 32 := Scalar.addi v2094 c1_i32_1597
  let c2048_i32_1598 : BitVec 32 := 2048#32
  let v2096 : BitVec 32 := Scalar.muli v2095 c2048_i32_1598
  let c1024_i32_1599 : BitVec 32 := 1024#32
  let v2097 : BitVec 32 := Scalar.addi v2096 c1024_i32_1599
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1600 : BitVec 32 := 128#32
  let v2098 : BitVec 32 := Scalar.muli v1521 c128_i32_1600
  let v2099 : BitVec 32 := Scalar.addi v2097 v2098
  v2099
def k0_mult16 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1604 : BitVec 32 := 3#32
  let v2118 : BitVec 32 := Scalar.muli v1494 c3_i32_1604
  let c2_i32_1605 : BitVec 32 := 2#32
  let v2119 : BitVec 32 := Scalar.addi v2118 c2_i32_1605
  let c2048_i32_1606 : BitVec 32 := 2048#32
  let v2120 : BitVec 32 := Scalar.muli v2119 c2048_i32_1606
  let c1024_i32_1607 : BitVec 32 := 1024#32
  let v2121 : BitVec 32 := Scalar.addi v2120 c1024_i32_1607
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1608 : BitVec 32 := 128#32
  let v2122 : BitVec 32 := Scalar.muli v1521 c128_i32_1608
  let v2123 : BitVec 32 := Scalar.addi v2121 v2122
  v2123
def k0_off34 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2148 : Index := Scalar.indexCast v1494
  let c0_1612 : Index := 0#32
  let c4_1613 : Index := 4#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2149 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2150 : Index := Scalar.indexCast v1533
  let c0_1614 : Index := 0#32
  ![v2148.toNat, 0, 4, v2149.toNat, v2150.toNat, 0]
def k0_off35 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2156 : Index := Scalar.indexCast v1494
  let c7_1616 : Index := 7#32
  let c4_1617 : Index := 4#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2157 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2158 : Index := Scalar.indexCast v1533
  let c0_1618 : Index := 0#32
  ![v2156.toNat, 7, 4, v2157.toNat, v2158.toNat, 0]
def k0_off36 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2162 : Index := Scalar.indexCast v1494
  let c1_1619 : Index := 1#32
  let c4_1620 : Index := 4#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2163 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2164 : Index := Scalar.indexCast v1533
  let c0_1621 : Index := 0#32
  ![v2162.toNat, 1, 4, v2163.toNat, v2164.toNat, 0]
def k0_off37 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2170 : Index := Scalar.indexCast v1494
  let c6_1623 : Index := 6#32
  let c4_1624 : Index := 4#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2171 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2172 : Index := Scalar.indexCast v1533
  let c0_1625 : Index := 0#32
  ![v2170.toNat, 6, 4, v2171.toNat, v2172.toNat, 0]
def k0_off38 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2176 : Index := Scalar.indexCast v1494
  let c2_1626 : Index := 2#32
  let c4_1627 : Index := 4#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2177 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2178 : Index := Scalar.indexCast v1533
  let c0_1628 : Index := 0#32
  ![v2176.toNat, 2, 4, v2177.toNat, v2178.toNat, 0]
def k0_off39 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2184 : Index := Scalar.indexCast v1494
  let c5_1630 : Index := 5#32
  let c4_1631 : Index := 4#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2185 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2186 : Index := Scalar.indexCast v1533
  let c0_1632 : Index := 0#32
  ![v2184.toNat, 5, 4, v2185.toNat, v2186.toNat, 0]
def k0_off40 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2190 : Index := Scalar.indexCast v1494
  let c3_1633 : Index := 3#32
  let c4_1634 : Index := 4#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2191 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2192 : Index := Scalar.indexCast v1533
  let c0_1635 : Index := 0#32
  ![v2190.toNat, 3, 4, v2191.toNat, v2192.toNat, 0]
def k0_off41 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2198 : Index := Scalar.indexCast v1494
  let c4_1637 : Index := 4#32
  let c4_1638 : Index := 4#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2199 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2200 : Index := Scalar.indexCast v1533
  let c0_1639 : Index := 0#32
  ![v2198.toNat, 4, 4, v2199.toNat, v2200.toNat, 0]
def k0_mult17 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1640 : BitVec 32 := 3#32
  let v2204 : BitVec 32 := Scalar.muli v1494 c3_i32_1640
  let c0_i32_1641 : BitVec 32 := 0#32
  let v2205 : BitVec 32 := Scalar.addi v2204 c0_i32_1641
  let c2048_i32_1642 : BitVec 32 := 2048#32
  let v2206 : BitVec 32 := Scalar.muli v2205 c2048_i32_1642
  let c1280_i32 : BitVec 32 := 1280#32
  let v2207 : BitVec 32 := Scalar.addi v2206 c1280_i32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1643 : BitVec 32 := 128#32
  let v2208 : BitVec 32 := Scalar.muli v1521 c128_i32_1643
  let v2209 : BitVec 32 := Scalar.addi v2207 v2208
  v2209
def k0_mult18 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1647 : BitVec 32 := 3#32
  let v2228 : BitVec 32 := Scalar.muli v1494 c3_i32_1647
  let c1_i32_1648 : BitVec 32 := 1#32
  let v2229 : BitVec 32 := Scalar.addi v2228 c1_i32_1648
  let c2048_i32_1649 : BitVec 32 := 2048#32
  let v2230 : BitVec 32 := Scalar.muli v2229 c2048_i32_1649
  let c1280_i32_1650 : BitVec 32 := 1280#32
  let v2231 : BitVec 32 := Scalar.addi v2230 c1280_i32_1650
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1651 : BitVec 32 := 128#32
  let v2232 : BitVec 32 := Scalar.muli v1521 c128_i32_1651
  let v2233 : BitVec 32 := Scalar.addi v2231 v2232
  v2233
def k0_mult19 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1655 : BitVec 32 := 3#32
  let v2252 : BitVec 32 := Scalar.muli v1494 c3_i32_1655
  let c2_i32_1656 : BitVec 32 := 2#32
  let v2253 : BitVec 32 := Scalar.addi v2252 c2_i32_1656
  let c2048_i32_1657 : BitVec 32 := 2048#32
  let v2254 : BitVec 32 := Scalar.muli v2253 c2048_i32_1657
  let c1280_i32_1658 : BitVec 32 := 1280#32
  let v2255 : BitVec 32 := Scalar.addi v2254 c1280_i32_1658
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1659 : BitVec 32 := 128#32
  let v2256 : BitVec 32 := Scalar.muli v1521 c128_i32_1659
  let v2257 : BitVec 32 := Scalar.addi v2255 v2256
  v2257
def k0_off42 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2282 : Index := Scalar.indexCast v1494
  let c0_1663 : Index := 0#32
  let c5_1664 : Index := 5#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2283 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2284 : Index := Scalar.indexCast v1533
  let c0_1665 : Index := 0#32
  ![v2282.toNat, 0, 5, v2283.toNat, v2284.toNat, 0]
def k0_off43 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2290 : Index := Scalar.indexCast v1494
  let c7_1667 : Index := 7#32
  let c5_1668 : Index := 5#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2291 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2292 : Index := Scalar.indexCast v1533
  let c0_1669 : Index := 0#32
  ![v2290.toNat, 7, 5, v2291.toNat, v2292.toNat, 0]
def k0_off44 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2296 : Index := Scalar.indexCast v1494
  let c1_1670 : Index := 1#32
  let c5_1671 : Index := 5#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2297 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2298 : Index := Scalar.indexCast v1533
  let c0_1672 : Index := 0#32
  ![v2296.toNat, 1, 5, v2297.toNat, v2298.toNat, 0]
def k0_off45 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2304 : Index := Scalar.indexCast v1494
  let c6_1674 : Index := 6#32
  let c5_1675 : Index := 5#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2305 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2306 : Index := Scalar.indexCast v1533
  let c0_1676 : Index := 0#32
  ![v2304.toNat, 6, 5, v2305.toNat, v2306.toNat, 0]
def k0_off46 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2310 : Index := Scalar.indexCast v1494
  let c2_1677 : Index := 2#32
  let c5_1678 : Index := 5#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2311 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2312 : Index := Scalar.indexCast v1533
  let c0_1679 : Index := 0#32
  ![v2310.toNat, 2, 5, v2311.toNat, v2312.toNat, 0]
def k0_off47 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2318 : Index := Scalar.indexCast v1494
  let c5_1681 : Index := 5#32
  let c5_1682 : Index := 5#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2319 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2320 : Index := Scalar.indexCast v1533
  let c0_1683 : Index := 0#32
  ![v2318.toNat, 5, 5, v2319.toNat, v2320.toNat, 0]
def k0_off48 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2324 : Index := Scalar.indexCast v1494
  let c3_1684 : Index := 3#32
  let c5_1685 : Index := 5#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2325 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2326 : Index := Scalar.indexCast v1533
  let c0_1686 : Index := 0#32
  ![v2324.toNat, 3, 5, v2325.toNat, v2326.toNat, 0]
def k0_off49 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2332 : Index := Scalar.indexCast v1494
  let c4_1688 : Index := 4#32
  let c5_1689 : Index := 5#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2333 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2334 : Index := Scalar.indexCast v1533
  let c0_1690 : Index := 0#32
  ![v2332.toNat, 4, 5, v2333.toNat, v2334.toNat, 0]
def k0_mult20 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1691 : BitVec 32 := 3#32
  let v2338 : BitVec 32 := Scalar.muli v1494 c3_i32_1691
  let c0_i32_1692 : BitVec 32 := 0#32
  let v2339 : BitVec 32 := Scalar.addi v2338 c0_i32_1692
  let c2048_i32_1693 : BitVec 32 := 2048#32
  let v2340 : BitVec 32 := Scalar.muli v2339 c2048_i32_1693
  let c1536_i32 : BitVec 32 := 1536#32
  let v2341 : BitVec 32 := Scalar.addi v2340 c1536_i32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1694 : BitVec 32 := 128#32
  let v2342 : BitVec 32 := Scalar.muli v1521 c128_i32_1694
  let v2343 : BitVec 32 := Scalar.addi v2341 v2342
  v2343
def k0_mult21 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1698 : BitVec 32 := 3#32
  let v2362 : BitVec 32 := Scalar.muli v1494 c3_i32_1698
  let c1_i32_1699 : BitVec 32 := 1#32
  let v2363 : BitVec 32 := Scalar.addi v2362 c1_i32_1699
  let c2048_i32_1700 : BitVec 32 := 2048#32
  let v2364 : BitVec 32 := Scalar.muli v2363 c2048_i32_1700
  let c1536_i32_1701 : BitVec 32 := 1536#32
  let v2365 : BitVec 32 := Scalar.addi v2364 c1536_i32_1701
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1702 : BitVec 32 := 128#32
  let v2366 : BitVec 32 := Scalar.muli v1521 c128_i32_1702
  let v2367 : BitVec 32 := Scalar.addi v2365 v2366
  v2367
def k0_mult22 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1706 : BitVec 32 := 3#32
  let v2386 : BitVec 32 := Scalar.muli v1494 c3_i32_1706
  let c2_i32_1707 : BitVec 32 := 2#32
  let v2387 : BitVec 32 := Scalar.addi v2386 c2_i32_1707
  let c2048_i32_1708 : BitVec 32 := 2048#32
  let v2388 : BitVec 32 := Scalar.muli v2387 c2048_i32_1708
  let c1536_i32_1709 : BitVec 32 := 1536#32
  let v2389 : BitVec 32 := Scalar.addi v2388 c1536_i32_1709
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1710 : BitVec 32 := 128#32
  let v2390 : BitVec 32 := Scalar.muli v1521 c128_i32_1710
  let v2391 : BitVec 32 := Scalar.addi v2389 v2390
  v2391
def k0_off50 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2416 : Index := Scalar.indexCast v1494
  let c0_1714 : Index := 0#32
  let c6_1715 : Index := 6#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2417 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2418 : Index := Scalar.indexCast v1533
  let c0_1716 : Index := 0#32
  ![v2416.toNat, 0, 6, v2417.toNat, v2418.toNat, 0]
def k0_off51 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2424 : Index := Scalar.indexCast v1494
  let c7_1718 : Index := 7#32
  let c6_1719 : Index := 6#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2425 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2426 : Index := Scalar.indexCast v1533
  let c0_1720 : Index := 0#32
  ![v2424.toNat, 7, 6, v2425.toNat, v2426.toNat, 0]
def k0_off52 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2430 : Index := Scalar.indexCast v1494
  let c1_1721 : Index := 1#32
  let c6_1722 : Index := 6#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2431 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2432 : Index := Scalar.indexCast v1533
  let c0_1723 : Index := 0#32
  ![v2430.toNat, 1, 6, v2431.toNat, v2432.toNat, 0]
def k0_off53 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2438 : Index := Scalar.indexCast v1494
  let c6_1725 : Index := 6#32
  let c6_1726 : Index := 6#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2439 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2440 : Index := Scalar.indexCast v1533
  let c0_1727 : Index := 0#32
  ![v2438.toNat, 6, 6, v2439.toNat, v2440.toNat, 0]
def k0_off54 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2444 : Index := Scalar.indexCast v1494
  let c2_1728 : Index := 2#32
  let c6_1729 : Index := 6#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2445 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2446 : Index := Scalar.indexCast v1533
  let c0_1730 : Index := 0#32
  ![v2444.toNat, 2, 6, v2445.toNat, v2446.toNat, 0]
def k0_off55 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2452 : Index := Scalar.indexCast v1494
  let c5_1732 : Index := 5#32
  let c6_1733 : Index := 6#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2453 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2454 : Index := Scalar.indexCast v1533
  let c0_1734 : Index := 0#32
  ![v2452.toNat, 5, 6, v2453.toNat, v2454.toNat, 0]
def k0_off56 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2458 : Index := Scalar.indexCast v1494
  let c3_1735 : Index := 3#32
  let c6_1736 : Index := 6#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2459 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2460 : Index := Scalar.indexCast v1533
  let c0_1737 : Index := 0#32
  ![v2458.toNat, 3, 6, v2459.toNat, v2460.toNat, 0]
def k0_off57 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2466 : Index := Scalar.indexCast v1494
  let c4_1739 : Index := 4#32
  let c6_1740 : Index := 6#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2467 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2468 : Index := Scalar.indexCast v1533
  let c0_1741 : Index := 0#32
  ![v2466.toNat, 4, 6, v2467.toNat, v2468.toNat, 0]
def k0_mult23 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1742 : BitVec 32 := 3#32
  let v2472 : BitVec 32 := Scalar.muli v1494 c3_i32_1742
  let c0_i32_1743 : BitVec 32 := 0#32
  let v2473 : BitVec 32 := Scalar.addi v2472 c0_i32_1743
  let c2048_i32_1744 : BitVec 32 := 2048#32
  let v2474 : BitVec 32 := Scalar.muli v2473 c2048_i32_1744
  let c1792_i32 : BitVec 32 := 1792#32
  let v2475 : BitVec 32 := Scalar.addi v2474 c1792_i32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1745 : BitVec 32 := 128#32
  let v2476 : BitVec 32 := Scalar.muli v1521 c128_i32_1745
  let v2477 : BitVec 32 := Scalar.addi v2475 v2476
  v2477
def k0_mult24 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1749 : BitVec 32 := 3#32
  let v2496 : BitVec 32 := Scalar.muli v1494 c3_i32_1749
  let c1_i32_1750 : BitVec 32 := 1#32
  let v2497 : BitVec 32 := Scalar.addi v2496 c1_i32_1750
  let c2048_i32_1751 : BitVec 32 := 2048#32
  let v2498 : BitVec 32 := Scalar.muli v2497 c2048_i32_1751
  let c1792_i32_1752 : BitVec 32 := 1792#32
  let v2499 : BitVec 32 := Scalar.addi v2498 c1792_i32_1752
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1753 : BitVec 32 := 128#32
  let v2500 : BitVec 32 := Scalar.muli v1521 c128_i32_1753
  let v2501 : BitVec 32 := Scalar.addi v2499 v2500
  v2501
def k0_mult25 (k0_t1 : Fin k0_t1_loop.trips) : BitVec 32 :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let c3_i32_1757 : BitVec 32 := 3#32
  let v2520 : BitVec 32 := Scalar.muli v1494 c3_i32_1757
  let c2_i32_1758 : BitVec 32 := 2#32
  let v2521 : BitVec 32 := Scalar.addi v2520 c2_i32_1758
  let c2048_i32_1759 : BitVec 32 := 2048#32
  let v2522 : BitVec 32 := Scalar.muli v2521 c2048_i32_1759
  let c1792_i32_1760 : BitVec 32 := 1792#32
  let v2523 : BitVec 32 := Scalar.addi v2522 c1792_i32_1760
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let c128_i32_1761 : BitVec 32 := 128#32
  let v2524 : BitVec 32 := Scalar.muli v1521 c128_i32_1761
  let v2525 : BitVec 32 := Scalar.addi v2523 v2524
  v2525
def k0_off58 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2550 : Index := Scalar.indexCast v1494
  let c0_1765 : Index := 0#32
  let c7_1766 : Index := 7#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2551 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2552 : Index := Scalar.indexCast v1533
  let c0_1767 : Index := 0#32
  ![v2550.toNat, 0, 7, v2551.toNat, v2552.toNat, 0]
def k0_off59 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2558 : Index := Scalar.indexCast v1494
  let c7_1769 : Index := 7#32
  let c7_1770 : Index := 7#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2559 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2560 : Index := Scalar.indexCast v1533
  let c0_1771 : Index := 0#32
  ![v2558.toNat, 7, 7, v2559.toNat, v2560.toNat, 0]
def k0_off60 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2564 : Index := Scalar.indexCast v1494
  let c1_1772 : Index := 1#32
  let c7_1773 : Index := 7#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2565 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2566 : Index := Scalar.indexCast v1533
  let c0_1774 : Index := 0#32
  ![v2564.toNat, 1, 7, v2565.toNat, v2566.toNat, 0]
def k0_off61 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2572 : Index := Scalar.indexCast v1494
  let c6_1776 : Index := 6#32
  let c7_1777 : Index := 7#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2573 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2574 : Index := Scalar.indexCast v1533
  let c0_1778 : Index := 0#32
  ![v2572.toNat, 6, 7, v2573.toNat, v2574.toNat, 0]
def k0_off62 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2578 : Index := Scalar.indexCast v1494
  let c2_1779 : Index := 2#32
  let c7_1780 : Index := 7#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2579 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2580 : Index := Scalar.indexCast v1533
  let c0_1781 : Index := 0#32
  ![v2578.toNat, 2, 7, v2579.toNat, v2580.toNat, 0]
def k0_off63 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2586 : Index := Scalar.indexCast v1494
  let c5_1783 : Index := 5#32
  let c7_1784 : Index := 7#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2587 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2588 : Index := Scalar.indexCast v1533
  let c0_1785 : Index := 0#32
  ![v2586.toNat, 5, 7, v2587.toNat, v2588.toNat, 0]
def k0_off64 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2592 : Index := Scalar.indexCast v1494
  let c3_1786 : Index := 3#32
  let c7_1787 : Index := 7#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2593 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2594 : Index := Scalar.indexCast v1533
  let c0_1788 : Index := 0#32
  ![v2592.toNat, 3, 7, v2593.toNat, v2594.toNat, 0]
def k0_off65 (k0_t1 : Fin k0_t1_loop.trips) : Fin 6 → Nat :=
  let c0_i32 : BitVec 32 := 0#32
  let c1_i32 : BitVec 32 := 1#32
  let arg11 : BitVec 32 := Scf.iv c0_i32 c1_i32 k0_t1
  let c0_i32_1362 : BitVec 32 := 0#32
  let v1479 : BitVec 1 := Scalar.cmpi .sgt arg11 c0_i32_1362
  let v1480 : BitVec 32 := Scalar.extui v1479
  let c0_i32_1363 : BitVec 32 := 0#32
  let v1481 : BitVec 1 := Scalar.cmpi .slt arg11 c0_i32_1363
  let v1482 : BitVec 32 := Scalar.extui v1481
  let v1483 : BitVec 32 := Scalar.subi v1480 v1482
  let c4_i32 : BitVec 32 := 4#32
  let c0_i32_1364 : BitVec 32 := 0#32
  let v1484 : BitVec 1 := Scalar.cmpi .sgt c4_i32 c0_i32_1364
  let v1485 : BitVec 32 := Scalar.extui v1484
  let c0_i32_1365 : BitVec 32 := 0#32
  let v1486 : BitVec 1 := Scalar.cmpi .slt c4_i32 c0_i32_1365
  let v1487 : BitVec 32 := Scalar.extui v1486
  let v1488 : BitVec 32 := Scalar.subi v1485 v1487
  let v1489 : BitVec 1 := Scalar.cmpi .ne v1483 v1488
  let v1490 : BitVec 32 := Scalar.remsi arg11 c4_i32
  let c0_i32_1366 : BitVec 32 := 0#32
  let v1491 : BitVec 1 := Scalar.cmpi .ne v1490 c0_i32_1366
  let v1492 : BitVec 1 := Scalar.andi v1489 v1491
  let v1478 : BitVec 32 := Scalar.divsi arg11 c4_i32
  let c1_i32_1367 : BitVec 32 := 1#32
  let v1493 : BitVec 32 := Scalar.subi v1478 c1_i32_1367
  let v1494 : BitVec 32 := Scalar.select v1492 v1493 v1478
  let v2600 : Index := Scalar.indexCast v1494
  let c4_1790 : Index := 4#32
  let c7_1791 : Index := 7#32
  let c0_i32_1368 : BitVec 32 := 0#32
  let v1496 : BitVec 1 := Scalar.cmpi .sgt arg11 c0_i32_1368
  let v1497 : BitVec 32 := Scalar.extui v1496
  let c0_i32_1369 : BitVec 32 := 0#32
  let v1498 : BitVec 1 := Scalar.cmpi .slt arg11 c0_i32_1369
  let v1499 : BitVec 32 := Scalar.extui v1498
  let v1500 : BitVec 32 := Scalar.subi v1497 v1499
  let c2_i32 : BitVec 32 := 2#32
  let c0_i32_1370 : BitVec 32 := 0#32
  let v1501 : BitVec 1 := Scalar.cmpi .sgt c2_i32 c0_i32_1370
  let v1502 : BitVec 32 := Scalar.extui v1501
  let c0_i32_1371 : BitVec 32 := 0#32
  let v1503 : BitVec 1 := Scalar.cmpi .slt c2_i32 c0_i32_1371
  let v1504 : BitVec 32 := Scalar.extui v1503
  let v1505 : BitVec 32 := Scalar.subi v1502 v1504
  let v1506 : BitVec 1 := Scalar.cmpi .ne v1500 v1505
  let v1507 : BitVec 32 := Scalar.remsi arg11 c2_i32
  let c0_i32_1372 : BitVec 32 := 0#32
  let v1508 : BitVec 1 := Scalar.cmpi .ne v1507 c0_i32_1372
  let v1509 : BitVec 1 := Scalar.andi v1506 v1508
  let v1495 : BitVec 32 := Scalar.divsi arg11 c2_i32
  let c1_i32_1373 : BitVec 32 := 1#32
  let v1510 : BitVec 32 := Scalar.subi v1495 c1_i32_1373
  let v1511 : BitVec 32 := Scalar.select v1509 v1510 v1495
  let c2_i32_1374 : BitVec 32 := 2#32
  let c0_i32_1375 : BitVec 32 := 0#32
  let v1512 : BitVec 1 := Scalar.cmpi .eq c2_i32_1374 c0_i32_1375
  let c1_i32_1376 : BitVec 32 := 1#32
  let v1513 : BitVec 32 := Scalar.select v1512 c1_i32_1376 c2_i32_1374
  let v1514 : BitVec 32 := Scalar.remsi v1511 v1513
  let c0_i32_1378 : BitVec 32 := 0#32
  let v1516 : BitVec 1 := Scalar.cmpi .slt v1514 c0_i32_1378
  let c0_i32_1379 : BitVec 32 := 0#32
  let v1517 : BitVec 1 := Scalar.cmpi .slt v1513 c0_i32_1379
  let v1518 : BitVec 1 := Scalar.xori v1516 v1517
  let c0_i32_1377 : BitVec 32 := 0#32
  let v1515 : BitVec 1 := Scalar.cmpi .ne v1514 c0_i32_1377
  let v1519 : BitVec 1 := Scalar.andi v1518 v1515
  let v1520 : BitVec 32 := Scalar.addi v1514 v1513
  let v1521 : BitVec 32 := Scalar.select v1519 v1520 v1514
  let v2601 : Index := Scalar.indexCast v1521
  let c2_i32_1380 : BitVec 32 := 2#32
  let c0_i32_1381 : BitVec 32 := 0#32
  let v1522 : BitVec 1 := Scalar.cmpi .eq c2_i32_1380 c0_i32_1381
  let c1_i32_1382 : BitVec 32 := 1#32
  let v1523 : BitVec 32 := Scalar.select v1522 c1_i32_1382 c2_i32_1380
  let v1524 : BitVec 32 := Scalar.remsi arg11 v1523
  let c0_i32_1384 : BitVec 32 := 0#32
  let v1526 : BitVec 1 := Scalar.cmpi .slt v1524 c0_i32_1384
  let c0_i32_1385 : BitVec 32 := 0#32
  let v1527 : BitVec 1 := Scalar.cmpi .slt v1523 c0_i32_1385
  let v1528 : BitVec 1 := Scalar.xori v1526 v1527
  let c0_i32_1383 : BitVec 32 := 0#32
  let v1525 : BitVec 1 := Scalar.cmpi .ne v1524 c0_i32_1383
  let v1529 : BitVec 1 := Scalar.andi v1528 v1525
  let v1530 : BitVec 32 := Scalar.addi v1524 v1523
  let v1531 : BitVec 32 := Scalar.select v1529 v1530 v1524
  let c16_i32_1386 : BitVec 32 := 16#32
  let v1532 : BitVec 32 := Scalar.muli v1531 c16_i32_1386
  let v1533 : BitVec 32 := v1532
  let v2602 : Index := Scalar.indexCast v1533
  let c0_1792 : Index := 0#32
  ![v2600.toNat, 4, 7, v2601.toNat, v2602.toNat, 0]
def k0_off66 (v5 : BitVec 32) : Fin 6 → Nat :=
  let c0_4 : Index := 0#32
  let v6 : Index := Scalar.indexCast v5
  let c0_5 : Index := 0#32
  let c0_6 : Index := 0#32
  let c0_7 : Index := 0#32
  let c0_8 : Index := 0#32
  ![0, v6.toNat, 0, 0, 0, 0]

def k0_chk1 (v5 : BitVec 32) : Prop :=
  (∀ a, (k0_off66 v5) a + S1x1x1x1x16x128.size a ≤ S4x8x8x2x32x128.size a)
theorem k0_off66_inb : ∀ (v5 : BitVec 32) (k0_hw1 : k0_chk1 v5), ∀ a, (k0_off66 v5) a + S1x1x1x1x16x128.size a ≤ S4x8x8x2x32x128.size a := fun v5 k0_hw1 => k0_hw1

def k0_off67 (v9 : BitVec 32) : Fin 6 → Nat :=
  let c1_10 : Index := 1#32
  let v10 : Index := Scalar.indexCast v9
  let c0_11 : Index := 0#32
  let c0_12 : Index := 0#32
  let c0_13 : Index := 0#32
  let c0_14 : Index := 0#32
  ![1, v10.toNat, 0, 0, 0, 0]

def k0_chk2 (v9 : BitVec 32) : Prop :=
  (∀ a, (k0_off67 v9) a + S1x1x1x1x16x128.size a ≤ S4x8x8x2x32x128.size a)
theorem k0_off67_inb : ∀ (v9 : BitVec 32) (k0_hw2 : k0_chk2 v9), ∀ a, (k0_off67 v9) a + S1x1x1x1x16x128.size a ≤ S4x8x8x2x32x128.size a := fun v9 k0_hw2 => k0_hw2

def k0_off68 (v13 : BitVec 32) : Fin 6 → Nat :=
  let c2_16 : Index := 2#32
  let v14 : Index := Scalar.indexCast v13
  let c0_17 : Index := 0#32
  let c0_18 : Index := 0#32
  let c0_19 : Index := 0#32
  let c0_20 : Index := 0#32
  ![2, v14.toNat, 0, 0, 0, 0]

def k0_chk3 (v13 : BitVec 32) : Prop :=
  (∀ a, (k0_off68 v13) a + S1x1x1x1x16x128.size a ≤ S4x8x8x2x32x128.size a)
theorem k0_off68_inb : ∀ (v13 : BitVec 32) (k0_hw3 : k0_chk3 v13), ∀ a, (k0_off68 v13) a + S1x1x1x1x16x128.size a ≤ S4x8x8x2x32x128.size a := fun v13 k0_hw3 => k0_hw3

def k0_off69 (v17 : BitVec 32) : Fin 6 → Nat :=
  let c3_22 : Index := 3#32
  let v18 : Index := Scalar.indexCast v17
  let c0_23 : Index := 0#32
  let c0_24 : Index := 0#32
  let c0_25 : Index := 0#32
  let c0_26 : Index := 0#32
  ![3, v18.toNat, 0, 0, 0, 0]

def k0_chk4 (v17 : BitVec 32) : Prop :=
  (∀ a, (k0_off69 v17) a + S1x1x1x1x16x128.size a ≤ S4x8x8x2x32x128.size a)
theorem k0_off69_inb : ∀ (v17 : BitVec 32) (k0_hw4 : k0_chk4 v17), ∀ a, (k0_off69 v17) a + S1x1x1x1x16x128.size a ≤ S4x8x8x2x32x128.size a := fun v17 k0_hw4 => k0_hw4

def k0_off70 (v24 : BitVec 32) : Fin 6 → Nat :=
  let c0_29 : Index := 0#32
  let v25 : Index := Scalar.indexCast v24
  let c1_30 : Index := 1#32
  let c0_31 : Index := 0#32
  let c0_32 : Index := 0#32
  let c0_33 : Index := 0#32
  ![0, v25.toNat, 1, 0, 0, 0]

def k0_chk5 (v24 : BitVec 32) : Prop :=
  (∀ a, (k0_off70 v24) a + S1x1x1x1x16x128.size a ≤ S4x8x8x2x32x128.size a)
theorem k0_off70_inb : ∀ (v24 : BitVec 32) (k0_hw5 : k0_chk5 v24), ∀ a, (k0_off70 v24) a + S1x1x1x1x16x128.size a ≤ S4x8x8x2x32x128.size a := fun v24 k0_hw5 => k0_hw5

def k0_off71 (v28 : BitVec 32) : Fin 6 → Nat :=
  let c1_36 : Index := 1#32
  let v29 : Index := Scalar.indexCast v28
  let c1_37 : Index := 1#32
  let c0_38 : Index := 0#32
  let c0_39 : Index := 0#32
  let c0_40 : Index := 0#32
  ![1, v29.toNat, 1, 0, 0, 0]

def k0_chk6 (v28 : BitVec 32) : Prop :=
  (∀ a, (k0_off71 v28) a + S1x1x1x1x16x128.size a ≤ S4x8x8x2x32x128.size a)
theorem k0_off71_inb : ∀ (v28 : BitVec 32) (k0_hw6 : k0_chk6 v28), ∀ a, (k0_off71 v28) a + S1x1x1x1x16x128.size a ≤ S4x8x8x2x32x128.size a := fun v28 k0_hw6 => k0_hw6

def k0_off72 (v32 : BitVec 32) : Fin 6 → Nat :=
  let c2_43 : Index := 2#32
  let v33 : Index := Scalar.indexCast v32
  let c1_44 : Index := 1#32
  let c0_45 : Index := 0#32
  let c0_46 : Index := 0#32
  let c0_47 : Index := 0#32
  ![2, v33.toNat, 1, 0, 0, 0]

def k0_chk7 (v32 : BitVec 32) : Prop :=
  (∀ a, (k0_off72 v32) a + S1x1x1x1x16x128.size a ≤ S4x8x8x2x32x128.size a)
theorem k0_off72_inb : ∀ (v32 : BitVec 32) (k0_hw7 : k0_chk7 v32), ∀ a, (k0_off72 v32) a + S1x1x1x1x16x128.size a ≤ S4x8x8x2x32x128.size a := fun v32 k0_hw7 => k0_hw7

def k0_off73 (v36 : BitVec 32) : Fin 6 → Nat :=
  let c3_50 : Index := 3#32
  let v37 : Index := Scalar.indexCast v36
  let c1_51 : Index := 1#32
  let c0_52 : Index := 0#32
  let c0_53 : Index := 0#32
  let c0_54 : Index := 0#32
  ![3, v37.toNat, 1, 0, 0, 0]

def k0_chk8 (v36 : BitVec 32) : Prop :=
  (∀ a, (k0_off73 v36) a + S1x1x1x1x16x128.size a ≤ S4x8x8x2x32x128.size a)
theorem k0_off73_inb : ∀ (v36 : BitVec 32) (k0_hw8 : k0_chk8 v36), ∀ a, (k0_off73 v36) a + S1x1x1x1x16x128.size a ≤ S4x8x8x2x32x128.size a := fun v36 k0_hw8 => k0_hw8

def k0_off74 (v43 : BitVec 32) : Fin 6 → Nat :=
  let c0_57 : Index := 0#32
  let v44 : Index := Scalar.indexCast v43
  let c2_58 : Index := 2#32
  let c0_59 : Index := 0#32
  let c0_60 : Index := 0#32
  let c0_61 : Index := 0#32
  ![0, v44.toNat, 2, 0, 0, 0]

def k0_chk9 (v43 : BitVec 32) : Prop :=
  (∀ a, (k0_off74 v43) a + S1x1x1x1x16x128.size a ≤ S4x8x8x2x32x128.size a)
theorem k0_off74_inb : ∀ (v43 : BitVec 32) (k0_hw9 : k0_chk9 v43), ∀ a, (k0_off74 v43) a + S1x1x1x1x16x128.size a ≤ S4x8x8x2x32x128.size a := fun v43 k0_hw9 => k0_hw9

def k0_off75 (v47 : BitVec 32) : Fin 6 → Nat :=
  let c1_64 : Index := 1#32
  let v48 : Index := Scalar.indexCast v47
  let c2_65 : Index := 2#32
  let c0_66 : Index := 0#32
  let c0_67 : Index := 0#32
  let c0_68 : Index := 0#32
  ![1, v48.toNat, 2, 0, 0, 0]

def k0_chk10 (v47 : BitVec 32) : Prop :=
  (∀ a, (k0_off75 v47) a + S1x1x1x1x16x128.size a ≤ S4x8x8x2x32x128.size a)
theorem k0_off75_inb : ∀ (v47 : BitVec 32) (k0_hw10 : k0_chk10 v47), ∀ a, (k0_off75 v47) a + S1x1x1x1x16x128.size a ≤ S4x8x8x2x32x128.size a := fun v47 k0_hw10 => k0_hw10

def k0_off76 (v51 : BitVec 32) : Fin 6 → Nat :=
  let c2_71 : Index := 2#32
  let v52 : Index := Scalar.indexCast v51
  let c2_72 : Index := 2#32
  let c0_73 : Index := 0#32
  let c0_74 : Index := 0#32
  let c0_75 : Index := 0#32
  ![2, v52.toNat, 2, 0, 0, 0]

def k0_chk11 (v51 : BitVec 32) : Prop :=
  (∀ a, (k0_off76 v51) a + S1x1x1x1x16x128.size a ≤ S4x8x8x2x32x128.size a)
theorem k0_off76_inb : ∀ (v51 : BitVec 32) (k0_hw11 : k0_chk11 v51), ∀ a, (k0_off76 v51) a + S1x1x1x1x16x128.size a ≤ S4x8x8x2x32x128.size a := fun v51 k0_hw11 => k0_hw11

def k0_off77 (v55 : BitVec 32) : Fin 6 → Nat :=
  let c3_78 : Index := 3#32
  let v56 : Index := Scalar.indexCast v55
  let c2_79 : Index := 2#32
  let c0_80 : Index := 0#32
  let c0_81 : Index := 0#32
  let c0_82 : Index := 0#32
  ![3, v56.toNat, 2, 0, 0, 0]

def k0_chk12 (v55 : BitVec 32) : Prop :=
  (∀ a, (k0_off77 v55) a + S1x1x1x1x16x128.size a ≤ S4x8x8x2x32x128.size a)
theorem k0_off77_inb : ∀ (v55 : BitVec 32) (k0_hw12 : k0_chk12 v55), ∀ a, (k0_off77 v55) a + S1x1x1x1x16x128.size a ≤ S4x8x8x2x32x128.size a := fun v55 k0_hw12 => k0_hw12

def k0_off78 (v62 : BitVec 32) : Fin 6 → Nat :=
  let c0_85 : Index := 0#32
  let v63 : Index := Scalar.indexCast v62
  let c3_86 : Index := 3#32
  let c0_87 : Index := 0#32
  let c0_88 : Index := 0#32
  let c0_89 : Index := 0#32
  ![0, v63.toNat, 3, 0, 0, 0]

def k0_chk13 (v62 : BitVec 32) : Prop :=
  (∀ a, (k0_off78 v62) a + S1x1x1x1x16x128.size a ≤ S4x8x8x2x32x128.size a)
theorem k0_off78_inb : ∀ (v62 : BitVec 32) (k0_hw13 : k0_chk13 v62), ∀ a, (k0_off78 v62) a + S1x1x1x1x16x128.size a ≤ S4x8x8x2x32x128.size a := fun v62 k0_hw13 => k0_hw13

def k0_off79 (v66 : BitVec 32) : Fin 6 → Nat :=
  let c1_92 : Index := 1#32
  let v67 : Index := Scalar.indexCast v66
  let c3_93 : Index := 3#32
  let c0_94 : Index := 0#32
  let c0_95 : Index := 0#32
  let c0_96 : Index := 0#32
  ![1, v67.toNat, 3, 0, 0, 0]

def k0_chk14 (v66 : BitVec 32) : Prop :=
  (∀ a, (k0_off79 v66) a + S1x1x1x1x16x128.size a ≤ S4x8x8x2x32x128.size a)
theorem k0_off79_inb : ∀ (v66 : BitVec 32) (k0_hw14 : k0_chk14 v66), ∀ a, (k0_off79 v66) a + S1x1x1x1x16x128.size a ≤ S4x8x8x2x32x128.size a := fun v66 k0_hw14 => k0_hw14

def k0_off80 (v70 : BitVec 32) : Fin 6 → Nat :=
  let c2_99 : Index := 2#32
  let v71 : Index := Scalar.indexCast v70
  let c3_100 : Index := 3#32
  let c0_101 : Index := 0#32
  let c0_102 : Index := 0#32
  let c0_103 : Index := 0#32
  ![2, v71.toNat, 3, 0, 0, 0]

def k0_chk15 (v70 : BitVec 32) : Prop :=
  (∀ a, (k0_off80 v70) a + S1x1x1x1x16x128.size a ≤ S4x8x8x2x32x128.size a)
theorem k0_off80_inb : ∀ (v70 : BitVec 32) (k0_hw15 : k0_chk15 v70), ∀ a, (k0_off80 v70) a + S1x1x1x1x16x128.size a ≤ S4x8x8x2x32x128.size a := fun v70 k0_hw15 => k0_hw15

def k0_off81 (v74 : BitVec 32) : Fin 6 → Nat :=
  let c3_106 : Index := 3#32
  let v75 : Index := Scalar.indexCast v74
  let c3_107 : Index := 3#32
  let c0_108 : Index := 0#32
  let c0_109 : Index := 0#32
  let c0_110 : Index := 0#32
  ![3, v75.toNat, 3, 0, 0, 0]

def k0_chk16 (v74 : BitVec 32) : Prop :=
  (∀ a, (k0_off81 v74) a + S1x1x1x1x16x128.size a ≤ S4x8x8x2x32x128.size a)
theorem k0_off81_inb : ∀ (v74 : BitVec 32) (k0_hw16 : k0_chk16 v74), ∀ a, (k0_off81 v74) a + S1x1x1x1x16x128.size a ≤ S4x8x8x2x32x128.size a := fun v74 k0_hw16 => k0_hw16

def k0_off82 (v81 : BitVec 32) : Fin 6 → Nat :=
  let c0_113 : Index := 0#32
  let v82 : Index := Scalar.indexCast v81
  let c4 : Index := 4#32
  let c0_114 : Index := 0#32
  let c0_115 : Index := 0#32
  let c0_116 : Index := 0#32
  ![0, v82.toNat, 4, 0, 0, 0]

def k0_chk17 (v81 : BitVec 32) : Prop :=
  (∀ a, (k0_off82 v81) a + S1x1x1x1x16x128.size a ≤ S4x8x8x2x32x128.size a)
theorem k0_off82_inb : ∀ (v81 : BitVec 32) (k0_hw17 : k0_chk17 v81), ∀ a, (k0_off82 v81) a + S1x1x1x1x16x128.size a ≤ S4x8x8x2x32x128.size a := fun v81 k0_hw17 => k0_hw17

def k0_off83 (v85 : BitVec 32) : Fin 6 → Nat :=
  let c1_119 : Index := 1#32
  let v86 : Index := Scalar.indexCast v85
  let c4_120 : Index := 4#32
  let c0_121 : Index := 0#32
  let c0_122 : Index := 0#32
  let c0_123 : Index := 0#32
  ![1, v86.toNat, 4, 0, 0, 0]

def k0_chk18 (v85 : BitVec 32) : Prop :=
  (∀ a, (k0_off83 v85) a + S1x1x1x1x16x128.size a ≤ S4x8x8x2x32x128.size a)
theorem k0_off83_inb : ∀ (v85 : BitVec 32) (k0_hw18 : k0_chk18 v85), ∀ a, (k0_off83 v85) a + S1x1x1x1x16x128.size a ≤ S4x8x8x2x32x128.size a := fun v85 k0_hw18 => k0_hw18

def k0_off84 (v89 : BitVec 32) : Fin 6 → Nat :=
  let c2_126 : Index := 2#32
  let v90 : Index := Scalar.indexCast v89
  let c4_127 : Index := 4#32
  let c0_128 : Index := 0#32
  let c0_129 : Index := 0#32
  let c0_130 : Index := 0#32
  ![2, v90.toNat, 4, 0, 0, 0]

def k0_chk19 (v89 : BitVec 32) : Prop :=
  (∀ a, (k0_off84 v89) a + S1x1x1x1x16x128.size a ≤ S4x8x8x2x32x128.size a)
theorem k0_off84_inb : ∀ (v89 : BitVec 32) (k0_hw19 : k0_chk19 v89), ∀ a, (k0_off84 v89) a + S1x1x1x1x16x128.size a ≤ S4x8x8x2x32x128.size a := fun v89 k0_hw19 => k0_hw19

def k0_off85 (v93 : BitVec 32) : Fin 6 → Nat :=
  let c3_133 : Index := 3#32
  let v94 : Index := Scalar.indexCast v93
  let c4_134 : Index := 4#32
  let c0_135 : Index := 0#32
  let c0_136 : Index := 0#32
  let c0_137 : Index := 0#32
  ![3, v94.toNat, 4, 0, 0, 0]

def k0_chk20 (v93 : BitVec 32) : Prop :=
  (∀ a, (k0_off85 v93) a + S1x1x1x1x16x128.size a ≤ S4x8x8x2x32x128.size a)
theorem k0_off85_inb : ∀ (v93 : BitVec 32) (k0_hw20 : k0_chk20 v93), ∀ a, (k0_off85 v93) a + S1x1x1x1x16x128.size a ≤ S4x8x8x2x32x128.size a := fun v93 k0_hw20 => k0_hw20

def k0_off86 (v100 : BitVec 32) : Fin 6 → Nat :=
  let c0_140 : Index := 0#32
  let v101 : Index := Scalar.indexCast v100
  let c5 : Index := 5#32
  let c0_141 : Index := 0#32
  let c0_142 : Index := 0#32
  let c0_143 : Index := 0#32
  ![0, v101.toNat, 5, 0, 0, 0]

def k0_chk21 (v100 : BitVec 32) : Prop :=
  (∀ a, (k0_off86 v100) a + S1x1x1x1x16x128.size a ≤ S4x8x8x2x32x128.size a)
theorem k0_off86_inb : ∀ (v100 : BitVec 32) (k0_hw21 : k0_chk21 v100), ∀ a, (k0_off86 v100) a + S1x1x1x1x16x128.size a ≤ S4x8x8x2x32x128.size a := fun v100 k0_hw21 => k0_hw21

def k0_off87 (v104 : BitVec 32) : Fin 6 → Nat :=
  let c1_146 : Index := 1#32
  let v105 : Index := Scalar.indexCast v104
  let c5_147 : Index := 5#32
  let c0_148 : Index := 0#32
  let c0_149 : Index := 0#32
  let c0_150 : Index := 0#32
  ![1, v105.toNat, 5, 0, 0, 0]

def k0_chk22 (v104 : BitVec 32) : Prop :=
  (∀ a, (k0_off87 v104) a + S1x1x1x1x16x128.size a ≤ S4x8x8x2x32x128.size a)
theorem k0_off87_inb : ∀ (v104 : BitVec 32) (k0_hw22 : k0_chk22 v104), ∀ a, (k0_off87 v104) a + S1x1x1x1x16x128.size a ≤ S4x8x8x2x32x128.size a := fun v104 k0_hw22 => k0_hw22

def k0_off88 (v108 : BitVec 32) : Fin 6 → Nat :=
  let c2_153 : Index := 2#32
  let v109 : Index := Scalar.indexCast v108
  let c5_154 : Index := 5#32
  let c0_155 : Index := 0#32
  let c0_156 : Index := 0#32
  let c0_157 : Index := 0#32
  ![2, v109.toNat, 5, 0, 0, 0]

def k0_chk23 (v108 : BitVec 32) : Prop :=
  (∀ a, (k0_off88 v108) a + S1x1x1x1x16x128.size a ≤ S4x8x8x2x32x128.size a)
theorem k0_off88_inb : ∀ (v108 : BitVec 32) (k0_hw23 : k0_chk23 v108), ∀ a, (k0_off88 v108) a + S1x1x1x1x16x128.size a ≤ S4x8x8x2x32x128.size a := fun v108 k0_hw23 => k0_hw23

def k0_off89 (v112 : BitVec 32) : Fin 6 → Nat :=
  let c3_160 : Index := 3#32
  let v113 : Index := Scalar.indexCast v112
  let c5_161 : Index := 5#32
  let c0_162 : Index := 0#32
  let c0_163 : Index := 0#32
  let c0_164 : Index := 0#32
  ![3, v113.toNat, 5, 0, 0, 0]

def k0_chk24 (v112 : BitVec 32) : Prop :=
  (∀ a, (k0_off89 v112) a + S1x1x1x1x16x128.size a ≤ S4x8x8x2x32x128.size a)
theorem k0_off89_inb : ∀ (v112 : BitVec 32) (k0_hw24 : k0_chk24 v112), ∀ a, (k0_off89 v112) a + S1x1x1x1x16x128.size a ≤ S4x8x8x2x32x128.size a := fun v112 k0_hw24 => k0_hw24

def k0_off90 (v119 : BitVec 32) : Fin 6 → Nat :=
  let c0_167 : Index := 0#32
  let v120 : Index := Scalar.indexCast v119
  let c6 : Index := 6#32
  let c0_168 : Index := 0#32
  let c0_169 : Index := 0#32
  let c0_170 : Index := 0#32
  ![0, v120.toNat, 6, 0, 0, 0]

def k0_chk25 (v119 : BitVec 32) : Prop :=
  (∀ a, (k0_off90 v119) a + S1x1x1x1x16x128.size a ≤ S4x8x8x2x32x128.size a)
theorem k0_off90_inb : ∀ (v119 : BitVec 32) (k0_hw25 : k0_chk25 v119), ∀ a, (k0_off90 v119) a + S1x1x1x1x16x128.size a ≤ S4x8x8x2x32x128.size a := fun v119 k0_hw25 => k0_hw25

def k0_off91 (v123 : BitVec 32) : Fin 6 → Nat :=
  let c1_173 : Index := 1#32
  let v124 : Index := Scalar.indexCast v123
  let c6_174 : Index := 6#32
  let c0_175 : Index := 0#32
  let c0_176 : Index := 0#32
  let c0_177 : Index := 0#32
  ![1, v124.toNat, 6, 0, 0, 0]

def k0_chk26 (v123 : BitVec 32) : Prop :=
  (∀ a, (k0_off91 v123) a + S1x1x1x1x16x128.size a ≤ S4x8x8x2x32x128.size a)
theorem k0_off91_inb : ∀ (v123 : BitVec 32) (k0_hw26 : k0_chk26 v123), ∀ a, (k0_off91 v123) a + S1x1x1x1x16x128.size a ≤ S4x8x8x2x32x128.size a := fun v123 k0_hw26 => k0_hw26

def k0_off92 (v127 : BitVec 32) : Fin 6 → Nat :=
  let c2_180 : Index := 2#32
  let v128 : Index := Scalar.indexCast v127
  let c6_181 : Index := 6#32
  let c0_182 : Index := 0#32
  let c0_183 : Index := 0#32
  let c0_184 : Index := 0#32
  ![2, v128.toNat, 6, 0, 0, 0]

def k0_chk27 (v127 : BitVec 32) : Prop :=
  (∀ a, (k0_off92 v127) a + S1x1x1x1x16x128.size a ≤ S4x8x8x2x32x128.size a)
theorem k0_off92_inb : ∀ (v127 : BitVec 32) (k0_hw27 : k0_chk27 v127), ∀ a, (k0_off92 v127) a + S1x1x1x1x16x128.size a ≤ S4x8x8x2x32x128.size a := fun v127 k0_hw27 => k0_hw27

def k0_off93 (v131 : BitVec 32) : Fin 6 → Nat :=
  let c3_187 : Index := 3#32
  let v132 : Index := Scalar.indexCast v131
  let c6_188 : Index := 6#32
  let c0_189 : Index := 0#32
  let c0_190 : Index := 0#32
  let c0_191 : Index := 0#32
  ![3, v132.toNat, 6, 0, 0, 0]

def k0_chk28 (v131 : BitVec 32) : Prop :=
  (∀ a, (k0_off93 v131) a + S1x1x1x1x16x128.size a ≤ S4x8x8x2x32x128.size a)
theorem k0_off93_inb : ∀ (v131 : BitVec 32) (k0_hw28 : k0_chk28 v131), ∀ a, (k0_off93 v131) a + S1x1x1x1x16x128.size a ≤ S4x8x8x2x32x128.size a := fun v131 k0_hw28 => k0_hw28

def k0_off94 (v138 : BitVec 32) : Fin 6 → Nat :=
  let c0_194 : Index := 0#32
  let v139 : Index := Scalar.indexCast v138
  let c7 : Index := 7#32
  let c0_195 : Index := 0#32
  let c0_196 : Index := 0#32
  let c0_197 : Index := 0#32
  ![0, v139.toNat, 7, 0, 0, 0]

def k0_chk29 (v138 : BitVec 32) : Prop :=
  (∀ a, (k0_off94 v138) a + S1x1x1x1x16x128.size a ≤ S4x8x8x2x32x128.size a)
theorem k0_off94_inb : ∀ (v138 : BitVec 32) (k0_hw29 : k0_chk29 v138), ∀ a, (k0_off94 v138) a + S1x1x1x1x16x128.size a ≤ S4x8x8x2x32x128.size a := fun v138 k0_hw29 => k0_hw29

def k0_off95 (v142 : BitVec 32) : Fin 6 → Nat :=
  let c1_200 : Index := 1#32
  let v143 : Index := Scalar.indexCast v142
  let c7_201 : Index := 7#32
  let c0_202 : Index := 0#32
  let c0_203 : Index := 0#32
  let c0_204 : Index := 0#32
  ![1, v143.toNat, 7, 0, 0, 0]

def k0_chk30 (v142 : BitVec 32) : Prop :=
  (∀ a, (k0_off95 v142) a + S1x1x1x1x16x128.size a ≤ S4x8x8x2x32x128.size a)
theorem k0_off95_inb : ∀ (v142 : BitVec 32) (k0_hw30 : k0_chk30 v142), ∀ a, (k0_off95 v142) a + S1x1x1x1x16x128.size a ≤ S4x8x8x2x32x128.size a := fun v142 k0_hw30 => k0_hw30

def k0_off96 (v146 : BitVec 32) : Fin 6 → Nat :=
  let c2_207 : Index := 2#32
  let v147 : Index := Scalar.indexCast v146
  let c7_208 : Index := 7#32
  let c0_209 : Index := 0#32
  let c0_210 : Index := 0#32
  let c0_211 : Index := 0#32
  ![2, v147.toNat, 7, 0, 0, 0]

def k0_chk31 (v146 : BitVec 32) : Prop :=
  (∀ a, (k0_off96 v146) a + S1x1x1x1x16x128.size a ≤ S4x8x8x2x32x128.size a)
theorem k0_off96_inb : ∀ (v146 : BitVec 32) (k0_hw31 : k0_chk31 v146), ∀ a, (k0_off96 v146) a + S1x1x1x1x16x128.size a ≤ S4x8x8x2x32x128.size a := fun v146 k0_hw31 => k0_hw31

def k0_off97 (v150 : BitVec 32) : Fin 6 → Nat :=
  let c3_214 : Index := 3#32
  let v151 : Index := Scalar.indexCast v150
  let c7_215 : Index := 7#32
  let c0_216 : Index := 0#32
  let c0_217 : Index := 0#32
  let c0_218 : Index := 0#32
  ![3, v151.toNat, 7, 0, 0, 0]

def k0_chk32 (v150 : BitVec 32) : Prop :=
  (∀ a, (k0_off97 v150) a + S1x1x1x1x16x128.size a ≤ S4x8x8x2x32x128.size a)
theorem k0_off97_inb : ∀ (v150 : BitVec 32) (k0_hw32 : k0_chk32 v150), ∀ a, (k0_off97 v150) a + S1x1x1x1x16x128.size a ≤ S4x8x8x2x32x128.size a := fun v150 k0_hw32 => k0_hw32

def k0_off98 (v357 : BitVec 32) : Fin 6 → Nat :=
  let c0_325 : Index := 0#32
  let v358 : Index := Scalar.indexCast v357
  let c0_326 : Index := 0#32
  let c0_327 : Index := 0#32
  let c16 : Index := 16#32
  let c0_328 : Index := 0#32
  ![0, v358.toNat, 0, 0, 16, 0]

def k0_chk33 (v357 : BitVec 32) : Prop :=
  (∀ a, (k0_off98 v357) a + S1x1x1x1x16x128.size a ≤ S4x8x8x2x32x128.size a)
theorem k0_off98_inb : ∀ (v357 : BitVec 32) (k0_hw33 : k0_chk33 v357), ∀ a, (k0_off98 v357) a + S1x1x1x1x16x128.size a ≤ S4x8x8x2x32x128.size a := fun v357 k0_hw33 => k0_hw33

def k0_off99 (v361 : BitVec 32) : Fin 6 → Nat :=
  let c1_331 : Index := 1#32
  let v362 : Index := Scalar.indexCast v361
  let c0_332 : Index := 0#32
  let c0_333 : Index := 0#32
  let c16_334 : Index := 16#32
  let c0_335 : Index := 0#32
  ![1, v362.toNat, 0, 0, 16, 0]

def k0_chk34 (v361 : BitVec 32) : Prop :=
  (∀ a, (k0_off99 v361) a + S1x1x1x1x16x128.size a ≤ S4x8x8x2x32x128.size a)
theorem k0_off99_inb : ∀ (v361 : BitVec 32) (k0_hw34 : k0_chk34 v361), ∀ a, (k0_off99 v361) a + S1x1x1x1x16x128.size a ≤ S4x8x8x2x32x128.size a := fun v361 k0_hw34 => k0_hw34

def k0_off100 (v365 : BitVec 32) : Fin 6 → Nat :=
  let c2_338 : Index := 2#32
  let v366 : Index := Scalar.indexCast v365
  let c0_339 : Index := 0#32
  let c0_340 : Index := 0#32
  let c16_341 : Index := 16#32
  let c0_342 : Index := 0#32
  ![2, v366.toNat, 0, 0, 16, 0]

def k0_chk35 (v365 : BitVec 32) : Prop :=
  (∀ a, (k0_off100 v365) a + S1x1x1x1x16x128.size a ≤ S4x8x8x2x32x128.size a)
theorem k0_off100_inb : ∀ (v365 : BitVec 32) (k0_hw35 : k0_chk35 v365), ∀ a, (k0_off100 v365) a + S1x1x1x1x16x128.size a ≤ S4x8x8x2x32x128.size a := fun v365 k0_hw35 => k0_hw35

def k0_off101 (v369 : BitVec 32) : Fin 6 → Nat :=
  let c3_345 : Index := 3#32
  let v370 : Index := Scalar.indexCast v369
  let c0_346 : Index := 0#32
  let c0_347 : Index := 0#32
  let c16_348 : Index := 16#32
  let c0_349 : Index := 0#32
  ![3, v370.toNat, 0, 0, 16, 0]

def k0_chk36 (v369 : BitVec 32) : Prop :=
  (∀ a, (k0_off101 v369) a + S1x1x1x1x16x128.size a ≤ S4x8x8x2x32x128.size a)
theorem k0_off101_inb : ∀ (v369 : BitVec 32) (k0_hw36 : k0_chk36 v369), ∀ a, (k0_off101 v369) a + S1x1x1x1x16x128.size a ≤ S4x8x8x2x32x128.size a := fun v369 k0_hw36 => k0_hw36

def k0_off102 (v376 : BitVec 32) : Fin 6 → Nat :=
  let c0_352 : Index := 0#32
  let v377 : Index := Scalar.indexCast v376
  let c1_353 : Index := 1#32
  let c0_354 : Index := 0#32
  let c16_355 : Index := 16#32
  let c0_356 : Index := 0#32
  ![0, v377.toNat, 1, 0, 16, 0]

def k0_chk37 (v376 : BitVec 32) : Prop :=
  (∀ a, (k0_off102 v376) a + S1x1x1x1x16x128.size a ≤ S4x8x8x2x32x128.size a)
theorem k0_off102_inb : ∀ (v376 : BitVec 32) (k0_hw37 : k0_chk37 v376), ∀ a, (k0_off102 v376) a + S1x1x1x1x16x128.size a ≤ S4x8x8x2x32x128.size a := fun v376 k0_hw37 => k0_hw37

def k0_off103 (v380 : BitVec 32) : Fin 6 → Nat :=
  let c1_359 : Index := 1#32
  let v381 : Index := Scalar.indexCast v380
  let c1_360 : Index := 1#32
  let c0_361 : Index := 0#32
  let c16_362 : Index := 16#32
  let c0_363 : Index := 0#32
  ![1, v381.toNat, 1, 0, 16, 0]

def k0_chk38 (v380 : BitVec 32) : Prop :=
  (∀ a, (k0_off103 v380) a + S1x1x1x1x16x128.size a ≤ S4x8x8x2x32x128.size a)
theorem k0_off103_inb : ∀ (v380 : BitVec 32) (k0_hw38 : k0_chk38 v380), ∀ a, (k0_off103 v380) a + S1x1x1x1x16x128.size a ≤ S4x8x8x2x32x128.size a := fun v380 k0_hw38 => k0_hw38

def k0_off104 (v384 : BitVec 32) : Fin 6 → Nat :=
  let c2_366 : Index := 2#32
  let v385 : Index := Scalar.indexCast v384
  let c1_367 : Index := 1#32
  let c0_368 : Index := 0#32
  let c16_369 : Index := 16#32
  let c0_370 : Index := 0#32
  ![2, v385.toNat, 1, 0, 16, 0]

def k0_chk39 (v384 : BitVec 32) : Prop :=
  (∀ a, (k0_off104 v384) a + S1x1x1x1x16x128.size a ≤ S4x8x8x2x32x128.size a)
theorem k0_off104_inb : ∀ (v384 : BitVec 32) (k0_hw39 : k0_chk39 v384), ∀ a, (k0_off104 v384) a + S1x1x1x1x16x128.size a ≤ S4x8x8x2x32x128.size a := fun v384 k0_hw39 => k0_hw39

def k0_off105 (v388 : BitVec 32) : Fin 6 → Nat :=
  let c3_373 : Index := 3#32
  let v389 : Index := Scalar.indexCast v388
  let c1_374 : Index := 1#32
  let c0_375 : Index := 0#32
  let c16_376 : Index := 16#32
  let c0_377 : Index := 0#32
  ![3, v389.toNat, 1, 0, 16, 0]

def k0_chk40 (v388 : BitVec 32) : Prop :=
  (∀ a, (k0_off105 v388) a + S1x1x1x1x16x128.size a ≤ S4x8x8x2x32x128.size a)
theorem k0_off105_inb : ∀ (v388 : BitVec 32) (k0_hw40 : k0_chk40 v388), ∀ a, (k0_off105 v388) a + S1x1x1x1x16x128.size a ≤ S4x8x8x2x32x128.size a := fun v388 k0_hw40 => k0_hw40

def k0_off106 (v395 : BitVec 32) : Fin 6 → Nat :=
  let c0_380 : Index := 0#32
  let v396 : Index := Scalar.indexCast v395
  let c2_381 : Index := 2#32
  let c0_382 : Index := 0#32
  let c16_383 : Index := 16#32
  let c0_384 : Index := 0#32
  ![0, v396.toNat, 2, 0, 16, 0]

def k0_chk41 (v395 : BitVec 32) : Prop :=
  (∀ a, (k0_off106 v395) a + S1x1x1x1x16x128.size a ≤ S4x8x8x2x32x128.size a)
theorem k0_off106_inb : ∀ (v395 : BitVec 32) (k0_hw41 : k0_chk41 v395), ∀ a, (k0_off106 v395) a + S1x1x1x1x16x128.size a ≤ S4x8x8x2x32x128.size a := fun v395 k0_hw41 => k0_hw41

def k0_off107 (v399 : BitVec 32) : Fin 6 → Nat :=
  let c1_387 : Index := 1#32
  let v400 : Index := Scalar.indexCast v399
  let c2_388 : Index := 2#32
  let c0_389 : Index := 0#32
  let c16_390 : Index := 16#32
  let c0_391 : Index := 0#32
  ![1, v400.toNat, 2, 0, 16, 0]

def k0_chk42 (v399 : BitVec 32) : Prop :=
  (∀ a, (k0_off107 v399) a + S1x1x1x1x16x128.size a ≤ S4x8x8x2x32x128.size a)
theorem k0_off107_inb : ∀ (v399 : BitVec 32) (k0_hw42 : k0_chk42 v399), ∀ a, (k0_off107 v399) a + S1x1x1x1x16x128.size a ≤ S4x8x8x2x32x128.size a := fun v399 k0_hw42 => k0_hw42

def k0_off108 (v403 : BitVec 32) : Fin 6 → Nat :=
  let c2_394 : Index := 2#32
  let v404 : Index := Scalar.indexCast v403
  let c2_395 : Index := 2#32
  let c0_396 : Index := 0#32
  let c16_397 : Index := 16#32
  let c0_398 : Index := 0#32
  ![2, v404.toNat, 2, 0, 16, 0]

def k0_chk43 (v403 : BitVec 32) : Prop :=
  (∀ a, (k0_off108 v403) a + S1x1x1x1x16x128.size a ≤ S4x8x8x2x32x128.size a)
theorem k0_off108_inb : ∀ (v403 : BitVec 32) (k0_hw43 : k0_chk43 v403), ∀ a, (k0_off108 v403) a + S1x1x1x1x16x128.size a ≤ S4x8x8x2x32x128.size a := fun v403 k0_hw43 => k0_hw43

def k0_off109 (v407 : BitVec 32) : Fin 6 → Nat :=
  let c3_401 : Index := 3#32
  let v408 : Index := Scalar.indexCast v407
  let c2_402 : Index := 2#32
  let c0_403 : Index := 0#32
  let c16_404 : Index := 16#32
  let c0_405 : Index := 0#32
  ![3, v408.toNat, 2, 0, 16, 0]

def k0_chk44 (v407 : BitVec 32) : Prop :=
  (∀ a, (k0_off109 v407) a + S1x1x1x1x16x128.size a ≤ S4x8x8x2x32x128.size a)
theorem k0_off109_inb : ∀ (v407 : BitVec 32) (k0_hw44 : k0_chk44 v407), ∀ a, (k0_off109 v407) a + S1x1x1x1x16x128.size a ≤ S4x8x8x2x32x128.size a := fun v407 k0_hw44 => k0_hw44

def k0_off110 (v414 : BitVec 32) : Fin 6 → Nat :=
  let c0_408 : Index := 0#32
  let v415 : Index := Scalar.indexCast v414
  let c3_409 : Index := 3#32
  let c0_410 : Index := 0#32
  let c16_411 : Index := 16#32
  let c0_412 : Index := 0#32
  ![0, v415.toNat, 3, 0, 16, 0]

def k0_chk45 (v414 : BitVec 32) : Prop :=
  (∀ a, (k0_off110 v414) a + S1x1x1x1x16x128.size a ≤ S4x8x8x2x32x128.size a)
theorem k0_off110_inb : ∀ (v414 : BitVec 32) (k0_hw45 : k0_chk45 v414), ∀ a, (k0_off110 v414) a + S1x1x1x1x16x128.size a ≤ S4x8x8x2x32x128.size a := fun v414 k0_hw45 => k0_hw45

def k0_off111 (v418 : BitVec 32) : Fin 6 → Nat :=
  let c1_415 : Index := 1#32
  let v419 : Index := Scalar.indexCast v418
  let c3_416 : Index := 3#32
  let c0_417 : Index := 0#32
  let c16_418 : Index := 16#32
  let c0_419 : Index := 0#32
  ![1, v419.toNat, 3, 0, 16, 0]

def k0_chk46 (v418 : BitVec 32) : Prop :=
  (∀ a, (k0_off111 v418) a + S1x1x1x1x16x128.size a ≤ S4x8x8x2x32x128.size a)
theorem k0_off111_inb : ∀ (v418 : BitVec 32) (k0_hw46 : k0_chk46 v418), ∀ a, (k0_off111 v418) a + S1x1x1x1x16x128.size a ≤ S4x8x8x2x32x128.size a := fun v418 k0_hw46 => k0_hw46

def k0_off112 (v422 : BitVec 32) : Fin 6 → Nat :=
  let c2_422 : Index := 2#32
  let v423 : Index := Scalar.indexCast v422
  let c3_423 : Index := 3#32
  let c0_424 : Index := 0#32
  let c16_425 : Index := 16#32
  let c0_426 : Index := 0#32
  ![2, v423.toNat, 3, 0, 16, 0]

def k0_chk47 (v422 : BitVec 32) : Prop :=
  (∀ a, (k0_off112 v422) a + S1x1x1x1x16x128.size a ≤ S4x8x8x2x32x128.size a)
theorem k0_off112_inb : ∀ (v422 : BitVec 32) (k0_hw47 : k0_chk47 v422), ∀ a, (k0_off112 v422) a + S1x1x1x1x16x128.size a ≤ S4x8x8x2x32x128.size a := fun v422 k0_hw47 => k0_hw47

def k0_off113 (v426 : BitVec 32) : Fin 6 → Nat :=
  let c3_429 : Index := 3#32
  let v427 : Index := Scalar.indexCast v426
  let c3_430 : Index := 3#32
  let c0_431 : Index := 0#32
  let c16_432 : Index := 16#32
  let c0_433 : Index := 0#32
  ![3, v427.toNat, 3, 0, 16, 0]

def k0_chk48 (v426 : BitVec 32) : Prop :=
  (∀ a, (k0_off113 v426) a + S1x1x1x1x16x128.size a ≤ S4x8x8x2x32x128.size a)
theorem k0_off113_inb : ∀ (v426 : BitVec 32) (k0_hw48 : k0_chk48 v426), ∀ a, (k0_off113 v426) a + S1x1x1x1x16x128.size a ≤ S4x8x8x2x32x128.size a := fun v426 k0_hw48 => k0_hw48

def k0_off114 (v433 : BitVec 32) : Fin 6 → Nat :=
  let c0_436 : Index := 0#32
  let v434 : Index := Scalar.indexCast v433
  let c4_437 : Index := 4#32
  let c0_438 : Index := 0#32
  let c16_439 : Index := 16#32
  let c0_440 : Index := 0#32
  ![0, v434.toNat, 4, 0, 16, 0]

def k0_chk49 (v433 : BitVec 32) : Prop :=
  (∀ a, (k0_off114 v433) a + S1x1x1x1x16x128.size a ≤ S4x8x8x2x32x128.size a)
theorem k0_off114_inb : ∀ (v433 : BitVec 32) (k0_hw49 : k0_chk49 v433), ∀ a, (k0_off114 v433) a + S1x1x1x1x16x128.size a ≤ S4x8x8x2x32x128.size a := fun v433 k0_hw49 => k0_hw49

def k0_off115 (v437 : BitVec 32) : Fin 6 → Nat :=
  let c1_443 : Index := 1#32
  let v438 : Index := Scalar.indexCast v437
  let c4_444 : Index := 4#32
  let c0_445 : Index := 0#32
  let c16_446 : Index := 16#32
  let c0_447 : Index := 0#32
  ![1, v438.toNat, 4, 0, 16, 0]

def k0_chk50 (v437 : BitVec 32) : Prop :=
  (∀ a, (k0_off115 v437) a + S1x1x1x1x16x128.size a ≤ S4x8x8x2x32x128.size a)
theorem k0_off115_inb : ∀ (v437 : BitVec 32) (k0_hw50 : k0_chk50 v437), ∀ a, (k0_off115 v437) a + S1x1x1x1x16x128.size a ≤ S4x8x8x2x32x128.size a := fun v437 k0_hw50 => k0_hw50

def k0_off116 (v441 : BitVec 32) : Fin 6 → Nat :=
  let c2_450 : Index := 2#32
  let v442 : Index := Scalar.indexCast v441
  let c4_451 : Index := 4#32
  let c0_452 : Index := 0#32
  let c16_453 : Index := 16#32
  let c0_454 : Index := 0#32
  ![2, v442.toNat, 4, 0, 16, 0]

def k0_chk51 (v441 : BitVec 32) : Prop :=
  (∀ a, (k0_off116 v441) a + S1x1x1x1x16x128.size a ≤ S4x8x8x2x32x128.size a)
theorem k0_off116_inb : ∀ (v441 : BitVec 32) (k0_hw51 : k0_chk51 v441), ∀ a, (k0_off116 v441) a + S1x1x1x1x16x128.size a ≤ S4x8x8x2x32x128.size a := fun v441 k0_hw51 => k0_hw51

def k0_off117 (v445 : BitVec 32) : Fin 6 → Nat :=
  let c3_457 : Index := 3#32
  let v446 : Index := Scalar.indexCast v445
  let c4_458 : Index := 4#32
  let c0_459 : Index := 0#32
  let c16_460 : Index := 16#32
  let c0_461 : Index := 0#32
  ![3, v446.toNat, 4, 0, 16, 0]

def k0_chk52 (v445 : BitVec 32) : Prop :=
  (∀ a, (k0_off117 v445) a + S1x1x1x1x16x128.size a ≤ S4x8x8x2x32x128.size a)
theorem k0_off117_inb : ∀ (v445 : BitVec 32) (k0_hw52 : k0_chk52 v445), ∀ a, (k0_off117 v445) a + S1x1x1x1x16x128.size a ≤ S4x8x8x2x32x128.size a := fun v445 k0_hw52 => k0_hw52

def k0_off118 (v452 : BitVec 32) : Fin 6 → Nat :=
  let c0_464 : Index := 0#32
  let v453 : Index := Scalar.indexCast v452
  let c5_465 : Index := 5#32
  let c0_466 : Index := 0#32
  let c16_467 : Index := 16#32
  let c0_468 : Index := 0#32
  ![0, v453.toNat, 5, 0, 16, 0]

def k0_chk53 (v452 : BitVec 32) : Prop :=
  (∀ a, (k0_off118 v452) a + S1x1x1x1x16x128.size a ≤ S4x8x8x2x32x128.size a)
theorem k0_off118_inb : ∀ (v452 : BitVec 32) (k0_hw53 : k0_chk53 v452), ∀ a, (k0_off118 v452) a + S1x1x1x1x16x128.size a ≤ S4x8x8x2x32x128.size a := fun v452 k0_hw53 => k0_hw53

def k0_off119 (v456 : BitVec 32) : Fin 6 → Nat :=
  let c1_471 : Index := 1#32
  let v457 : Index := Scalar.indexCast v456
  let c5_472 : Index := 5#32
  let c0_473 : Index := 0#32
  let c16_474 : Index := 16#32
  let c0_475 : Index := 0#32
  ![1, v457.toNat, 5, 0, 16, 0]

def k0_chk54 (v456 : BitVec 32) : Prop :=
  (∀ a, (k0_off119 v456) a + S1x1x1x1x16x128.size a ≤ S4x8x8x2x32x128.size a)
theorem k0_off119_inb : ∀ (v456 : BitVec 32) (k0_hw54 : k0_chk54 v456), ∀ a, (k0_off119 v456) a + S1x1x1x1x16x128.size a ≤ S4x8x8x2x32x128.size a := fun v456 k0_hw54 => k0_hw54

def k0_off120 (v460 : BitVec 32) : Fin 6 → Nat :=
  let c2_478 : Index := 2#32
  let v461 : Index := Scalar.indexCast v460
  let c5_479 : Index := 5#32
  let c0_480 : Index := 0#32
  let c16_481 : Index := 16#32
  let c0_482 : Index := 0#32
  ![2, v461.toNat, 5, 0, 16, 0]

def k0_chk55 (v460 : BitVec 32) : Prop :=
  (∀ a, (k0_off120 v460) a + S1x1x1x1x16x128.size a ≤ S4x8x8x2x32x128.size a)
theorem k0_off120_inb : ∀ (v460 : BitVec 32) (k0_hw55 : k0_chk55 v460), ∀ a, (k0_off120 v460) a + S1x1x1x1x16x128.size a ≤ S4x8x8x2x32x128.size a := fun v460 k0_hw55 => k0_hw55

def k0_off121 (v464 : BitVec 32) : Fin 6 → Nat :=
  let c3_485 : Index := 3#32
  let v465 : Index := Scalar.indexCast v464
  let c5_486 : Index := 5#32
  let c0_487 : Index := 0#32
  let c16_488 : Index := 16#32
  let c0_489 : Index := 0#32
  ![3, v465.toNat, 5, 0, 16, 0]

def k0_chk56 (v464 : BitVec 32) : Prop :=
  (∀ a, (k0_off121 v464) a + S1x1x1x1x16x128.size a ≤ S4x8x8x2x32x128.size a)
theorem k0_off121_inb : ∀ (v464 : BitVec 32) (k0_hw56 : k0_chk56 v464), ∀ a, (k0_off121 v464) a + S1x1x1x1x16x128.size a ≤ S4x8x8x2x32x128.size a := fun v464 k0_hw56 => k0_hw56

def k0_off122 (v471 : BitVec 32) : Fin 6 → Nat :=
  let c0_492 : Index := 0#32
  let v472 : Index := Scalar.indexCast v471
  let c6_493 : Index := 6#32
  let c0_494 : Index := 0#32
  let c16_495 : Index := 16#32
  let c0_496 : Index := 0#32
  ![0, v472.toNat, 6, 0, 16, 0]

def k0_chk57 (v471 : BitVec 32) : Prop :=
  (∀ a, (k0_off122 v471) a + S1x1x1x1x16x128.size a ≤ S4x8x8x2x32x128.size a)
theorem k0_off122_inb : ∀ (v471 : BitVec 32) (k0_hw57 : k0_chk57 v471), ∀ a, (k0_off122 v471) a + S1x1x1x1x16x128.size a ≤ S4x8x8x2x32x128.size a := fun v471 k0_hw57 => k0_hw57

def k0_off123 (v475 : BitVec 32) : Fin 6 → Nat :=
  let c1_499 : Index := 1#32
  let v476 : Index := Scalar.indexCast v475
  let c6_500 : Index := 6#32
  let c0_501 : Index := 0#32
  let c16_502 : Index := 16#32
  let c0_503 : Index := 0#32
  ![1, v476.toNat, 6, 0, 16, 0]

def k0_chk58 (v475 : BitVec 32) : Prop :=
  (∀ a, (k0_off123 v475) a + S1x1x1x1x16x128.size a ≤ S4x8x8x2x32x128.size a)
theorem k0_off123_inb : ∀ (v475 : BitVec 32) (k0_hw58 : k0_chk58 v475), ∀ a, (k0_off123 v475) a + S1x1x1x1x16x128.size a ≤ S4x8x8x2x32x128.size a := fun v475 k0_hw58 => k0_hw58

def k0_off124 (v479 : BitVec 32) : Fin 6 → Nat :=
  let c2_506 : Index := 2#32
  let v480 : Index := Scalar.indexCast v479
  let c6_507 : Index := 6#32
  let c0_508 : Index := 0#32
  let c16_509 : Index := 16#32
  let c0_510 : Index := 0#32
  ![2, v480.toNat, 6, 0, 16, 0]

def k0_chk59 (v479 : BitVec 32) : Prop :=
  (∀ a, (k0_off124 v479) a + S1x1x1x1x16x128.size a ≤ S4x8x8x2x32x128.size a)
theorem k0_off124_inb : ∀ (v479 : BitVec 32) (k0_hw59 : k0_chk59 v479), ∀ a, (k0_off124 v479) a + S1x1x1x1x16x128.size a ≤ S4x8x8x2x32x128.size a := fun v479 k0_hw59 => k0_hw59

def k0_off125 (v483 : BitVec 32) : Fin 6 → Nat :=
  let c3_513 : Index := 3#32
  let v484 : Index := Scalar.indexCast v483
  let c6_514 : Index := 6#32
  let c0_515 : Index := 0#32
  let c16_516 : Index := 16#32
  let c0_517 : Index := 0#32
  ![3, v484.toNat, 6, 0, 16, 0]

def k0_chk60 (v483 : BitVec 32) : Prop :=
  (∀ a, (k0_off125 v483) a + S1x1x1x1x16x128.size a ≤ S4x8x8x2x32x128.size a)
theorem k0_off125_inb : ∀ (v483 : BitVec 32) (k0_hw60 : k0_chk60 v483), ∀ a, (k0_off125 v483) a + S1x1x1x1x16x128.size a ≤ S4x8x8x2x32x128.size a := fun v483 k0_hw60 => k0_hw60

def k0_off126 (v490 : BitVec 32) : Fin 6 → Nat :=
  let c0_520 : Index := 0#32
  let v491 : Index := Scalar.indexCast v490
  let c7_521 : Index := 7#32
  let c0_522 : Index := 0#32
  let c16_523 : Index := 16#32
  let c0_524 : Index := 0#32
  ![0, v491.toNat, 7, 0, 16, 0]

def k0_chk61 (v490 : BitVec 32) : Prop :=
  (∀ a, (k0_off126 v490) a + S1x1x1x1x16x128.size a ≤ S4x8x8x2x32x128.size a)
theorem k0_off126_inb : ∀ (v490 : BitVec 32) (k0_hw61 : k0_chk61 v490), ∀ a, (k0_off126 v490) a + S1x1x1x1x16x128.size a ≤ S4x8x8x2x32x128.size a := fun v490 k0_hw61 => k0_hw61

def k0_off127 (v494 : BitVec 32) : Fin 6 → Nat :=
  let c1_527 : Index := 1#32
  let v495 : Index := Scalar.indexCast v494
  let c7_528 : Index := 7#32
  let c0_529 : Index := 0#32
  let c16_530 : Index := 16#32
  let c0_531 : Index := 0#32
  ![1, v495.toNat, 7, 0, 16, 0]

def k0_chk62 (v494 : BitVec 32) : Prop :=
  (∀ a, (k0_off127 v494) a + S1x1x1x1x16x128.size a ≤ S4x8x8x2x32x128.size a)
theorem k0_off127_inb : ∀ (v494 : BitVec 32) (k0_hw62 : k0_chk62 v494), ∀ a, (k0_off127 v494) a + S1x1x1x1x16x128.size a ≤ S4x8x8x2x32x128.size a := fun v494 k0_hw62 => k0_hw62

def k0_off128 (v498 : BitVec 32) : Fin 6 → Nat :=
  let c2_534 : Index := 2#32
  let v499 : Index := Scalar.indexCast v498
  let c7_535 : Index := 7#32
  let c0_536 : Index := 0#32
  let c16_537 : Index := 16#32
  let c0_538 : Index := 0#32
  ![2, v499.toNat, 7, 0, 16, 0]

def k0_chk63 (v498 : BitVec 32) : Prop :=
  (∀ a, (k0_off128 v498) a + S1x1x1x1x16x128.size a ≤ S4x8x8x2x32x128.size a)
theorem k0_off128_inb : ∀ (v498 : BitVec 32) (k0_hw63 : k0_chk63 v498), ∀ a, (k0_off128 v498) a + S1x1x1x1x16x128.size a ≤ S4x8x8x2x32x128.size a := fun v498 k0_hw63 => k0_hw63

def k0_off129 (v502 : BitVec 32) : Fin 6 → Nat :=
  let c3_541 : Index := 3#32
  let v503 : Index := Scalar.indexCast v502
  let c7_542 : Index := 7#32
  let c0_543 : Index := 0#32
  let c16_544 : Index := 16#32
  let c0_545 : Index := 0#32
  ![3, v503.toNat, 7, 0, 16, 0]

def k0_chk64 (v502 : BitVec 32) : Prop :=
  (∀ a, (k0_off129 v502) a + S1x1x1x1x16x128.size a ≤ S4x8x8x2x32x128.size a)
theorem k0_off129_inb : ∀ (v502 : BitVec 32) (k0_hw64 : k0_chk64 v502), ∀ a, (k0_off129 v502) a + S1x1x1x1x16x128.size a ≤ S4x8x8x2x32x128.size a := fun v502 k0_hw64 => k0_hw64

def k0_off130 (v709 : BitVec 32) : Fin 6 → Nat :=
  let c0_653 : Index := 0#32
  let v710 : Index := Scalar.indexCast v709
  let c0_654 : Index := 0#32
  let c1_655 : Index := 1#32
  let c0_656 : Index := 0#32
  let c0_657 : Index := 0#32
  ![0, v710.toNat, 0, 1, 0, 0]

def k0_chk65 (v709 : BitVec 32) : Prop :=
  (∀ a, (k0_off130 v709) a + S1x1x1x1x16x128.size a ≤ S4x8x8x2x32x128.size a)
theorem k0_off130_inb : ∀ (v709 : BitVec 32) (k0_hw65 : k0_chk65 v709), ∀ a, (k0_off130 v709) a + S1x1x1x1x16x128.size a ≤ S4x8x8x2x32x128.size a := fun v709 k0_hw65 => k0_hw65

def k0_off131 (v713 : BitVec 32) : Fin 6 → Nat :=
  let c1_660 : Index := 1#32
  let v714 : Index := Scalar.indexCast v713
  let c0_661 : Index := 0#32
  let c1_662 : Index := 1#32
  let c0_663 : Index := 0#32
  let c0_664 : Index := 0#32
  ![1, v714.toNat, 0, 1, 0, 0]

def k0_chk66 (v713 : BitVec 32) : Prop :=
  (∀ a, (k0_off131 v713) a + S1x1x1x1x16x128.size a ≤ S4x8x8x2x32x128.size a)
theorem k0_off131_inb : ∀ (v713 : BitVec 32) (k0_hw66 : k0_chk66 v713), ∀ a, (k0_off131 v713) a + S1x1x1x1x16x128.size a ≤ S4x8x8x2x32x128.size a := fun v713 k0_hw66 => k0_hw66

def k0_off132 (v717 : BitVec 32) : Fin 6 → Nat :=
  let c2_667 : Index := 2#32
  let v718 : Index := Scalar.indexCast v717
  let c0_668 : Index := 0#32
  let c1_669 : Index := 1#32
  let c0_670 : Index := 0#32
  let c0_671 : Index := 0#32
  ![2, v718.toNat, 0, 1, 0, 0]

def k0_chk67 (v717 : BitVec 32) : Prop :=
  (∀ a, (k0_off132 v717) a + S1x1x1x1x16x128.size a ≤ S4x8x8x2x32x128.size a)
theorem k0_off132_inb : ∀ (v717 : BitVec 32) (k0_hw67 : k0_chk67 v717), ∀ a, (k0_off132 v717) a + S1x1x1x1x16x128.size a ≤ S4x8x8x2x32x128.size a := fun v717 k0_hw67 => k0_hw67

def k0_off133 (v721 : BitVec 32) : Fin 6 → Nat :=
  let c3_674 : Index := 3#32
  let v722 : Index := Scalar.indexCast v721
  let c0_675 : Index := 0#32
  let c1_676 : Index := 1#32
  let c0_677 : Index := 0#32
  let c0_678 : Index := 0#32
  ![3, v722.toNat, 0, 1, 0, 0]

def k0_chk68 (v721 : BitVec 32) : Prop :=
  (∀ a, (k0_off133 v721) a + S1x1x1x1x16x128.size a ≤ S4x8x8x2x32x128.size a)
theorem k0_off133_inb : ∀ (v721 : BitVec 32) (k0_hw68 : k0_chk68 v721), ∀ a, (k0_off133 v721) a + S1x1x1x1x16x128.size a ≤ S4x8x8x2x32x128.size a := fun v721 k0_hw68 => k0_hw68

def k0_off134 (v728 : BitVec 32) : Fin 6 → Nat :=
  let c0_681 : Index := 0#32
  let v729 : Index := Scalar.indexCast v728
  let c1_682 : Index := 1#32
  let c1_683 : Index := 1#32
  let c0_684 : Index := 0#32
  let c0_685 : Index := 0#32
  ![0, v729.toNat, 1, 1, 0, 0]

def k0_chk69 (v728 : BitVec 32) : Prop :=
  (∀ a, (k0_off134 v728) a + S1x1x1x1x16x128.size a ≤ S4x8x8x2x32x128.size a)
theorem k0_off134_inb : ∀ (v728 : BitVec 32) (k0_hw69 : k0_chk69 v728), ∀ a, (k0_off134 v728) a + S1x1x1x1x16x128.size a ≤ S4x8x8x2x32x128.size a := fun v728 k0_hw69 => k0_hw69

def k0_off135 (v732 : BitVec 32) : Fin 6 → Nat :=
  let c1_688 : Index := 1#32
  let v733 : Index := Scalar.indexCast v732
  let c1_689 : Index := 1#32
  let c1_690 : Index := 1#32
  let c0_691 : Index := 0#32
  let c0_692 : Index := 0#32
  ![1, v733.toNat, 1, 1, 0, 0]

def k0_chk70 (v732 : BitVec 32) : Prop :=
  (∀ a, (k0_off135 v732) a + S1x1x1x1x16x128.size a ≤ S4x8x8x2x32x128.size a)
theorem k0_off135_inb : ∀ (v732 : BitVec 32) (k0_hw70 : k0_chk70 v732), ∀ a, (k0_off135 v732) a + S1x1x1x1x16x128.size a ≤ S4x8x8x2x32x128.size a := fun v732 k0_hw70 => k0_hw70

def k0_off136 (v736 : BitVec 32) : Fin 6 → Nat :=
  let c2_695 : Index := 2#32
  let v737 : Index := Scalar.indexCast v736
  let c1_696 : Index := 1#32
  let c1_697 : Index := 1#32
  let c0_698 : Index := 0#32
  let c0_699 : Index := 0#32
  ![2, v737.toNat, 1, 1, 0, 0]

def k0_chk71 (v736 : BitVec 32) : Prop :=
  (∀ a, (k0_off136 v736) a + S1x1x1x1x16x128.size a ≤ S4x8x8x2x32x128.size a)
theorem k0_off136_inb : ∀ (v736 : BitVec 32) (k0_hw71 : k0_chk71 v736), ∀ a, (k0_off136 v736) a + S1x1x1x1x16x128.size a ≤ S4x8x8x2x32x128.size a := fun v736 k0_hw71 => k0_hw71

def k0_off137 (v740 : BitVec 32) : Fin 6 → Nat :=
  let c3_702 : Index := 3#32
  let v741 : Index := Scalar.indexCast v740
  let c1_703 : Index := 1#32
  let c1_704 : Index := 1#32
  let c0_705 : Index := 0#32
  let c0_706 : Index := 0#32
  ![3, v741.toNat, 1, 1, 0, 0]

def k0_chk72 (v740 : BitVec 32) : Prop :=
  (∀ a, (k0_off137 v740) a + S1x1x1x1x16x128.size a ≤ S4x8x8x2x32x128.size a)
theorem k0_off137_inb : ∀ (v740 : BitVec 32) (k0_hw72 : k0_chk72 v740), ∀ a, (k0_off137 v740) a + S1x1x1x1x16x128.size a ≤ S4x8x8x2x32x128.size a := fun v740 k0_hw72 => k0_hw72

def k0_off138 (v747 : BitVec 32) : Fin 6 → Nat :=
  let c0_709 : Index := 0#32
  let v748 : Index := Scalar.indexCast v747
  let c2_710 : Index := 2#32
  let c1_711 : Index := 1#32
  let c0_712 : Index := 0#32
  let c0_713 : Index := 0#32
  ![0, v748.toNat, 2, 1, 0, 0]

def k0_chk73 (v747 : BitVec 32) : Prop :=
  (∀ a, (k0_off138 v747) a + S1x1x1x1x16x128.size a ≤ S4x8x8x2x32x128.size a)
theorem k0_off138_inb : ∀ (v747 : BitVec 32) (k0_hw73 : k0_chk73 v747), ∀ a, (k0_off138 v747) a + S1x1x1x1x16x128.size a ≤ S4x8x8x2x32x128.size a := fun v747 k0_hw73 => k0_hw73

def k0_off139 (v751 : BitVec 32) : Fin 6 → Nat :=
  let c1_716 : Index := 1#32
  let v752 : Index := Scalar.indexCast v751
  let c2_717 : Index := 2#32
  let c1_718 : Index := 1#32
  let c0_719 : Index := 0#32
  let c0_720 : Index := 0#32
  ![1, v752.toNat, 2, 1, 0, 0]

def k0_chk74 (v751 : BitVec 32) : Prop :=
  (∀ a, (k0_off139 v751) a + S1x1x1x1x16x128.size a ≤ S4x8x8x2x32x128.size a)
theorem k0_off139_inb : ∀ (v751 : BitVec 32) (k0_hw74 : k0_chk74 v751), ∀ a, (k0_off139 v751) a + S1x1x1x1x16x128.size a ≤ S4x8x8x2x32x128.size a := fun v751 k0_hw74 => k0_hw74

def k0_off140 (v755 : BitVec 32) : Fin 6 → Nat :=
  let c2_723 : Index := 2#32
  let v756 : Index := Scalar.indexCast v755
  let c2_724 : Index := 2#32
  let c1_725 : Index := 1#32
  let c0_726 : Index := 0#32
  let c0_727 : Index := 0#32
  ![2, v756.toNat, 2, 1, 0, 0]

def k0_chk75 (v755 : BitVec 32) : Prop :=
  (∀ a, (k0_off140 v755) a + S1x1x1x1x16x128.size a ≤ S4x8x8x2x32x128.size a)
theorem k0_off140_inb : ∀ (v755 : BitVec 32) (k0_hw75 : k0_chk75 v755), ∀ a, (k0_off140 v755) a + S1x1x1x1x16x128.size a ≤ S4x8x8x2x32x128.size a := fun v755 k0_hw75 => k0_hw75

def k0_off141 (v759 : BitVec 32) : Fin 6 → Nat :=
  let c3_730 : Index := 3#32
  let v760 : Index := Scalar.indexCast v759
  let c2_731 : Index := 2#32
  let c1_732 : Index := 1#32
  let c0_733 : Index := 0#32
  let c0_734 : Index := 0#32
  ![3, v760.toNat, 2, 1, 0, 0]

def k0_chk76 (v759 : BitVec 32) : Prop :=
  (∀ a, (k0_off141 v759) a + S1x1x1x1x16x128.size a ≤ S4x8x8x2x32x128.size a)
theorem k0_off141_inb : ∀ (v759 : BitVec 32) (k0_hw76 : k0_chk76 v759), ∀ a, (k0_off141 v759) a + S1x1x1x1x16x128.size a ≤ S4x8x8x2x32x128.size a := fun v759 k0_hw76 => k0_hw76

def k0_off142 (v766 : BitVec 32) : Fin 6 → Nat :=
  let c0_737 : Index := 0#32
  let v767 : Index := Scalar.indexCast v766
  let c3_738 : Index := 3#32
  let c1_739 : Index := 1#32
  let c0_740 : Index := 0#32
  let c0_741 : Index := 0#32
  ![0, v767.toNat, 3, 1, 0, 0]

def k0_chk77 (v766 : BitVec 32) : Prop :=
  (∀ a, (k0_off142 v766) a + S1x1x1x1x16x128.size a ≤ S4x8x8x2x32x128.size a)
theorem k0_off142_inb : ∀ (v766 : BitVec 32) (k0_hw77 : k0_chk77 v766), ∀ a, (k0_off142 v766) a + S1x1x1x1x16x128.size a ≤ S4x8x8x2x32x128.size a := fun v766 k0_hw77 => k0_hw77

def k0_off143 (v770 : BitVec 32) : Fin 6 → Nat :=
  let c1_744 : Index := 1#32
  let v771 : Index := Scalar.indexCast v770
  let c3_745 : Index := 3#32
  let c1_746 : Index := 1#32
  let c0_747 : Index := 0#32
  let c0_748 : Index := 0#32
  ![1, v771.toNat, 3, 1, 0, 0]

def k0_chk78 (v770 : BitVec 32) : Prop :=
  (∀ a, (k0_off143 v770) a + S1x1x1x1x16x128.size a ≤ S4x8x8x2x32x128.size a)
theorem k0_off143_inb : ∀ (v770 : BitVec 32) (k0_hw78 : k0_chk78 v770), ∀ a, (k0_off143 v770) a + S1x1x1x1x16x128.size a ≤ S4x8x8x2x32x128.size a := fun v770 k0_hw78 => k0_hw78

def k0_off144 (v774 : BitVec 32) : Fin 6 → Nat :=
  let c2_751 : Index := 2#32
  let v775 : Index := Scalar.indexCast v774
  let c3_752 : Index := 3#32
  let c1_753 : Index := 1#32
  let c0_754 : Index := 0#32
  let c0_755 : Index := 0#32
  ![2, v775.toNat, 3, 1, 0, 0]

def k0_chk79 (v774 : BitVec 32) : Prop :=
  (∀ a, (k0_off144 v774) a + S1x1x1x1x16x128.size a ≤ S4x8x8x2x32x128.size a)
theorem k0_off144_inb : ∀ (v774 : BitVec 32) (k0_hw79 : k0_chk79 v774), ∀ a, (k0_off144 v774) a + S1x1x1x1x16x128.size a ≤ S4x8x8x2x32x128.size a := fun v774 k0_hw79 => k0_hw79

def k0_off145 (v778 : BitVec 32) : Fin 6 → Nat :=
  let c3_758 : Index := 3#32
  let v779 : Index := Scalar.indexCast v778
  let c3_759 : Index := 3#32
  let c1_760 : Index := 1#32
  let c0_761 : Index := 0#32
  let c0_762 : Index := 0#32
  ![3, v779.toNat, 3, 1, 0, 0]

def k0_chk80 (v778 : BitVec 32) : Prop :=
  (∀ a, (k0_off145 v778) a + S1x1x1x1x16x128.size a ≤ S4x8x8x2x32x128.size a)
theorem k0_off145_inb : ∀ (v778 : BitVec 32) (k0_hw80 : k0_chk80 v778), ∀ a, (k0_off145 v778) a + S1x1x1x1x16x128.size a ≤ S4x8x8x2x32x128.size a := fun v778 k0_hw80 => k0_hw80

def k0_off146 (v785 : BitVec 32) : Fin 6 → Nat :=
  let c0_765 : Index := 0#32
  let v786 : Index := Scalar.indexCast v785
  let c4_766 : Index := 4#32
  let c1_767 : Index := 1#32
  let c0_768 : Index := 0#32
  let c0_769 : Index := 0#32
  ![0, v786.toNat, 4, 1, 0, 0]

def k0_chk81 (v785 : BitVec 32) : Prop :=
  (∀ a, (k0_off146 v785) a + S1x1x1x1x16x128.size a ≤ S4x8x8x2x32x128.size a)
theorem k0_off146_inb : ∀ (v785 : BitVec 32) (k0_hw81 : k0_chk81 v785), ∀ a, (k0_off146 v785) a + S1x1x1x1x16x128.size a ≤ S4x8x8x2x32x128.size a := fun v785 k0_hw81 => k0_hw81

def k0_off147 (v789 : BitVec 32) : Fin 6 → Nat :=
  let c1_772 : Index := 1#32
  let v790 : Index := Scalar.indexCast v789
  let c4_773 : Index := 4#32
  let c1_774 : Index := 1#32
  let c0_775 : Index := 0#32
  let c0_776 : Index := 0#32
  ![1, v790.toNat, 4, 1, 0, 0]

def k0_chk82 (v789 : BitVec 32) : Prop :=
  (∀ a, (k0_off147 v789) a + S1x1x1x1x16x128.size a ≤ S4x8x8x2x32x128.size a)
theorem k0_off147_inb : ∀ (v789 : BitVec 32) (k0_hw82 : k0_chk82 v789), ∀ a, (k0_off147 v789) a + S1x1x1x1x16x128.size a ≤ S4x8x8x2x32x128.size a := fun v789 k0_hw82 => k0_hw82

def k0_off148 (v793 : BitVec 32) : Fin 6 → Nat :=
  let c2_779 : Index := 2#32
  let v794 : Index := Scalar.indexCast v793
  let c4_780 : Index := 4#32
  let c1_781 : Index := 1#32
  let c0_782 : Index := 0#32
  let c0_783 : Index := 0#32
  ![2, v794.toNat, 4, 1, 0, 0]

def k0_chk83 (v793 : BitVec 32) : Prop :=
  (∀ a, (k0_off148 v793) a + S1x1x1x1x16x128.size a ≤ S4x8x8x2x32x128.size a)
theorem k0_off148_inb : ∀ (v793 : BitVec 32) (k0_hw83 : k0_chk83 v793), ∀ a, (k0_off148 v793) a + S1x1x1x1x16x128.size a ≤ S4x8x8x2x32x128.size a := fun v793 k0_hw83 => k0_hw83

def k0_off149 (v797 : BitVec 32) : Fin 6 → Nat :=
  let c3_786 : Index := 3#32
  let v798 : Index := Scalar.indexCast v797
  let c4_787 : Index := 4#32
  let c1_788 : Index := 1#32
  let c0_789 : Index := 0#32
  let c0_790 : Index := 0#32
  ![3, v798.toNat, 4, 1, 0, 0]

def k0_chk84 (v797 : BitVec 32) : Prop :=
  (∀ a, (k0_off149 v797) a + S1x1x1x1x16x128.size a ≤ S4x8x8x2x32x128.size a)
theorem k0_off149_inb : ∀ (v797 : BitVec 32) (k0_hw84 : k0_chk84 v797), ∀ a, (k0_off149 v797) a + S1x1x1x1x16x128.size a ≤ S4x8x8x2x32x128.size a := fun v797 k0_hw84 => k0_hw84

def k0_off150 (v804 : BitVec 32) : Fin 6 → Nat :=
  let c0_793 : Index := 0#32
  let v805 : Index := Scalar.indexCast v804
  let c5_794 : Index := 5#32
  let c1_795 : Index := 1#32
  let c0_796 : Index := 0#32
  let c0_797 : Index := 0#32
  ![0, v805.toNat, 5, 1, 0, 0]

def k0_chk85 (v804 : BitVec 32) : Prop :=
  (∀ a, (k0_off150 v804) a + S1x1x1x1x16x128.size a ≤ S4x8x8x2x32x128.size a)
theorem k0_off150_inb : ∀ (v804 : BitVec 32) (k0_hw85 : k0_chk85 v804), ∀ a, (k0_off150 v804) a + S1x1x1x1x16x128.size a ≤ S4x8x8x2x32x128.size a := fun v804 k0_hw85 => k0_hw85

def k0_off151 (v808 : BitVec 32) : Fin 6 → Nat :=
  let c1_800 : Index := 1#32
  let v809 : Index := Scalar.indexCast v808
  let c5_801 : Index := 5#32
  let c1_802 : Index := 1#32
  let c0_803 : Index := 0#32
  let c0_804 : Index := 0#32
  ![1, v809.toNat, 5, 1, 0, 0]

def k0_chk86 (v808 : BitVec 32) : Prop :=
  (∀ a, (k0_off151 v808) a + S1x1x1x1x16x128.size a ≤ S4x8x8x2x32x128.size a)
theorem k0_off151_inb : ∀ (v808 : BitVec 32) (k0_hw86 : k0_chk86 v808), ∀ a, (k0_off151 v808) a + S1x1x1x1x16x128.size a ≤ S4x8x8x2x32x128.size a := fun v808 k0_hw86 => k0_hw86

def k0_off152 (v812 : BitVec 32) : Fin 6 → Nat :=
  let c2_807 : Index := 2#32
  let v813 : Index := Scalar.indexCast v812
  let c5_808 : Index := 5#32
  let c1_809 : Index := 1#32
  let c0_810 : Index := 0#32
  let c0_811 : Index := 0#32
  ![2, v813.toNat, 5, 1, 0, 0]

def k0_chk87 (v812 : BitVec 32) : Prop :=
  (∀ a, (k0_off152 v812) a + S1x1x1x1x16x128.size a ≤ S4x8x8x2x32x128.size a)
theorem k0_off152_inb : ∀ (v812 : BitVec 32) (k0_hw87 : k0_chk87 v812), ∀ a, (k0_off152 v812) a + S1x1x1x1x16x128.size a ≤ S4x8x8x2x32x128.size a := fun v812 k0_hw87 => k0_hw87

def k0_off153 (v816 : BitVec 32) : Fin 6 → Nat :=
  let c3_814 : Index := 3#32
  let v817 : Index := Scalar.indexCast v816
  let c5_815 : Index := 5#32
  let c1_816 : Index := 1#32
  let c0_817 : Index := 0#32
  let c0_818 : Index := 0#32
  ![3, v817.toNat, 5, 1, 0, 0]

def k0_chk88 (v816 : BitVec 32) : Prop :=
  (∀ a, (k0_off153 v816) a + S1x1x1x1x16x128.size a ≤ S4x8x8x2x32x128.size a)
theorem k0_off153_inb : ∀ (v816 : BitVec 32) (k0_hw88 : k0_chk88 v816), ∀ a, (k0_off153 v816) a + S1x1x1x1x16x128.size a ≤ S4x8x8x2x32x128.size a := fun v816 k0_hw88 => k0_hw88

def k0_off154 (v823 : BitVec 32) : Fin 6 → Nat :=
  let c0_821 : Index := 0#32
  let v824 : Index := Scalar.indexCast v823
  let c6_822 : Index := 6#32
  let c1_823 : Index := 1#32
  let c0_824 : Index := 0#32
  let c0_825 : Index := 0#32
  ![0, v824.toNat, 6, 1, 0, 0]

def k0_chk89 (v823 : BitVec 32) : Prop :=
  (∀ a, (k0_off154 v823) a + S1x1x1x1x16x128.size a ≤ S4x8x8x2x32x128.size a)
theorem k0_off154_inb : ∀ (v823 : BitVec 32) (k0_hw89 : k0_chk89 v823), ∀ a, (k0_off154 v823) a + S1x1x1x1x16x128.size a ≤ S4x8x8x2x32x128.size a := fun v823 k0_hw89 => k0_hw89

def k0_off155 (v827 : BitVec 32) : Fin 6 → Nat :=
  let c1_828 : Index := 1#32
  let v828 : Index := Scalar.indexCast v827
  let c6_829 : Index := 6#32
  let c1_830 : Index := 1#32
  let c0_831 : Index := 0#32
  let c0_832 : Index := 0#32
  ![1, v828.toNat, 6, 1, 0, 0]

def k0_chk90 (v827 : BitVec 32) : Prop :=
  (∀ a, (k0_off155 v827) a + S1x1x1x1x16x128.size a ≤ S4x8x8x2x32x128.size a)
theorem k0_off155_inb : ∀ (v827 : BitVec 32) (k0_hw90 : k0_chk90 v827), ∀ a, (k0_off155 v827) a + S1x1x1x1x16x128.size a ≤ S4x8x8x2x32x128.size a := fun v827 k0_hw90 => k0_hw90

def k0_off156 (v831 : BitVec 32) : Fin 6 → Nat :=
  let c2_835 : Index := 2#32
  let v832 : Index := Scalar.indexCast v831
  let c6_836 : Index := 6#32
  let c1_837 : Index := 1#32
  let c0_838 : Index := 0#32
  let c0_839 : Index := 0#32
  ![2, v832.toNat, 6, 1, 0, 0]

def k0_chk91 (v831 : BitVec 32) : Prop :=
  (∀ a, (k0_off156 v831) a + S1x1x1x1x16x128.size a ≤ S4x8x8x2x32x128.size a)
theorem k0_off156_inb : ∀ (v831 : BitVec 32) (k0_hw91 : k0_chk91 v831), ∀ a, (k0_off156 v831) a + S1x1x1x1x16x128.size a ≤ S4x8x8x2x32x128.size a := fun v831 k0_hw91 => k0_hw91

def k0_off157 (v835 : BitVec 32) : Fin 6 → Nat :=
  let c3_842 : Index := 3#32
  let v836 : Index := Scalar.indexCast v835
  let c6_843 : Index := 6#32
  let c1_844 : Index := 1#32
  let c0_845 : Index := 0#32
  let c0_846 : Index := 0#32
  ![3, v836.toNat, 6, 1, 0, 0]

def k0_chk92 (v835 : BitVec 32) : Prop :=
  (∀ a, (k0_off157 v835) a + S1x1x1x1x16x128.size a ≤ S4x8x8x2x32x128.size a)
theorem k0_off157_inb : ∀ (v835 : BitVec 32) (k0_hw92 : k0_chk92 v835), ∀ a, (k0_off157 v835) a + S1x1x1x1x16x128.size a ≤ S4x8x8x2x32x128.size a := fun v835 k0_hw92 => k0_hw92

def k0_off158 (v842 : BitVec 32) : Fin 6 → Nat :=
  let c0_849 : Index := 0#32
  let v843 : Index := Scalar.indexCast v842
  let c7_850 : Index := 7#32
  let c1_851 : Index := 1#32
  let c0_852 : Index := 0#32
  let c0_853 : Index := 0#32
  ![0, v843.toNat, 7, 1, 0, 0]

def k0_chk93 (v842 : BitVec 32) : Prop :=
  (∀ a, (k0_off158 v842) a + S1x1x1x1x16x128.size a ≤ S4x8x8x2x32x128.size a)
theorem k0_off158_inb : ∀ (v842 : BitVec 32) (k0_hw93 : k0_chk93 v842), ∀ a, (k0_off158 v842) a + S1x1x1x1x16x128.size a ≤ S4x8x8x2x32x128.size a := fun v842 k0_hw93 => k0_hw93

def k0_off159 (v846 : BitVec 32) : Fin 6 → Nat :=
  let c1_856 : Index := 1#32
  let v847 : Index := Scalar.indexCast v846
  let c7_857 : Index := 7#32
  let c1_858 : Index := 1#32
  let c0_859 : Index := 0#32
  let c0_860 : Index := 0#32
  ![1, v847.toNat, 7, 1, 0, 0]

def k0_chk94 (v846 : BitVec 32) : Prop :=
  (∀ a, (k0_off159 v846) a + S1x1x1x1x16x128.size a ≤ S4x8x8x2x32x128.size a)
theorem k0_off159_inb : ∀ (v846 : BitVec 32) (k0_hw94 : k0_chk94 v846), ∀ a, (k0_off159 v846) a + S1x1x1x1x16x128.size a ≤ S4x8x8x2x32x128.size a := fun v846 k0_hw94 => k0_hw94

def k0_off160 (v850 : BitVec 32) : Fin 6 → Nat :=
  let c2_863 : Index := 2#32
  let v851 : Index := Scalar.indexCast v850
  let c7_864 : Index := 7#32
  let c1_865 : Index := 1#32
  let c0_866 : Index := 0#32
  let c0_867 : Index := 0#32
  ![2, v851.toNat, 7, 1, 0, 0]

def k0_chk95 (v850 : BitVec 32) : Prop :=
  (∀ a, (k0_off160 v850) a + S1x1x1x1x16x128.size a ≤ S4x8x8x2x32x128.size a)
theorem k0_off160_inb : ∀ (v850 : BitVec 32) (k0_hw95 : k0_chk95 v850), ∀ a, (k0_off160 v850) a + S1x1x1x1x16x128.size a ≤ S4x8x8x2x32x128.size a := fun v850 k0_hw95 => k0_hw95

def k0_off161 (v854 : BitVec 32) : Fin 6 → Nat :=
  let c3_870 : Index := 3#32
  let v855 : Index := Scalar.indexCast v854
  let c7_871 : Index := 7#32
  let c1_872 : Index := 1#32
  let c0_873 : Index := 0#32
  let c0_874 : Index := 0#32
  ![3, v855.toNat, 7, 1, 0, 0]

def k0_chk96 (v854 : BitVec 32) : Prop :=
  (∀ a, (k0_off161 v854) a + S1x1x1x1x16x128.size a ≤ S4x8x8x2x32x128.size a)
theorem k0_off161_inb : ∀ (v854 : BitVec 32) (k0_hw96 : k0_chk96 v854), ∀ a, (k0_off161 v854) a + S1x1x1x1x16x128.size a ≤ S4x8x8x2x32x128.size a := fun v854 k0_hw96 => k0_hw96

def k0_off162 (v1061 : BitVec 32) : Fin 6 → Nat :=
  let c0_989 : Index := 0#32
  let v1062 : Index := Scalar.indexCast v1061
  let c0_990 : Index := 0#32
  let c1_991 : Index := 1#32
  let c16_992 : Index := 16#32
  let c0_993 : Index := 0#32
  ![0, v1062.toNat, 0, 1, 16, 0]

def k0_chk97 (v1061 : BitVec 32) : Prop :=
  (∀ a, (k0_off162 v1061) a + S1x1x1x1x16x128.size a ≤ S4x8x8x2x32x128.size a)
theorem k0_off162_inb : ∀ (v1061 : BitVec 32) (k0_hw97 : k0_chk97 v1061), ∀ a, (k0_off162 v1061) a + S1x1x1x1x16x128.size a ≤ S4x8x8x2x32x128.size a := fun v1061 k0_hw97 => k0_hw97

def k0_off163 (v1065 : BitVec 32) : Fin 6 → Nat :=
  let c1_996 : Index := 1#32
  let v1066 : Index := Scalar.indexCast v1065
  let c0_997 : Index := 0#32
  let c1_998 : Index := 1#32
  let c16_999 : Index := 16#32
  let c0_1000 : Index := 0#32
  ![1, v1066.toNat, 0, 1, 16, 0]

def k0_chk98 (v1065 : BitVec 32) : Prop :=
  (∀ a, (k0_off163 v1065) a + S1x1x1x1x16x128.size a ≤ S4x8x8x2x32x128.size a)
theorem k0_off163_inb : ∀ (v1065 : BitVec 32) (k0_hw98 : k0_chk98 v1065), ∀ a, (k0_off163 v1065) a + S1x1x1x1x16x128.size a ≤ S4x8x8x2x32x128.size a := fun v1065 k0_hw98 => k0_hw98

def k0_off164 (v1069 : BitVec 32) : Fin 6 → Nat :=
  let c2_1003 : Index := 2#32
  let v1070 : Index := Scalar.indexCast v1069
  let c0_1004 : Index := 0#32
  let c1_1005 : Index := 1#32
  let c16_1006 : Index := 16#32
  let c0_1007 : Index := 0#32
  ![2, v1070.toNat, 0, 1, 16, 0]

def k0_chk99 (v1069 : BitVec 32) : Prop :=
  (∀ a, (k0_off164 v1069) a + S1x1x1x1x16x128.size a ≤ S4x8x8x2x32x128.size a)
theorem k0_off164_inb : ∀ (v1069 : BitVec 32) (k0_hw99 : k0_chk99 v1069), ∀ a, (k0_off164 v1069) a + S1x1x1x1x16x128.size a ≤ S4x8x8x2x32x128.size a := fun v1069 k0_hw99 => k0_hw99

def k0_off165 (v1073 : BitVec 32) : Fin 6 → Nat :=
  let c3_1010 : Index := 3#32
  let v1074 : Index := Scalar.indexCast v1073
  let c0_1011 : Index := 0#32
  let c1_1012 : Index := 1#32
  let c16_1013 : Index := 16#32
  let c0_1014 : Index := 0#32
  ![3, v1074.toNat, 0, 1, 16, 0]

def k0_chk100 (v1073 : BitVec 32) : Prop :=
  (∀ a, (k0_off165 v1073) a + S1x1x1x1x16x128.size a ≤ S4x8x8x2x32x128.size a)
theorem k0_off165_inb : ∀ (v1073 : BitVec 32) (k0_hw100 : k0_chk100 v1073), ∀ a, (k0_off165 v1073) a + S1x1x1x1x16x128.size a ≤ S4x8x8x2x32x128.size a := fun v1073 k0_hw100 => k0_hw100

def k0_off166 (v1080 : BitVec 32) : Fin 6 → Nat :=
  let c0_1017 : Index := 0#32
  let v1081 : Index := Scalar.indexCast v1080
  let c1_1018 : Index := 1#32
  let c1_1019 : Index := 1#32
  let c16_1020 : Index := 16#32
  let c0_1021 : Index := 0#32
  ![0, v1081.toNat, 1, 1, 16, 0]

def k0_chk101 (v1080 : BitVec 32) : Prop :=
  (∀ a, (k0_off166 v1080) a + S1x1x1x1x16x128.size a ≤ S4x8x8x2x32x128.size a)
theorem k0_off166_inb : ∀ (v1080 : BitVec 32) (k0_hw101 : k0_chk101 v1080), ∀ a, (k0_off166 v1080) a + S1x1x1x1x16x128.size a ≤ S4x8x8x2x32x128.size a := fun v1080 k0_hw101 => k0_hw101

def k0_off167 (v1084 : BitVec 32) : Fin 6 → Nat :=
  let c1_1024 : Index := 1#32
  let v1085 : Index := Scalar.indexCast v1084
  let c1_1025 : Index := 1#32
  let c1_1026 : Index := 1#32
  let c16_1027 : Index := 16#32
  let c0_1028 : Index := 0#32
  ![1, v1085.toNat, 1, 1, 16, 0]

def k0_chk102 (v1084 : BitVec 32) : Prop :=
  (∀ a, (k0_off167 v1084) a + S1x1x1x1x16x128.size a ≤ S4x8x8x2x32x128.size a)
theorem k0_off167_inb : ∀ (v1084 : BitVec 32) (k0_hw102 : k0_chk102 v1084), ∀ a, (k0_off167 v1084) a + S1x1x1x1x16x128.size a ≤ S4x8x8x2x32x128.size a := fun v1084 k0_hw102 => k0_hw102

def k0_off168 (v1088 : BitVec 32) : Fin 6 → Nat :=
  let c2_1031 : Index := 2#32
  let v1089 : Index := Scalar.indexCast v1088
  let c1_1032 : Index := 1#32
  let c1_1033 : Index := 1#32
  let c16_1034 : Index := 16#32
  let c0_1035 : Index := 0#32
  ![2, v1089.toNat, 1, 1, 16, 0]

def k0_chk103 (v1088 : BitVec 32) : Prop :=
  (∀ a, (k0_off168 v1088) a + S1x1x1x1x16x128.size a ≤ S4x8x8x2x32x128.size a)
theorem k0_off168_inb : ∀ (v1088 : BitVec 32) (k0_hw103 : k0_chk103 v1088), ∀ a, (k0_off168 v1088) a + S1x1x1x1x16x128.size a ≤ S4x8x8x2x32x128.size a := fun v1088 k0_hw103 => k0_hw103

def k0_off169 (v1092 : BitVec 32) : Fin 6 → Nat :=
  let c3_1038 : Index := 3#32
  let v1093 : Index := Scalar.indexCast v1092
  let c1_1039 : Index := 1#32
  let c1_1040 : Index := 1#32
  let c16_1041 : Index := 16#32
  let c0_1042 : Index := 0#32
  ![3, v1093.toNat, 1, 1, 16, 0]

def k0_chk104 (v1092 : BitVec 32) : Prop :=
  (∀ a, (k0_off169 v1092) a + S1x1x1x1x16x128.size a ≤ S4x8x8x2x32x128.size a)
theorem k0_off169_inb : ∀ (v1092 : BitVec 32) (k0_hw104 : k0_chk104 v1092), ∀ a, (k0_off169 v1092) a + S1x1x1x1x16x128.size a ≤ S4x8x8x2x32x128.size a := fun v1092 k0_hw104 => k0_hw104

def k0_off170 (v1099 : BitVec 32) : Fin 6 → Nat :=
  let c0_1045 : Index := 0#32
  let v1100 : Index := Scalar.indexCast v1099
  let c2_1046 : Index := 2#32
  let c1_1047 : Index := 1#32
  let c16_1048 : Index := 16#32
  let c0_1049 : Index := 0#32
  ![0, v1100.toNat, 2, 1, 16, 0]

def k0_chk105 (v1099 : BitVec 32) : Prop :=
  (∀ a, (k0_off170 v1099) a + S1x1x1x1x16x128.size a ≤ S4x8x8x2x32x128.size a)
theorem k0_off170_inb : ∀ (v1099 : BitVec 32) (k0_hw105 : k0_chk105 v1099), ∀ a, (k0_off170 v1099) a + S1x1x1x1x16x128.size a ≤ S4x8x8x2x32x128.size a := fun v1099 k0_hw105 => k0_hw105

def k0_off171 (v1103 : BitVec 32) : Fin 6 → Nat :=
  let c1_1052 : Index := 1#32
  let v1104 : Index := Scalar.indexCast v1103
  let c2_1053 : Index := 2#32
  let c1_1054 : Index := 1#32
  let c16_1055 : Index := 16#32
  let c0_1056 : Index := 0#32
  ![1, v1104.toNat, 2, 1, 16, 0]

def k0_chk106 (v1103 : BitVec 32) : Prop :=
  (∀ a, (k0_off171 v1103) a + S1x1x1x1x16x128.size a ≤ S4x8x8x2x32x128.size a)
theorem k0_off171_inb : ∀ (v1103 : BitVec 32) (k0_hw106 : k0_chk106 v1103), ∀ a, (k0_off171 v1103) a + S1x1x1x1x16x128.size a ≤ S4x8x8x2x32x128.size a := fun v1103 k0_hw106 => k0_hw106

def k0_off172 (v1107 : BitVec 32) : Fin 6 → Nat :=
  let c2_1059 : Index := 2#32
  let v1108 : Index := Scalar.indexCast v1107
  let c2_1060 : Index := 2#32
  let c1_1061 : Index := 1#32
  let c16_1062 : Index := 16#32
  let c0_1063 : Index := 0#32
  ![2, v1108.toNat, 2, 1, 16, 0]

def k0_chk107 (v1107 : BitVec 32) : Prop :=
  (∀ a, (k0_off172 v1107) a + S1x1x1x1x16x128.size a ≤ S4x8x8x2x32x128.size a)
theorem k0_off172_inb : ∀ (v1107 : BitVec 32) (k0_hw107 : k0_chk107 v1107), ∀ a, (k0_off172 v1107) a + S1x1x1x1x16x128.size a ≤ S4x8x8x2x32x128.size a := fun v1107 k0_hw107 => k0_hw107

def k0_off173 (v1111 : BitVec 32) : Fin 6 → Nat :=
  let c3_1066 : Index := 3#32
  let v1112 : Index := Scalar.indexCast v1111
  let c2_1067 : Index := 2#32
  let c1_1068 : Index := 1#32
  let c16_1069 : Index := 16#32
  let c0_1070 : Index := 0#32
  ![3, v1112.toNat, 2, 1, 16, 0]

def k0_chk108 (v1111 : BitVec 32) : Prop :=
  (∀ a, (k0_off173 v1111) a + S1x1x1x1x16x128.size a ≤ S4x8x8x2x32x128.size a)
theorem k0_off173_inb : ∀ (v1111 : BitVec 32) (k0_hw108 : k0_chk108 v1111), ∀ a, (k0_off173 v1111) a + S1x1x1x1x16x128.size a ≤ S4x8x8x2x32x128.size a := fun v1111 k0_hw108 => k0_hw108

def k0_off174 (v1118 : BitVec 32) : Fin 6 → Nat :=
  let c0_1073 : Index := 0#32
  let v1119 : Index := Scalar.indexCast v1118
  let c3_1074 : Index := 3#32
  let c1_1075 : Index := 1#32
  let c16_1076 : Index := 16#32
  let c0_1077 : Index := 0#32
  ![0, v1119.toNat, 3, 1, 16, 0]

def k0_chk109 (v1118 : BitVec 32) : Prop :=
  (∀ a, (k0_off174 v1118) a + S1x1x1x1x16x128.size a ≤ S4x8x8x2x32x128.size a)
theorem k0_off174_inb : ∀ (v1118 : BitVec 32) (k0_hw109 : k0_chk109 v1118), ∀ a, (k0_off174 v1118) a + S1x1x1x1x16x128.size a ≤ S4x8x8x2x32x128.size a := fun v1118 k0_hw109 => k0_hw109

def k0_off175 (v1122 : BitVec 32) : Fin 6 → Nat :=
  let c1_1080 : Index := 1#32
  let v1123 : Index := Scalar.indexCast v1122
  let c3_1081 : Index := 3#32
  let c1_1082 : Index := 1#32
  let c16_1083 : Index := 16#32
  let c0_1084 : Index := 0#32
  ![1, v1123.toNat, 3, 1, 16, 0]

def k0_chk110 (v1122 : BitVec 32) : Prop :=
  (∀ a, (k0_off175 v1122) a + S1x1x1x1x16x128.size a ≤ S4x8x8x2x32x128.size a)
theorem k0_off175_inb : ∀ (v1122 : BitVec 32) (k0_hw110 : k0_chk110 v1122), ∀ a, (k0_off175 v1122) a + S1x1x1x1x16x128.size a ≤ S4x8x8x2x32x128.size a := fun v1122 k0_hw110 => k0_hw110

def k0_off176 (v1126 : BitVec 32) : Fin 6 → Nat :=
  let c2_1087 : Index := 2#32
  let v1127 : Index := Scalar.indexCast v1126
  let c3_1088 : Index := 3#32
  let c1_1089 : Index := 1#32
  let c16_1090 : Index := 16#32
  let c0_1091 : Index := 0#32
  ![2, v1127.toNat, 3, 1, 16, 0]

def k0_chk111 (v1126 : BitVec 32) : Prop :=
  (∀ a, (k0_off176 v1126) a + S1x1x1x1x16x128.size a ≤ S4x8x8x2x32x128.size a)
theorem k0_off176_inb : ∀ (v1126 : BitVec 32) (k0_hw111 : k0_chk111 v1126), ∀ a, (k0_off176 v1126) a + S1x1x1x1x16x128.size a ≤ S4x8x8x2x32x128.size a := fun v1126 k0_hw111 => k0_hw111

def k0_off177 (v1130 : BitVec 32) : Fin 6 → Nat :=
  let c3_1094 : Index := 3#32
  let v1131 : Index := Scalar.indexCast v1130
  let c3_1095 : Index := 3#32
  let c1_1096 : Index := 1#32
  let c16_1097 : Index := 16#32
  let c0_1098 : Index := 0#32
  ![3, v1131.toNat, 3, 1, 16, 0]

def k0_chk112 (v1130 : BitVec 32) : Prop :=
  (∀ a, (k0_off177 v1130) a + S1x1x1x1x16x128.size a ≤ S4x8x8x2x32x128.size a)
theorem k0_off177_inb : ∀ (v1130 : BitVec 32) (k0_hw112 : k0_chk112 v1130), ∀ a, (k0_off177 v1130) a + S1x1x1x1x16x128.size a ≤ S4x8x8x2x32x128.size a := fun v1130 k0_hw112 => k0_hw112

def k0_off178 (v1137 : BitVec 32) : Fin 6 → Nat :=
  let c0_1101 : Index := 0#32
  let v1138 : Index := Scalar.indexCast v1137
  let c4_1102 : Index := 4#32
  let c1_1103 : Index := 1#32
  let c16_1104 : Index := 16#32
  let c0_1105 : Index := 0#32
  ![0, v1138.toNat, 4, 1, 16, 0]

def k0_chk113 (v1137 : BitVec 32) : Prop :=
  (∀ a, (k0_off178 v1137) a + S1x1x1x1x16x128.size a ≤ S4x8x8x2x32x128.size a)
theorem k0_off178_inb : ∀ (v1137 : BitVec 32) (k0_hw113 : k0_chk113 v1137), ∀ a, (k0_off178 v1137) a + S1x1x1x1x16x128.size a ≤ S4x8x8x2x32x128.size a := fun v1137 k0_hw113 => k0_hw113

def k0_off179 (v1141 : BitVec 32) : Fin 6 → Nat :=
  let c1_1108 : Index := 1#32
  let v1142 : Index := Scalar.indexCast v1141
  let c4_1109 : Index := 4#32
  let c1_1110 : Index := 1#32
  let c16_1111 : Index := 16#32
  let c0_1112 : Index := 0#32
  ![1, v1142.toNat, 4, 1, 16, 0]

def k0_chk114 (v1141 : BitVec 32) : Prop :=
  (∀ a, (k0_off179 v1141) a + S1x1x1x1x16x128.size a ≤ S4x8x8x2x32x128.size a)
theorem k0_off179_inb : ∀ (v1141 : BitVec 32) (k0_hw114 : k0_chk114 v1141), ∀ a, (k0_off179 v1141) a + S1x1x1x1x16x128.size a ≤ S4x8x8x2x32x128.size a := fun v1141 k0_hw114 => k0_hw114

def k0_off180 (v1145 : BitVec 32) : Fin 6 → Nat :=
  let c2_1115 : Index := 2#32
  let v1146 : Index := Scalar.indexCast v1145
  let c4_1116 : Index := 4#32
  let c1_1117 : Index := 1#32
  let c16_1118 : Index := 16#32
  let c0_1119 : Index := 0#32
  ![2, v1146.toNat, 4, 1, 16, 0]

def k0_chk115 (v1145 : BitVec 32) : Prop :=
  (∀ a, (k0_off180 v1145) a + S1x1x1x1x16x128.size a ≤ S4x8x8x2x32x128.size a)
theorem k0_off180_inb : ∀ (v1145 : BitVec 32) (k0_hw115 : k0_chk115 v1145), ∀ a, (k0_off180 v1145) a + S1x1x1x1x16x128.size a ≤ S4x8x8x2x32x128.size a := fun v1145 k0_hw115 => k0_hw115

def k0_off181 (v1149 : BitVec 32) : Fin 6 → Nat :=
  let c3_1122 : Index := 3#32
  let v1150 : Index := Scalar.indexCast v1149
  let c4_1123 : Index := 4#32
  let c1_1124 : Index := 1#32
  let c16_1125 : Index := 16#32
  let c0_1126 : Index := 0#32
  ![3, v1150.toNat, 4, 1, 16, 0]

def k0_chk116 (v1149 : BitVec 32) : Prop :=
  (∀ a, (k0_off181 v1149) a + S1x1x1x1x16x128.size a ≤ S4x8x8x2x32x128.size a)
theorem k0_off181_inb : ∀ (v1149 : BitVec 32) (k0_hw116 : k0_chk116 v1149), ∀ a, (k0_off181 v1149) a + S1x1x1x1x16x128.size a ≤ S4x8x8x2x32x128.size a := fun v1149 k0_hw116 => k0_hw116

def k0_off182 (v1156 : BitVec 32) : Fin 6 → Nat :=
  let c0_1129 : Index := 0#32
  let v1157 : Index := Scalar.indexCast v1156
  let c5_1130 : Index := 5#32
  let c1_1131 : Index := 1#32
  let c16_1132 : Index := 16#32
  let c0_1133 : Index := 0#32
  ![0, v1157.toNat, 5, 1, 16, 0]

def k0_chk117 (v1156 : BitVec 32) : Prop :=
  (∀ a, (k0_off182 v1156) a + S1x1x1x1x16x128.size a ≤ S4x8x8x2x32x128.size a)
theorem k0_off182_inb : ∀ (v1156 : BitVec 32) (k0_hw117 : k0_chk117 v1156), ∀ a, (k0_off182 v1156) a + S1x1x1x1x16x128.size a ≤ S4x8x8x2x32x128.size a := fun v1156 k0_hw117 => k0_hw117

def k0_off183 (v1160 : BitVec 32) : Fin 6 → Nat :=
  let c1_1136 : Index := 1#32
  let v1161 : Index := Scalar.indexCast v1160
  let c5_1137 : Index := 5#32
  let c1_1138 : Index := 1#32
  let c16_1139 : Index := 16#32
  let c0_1140 : Index := 0#32
  ![1, v1161.toNat, 5, 1, 16, 0]

def k0_chk118 (v1160 : BitVec 32) : Prop :=
  (∀ a, (k0_off183 v1160) a + S1x1x1x1x16x128.size a ≤ S4x8x8x2x32x128.size a)
theorem k0_off183_inb : ∀ (v1160 : BitVec 32) (k0_hw118 : k0_chk118 v1160), ∀ a, (k0_off183 v1160) a + S1x1x1x1x16x128.size a ≤ S4x8x8x2x32x128.size a := fun v1160 k0_hw118 => k0_hw118

def k0_off184 (v1164 : BitVec 32) : Fin 6 → Nat :=
  let c2_1143 : Index := 2#32
  let v1165 : Index := Scalar.indexCast v1164
  let c5_1144 : Index := 5#32
  let c1_1145 : Index := 1#32
  let c16_1146 : Index := 16#32
  let c0_1147 : Index := 0#32
  ![2, v1165.toNat, 5, 1, 16, 0]

def k0_chk119 (v1164 : BitVec 32) : Prop :=
  (∀ a, (k0_off184 v1164) a + S1x1x1x1x16x128.size a ≤ S4x8x8x2x32x128.size a)
theorem k0_off184_inb : ∀ (v1164 : BitVec 32) (k0_hw119 : k0_chk119 v1164), ∀ a, (k0_off184 v1164) a + S1x1x1x1x16x128.size a ≤ S4x8x8x2x32x128.size a := fun v1164 k0_hw119 => k0_hw119

def k0_off185 (v1168 : BitVec 32) : Fin 6 → Nat :=
  let c3_1150 : Index := 3#32
  let v1169 : Index := Scalar.indexCast v1168
  let c5_1151 : Index := 5#32
  let c1_1152 : Index := 1#32
  let c16_1153 : Index := 16#32
  let c0_1154 : Index := 0#32
  ![3, v1169.toNat, 5, 1, 16, 0]

def k0_chk120 (v1168 : BitVec 32) : Prop :=
  (∀ a, (k0_off185 v1168) a + S1x1x1x1x16x128.size a ≤ S4x8x8x2x32x128.size a)
theorem k0_off185_inb : ∀ (v1168 : BitVec 32) (k0_hw120 : k0_chk120 v1168), ∀ a, (k0_off185 v1168) a + S1x1x1x1x16x128.size a ≤ S4x8x8x2x32x128.size a := fun v1168 k0_hw120 => k0_hw120

def k0_off186 (v1175 : BitVec 32) : Fin 6 → Nat :=
  let c0_1157 : Index := 0#32
  let v1176 : Index := Scalar.indexCast v1175
  let c6_1158 : Index := 6#32
  let c1_1159 : Index := 1#32
  let c16_1160 : Index := 16#32
  let c0_1161 : Index := 0#32
  ![0, v1176.toNat, 6, 1, 16, 0]

def k0_chk121 (v1175 : BitVec 32) : Prop :=
  (∀ a, (k0_off186 v1175) a + S1x1x1x1x16x128.size a ≤ S4x8x8x2x32x128.size a)
theorem k0_off186_inb : ∀ (v1175 : BitVec 32) (k0_hw121 : k0_chk121 v1175), ∀ a, (k0_off186 v1175) a + S1x1x1x1x16x128.size a ≤ S4x8x8x2x32x128.size a := fun v1175 k0_hw121 => k0_hw121

def k0_off187 (v1179 : BitVec 32) : Fin 6 → Nat :=
  let c1_1164 : Index := 1#32
  let v1180 : Index := Scalar.indexCast v1179
  let c6_1165 : Index := 6#32
  let c1_1166 : Index := 1#32
  let c16_1167 : Index := 16#32
  let c0_1168 : Index := 0#32
  ![1, v1180.toNat, 6, 1, 16, 0]

def k0_chk122 (v1179 : BitVec 32) : Prop :=
  (∀ a, (k0_off187 v1179) a + S1x1x1x1x16x128.size a ≤ S4x8x8x2x32x128.size a)
theorem k0_off187_inb : ∀ (v1179 : BitVec 32) (k0_hw122 : k0_chk122 v1179), ∀ a, (k0_off187 v1179) a + S1x1x1x1x16x128.size a ≤ S4x8x8x2x32x128.size a := fun v1179 k0_hw122 => k0_hw122

def k0_off188 (v1183 : BitVec 32) : Fin 6 → Nat :=
  let c2_1171 : Index := 2#32
  let v1184 : Index := Scalar.indexCast v1183
  let c6_1172 : Index := 6#32
  let c1_1173 : Index := 1#32
  let c16_1174 : Index := 16#32
  let c0_1175 : Index := 0#32
  ![2, v1184.toNat, 6, 1, 16, 0]

def k0_chk123 (v1183 : BitVec 32) : Prop :=
  (∀ a, (k0_off188 v1183) a + S1x1x1x1x16x128.size a ≤ S4x8x8x2x32x128.size a)
theorem k0_off188_inb : ∀ (v1183 : BitVec 32) (k0_hw123 : k0_chk123 v1183), ∀ a, (k0_off188 v1183) a + S1x1x1x1x16x128.size a ≤ S4x8x8x2x32x128.size a := fun v1183 k0_hw123 => k0_hw123

def k0_off189 (v1187 : BitVec 32) : Fin 6 → Nat :=
  let c3_1178 : Index := 3#32
  let v1188 : Index := Scalar.indexCast v1187
  let c6_1179 : Index := 6#32
  let c1_1180 : Index := 1#32
  let c16_1181 : Index := 16#32
  let c0_1182 : Index := 0#32
  ![3, v1188.toNat, 6, 1, 16, 0]

def k0_chk124 (v1187 : BitVec 32) : Prop :=
  (∀ a, (k0_off189 v1187) a + S1x1x1x1x16x128.size a ≤ S4x8x8x2x32x128.size a)
theorem k0_off189_inb : ∀ (v1187 : BitVec 32) (k0_hw124 : k0_chk124 v1187), ∀ a, (k0_off189 v1187) a + S1x1x1x1x16x128.size a ≤ S4x8x8x2x32x128.size a := fun v1187 k0_hw124 => k0_hw124

def k0_off190 (v1194 : BitVec 32) : Fin 6 → Nat :=
  let c0_1185 : Index := 0#32
  let v1195 : Index := Scalar.indexCast v1194
  let c7_1186 : Index := 7#32
  let c1_1187 : Index := 1#32
  let c16_1188 : Index := 16#32
  let c0_1189 : Index := 0#32
  ![0, v1195.toNat, 7, 1, 16, 0]

def k0_chk125 (v1194 : BitVec 32) : Prop :=
  (∀ a, (k0_off190 v1194) a + S1x1x1x1x16x128.size a ≤ S4x8x8x2x32x128.size a)
theorem k0_off190_inb : ∀ (v1194 : BitVec 32) (k0_hw125 : k0_chk125 v1194), ∀ a, (k0_off190 v1194) a + S1x1x1x1x16x128.size a ≤ S4x8x8x2x32x128.size a := fun v1194 k0_hw125 => k0_hw125

def k0_off191 (v1198 : BitVec 32) : Fin 6 → Nat :=
  let c1_1192 : Index := 1#32
  let v1199 : Index := Scalar.indexCast v1198
  let c7_1193 : Index := 7#32
  let c1_1194 : Index := 1#32
  let c16_1195 : Index := 16#32
  let c0_1196 : Index := 0#32
  ![1, v1199.toNat, 7, 1, 16, 0]

def k0_chk126 (v1198 : BitVec 32) : Prop :=
  (∀ a, (k0_off191 v1198) a + S1x1x1x1x16x128.size a ≤ S4x8x8x2x32x128.size a)
theorem k0_off191_inb : ∀ (v1198 : BitVec 32) (k0_hw126 : k0_chk126 v1198), ∀ a, (k0_off191 v1198) a + S1x1x1x1x16x128.size a ≤ S4x8x8x2x32x128.size a := fun v1198 k0_hw126 => k0_hw126

def k0_off192 (v1202 : BitVec 32) : Fin 6 → Nat :=
  let c2_1199 : Index := 2#32
  let v1203 : Index := Scalar.indexCast v1202
  let c7_1200 : Index := 7#32
  let c1_1201 : Index := 1#32
  let c16_1202 : Index := 16#32
  let c0_1203 : Index := 0#32
  ![2, v1203.toNat, 7, 1, 16, 0]

def k0_chk127 (v1202 : BitVec 32) : Prop :=
  (∀ a, (k0_off192 v1202) a + S1x1x1x1x16x128.size a ≤ S4x8x8x2x32x128.size a)
theorem k0_off192_inb : ∀ (v1202 : BitVec 32) (k0_hw127 : k0_chk127 v1202), ∀ a, (k0_off192 v1202) a + S1x1x1x1x16x128.size a ≤ S4x8x8x2x32x128.size a := fun v1202 k0_hw127 => k0_hw127

def k0_off193 (v1206 : BitVec 32) : Fin 6 → Nat :=
  let c3_1206 : Index := 3#32
  let v1207 : Index := Scalar.indexCast v1206
  let c7_1207 : Index := 7#32
  let c1_1208 : Index := 1#32
  let c16_1209 : Index := 16#32
  let c0_1210 : Index := 0#32
  ![3, v1207.toNat, 7, 1, 16, 0]

def k0_chk128 (v1206 : BitVec 32) : Prop :=
  (∀ a, (k0_off193 v1206) a + S1x1x1x1x16x128.size a ≤ S4x8x8x2x32x128.size a)
theorem k0_off193_inb : ∀ (v1206 : BitVec 32) (k0_hw128 : k0_chk128 v1206), ∀ a, (k0_off193 v1206) a + S1x1x1x1x16x128.size a ≤ S4x8x8x2x32x128.size a := fun v1206 k0_hw128 => k0_hw128

@[reducible] def k0_t2_loop : Scf.Loop 32 :=
  let c1_i32_1323 : BitVec 32 := 1#32
  let c11_i32 : BitVec 32 := 11#32
  let v1413 : BitVec 32 := Scalar.addi c1_i32_1323 c11_i32
  let c1_i32_1324 : BitVec 32 := 1#32
  ⟨c1_i32_1323, v1413, c1_i32_1324⟩
def k0_off194 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1488 : Index := Scalar.indexCast arg11
  let c0_1367 : Index := 0#32
  ![v1488.toNat, 0]
def k0_off195 (v1489 : BitVec 32) : Fin 6 → Nat :=
  let c0_1368 : Index := 0#32
  let v1490 : Index := Scalar.indexCast v1489
  let c0_1369 : Index := 0#32
  let c0_1370 : Index := 0#32
  let c0_1371 : Index := 0#32
  let c0_1372 : Index := 0#32
  ![0, v1490.toNat, 0, 0, 0, 0]

def k0_chk129 (v1489 : BitVec 32) : Prop :=
  (∀ a, (k0_off195 v1489) a + S1x1x1x1x16x128.size a ≤ S4x8x8x2x32x128.size a)
theorem k0_off195_inb : ∀ (v1489 : BitVec 32) (k0_hw129 : k0_chk129 v1489), ∀ a, (k0_off195 v1489) a + S1x1x1x1x16x128.size a ≤ S4x8x8x2x32x128.size a := fun v1489 k0_hw129 => k0_hw129

def k0_off196 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1493 : Index := Scalar.indexCast arg11
  let c1_1373 : Index := 1#32
  ![v1493.toNat, 1]
def k0_off197 (v1494 : BitVec 32) : Fin 6 → Nat :=
  let c1_1374 : Index := 1#32
  let v1495 : Index := Scalar.indexCast v1494
  let c0_1375 : Index := 0#32
  let c0_1376 : Index := 0#32
  let c0_1377 : Index := 0#32
  let c0_1378 : Index := 0#32
  ![1, v1495.toNat, 0, 0, 0, 0]

def k0_chk130 (v1494 : BitVec 32) : Prop :=
  (∀ a, (k0_off197 v1494) a + S1x1x1x1x16x128.size a ≤ S4x8x8x2x32x128.size a)
theorem k0_off197_inb : ∀ (v1494 : BitVec 32) (k0_hw130 : k0_chk130 v1494), ∀ a, (k0_off197 v1494) a + S1x1x1x1x16x128.size a ≤ S4x8x8x2x32x128.size a := fun v1494 k0_hw130 => k0_hw130

def k0_off198 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1498 : Index := Scalar.indexCast arg11
  let c2_1379 : Index := 2#32
  ![v1498.toNat, 2]
def k0_off199 (v1499 : BitVec 32) : Fin 6 → Nat :=
  let c2_1380 : Index := 2#32
  let v1500 : Index := Scalar.indexCast v1499
  let c0_1381 : Index := 0#32
  let c0_1382 : Index := 0#32
  let c0_1383 : Index := 0#32
  let c0_1384 : Index := 0#32
  ![2, v1500.toNat, 0, 0, 0, 0]

def k0_chk131 (v1499 : BitVec 32) : Prop :=
  (∀ a, (k0_off199 v1499) a + S1x1x1x1x16x128.size a ≤ S4x8x8x2x32x128.size a)
theorem k0_off199_inb : ∀ (v1499 : BitVec 32) (k0_hw131 : k0_chk131 v1499), ∀ a, (k0_off199 v1499) a + S1x1x1x1x16x128.size a ≤ S4x8x8x2x32x128.size a := fun v1499 k0_hw131 => k0_hw131

def k0_off200 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1503 : Index := Scalar.indexCast arg11
  let c3_1385 : Index := 3#32
  ![v1503.toNat, 3]
def k0_off201 (v1504 : BitVec 32) : Fin 6 → Nat :=
  let c3_1386 : Index := 3#32
  let v1505 : Index := Scalar.indexCast v1504
  let c0_1387 : Index := 0#32
  let c0_1388 : Index := 0#32
  let c0_1389 : Index := 0#32
  let c0_1390 : Index := 0#32
  ![3, v1505.toNat, 0, 0, 0, 0]

def k0_chk132 (v1504 : BitVec 32) : Prop :=
  (∀ a, (k0_off201 v1504) a + S1x1x1x1x16x128.size a ≤ S4x8x8x2x32x128.size a)
theorem k0_off201_inb : ∀ (v1504 : BitVec 32) (k0_hw132 : k0_chk132 v1504), ∀ a, (k0_off201 v1504) a + S1x1x1x1x16x128.size a ≤ S4x8x8x2x32x128.size a := fun v1504 k0_hw132 => k0_hw132

def k0_off202 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1511 : Index := Scalar.indexCast arg11
  let c0_1391 : Index := 0#32
  ![v1511.toNat, 0]
def k0_off203 (v1512 : BitVec 32) : Fin 6 → Nat :=
  let c0_1392 : Index := 0#32
  let v1513 : Index := Scalar.indexCast v1512
  let c1_1393 : Index := 1#32
  let c0_1394 : Index := 0#32
  let c0_1395 : Index := 0#32
  let c0_1396 : Index := 0#32
  ![0, v1513.toNat, 1, 0, 0, 0]

def k0_chk133 (v1512 : BitVec 32) : Prop :=
  (∀ a, (k0_off203 v1512) a + S1x1x1x1x16x128.size a ≤ S4x8x8x2x32x128.size a)
theorem k0_off203_inb : ∀ (v1512 : BitVec 32) (k0_hw133 : k0_chk133 v1512), ∀ a, (k0_off203 v1512) a + S1x1x1x1x16x128.size a ≤ S4x8x8x2x32x128.size a := fun v1512 k0_hw133 => k0_hw133

def k0_off204 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1516 : Index := Scalar.indexCast arg11
  let c1_1397 : Index := 1#32
  ![v1516.toNat, 1]
def k0_off205 (v1517 : BitVec 32) : Fin 6 → Nat :=
  let c1_1398 : Index := 1#32
  let v1518 : Index := Scalar.indexCast v1517
  let c1_1399 : Index := 1#32
  let c0_1400 : Index := 0#32
  let c0_1401 : Index := 0#32
  let c0_1402 : Index := 0#32
  ![1, v1518.toNat, 1, 0, 0, 0]

def k0_chk134 (v1517 : BitVec 32) : Prop :=
  (∀ a, (k0_off205 v1517) a + S1x1x1x1x16x128.size a ≤ S4x8x8x2x32x128.size a)
theorem k0_off205_inb : ∀ (v1517 : BitVec 32) (k0_hw134 : k0_chk134 v1517), ∀ a, (k0_off205 v1517) a + S1x1x1x1x16x128.size a ≤ S4x8x8x2x32x128.size a := fun v1517 k0_hw134 => k0_hw134

def k0_off206 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1521 : Index := Scalar.indexCast arg11
  let c2_1403 : Index := 2#32
  ![v1521.toNat, 2]
def k0_off207 (v1522 : BitVec 32) : Fin 6 → Nat :=
  let c2_1404 : Index := 2#32
  let v1523 : Index := Scalar.indexCast v1522
  let c1_1405 : Index := 1#32
  let c0_1406 : Index := 0#32
  let c0_1407 : Index := 0#32
  let c0_1408 : Index := 0#32
  ![2, v1523.toNat, 1, 0, 0, 0]

def k0_chk135 (v1522 : BitVec 32) : Prop :=
  (∀ a, (k0_off207 v1522) a + S1x1x1x1x16x128.size a ≤ S4x8x8x2x32x128.size a)
theorem k0_off207_inb : ∀ (v1522 : BitVec 32) (k0_hw135 : k0_chk135 v1522), ∀ a, (k0_off207 v1522) a + S1x1x1x1x16x128.size a ≤ S4x8x8x2x32x128.size a := fun v1522 k0_hw135 => k0_hw135

def k0_off208 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1526 : Index := Scalar.indexCast arg11
  let c3_1409 : Index := 3#32
  ![v1526.toNat, 3]
def k0_off209 (v1527 : BitVec 32) : Fin 6 → Nat :=
  let c3_1410 : Index := 3#32
  let v1528 : Index := Scalar.indexCast v1527
  let c1_1411 : Index := 1#32
  let c0_1412 : Index := 0#32
  let c0_1413 : Index := 0#32
  let c0_1414 : Index := 0#32
  ![3, v1528.toNat, 1, 0, 0, 0]

def k0_chk136 (v1527 : BitVec 32) : Prop :=
  (∀ a, (k0_off209 v1527) a + S1x1x1x1x16x128.size a ≤ S4x8x8x2x32x128.size a)
theorem k0_off209_inb : ∀ (v1527 : BitVec 32) (k0_hw136 : k0_chk136 v1527), ∀ a, (k0_off209 v1527) a + S1x1x1x1x16x128.size a ≤ S4x8x8x2x32x128.size a := fun v1527 k0_hw136 => k0_hw136

def k0_off210 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1534 : Index := Scalar.indexCast arg11
  let c0_1415 : Index := 0#32
  ![v1534.toNat, 0]
def k0_off211 (v1535 : BitVec 32) : Fin 6 → Nat :=
  let c0_1416 : Index := 0#32
  let v1536 : Index := Scalar.indexCast v1535
  let c2_1417 : Index := 2#32
  let c0_1418 : Index := 0#32
  let c0_1419 : Index := 0#32
  let c0_1420 : Index := 0#32
  ![0, v1536.toNat, 2, 0, 0, 0]

def k0_chk137 (v1535 : BitVec 32) : Prop :=
  (∀ a, (k0_off211 v1535) a + S1x1x1x1x16x128.size a ≤ S4x8x8x2x32x128.size a)
theorem k0_off211_inb : ∀ (v1535 : BitVec 32) (k0_hw137 : k0_chk137 v1535), ∀ a, (k0_off211 v1535) a + S1x1x1x1x16x128.size a ≤ S4x8x8x2x32x128.size a := fun v1535 k0_hw137 => k0_hw137

def k0_off212 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1539 : Index := Scalar.indexCast arg11
  let c1_1421 : Index := 1#32
  ![v1539.toNat, 1]
def k0_off213 (v1540 : BitVec 32) : Fin 6 → Nat :=
  let c1_1422 : Index := 1#32
  let v1541 : Index := Scalar.indexCast v1540
  let c2_1423 : Index := 2#32
  let c0_1424 : Index := 0#32
  let c0_1425 : Index := 0#32
  let c0_1426 : Index := 0#32
  ![1, v1541.toNat, 2, 0, 0, 0]

def k0_chk138 (v1540 : BitVec 32) : Prop :=
  (∀ a, (k0_off213 v1540) a + S1x1x1x1x16x128.size a ≤ S4x8x8x2x32x128.size a)
theorem k0_off213_inb : ∀ (v1540 : BitVec 32) (k0_hw138 : k0_chk138 v1540), ∀ a, (k0_off213 v1540) a + S1x1x1x1x16x128.size a ≤ S4x8x8x2x32x128.size a := fun v1540 k0_hw138 => k0_hw138

def k0_off214 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1544 : Index := Scalar.indexCast arg11
  let c2_1427 : Index := 2#32
  ![v1544.toNat, 2]
def k0_off215 (v1545 : BitVec 32) : Fin 6 → Nat :=
  let c2_1428 : Index := 2#32
  let v1546 : Index := Scalar.indexCast v1545
  let c2_1429 : Index := 2#32
  let c0_1430 : Index := 0#32
  let c0_1431 : Index := 0#32
  let c0_1432 : Index := 0#32
  ![2, v1546.toNat, 2, 0, 0, 0]

def k0_chk139 (v1545 : BitVec 32) : Prop :=
  (∀ a, (k0_off215 v1545) a + S1x1x1x1x16x128.size a ≤ S4x8x8x2x32x128.size a)
theorem k0_off215_inb : ∀ (v1545 : BitVec 32) (k0_hw139 : k0_chk139 v1545), ∀ a, (k0_off215 v1545) a + S1x1x1x1x16x128.size a ≤ S4x8x8x2x32x128.size a := fun v1545 k0_hw139 => k0_hw139

def k0_off216 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1549 : Index := Scalar.indexCast arg11
  let c3_1433 : Index := 3#32
  ![v1549.toNat, 3]
def k0_off217 (v1550 : BitVec 32) : Fin 6 → Nat :=
  let c3_1434 : Index := 3#32
  let v1551 : Index := Scalar.indexCast v1550
  let c2_1435 : Index := 2#32
  let c0_1436 : Index := 0#32
  let c0_1437 : Index := 0#32
  let c0_1438 : Index := 0#32
  ![3, v1551.toNat, 2, 0, 0, 0]

def k0_chk140 (v1550 : BitVec 32) : Prop :=
  (∀ a, (k0_off217 v1550) a + S1x1x1x1x16x128.size a ≤ S4x8x8x2x32x128.size a)
theorem k0_off217_inb : ∀ (v1550 : BitVec 32) (k0_hw140 : k0_chk140 v1550), ∀ a, (k0_off217 v1550) a + S1x1x1x1x16x128.size a ≤ S4x8x8x2x32x128.size a := fun v1550 k0_hw140 => k0_hw140

def k0_off218 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1557 : Index := Scalar.indexCast arg11
  let c0_1439 : Index := 0#32
  ![v1557.toNat, 0]
def k0_off219 (v1558 : BitVec 32) : Fin 6 → Nat :=
  let c0_1440 : Index := 0#32
  let v1559 : Index := Scalar.indexCast v1558
  let c3_1441 : Index := 3#32
  let c0_1442 : Index := 0#32
  let c0_1443 : Index := 0#32
  let c0_1444 : Index := 0#32
  ![0, v1559.toNat, 3, 0, 0, 0]

def k0_chk141 (v1558 : BitVec 32) : Prop :=
  (∀ a, (k0_off219 v1558) a + S1x1x1x1x16x128.size a ≤ S4x8x8x2x32x128.size a)
theorem k0_off219_inb : ∀ (v1558 : BitVec 32) (k0_hw141 : k0_chk141 v1558), ∀ a, (k0_off219 v1558) a + S1x1x1x1x16x128.size a ≤ S4x8x8x2x32x128.size a := fun v1558 k0_hw141 => k0_hw141

def k0_off220 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1562 : Index := Scalar.indexCast arg11
  let c1_1445 : Index := 1#32
  ![v1562.toNat, 1]
def k0_off221 (v1563 : BitVec 32) : Fin 6 → Nat :=
  let c1_1446 : Index := 1#32
  let v1564 : Index := Scalar.indexCast v1563
  let c3_1447 : Index := 3#32
  let c0_1448 : Index := 0#32
  let c0_1449 : Index := 0#32
  let c0_1450 : Index := 0#32
  ![1, v1564.toNat, 3, 0, 0, 0]

def k0_chk142 (v1563 : BitVec 32) : Prop :=
  (∀ a, (k0_off221 v1563) a + S1x1x1x1x16x128.size a ≤ S4x8x8x2x32x128.size a)
theorem k0_off221_inb : ∀ (v1563 : BitVec 32) (k0_hw142 : k0_chk142 v1563), ∀ a, (k0_off221 v1563) a + S1x1x1x1x16x128.size a ≤ S4x8x8x2x32x128.size a := fun v1563 k0_hw142 => k0_hw142

def k0_off222 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1567 : Index := Scalar.indexCast arg11
  let c2_1451 : Index := 2#32
  ![v1567.toNat, 2]
def k0_off223 (v1568 : BitVec 32) : Fin 6 → Nat :=
  let c2_1452 : Index := 2#32
  let v1569 : Index := Scalar.indexCast v1568
  let c3_1453 : Index := 3#32
  let c0_1454 : Index := 0#32
  let c0_1455 : Index := 0#32
  let c0_1456 : Index := 0#32
  ![2, v1569.toNat, 3, 0, 0, 0]

def k0_chk143 (v1568 : BitVec 32) : Prop :=
  (∀ a, (k0_off223 v1568) a + S1x1x1x1x16x128.size a ≤ S4x8x8x2x32x128.size a)
theorem k0_off223_inb : ∀ (v1568 : BitVec 32) (k0_hw143 : k0_chk143 v1568), ∀ a, (k0_off223 v1568) a + S1x1x1x1x16x128.size a ≤ S4x8x8x2x32x128.size a := fun v1568 k0_hw143 => k0_hw143

def k0_off224 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1572 : Index := Scalar.indexCast arg11
  let c3_1457 : Index := 3#32
  ![v1572.toNat, 3]
def k0_off225 (v1573 : BitVec 32) : Fin 6 → Nat :=
  let c3_1458 : Index := 3#32
  let v1574 : Index := Scalar.indexCast v1573
  let c3_1459 : Index := 3#32
  let c0_1460 : Index := 0#32
  let c0_1461 : Index := 0#32
  let c0_1462 : Index := 0#32
  ![3, v1574.toNat, 3, 0, 0, 0]

def k0_chk144 (v1573 : BitVec 32) : Prop :=
  (∀ a, (k0_off225 v1573) a + S1x1x1x1x16x128.size a ≤ S4x8x8x2x32x128.size a)
theorem k0_off225_inb : ∀ (v1573 : BitVec 32) (k0_hw144 : k0_chk144 v1573), ∀ a, (k0_off225 v1573) a + S1x1x1x1x16x128.size a ≤ S4x8x8x2x32x128.size a := fun v1573 k0_hw144 => k0_hw144

def k0_off226 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1580 : Index := Scalar.indexCast arg11
  let c0_1463 : Index := 0#32
  ![v1580.toNat, 0]
def k0_off227 (v1581 : BitVec 32) : Fin 6 → Nat :=
  let c0_1464 : Index := 0#32
  let v1582 : Index := Scalar.indexCast v1581
  let c4_1465 : Index := 4#32
  let c0_1466 : Index := 0#32
  let c0_1467 : Index := 0#32
  let c0_1468 : Index := 0#32
  ![0, v1582.toNat, 4, 0, 0, 0]

def k0_chk145 (v1581 : BitVec 32) : Prop :=
  (∀ a, (k0_off227 v1581) a + S1x1x1x1x16x128.size a ≤ S4x8x8x2x32x128.size a)
theorem k0_off227_inb : ∀ (v1581 : BitVec 32) (k0_hw145 : k0_chk145 v1581), ∀ a, (k0_off227 v1581) a + S1x1x1x1x16x128.size a ≤ S4x8x8x2x32x128.size a := fun v1581 k0_hw145 => k0_hw145

def k0_off228 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1585 : Index := Scalar.indexCast arg11
  let c1_1469 : Index := 1#32
  ![v1585.toNat, 1]
def k0_off229 (v1586 : BitVec 32) : Fin 6 → Nat :=
  let c1_1470 : Index := 1#32
  let v1587 : Index := Scalar.indexCast v1586
  let c4_1471 : Index := 4#32
  let c0_1472 : Index := 0#32
  let c0_1473 : Index := 0#32
  let c0_1474 : Index := 0#32
  ![1, v1587.toNat, 4, 0, 0, 0]

def k0_chk146 (v1586 : BitVec 32) : Prop :=
  (∀ a, (k0_off229 v1586) a + S1x1x1x1x16x128.size a ≤ S4x8x8x2x32x128.size a)
theorem k0_off229_inb : ∀ (v1586 : BitVec 32) (k0_hw146 : k0_chk146 v1586), ∀ a, (k0_off229 v1586) a + S1x1x1x1x16x128.size a ≤ S4x8x8x2x32x128.size a := fun v1586 k0_hw146 => k0_hw146

def k0_off230 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1590 : Index := Scalar.indexCast arg11
  let c2_1475 : Index := 2#32
  ![v1590.toNat, 2]
def k0_off231 (v1591 : BitVec 32) : Fin 6 → Nat :=
  let c2_1476 : Index := 2#32
  let v1592 : Index := Scalar.indexCast v1591
  let c4_1477 : Index := 4#32
  let c0_1478 : Index := 0#32
  let c0_1479 : Index := 0#32
  let c0_1480 : Index := 0#32
  ![2, v1592.toNat, 4, 0, 0, 0]

def k0_chk147 (v1591 : BitVec 32) : Prop :=
  (∀ a, (k0_off231 v1591) a + S1x1x1x1x16x128.size a ≤ S4x8x8x2x32x128.size a)
theorem k0_off231_inb : ∀ (v1591 : BitVec 32) (k0_hw147 : k0_chk147 v1591), ∀ a, (k0_off231 v1591) a + S1x1x1x1x16x128.size a ≤ S4x8x8x2x32x128.size a := fun v1591 k0_hw147 => k0_hw147

def k0_off232 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1595 : Index := Scalar.indexCast arg11
  let c3_1481 : Index := 3#32
  ![v1595.toNat, 3]
def k0_off233 (v1596 : BitVec 32) : Fin 6 → Nat :=
  let c3_1482 : Index := 3#32
  let v1597 : Index := Scalar.indexCast v1596
  let c4_1483 : Index := 4#32
  let c0_1484 : Index := 0#32
  let c0_1485 : Index := 0#32
  let c0_1486 : Index := 0#32
  ![3, v1597.toNat, 4, 0, 0, 0]

def k0_chk148 (v1596 : BitVec 32) : Prop :=
  (∀ a, (k0_off233 v1596) a + S1x1x1x1x16x128.size a ≤ S4x8x8x2x32x128.size a)
theorem k0_off233_inb : ∀ (v1596 : BitVec 32) (k0_hw148 : k0_chk148 v1596), ∀ a, (k0_off233 v1596) a + S1x1x1x1x16x128.size a ≤ S4x8x8x2x32x128.size a := fun v1596 k0_hw148 => k0_hw148

def k0_off234 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1603 : Index := Scalar.indexCast arg11
  let c0_1487 : Index := 0#32
  ![v1603.toNat, 0]
def k0_off235 (v1604 : BitVec 32) : Fin 6 → Nat :=
  let c0_1488 : Index := 0#32
  let v1605 : Index := Scalar.indexCast v1604
  let c5_1489 : Index := 5#32
  let c0_1490 : Index := 0#32
  let c0_1491 : Index := 0#32
  let c0_1492 : Index := 0#32
  ![0, v1605.toNat, 5, 0, 0, 0]

def k0_chk149 (v1604 : BitVec 32) : Prop :=
  (∀ a, (k0_off235 v1604) a + S1x1x1x1x16x128.size a ≤ S4x8x8x2x32x128.size a)
theorem k0_off235_inb : ∀ (v1604 : BitVec 32) (k0_hw149 : k0_chk149 v1604), ∀ a, (k0_off235 v1604) a + S1x1x1x1x16x128.size a ≤ S4x8x8x2x32x128.size a := fun v1604 k0_hw149 => k0_hw149

def k0_off236 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1608 : Index := Scalar.indexCast arg11
  let c1_1493 : Index := 1#32
  ![v1608.toNat, 1]
def k0_off237 (v1609 : BitVec 32) : Fin 6 → Nat :=
  let c1_1494 : Index := 1#32
  let v1610 : Index := Scalar.indexCast v1609
  let c5_1495 : Index := 5#32
  let c0_1496 : Index := 0#32
  let c0_1497 : Index := 0#32
  let c0_1498 : Index := 0#32
  ![1, v1610.toNat, 5, 0, 0, 0]

def k0_chk150 (v1609 : BitVec 32) : Prop :=
  (∀ a, (k0_off237 v1609) a + S1x1x1x1x16x128.size a ≤ S4x8x8x2x32x128.size a)
theorem k0_off237_inb : ∀ (v1609 : BitVec 32) (k0_hw150 : k0_chk150 v1609), ∀ a, (k0_off237 v1609) a + S1x1x1x1x16x128.size a ≤ S4x8x8x2x32x128.size a := fun v1609 k0_hw150 => k0_hw150

def k0_off238 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1613 : Index := Scalar.indexCast arg11
  let c2_1499 : Index := 2#32
  ![v1613.toNat, 2]
def k0_off239 (v1614 : BitVec 32) : Fin 6 → Nat :=
  let c2_1500 : Index := 2#32
  let v1615 : Index := Scalar.indexCast v1614
  let c5_1501 : Index := 5#32
  let c0_1502 : Index := 0#32
  let c0_1503 : Index := 0#32
  let c0_1504 : Index := 0#32
  ![2, v1615.toNat, 5, 0, 0, 0]

def k0_chk151 (v1614 : BitVec 32) : Prop :=
  (∀ a, (k0_off239 v1614) a + S1x1x1x1x16x128.size a ≤ S4x8x8x2x32x128.size a)
theorem k0_off239_inb : ∀ (v1614 : BitVec 32) (k0_hw151 : k0_chk151 v1614), ∀ a, (k0_off239 v1614) a + S1x1x1x1x16x128.size a ≤ S4x8x8x2x32x128.size a := fun v1614 k0_hw151 => k0_hw151

def k0_off240 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1618 : Index := Scalar.indexCast arg11
  let c3_1505 : Index := 3#32
  ![v1618.toNat, 3]
def k0_off241 (v1619 : BitVec 32) : Fin 6 → Nat :=
  let c3_1506 : Index := 3#32
  let v1620 : Index := Scalar.indexCast v1619
  let c5_1507 : Index := 5#32
  let c0_1508 : Index := 0#32
  let c0_1509 : Index := 0#32
  let c0_1510 : Index := 0#32
  ![3, v1620.toNat, 5, 0, 0, 0]

def k0_chk152 (v1619 : BitVec 32) : Prop :=
  (∀ a, (k0_off241 v1619) a + S1x1x1x1x16x128.size a ≤ S4x8x8x2x32x128.size a)
theorem k0_off241_inb : ∀ (v1619 : BitVec 32) (k0_hw152 : k0_chk152 v1619), ∀ a, (k0_off241 v1619) a + S1x1x1x1x16x128.size a ≤ S4x8x8x2x32x128.size a := fun v1619 k0_hw152 => k0_hw152

def k0_off242 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1626 : Index := Scalar.indexCast arg11
  let c0_1511 : Index := 0#32
  ![v1626.toNat, 0]
def k0_off243 (v1627 : BitVec 32) : Fin 6 → Nat :=
  let c0_1512 : Index := 0#32
  let v1628 : Index := Scalar.indexCast v1627
  let c6_1513 : Index := 6#32
  let c0_1514 : Index := 0#32
  let c0_1515 : Index := 0#32
  let c0_1516 : Index := 0#32
  ![0, v1628.toNat, 6, 0, 0, 0]

def k0_chk153 (v1627 : BitVec 32) : Prop :=
  (∀ a, (k0_off243 v1627) a + S1x1x1x1x16x128.size a ≤ S4x8x8x2x32x128.size a)
theorem k0_off243_inb : ∀ (v1627 : BitVec 32) (k0_hw153 : k0_chk153 v1627), ∀ a, (k0_off243 v1627) a + S1x1x1x1x16x128.size a ≤ S4x8x8x2x32x128.size a := fun v1627 k0_hw153 => k0_hw153

def k0_off244 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1631 : Index := Scalar.indexCast arg11
  let c1_1517 : Index := 1#32
  ![v1631.toNat, 1]
def k0_off245 (v1632 : BitVec 32) : Fin 6 → Nat :=
  let c1_1518 : Index := 1#32
  let v1633 : Index := Scalar.indexCast v1632
  let c6_1519 : Index := 6#32
  let c0_1520 : Index := 0#32
  let c0_1521 : Index := 0#32
  let c0_1522 : Index := 0#32
  ![1, v1633.toNat, 6, 0, 0, 0]

def k0_chk154 (v1632 : BitVec 32) : Prop :=
  (∀ a, (k0_off245 v1632) a + S1x1x1x1x16x128.size a ≤ S4x8x8x2x32x128.size a)
theorem k0_off245_inb : ∀ (v1632 : BitVec 32) (k0_hw154 : k0_chk154 v1632), ∀ a, (k0_off245 v1632) a + S1x1x1x1x16x128.size a ≤ S4x8x8x2x32x128.size a := fun v1632 k0_hw154 => k0_hw154

def k0_off246 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1636 : Index := Scalar.indexCast arg11
  let c2_1523 : Index := 2#32
  ![v1636.toNat, 2]
def k0_off247 (v1637 : BitVec 32) : Fin 6 → Nat :=
  let c2_1524 : Index := 2#32
  let v1638 : Index := Scalar.indexCast v1637
  let c6_1525 : Index := 6#32
  let c0_1526 : Index := 0#32
  let c0_1527 : Index := 0#32
  let c0_1528 : Index := 0#32
  ![2, v1638.toNat, 6, 0, 0, 0]

def k0_chk155 (v1637 : BitVec 32) : Prop :=
  (∀ a, (k0_off247 v1637) a + S1x1x1x1x16x128.size a ≤ S4x8x8x2x32x128.size a)
theorem k0_off247_inb : ∀ (v1637 : BitVec 32) (k0_hw155 : k0_chk155 v1637), ∀ a, (k0_off247 v1637) a + S1x1x1x1x16x128.size a ≤ S4x8x8x2x32x128.size a := fun v1637 k0_hw155 => k0_hw155

def k0_off248 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1641 : Index := Scalar.indexCast arg11
  let c3_1529 : Index := 3#32
  ![v1641.toNat, 3]
def k0_off249 (v1642 : BitVec 32) : Fin 6 → Nat :=
  let c3_1530 : Index := 3#32
  let v1643 : Index := Scalar.indexCast v1642
  let c6_1531 : Index := 6#32
  let c0_1532 : Index := 0#32
  let c0_1533 : Index := 0#32
  let c0_1534 : Index := 0#32
  ![3, v1643.toNat, 6, 0, 0, 0]

def k0_chk156 (v1642 : BitVec 32) : Prop :=
  (∀ a, (k0_off249 v1642) a + S1x1x1x1x16x128.size a ≤ S4x8x8x2x32x128.size a)
theorem k0_off249_inb : ∀ (v1642 : BitVec 32) (k0_hw156 : k0_chk156 v1642), ∀ a, (k0_off249 v1642) a + S1x1x1x1x16x128.size a ≤ S4x8x8x2x32x128.size a := fun v1642 k0_hw156 => k0_hw156

def k0_off250 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1649 : Index := Scalar.indexCast arg11
  let c0_1535 : Index := 0#32
  ![v1649.toNat, 0]
def k0_off251 (v1650 : BitVec 32) : Fin 6 → Nat :=
  let c0_1536 : Index := 0#32
  let v1651 : Index := Scalar.indexCast v1650
  let c7_1537 : Index := 7#32
  let c0_1538 : Index := 0#32
  let c0_1539 : Index := 0#32
  let c0_1540 : Index := 0#32
  ![0, v1651.toNat, 7, 0, 0, 0]

def k0_chk157 (v1650 : BitVec 32) : Prop :=
  (∀ a, (k0_off251 v1650) a + S1x1x1x1x16x128.size a ≤ S4x8x8x2x32x128.size a)
theorem k0_off251_inb : ∀ (v1650 : BitVec 32) (k0_hw157 : k0_chk157 v1650), ∀ a, (k0_off251 v1650) a + S1x1x1x1x16x128.size a ≤ S4x8x8x2x32x128.size a := fun v1650 k0_hw157 => k0_hw157

def k0_off252 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1654 : Index := Scalar.indexCast arg11
  let c1_1541 : Index := 1#32
  ![v1654.toNat, 1]
def k0_off253 (v1655 : BitVec 32) : Fin 6 → Nat :=
  let c1_1542 : Index := 1#32
  let v1656 : Index := Scalar.indexCast v1655
  let c7_1543 : Index := 7#32
  let c0_1544 : Index := 0#32
  let c0_1545 : Index := 0#32
  let c0_1546 : Index := 0#32
  ![1, v1656.toNat, 7, 0, 0, 0]

def k0_chk158 (v1655 : BitVec 32) : Prop :=
  (∀ a, (k0_off253 v1655) a + S1x1x1x1x16x128.size a ≤ S4x8x8x2x32x128.size a)
theorem k0_off253_inb : ∀ (v1655 : BitVec 32) (k0_hw158 : k0_chk158 v1655), ∀ a, (k0_off253 v1655) a + S1x1x1x1x16x128.size a ≤ S4x8x8x2x32x128.size a := fun v1655 k0_hw158 => k0_hw158

def k0_off254 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1659 : Index := Scalar.indexCast arg11
  let c2_1547 : Index := 2#32
  ![v1659.toNat, 2]
def k0_off255 (v1660 : BitVec 32) : Fin 6 → Nat :=
  let c2_1548 : Index := 2#32
  let v1661 : Index := Scalar.indexCast v1660
  let c7_1549 : Index := 7#32
  let c0_1550 : Index := 0#32
  let c0_1551 : Index := 0#32
  let c0_1552 : Index := 0#32
  ![2, v1661.toNat, 7, 0, 0, 0]

def k0_chk159 (v1660 : BitVec 32) : Prop :=
  (∀ a, (k0_off255 v1660) a + S1x1x1x1x16x128.size a ≤ S4x8x8x2x32x128.size a)
theorem k0_off255_inb : ∀ (v1660 : BitVec 32) (k0_hw159 : k0_chk159 v1660), ∀ a, (k0_off255 v1660) a + S1x1x1x1x16x128.size a ≤ S4x8x8x2x32x128.size a := fun v1660 k0_hw159 => k0_hw159

def k0_off256 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1664 : Index := Scalar.indexCast arg11
  let c3_1553 : Index := 3#32
  ![v1664.toNat, 3]
def k0_off257 (v1665 : BitVec 32) : Fin 6 → Nat :=
  let c3_1554 : Index := 3#32
  let v1666 : Index := Scalar.indexCast v1665
  let c7_1555 : Index := 7#32
  let c0_1556 : Index := 0#32
  let c0_1557 : Index := 0#32
  let c0_1558 : Index := 0#32
  ![3, v1666.toNat, 7, 0, 0, 0]

def k0_chk160 (v1665 : BitVec 32) : Prop :=
  (∀ a, (k0_off257 v1665) a + S1x1x1x1x16x128.size a ≤ S4x8x8x2x32x128.size a)
theorem k0_off257_inb : ∀ (v1665 : BitVec 32) (k0_hw160 : k0_chk160 v1665), ∀ a, (k0_off257 v1665) a + S1x1x1x1x16x128.size a ≤ S4x8x8x2x32x128.size a := fun v1665 k0_hw160 => k0_hw160

def k0_off258 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1709 : Index := Scalar.indexCast v1487
  let c0_1561 : Index := 0#32
  let c0_1562 : Index := 0#32
  let c0_1563 : Index := 0#32
  ![v1709.toNat, 0, 0, 0]
def k0_off259 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1713 : Index := Scalar.indexCast v1487
  let c1_1564 : Index := 1#32
  let c0_1565 : Index := 0#32
  let c0_1566 : Index := 0#32
  ![v1713.toNat, 1, 0, 0]
def k0_off260 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1717 : Index := Scalar.indexCast v1487
  let c2_1567 : Index := 2#32
  let c0_1568 : Index := 0#32
  let c0_1569 : Index := 0#32
  ![v1717.toNat, 2, 0, 0]
def k0_off261 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1734 : Index := Scalar.indexCast v1487
  let c0_1572 : Index := 0#32
  let c32_1573 : Index := 32#32
  let c0_1574 : Index := 0#32
  ![v1734.toNat, 0, 32, 0]
def k0_off262 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1738 : Index := Scalar.indexCast v1487
  let c1_1575 : Index := 1#32
  let c32_1576 : Index := 32#32
  let c0_1577 : Index := 0#32
  ![v1738.toNat, 1, 32, 0]
def k0_off263 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1742 : Index := Scalar.indexCast v1487
  let c2_1578 : Index := 2#32
  let c32_1579 : Index := 32#32
  let c0_1580 : Index := 0#32
  ![v1742.toNat, 2, 32, 0]
def k0_off264 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1759 : Index := Scalar.indexCast v1487
  let c0_1583 : Index := 0#32
  let c64_1584 : Index := 64#32
  let c0_1585 : Index := 0#32
  ![v1759.toNat, 0, 64, 0]
def k0_off265 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1763 : Index := Scalar.indexCast v1487
  let c1_1586 : Index := 1#32
  let c64_1587 : Index := 64#32
  let c0_1588 : Index := 0#32
  ![v1763.toNat, 1, 64, 0]
def k0_off266 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1767 : Index := Scalar.indexCast v1487
  let c2_1589 : Index := 2#32
  let c64_1590 : Index := 64#32
  let c0_1591 : Index := 0#32
  ![v1767.toNat, 2, 64, 0]
def k0_off267 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1784 : Index := Scalar.indexCast v1487
  let c0_1594 : Index := 0#32
  let c96_1595 : Index := 96#32
  let c0_1596 : Index := 0#32
  ![v1784.toNat, 0, 96, 0]
def k0_off268 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1788 : Index := Scalar.indexCast v1487
  let c1_1597 : Index := 1#32
  let c96_1598 : Index := 96#32
  let c0_1599 : Index := 0#32
  ![v1788.toNat, 1, 96, 0]
def k0_off269 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1792 : Index := Scalar.indexCast v1487
  let c2_1600 : Index := 2#32
  let c96_1601 : Index := 96#32
  let c0_1602 : Index := 0#32
  ![v1792.toNat, 2, 96, 0]
def k0_off270 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1809 : Index := Scalar.indexCast v1487
  let c0_1605 : Index := 0#32
  let c128_1606 : Index := 128#32
  let c0_1607 : Index := 0#32
  ![v1809.toNat, 0, 128, 0]
def k0_off271 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1813 : Index := Scalar.indexCast v1487
  let c1_1608 : Index := 1#32
  let c128_1609 : Index := 128#32
  let c0_1610 : Index := 0#32
  ![v1813.toNat, 1, 128, 0]
def k0_off272 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1817 : Index := Scalar.indexCast v1487
  let c2_1611 : Index := 2#32
  let c128_1612 : Index := 128#32
  let c0_1613 : Index := 0#32
  ![v1817.toNat, 2, 128, 0]
def k0_off273 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1834 : Index := Scalar.indexCast v1487
  let c0_1616 : Index := 0#32
  let c160_1617 : Index := 160#32
  let c0_1618 : Index := 0#32
  ![v1834.toNat, 0, 160, 0]
def k0_off274 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1838 : Index := Scalar.indexCast v1487
  let c1_1619 : Index := 1#32
  let c160_1620 : Index := 160#32
  let c0_1621 : Index := 0#32
  ![v1838.toNat, 1, 160, 0]
def k0_off275 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1842 : Index := Scalar.indexCast v1487
  let c2_1622 : Index := 2#32
  let c160_1623 : Index := 160#32
  let c0_1624 : Index := 0#32
  ![v1842.toNat, 2, 160, 0]
def k0_off276 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1859 : Index := Scalar.indexCast v1487
  let c0_1627 : Index := 0#32
  let c192_1628 : Index := 192#32
  let c0_1629 : Index := 0#32
  ![v1859.toNat, 0, 192, 0]
def k0_off277 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1863 : Index := Scalar.indexCast v1487
  let c1_1630 : Index := 1#32
  let c192_1631 : Index := 192#32
  let c0_1632 : Index := 0#32
  ![v1863.toNat, 1, 192, 0]
def k0_off278 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1867 : Index := Scalar.indexCast v1487
  let c2_1633 : Index := 2#32
  let c192_1634 : Index := 192#32
  let c0_1635 : Index := 0#32
  ![v1867.toNat, 2, 192, 0]
def k0_off279 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1884 : Index := Scalar.indexCast v1487
  let c0_1638 : Index := 0#32
  let c224_1639 : Index := 224#32
  let c0_1640 : Index := 0#32
  ![v1884.toNat, 0, 224, 0]
def k0_off280 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1888 : Index := Scalar.indexCast v1487
  let c1_1641 : Index := 1#32
  let c224_1642 : Index := 224#32
  let c0_1643 : Index := 0#32
  ![v1888.toNat, 1, 224, 0]
def k0_off281 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v1892 : Index := Scalar.indexCast v1487
  let c2_1644 : Index := 2#32
  let c224_1645 : Index := 224#32
  let c0_1646 : Index := 0#32
  ![v1892.toNat, 2, 224, 0]
def k0_off282 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1896 : Index := Scalar.indexCast arg11
  let c0_1647 : Index := 0#32
  ![v1896.toNat, 0]
def k0_off283 (v1897 : BitVec 32) : Fin 6 → Nat :=
  let c0_1648 : Index := 0#32
  let v1898 : Index := Scalar.indexCast v1897
  let c0_1649 : Index := 0#32
  let c0_1650 : Index := 0#32
  let c16_1651 : Index := 16#32
  let c0_1652 : Index := 0#32
  ![0, v1898.toNat, 0, 0, 16, 0]

def k0_chk161 (v1897 : BitVec 32) : Prop :=
  (∀ a, (k0_off283 v1897) a + S1x1x1x1x16x128.size a ≤ S4x8x8x2x32x128.size a)
theorem k0_off283_inb : ∀ (v1897 : BitVec 32) (k0_hw161 : k0_chk161 v1897), ∀ a, (k0_off283 v1897) a + S1x1x1x1x16x128.size a ≤ S4x8x8x2x32x128.size a := fun v1897 k0_hw161 => k0_hw161

def k0_off284 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1901 : Index := Scalar.indexCast arg11
  let c1_1653 : Index := 1#32
  ![v1901.toNat, 1]
def k0_off285 (v1902 : BitVec 32) : Fin 6 → Nat :=
  let c1_1654 : Index := 1#32
  let v1903 : Index := Scalar.indexCast v1902
  let c0_1655 : Index := 0#32
  let c0_1656 : Index := 0#32
  let c16_1657 : Index := 16#32
  let c0_1658 : Index := 0#32
  ![1, v1903.toNat, 0, 0, 16, 0]

def k0_chk162 (v1902 : BitVec 32) : Prop :=
  (∀ a, (k0_off285 v1902) a + S1x1x1x1x16x128.size a ≤ S4x8x8x2x32x128.size a)
theorem k0_off285_inb : ∀ (v1902 : BitVec 32) (k0_hw162 : k0_chk162 v1902), ∀ a, (k0_off285 v1902) a + S1x1x1x1x16x128.size a ≤ S4x8x8x2x32x128.size a := fun v1902 k0_hw162 => k0_hw162

def k0_off286 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1906 : Index := Scalar.indexCast arg11
  let c2_1659 : Index := 2#32
  ![v1906.toNat, 2]
def k0_off287 (v1907 : BitVec 32) : Fin 6 → Nat :=
  let c2_1660 : Index := 2#32
  let v1908 : Index := Scalar.indexCast v1907
  let c0_1661 : Index := 0#32
  let c0_1662 : Index := 0#32
  let c16_1663 : Index := 16#32
  let c0_1664 : Index := 0#32
  ![2, v1908.toNat, 0, 0, 16, 0]

def k0_chk163 (v1907 : BitVec 32) : Prop :=
  (∀ a, (k0_off287 v1907) a + S1x1x1x1x16x128.size a ≤ S4x8x8x2x32x128.size a)
theorem k0_off287_inb : ∀ (v1907 : BitVec 32) (k0_hw163 : k0_chk163 v1907), ∀ a, (k0_off287 v1907) a + S1x1x1x1x16x128.size a ≤ S4x8x8x2x32x128.size a := fun v1907 k0_hw163 => k0_hw163

def k0_off288 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1911 : Index := Scalar.indexCast arg11
  let c3_1665 : Index := 3#32
  ![v1911.toNat, 3]
def k0_off289 (v1912 : BitVec 32) : Fin 6 → Nat :=
  let c3_1666 : Index := 3#32
  let v1913 : Index := Scalar.indexCast v1912
  let c0_1667 : Index := 0#32
  let c0_1668 : Index := 0#32
  let c16_1669 : Index := 16#32
  let c0_1670 : Index := 0#32
  ![3, v1913.toNat, 0, 0, 16, 0]

def k0_chk164 (v1912 : BitVec 32) : Prop :=
  (∀ a, (k0_off289 v1912) a + S1x1x1x1x16x128.size a ≤ S4x8x8x2x32x128.size a)
theorem k0_off289_inb : ∀ (v1912 : BitVec 32) (k0_hw164 : k0_chk164 v1912), ∀ a, (k0_off289 v1912) a + S1x1x1x1x16x128.size a ≤ S4x8x8x2x32x128.size a := fun v1912 k0_hw164 => k0_hw164

def k0_off290 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1919 : Index := Scalar.indexCast arg11
  let c0_1671 : Index := 0#32
  ![v1919.toNat, 0]
def k0_off291 (v1920 : BitVec 32) : Fin 6 → Nat :=
  let c0_1672 : Index := 0#32
  let v1921 : Index := Scalar.indexCast v1920
  let c1_1673 : Index := 1#32
  let c0_1674 : Index := 0#32
  let c16_1675 : Index := 16#32
  let c0_1676 : Index := 0#32
  ![0, v1921.toNat, 1, 0, 16, 0]

def k0_chk165 (v1920 : BitVec 32) : Prop :=
  (∀ a, (k0_off291 v1920) a + S1x1x1x1x16x128.size a ≤ S4x8x8x2x32x128.size a)
theorem k0_off291_inb : ∀ (v1920 : BitVec 32) (k0_hw165 : k0_chk165 v1920), ∀ a, (k0_off291 v1920) a + S1x1x1x1x16x128.size a ≤ S4x8x8x2x32x128.size a := fun v1920 k0_hw165 => k0_hw165

def k0_off292 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1924 : Index := Scalar.indexCast arg11
  let c1_1677 : Index := 1#32
  ![v1924.toNat, 1]
def k0_off293 (v1925 : BitVec 32) : Fin 6 → Nat :=
  let c1_1678 : Index := 1#32
  let v1926 : Index := Scalar.indexCast v1925
  let c1_1679 : Index := 1#32
  let c0_1680 : Index := 0#32
  let c16_1681 : Index := 16#32
  let c0_1682 : Index := 0#32
  ![1, v1926.toNat, 1, 0, 16, 0]

def k0_chk166 (v1925 : BitVec 32) : Prop :=
  (∀ a, (k0_off293 v1925) a + S1x1x1x1x16x128.size a ≤ S4x8x8x2x32x128.size a)
theorem k0_off293_inb : ∀ (v1925 : BitVec 32) (k0_hw166 : k0_chk166 v1925), ∀ a, (k0_off293 v1925) a + S1x1x1x1x16x128.size a ≤ S4x8x8x2x32x128.size a := fun v1925 k0_hw166 => k0_hw166

def k0_off294 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1929 : Index := Scalar.indexCast arg11
  let c2_1683 : Index := 2#32
  ![v1929.toNat, 2]
def k0_off295 (v1930 : BitVec 32) : Fin 6 → Nat :=
  let c2_1684 : Index := 2#32
  let v1931 : Index := Scalar.indexCast v1930
  let c1_1685 : Index := 1#32
  let c0_1686 : Index := 0#32
  let c16_1687 : Index := 16#32
  let c0_1688 : Index := 0#32
  ![2, v1931.toNat, 1, 0, 16, 0]

def k0_chk167 (v1930 : BitVec 32) : Prop :=
  (∀ a, (k0_off295 v1930) a + S1x1x1x1x16x128.size a ≤ S4x8x8x2x32x128.size a)
theorem k0_off295_inb : ∀ (v1930 : BitVec 32) (k0_hw167 : k0_chk167 v1930), ∀ a, (k0_off295 v1930) a + S1x1x1x1x16x128.size a ≤ S4x8x8x2x32x128.size a := fun v1930 k0_hw167 => k0_hw167

def k0_off296 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1934 : Index := Scalar.indexCast arg11
  let c3_1689 : Index := 3#32
  ![v1934.toNat, 3]
def k0_off297 (v1935 : BitVec 32) : Fin 6 → Nat :=
  let c3_1690 : Index := 3#32
  let v1936 : Index := Scalar.indexCast v1935
  let c1_1691 : Index := 1#32
  let c0_1692 : Index := 0#32
  let c16_1693 : Index := 16#32
  let c0_1694 : Index := 0#32
  ![3, v1936.toNat, 1, 0, 16, 0]

def k0_chk168 (v1935 : BitVec 32) : Prop :=
  (∀ a, (k0_off297 v1935) a + S1x1x1x1x16x128.size a ≤ S4x8x8x2x32x128.size a)
theorem k0_off297_inb : ∀ (v1935 : BitVec 32) (k0_hw168 : k0_chk168 v1935), ∀ a, (k0_off297 v1935) a + S1x1x1x1x16x128.size a ≤ S4x8x8x2x32x128.size a := fun v1935 k0_hw168 => k0_hw168

def k0_off298 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1942 : Index := Scalar.indexCast arg11
  let c0_1695 : Index := 0#32
  ![v1942.toNat, 0]
def k0_off299 (v1943 : BitVec 32) : Fin 6 → Nat :=
  let c0_1696 : Index := 0#32
  let v1944 : Index := Scalar.indexCast v1943
  let c2_1697 : Index := 2#32
  let c0_1698 : Index := 0#32
  let c16_1699 : Index := 16#32
  let c0_1700 : Index := 0#32
  ![0, v1944.toNat, 2, 0, 16, 0]

def k0_chk169 (v1943 : BitVec 32) : Prop :=
  (∀ a, (k0_off299 v1943) a + S1x1x1x1x16x128.size a ≤ S4x8x8x2x32x128.size a)
theorem k0_off299_inb : ∀ (v1943 : BitVec 32) (k0_hw169 : k0_chk169 v1943), ∀ a, (k0_off299 v1943) a + S1x1x1x1x16x128.size a ≤ S4x8x8x2x32x128.size a := fun v1943 k0_hw169 => k0_hw169

def k0_off300 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1947 : Index := Scalar.indexCast arg11
  let c1_1701 : Index := 1#32
  ![v1947.toNat, 1]
def k0_off301 (v1948 : BitVec 32) : Fin 6 → Nat :=
  let c1_1702 : Index := 1#32
  let v1949 : Index := Scalar.indexCast v1948
  let c2_1703 : Index := 2#32
  let c0_1704 : Index := 0#32
  let c16_1705 : Index := 16#32
  let c0_1706 : Index := 0#32
  ![1, v1949.toNat, 2, 0, 16, 0]

def k0_chk170 (v1948 : BitVec 32) : Prop :=
  (∀ a, (k0_off301 v1948) a + S1x1x1x1x16x128.size a ≤ S4x8x8x2x32x128.size a)
theorem k0_off301_inb : ∀ (v1948 : BitVec 32) (k0_hw170 : k0_chk170 v1948), ∀ a, (k0_off301 v1948) a + S1x1x1x1x16x128.size a ≤ S4x8x8x2x32x128.size a := fun v1948 k0_hw170 => k0_hw170

def k0_off302 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1952 : Index := Scalar.indexCast arg11
  let c2_1707 : Index := 2#32
  ![v1952.toNat, 2]
def k0_off303 (v1953 : BitVec 32) : Fin 6 → Nat :=
  let c2_1708 : Index := 2#32
  let v1954 : Index := Scalar.indexCast v1953
  let c2_1709 : Index := 2#32
  let c0_1710 : Index := 0#32
  let c16_1711 : Index := 16#32
  let c0_1712 : Index := 0#32
  ![2, v1954.toNat, 2, 0, 16, 0]

def k0_chk171 (v1953 : BitVec 32) : Prop :=
  (∀ a, (k0_off303 v1953) a + S1x1x1x1x16x128.size a ≤ S4x8x8x2x32x128.size a)
theorem k0_off303_inb : ∀ (v1953 : BitVec 32) (k0_hw171 : k0_chk171 v1953), ∀ a, (k0_off303 v1953) a + S1x1x1x1x16x128.size a ≤ S4x8x8x2x32x128.size a := fun v1953 k0_hw171 => k0_hw171

def k0_off304 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1957 : Index := Scalar.indexCast arg11
  let c3_1713 : Index := 3#32
  ![v1957.toNat, 3]
def k0_off305 (v1958 : BitVec 32) : Fin 6 → Nat :=
  let c3_1714 : Index := 3#32
  let v1959 : Index := Scalar.indexCast v1958
  let c2_1715 : Index := 2#32
  let c0_1716 : Index := 0#32
  let c16_1717 : Index := 16#32
  let c0_1718 : Index := 0#32
  ![3, v1959.toNat, 2, 0, 16, 0]

def k0_chk172 (v1958 : BitVec 32) : Prop :=
  (∀ a, (k0_off305 v1958) a + S1x1x1x1x16x128.size a ≤ S4x8x8x2x32x128.size a)
theorem k0_off305_inb : ∀ (v1958 : BitVec 32) (k0_hw172 : k0_chk172 v1958), ∀ a, (k0_off305 v1958) a + S1x1x1x1x16x128.size a ≤ S4x8x8x2x32x128.size a := fun v1958 k0_hw172 => k0_hw172

def k0_off306 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1965 : Index := Scalar.indexCast arg11
  let c0_1719 : Index := 0#32
  ![v1965.toNat, 0]
def k0_off307 (v1966 : BitVec 32) : Fin 6 → Nat :=
  let c0_1720 : Index := 0#32
  let v1967 : Index := Scalar.indexCast v1966
  let c3_1721 : Index := 3#32
  let c0_1722 : Index := 0#32
  let c16_1723 : Index := 16#32
  let c0_1724 : Index := 0#32
  ![0, v1967.toNat, 3, 0, 16, 0]

def k0_chk173 (v1966 : BitVec 32) : Prop :=
  (∀ a, (k0_off307 v1966) a + S1x1x1x1x16x128.size a ≤ S4x8x8x2x32x128.size a)
theorem k0_off307_inb : ∀ (v1966 : BitVec 32) (k0_hw173 : k0_chk173 v1966), ∀ a, (k0_off307 v1966) a + S1x1x1x1x16x128.size a ≤ S4x8x8x2x32x128.size a := fun v1966 k0_hw173 => k0_hw173

def k0_off308 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1970 : Index := Scalar.indexCast arg11
  let c1_1725 : Index := 1#32
  ![v1970.toNat, 1]
def k0_off309 (v1971 : BitVec 32) : Fin 6 → Nat :=
  let c1_1726 : Index := 1#32
  let v1972 : Index := Scalar.indexCast v1971
  let c3_1727 : Index := 3#32
  let c0_1728 : Index := 0#32
  let c16_1729 : Index := 16#32
  let c0_1730 : Index := 0#32
  ![1, v1972.toNat, 3, 0, 16, 0]

def k0_chk174 (v1971 : BitVec 32) : Prop :=
  (∀ a, (k0_off309 v1971) a + S1x1x1x1x16x128.size a ≤ S4x8x8x2x32x128.size a)
theorem k0_off309_inb : ∀ (v1971 : BitVec 32) (k0_hw174 : k0_chk174 v1971), ∀ a, (k0_off309 v1971) a + S1x1x1x1x16x128.size a ≤ S4x8x8x2x32x128.size a := fun v1971 k0_hw174 => k0_hw174

def k0_off310 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1975 : Index := Scalar.indexCast arg11
  let c2_1731 : Index := 2#32
  ![v1975.toNat, 2]
def k0_off311 (v1976 : BitVec 32) : Fin 6 → Nat :=
  let c2_1732 : Index := 2#32
  let v1977 : Index := Scalar.indexCast v1976
  let c3_1733 : Index := 3#32
  let c0_1734 : Index := 0#32
  let c16_1735 : Index := 16#32
  let c0_1736 : Index := 0#32
  ![2, v1977.toNat, 3, 0, 16, 0]

def k0_chk175 (v1976 : BitVec 32) : Prop :=
  (∀ a, (k0_off311 v1976) a + S1x1x1x1x16x128.size a ≤ S4x8x8x2x32x128.size a)
theorem k0_off311_inb : ∀ (v1976 : BitVec 32) (k0_hw175 : k0_chk175 v1976), ∀ a, (k0_off311 v1976) a + S1x1x1x1x16x128.size a ≤ S4x8x8x2x32x128.size a := fun v1976 k0_hw175 => k0_hw175

def k0_off312 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1980 : Index := Scalar.indexCast arg11
  let c3_1737 : Index := 3#32
  ![v1980.toNat, 3]
def k0_off313 (v1981 : BitVec 32) : Fin 6 → Nat :=
  let c3_1738 : Index := 3#32
  let v1982 : Index := Scalar.indexCast v1981
  let c3_1739 : Index := 3#32
  let c0_1740 : Index := 0#32
  let c16_1741 : Index := 16#32
  let c0_1742 : Index := 0#32
  ![3, v1982.toNat, 3, 0, 16, 0]

def k0_chk176 (v1981 : BitVec 32) : Prop :=
  (∀ a, (k0_off313 v1981) a + S1x1x1x1x16x128.size a ≤ S4x8x8x2x32x128.size a)
theorem k0_off313_inb : ∀ (v1981 : BitVec 32) (k0_hw176 : k0_chk176 v1981), ∀ a, (k0_off313 v1981) a + S1x1x1x1x16x128.size a ≤ S4x8x8x2x32x128.size a := fun v1981 k0_hw176 => k0_hw176

def k0_off314 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1988 : Index := Scalar.indexCast arg11
  let c0_1743 : Index := 0#32
  ![v1988.toNat, 0]
def k0_off315 (v1989 : BitVec 32) : Fin 6 → Nat :=
  let c0_1744 : Index := 0#32
  let v1990 : Index := Scalar.indexCast v1989
  let c4_1745 : Index := 4#32
  let c0_1746 : Index := 0#32
  let c16_1747 : Index := 16#32
  let c0_1748 : Index := 0#32
  ![0, v1990.toNat, 4, 0, 16, 0]

def k0_chk177 (v1989 : BitVec 32) : Prop :=
  (∀ a, (k0_off315 v1989) a + S1x1x1x1x16x128.size a ≤ S4x8x8x2x32x128.size a)
theorem k0_off315_inb : ∀ (v1989 : BitVec 32) (k0_hw177 : k0_chk177 v1989), ∀ a, (k0_off315 v1989) a + S1x1x1x1x16x128.size a ≤ S4x8x8x2x32x128.size a := fun v1989 k0_hw177 => k0_hw177

def k0_off316 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1993 : Index := Scalar.indexCast arg11
  let c1_1749 : Index := 1#32
  ![v1993.toNat, 1]
def k0_off317 (v1994 : BitVec 32) : Fin 6 → Nat :=
  let c1_1750 : Index := 1#32
  let v1995 : Index := Scalar.indexCast v1994
  let c4_1751 : Index := 4#32
  let c0_1752 : Index := 0#32
  let c16_1753 : Index := 16#32
  let c0_1754 : Index := 0#32
  ![1, v1995.toNat, 4, 0, 16, 0]

def k0_chk178 (v1994 : BitVec 32) : Prop :=
  (∀ a, (k0_off317 v1994) a + S1x1x1x1x16x128.size a ≤ S4x8x8x2x32x128.size a)
theorem k0_off317_inb : ∀ (v1994 : BitVec 32) (k0_hw178 : k0_chk178 v1994), ∀ a, (k0_off317 v1994) a + S1x1x1x1x16x128.size a ≤ S4x8x8x2x32x128.size a := fun v1994 k0_hw178 => k0_hw178

def k0_off318 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v1998 : Index := Scalar.indexCast arg11
  let c2_1755 : Index := 2#32
  ![v1998.toNat, 2]
def k0_off319 (v1999 : BitVec 32) : Fin 6 → Nat :=
  let c2_1756 : Index := 2#32
  let v2000 : Index := Scalar.indexCast v1999
  let c4_1757 : Index := 4#32
  let c0_1758 : Index := 0#32
  let c16_1759 : Index := 16#32
  let c0_1760 : Index := 0#32
  ![2, v2000.toNat, 4, 0, 16, 0]

def k0_chk179 (v1999 : BitVec 32) : Prop :=
  (∀ a, (k0_off319 v1999) a + S1x1x1x1x16x128.size a ≤ S4x8x8x2x32x128.size a)
theorem k0_off319_inb : ∀ (v1999 : BitVec 32) (k0_hw179 : k0_chk179 v1999), ∀ a, (k0_off319 v1999) a + S1x1x1x1x16x128.size a ≤ S4x8x8x2x32x128.size a := fun v1999 k0_hw179 => k0_hw179

def k0_off320 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2003 : Index := Scalar.indexCast arg11
  let c3_1761 : Index := 3#32
  ![v2003.toNat, 3]
def k0_off321 (v2004 : BitVec 32) : Fin 6 → Nat :=
  let c3_1762 : Index := 3#32
  let v2005 : Index := Scalar.indexCast v2004
  let c4_1763 : Index := 4#32
  let c0_1764 : Index := 0#32
  let c16_1765 : Index := 16#32
  let c0_1766 : Index := 0#32
  ![3, v2005.toNat, 4, 0, 16, 0]

def k0_chk180 (v2004 : BitVec 32) : Prop :=
  (∀ a, (k0_off321 v2004) a + S1x1x1x1x16x128.size a ≤ S4x8x8x2x32x128.size a)
theorem k0_off321_inb : ∀ (v2004 : BitVec 32) (k0_hw180 : k0_chk180 v2004), ∀ a, (k0_off321 v2004) a + S1x1x1x1x16x128.size a ≤ S4x8x8x2x32x128.size a := fun v2004 k0_hw180 => k0_hw180

def k0_off322 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2011 : Index := Scalar.indexCast arg11
  let c0_1767 : Index := 0#32
  ![v2011.toNat, 0]
def k0_off323 (v2012 : BitVec 32) : Fin 6 → Nat :=
  let c0_1768 : Index := 0#32
  let v2013 : Index := Scalar.indexCast v2012
  let c5_1769 : Index := 5#32
  let c0_1770 : Index := 0#32
  let c16_1771 : Index := 16#32
  let c0_1772 : Index := 0#32
  ![0, v2013.toNat, 5, 0, 16, 0]

def k0_chk181 (v2012 : BitVec 32) : Prop :=
  (∀ a, (k0_off323 v2012) a + S1x1x1x1x16x128.size a ≤ S4x8x8x2x32x128.size a)
theorem k0_off323_inb : ∀ (v2012 : BitVec 32) (k0_hw181 : k0_chk181 v2012), ∀ a, (k0_off323 v2012) a + S1x1x1x1x16x128.size a ≤ S4x8x8x2x32x128.size a := fun v2012 k0_hw181 => k0_hw181

def k0_off324 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2016 : Index := Scalar.indexCast arg11
  let c1_1773 : Index := 1#32
  ![v2016.toNat, 1]
def k0_off325 (v2017 : BitVec 32) : Fin 6 → Nat :=
  let c1_1774 : Index := 1#32
  let v2018 : Index := Scalar.indexCast v2017
  let c5_1775 : Index := 5#32
  let c0_1776 : Index := 0#32
  let c16_1777 : Index := 16#32
  let c0_1778 : Index := 0#32
  ![1, v2018.toNat, 5, 0, 16, 0]

def k0_chk182 (v2017 : BitVec 32) : Prop :=
  (∀ a, (k0_off325 v2017) a + S1x1x1x1x16x128.size a ≤ S4x8x8x2x32x128.size a)
theorem k0_off325_inb : ∀ (v2017 : BitVec 32) (k0_hw182 : k0_chk182 v2017), ∀ a, (k0_off325 v2017) a + S1x1x1x1x16x128.size a ≤ S4x8x8x2x32x128.size a := fun v2017 k0_hw182 => k0_hw182

def k0_off326 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2021 : Index := Scalar.indexCast arg11
  let c2_1779 : Index := 2#32
  ![v2021.toNat, 2]
def k0_off327 (v2022 : BitVec 32) : Fin 6 → Nat :=
  let c2_1780 : Index := 2#32
  let v2023 : Index := Scalar.indexCast v2022
  let c5_1781 : Index := 5#32
  let c0_1782 : Index := 0#32
  let c16_1783 : Index := 16#32
  let c0_1784 : Index := 0#32
  ![2, v2023.toNat, 5, 0, 16, 0]

def k0_chk183 (v2022 : BitVec 32) : Prop :=
  (∀ a, (k0_off327 v2022) a + S1x1x1x1x16x128.size a ≤ S4x8x8x2x32x128.size a)
theorem k0_off327_inb : ∀ (v2022 : BitVec 32) (k0_hw183 : k0_chk183 v2022), ∀ a, (k0_off327 v2022) a + S1x1x1x1x16x128.size a ≤ S4x8x8x2x32x128.size a := fun v2022 k0_hw183 => k0_hw183

def k0_off328 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2026 : Index := Scalar.indexCast arg11
  let c3_1785 : Index := 3#32
  ![v2026.toNat, 3]
def k0_off329 (v2027 : BitVec 32) : Fin 6 → Nat :=
  let c3_1786 : Index := 3#32
  let v2028 : Index := Scalar.indexCast v2027
  let c5_1787 : Index := 5#32
  let c0_1788 : Index := 0#32
  let c16_1789 : Index := 16#32
  let c0_1790 : Index := 0#32
  ![3, v2028.toNat, 5, 0, 16, 0]

def k0_chk184 (v2027 : BitVec 32) : Prop :=
  (∀ a, (k0_off329 v2027) a + S1x1x1x1x16x128.size a ≤ S4x8x8x2x32x128.size a)
theorem k0_off329_inb : ∀ (v2027 : BitVec 32) (k0_hw184 : k0_chk184 v2027), ∀ a, (k0_off329 v2027) a + S1x1x1x1x16x128.size a ≤ S4x8x8x2x32x128.size a := fun v2027 k0_hw184 => k0_hw184

def k0_off330 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2034 : Index := Scalar.indexCast arg11
  let c0_1791 : Index := 0#32
  ![v2034.toNat, 0]
def k0_off331 (v2035 : BitVec 32) : Fin 6 → Nat :=
  let c0_1792 : Index := 0#32
  let v2036 : Index := Scalar.indexCast v2035
  let c6_1793 : Index := 6#32
  let c0_1794 : Index := 0#32
  let c16_1795 : Index := 16#32
  let c0_1796 : Index := 0#32
  ![0, v2036.toNat, 6, 0, 16, 0]

def k0_chk185 (v2035 : BitVec 32) : Prop :=
  (∀ a, (k0_off331 v2035) a + S1x1x1x1x16x128.size a ≤ S4x8x8x2x32x128.size a)
theorem k0_off331_inb : ∀ (v2035 : BitVec 32) (k0_hw185 : k0_chk185 v2035), ∀ a, (k0_off331 v2035) a + S1x1x1x1x16x128.size a ≤ S4x8x8x2x32x128.size a := fun v2035 k0_hw185 => k0_hw185

def k0_off332 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2039 : Index := Scalar.indexCast arg11
  let c1_1797 : Index := 1#32
  ![v2039.toNat, 1]
def k0_off333 (v2040 : BitVec 32) : Fin 6 → Nat :=
  let c1_1798 : Index := 1#32
  let v2041 : Index := Scalar.indexCast v2040
  let c6_1799 : Index := 6#32
  let c0_1800 : Index := 0#32
  let c16_1801 : Index := 16#32
  let c0_1802 : Index := 0#32
  ![1, v2041.toNat, 6, 0, 16, 0]

def k0_chk186 (v2040 : BitVec 32) : Prop :=
  (∀ a, (k0_off333 v2040) a + S1x1x1x1x16x128.size a ≤ S4x8x8x2x32x128.size a)
theorem k0_off333_inb : ∀ (v2040 : BitVec 32) (k0_hw186 : k0_chk186 v2040), ∀ a, (k0_off333 v2040) a + S1x1x1x1x16x128.size a ≤ S4x8x8x2x32x128.size a := fun v2040 k0_hw186 => k0_hw186

def k0_off334 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2044 : Index := Scalar.indexCast arg11
  let c2_1803 : Index := 2#32
  ![v2044.toNat, 2]
def k0_off335 (v2045 : BitVec 32) : Fin 6 → Nat :=
  let c2_1804 : Index := 2#32
  let v2046 : Index := Scalar.indexCast v2045
  let c6_1805 : Index := 6#32
  let c0_1806 : Index := 0#32
  let c16_1807 : Index := 16#32
  let c0_1808 : Index := 0#32
  ![2, v2046.toNat, 6, 0, 16, 0]

def k0_chk187 (v2045 : BitVec 32) : Prop :=
  (∀ a, (k0_off335 v2045) a + S1x1x1x1x16x128.size a ≤ S4x8x8x2x32x128.size a)
theorem k0_off335_inb : ∀ (v2045 : BitVec 32) (k0_hw187 : k0_chk187 v2045), ∀ a, (k0_off335 v2045) a + S1x1x1x1x16x128.size a ≤ S4x8x8x2x32x128.size a := fun v2045 k0_hw187 => k0_hw187

def k0_off336 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2049 : Index := Scalar.indexCast arg11
  let c3_1809 : Index := 3#32
  ![v2049.toNat, 3]
def k0_off337 (v2050 : BitVec 32) : Fin 6 → Nat :=
  let c3_1810 : Index := 3#32
  let v2051 : Index := Scalar.indexCast v2050
  let c6_1811 : Index := 6#32
  let c0_1812 : Index := 0#32
  let c16_1813 : Index := 16#32
  let c0_1814 : Index := 0#32
  ![3, v2051.toNat, 6, 0, 16, 0]

def k0_chk188 (v2050 : BitVec 32) : Prop :=
  (∀ a, (k0_off337 v2050) a + S1x1x1x1x16x128.size a ≤ S4x8x8x2x32x128.size a)
theorem k0_off337_inb : ∀ (v2050 : BitVec 32) (k0_hw188 : k0_chk188 v2050), ∀ a, (k0_off337 v2050) a + S1x1x1x1x16x128.size a ≤ S4x8x8x2x32x128.size a := fun v2050 k0_hw188 => k0_hw188

def k0_off338 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2057 : Index := Scalar.indexCast arg11
  let c0_1815 : Index := 0#32
  ![v2057.toNat, 0]
def k0_off339 (v2058 : BitVec 32) : Fin 6 → Nat :=
  let c0_1816 : Index := 0#32
  let v2059 : Index := Scalar.indexCast v2058
  let c7_1817 : Index := 7#32
  let c0_1818 : Index := 0#32
  let c16_1819 : Index := 16#32
  let c0_1820 : Index := 0#32
  ![0, v2059.toNat, 7, 0, 16, 0]

def k0_chk189 (v2058 : BitVec 32) : Prop :=
  (∀ a, (k0_off339 v2058) a + S1x1x1x1x16x128.size a ≤ S4x8x8x2x32x128.size a)
theorem k0_off339_inb : ∀ (v2058 : BitVec 32) (k0_hw189 : k0_chk189 v2058), ∀ a, (k0_off339 v2058) a + S1x1x1x1x16x128.size a ≤ S4x8x8x2x32x128.size a := fun v2058 k0_hw189 => k0_hw189

def k0_off340 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2062 : Index := Scalar.indexCast arg11
  let c1_1821 : Index := 1#32
  ![v2062.toNat, 1]
def k0_off341 (v2063 : BitVec 32) : Fin 6 → Nat :=
  let c1_1822 : Index := 1#32
  let v2064 : Index := Scalar.indexCast v2063
  let c7_1823 : Index := 7#32
  let c0_1824 : Index := 0#32
  let c16_1825 : Index := 16#32
  let c0_1826 : Index := 0#32
  ![1, v2064.toNat, 7, 0, 16, 0]

def k0_chk190 (v2063 : BitVec 32) : Prop :=
  (∀ a, (k0_off341 v2063) a + S1x1x1x1x16x128.size a ≤ S4x8x8x2x32x128.size a)
theorem k0_off341_inb : ∀ (v2063 : BitVec 32) (k0_hw190 : k0_chk190 v2063), ∀ a, (k0_off341 v2063) a + S1x1x1x1x16x128.size a ≤ S4x8x8x2x32x128.size a := fun v2063 k0_hw190 => k0_hw190

def k0_off342 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2067 : Index := Scalar.indexCast arg11
  let c2_1827 : Index := 2#32
  ![v2067.toNat, 2]
def k0_off343 (v2068 : BitVec 32) : Fin 6 → Nat :=
  let c2_1828 : Index := 2#32
  let v2069 : Index := Scalar.indexCast v2068
  let c7_1829 : Index := 7#32
  let c0_1830 : Index := 0#32
  let c16_1831 : Index := 16#32
  let c0_1832 : Index := 0#32
  ![2, v2069.toNat, 7, 0, 16, 0]

def k0_chk191 (v2068 : BitVec 32) : Prop :=
  (∀ a, (k0_off343 v2068) a + S1x1x1x1x16x128.size a ≤ S4x8x8x2x32x128.size a)
theorem k0_off343_inb : ∀ (v2068 : BitVec 32) (k0_hw191 : k0_chk191 v2068), ∀ a, (k0_off343 v2068) a + S1x1x1x1x16x128.size a ≤ S4x8x8x2x32x128.size a := fun v2068 k0_hw191 => k0_hw191

def k0_off344 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2072 : Index := Scalar.indexCast arg11
  let c3_1833 : Index := 3#32
  ![v2072.toNat, 3]
def k0_off345 (v2073 : BitVec 32) : Fin 6 → Nat :=
  let c3_1834 : Index := 3#32
  let v2074 : Index := Scalar.indexCast v2073
  let c7_1835 : Index := 7#32
  let c0_1836 : Index := 0#32
  let c16_1837 : Index := 16#32
  let c0_1838 : Index := 0#32
  ![3, v2074.toNat, 7, 0, 16, 0]

def k0_chk192 (v2073 : BitVec 32) : Prop :=
  (∀ a, (k0_off345 v2073) a + S1x1x1x1x16x128.size a ≤ S4x8x8x2x32x128.size a)
theorem k0_off345_inb : ∀ (v2073 : BitVec 32) (k0_hw192 : k0_chk192 v2073), ∀ a, (k0_off345 v2073) a + S1x1x1x1x16x128.size a ≤ S4x8x8x2x32x128.size a := fun v2073 k0_hw192 => k0_hw192

def k0_off346 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2117 : Index := Scalar.indexCast v1487
  let c0_1841 : Index := 0#32
  let c16_1842 : Index := 16#32
  let c0_1843 : Index := 0#32
  ![v2117.toNat, 0, 16, 0]
def k0_off347 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2121 : Index := Scalar.indexCast v1487
  let c1_1844 : Index := 1#32
  let c16_1845 : Index := 16#32
  let c0_1846 : Index := 0#32
  ![v2121.toNat, 1, 16, 0]
def k0_off348 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2125 : Index := Scalar.indexCast v1487
  let c2_1847 : Index := 2#32
  let c16_1848 : Index := 16#32
  let c0_1849 : Index := 0#32
  ![v2125.toNat, 2, 16, 0]
def k0_off349 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2142 : Index := Scalar.indexCast v1487
  let c0_1852 : Index := 0#32
  let c48_1853 : Index := 48#32
  let c0_1854 : Index := 0#32
  ![v2142.toNat, 0, 48, 0]
def k0_off350 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2146 : Index := Scalar.indexCast v1487
  let c1_1855 : Index := 1#32
  let c48_1856 : Index := 48#32
  let c0_1857 : Index := 0#32
  ![v2146.toNat, 1, 48, 0]
def k0_off351 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2150 : Index := Scalar.indexCast v1487
  let c2_1858 : Index := 2#32
  let c48_1859 : Index := 48#32
  let c0_1860 : Index := 0#32
  ![v2150.toNat, 2, 48, 0]
def k0_off352 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2167 : Index := Scalar.indexCast v1487
  let c0_1863 : Index := 0#32
  let c80_1864 : Index := 80#32
  let c0_1865 : Index := 0#32
  ![v2167.toNat, 0, 80, 0]
def k0_off353 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2171 : Index := Scalar.indexCast v1487
  let c1_1866 : Index := 1#32
  let c80_1867 : Index := 80#32
  let c0_1868 : Index := 0#32
  ![v2171.toNat, 1, 80, 0]
def k0_off354 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2175 : Index := Scalar.indexCast v1487
  let c2_1869 : Index := 2#32
  let c80_1870 : Index := 80#32
  let c0_1871 : Index := 0#32
  ![v2175.toNat, 2, 80, 0]
def k0_off355 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2192 : Index := Scalar.indexCast v1487
  let c0_1874 : Index := 0#32
  let c112_1875 : Index := 112#32
  let c0_1876 : Index := 0#32
  ![v2192.toNat, 0, 112, 0]
def k0_off356 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2196 : Index := Scalar.indexCast v1487
  let c1_1877 : Index := 1#32
  let c112_1878 : Index := 112#32
  let c0_1879 : Index := 0#32
  ![v2196.toNat, 1, 112, 0]
def k0_off357 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2200 : Index := Scalar.indexCast v1487
  let c2_1880 : Index := 2#32
  let c112_1881 : Index := 112#32
  let c0_1882 : Index := 0#32
  ![v2200.toNat, 2, 112, 0]
def k0_off358 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2217 : Index := Scalar.indexCast v1487
  let c0_1885 : Index := 0#32
  let c144_1886 : Index := 144#32
  let c0_1887 : Index := 0#32
  ![v2217.toNat, 0, 144, 0]
def k0_off359 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2221 : Index := Scalar.indexCast v1487
  let c1_1888 : Index := 1#32
  let c144_1889 : Index := 144#32
  let c0_1890 : Index := 0#32
  ![v2221.toNat, 1, 144, 0]
def k0_off360 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2225 : Index := Scalar.indexCast v1487
  let c2_1891 : Index := 2#32
  let c144_1892 : Index := 144#32
  let c0_1893 : Index := 0#32
  ![v2225.toNat, 2, 144, 0]
def k0_off361 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2242 : Index := Scalar.indexCast v1487
  let c0_1896 : Index := 0#32
  let c176_1897 : Index := 176#32
  let c0_1898 : Index := 0#32
  ![v2242.toNat, 0, 176, 0]
def k0_off362 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2246 : Index := Scalar.indexCast v1487
  let c1_1899 : Index := 1#32
  let c176_1900 : Index := 176#32
  let c0_1901 : Index := 0#32
  ![v2246.toNat, 1, 176, 0]
def k0_off363 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2250 : Index := Scalar.indexCast v1487
  let c2_1902 : Index := 2#32
  let c176_1903 : Index := 176#32
  let c0_1904 : Index := 0#32
  ![v2250.toNat, 2, 176, 0]
def k0_off364 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2267 : Index := Scalar.indexCast v1487
  let c0_1907 : Index := 0#32
  let c208_1908 : Index := 208#32
  let c0_1909 : Index := 0#32
  ![v2267.toNat, 0, 208, 0]
def k0_off365 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2271 : Index := Scalar.indexCast v1487
  let c1_1910 : Index := 1#32
  let c208_1911 : Index := 208#32
  let c0_1912 : Index := 0#32
  ![v2271.toNat, 1, 208, 0]
def k0_off366 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2275 : Index := Scalar.indexCast v1487
  let c2_1913 : Index := 2#32
  let c208_1914 : Index := 208#32
  let c0_1915 : Index := 0#32
  ![v2275.toNat, 2, 208, 0]
def k0_off367 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2292 : Index := Scalar.indexCast v1487
  let c0_1918 : Index := 0#32
  let c240_1919 : Index := 240#32
  let c0_1920 : Index := 0#32
  ![v2292.toNat, 0, 240, 0]
def k0_off368 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2296 : Index := Scalar.indexCast v1487
  let c1_1921 : Index := 1#32
  let c240_1922 : Index := 240#32
  let c0_1923 : Index := 0#32
  ![v2296.toNat, 1, 240, 0]
def k0_off369 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2300 : Index := Scalar.indexCast v1487
  let c2_1924 : Index := 2#32
  let c240_1925 : Index := 240#32
  let c0_1926 : Index := 0#32
  ![v2300.toNat, 2, 240, 0]
def k0_off370 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2304 : Index := Scalar.indexCast arg11
  let c0_1927 : Index := 0#32
  ![v2304.toNat, 0]
def k0_off371 (v2305 : BitVec 32) : Fin 6 → Nat :=
  let c0_1928 : Index := 0#32
  let v2306 : Index := Scalar.indexCast v2305
  let c0_1929 : Index := 0#32
  let c1_1930 : Index := 1#32
  let c0_1931 : Index := 0#32
  let c0_1932 : Index := 0#32
  ![0, v2306.toNat, 0, 1, 0, 0]

def k0_chk193 (v2305 : BitVec 32) : Prop :=
  (∀ a, (k0_off371 v2305) a + S1x1x1x1x16x128.size a ≤ S4x8x8x2x32x128.size a)
theorem k0_off371_inb : ∀ (v2305 : BitVec 32) (k0_hw193 : k0_chk193 v2305), ∀ a, (k0_off371 v2305) a + S1x1x1x1x16x128.size a ≤ S4x8x8x2x32x128.size a := fun v2305 k0_hw193 => k0_hw193

def k0_off372 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2309 : Index := Scalar.indexCast arg11
  let c1_1933 : Index := 1#32
  ![v2309.toNat, 1]
def k0_off373 (v2310 : BitVec 32) : Fin 6 → Nat :=
  let c1_1934 : Index := 1#32
  let v2311 : Index := Scalar.indexCast v2310
  let c0_1935 : Index := 0#32
  let c1_1936 : Index := 1#32
  let c0_1937 : Index := 0#32
  let c0_1938 : Index := 0#32
  ![1, v2311.toNat, 0, 1, 0, 0]

def k0_chk194 (v2310 : BitVec 32) : Prop :=
  (∀ a, (k0_off373 v2310) a + S1x1x1x1x16x128.size a ≤ S4x8x8x2x32x128.size a)
theorem k0_off373_inb : ∀ (v2310 : BitVec 32) (k0_hw194 : k0_chk194 v2310), ∀ a, (k0_off373 v2310) a + S1x1x1x1x16x128.size a ≤ S4x8x8x2x32x128.size a := fun v2310 k0_hw194 => k0_hw194

def k0_off374 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2314 : Index := Scalar.indexCast arg11
  let c2_1939 : Index := 2#32
  ![v2314.toNat, 2]
def k0_off375 (v2315 : BitVec 32) : Fin 6 → Nat :=
  let c2_1940 : Index := 2#32
  let v2316 : Index := Scalar.indexCast v2315
  let c0_1941 : Index := 0#32
  let c1_1942 : Index := 1#32
  let c0_1943 : Index := 0#32
  let c0_1944 : Index := 0#32
  ![2, v2316.toNat, 0, 1, 0, 0]

def k0_chk195 (v2315 : BitVec 32) : Prop :=
  (∀ a, (k0_off375 v2315) a + S1x1x1x1x16x128.size a ≤ S4x8x8x2x32x128.size a)
theorem k0_off375_inb : ∀ (v2315 : BitVec 32) (k0_hw195 : k0_chk195 v2315), ∀ a, (k0_off375 v2315) a + S1x1x1x1x16x128.size a ≤ S4x8x8x2x32x128.size a := fun v2315 k0_hw195 => k0_hw195

def k0_off376 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2319 : Index := Scalar.indexCast arg11
  let c3_1945 : Index := 3#32
  ![v2319.toNat, 3]
def k0_off377 (v2320 : BitVec 32) : Fin 6 → Nat :=
  let c3_1946 : Index := 3#32
  let v2321 : Index := Scalar.indexCast v2320
  let c0_1947 : Index := 0#32
  let c1_1948 : Index := 1#32
  let c0_1949 : Index := 0#32
  let c0_1950 : Index := 0#32
  ![3, v2321.toNat, 0, 1, 0, 0]

def k0_chk196 (v2320 : BitVec 32) : Prop :=
  (∀ a, (k0_off377 v2320) a + S1x1x1x1x16x128.size a ≤ S4x8x8x2x32x128.size a)
theorem k0_off377_inb : ∀ (v2320 : BitVec 32) (k0_hw196 : k0_chk196 v2320), ∀ a, (k0_off377 v2320) a + S1x1x1x1x16x128.size a ≤ S4x8x8x2x32x128.size a := fun v2320 k0_hw196 => k0_hw196

def k0_off378 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2327 : Index := Scalar.indexCast arg11
  let c0_1951 : Index := 0#32
  ![v2327.toNat, 0]
def k0_off379 (v2328 : BitVec 32) : Fin 6 → Nat :=
  let c0_1952 : Index := 0#32
  let v2329 : Index := Scalar.indexCast v2328
  let c1_1953 : Index := 1#32
  let c1_1954 : Index := 1#32
  let c0_1955 : Index := 0#32
  let c0_1956 : Index := 0#32
  ![0, v2329.toNat, 1, 1, 0, 0]

def k0_chk197 (v2328 : BitVec 32) : Prop :=
  (∀ a, (k0_off379 v2328) a + S1x1x1x1x16x128.size a ≤ S4x8x8x2x32x128.size a)
theorem k0_off379_inb : ∀ (v2328 : BitVec 32) (k0_hw197 : k0_chk197 v2328), ∀ a, (k0_off379 v2328) a + S1x1x1x1x16x128.size a ≤ S4x8x8x2x32x128.size a := fun v2328 k0_hw197 => k0_hw197

def k0_off380 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2332 : Index := Scalar.indexCast arg11
  let c1_1957 : Index := 1#32
  ![v2332.toNat, 1]
def k0_off381 (v2333 : BitVec 32) : Fin 6 → Nat :=
  let c1_1958 : Index := 1#32
  let v2334 : Index := Scalar.indexCast v2333
  let c1_1959 : Index := 1#32
  let c1_1960 : Index := 1#32
  let c0_1961 : Index := 0#32
  let c0_1962 : Index := 0#32
  ![1, v2334.toNat, 1, 1, 0, 0]

def k0_chk198 (v2333 : BitVec 32) : Prop :=
  (∀ a, (k0_off381 v2333) a + S1x1x1x1x16x128.size a ≤ S4x8x8x2x32x128.size a)
theorem k0_off381_inb : ∀ (v2333 : BitVec 32) (k0_hw198 : k0_chk198 v2333), ∀ a, (k0_off381 v2333) a + S1x1x1x1x16x128.size a ≤ S4x8x8x2x32x128.size a := fun v2333 k0_hw198 => k0_hw198

def k0_off382 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2337 : Index := Scalar.indexCast arg11
  let c2_1963 : Index := 2#32
  ![v2337.toNat, 2]
def k0_off383 (v2338 : BitVec 32) : Fin 6 → Nat :=
  let c2_1964 : Index := 2#32
  let v2339 : Index := Scalar.indexCast v2338
  let c1_1965 : Index := 1#32
  let c1_1966 : Index := 1#32
  let c0_1967 : Index := 0#32
  let c0_1968 : Index := 0#32
  ![2, v2339.toNat, 1, 1, 0, 0]

def k0_chk199 (v2338 : BitVec 32) : Prop :=
  (∀ a, (k0_off383 v2338) a + S1x1x1x1x16x128.size a ≤ S4x8x8x2x32x128.size a)
theorem k0_off383_inb : ∀ (v2338 : BitVec 32) (k0_hw199 : k0_chk199 v2338), ∀ a, (k0_off383 v2338) a + S1x1x1x1x16x128.size a ≤ S4x8x8x2x32x128.size a := fun v2338 k0_hw199 => k0_hw199

def k0_off384 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2342 : Index := Scalar.indexCast arg11
  let c3_1969 : Index := 3#32
  ![v2342.toNat, 3]
def k0_off385 (v2343 : BitVec 32) : Fin 6 → Nat :=
  let c3_1970 : Index := 3#32
  let v2344 : Index := Scalar.indexCast v2343
  let c1_1971 : Index := 1#32
  let c1_1972 : Index := 1#32
  let c0_1973 : Index := 0#32
  let c0_1974 : Index := 0#32
  ![3, v2344.toNat, 1, 1, 0, 0]

def k0_chk200 (v2343 : BitVec 32) : Prop :=
  (∀ a, (k0_off385 v2343) a + S1x1x1x1x16x128.size a ≤ S4x8x8x2x32x128.size a)
theorem k0_off385_inb : ∀ (v2343 : BitVec 32) (k0_hw200 : k0_chk200 v2343), ∀ a, (k0_off385 v2343) a + S1x1x1x1x16x128.size a ≤ S4x8x8x2x32x128.size a := fun v2343 k0_hw200 => k0_hw200

def k0_off386 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2350 : Index := Scalar.indexCast arg11
  let c0_1975 : Index := 0#32
  ![v2350.toNat, 0]
def k0_off387 (v2351 : BitVec 32) : Fin 6 → Nat :=
  let c0_1976 : Index := 0#32
  let v2352 : Index := Scalar.indexCast v2351
  let c2_1977 : Index := 2#32
  let c1_1978 : Index := 1#32
  let c0_1979 : Index := 0#32
  let c0_1980 : Index := 0#32
  ![0, v2352.toNat, 2, 1, 0, 0]

def k0_chk201 (v2351 : BitVec 32) : Prop :=
  (∀ a, (k0_off387 v2351) a + S1x1x1x1x16x128.size a ≤ S4x8x8x2x32x128.size a)
theorem k0_off387_inb : ∀ (v2351 : BitVec 32) (k0_hw201 : k0_chk201 v2351), ∀ a, (k0_off387 v2351) a + S1x1x1x1x16x128.size a ≤ S4x8x8x2x32x128.size a := fun v2351 k0_hw201 => k0_hw201

def k0_off388 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2355 : Index := Scalar.indexCast arg11
  let c1_1981 : Index := 1#32
  ![v2355.toNat, 1]
def k0_off389 (v2356 : BitVec 32) : Fin 6 → Nat :=
  let c1_1982 : Index := 1#32
  let v2357 : Index := Scalar.indexCast v2356
  let c2_1983 : Index := 2#32
  let c1_1984 : Index := 1#32
  let c0_1985 : Index := 0#32
  let c0_1986 : Index := 0#32
  ![1, v2357.toNat, 2, 1, 0, 0]

def k0_chk202 (v2356 : BitVec 32) : Prop :=
  (∀ a, (k0_off389 v2356) a + S1x1x1x1x16x128.size a ≤ S4x8x8x2x32x128.size a)
theorem k0_off389_inb : ∀ (v2356 : BitVec 32) (k0_hw202 : k0_chk202 v2356), ∀ a, (k0_off389 v2356) a + S1x1x1x1x16x128.size a ≤ S4x8x8x2x32x128.size a := fun v2356 k0_hw202 => k0_hw202

def k0_off390 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2360 : Index := Scalar.indexCast arg11
  let c2_1987 : Index := 2#32
  ![v2360.toNat, 2]
def k0_off391 (v2361 : BitVec 32) : Fin 6 → Nat :=
  let c2_1988 : Index := 2#32
  let v2362 : Index := Scalar.indexCast v2361
  let c2_1989 : Index := 2#32
  let c1_1990 : Index := 1#32
  let c0_1991 : Index := 0#32
  let c0_1992 : Index := 0#32
  ![2, v2362.toNat, 2, 1, 0, 0]

def k0_chk203 (v2361 : BitVec 32) : Prop :=
  (∀ a, (k0_off391 v2361) a + S1x1x1x1x16x128.size a ≤ S4x8x8x2x32x128.size a)
theorem k0_off391_inb : ∀ (v2361 : BitVec 32) (k0_hw203 : k0_chk203 v2361), ∀ a, (k0_off391 v2361) a + S1x1x1x1x16x128.size a ≤ S4x8x8x2x32x128.size a := fun v2361 k0_hw203 => k0_hw203

def k0_off392 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2365 : Index := Scalar.indexCast arg11
  let c3_1993 : Index := 3#32
  ![v2365.toNat, 3]
def k0_off393 (v2366 : BitVec 32) : Fin 6 → Nat :=
  let c3_1994 : Index := 3#32
  let v2367 : Index := Scalar.indexCast v2366
  let c2_1995 : Index := 2#32
  let c1_1996 : Index := 1#32
  let c0_1997 : Index := 0#32
  let c0_1998 : Index := 0#32
  ![3, v2367.toNat, 2, 1, 0, 0]

def k0_chk204 (v2366 : BitVec 32) : Prop :=
  (∀ a, (k0_off393 v2366) a + S1x1x1x1x16x128.size a ≤ S4x8x8x2x32x128.size a)
theorem k0_off393_inb : ∀ (v2366 : BitVec 32) (k0_hw204 : k0_chk204 v2366), ∀ a, (k0_off393 v2366) a + S1x1x1x1x16x128.size a ≤ S4x8x8x2x32x128.size a := fun v2366 k0_hw204 => k0_hw204

def k0_off394 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2373 : Index := Scalar.indexCast arg11
  let c0_1999 : Index := 0#32
  ![v2373.toNat, 0]
def k0_off395 (v2374 : BitVec 32) : Fin 6 → Nat :=
  let c0_2000 : Index := 0#32
  let v2375 : Index := Scalar.indexCast v2374
  let c3_2001 : Index := 3#32
  let c1_2002 : Index := 1#32
  let c0_2003 : Index := 0#32
  let c0_2004 : Index := 0#32
  ![0, v2375.toNat, 3, 1, 0, 0]

def k0_chk205 (v2374 : BitVec 32) : Prop :=
  (∀ a, (k0_off395 v2374) a + S1x1x1x1x16x128.size a ≤ S4x8x8x2x32x128.size a)
theorem k0_off395_inb : ∀ (v2374 : BitVec 32) (k0_hw205 : k0_chk205 v2374), ∀ a, (k0_off395 v2374) a + S1x1x1x1x16x128.size a ≤ S4x8x8x2x32x128.size a := fun v2374 k0_hw205 => k0_hw205

def k0_off396 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2378 : Index := Scalar.indexCast arg11
  let c1_2005 : Index := 1#32
  ![v2378.toNat, 1]
def k0_off397 (v2379 : BitVec 32) : Fin 6 → Nat :=
  let c1_2006 : Index := 1#32
  let v2380 : Index := Scalar.indexCast v2379
  let c3_2007 : Index := 3#32
  let c1_2008 : Index := 1#32
  let c0_2009 : Index := 0#32
  let c0_2010 : Index := 0#32
  ![1, v2380.toNat, 3, 1, 0, 0]

def k0_chk206 (v2379 : BitVec 32) : Prop :=
  (∀ a, (k0_off397 v2379) a + S1x1x1x1x16x128.size a ≤ S4x8x8x2x32x128.size a)
theorem k0_off397_inb : ∀ (v2379 : BitVec 32) (k0_hw206 : k0_chk206 v2379), ∀ a, (k0_off397 v2379) a + S1x1x1x1x16x128.size a ≤ S4x8x8x2x32x128.size a := fun v2379 k0_hw206 => k0_hw206

def k0_off398 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2383 : Index := Scalar.indexCast arg11
  let c2_2011 : Index := 2#32
  ![v2383.toNat, 2]
def k0_off399 (v2384 : BitVec 32) : Fin 6 → Nat :=
  let c2_2012 : Index := 2#32
  let v2385 : Index := Scalar.indexCast v2384
  let c3_2013 : Index := 3#32
  let c1_2014 : Index := 1#32
  let c0_2015 : Index := 0#32
  let c0_2016 : Index := 0#32
  ![2, v2385.toNat, 3, 1, 0, 0]

def k0_chk207 (v2384 : BitVec 32) : Prop :=
  (∀ a, (k0_off399 v2384) a + S1x1x1x1x16x128.size a ≤ S4x8x8x2x32x128.size a)
theorem k0_off399_inb : ∀ (v2384 : BitVec 32) (k0_hw207 : k0_chk207 v2384), ∀ a, (k0_off399 v2384) a + S1x1x1x1x16x128.size a ≤ S4x8x8x2x32x128.size a := fun v2384 k0_hw207 => k0_hw207

def k0_off400 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2388 : Index := Scalar.indexCast arg11
  let c3_2017 : Index := 3#32
  ![v2388.toNat, 3]
def k0_off401 (v2389 : BitVec 32) : Fin 6 → Nat :=
  let c3_2018 : Index := 3#32
  let v2390 : Index := Scalar.indexCast v2389
  let c3_2019 : Index := 3#32
  let c1_2020 : Index := 1#32
  let c0_2021 : Index := 0#32
  let c0_2022 : Index := 0#32
  ![3, v2390.toNat, 3, 1, 0, 0]

def k0_chk208 (v2389 : BitVec 32) : Prop :=
  (∀ a, (k0_off401 v2389) a + S1x1x1x1x16x128.size a ≤ S4x8x8x2x32x128.size a)
theorem k0_off401_inb : ∀ (v2389 : BitVec 32) (k0_hw208 : k0_chk208 v2389), ∀ a, (k0_off401 v2389) a + S1x1x1x1x16x128.size a ≤ S4x8x8x2x32x128.size a := fun v2389 k0_hw208 => k0_hw208

def k0_off402 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2396 : Index := Scalar.indexCast arg11
  let c0_2023 : Index := 0#32
  ![v2396.toNat, 0]
def k0_off403 (v2397 : BitVec 32) : Fin 6 → Nat :=
  let c0_2024 : Index := 0#32
  let v2398 : Index := Scalar.indexCast v2397
  let c4_2025 : Index := 4#32
  let c1_2026 : Index := 1#32
  let c0_2027 : Index := 0#32
  let c0_2028 : Index := 0#32
  ![0, v2398.toNat, 4, 1, 0, 0]

def k0_chk209 (v2397 : BitVec 32) : Prop :=
  (∀ a, (k0_off403 v2397) a + S1x1x1x1x16x128.size a ≤ S4x8x8x2x32x128.size a)
theorem k0_off403_inb : ∀ (v2397 : BitVec 32) (k0_hw209 : k0_chk209 v2397), ∀ a, (k0_off403 v2397) a + S1x1x1x1x16x128.size a ≤ S4x8x8x2x32x128.size a := fun v2397 k0_hw209 => k0_hw209

def k0_off404 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2401 : Index := Scalar.indexCast arg11
  let c1_2029 : Index := 1#32
  ![v2401.toNat, 1]
def k0_off405 (v2402 : BitVec 32) : Fin 6 → Nat :=
  let c1_2030 : Index := 1#32
  let v2403 : Index := Scalar.indexCast v2402
  let c4_2031 : Index := 4#32
  let c1_2032 : Index := 1#32
  let c0_2033 : Index := 0#32
  let c0_2034 : Index := 0#32
  ![1, v2403.toNat, 4, 1, 0, 0]

def k0_chk210 (v2402 : BitVec 32) : Prop :=
  (∀ a, (k0_off405 v2402) a + S1x1x1x1x16x128.size a ≤ S4x8x8x2x32x128.size a)
theorem k0_off405_inb : ∀ (v2402 : BitVec 32) (k0_hw210 : k0_chk210 v2402), ∀ a, (k0_off405 v2402) a + S1x1x1x1x16x128.size a ≤ S4x8x8x2x32x128.size a := fun v2402 k0_hw210 => k0_hw210

def k0_off406 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2406 : Index := Scalar.indexCast arg11
  let c2_2035 : Index := 2#32
  ![v2406.toNat, 2]
def k0_off407 (v2407 : BitVec 32) : Fin 6 → Nat :=
  let c2_2036 : Index := 2#32
  let v2408 : Index := Scalar.indexCast v2407
  let c4_2037 : Index := 4#32
  let c1_2038 : Index := 1#32
  let c0_2039 : Index := 0#32
  let c0_2040 : Index := 0#32
  ![2, v2408.toNat, 4, 1, 0, 0]

def k0_chk211 (v2407 : BitVec 32) : Prop :=
  (∀ a, (k0_off407 v2407) a + S1x1x1x1x16x128.size a ≤ S4x8x8x2x32x128.size a)
theorem k0_off407_inb : ∀ (v2407 : BitVec 32) (k0_hw211 : k0_chk211 v2407), ∀ a, (k0_off407 v2407) a + S1x1x1x1x16x128.size a ≤ S4x8x8x2x32x128.size a := fun v2407 k0_hw211 => k0_hw211

def k0_off408 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2411 : Index := Scalar.indexCast arg11
  let c3_2041 : Index := 3#32
  ![v2411.toNat, 3]
def k0_off409 (v2412 : BitVec 32) : Fin 6 → Nat :=
  let c3_2042 : Index := 3#32
  let v2413 : Index := Scalar.indexCast v2412
  let c4_2043 : Index := 4#32
  let c1_2044 : Index := 1#32
  let c0_2045 : Index := 0#32
  let c0_2046 : Index := 0#32
  ![3, v2413.toNat, 4, 1, 0, 0]

def k0_chk212 (v2412 : BitVec 32) : Prop :=
  (∀ a, (k0_off409 v2412) a + S1x1x1x1x16x128.size a ≤ S4x8x8x2x32x128.size a)
theorem k0_off409_inb : ∀ (v2412 : BitVec 32) (k0_hw212 : k0_chk212 v2412), ∀ a, (k0_off409 v2412) a + S1x1x1x1x16x128.size a ≤ S4x8x8x2x32x128.size a := fun v2412 k0_hw212 => k0_hw212

def k0_off410 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2419 : Index := Scalar.indexCast arg11
  let c0_2047 : Index := 0#32
  ![v2419.toNat, 0]
def k0_off411 (v2420 : BitVec 32) : Fin 6 → Nat :=
  let c0_2048 : Index := 0#32
  let v2421 : Index := Scalar.indexCast v2420
  let c5_2049 : Index := 5#32
  let c1_2050 : Index := 1#32
  let c0_2051 : Index := 0#32
  let c0_2052 : Index := 0#32
  ![0, v2421.toNat, 5, 1, 0, 0]

def k0_chk213 (v2420 : BitVec 32) : Prop :=
  (∀ a, (k0_off411 v2420) a + S1x1x1x1x16x128.size a ≤ S4x8x8x2x32x128.size a)
theorem k0_off411_inb : ∀ (v2420 : BitVec 32) (k0_hw213 : k0_chk213 v2420), ∀ a, (k0_off411 v2420) a + S1x1x1x1x16x128.size a ≤ S4x8x8x2x32x128.size a := fun v2420 k0_hw213 => k0_hw213

def k0_off412 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2424 : Index := Scalar.indexCast arg11
  let c1_2053 : Index := 1#32
  ![v2424.toNat, 1]
def k0_off413 (v2425 : BitVec 32) : Fin 6 → Nat :=
  let c1_2054 : Index := 1#32
  let v2426 : Index := Scalar.indexCast v2425
  let c5_2055 : Index := 5#32
  let c1_2056 : Index := 1#32
  let c0_2057 : Index := 0#32
  let c0_2058 : Index := 0#32
  ![1, v2426.toNat, 5, 1, 0, 0]

def k0_chk214 (v2425 : BitVec 32) : Prop :=
  (∀ a, (k0_off413 v2425) a + S1x1x1x1x16x128.size a ≤ S4x8x8x2x32x128.size a)
theorem k0_off413_inb : ∀ (v2425 : BitVec 32) (k0_hw214 : k0_chk214 v2425), ∀ a, (k0_off413 v2425) a + S1x1x1x1x16x128.size a ≤ S4x8x8x2x32x128.size a := fun v2425 k0_hw214 => k0_hw214

def k0_off414 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2429 : Index := Scalar.indexCast arg11
  let c2_2059 : Index := 2#32
  ![v2429.toNat, 2]
def k0_off415 (v2430 : BitVec 32) : Fin 6 → Nat :=
  let c2_2060 : Index := 2#32
  let v2431 : Index := Scalar.indexCast v2430
  let c5_2061 : Index := 5#32
  let c1_2062 : Index := 1#32
  let c0_2063 : Index := 0#32
  let c0_2064 : Index := 0#32
  ![2, v2431.toNat, 5, 1, 0, 0]

def k0_chk215 (v2430 : BitVec 32) : Prop :=
  (∀ a, (k0_off415 v2430) a + S1x1x1x1x16x128.size a ≤ S4x8x8x2x32x128.size a)
theorem k0_off415_inb : ∀ (v2430 : BitVec 32) (k0_hw215 : k0_chk215 v2430), ∀ a, (k0_off415 v2430) a + S1x1x1x1x16x128.size a ≤ S4x8x8x2x32x128.size a := fun v2430 k0_hw215 => k0_hw215

def k0_off416 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2434 : Index := Scalar.indexCast arg11
  let c3_2065 : Index := 3#32
  ![v2434.toNat, 3]
def k0_off417 (v2435 : BitVec 32) : Fin 6 → Nat :=
  let c3_2066 : Index := 3#32
  let v2436 : Index := Scalar.indexCast v2435
  let c5_2067 : Index := 5#32
  let c1_2068 : Index := 1#32
  let c0_2069 : Index := 0#32
  let c0_2070 : Index := 0#32
  ![3, v2436.toNat, 5, 1, 0, 0]

def k0_chk216 (v2435 : BitVec 32) : Prop :=
  (∀ a, (k0_off417 v2435) a + S1x1x1x1x16x128.size a ≤ S4x8x8x2x32x128.size a)
theorem k0_off417_inb : ∀ (v2435 : BitVec 32) (k0_hw216 : k0_chk216 v2435), ∀ a, (k0_off417 v2435) a + S1x1x1x1x16x128.size a ≤ S4x8x8x2x32x128.size a := fun v2435 k0_hw216 => k0_hw216

def k0_off418 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2442 : Index := Scalar.indexCast arg11
  let c0_2071 : Index := 0#32
  ![v2442.toNat, 0]
def k0_off419 (v2443 : BitVec 32) : Fin 6 → Nat :=
  let c0_2072 : Index := 0#32
  let v2444 : Index := Scalar.indexCast v2443
  let c6_2073 : Index := 6#32
  let c1_2074 : Index := 1#32
  let c0_2075 : Index := 0#32
  let c0_2076 : Index := 0#32
  ![0, v2444.toNat, 6, 1, 0, 0]

def k0_chk217 (v2443 : BitVec 32) : Prop :=
  (∀ a, (k0_off419 v2443) a + S1x1x1x1x16x128.size a ≤ S4x8x8x2x32x128.size a)
theorem k0_off419_inb : ∀ (v2443 : BitVec 32) (k0_hw217 : k0_chk217 v2443), ∀ a, (k0_off419 v2443) a + S1x1x1x1x16x128.size a ≤ S4x8x8x2x32x128.size a := fun v2443 k0_hw217 => k0_hw217

def k0_off420 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2447 : Index := Scalar.indexCast arg11
  let c1_2077 : Index := 1#32
  ![v2447.toNat, 1]
def k0_off421 (v2448 : BitVec 32) : Fin 6 → Nat :=
  let c1_2078 : Index := 1#32
  let v2449 : Index := Scalar.indexCast v2448
  let c6_2079 : Index := 6#32
  let c1_2080 : Index := 1#32
  let c0_2081 : Index := 0#32
  let c0_2082 : Index := 0#32
  ![1, v2449.toNat, 6, 1, 0, 0]

def k0_chk218 (v2448 : BitVec 32) : Prop :=
  (∀ a, (k0_off421 v2448) a + S1x1x1x1x16x128.size a ≤ S4x8x8x2x32x128.size a)
theorem k0_off421_inb : ∀ (v2448 : BitVec 32) (k0_hw218 : k0_chk218 v2448), ∀ a, (k0_off421 v2448) a + S1x1x1x1x16x128.size a ≤ S4x8x8x2x32x128.size a := fun v2448 k0_hw218 => k0_hw218

def k0_off422 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2452 : Index := Scalar.indexCast arg11
  let c2_2083 : Index := 2#32
  ![v2452.toNat, 2]
def k0_off423 (v2453 : BitVec 32) : Fin 6 → Nat :=
  let c2_2084 : Index := 2#32
  let v2454 : Index := Scalar.indexCast v2453
  let c6_2085 : Index := 6#32
  let c1_2086 : Index := 1#32
  let c0_2087 : Index := 0#32
  let c0_2088 : Index := 0#32
  ![2, v2454.toNat, 6, 1, 0, 0]

def k0_chk219 (v2453 : BitVec 32) : Prop :=
  (∀ a, (k0_off423 v2453) a + S1x1x1x1x16x128.size a ≤ S4x8x8x2x32x128.size a)
theorem k0_off423_inb : ∀ (v2453 : BitVec 32) (k0_hw219 : k0_chk219 v2453), ∀ a, (k0_off423 v2453) a + S1x1x1x1x16x128.size a ≤ S4x8x8x2x32x128.size a := fun v2453 k0_hw219 => k0_hw219

def k0_off424 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2457 : Index := Scalar.indexCast arg11
  let c3_2089 : Index := 3#32
  ![v2457.toNat, 3]
def k0_off425 (v2458 : BitVec 32) : Fin 6 → Nat :=
  let c3_2090 : Index := 3#32
  let v2459 : Index := Scalar.indexCast v2458
  let c6_2091 : Index := 6#32
  let c1_2092 : Index := 1#32
  let c0_2093 : Index := 0#32
  let c0_2094 : Index := 0#32
  ![3, v2459.toNat, 6, 1, 0, 0]

def k0_chk220 (v2458 : BitVec 32) : Prop :=
  (∀ a, (k0_off425 v2458) a + S1x1x1x1x16x128.size a ≤ S4x8x8x2x32x128.size a)
theorem k0_off425_inb : ∀ (v2458 : BitVec 32) (k0_hw220 : k0_chk220 v2458), ∀ a, (k0_off425 v2458) a + S1x1x1x1x16x128.size a ≤ S4x8x8x2x32x128.size a := fun v2458 k0_hw220 => k0_hw220

def k0_off426 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2465 : Index := Scalar.indexCast arg11
  let c0_2095 : Index := 0#32
  ![v2465.toNat, 0]
def k0_off427 (v2466 : BitVec 32) : Fin 6 → Nat :=
  let c0_2096 : Index := 0#32
  let v2467 : Index := Scalar.indexCast v2466
  let c7_2097 : Index := 7#32
  let c1_2098 : Index := 1#32
  let c0_2099 : Index := 0#32
  let c0_2100 : Index := 0#32
  ![0, v2467.toNat, 7, 1, 0, 0]

def k0_chk221 (v2466 : BitVec 32) : Prop :=
  (∀ a, (k0_off427 v2466) a + S1x1x1x1x16x128.size a ≤ S4x8x8x2x32x128.size a)
theorem k0_off427_inb : ∀ (v2466 : BitVec 32) (k0_hw221 : k0_chk221 v2466), ∀ a, (k0_off427 v2466) a + S1x1x1x1x16x128.size a ≤ S4x8x8x2x32x128.size a := fun v2466 k0_hw221 => k0_hw221

def k0_off428 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2470 : Index := Scalar.indexCast arg11
  let c1_2101 : Index := 1#32
  ![v2470.toNat, 1]
def k0_off429 (v2471 : BitVec 32) : Fin 6 → Nat :=
  let c1_2102 : Index := 1#32
  let v2472 : Index := Scalar.indexCast v2471
  let c7_2103 : Index := 7#32
  let c1_2104 : Index := 1#32
  let c0_2105 : Index := 0#32
  let c0_2106 : Index := 0#32
  ![1, v2472.toNat, 7, 1, 0, 0]

def k0_chk222 (v2471 : BitVec 32) : Prop :=
  (∀ a, (k0_off429 v2471) a + S1x1x1x1x16x128.size a ≤ S4x8x8x2x32x128.size a)
theorem k0_off429_inb : ∀ (v2471 : BitVec 32) (k0_hw222 : k0_chk222 v2471), ∀ a, (k0_off429 v2471) a + S1x1x1x1x16x128.size a ≤ S4x8x8x2x32x128.size a := fun v2471 k0_hw222 => k0_hw222

def k0_off430 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2475 : Index := Scalar.indexCast arg11
  let c2_2107 : Index := 2#32
  ![v2475.toNat, 2]
def k0_off431 (v2476 : BitVec 32) : Fin 6 → Nat :=
  let c2_2108 : Index := 2#32
  let v2477 : Index := Scalar.indexCast v2476
  let c7_2109 : Index := 7#32
  let c1_2110 : Index := 1#32
  let c0_2111 : Index := 0#32
  let c0_2112 : Index := 0#32
  ![2, v2477.toNat, 7, 1, 0, 0]

def k0_chk223 (v2476 : BitVec 32) : Prop :=
  (∀ a, (k0_off431 v2476) a + S1x1x1x1x16x128.size a ≤ S4x8x8x2x32x128.size a)
theorem k0_off431_inb : ∀ (v2476 : BitVec 32) (k0_hw223 : k0_chk223 v2476), ∀ a, (k0_off431 v2476) a + S1x1x1x1x16x128.size a ≤ S4x8x8x2x32x128.size a := fun v2476 k0_hw223 => k0_hw223

def k0_off432 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2480 : Index := Scalar.indexCast arg11
  let c3_2113 : Index := 3#32
  ![v2480.toNat, 3]
def k0_off433 (v2481 : BitVec 32) : Fin 6 → Nat :=
  let c3_2114 : Index := 3#32
  let v2482 : Index := Scalar.indexCast v2481
  let c7_2115 : Index := 7#32
  let c1_2116 : Index := 1#32
  let c0_2117 : Index := 0#32
  let c0_2118 : Index := 0#32
  ![3, v2482.toNat, 7, 1, 0, 0]

def k0_chk224 (v2481 : BitVec 32) : Prop :=
  (∀ a, (k0_off433 v2481) a + S1x1x1x1x16x128.size a ≤ S4x8x8x2x32x128.size a)
theorem k0_off433_inb : ∀ (v2481 : BitVec 32) (k0_hw224 : k0_chk224 v2481), ∀ a, (k0_off433 v2481) a + S1x1x1x1x16x128.size a ≤ S4x8x8x2x32x128.size a := fun v2481 k0_hw224 => k0_hw224

def k0_off434 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2525 : Index := Scalar.indexCast v1487
  let c0_2121 : Index := 0#32
  let c0_2122 : Index := 0#32
  let c128_2123 : Index := 128#32
  ![v2525.toNat, 0, 0, 128]
def k0_off435 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2529 : Index := Scalar.indexCast v1487
  let c1_2124 : Index := 1#32
  let c0_2125 : Index := 0#32
  let c128_2126 : Index := 128#32
  ![v2529.toNat, 1, 0, 128]
def k0_off436 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2533 : Index := Scalar.indexCast v1487
  let c2_2127 : Index := 2#32
  let c0_2128 : Index := 0#32
  let c128_2129 : Index := 128#32
  ![v2533.toNat, 2, 0, 128]
def k0_off437 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2550 : Index := Scalar.indexCast v1487
  let c0_2132 : Index := 0#32
  let c32_2133 : Index := 32#32
  let c128_2134 : Index := 128#32
  ![v2550.toNat, 0, 32, 128]
def k0_off438 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2554 : Index := Scalar.indexCast v1487
  let c1_2135 : Index := 1#32
  let c32_2136 : Index := 32#32
  let c128_2137 : Index := 128#32
  ![v2554.toNat, 1, 32, 128]
def k0_off439 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2558 : Index := Scalar.indexCast v1487
  let c2_2138 : Index := 2#32
  let c32_2139 : Index := 32#32
  let c128_2140 : Index := 128#32
  ![v2558.toNat, 2, 32, 128]
def k0_off440 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2575 : Index := Scalar.indexCast v1487
  let c0_2143 : Index := 0#32
  let c64_2144 : Index := 64#32
  let c128_2145 : Index := 128#32
  ![v2575.toNat, 0, 64, 128]
def k0_off441 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2579 : Index := Scalar.indexCast v1487
  let c1_2146 : Index := 1#32
  let c64_2147 : Index := 64#32
  let c128_2148 : Index := 128#32
  ![v2579.toNat, 1, 64, 128]
def k0_off442 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2583 : Index := Scalar.indexCast v1487
  let c2_2149 : Index := 2#32
  let c64_2150 : Index := 64#32
  let c128_2151 : Index := 128#32
  ![v2583.toNat, 2, 64, 128]
def k0_off443 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2600 : Index := Scalar.indexCast v1487
  let c0_2154 : Index := 0#32
  let c96_2155 : Index := 96#32
  let c128_2156 : Index := 128#32
  ![v2600.toNat, 0, 96, 128]
def k0_off444 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2604 : Index := Scalar.indexCast v1487
  let c1_2157 : Index := 1#32
  let c96_2158 : Index := 96#32
  let c128_2159 : Index := 128#32
  ![v2604.toNat, 1, 96, 128]
def k0_off445 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2608 : Index := Scalar.indexCast v1487
  let c2_2160 : Index := 2#32
  let c96_2161 : Index := 96#32
  let c128_2162 : Index := 128#32
  ![v2608.toNat, 2, 96, 128]
def k0_off446 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2625 : Index := Scalar.indexCast v1487
  let c0_2165 : Index := 0#32
  let c128_2166 : Index := 128#32
  let c128_2167 : Index := 128#32
  ![v2625.toNat, 0, 128, 128]
def k0_off447 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2629 : Index := Scalar.indexCast v1487
  let c1_2168 : Index := 1#32
  let c128_2169 : Index := 128#32
  let c128_2170 : Index := 128#32
  ![v2629.toNat, 1, 128, 128]
def k0_off448 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2633 : Index := Scalar.indexCast v1487
  let c2_2171 : Index := 2#32
  let c128_2172 : Index := 128#32
  let c128_2173 : Index := 128#32
  ![v2633.toNat, 2, 128, 128]
def k0_off449 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2650 : Index := Scalar.indexCast v1487
  let c0_2176 : Index := 0#32
  let c160_2177 : Index := 160#32
  let c128_2178 : Index := 128#32
  ![v2650.toNat, 0, 160, 128]
def k0_off450 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2654 : Index := Scalar.indexCast v1487
  let c1_2179 : Index := 1#32
  let c160_2180 : Index := 160#32
  let c128_2181 : Index := 128#32
  ![v2654.toNat, 1, 160, 128]
def k0_off451 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2658 : Index := Scalar.indexCast v1487
  let c2_2182 : Index := 2#32
  let c160_2183 : Index := 160#32
  let c128_2184 : Index := 128#32
  ![v2658.toNat, 2, 160, 128]
def k0_off452 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2675 : Index := Scalar.indexCast v1487
  let c0_2187 : Index := 0#32
  let c192_2188 : Index := 192#32
  let c128_2189 : Index := 128#32
  ![v2675.toNat, 0, 192, 128]
def k0_off453 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2679 : Index := Scalar.indexCast v1487
  let c1_2190 : Index := 1#32
  let c192_2191 : Index := 192#32
  let c128_2192 : Index := 128#32
  ![v2679.toNat, 1, 192, 128]
def k0_off454 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2683 : Index := Scalar.indexCast v1487
  let c2_2193 : Index := 2#32
  let c192_2194 : Index := 192#32
  let c128_2195 : Index := 128#32
  ![v2683.toNat, 2, 192, 128]
def k0_off455 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2700 : Index := Scalar.indexCast v1487
  let c0_2198 : Index := 0#32
  let c224_2199 : Index := 224#32
  let c128_2200 : Index := 128#32
  ![v2700.toNat, 0, 224, 128]
def k0_off456 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2704 : Index := Scalar.indexCast v1487
  let c1_2201 : Index := 1#32
  let c224_2202 : Index := 224#32
  let c128_2203 : Index := 128#32
  ![v2704.toNat, 1, 224, 128]
def k0_off457 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2708 : Index := Scalar.indexCast v1487
  let c2_2204 : Index := 2#32
  let c224_2205 : Index := 224#32
  let c128_2206 : Index := 128#32
  ![v2708.toNat, 2, 224, 128]
def k0_off458 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2712 : Index := Scalar.indexCast arg11
  let c0_2207 : Index := 0#32
  ![v2712.toNat, 0]
def k0_off459 (v2713 : BitVec 32) : Fin 6 → Nat :=
  let c0_2208 : Index := 0#32
  let v2714 : Index := Scalar.indexCast v2713
  let c0_2209 : Index := 0#32
  let c1_2210 : Index := 1#32
  let c16_2211 : Index := 16#32
  let c0_2212 : Index := 0#32
  ![0, v2714.toNat, 0, 1, 16, 0]

def k0_chk225 (v2713 : BitVec 32) : Prop :=
  (∀ a, (k0_off459 v2713) a + S1x1x1x1x16x128.size a ≤ S4x8x8x2x32x128.size a)
theorem k0_off459_inb : ∀ (v2713 : BitVec 32) (k0_hw225 : k0_chk225 v2713), ∀ a, (k0_off459 v2713) a + S1x1x1x1x16x128.size a ≤ S4x8x8x2x32x128.size a := fun v2713 k0_hw225 => k0_hw225

def k0_off460 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2717 : Index := Scalar.indexCast arg11
  let c1_2213 : Index := 1#32
  ![v2717.toNat, 1]
def k0_off461 (v2718 : BitVec 32) : Fin 6 → Nat :=
  let c1_2214 : Index := 1#32
  let v2719 : Index := Scalar.indexCast v2718
  let c0_2215 : Index := 0#32
  let c1_2216 : Index := 1#32
  let c16_2217 : Index := 16#32
  let c0_2218 : Index := 0#32
  ![1, v2719.toNat, 0, 1, 16, 0]

def k0_chk226 (v2718 : BitVec 32) : Prop :=
  (∀ a, (k0_off461 v2718) a + S1x1x1x1x16x128.size a ≤ S4x8x8x2x32x128.size a)
theorem k0_off461_inb : ∀ (v2718 : BitVec 32) (k0_hw226 : k0_chk226 v2718), ∀ a, (k0_off461 v2718) a + S1x1x1x1x16x128.size a ≤ S4x8x8x2x32x128.size a := fun v2718 k0_hw226 => k0_hw226

def k0_off462 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2722 : Index := Scalar.indexCast arg11
  let c2_2219 : Index := 2#32
  ![v2722.toNat, 2]
def k0_off463 (v2723 : BitVec 32) : Fin 6 → Nat :=
  let c2_2220 : Index := 2#32
  let v2724 : Index := Scalar.indexCast v2723
  let c0_2221 : Index := 0#32
  let c1_2222 : Index := 1#32
  let c16_2223 : Index := 16#32
  let c0_2224 : Index := 0#32
  ![2, v2724.toNat, 0, 1, 16, 0]

def k0_chk227 (v2723 : BitVec 32) : Prop :=
  (∀ a, (k0_off463 v2723) a + S1x1x1x1x16x128.size a ≤ S4x8x8x2x32x128.size a)
theorem k0_off463_inb : ∀ (v2723 : BitVec 32) (k0_hw227 : k0_chk227 v2723), ∀ a, (k0_off463 v2723) a + S1x1x1x1x16x128.size a ≤ S4x8x8x2x32x128.size a := fun v2723 k0_hw227 => k0_hw227

def k0_off464 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2727 : Index := Scalar.indexCast arg11
  let c3_2225 : Index := 3#32
  ![v2727.toNat, 3]
def k0_off465 (v2728 : BitVec 32) : Fin 6 → Nat :=
  let c3_2226 : Index := 3#32
  let v2729 : Index := Scalar.indexCast v2728
  let c0_2227 : Index := 0#32
  let c1_2228 : Index := 1#32
  let c16_2229 : Index := 16#32
  let c0_2230 : Index := 0#32
  ![3, v2729.toNat, 0, 1, 16, 0]

def k0_chk228 (v2728 : BitVec 32) : Prop :=
  (∀ a, (k0_off465 v2728) a + S1x1x1x1x16x128.size a ≤ S4x8x8x2x32x128.size a)
theorem k0_off465_inb : ∀ (v2728 : BitVec 32) (k0_hw228 : k0_chk228 v2728), ∀ a, (k0_off465 v2728) a + S1x1x1x1x16x128.size a ≤ S4x8x8x2x32x128.size a := fun v2728 k0_hw228 => k0_hw228

def k0_off466 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2735 : Index := Scalar.indexCast arg11
  let c0_2231 : Index := 0#32
  ![v2735.toNat, 0]
def k0_off467 (v2736 : BitVec 32) : Fin 6 → Nat :=
  let c0_2232 : Index := 0#32
  let v2737 : Index := Scalar.indexCast v2736
  let c1_2233 : Index := 1#32
  let c1_2234 : Index := 1#32
  let c16_2235 : Index := 16#32
  let c0_2236 : Index := 0#32
  ![0, v2737.toNat, 1, 1, 16, 0]

def k0_chk229 (v2736 : BitVec 32) : Prop :=
  (∀ a, (k0_off467 v2736) a + S1x1x1x1x16x128.size a ≤ S4x8x8x2x32x128.size a)
theorem k0_off467_inb : ∀ (v2736 : BitVec 32) (k0_hw229 : k0_chk229 v2736), ∀ a, (k0_off467 v2736) a + S1x1x1x1x16x128.size a ≤ S4x8x8x2x32x128.size a := fun v2736 k0_hw229 => k0_hw229

def k0_off468 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2740 : Index := Scalar.indexCast arg11
  let c1_2237 : Index := 1#32
  ![v2740.toNat, 1]
def k0_off469 (v2741 : BitVec 32) : Fin 6 → Nat :=
  let c1_2238 : Index := 1#32
  let v2742 : Index := Scalar.indexCast v2741
  let c1_2239 : Index := 1#32
  let c1_2240 : Index := 1#32
  let c16_2241 : Index := 16#32
  let c0_2242 : Index := 0#32
  ![1, v2742.toNat, 1, 1, 16, 0]

def k0_chk230 (v2741 : BitVec 32) : Prop :=
  (∀ a, (k0_off469 v2741) a + S1x1x1x1x16x128.size a ≤ S4x8x8x2x32x128.size a)
theorem k0_off469_inb : ∀ (v2741 : BitVec 32) (k0_hw230 : k0_chk230 v2741), ∀ a, (k0_off469 v2741) a + S1x1x1x1x16x128.size a ≤ S4x8x8x2x32x128.size a := fun v2741 k0_hw230 => k0_hw230

def k0_off470 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2745 : Index := Scalar.indexCast arg11
  let c2_2243 : Index := 2#32
  ![v2745.toNat, 2]
def k0_off471 (v2746 : BitVec 32) : Fin 6 → Nat :=
  let c2_2244 : Index := 2#32
  let v2747 : Index := Scalar.indexCast v2746
  let c1_2245 : Index := 1#32
  let c1_2246 : Index := 1#32
  let c16_2247 : Index := 16#32
  let c0_2248 : Index := 0#32
  ![2, v2747.toNat, 1, 1, 16, 0]

def k0_chk231 (v2746 : BitVec 32) : Prop :=
  (∀ a, (k0_off471 v2746) a + S1x1x1x1x16x128.size a ≤ S4x8x8x2x32x128.size a)
theorem k0_off471_inb : ∀ (v2746 : BitVec 32) (k0_hw231 : k0_chk231 v2746), ∀ a, (k0_off471 v2746) a + S1x1x1x1x16x128.size a ≤ S4x8x8x2x32x128.size a := fun v2746 k0_hw231 => k0_hw231

def k0_off472 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2750 : Index := Scalar.indexCast arg11
  let c3_2249 : Index := 3#32
  ![v2750.toNat, 3]
def k0_off473 (v2751 : BitVec 32) : Fin 6 → Nat :=
  let c3_2250 : Index := 3#32
  let v2752 : Index := Scalar.indexCast v2751
  let c1_2251 : Index := 1#32
  let c1_2252 : Index := 1#32
  let c16_2253 : Index := 16#32
  let c0_2254 : Index := 0#32
  ![3, v2752.toNat, 1, 1, 16, 0]

def k0_chk232 (v2751 : BitVec 32) : Prop :=
  (∀ a, (k0_off473 v2751) a + S1x1x1x1x16x128.size a ≤ S4x8x8x2x32x128.size a)
theorem k0_off473_inb : ∀ (v2751 : BitVec 32) (k0_hw232 : k0_chk232 v2751), ∀ a, (k0_off473 v2751) a + S1x1x1x1x16x128.size a ≤ S4x8x8x2x32x128.size a := fun v2751 k0_hw232 => k0_hw232

def k0_off474 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2758 : Index := Scalar.indexCast arg11
  let c0_2255 : Index := 0#32
  ![v2758.toNat, 0]
def k0_off475 (v2759 : BitVec 32) : Fin 6 → Nat :=
  let c0_2256 : Index := 0#32
  let v2760 : Index := Scalar.indexCast v2759
  let c2_2257 : Index := 2#32
  let c1_2258 : Index := 1#32
  let c16_2259 : Index := 16#32
  let c0_2260 : Index := 0#32
  ![0, v2760.toNat, 2, 1, 16, 0]

def k0_chk233 (v2759 : BitVec 32) : Prop :=
  (∀ a, (k0_off475 v2759) a + S1x1x1x1x16x128.size a ≤ S4x8x8x2x32x128.size a)
theorem k0_off475_inb : ∀ (v2759 : BitVec 32) (k0_hw233 : k0_chk233 v2759), ∀ a, (k0_off475 v2759) a + S1x1x1x1x16x128.size a ≤ S4x8x8x2x32x128.size a := fun v2759 k0_hw233 => k0_hw233

def k0_off476 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2763 : Index := Scalar.indexCast arg11
  let c1_2261 : Index := 1#32
  ![v2763.toNat, 1]
def k0_off477 (v2764 : BitVec 32) : Fin 6 → Nat :=
  let c1_2262 : Index := 1#32
  let v2765 : Index := Scalar.indexCast v2764
  let c2_2263 : Index := 2#32
  let c1_2264 : Index := 1#32
  let c16_2265 : Index := 16#32
  let c0_2266 : Index := 0#32
  ![1, v2765.toNat, 2, 1, 16, 0]

def k0_chk234 (v2764 : BitVec 32) : Prop :=
  (∀ a, (k0_off477 v2764) a + S1x1x1x1x16x128.size a ≤ S4x8x8x2x32x128.size a)
theorem k0_off477_inb : ∀ (v2764 : BitVec 32) (k0_hw234 : k0_chk234 v2764), ∀ a, (k0_off477 v2764) a + S1x1x1x1x16x128.size a ≤ S4x8x8x2x32x128.size a := fun v2764 k0_hw234 => k0_hw234

def k0_off478 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2768 : Index := Scalar.indexCast arg11
  let c2_2267 : Index := 2#32
  ![v2768.toNat, 2]
def k0_off479 (v2769 : BitVec 32) : Fin 6 → Nat :=
  let c2_2268 : Index := 2#32
  let v2770 : Index := Scalar.indexCast v2769
  let c2_2269 : Index := 2#32
  let c1_2270 : Index := 1#32
  let c16_2271 : Index := 16#32
  let c0_2272 : Index := 0#32
  ![2, v2770.toNat, 2, 1, 16, 0]

def k0_chk235 (v2769 : BitVec 32) : Prop :=
  (∀ a, (k0_off479 v2769) a + S1x1x1x1x16x128.size a ≤ S4x8x8x2x32x128.size a)
theorem k0_off479_inb : ∀ (v2769 : BitVec 32) (k0_hw235 : k0_chk235 v2769), ∀ a, (k0_off479 v2769) a + S1x1x1x1x16x128.size a ≤ S4x8x8x2x32x128.size a := fun v2769 k0_hw235 => k0_hw235

def k0_off480 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2773 : Index := Scalar.indexCast arg11
  let c3_2273 : Index := 3#32
  ![v2773.toNat, 3]
def k0_off481 (v2774 : BitVec 32) : Fin 6 → Nat :=
  let c3_2274 : Index := 3#32
  let v2775 : Index := Scalar.indexCast v2774
  let c2_2275 : Index := 2#32
  let c1_2276 : Index := 1#32
  let c16_2277 : Index := 16#32
  let c0_2278 : Index := 0#32
  ![3, v2775.toNat, 2, 1, 16, 0]

def k0_chk236 (v2774 : BitVec 32) : Prop :=
  (∀ a, (k0_off481 v2774) a + S1x1x1x1x16x128.size a ≤ S4x8x8x2x32x128.size a)
theorem k0_off481_inb : ∀ (v2774 : BitVec 32) (k0_hw236 : k0_chk236 v2774), ∀ a, (k0_off481 v2774) a + S1x1x1x1x16x128.size a ≤ S4x8x8x2x32x128.size a := fun v2774 k0_hw236 => k0_hw236

def k0_off482 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2781 : Index := Scalar.indexCast arg11
  let c0_2279 : Index := 0#32
  ![v2781.toNat, 0]
def k0_off483 (v2782 : BitVec 32) : Fin 6 → Nat :=
  let c0_2280 : Index := 0#32
  let v2783 : Index := Scalar.indexCast v2782
  let c3_2281 : Index := 3#32
  let c1_2282 : Index := 1#32
  let c16_2283 : Index := 16#32
  let c0_2284 : Index := 0#32
  ![0, v2783.toNat, 3, 1, 16, 0]

def k0_chk237 (v2782 : BitVec 32) : Prop :=
  (∀ a, (k0_off483 v2782) a + S1x1x1x1x16x128.size a ≤ S4x8x8x2x32x128.size a)
theorem k0_off483_inb : ∀ (v2782 : BitVec 32) (k0_hw237 : k0_chk237 v2782), ∀ a, (k0_off483 v2782) a + S1x1x1x1x16x128.size a ≤ S4x8x8x2x32x128.size a := fun v2782 k0_hw237 => k0_hw237

def k0_off484 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2786 : Index := Scalar.indexCast arg11
  let c1_2285 : Index := 1#32
  ![v2786.toNat, 1]
def k0_off485 (v2787 : BitVec 32) : Fin 6 → Nat :=
  let c1_2286 : Index := 1#32
  let v2788 : Index := Scalar.indexCast v2787
  let c3_2287 : Index := 3#32
  let c1_2288 : Index := 1#32
  let c16_2289 : Index := 16#32
  let c0_2290 : Index := 0#32
  ![1, v2788.toNat, 3, 1, 16, 0]

def k0_chk238 (v2787 : BitVec 32) : Prop :=
  (∀ a, (k0_off485 v2787) a + S1x1x1x1x16x128.size a ≤ S4x8x8x2x32x128.size a)
theorem k0_off485_inb : ∀ (v2787 : BitVec 32) (k0_hw238 : k0_chk238 v2787), ∀ a, (k0_off485 v2787) a + S1x1x1x1x16x128.size a ≤ S4x8x8x2x32x128.size a := fun v2787 k0_hw238 => k0_hw238

def k0_off486 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2791 : Index := Scalar.indexCast arg11
  let c2_2291 : Index := 2#32
  ![v2791.toNat, 2]
def k0_off487 (v2792 : BitVec 32) : Fin 6 → Nat :=
  let c2_2292 : Index := 2#32
  let v2793 : Index := Scalar.indexCast v2792
  let c3_2293 : Index := 3#32
  let c1_2294 : Index := 1#32
  let c16_2295 : Index := 16#32
  let c0_2296 : Index := 0#32
  ![2, v2793.toNat, 3, 1, 16, 0]

def k0_chk239 (v2792 : BitVec 32) : Prop :=
  (∀ a, (k0_off487 v2792) a + S1x1x1x1x16x128.size a ≤ S4x8x8x2x32x128.size a)
theorem k0_off487_inb : ∀ (v2792 : BitVec 32) (k0_hw239 : k0_chk239 v2792), ∀ a, (k0_off487 v2792) a + S1x1x1x1x16x128.size a ≤ S4x8x8x2x32x128.size a := fun v2792 k0_hw239 => k0_hw239

def k0_off488 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2796 : Index := Scalar.indexCast arg11
  let c3_2297 : Index := 3#32
  ![v2796.toNat, 3]
def k0_off489 (v2797 : BitVec 32) : Fin 6 → Nat :=
  let c3_2298 : Index := 3#32
  let v2798 : Index := Scalar.indexCast v2797
  let c3_2299 : Index := 3#32
  let c1_2300 : Index := 1#32
  let c16_2301 : Index := 16#32
  let c0_2302 : Index := 0#32
  ![3, v2798.toNat, 3, 1, 16, 0]

def k0_chk240 (v2797 : BitVec 32) : Prop :=
  (∀ a, (k0_off489 v2797) a + S1x1x1x1x16x128.size a ≤ S4x8x8x2x32x128.size a)
theorem k0_off489_inb : ∀ (v2797 : BitVec 32) (k0_hw240 : k0_chk240 v2797), ∀ a, (k0_off489 v2797) a + S1x1x1x1x16x128.size a ≤ S4x8x8x2x32x128.size a := fun v2797 k0_hw240 => k0_hw240

def k0_off490 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2804 : Index := Scalar.indexCast arg11
  let c0_2303 : Index := 0#32
  ![v2804.toNat, 0]
def k0_off491 (v2805 : BitVec 32) : Fin 6 → Nat :=
  let c0_2304 : Index := 0#32
  let v2806 : Index := Scalar.indexCast v2805
  let c4_2305 : Index := 4#32
  let c1_2306 : Index := 1#32
  let c16_2307 : Index := 16#32
  let c0_2308 : Index := 0#32
  ![0, v2806.toNat, 4, 1, 16, 0]

def k0_chk241 (v2805 : BitVec 32) : Prop :=
  (∀ a, (k0_off491 v2805) a + S1x1x1x1x16x128.size a ≤ S4x8x8x2x32x128.size a)
theorem k0_off491_inb : ∀ (v2805 : BitVec 32) (k0_hw241 : k0_chk241 v2805), ∀ a, (k0_off491 v2805) a + S1x1x1x1x16x128.size a ≤ S4x8x8x2x32x128.size a := fun v2805 k0_hw241 => k0_hw241

def k0_off492 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2809 : Index := Scalar.indexCast arg11
  let c1_2309 : Index := 1#32
  ![v2809.toNat, 1]
def k0_off493 (v2810 : BitVec 32) : Fin 6 → Nat :=
  let c1_2310 : Index := 1#32
  let v2811 : Index := Scalar.indexCast v2810
  let c4_2311 : Index := 4#32
  let c1_2312 : Index := 1#32
  let c16_2313 : Index := 16#32
  let c0_2314 : Index := 0#32
  ![1, v2811.toNat, 4, 1, 16, 0]

def k0_chk242 (v2810 : BitVec 32) : Prop :=
  (∀ a, (k0_off493 v2810) a + S1x1x1x1x16x128.size a ≤ S4x8x8x2x32x128.size a)
theorem k0_off493_inb : ∀ (v2810 : BitVec 32) (k0_hw242 : k0_chk242 v2810), ∀ a, (k0_off493 v2810) a + S1x1x1x1x16x128.size a ≤ S4x8x8x2x32x128.size a := fun v2810 k0_hw242 => k0_hw242

def k0_off494 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2814 : Index := Scalar.indexCast arg11
  let c2_2315 : Index := 2#32
  ![v2814.toNat, 2]
def k0_off495 (v2815 : BitVec 32) : Fin 6 → Nat :=
  let c2_2316 : Index := 2#32
  let v2816 : Index := Scalar.indexCast v2815
  let c4_2317 : Index := 4#32
  let c1_2318 : Index := 1#32
  let c16_2319 : Index := 16#32
  let c0_2320 : Index := 0#32
  ![2, v2816.toNat, 4, 1, 16, 0]

def k0_chk243 (v2815 : BitVec 32) : Prop :=
  (∀ a, (k0_off495 v2815) a + S1x1x1x1x16x128.size a ≤ S4x8x8x2x32x128.size a)
theorem k0_off495_inb : ∀ (v2815 : BitVec 32) (k0_hw243 : k0_chk243 v2815), ∀ a, (k0_off495 v2815) a + S1x1x1x1x16x128.size a ≤ S4x8x8x2x32x128.size a := fun v2815 k0_hw243 => k0_hw243

def k0_off496 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2819 : Index := Scalar.indexCast arg11
  let c3_2321 : Index := 3#32
  ![v2819.toNat, 3]
def k0_off497 (v2820 : BitVec 32) : Fin 6 → Nat :=
  let c3_2322 : Index := 3#32
  let v2821 : Index := Scalar.indexCast v2820
  let c4_2323 : Index := 4#32
  let c1_2324 : Index := 1#32
  let c16_2325 : Index := 16#32
  let c0_2326 : Index := 0#32
  ![3, v2821.toNat, 4, 1, 16, 0]

def k0_chk244 (v2820 : BitVec 32) : Prop :=
  (∀ a, (k0_off497 v2820) a + S1x1x1x1x16x128.size a ≤ S4x8x8x2x32x128.size a)
theorem k0_off497_inb : ∀ (v2820 : BitVec 32) (k0_hw244 : k0_chk244 v2820), ∀ a, (k0_off497 v2820) a + S1x1x1x1x16x128.size a ≤ S4x8x8x2x32x128.size a := fun v2820 k0_hw244 => k0_hw244

def k0_off498 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2827 : Index := Scalar.indexCast arg11
  let c0_2327 : Index := 0#32
  ![v2827.toNat, 0]
def k0_off499 (v2828 : BitVec 32) : Fin 6 → Nat :=
  let c0_2328 : Index := 0#32
  let v2829 : Index := Scalar.indexCast v2828
  let c5_2329 : Index := 5#32
  let c1_2330 : Index := 1#32
  let c16_2331 : Index := 16#32
  let c0_2332 : Index := 0#32
  ![0, v2829.toNat, 5, 1, 16, 0]

def k0_chk245 (v2828 : BitVec 32) : Prop :=
  (∀ a, (k0_off499 v2828) a + S1x1x1x1x16x128.size a ≤ S4x8x8x2x32x128.size a)
theorem k0_off499_inb : ∀ (v2828 : BitVec 32) (k0_hw245 : k0_chk245 v2828), ∀ a, (k0_off499 v2828) a + S1x1x1x1x16x128.size a ≤ S4x8x8x2x32x128.size a := fun v2828 k0_hw245 => k0_hw245

def k0_off500 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2832 : Index := Scalar.indexCast arg11
  let c1_2333 : Index := 1#32
  ![v2832.toNat, 1]
def k0_off501 (v2833 : BitVec 32) : Fin 6 → Nat :=
  let c1_2334 : Index := 1#32
  let v2834 : Index := Scalar.indexCast v2833
  let c5_2335 : Index := 5#32
  let c1_2336 : Index := 1#32
  let c16_2337 : Index := 16#32
  let c0_2338 : Index := 0#32
  ![1, v2834.toNat, 5, 1, 16, 0]

def k0_chk246 (v2833 : BitVec 32) : Prop :=
  (∀ a, (k0_off501 v2833) a + S1x1x1x1x16x128.size a ≤ S4x8x8x2x32x128.size a)
theorem k0_off501_inb : ∀ (v2833 : BitVec 32) (k0_hw246 : k0_chk246 v2833), ∀ a, (k0_off501 v2833) a + S1x1x1x1x16x128.size a ≤ S4x8x8x2x32x128.size a := fun v2833 k0_hw246 => k0_hw246

def k0_off502 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2837 : Index := Scalar.indexCast arg11
  let c2_2339 : Index := 2#32
  ![v2837.toNat, 2]
def k0_off503 (v2838 : BitVec 32) : Fin 6 → Nat :=
  let c2_2340 : Index := 2#32
  let v2839 : Index := Scalar.indexCast v2838
  let c5_2341 : Index := 5#32
  let c1_2342 : Index := 1#32
  let c16_2343 : Index := 16#32
  let c0_2344 : Index := 0#32
  ![2, v2839.toNat, 5, 1, 16, 0]

def k0_chk247 (v2838 : BitVec 32) : Prop :=
  (∀ a, (k0_off503 v2838) a + S1x1x1x1x16x128.size a ≤ S4x8x8x2x32x128.size a)
theorem k0_off503_inb : ∀ (v2838 : BitVec 32) (k0_hw247 : k0_chk247 v2838), ∀ a, (k0_off503 v2838) a + S1x1x1x1x16x128.size a ≤ S4x8x8x2x32x128.size a := fun v2838 k0_hw247 => k0_hw247

def k0_off504 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2842 : Index := Scalar.indexCast arg11
  let c3_2345 : Index := 3#32
  ![v2842.toNat, 3]
def k0_off505 (v2843 : BitVec 32) : Fin 6 → Nat :=
  let c3_2346 : Index := 3#32
  let v2844 : Index := Scalar.indexCast v2843
  let c5_2347 : Index := 5#32
  let c1_2348 : Index := 1#32
  let c16_2349 : Index := 16#32
  let c0_2350 : Index := 0#32
  ![3, v2844.toNat, 5, 1, 16, 0]

def k0_chk248 (v2843 : BitVec 32) : Prop :=
  (∀ a, (k0_off505 v2843) a + S1x1x1x1x16x128.size a ≤ S4x8x8x2x32x128.size a)
theorem k0_off505_inb : ∀ (v2843 : BitVec 32) (k0_hw248 : k0_chk248 v2843), ∀ a, (k0_off505 v2843) a + S1x1x1x1x16x128.size a ≤ S4x8x8x2x32x128.size a := fun v2843 k0_hw248 => k0_hw248

def k0_off506 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2850 : Index := Scalar.indexCast arg11
  let c0_2351 : Index := 0#32
  ![v2850.toNat, 0]
def k0_off507 (v2851 : BitVec 32) : Fin 6 → Nat :=
  let c0_2352 : Index := 0#32
  let v2852 : Index := Scalar.indexCast v2851
  let c6_2353 : Index := 6#32
  let c1_2354 : Index := 1#32
  let c16_2355 : Index := 16#32
  let c0_2356 : Index := 0#32
  ![0, v2852.toNat, 6, 1, 16, 0]

def k0_chk249 (v2851 : BitVec 32) : Prop :=
  (∀ a, (k0_off507 v2851) a + S1x1x1x1x16x128.size a ≤ S4x8x8x2x32x128.size a)
theorem k0_off507_inb : ∀ (v2851 : BitVec 32) (k0_hw249 : k0_chk249 v2851), ∀ a, (k0_off507 v2851) a + S1x1x1x1x16x128.size a ≤ S4x8x8x2x32x128.size a := fun v2851 k0_hw249 => k0_hw249

def k0_off508 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2855 : Index := Scalar.indexCast arg11
  let c1_2357 : Index := 1#32
  ![v2855.toNat, 1]
def k0_off509 (v2856 : BitVec 32) : Fin 6 → Nat :=
  let c1_2358 : Index := 1#32
  let v2857 : Index := Scalar.indexCast v2856
  let c6_2359 : Index := 6#32
  let c1_2360 : Index := 1#32
  let c16_2361 : Index := 16#32
  let c0_2362 : Index := 0#32
  ![1, v2857.toNat, 6, 1, 16, 0]

def k0_chk250 (v2856 : BitVec 32) : Prop :=
  (∀ a, (k0_off509 v2856) a + S1x1x1x1x16x128.size a ≤ S4x8x8x2x32x128.size a)
theorem k0_off509_inb : ∀ (v2856 : BitVec 32) (k0_hw250 : k0_chk250 v2856), ∀ a, (k0_off509 v2856) a + S1x1x1x1x16x128.size a ≤ S4x8x8x2x32x128.size a := fun v2856 k0_hw250 => k0_hw250

def k0_off510 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2860 : Index := Scalar.indexCast arg11
  let c2_2363 : Index := 2#32
  ![v2860.toNat, 2]
def k0_off511 (v2861 : BitVec 32) : Fin 6 → Nat :=
  let c2_2364 : Index := 2#32
  let v2862 : Index := Scalar.indexCast v2861
  let c6_2365 : Index := 6#32
  let c1_2366 : Index := 1#32
  let c16_2367 : Index := 16#32
  let c0_2368 : Index := 0#32
  ![2, v2862.toNat, 6, 1, 16, 0]

def k0_chk251 (v2861 : BitVec 32) : Prop :=
  (∀ a, (k0_off511 v2861) a + S1x1x1x1x16x128.size a ≤ S4x8x8x2x32x128.size a)
theorem k0_off511_inb : ∀ (v2861 : BitVec 32) (k0_hw251 : k0_chk251 v2861), ∀ a, (k0_off511 v2861) a + S1x1x1x1x16x128.size a ≤ S4x8x8x2x32x128.size a := fun v2861 k0_hw251 => k0_hw251

def k0_off512 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2865 : Index := Scalar.indexCast arg11
  let c3_2369 : Index := 3#32
  ![v2865.toNat, 3]
def k0_off513 (v2866 : BitVec 32) : Fin 6 → Nat :=
  let c3_2370 : Index := 3#32
  let v2867 : Index := Scalar.indexCast v2866
  let c6_2371 : Index := 6#32
  let c1_2372 : Index := 1#32
  let c16_2373 : Index := 16#32
  let c0_2374 : Index := 0#32
  ![3, v2867.toNat, 6, 1, 16, 0]

def k0_chk252 (v2866 : BitVec 32) : Prop :=
  (∀ a, (k0_off513 v2866) a + S1x1x1x1x16x128.size a ≤ S4x8x8x2x32x128.size a)
theorem k0_off513_inb : ∀ (v2866 : BitVec 32) (k0_hw252 : k0_chk252 v2866), ∀ a, (k0_off513 v2866) a + S1x1x1x1x16x128.size a ≤ S4x8x8x2x32x128.size a := fun v2866 k0_hw252 => k0_hw252

def k0_off514 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2873 : Index := Scalar.indexCast arg11
  let c0_2375 : Index := 0#32
  ![v2873.toNat, 0]
def k0_off515 (v2874 : BitVec 32) : Fin 6 → Nat :=
  let c0_2376 : Index := 0#32
  let v2875 : Index := Scalar.indexCast v2874
  let c7_2377 : Index := 7#32
  let c1_2378 : Index := 1#32
  let c16_2379 : Index := 16#32
  let c0_2380 : Index := 0#32
  ![0, v2875.toNat, 7, 1, 16, 0]

def k0_chk253 (v2874 : BitVec 32) : Prop :=
  (∀ a, (k0_off515 v2874) a + S1x1x1x1x16x128.size a ≤ S4x8x8x2x32x128.size a)
theorem k0_off515_inb : ∀ (v2874 : BitVec 32) (k0_hw253 : k0_chk253 v2874), ∀ a, (k0_off515 v2874) a + S1x1x1x1x16x128.size a ≤ S4x8x8x2x32x128.size a := fun v2874 k0_hw253 => k0_hw253

def k0_off516 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2878 : Index := Scalar.indexCast arg11
  let c1_2381 : Index := 1#32
  ![v2878.toNat, 1]
def k0_off517 (v2879 : BitVec 32) : Fin 6 → Nat :=
  let c1_2382 : Index := 1#32
  let v2880 : Index := Scalar.indexCast v2879
  let c7_2383 : Index := 7#32
  let c1_2384 : Index := 1#32
  let c16_2385 : Index := 16#32
  let c0_2386 : Index := 0#32
  ![1, v2880.toNat, 7, 1, 16, 0]

def k0_chk254 (v2879 : BitVec 32) : Prop :=
  (∀ a, (k0_off517 v2879) a + S1x1x1x1x16x128.size a ≤ S4x8x8x2x32x128.size a)
theorem k0_off517_inb : ∀ (v2879 : BitVec 32) (k0_hw254 : k0_chk254 v2879), ∀ a, (k0_off517 v2879) a + S1x1x1x1x16x128.size a ≤ S4x8x8x2x32x128.size a := fun v2879 k0_hw254 => k0_hw254

def k0_off518 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2883 : Index := Scalar.indexCast arg11
  let c2_2387 : Index := 2#32
  ![v2883.toNat, 2]
def k0_off519 (v2884 : BitVec 32) : Fin 6 → Nat :=
  let c2_2388 : Index := 2#32
  let v2885 : Index := Scalar.indexCast v2884
  let c7_2389 : Index := 7#32
  let c1_2390 : Index := 1#32
  let c16_2391 : Index := 16#32
  let c0_2392 : Index := 0#32
  ![2, v2885.toNat, 7, 1, 16, 0]

def k0_chk255 (v2884 : BitVec 32) : Prop :=
  (∀ a, (k0_off519 v2884) a + S1x1x1x1x16x128.size a ≤ S4x8x8x2x32x128.size a)
theorem k0_off519_inb : ∀ (v2884 : BitVec 32) (k0_hw255 : k0_chk255 v2884), ∀ a, (k0_off519 v2884) a + S1x1x1x1x16x128.size a ≤ S4x8x8x2x32x128.size a := fun v2884 k0_hw255 => k0_hw255

def k0_off520 (k0_t2 : Fin k0_t2_loop.trips) : Fin 2 → Nat :=
  let c1_i32_1323 : BitVec 32 := 1#32
  let c1_i32_1324 : BitVec 32 := 1#32
  let arg11 : BitVec 32 := Scf.iv c1_i32_1323 c1_i32_1324 k0_t2
  let v2888 : Index := Scalar.indexCast arg11
  let c3_2393 : Index := 3#32
  ![v2888.toNat, 3]
def k0_off521 (v2889 : BitVec 32) : Fin 6 → Nat :=
  let c3_2394 : Index := 3#32
  let v2890 : Index := Scalar.indexCast v2889
  let c7_2395 : Index := 7#32
  let c1_2396 : Index := 1#32
  let c16_2397 : Index := 16#32
  let c0_2398 : Index := 0#32
  ![3, v2890.toNat, 7, 1, 16, 0]

def k0_chk256 (v2889 : BitVec 32) : Prop :=
  (∀ a, (k0_off521 v2889) a + S1x1x1x1x16x128.size a ≤ S4x8x8x2x32x128.size a)
theorem k0_off521_inb : ∀ (v2889 : BitVec 32) (k0_hw256 : k0_chk256 v2889), ∀ a, (k0_off521 v2889) a + S1x1x1x1x16x128.size a ≤ S4x8x8x2x32x128.size a := fun v2889 k0_hw256 => k0_hw256

def k0_off522 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2933 : Index := Scalar.indexCast v1487
  let c0_2401 : Index := 0#32
  let c16_2402 : Index := 16#32
  let c128_2403 : Index := 128#32
  ![v2933.toNat, 0, 16, 128]
def k0_off523 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2937 : Index := Scalar.indexCast v1487
  let c1_2404 : Index := 1#32
  let c16_2405 : Index := 16#32
  let c128_2406 : Index := 128#32
  ![v2937.toNat, 1, 16, 128]
def k0_off524 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2941 : Index := Scalar.indexCast v1487
  let c2_2407 : Index := 2#32
  let c16_2408 : Index := 16#32
  let c128_2409 : Index := 128#32
  ![v2941.toNat, 2, 16, 128]
def k0_off525 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2958 : Index := Scalar.indexCast v1487
  let c0_2412 : Index := 0#32
  let c48_2413 : Index := 48#32
  let c128_2414 : Index := 128#32
  ![v2958.toNat, 0, 48, 128]
def k0_off526 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2962 : Index := Scalar.indexCast v1487
  let c1_2415 : Index := 1#32
  let c48_2416 : Index := 48#32
  let c128_2417 : Index := 128#32
  ![v2962.toNat, 1, 48, 128]
def k0_off527 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2966 : Index := Scalar.indexCast v1487
  let c2_2418 : Index := 2#32
  let c48_2419 : Index := 48#32
  let c128_2420 : Index := 128#32
  ![v2966.toNat, 2, 48, 128]
def k0_off528 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2983 : Index := Scalar.indexCast v1487
  let c0_2423 : Index := 0#32
  let c80_2424 : Index := 80#32
  let c128_2425 : Index := 128#32
  ![v2983.toNat, 0, 80, 128]
def k0_off529 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2987 : Index := Scalar.indexCast v1487
  let c1_2426 : Index := 1#32
  let c80_2427 : Index := 80#32
  let c128_2428 : Index := 128#32
  ![v2987.toNat, 1, 80, 128]
def k0_off530 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v2991 : Index := Scalar.indexCast v1487
  let c2_2429 : Index := 2#32
  let c80_2430 : Index := 80#32
  let c128_2431 : Index := 128#32
  ![v2991.toNat, 2, 80, 128]
def k0_off531 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3008 : Index := Scalar.indexCast v1487
  let c0_2434 : Index := 0#32
  let c112_2435 : Index := 112#32
  let c128_2436 : Index := 128#32
  ![v3008.toNat, 0, 112, 128]
def k0_off532 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3012 : Index := Scalar.indexCast v1487
  let c1_2437 : Index := 1#32
  let c112_2438 : Index := 112#32
  let c128_2439 : Index := 128#32
  ![v3012.toNat, 1, 112, 128]
def k0_off533 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3016 : Index := Scalar.indexCast v1487
  let c2_2440 : Index := 2#32
  let c112_2441 : Index := 112#32
  let c128_2442 : Index := 128#32
  ![v3016.toNat, 2, 112, 128]
def k0_off534 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3033 : Index := Scalar.indexCast v1487
  let c0_2445 : Index := 0#32
  let c144_2446 : Index := 144#32
  let c128_2447 : Index := 128#32
  ![v3033.toNat, 0, 144, 128]
def k0_off535 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3037 : Index := Scalar.indexCast v1487
  let c1_2448 : Index := 1#32
  let c144_2449 : Index := 144#32
  let c128_2450 : Index := 128#32
  ![v3037.toNat, 1, 144, 128]
def k0_off536 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3041 : Index := Scalar.indexCast v1487
  let c2_2451 : Index := 2#32
  let c144_2452 : Index := 144#32
  let c128_2453 : Index := 128#32
  ![v3041.toNat, 2, 144, 128]
def k0_off537 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3058 : Index := Scalar.indexCast v1487
  let c0_2456 : Index := 0#32
  let c176_2457 : Index := 176#32
  let c128_2458 : Index := 128#32
  ![v3058.toNat, 0, 176, 128]
def k0_off538 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3062 : Index := Scalar.indexCast v1487
  let c1_2459 : Index := 1#32
  let c176_2460 : Index := 176#32
  let c128_2461 : Index := 128#32
  ![v3062.toNat, 1, 176, 128]
def k0_off539 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3066 : Index := Scalar.indexCast v1487
  let c2_2462 : Index := 2#32
  let c176_2463 : Index := 176#32
  let c128_2464 : Index := 128#32
  ![v3066.toNat, 2, 176, 128]
def k0_off540 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3083 : Index := Scalar.indexCast v1487
  let c0_2467 : Index := 0#32
  let c208_2468 : Index := 208#32
  let c128_2469 : Index := 128#32
  ![v3083.toNat, 0, 208, 128]
def k0_off541 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3087 : Index := Scalar.indexCast v1487
  let c1_2470 : Index := 1#32
  let c208_2471 : Index := 208#32
  let c128_2472 : Index := 128#32
  ![v3087.toNat, 1, 208, 128]
def k0_off542 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3091 : Index := Scalar.indexCast v1487
  let c2_2473 : Index := 2#32
  let c208_2474 : Index := 208#32
  let c128_2475 : Index := 128#32
  ![v3091.toNat, 2, 208, 128]
def k0_off543 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3108 : Index := Scalar.indexCast v1487
  let c0_2478 : Index := 0#32
  let c240_2479 : Index := 240#32
  let c128_2480 : Index := 128#32
  ![v3108.toNat, 0, 240, 128]
def k0_off544 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3112 : Index := Scalar.indexCast v1487
  let c1_2481 : Index := 1#32
  let c240_2482 : Index := 240#32
  let c128_2483 : Index := 128#32
  ![v3112.toNat, 1, 240, 128]
def k0_off545 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c2_i32 : BitVec 32 := 2#32
  let c0_i32_1362 : BitVec 32 := 0#32
  let v1478 : BitVec 1 := Scalar.cmpi .eq c2_i32 c0_i32_1362
  let c1_i32_1363 : BitVec 32 := 1#32
  let v1479 : BitVec 32 := Scalar.select v1478 c1_i32_1363 c2_i32
  let v1480 : BitVec 32 := Scalar.remsi arg11 v1479
  let c0_i32_1365 : BitVec 32 := 0#32
  let v1482 : BitVec 1 := Scalar.cmpi .slt v1480 c0_i32_1365
  let c0_i32_1366 : BitVec 32 := 0#32
  let v1483 : BitVec 1 := Scalar.cmpi .slt v1479 c0_i32_1366
  let v1484 : BitVec 1 := Scalar.xori v1482 v1483
  let c0_i32_1364 : BitVec 32 := 0#32
  let v1481 : BitVec 1 := Scalar.cmpi .ne v1480 c0_i32_1364
  let v1485 : BitVec 1 := Scalar.andi v1484 v1481
  let v1486 : BitVec 32 := Scalar.addi v1480 v1479
  let v1487 : BitVec 32 := Scalar.select v1485 v1486 v1480
  let v3116 : Index := Scalar.indexCast v1487
  let c2_2484 : Index := 2#32
  let c240_2485 : Index := 240#32
  let c128_2486 : Index := 128#32
  ![v3116.toNat, 2, 240, 128]
def k0_off546 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c1_i32_2488 : BitVec 32 := 1#32
  let v3121 : BitVec 32 := Scalar.subi arg11 c1_i32_2488
  let c2_i32_2489 : BitVec 32 := 2#32
  let c0_i32_2490 : BitVec 32 := 0#32
  let v3122 : BitVec 1 := Scalar.cmpi .eq c2_i32_2489 c0_i32_2490
  let c1_i32_2491 : BitVec 32 := 1#32
  let v3123 : BitVec 32 := Scalar.select v3122 c1_i32_2491 c2_i32_2489
  let v3124 : BitVec 32 := Scalar.remsi v3121 v3123
  let c0_i32_2493 : BitVec 32 := 0#32
  let v3126 : BitVec 1 := Scalar.cmpi .slt v3124 c0_i32_2493
  let c0_i32_2494 : BitVec 32 := 0#32
  let v3127 : BitVec 1 := Scalar.cmpi .slt v3123 c0_i32_2494
  let v3128 : BitVec 1 := Scalar.xori v3126 v3127
  let c0_i32_2492 : BitVec 32 := 0#32
  let v3125 : BitVec 1 := Scalar.cmpi .ne v3124 c0_i32_2492
  let v3129 : BitVec 1 := Scalar.andi v3128 v3125
  let v3130 : BitVec 32 := Scalar.addi v3124 v3123
  let v3131 : BitVec 32 := Scalar.select v3129 v3130 v3124
  let v3134 : Index := Scalar.indexCast v3131
  let c0_2497 : Index := 0#32
  let c0_2498 : Index := 0#32
  let c0_2499 : Index := 0#32
  ![v3134.toNat, 0, 0, 0]
def k0_off547 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c1_i32_2488 : BitVec 32 := 1#32
  let v3121 : BitVec 32 := Scalar.subi arg11 c1_i32_2488
  let c2_i32_2489 : BitVec 32 := 2#32
  let c0_i32_2490 : BitVec 32 := 0#32
  let v3122 : BitVec 1 := Scalar.cmpi .eq c2_i32_2489 c0_i32_2490
  let c1_i32_2491 : BitVec 32 := 1#32
  let v3123 : BitVec 32 := Scalar.select v3122 c1_i32_2491 c2_i32_2489
  let v3124 : BitVec 32 := Scalar.remsi v3121 v3123
  let c0_i32_2493 : BitVec 32 := 0#32
  let v3126 : BitVec 1 := Scalar.cmpi .slt v3124 c0_i32_2493
  let c0_i32_2494 : BitVec 32 := 0#32
  let v3127 : BitVec 1 := Scalar.cmpi .slt v3123 c0_i32_2494
  let v3128 : BitVec 1 := Scalar.xori v3126 v3127
  let c0_i32_2492 : BitVec 32 := 0#32
  let v3125 : BitVec 1 := Scalar.cmpi .ne v3124 c0_i32_2492
  let v3129 : BitVec 1 := Scalar.andi v3128 v3125
  let v3130 : BitVec 32 := Scalar.addi v3124 v3123
  let v3131 : BitVec 32 := Scalar.select v3129 v3130 v3124
  let v3138 : Index := Scalar.indexCast v3131
  let c1_2501 : Index := 1#32
  let c0_2502 : Index := 0#32
  let c0_2503 : Index := 0#32
  ![v3138.toNat, 1, 0, 0]
def k0_off548 (k0_t2 : Fin k0_t2_loop.trips) : Fin 4 → Nat :=
  let c1_i32_1323 : BitVec 32 := 1#32
  let c1_i32_1324 : BitVec 32 := 1#32
  let arg11 : BitVec 32 := Scf.iv c1_i32_1323 c1_i32_1324 k0_t2
  let c1_i32_2488 : BitVec 32 := 1#32
  let v3121 : BitVec 32 := Scalar.subi arg11 c1_i32_2488
  let c2_i32_2489 : BitVec 32 := 2#32
  let c0_i32_2490 : BitVec 32 := 0#32
  let v3122 : BitVec 1 := Scalar.cmpi .eq c2_i32_2489 c0_i32_2490
  let c1_i32_2491 : BitVec 32 := 1#32
  let v3123 : BitVec 32 := Scalar.select v3122 c1_i32_2491 c2_i32_2489
  let v3124 : BitVec 32 := Scalar.remsi v3121 v3123
  let c0_i32_2493 : BitVec 32 := 0#32
  let v3126 : BitVec 1 := Scalar.cmpi .slt v3124 c0_i32_2493
  let c0_i32_2494 : BitVec 32 := 0#32
  let v3127 : BitVec 1 := Scalar.cmpi .slt v3123 c0_i32_2494
  let v3128 : BitVec 1 := Scalar.xori v3126 v3127
  let c0_i32_2492 : BitVec 32 := 0#32
  let v3125 : BitVec 1 := Scalar.cmpi .ne v3124 c0_i32_2492
  let v3129 : BitVec 1 := Scalar.andi v3128 v3125
  let v3130 : BitVec 32 := Scalar.addi v3124 v3123
  let v3131 : BitVec 32 := Scalar.select v3129 v3130 v3124
  let v3143 : Index := Scalar.indexCast v3131
  let c2_2505 : Index := 2#32
  let c0_2506 : Index := 0#32
  let c0_2507 : Index := 0#32
  ![v3143.toNat, 2, 0, 0]
def k0_off549 (k0_t2 : Fin k0_t2_loop.trips) : Fin 3 → Nat :=
  let c1_i32_1323 : BitVec 32 := 1#32
  let c1_i32_1324 : BitVec 32 := 1#32
  let arg11 : BitVec 32 := Scf.iv c1_i32_1323 c1_i32_1324 k0_t2
  let c1_i32_2487 : BitVec 32 := 1#32
  let v3120 : BitVec 32 := Scalar.subi arg11 c1_i32_2487
  let v3148 : Index := Scalar.indexCast v3120
  let c0_2509 : Index := 0#32
  let c0_2510 : Index := 0#32
  ![v3148.toNat, 0, 0]
@[reducible] def k0_t3_loop : Scf.Loop 32 :=
  let c0_i32_1359 : BitVec 32 := 0#32
  let c12_i32 : BitVec 32 := 12#32
  let v1477 : BitVec 32 := Scalar.addi c0_i32_1359 c12_i32
  let c1_i32_1360 : BitVec 32 := 1#32
  ⟨c0_i32_1359, v1477, c1_i32_1360⟩
def k0_off550 (k0_t3 : Fin k0_t3_loop.trips) : Fin 3 → Nat :=
  let c0_i32_1359 : BitVec 32 := 0#32
  let c1_i32_1360 : BitVec 32 := 1#32
  let arg11 : BitVec 32 := Scf.iv c0_i32_1359 c1_i32_1360 k0_t3
  let v1478 : Index := Scalar.indexCast arg11
  let c0_1362 : Index := 0#32
  let c0_1363 : Index := 0#32
  ![v1478.toNat, 0, 0]
def k0_mult26 (k0_t3 : Fin k0_t3_loop.trips) : BitVec 32 :=
  let c0_i32_1359 : BitVec 32 := 0#32
  let c1_i32_1360 : BitVec 32 := 1#32
  let arg11 : BitVec 32 := Scf.iv c0_i32_1359 c1_i32_1360 k0_t3
  let c2048_i32 : BitVec 32 := 2048#32
  let v1487 : BitVec 32 := Scalar.muli arg11 c2048_i32
  let c0_i32_1366 : BitVec 32 := 0#32
  let v1488 : BitVec 32 := Scalar.addi v1487 c0_i32_1366
  v1488
def k0_off551 (k0_t3 : Fin k0_t3_loop.trips) (c0_i32_1366 : BitVec 32) : Fin 2 → Nat :=
  let c0_1367 : Index := 0#32
  let c0_i32_1359 : BitVec 32 := 0#32
  let c1_i32_1360 : BitVec 32 := 1#32
  let arg11 : BitVec 32 := Scf.iv c0_i32_1359 c1_i32_1360 k0_t3
  let c2048_i32 : BitVec 32 := 2048#32
  let v1487 : BitVec 32 := Scalar.muli arg11 c2048_i32
  let v1488 : BitVec 32 := Scalar.addi v1487 c0_i32_1366
  let v1489 : BitVec 32 := v1488
  let v1491 : Index := Scalar.indexCast v1489
  ![0, v1491.toNat]
def k0_off552 (k0_t3 : Fin k0_t3_loop.trips) : Fin 3 → Nat :=
  let c0_i32_1359 : BitVec 32 := 0#32
  let c1_i32_1360 : BitVec 32 := 1#32
  let arg11 : BitVec 32 := Scf.iv c0_i32_1359 c1_i32_1360 k0_t3
  let v1493 : Index := Scalar.indexCast arg11
  let c32_1368 : Index := 32#32
  let c0_1369 : Index := 0#32
  ![v1493.toNat, 32, 0]
def k0_mult27 (k0_t3 : Fin k0_t3_loop.trips) : BitVec 32 :=
  let c0_i32_1359 : BitVec 32 := 0#32
  let c1_i32_1360 : BitVec 32 := 1#32
  let arg11 : BitVec 32 := Scf.iv c0_i32_1359 c1_i32_1360 k0_t3
  let c2048_i32_1372 : BitVec 32 := 2048#32
  let v1502 : BitVec 32 := Scalar.muli arg11 c2048_i32_1372
  let c256_i32 : BitVec 32 := 256#32
  let v1503 : BitVec 32 := Scalar.addi v1502 c256_i32
  v1503
def k0_off553 (k0_t3 : Fin k0_t3_loop.trips) : Fin 3 → Nat :=
  let c0_i32_1359 : BitVec 32 := 0#32
  let c1_i32_1360 : BitVec 32 := 1#32
  let arg11 : BitVec 32 := Scf.iv c0_i32_1359 c1_i32_1360 k0_t3
  let v1508 : Index := Scalar.indexCast arg11
  let c64_1374 : Index := 64#32
  let c0_1375 : Index := 0#32
  ![v1508.toNat, 64, 0]
def k0_mult28 (k0_t3 : Fin k0_t3_loop.trips) : BitVec 32 :=
  let c0_i32_1359 : BitVec 32 := 0#32
  let c1_i32_1360 : BitVec 32 := 1#32
  let arg11 : BitVec 32 := Scf.iv c0_i32_1359 c1_i32_1360 k0_t3
  let c2048_i32_1378 : BitVec 32 := 2048#32
  let v1517 : BitVec 32 := Scalar.muli arg11 c2048_i32_1378
  let c512_i32 : BitVec 32 := 512#32
  let v1518 : BitVec 32 := Scalar.addi v1517 c512_i32
  v1518
def k0_off554 (k0_t3 : Fin k0_t3_loop.trips) : Fin 3 → Nat :=
  let c0_i32_1359 : BitVec 32 := 0#32
  let c1_i32_1360 : BitVec 32 := 1#32
  let arg11 : BitVec 32 := Scf.iv c0_i32_1359 c1_i32_1360 k0_t3
  let v1523 : Index := Scalar.indexCast arg11
  let c96_1380 : Index := 96#32
  let c0_1381 : Index := 0#32
  ![v1523.toNat, 96, 0]
def k0_mult29 (k0_t3 : Fin k0_t3_loop.trips) : BitVec 32 :=
  let c0_i32_1359 : BitVec 32 := 0#32
  let c1_i32_1360 : BitVec 32 := 1#32
  let arg11 : BitVec 32 := Scf.iv c0_i32_1359 c1_i32_1360 k0_t3
  let c2048_i32_1384 : BitVec 32 := 2048#32
  let v1532 : BitVec 32 := Scalar.muli arg11 c2048_i32_1384
  let c768_i32 : BitVec 32 := 768#32
  let v1533 : BitVec 32 := Scalar.addi v1532 c768_i32
  v1533
def k0_off555 (k0_t3 : Fin k0_t3_loop.trips) : Fin 3 → Nat :=
  let c0_i32_1359 : BitVec 32 := 0#32
  let c1_i32_1360 : BitVec 32 := 1#32
  let arg11 : BitVec 32 := Scf.iv c0_i32_1359 c1_i32_1360 k0_t3
  let v1538 : Index := Scalar.indexCast arg11
  let c128_1386 : Index := 128#32
  let c0_1387 : Index := 0#32
  ![v1538.toNat, 128, 0]
def k0_mult30 (k0_t3 : Fin k0_t3_loop.trips) : BitVec 32 :=
  let c0_i32_1359 : BitVec 32 := 0#32
  let c1_i32_1360 : BitVec 32 := 1#32
  let arg11 : BitVec 32 := Scf.iv c0_i32_1359 c1_i32_1360 k0_t3
  let c2048_i32_1390 : BitVec 32 := 2048#32
  let v1547 : BitVec 32 := Scalar.muli arg11 c2048_i32_1390
  let c1024_i32 : BitVec 32 := 1024#32
  let v1548 : BitVec 32 := Scalar.addi v1547 c1024_i32
  v1548
def k0_off556 (k0_t3 : Fin k0_t3_loop.trips) : Fin 3 → Nat :=
  let c0_i32_1359 : BitVec 32 := 0#32
  let c1_i32_1360 : BitVec 32 := 1#32
  let arg11 : BitVec 32 := Scf.iv c0_i32_1359 c1_i32_1360 k0_t3
  let v1553 : Index := Scalar.indexCast arg11
  let c160_1392 : Index := 160#32
  let c0_1393 : Index := 0#32
  ![v1553.toNat, 160, 0]
def k0_mult31 (k0_t3 : Fin k0_t3_loop.trips) : BitVec 32 :=
  let c0_i32_1359 : BitVec 32 := 0#32
  let c1_i32_1360 : BitVec 32 := 1#32
  let arg11 : BitVec 32 := Scf.iv c0_i32_1359 c1_i32_1360 k0_t3
  let c2048_i32_1396 : BitVec 32 := 2048#32
  let v1562 : BitVec 32 := Scalar.muli arg11 c2048_i32_1396
  let c1280_i32 : BitVec 32 := 1280#32
  let v1563 : BitVec 32 := Scalar.addi v1562 c1280_i32
  v1563
def k0_off557 (k0_t3 : Fin k0_t3_loop.trips) : Fin 3 → Nat :=
  let c0_i32_1359 : BitVec 32 := 0#32
  let c1_i32_1360 : BitVec 32 := 1#32
  let arg11 : BitVec 32 := Scf.iv c0_i32_1359 c1_i32_1360 k0_t3
  let v1568 : Index := Scalar.indexCast arg11
  let c192_1398 : Index := 192#32
  let c0_1399 : Index := 0#32
  ![v1568.toNat, 192, 0]
def k0_mult32 (k0_t3 : Fin k0_t3_loop.trips) : BitVec 32 :=
  let c0_i32_1359 : BitVec 32 := 0#32
  let c1_i32_1360 : BitVec 32 := 1#32
  let arg11 : BitVec 32 := Scf.iv c0_i32_1359 c1_i32_1360 k0_t3
  let c2048_i32_1402 : BitVec 32 := 2048#32
  let v1577 : BitVec 32 := Scalar.muli arg11 c2048_i32_1402
  let c1536_i32 : BitVec 32 := 1536#32
  let v1578 : BitVec 32 := Scalar.addi v1577 c1536_i32
  v1578
def k0_off558 (k0_t3 : Fin k0_t3_loop.trips) : Fin 3 → Nat :=
  let c0_i32_1359 : BitVec 32 := 0#32
  let c1_i32_1360 : BitVec 32 := 1#32
  let arg11 : BitVec 32 := Scf.iv c0_i32_1359 c1_i32_1360 k0_t3
  let v1583 : Index := Scalar.indexCast arg11
  let c224_1404 : Index := 224#32
  let c0_1405 : Index := 0#32
  ![v1583.toNat, 224, 0]
def k0_mult33 (k0_t3 : Fin k0_t3_loop.trips) : BitVec 32 :=
  let c0_i32_1359 : BitVec 32 := 0#32
  let c1_i32_1360 : BitVec 32 := 1#32
  let arg11 : BitVec 32 := Scf.iv c0_i32_1359 c1_i32_1360 k0_t3
  let c2048_i32_1408 : BitVec 32 := 2048#32
  let v1592 : BitVec 32 := Scalar.muli arg11 c2048_i32_1408
  let c1792_i32 : BitVec 32 := 1792#32
  let v1593 : BitVec 32 := Scalar.addi v1592 c1792_i32
  v1593
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S12x4 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S32x24576 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x24576 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x24576 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RotateIdeal.lean ====
variable {F : FTy → Type} [FloatOps F]
-- ==== RotationIdeal.lean ====
abbrev S6144x24576 : Shape := ⟨2, ![6144, 24576]⟩
abbrev S12x12 : Shape := ⟨2, ![12, 12]⟩
abbrev S_ : Shape := ⟨0, ![]⟩
abbrev S6144x384x64 : Shape := ⟨3, ![6144, 384, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S32 : Shape := ⟨1, ![32]⟩
abbrev S32x1 : Shape := ⟨2, ![32, 1]⟩
abbrev S1x32 : Shape := ⟨2, ![1, 32]⟩
abbrev S32x32 : Shape := ⟨2, ![32, 32]⟩
abbrev S12x1x12x1 : Shape := ⟨4, ![12, 1, 12, 1]⟩
abbrev S1x32x1x32 : Shape := ⟨4, ![1, 32, 1, 32]⟩
abbrev S12x32x12x32 : Shape := ⟨4, ![12, 32, 12, 32]⟩
abbrev S384x384 : Shape := ⟨2, ![384, 384]⟩
abbrev S6144x64x384 : Shape := ⟨3, ![6144, 64, 384]⟩
abbrev S6144 : Shape := ⟨1, ![6144]⟩
abbrev S6144x1 : Shape := ⟨2, ![6144, 1]⟩
abbrev S6144x128 : Shape := ⟨2, ![6144, 128]⟩

abbrev nBuf : Space → Nat
  | .hbm => 91
  | .vmem => 0
  | .smem => 0
  | _ => 0

abbrev bufTy : (tb : Table) → Fin (tcTables nBuf tb) → BufTy
  | .hbm, ⟨0, _⟩ => ⟨S6144x24576, .bf16⟩
  | .hbm, ⟨1, _⟩ => ⟨S6144x24576, .bf16⟩
  | .hbm, ⟨2, _⟩ => ⟨S12x12, .f32⟩
  | .hbm, ⟨3, _⟩ => ⟨S6144x24576, .f32⟩
  | .hbm, ⟨4, _⟩ => ⟨S6144x24576, .f32⟩
  | .hbm, ⟨5, _⟩ => ⟨S6144x24576, .f32⟩
  | .hbm, ⟨6, _⟩ => ⟨S6144x24576, .f32⟩
  | .hbm, ⟨7, _⟩ => ⟨S_, .f32⟩
  | .hbm, ⟨8, _⟩ => ⟨S6144x24576, .f32⟩
  | .hbm, ⟨9, _⟩ => ⟨S6144x24576, .f32⟩
  | .hbm, ⟨10, _⟩ => ⟨S_, .f32⟩
  | .hbm, ⟨11, _⟩ => ⟨S6144x24576, .f32⟩
  | .hbm, ⟨12, _⟩ => ⟨S6144x24576, .f32⟩
  | .hbm, ⟨13, _⟩ => ⟨S6144x24576, .f32⟩
  | .hbm, ⟨14, _⟩ => ⟨S6144x24576, .f32⟩
  | .hbm, ⟨15, _⟩ => ⟨S6144x384x64, .f32⟩
  | .hbm, ⟨16, _⟩ => ⟨S64, .i32⟩
  | .hbm, ⟨17, _⟩ => ⟨S64x1, .i32⟩
  | .hbm, ⟨18, _⟩ => ⟨S1x64, .i32⟩
  | .hbm, ⟨19, _⟩ => ⟨S64x64, .i32⟩
  | .hbm, ⟨20, _⟩ => ⟨S64x64, .i32⟩
  | .hbm, ⟨21, _⟩ => ⟨S64x64, .i32⟩
  | .hbm, ⟨22, _⟩ => ⟨S64x64, .i32⟩
  | .hbm, ⟨23, _⟩ => ⟨S_, .i32⟩
  | .hbm, ⟨24, _⟩ => ⟨S64x64, .i32⟩
  | .hbm, ⟨25, _⟩ => ⟨S64x64, .i32⟩
  | .hbm, ⟨26, _⟩ => ⟨S_, .i32⟩
  | .hbm, ⟨27, _⟩ => ⟨S64x64, .i32⟩
  | .hbm, ⟨28, _⟩ => ⟨S64x64, .i32⟩
  | .hbm, ⟨29, _⟩ => ⟨S_, .i32⟩
  | .hbm, ⟨30, _⟩ => ⟨S64x64, .i32⟩
  | .hbm, ⟨31, _⟩ => ⟨S64x64, .i32⟩
  | .hbm, ⟨32, _⟩ => ⟨S64x64, .f32⟩
  | .hbm, ⟨33, _⟩ => ⟨S32, .i32⟩
  | .hbm, ⟨34, _⟩ => ⟨S32x1, .i32⟩
  | .hbm, ⟨35, _⟩ => ⟨S1x32, .i32⟩
  | .hbm, ⟨36, _⟩ => ⟨S32x32, .i32⟩
  | .hbm, ⟨37, _⟩ => ⟨S32x32, .i32⟩
  | .hbm, ⟨38, _⟩ => ⟨S32x32, .i32⟩
  | .hbm, ⟨39, _⟩ => ⟨S32x32, .i32⟩
  | .hbm, ⟨40, _⟩ => ⟨S_, .i32⟩
  | .hbm, ⟨41, _⟩ => ⟨S32x32, .i32⟩
  | .hbm, ⟨42, _⟩ => ⟨S32x32, .i32⟩
  | .hbm, ⟨43, _⟩ => ⟨S_, .i32⟩
  | .hbm, ⟨44, _⟩ => ⟨S32x32, .i32⟩
  | .hbm, ⟨45, _⟩ => ⟨S32x32, .i32⟩
  | .hbm, ⟨46, _⟩ => ⟨S_, .i32⟩
  | .hbm, ⟨47, _⟩ => ⟨S32x32, .i32⟩
  | .hbm, ⟨48, _⟩ => ⟨S32x32, .i32⟩
  | .hbm, ⟨49, _⟩ => ⟨S32x32, .f32⟩
  | .hbm, ⟨50, _⟩ => ⟨S6144x384x64, .f32⟩
  | .hbm, ⟨51, _⟩ => ⟨S12x1x12x1, .f32⟩
  | .hbm, ⟨52, _⟩ => ⟨S1x32x1x32, .f32⟩
  | .hbm, ⟨53, _⟩ => ⟨S12x32x12x32, .f32⟩
  | .hbm, ⟨54, _⟩ => ⟨S12x32x12x32, .f32⟩
  | .hbm, ⟨55, _⟩ => ⟨S12x32x12x32, .f32⟩
  | .hbm, ⟨56, _⟩ => ⟨S384x384, .f32⟩
  | .hbm, ⟨57, _⟩ => ⟨S6144x64x384, .f32⟩
  | .hbm, ⟨58, _⟩ => ⟨S6144x384x64, .f32⟩
  | .hbm, ⟨59, _⟩ => ⟨S_, .f32⟩
  | .hbm, ⟨60, _⟩ => ⟨S6144x384x64, .f32⟩
  | .hbm, ⟨61, _⟩ => ⟨S6144x384x64, .f32⟩
  | .hbm, ⟨62, _⟩ => ⟨S6144x24576, .f32⟩
  | .hbm, ⟨63, _⟩ => ⟨S6144x24576, .f32⟩
  | .hbm, ⟨64, _⟩ => ⟨S_, .f32⟩
  | .hbm, ⟨65, _⟩ => ⟨S6144, .f32⟩
  | .hbm, ⟨66, _⟩ => ⟨S_, .f32⟩
  | .hbm, ⟨67, _⟩ => ⟨S6144, .f32⟩
  | .hbm, ⟨68, _⟩ => ⟨S6144, .i1⟩
  | .hbm, ⟨69, _⟩ => ⟨S_, .f32⟩
  | .hbm, ⟨70, _⟩ => ⟨S6144, .f32⟩
  | .hbm, ⟨71, _⟩ => ⟨S6144, .f32⟩
  | .hbm, ⟨72, _⟩ => ⟨S_, .f32⟩
  | .hbm, ⟨73, _⟩ => ⟨S6144, .f32⟩
  | .hbm, ⟨74, _⟩ => ⟨S6144, .f32⟩
  | .hbm, ⟨75, _⟩ => ⟨S6144x1, .f32⟩
  | .hbm, ⟨76, _⟩ => ⟨S6144x24576, .f32⟩
  | .hbm, ⟨77, _⟩ => ⟨S6144x24576, .f32⟩
  | .hbm, ⟨78, _⟩ => ⟨S6144x24576, .f32⟩
  | .hbm, ⟨79, _⟩ => ⟨S_, .i32⟩
  | .hbm, ⟨80, _⟩ => ⟨S_, .i32⟩
  | .hbm, ⟨81, _⟩ => ⟨S_, .f32⟩
  | .hbm, ⟨82, _⟩ => ⟨S6144x24576, .f32⟩
  | .hbm, ⟨83, _⟩ => ⟨S6144x24576, .f32⟩
  | .hbm, ⟨84, _⟩ => ⟨S_, .f32⟩
  | .hbm, ⟨85, _⟩ => ⟨S6144x24576, .f32⟩
  | .hbm, ⟨86, _⟩ => ⟨S6144x24576, .f32⟩
  | .hbm, ⟨87, _⟩ => ⟨S6144x24576, .i32⟩
  | .hbm, ⟨88, _⟩ => ⟨S6144x24576, .i8⟩
  | .hbm, ⟨89, _⟩ => ⟨S6144x1, .f32⟩
  | .hbm, ⟨90, _⟩ => ⟨S6144x128, .f32⟩
  | _, _ => ⟨S6144x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_v20 : Ref sig .tc := ⟨.hbm, 27, rfl⟩
abbrev main_v21 : Ref sig .tc := ⟨.hbm, 28, rfl⟩
abbrev main_c_2 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_c_5 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_6 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_7 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_cst_9 : Ref sig .tc := ⟨.hbm, 69, rfl⟩
abbrev main_v55 : Ref sig .tc := ⟨.hbm, 70, rfl⟩
abbrev main_v56 : Ref sig .tc := ⟨.hbm, 71, rfl⟩
abbrev main_cst_10 : Ref sig .tc := ⟨.hbm, 72, rfl⟩
abbrev main_call0_v0 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_c_11 : Ref sig .tc := ⟨.hbm, 79, rfl⟩
abbrev main_c_12 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩

abbrev nD : Nat := 1
abbrev τ : Topo := Topo.v7x

variable {F : FTy → Type} [FloatOps F]
-- ==== Proof.RotateBuild.lean ====
/-
  ROTATION, step 1.
-/
module

public import proofs.«01_k».proof.Proof.Gen.RotateIdeal.Loops
public import proofs.«01_k».proof.Proof.Gen.RotateIdeal.Frame

@[expose] public section

set_option maxRecDepth 16384
set_option maxHeartbeats 4000000

noncomputable section

namespace Cert.Proof.Build

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Where trip `k` stores the sign pattern `s` of block `p`. -/
abbrev tOff (k : Fin k0_t1_loop.trips) (s p : ℕ) : Fin 6 → ℕ := ![k.val / 4, s, p, k.val / 2 % 2, 16 * (k.val % 2), 0]

instance (k : _) : ClosedOff (k0_off2 k) := ⟨![k.val / 4, 0, 0, k.val / 2 % 2, 16 * (k.val % 2), 0], by revert k; decide +kernel⟩
instance (k : _) : ClosedOff (k0_off3 k) := ⟨![k.val / 4, 7, 0, k.val / 2 % 2, 16 * (k.val % 2), 0], by revert k; decide +kernel⟩
instance (k : _) : ClosedOff (k0_off4 k) := ⟨![k.val / 4, 1, 0, k.val / 2 % 2, 16 * (k.val % 2), 0], by revert k; decide +kernel⟩
instance (k : _) : ClosedOff (k0_off5 k) := ⟨![k.val / 4, 6, 0, k.val / 2 % 2, 16 * (k.val % 2), 0], by revert k; decide +kernel⟩
instance (k : _) : ClosedOff (k0_off6 k) := ⟨![k.val / 4, 2, 0, k.val / 2 % 2, 16 * (k.val % 2), 0], by revert k; decide +kernel⟩
instance (k : _) : ClosedOff (k0_off7 k) := ⟨![k.val / 4, 5, 0, k.val / 2 % 2, 16 * (k.val % 2), 0], by revert k; decide +kernel⟩
instance (k : _) : ClosedOff (k0_off8 k) := ⟨![k.val / 4, 3, 0, k.val / 2 % 2, 16 * (k.val % 2), 0], by revert k; decide +kernel⟩
instance (k : _) : ClosedOff (k0_off9 k) := ⟨![k.val / 4, 4, 0, k.val / 2 % 2, 16 * (k.val % 2), 0], by revert k; decide +kernel⟩
instance (k : _) : ClosedOff (k0_off10 k) := ⟨![k.val / 4, 0, 1, k.val / 2 % 2, 16 * (k.val % 2), 0], by revert k; decide +kernel⟩
instance (k : _) : ClosedOff (k0_off11 k) := ⟨![k.val / 4, 7, 1, k.val / 2 % 2, 16 * (k.val % 2), 0], by revert k; decide +kernel⟩
instance (k : _) : ClosedOff (k0_off12 k) := ⟨![k.val / 4, 1, 1, k.val / 2 % 2, 16 * (k.val % 2), 0], by revert k; decide +kernel⟩
instance (k : _) : ClosedOff (k0_off13 k) := ⟨![k.val / 4, 6, 1, k.val / 2 % 2, 16 * (k.val % 2), 0], by revert k; decide +kernel⟩
instance (k : _) : ClosedOff (k0_off14 k) := ⟨![k.val / 4, 2, 1, k.val / 2 % 2, 16 * (k.val % 2), 0], by revert k; decide +kernel⟩
instance (k : _) : ClosedOff (k0_off15 k) := ⟨![k.val / 4, 5, 1, k.val / 2 % 2, 16 * (k.val % 2), 0], by revert k; decide +kernel⟩
instance (k : _) : ClosedOff (k0_off16 k) := ⟨![k.val / 4, 3, 1, k.val / 2 % 2, 16 * (k.val % 2), 0], by revert k; decide +kernel⟩
instance (k : _) : ClosedOff (k0_off17 k) := ⟨![k.val / 4, 4, 1, k.val / 2 % 2, 16 * (k.val % 2), 0], by revert k; decide +kernel⟩
instance (k : _) : ClosedOff (k0_off18 k) := ⟨![k.val / 4, 0, 2, k.val / 2 % 2, 16 * (k.val % 2), 0], by revert k; decide +kernel⟩
instance (k : _) : ClosedOff (k0_off19 k) := ⟨![k.val / 4, 7, 2, k.val / 2 % 2, 16 * (k.val % 2), 0], by revert k; decide +kernel⟩
instance (k : _) : ClosedOff (k0_off20 k) := ⟨![k.val / 4, 1, 2, k.val / 2 % 2, 16 * (k.val % 2), 0], by revert k; decide +kernel⟩
instance (k : _) : ClosedOff (k0_off21 k) := ⟨![k.val / 4, 6, 2, k.val / 2 % 2, 16 * (k.val % 2), 0], by revert k; decide +kernel⟩
instance (k : _) : ClosedOff (k0_off22 k) := ⟨![k.val / 4, 2, 2, k.val / 2 % 2, 16 * (k.val % 2), 0], by revert k; decide +kernel⟩
instance (k : _) : ClosedOff (k0_off23 k) := ⟨![k.val / 4, 5, 2, k.val / 2 % 2, 16 * (k.val % 2), 0], by revert k; decide +kernel⟩
instance (k : _) : ClosedOff (k0_off24 k) := ⟨![k.val / 4, 3, 2, k.val / 2 % 2, 16 * (k.val % 2), 0], by revert k; decide +kernel⟩
instance (k : _) : ClosedOff (k0_off25 k) := ⟨![k.val / 4, 4, 2, k.val / 2 % 2, 16 * (k.val % 2), 0], by revert k; decide +kernel⟩
instance (k : _) : ClosedOff (k0_off26 k) := ⟨![k.val / 4, 0, 3, k.val / 2 % 2, 16 * (k.val % 2), 0], by revert k; decide +kernel⟩
instance (k : _) : ClosedOff (k0_off27 k) := ⟨![k.val / 4, 7, 3, k.val / 2 % 2, 16 * (k.val % 2), 0], by revert k; decide +kernel⟩
instance (k : _) : ClosedOff (k0_off28 k) := ⟨![k.val / 4, 1, 3, k.val / 2 % 2, 16 * (k.val % 2), 0], by revert k; decide +kernel⟩
instance (k : _) : ClosedOff (k0_off29 k) := ⟨![k.val / 4, 6, 3, k.val / 2 % 2, 16 * (k.val % 2), 0], by revert k; decide +kernel⟩
instance (k : _) : ClosedOff (k0_off30 k) := ⟨![k.val / 4, 2, 3, k.val / 2 % 2, 16 * (k.val % 2), 0], by revert k; decide +kernel⟩
instance (k : _) : ClosedOff (k0_off31 k) := ⟨![k.val / 4, 5, 3, k.val / 2 % 2, 16 * (k.val % 2), 0], by revert k; decide +kernel⟩
instance (k : _) : ClosedOff (k0_off32 k) := ⟨![k.val / 4, 3, 3, k.val / 2 % 2, 16 * (k.val % 2), 0], by revert k; decide +kernel⟩
instance (k : _) : ClosedOff (k0_off33 k) := ⟨![k.val / 4, 4, 3, k.val / 2 % 2, 16 * (k.val % 2), 0], by revert k; decide +kernel⟩
instance (k : _) : ClosedOff (k0_off34 k) := ⟨![k.val / 4, 0, 4, k.val / 2 % 2, 16 * (k.val % 2), 0], by revert k; decide +kernel⟩
instance (k : _) : ClosedOff (k0_off35 k) := ⟨![k.val / 4, 7, 4, k.val / 2 % 2, 16 * (k.val % 2), 0], by revert k; decide +kernel⟩
instance (k : _) : ClosedOff (k0_off36 k) := ⟨![k.val / 4, 1, 4, k.val / 2 % 2, 16 * (k.val % 2), 0], by revert k; decide +kernel⟩
instance (k : _) : ClosedOff (k0_off37 k) := ⟨![k.val / 4, 6, 4, k.val / 2 % 2, 16 * (k.val % 2), 0], by revert k; decide +kernel⟩
instance (k : _) : ClosedOff (k0_off38 k) := ⟨![k.val / 4, 2, 4, k.val / 2 % 2, 16 * (k.val % 2), 0], by revert k; decide +kernel⟩
instance (k : _) : ClosedOff (k0_off39 k) := ⟨![k.val / 4, 5, 4, k.val / 2 % 2, 16 * (k.val % 2), 0], by revert k; decide +kernel⟩
instance (k : _) : ClosedOff (k0_off40 k) := ⟨![k.val / 4, 3, 4, k.val / 2 % 2, 16 * (k.val % 2), 0], by revert k; decide +kernel⟩
instance (k : _) : ClosedOff (k0_off41 k) := ⟨![k.val / 4, 4, 4, k.val / 2 % 2, 16 * (k.val % 2), 0], by revert k; decide +kernel⟩
instance (k : _) : ClosedOff (k0_off42 k) := ⟨![k.val / 4, 0, 5, k.val / 2 % 2, 16 * (k.val % 2), 0], by revert k; decide +kernel⟩
instance (k : _) : ClosedOff (k0_off43 k) := ⟨![k.val / 4, 7, 5, k.val / 2 % 2, 16 * (k.val % 2), 0], by revert k; decide +kernel⟩
instance (k : _) : ClosedOff (k0_off44 k) := ⟨![k.val / 4, 1, 5, k.val / 2 % 2, 16 * (k.val % 2), 0], by revert k; decide +kernel⟩
instance (k : _) : ClosedOff (k0_off45 k) := ⟨![k.val / 4, 6, 5, k.val / 2 % 2, 16 * (k.val % 2), 0], by revert k; decide +kernel⟩
instance (k : _) : ClosedOff (k0_off46 k) := ⟨![k.val / 4, 2, 5, k.val / 2 % 2, 16 * (k.val % 2), 0], by revert k; decide +kernel⟩
instance (k : _) : ClosedOff (k0_off47 k) := ⟨![k.val / 4, 5, 5, k.val / 2 % 2, 16 * (k.val % 2), 0], by revert k; decide +kernel⟩
instance (k : _) : ClosedOff (k0_off48 k) := ⟨![k.val / 4, 3, 5, k.val / 2 % 2, 16 * (k.val % 2), 0], by revert k; decide +kernel⟩
instance (k : _) : ClosedOff (k0_off49 k) := ⟨![k.val / 4, 4, 5, k.val / 2 % 2, 16 * (k.val % 2), 0], by revert k; decide +kernel⟩
instance (k : _) : ClosedOff (k0_off50 k) := ⟨![k.val / 4, 0, 6, k.val / 2 % 2, 16 * (k.val % 2), 0], by revert k; decide +kernel⟩
instance (k : _) : ClosedOff (k0_off51 k) := ⟨![k.val / 4, 7, 6, k.val / 2 % 2, 16 * (k.val % 2), 0], by revert k; decide +kernel⟩
instance (k : _) : ClosedOff (k0_off52 k) := ⟨![k.val / 4, 1, 6, k.val / 2 % 2, 16 * (k.val % 2), 0], by revert k; decide +kernel⟩
instance (k : _) : ClosedOff (k0_off53 k) := ⟨![k.val / 4, 6, 6, k.val / 2 % 2, 16 * (k.val % 2), 0], by revert k; decide +kernel⟩
instance (k : _) : ClosedOff (k0_off54 k) := ⟨![k.val / 4, 2, 6, k.val / 2 % 2, 16 * (k.val % 2), 0], by revert k; decide +kernel⟩
instance (k : _) : ClosedOff (k0_off55 k) := ⟨![k.val / 4, 5, 6, k.val / 2 % 2, 16 * (k.val % 2), 0], by revert k; decide +kernel⟩
instance (k : _) : ClosedOff (k0_off56 k) := ⟨![k.val / 4, 3, 6, k.val / 2 % 2, 16 * (k.val % 2), 0], by revert k; decide +kernel⟩
instance (k : _) : ClosedOff (k0_off57 k) := ⟨![k.val / 4, 4, 6, k.val / 2 % 2, 16 * (k.val % 2), 0], by revert k; decide +kernel⟩
instance (k : _) : ClosedOff (k0_off58 k) := ⟨![k.val / 4, 0, 7, k.val / 2 % 2, 16 * (k.val % 2), 0], by revert k; decide +kernel⟩
instance (k : _) : ClosedOff (k0_off59 k) := ⟨![k.val / 4, 7, 7, k.val / 2 % 2, 16 * (k.val % 2), 0], by revert k; decide +kernel⟩
instance (k : _) : ClosedOff (k0_off60 k) := ⟨![k.val / 4, 1, 7, k.val / 2 % 2, 16 * (k.val % 2), 0], by revert k; decide +kernel⟩
instance (k : _) : ClosedOff (k0_off61 k) := ⟨![k.val / 4, 6, 7, k.val / 2 % 2, 16 * (k.val % 2), 0], by revert k; decide +kernel⟩
instance (k : _) : ClosedOff (k0_off62 k) := ⟨![k.val / 4, 2, 7, k.val / 2 % 2, 16 * (k.val % 2), 0], by revert k; decide +kernel⟩
instance (k : _) : ClosedOff (k0_off63 k) := ⟨![k.val / 4, 5, 7, k.val / 2 % 2, 16 * (k.val % 2), 0], by revert k; decide +kernel⟩
instance (k : _) : ClosedOff (k0_off64 k) := ⟨![k.val / 4, 3, 7, k.val / 2 % 2, 16 * (k.val % 2), 0], by revert k; decide +kernel⟩
instance (k : _) : ClosedOff (k0_off65 k) := ⟨![k.val / 4, 4, 7, k.val / 2 % 2, 16 * (k.val % 2), 0], by revert k; decide +kernel⟩

abbrev Trip (c : Dev nD) (arg3 arg4 : Memref sig .tc .vmem S32x24576 .bf16) (arg7 : Memref sig .tc .vmem S4x8x8x2x32x128 .f32)
    (g : BufTy.Contents (Elt F) arg3.view.ty) (u : BufTy.Contents (Elt F) arg4.view.ty) (t : BufTy.Contents (Elt F) arg7.view.ty) : sProp (MT nD τ sig Unit (Elt F) ℕ (UR sig nD τ) ℕ) :=
  iprop((arg3.view.loc (c : Thread nD τ) ↦[arg3.view.set]{fullShare} g) ∗ (arg4.view.loc (c : Thread nD τ) ↦[arg4.view.set]{fullShare} u)
    ∗ (arg7.view.loc (c : Thread nD τ) ↦[arg7.view.set]{fullShare} t))

set_option sl_exec.closedPieces true in
@[irreducible] def trip (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (k : Fin k0_t1_loop.trips) :
    { L : List (View.Piece (Elt F) S4x8x8x2x32x128 .f32) // ∀ (E : Set ℕ) (t : BufTy.Contents (Elt F) arg7.view.ty),
      Trip (F := F) c arg3 arg4 arg7 g u t
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k PUnit.unit)
          (fun _ => Trip (F := F) c arg3 arg4 arg7 g u (arg7.view.writes (Elt F) t L)) } := by
  have hk : k.val < 16 := Nat.lt_of_lt_of_le k.isLt k0_t1_abs.2.1
  refine ⟨?_, fun E t => ?run⟩
  case run =>
    unfold k0_t1_body
    iintro ⟨HG, HU, HT⟩
    sl_exec
    sl_step
    sl_close

end Cert.Proof.Build

end
-- ==== Proof.RotateTable.lean ====
module

public import proofs.«01_k».proof.Proof.RotateBuild
public import Idealize.ShloMosaic.Lib.Pointwise

@[expose] public section
set_option maxRecDepth 16384
set_option maxHeartbeats 4000000
noncomputable section
namespace Cert.Proof.Build

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The gated value at one element. -/
def hE (a b : F .bf16) : F .f32 :=
  FloatOps.mulf (FloatOps.mulf (FloatOps.extf .f32 bitsLt_bf16_f32 a) (FloatOps.extf .f32 bitsLt_bf16_f32 b))
    (FloatOps.divf (Scalar.ofBits .f32 0x3F800000#32) (FloatOps.addf (Scalar.ofBits .f32 0x3F800000#32)
      (FloatOps.exp (FloatOps.subf (Scalar.ofBits .f32 0x00000000#32) (FloatOps.extf .f32 bitsLt_bf16_f32 a)))))

/-- The signed sum of three values for the sign pattern `s`: bits 4, 2, 1 negate the first, second, third. -/
def quadE (s : Fin 8) (a b c : F .f32) : F .f32 :=
  match s with
  | 0 => FloatOps.addf (FloatOps.addf a b) c
  | 1 => FloatOps.subf (FloatOps.addf a b) c
  | 2 => FloatOps.addf (FloatOps.subf a b) c
  | 3 => FloatOps.subf (FloatOps.subf a b) c
  | 4 => FloatOps.subf (Scalar.ofBits .f32 0x00000000#32) (FloatOps.subf (FloatOps.subf a b) c)
  | 5 => FloatOps.subf (Scalar.ofBits .f32 0x00000000#32) (FloatOps.addf (FloatOps.subf a b) c)
  | 6 => FloatOps.subf (Scalar.ofBits .f32 0x00000000#32) (FloatOps.subf (FloatOps.addf a b) c)
  | 7 => FloatOps.subf (Scalar.ofBits .f32 0x00000000#32) (FloatOps.addf (FloatOps.addf a b) c)

theorem tOff_inb (k : Fin k0_t1_loop.trips) (s p : Fin 8) :
    ∀ a, tOff k s.val p.val a + S1x1x1x1x16x128.size a ≤ S4x8x8x2x32x128.size a := by
  revert k s p; decide +kernel

/-- The column block `j` of the tile of block `p` in trip `k`, gated. -/
def hTile (arg3 arg4 : Memref sig .tc .vmem S32x24576 .bf16) (g : BufTy.Contents (Elt F) arg3.view.ty)
    (u : BufTy.Contents (Elt F) arg4.view.ty) (k : Fin k0_t1_loop.trips) (j : Fin 3) (p : Fin 8) (x : S16x128.Idx) : F .f32 :=
  hE (View.readAt (Elt F) arg3.view (Rect.unit (s := S32x24576) (k0_off1 k (BitVec.ofNat 32 j) (BitVec.ofNat 32 (256 * p))) S16x128.size (k0_off1_inb k j p)).toLoadRect g x)
    (View.readAt (Elt F) arg4.view (Rect.unit (s := S32x24576) (k0_off1 k (BitVec.ofNat 32 j) (BitVec.ofNat 32 (256 * p))) S16x128.size (k0_off1_inb k j p)).toLoadRect u x)

/-- What trip `k` stores for the sign pattern `s` of block `p`. -/
def pieceOf (arg3 arg4 : Memref sig .tc .vmem S32x24576 .bf16) (g : BufTy.Contents (Elt F) arg3.view.ty)
    (u : BufTy.Contents (Elt F) arg4.view.ty) (k : Fin k0_t1_loop.trips) (s p : Fin 8) : View.Piece (Elt F) S4x8x8x2x32x128 .f32 :=
  ⟨Rect.unit (s := S4x8x8x2x32x128) (tOff k s.val p.val) S1x1x1x1x16x128.size (tOff_inb k s p),
    shapeCast S1x1x1x1x16x128 (fun x : S16x128.Idx => quadE s (hTile arg3 arg4 g u k 0 p x) (hTile arg3 arg4 g u k 1 p x) (hTile arg3 arg4 g u k 2 p x))
      shapeCasts_S16x128_S1x1x1x1x16x128⟩

theorem trip_pieces (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (k : Fin k0_t1_loop.trips) :
    (trip 𝒱 c bd i arg1 harg1 arg2 harg2 arg3 harg3 arg4 harg4 arg5 harg5 arg6 harg6 arg7 harg7 arg8 harg8 arg9 harg9 arg10 harg10 g u k).1
      = ([7, 6, 5, 4, 3, 2, 1, 0] : List (Fin 8)).flatMap fun p => ([4, 3, 5, 2, 6, 1, 7, 0] : List (Fin 8)).map fun s => pieceOf arg3 arg4 g u k s p := by
  unfold trip
  sl_kernel_rfl

/-- Where the columns of a trip start. -/
theorem col_eq : ∀ (k : Fin k0_t1_loop.trips) (j : Fin 3) (p : Fin 8), k0_off1 k (BitVec.ofNat 32 j) (BitVec.ofNat 32 (256 * p))
    = ![16 * (k.val % 2), (k.val / 4 * 3 + j.val) * 2048 + p.val * 256 + k.val / 2 % 2 * 128] := by decide +kernel

/-- The gated value of one element of the two blocks. -/
def H (g u : Vec F S32x24576 .bf16) (r : Fin 32) (q : Fin 24576) : F .f32 := hE (g (ix2 r q)) (u (ix2 r q))

/-- The column of part `j` of group `a`, block `p`, half `c`, lane `l`. -/
def colOf (a : Fin 4) (j : Fin 3) (p : Fin 8) (c : Fin 2) (l : Fin 128) : Fin 24576 :=
  ⟨(a.val * 3 + j.val) * 2048 + p.val * 256 + c.val * 128 + l.val, by omega⟩

/-- What the table of signed sums holds. -/
def T (g u : Vec F S32x24576 .bf16) (y : S4x8x8x2x32x128.Idx) : F .f32 :=
  quadE (y 1) (H g u (y 4) (colOf (y 0) 0 (y 2) (y 3) (y 5))) (H g u (y 4) (colOf (y 0) 1 (y 2) (y 3) (y 5)))
    (H g u (y 4) (colOf (y 0) 2 (y 2) (y 3) (y 5)))

theorem hTile_eq (arg3 arg4 : Memref sig .tc .vmem S32x24576 .bf16) (g : BufTy.Contents (Elt F) arg3.view.ty)
    (u : BufTy.Contents (Elt F) arg4.view.ty) (k : Fin k0_t1_loop.trips) (hk : k.val < 16) (j : Fin 3) (p : Fin 8) (r : Fin 16) (l : Fin 128) :
    hTile arg3 arg4 g u k j p (ix2 r l) = H (arg3.view.read (Elt F) g) (arg4.view.read (Elt F) u) ⟨16 * (k.val % 2) + r.val, by omega⟩
      (colOf ⟨k.val / 4, by omega⟩ j p ⟨k.val / 2 % 2, by omega⟩ l) := by
  have e : (Rect.unit (s := S32x24576) (k0_off1 k (BitVec.ofNat 32 j) (BitVec.ofNat 32 (256 * p))) S16x128.size (k0_off1_inb k j p)).toLoadRect.idx (ix2 r l)
      = ix2 (⟨16 * (k.val % 2) + r.val, by omega⟩ : Fin 32) (colOf ⟨k.val / 4, by omega⟩ j p ⟨k.val / 2 % 2, by omega⟩ l) := by
    have h0 : k0_off1 k (BitVec.ofNat 32 j) (BitVec.ofNat 32 (256 * p)) (0 : Fin 2) = 16 * (k.val % 2) := by rw [col_eq]; rfl
    have h1 : k0_off1 k (BitVec.ofNat 32 j) (BitVec.ofNat 32 (256 * p)) (1 : Fin 2) = (k.val / 4 * 3 + j.val) * 2048 + p.val * 256 + k.val / 2 % 2 * 128 := by rw [col_eq]; rfl
    refine funext fun a => Fin.ext ?_
    match a with
    | ⟨0, _⟩ => show k0_off1 k (BitVec.ofNat 32 j) (BitVec.ofNat 32 (256 * p)) (0 : Fin 2) + 1 * r.val = 16 * (k.val % 2) + r.val; omega
    | ⟨1, _⟩ => show k0_off1 k (BitVec.ofNat 32 j) (BitVec.ofNat 32 (256 * p)) (1 : Fin 2) + 1 * l.val = (k.val / 4 * 3 + j.val) * 2048 + p.val * 256 + k.val / 2 % 2 * 128 + l.val; omega
  exact congrArg₂ hE (congrArg (arg3.view.read (Elt F) g) e) (congrArg (arg4.view.read (Elt F) u) e)

theorem piece_apply (arg3 arg4 : Memref sig .tc .vmem S32x24576 .bf16) (g : BufTy.Contents (Elt F) arg3.view.ty)
    (u : BufTy.Contents (Elt F) arg4.view.ty) (k : Fin k0_t1_loop.trips) (s p : Fin 8) (x : S1x1x1x1x16x128.Idx) :
    (pieceOf arg3 arg4 g u k s p).2 x = T (arg3.view.read (Elt F) g) (arg4.view.read (Elt F) u) ((pieceOf arg3 arg4 g u k s p).1.emb x) := by
  have hk : k.val < 16 := Nat.lt_of_lt_of_le k.isLt k0_t1_abs.2.1
  have h0 : (x 0).val < 1 := (x 0).isLt
  have h1 : (x 1).val < 1 := (x 1).isLt
  have h2 : (x 2).val < 1 := (x 2).isLt
  have h3 : (x 3).val < 1 := (x 3).isLt
  have e : (pieceOf arg3 arg4 g u k s p).1.emb x
      = ix6 (⟨k.val / 4, by omega⟩ : Fin 4) s p (⟨k.val / 2 % 2, by omega⟩ : Fin 2) (⟨16 * (k.val % 2) + (x 4).val, by have : (x 4).val < 16 := (x 4).isLt; omega⟩ : Fin 32) (x 5 : Fin 128) := by
    refine funext fun a => Fin.ext ?_
    match a with
    | ⟨0, _⟩ => show k.val / 4 + 1 * (x 0).val = k.val / 4; omega
    | ⟨1, _⟩ => show s.val + 1 * (x 1).val = s.val; omega
    | ⟨2, _⟩ => show p.val + 1 * (x 2).val = p.val; omega
    | ⟨3, _⟩ => show k.val / 2 % 2 + 1 * (x 3).val = k.val / 2 % 2; omega
    | ⟨4, _⟩ => show 16 * (k.val % 2) + 1 * (x 4).val = 16 * (k.val % 2) + (x 4).val; omega
    | ⟨5, _⟩ => show 0 + 1 * (x 5).val = (x 5).val; omega
  rw [e]
  show shapeCast S1x1x1x1x16x128 (fun x : S16x128.Idx => quadE s (hTile arg3 arg4 g u k 0 p x) (hTile arg3 arg4 g u k 1 p x) (hTile arg3 arg4 g u k 2 p x))
      shapeCasts_S16x128_S1x1x1x1x16x128 x = _
  have hc : shapeCast S1x1x1x1x16x128 (fun x : S16x128.Idx => quadE s (hTile arg3 arg4 g u k 0 p x) (hTile arg3 arg4 g u k 1 p x) (hTile arg3 arg4 g u k 2 p x))
      shapeCasts_S16x128_S1x1x1x1x16x128 x
      = (fun x : S16x128.Idx => quadE s (hTile arg3 arg4 g u k 0 p x) (hTile arg3 arg4 g u k 1 p x) (hTile arg3 arg4 g u k 2 p x)) (ix2 (x 4 : Fin 16) (x 5 : Fin 128)) := by
    pointwise
    try rfl
  rw [hc]
  dsimp only
  have ht := fun j : Fin 3 => hTile_eq arg3 arg4 g u k hk j p (x 4 : Fin 16) (x 5 : Fin 128)
  exact congr (congrArg₂ (quadE s) (ht 0) (ht 1)) (ht 2)

/-- The trip that fills an element of the table. -/
def tripOf (y : S4x8x8x2x32x128.Idx) : ℕ := (y 0 : Fin 4).val * 4 + (y 3 : Fin 2).val * 2 + (y 4 : Fin 32).val / 16

theorem mem_piece (arg3 arg4 : Memref sig .tc .vmem S32x24576 .bf16) (g : BufTy.Contents (Elt F) arg3.view.ty)
    (u : BufTy.Contents (Elt F) arg4.view.ty) (k : Fin k0_t1_loop.trips) (s p : Fin 8) (y : S4x8x8x2x32x128.Idx) :
    y ∈ (pieceOf arg3 arg4 g u k s p).1.set ↔ tripOf y = k.val ∧ (y 1 : Fin 8) = s ∧ (y 2 : Fin 8) = p := by
  have hk : k.val < 16 := Nat.lt_of_lt_of_le k.isLt k0_t1_abs.2.1
  have y0 : (y 0).val < 4 := (y 0).isLt
  have y3 : (y 3).val < 2 := (y 3).isLt
  have y4 : (y 4).val < 32 := (y 4).isLt
  have y5 : (y 5).val < 128 := (y 5).isLt
  unfold pieceOf tripOf
  rw [Rect.mem_set_unit]
  constructor
  · intro h
    have a0 : k.val / 4 ≤ (y 0).val ∧ (y 0).val < k.val / 4 + 1 := h 0
    have a1 : s.val ≤ (y 1).val ∧ (y 1).val < s.val + 1 := h 1
    have a2 : p.val ≤ (y 2).val ∧ (y 2).val < p.val + 1 := h 2
    have a3 : k.val / 2 % 2 ≤ (y 3).val ∧ (y 3).val < k.val / 2 % 2 + 1 := h 3
    have a4 : 16 * (k.val % 2) ≤ (y 4).val ∧ (y 4).val < 16 * (k.val % 2) + 16 := h 4
    exact ⟨by omega, Fin.ext (by omega), Fin.ext (by omega)⟩
  · rintro ⟨ht, hs, hp⟩ a
    have hs := congrArg Fin.val hs
    have hp := congrArg Fin.val hp
    match a with
    | ⟨0, _⟩ => show k.val / 4 ≤ (y 0).val ∧ (y 0).val < k.val / 4 + 1; omega
    | ⟨1, _⟩ => show s.val ≤ (y 1).val ∧ (y 1).val < s.val + 1; omega
    | ⟨2, _⟩ => show p.val ≤ (y 2).val ∧ (y 2).val < p.val + 1; omega
    | ⟨3, _⟩ => show k.val / 2 % 2 ≤ (y 3).val ∧ (y 3).val < k.val / 2 % 2 + 1; omega
    | ⟨4, _⟩ => show 16 * (k.val % 2) ≤ (y 4).val ∧ (y 4).val < 16 * (k.val % 2) + 16; omega
    | ⟨5, _⟩ => show 0 ≤ (y 5).val ∧ (y 5).val < 0 + 128; omega

/-- One trip keeps the invariant: every element of the trips before holds its signed sum. -/
theorem trip_value (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (k : Fin k0_t1_loop.trips)
    (t : BufTy.Contents (Elt F) arg7.view.ty)
    (ht : ∀ y, tripOf y < k.val → arg7.view.read (Elt F) t y = T (arg3.view.read (Elt F) g) (arg4.view.read (Elt F) u) y) (y : S4x8x8x2x32x128.Idx) (hy : tripOf y < k.val + 1) :
    arg7.view.read (Elt F) (arg7.view.writes (Elt F) t (trip 𝒱 c bd i arg1 harg1 arg2 harg2 arg3 harg3 arg4 harg4 arg5 harg5 arg6 harg6 arg7 harg7 arg8 harg8 arg9 harg9 arg10 harg10 g u k).1) y
      = T (arg3.view.read (Elt F) g) (arg4.view.read (Elt F) u) y := by
  rw [trip_pieces]
  by_cases hlt : tripOf y < k.val
  · rw [View.read_writes_apply_of_forall_not_mem]
    · exact ht y hlt
    · intro q hq
      obtain ⟨p, -, hq⟩ := List.mem_flatMap.mp hq
      obtain ⟨s, -, rfl⟩ := List.mem_map.mp hq
      rw [mem_piece]; omega
  · refine View.read_writes_apply_of_pieces _ _ _ _ ?_ y ?_
    · intro q hq
      obtain ⟨p, -, hq⟩ := List.mem_flatMap.mp hq
      obtain ⟨s, -, rfl⟩ := List.mem_map.mp hq
      exact piece_apply _ _ _ _ _ _ _
    · have all : ∀ p : Fin 8, p ∈ ([7, 6, 5, 4, 3, 2, 1, 0] : List (Fin 8)) ∧ p ∈ ([4, 3, 5, 2, 6, 1, 7, 0] : List (Fin 8)) := by decide
      exact ⟨_, List.mem_flatMap.mpr ⟨y 2, (all _).1, List.mem_map.mpr ⟨y 1, (all _).2, rfl⟩⟩, (mem_piece _ _ _ _ _ _ _ _).mpr ⟨by omega, rfl, rfl⟩⟩

/-- The pieces of the trips before `k`, the last first. -/
def pb (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) : ℕ → List (View.Piece (Elt F) S4x8x8x2x32x128 .f32)
  | 0 => []
  | k + 1 => if h : k < k0_t1_loop.trips then
      (trip 𝒱 c bd i arg1 harg1 arg2 harg2 arg3 harg3 arg4 harg4 arg5 harg5 arg6 harg6 arg7 harg7 arg8 harg8 arg9 harg9 arg10 harg10 g u ⟨k, h⟩).1 ++ pb 𝒱 c bd i arg1 harg1 arg2 harg2 arg3 harg3 arg4 harg4 arg5 harg5 arg6 harg6 arg7 harg7 arg8 harg8 arg9 harg9 arg10 harg10 g u k
    else pb 𝒱 c bd i arg1 harg1 arg2 harg2 arg3 harg3 arg4 harg4 arg5 harg5 arg6 harg6 arg7 harg7 arg8 harg8 arg9 harg9 arg10 harg10 g u k

theorem pb_succ (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (k : Fin k0_t1_loop.trips) :
    pb 𝒱 c bd i arg1 harg1 arg2 harg2 arg3 harg3 arg4 harg4 arg5 harg5 arg6 harg6 arg7 harg7 arg8 harg8 arg9 harg9 arg10 harg10 g u (k.val + 1) = (trip 𝒱 c bd i arg1 harg1 arg2 harg2 arg3 harg3 arg4 harg4 arg5 harg5 arg6 harg6 arg7 harg7 arg8 harg8 arg9 harg9 arg10 harg10 g u k).1 ++ pb 𝒱 c bd i arg1 harg1 arg2 harg2 arg3 harg3 arg4 harg4 arg5 harg5 arg6 harg6 arg7 harg7 arg8 harg8 arg9 harg9 arg10 harg10 g u k.val := by
  rw [pb.eq_2]; exact dif_pos k.isLt

/-- After the loop every element of the table holds its signed sum. -/
theorem pb_value (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (t : BufTy.Contents (Elt F) arg7.view.ty) :
    ∀ k, k ≤ k0_t1_loop.trips → ∀ y, tripOf y < k → arg7.view.read (Elt F) (arg7.view.writes (Elt F) t (pb 𝒱 c bd i arg1 harg1 arg2 harg2 arg3 harg3 arg4 harg4 arg5 harg5 arg6 harg6 arg7 harg7 arg8 harg8 arg9 harg9 arg10 harg10 g u k)) y
      = T (arg3.view.read (Elt F) g) (arg4.view.read (Elt F) u) y
  | 0, _, y, hy => absurd hy (Nat.not_lt_zero _)
  | k + 1, hk, y, hy => by
    rw [pb_succ 𝒱 c bd i arg1 harg1 arg2 harg2 arg3 harg3 arg4 harg4 arg5 harg5 arg6 harg6 arg7 harg7 arg8 harg8 arg9 harg9 arg10 harg10 g u ⟨k, hk⟩, View.writes_append]
    exact trip_value 𝒱 c bd i arg1 harg1 arg2 harg2 arg3 harg3 arg4 harg4 arg5 harg5 arg6 harg6 arg7 harg7 arg8 harg8 arg9 harg9 arg10 harg10 g u ⟨k, hk⟩ _ (pb_value 𝒱 c bd i arg1 harg1 arg2 harg2 arg3 harg3 arg4 harg4 arg5 harg5 arg6 harg6 arg7 harg7 arg8 harg8 arg9 harg9 arg10 harg10 g u t k (Nat.le_of_succ_le hk)) y hy

theorem trips_eq : k0_t1_loop.trips = 16 := by decide +kernel

/-- The whole table after the loop. -/
theorem table_eq (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (t : BufTy.Contents (Elt F) arg7.view.ty) :
    arg7.view.read (Elt F) (arg7.view.writes (Elt F) t (pb 𝒱 c bd i arg1 harg1 arg2 harg2 arg3 harg3 arg4 harg4 arg5 harg5 arg6 harg6 arg7 harg7 arg8 harg8 arg9 harg9 arg10 harg10 g u k0_t1_loop.trips))
      = T (arg3.view.read (Elt F) g) (arg4.view.read (Elt F) u) :=
  funext fun y => pb_value 𝒱 c bd i arg1 harg1 arg2 harg2 arg3 harg3 arg4 harg4 arg5 harg5 arg6 harg6 arg7 harg7 arg8 harg8 arg9 harg9 arg10 harg10 g u t _ le_rfl y (by
    have y0 : (y 0).val < 4 := (y 0).isLt
    have y3 : (y 3).val < 2 := (y 3).isLt
    have y4 : (y 4).val < 32 := (y 4).isLt
    rw [trips_eq]; unfold tripOf
    show (y 0).val * 4 + (y 3).val * 2 + (y 4).val / 16 < 16
    omega)

/-- The loop's invariant: the pieces of the trips before, over the contents at entry. -/
abbrev inv (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (G : BufTy.Contents (Elt F) arg7.view.ty) (k : ℕ) (_u : PUnit) : sProp (MT nD τ sig Unit (Elt F) ℕ (UR sig nD τ) ℕ) :=
  iprop((arg3.view.loc (c : Thread nD τ) ↦[arg3.view.set]{fullShare} g) ∗ (arg4.view.loc (c : Thread nD τ) ↦[arg4.view.set]{fullShare} u)
    ∗ (∃ f, (arg7.view.loc (c : Thread nD τ) ↦[arg7.view.set]{fullShare} f) ∗ ⌜f = arg7.view.writes (Elt F) G (pb 𝒱 c bd i arg1 harg1 arg2 harg2 arg3 harg3 arg4 harg4 arg5 harg5 arg6 harg6 arg7 harg7 arg8 harg8 arg9 harg9 arg10 harg10 g u k)⌝))

set_option warn.classDefReducibility false in
@[sl_loop] def loopInv_k0_t1 (𝒱 : Variants) (c : Dev nD) (bd : Option 𝒱.V) (E : Set ℕ) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (G : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 where
  inv := inv 𝒱 c bd i arg1 harg1 arg2 harg2 arg3 harg3 arg4 harg4 arg5 harg5 arg6 harg6 arg7 harg7 arg8 harg8 arg9 harg9 arg10 harg10 g u G
  step k acc := by
    iintro ⟨HG, HU, ⟨%f, HT, %h⟩⟩
    iapply (wp_wand_r Idealize.ShloMosaic.frame (wpE (defs₀ (F := F)) 𝒱 (c : Thread nD τ) bd) E)
    isplitl [HG HU HT]
    · iapply ((trip (F := F) 𝒱 c bd i arg1 harg1 arg2 harg2 arg3 harg3 arg4 harg4 arg5 harg5 arg6 harg6 arg7 harg7 arg8 harg8 arg9 harg9 arg10 harg10 g u k).2 E f)
      isplitl [HG]; · iexact HG
      isplitl [HU]; · iexact HU
      iexact HT
    · iintro %_ ⟨HG, HU, HT⟩
      isplitl [HG]; · iexact HG
      isplitl [HU]; · iexact HU
      rw [pb_succ]
      iexists _; isplitl [HT]; · iexact HT
      ipureintro; rw [h, ← View.writes_append]

end Cert.Proof.Build

end
-- ==== Proof.RotateStep.lean ====
/-
  ROTATION, step 2.
-/
module

public import proofs.«01_k».proof.Proof.Gen.RotateIdeal.Loops
public import proofs.«01_k».proof.Proof.Gen.RotateIdeal.Frame

@[expose] public section

set_option maxRecDepth 16384
set_option maxHeartbeats 40000000

noncomputable section

namespace Cert.Proof.Step

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem chk_at (v : BitVec 32) (hv : v.toNat ≤ 7) (g p c r : ℕ) (hg : g + 1 ≤ 4) (hp : p + 1 ≤ 8) (hc : c + 1 ≤ 2) (hr : r + 16 ≤ 32) :
    ∀ a, (![g, v.toNat, p, c, r, 0] : Fin 6 → ℕ) a + S1x1x1x1x16x128.size a ≤ S4x8x8x2x32x128.size a := by
  intro a
  fin_cases a
  · exact hg
  · show v.toNat + 1 ≤ 8
    omega
  · exact hp
  · exact hc
  · exact hr
  · exact Nat.le_refl _

instance (k : _) : ClosedOff (k0_off258 k) := ⟨![(k.val + 1) % 2, 0, 0, 0], by revert k; decide +kernel⟩
instance (k : _) : ClosedOff (k0_off259 k) := ⟨![(k.val + 1) % 2, 1, 0, 0], by revert k; decide +kernel⟩
instance (k : _) : ClosedOff (k0_off260 k) := ⟨![(k.val + 1) % 2, 2, 0, 0], by revert k; decide +kernel⟩
instance (k : _) : ClosedOff (k0_off261 k) := ⟨![(k.val + 1) % 2, 0, 32, 0], by revert k; decide +kernel⟩
instance (k : _) : ClosedOff (k0_off262 k) := ⟨![(k.val + 1) % 2, 1, 32, 0], by revert k; decide +kernel⟩
instance (k : _) : ClosedOff (k0_off263 k) := ⟨![(k.val + 1) % 2, 2, 32, 0], by revert k; decide +kernel⟩
instance (k : _) : ClosedOff (k0_off264 k) := ⟨![(k.val + 1) % 2, 0, 64, 0], by revert k; decide +kernel⟩
instance (k : _) : ClosedOff (k0_off265 k) := ⟨![(k.val + 1) % 2, 1, 64, 0], by revert k; decide +kernel⟩
instance (k : _) : ClosedOff (k0_off266 k) := ⟨![(k.val + 1) % 2, 2, 64, 0], by revert k; decide +kernel⟩
instance (k : _) : ClosedOff (k0_off267 k) := ⟨![(k.val + 1) % 2, 0, 96, 0], by revert k; decide +kernel⟩
instance (k : _) : ClosedOff (k0_off268 k) := ⟨![(k.val + 1) % 2, 1, 96, 0], by revert k; decide +kernel⟩
instance (k : _) : ClosedOff (k0_off269 k) := ⟨![(k.val + 1) % 2, 2, 96, 0], by revert k; decide +kernel⟩
instance (k : _) : ClosedOff (k0_off270 k) := ⟨![(k.val + 1) % 2, 0, 128, 0], by revert k; decide +kernel⟩
instance (k : _) : ClosedOff (k0_off271 k) := ⟨![(k.val + 1) % 2, 1, 128, 0], by revert k; decide +kernel⟩
instance (k : _) : ClosedOff (k0_off272 k) := ⟨![(k.val + 1) % 2, 2, 128, 0], by revert k; decide +kernel⟩
instance (k : _) : ClosedOff (k0_off273 k) := ⟨![(k.val + 1) % 2, 0, 160, 0], by revert k; decide +kernel⟩
instance (k : _) : ClosedOff (k0_off274 k) := ⟨![(k.val + 1) % 2, 1, 160, 0], by revert k; decide +kernel⟩
instance (k : _) : ClosedOff (k0_off275 k) := ⟨![(k.val + 1) % 2, 2, 160, 0], by revert k; decide +kernel⟩
instance (k : _) : ClosedOff (k0_off276 k) := ⟨![(k.val + 1) % 2, 0, 192, 0], by revert k; decide +kernel⟩
instance (k : _) : ClosedOff (k0_off277 k) := ⟨![(k.val + 1) % 2, 1, 192, 0], by revert k; decide +kernel⟩
instance (k : _) : ClosedOff (k0_off278 k) := ⟨![(k.val + 1) % 2, 2, 192, 0], by revert k; decide +kernel⟩
instance (k : _) : ClosedOff (k0_off279 k) := ⟨![(k.val + 1) % 2, 0, 224, 0], by revert k; decide +kernel⟩
instance (k : _) : ClosedOff (k0_off280 k) := ⟨![(k.val + 1) % 2, 1, 224, 0], by revert k; decide +kernel⟩
instance (k : _) : ClosedOff (k0_off281 k) := ⟨![(k.val + 1) % 2, 2, 224, 0], by revert k; decide +kernel⟩
instance (k : _) : ClosedOff (k0_off346 k) := ⟨![(k.val + 1) % 2, 0, 16, 0], by revert k; decide +kernel⟩
instance (k : _) : ClosedOff (k0_off347 k) := ⟨![(k.val + 1) % 2, 1, 16, 0], by revert k; decide +kernel⟩
instance (k : _) : ClosedOff (k0_off348 k) := ⟨![(k.val + 1) % 2, 2, 16, 0], by revert k; decide +kernel⟩
instance (k : _) : ClosedOff (k0_off349 k) := ⟨![(k.val + 1) % 2, 0, 48, 0], by revert k; decide +kernel⟩
instance (k : _) : ClosedOff (k0_off350 k) := ⟨![(k.val + 1) % 2, 1, 48, 0], by revert k; decide +kernel⟩
instance (k : _) : ClosedOff (k0_off351 k) := ⟨![(k.val + 1) % 2, 2, 48, 0], by revert k; decide +kernel⟩
instance (k : _) : ClosedOff (k0_off352 k) := ⟨![(k.val + 1) % 2, 0, 80, 0], by revert k; decide +kernel⟩
instance (k : _) : ClosedOff (k0_off353 k) := ⟨![(k.val + 1) % 2, 1, 80, 0], by revert k; decide +kernel⟩
instance (k : _) : ClosedOff (k0_off354 k) := ⟨![(k.val + 1) % 2, 2, 80, 0], by revert k; decide +kernel⟩
instance (k : _) : ClosedOff (k0_off355 k) := ⟨![(k.val + 1) % 2, 0, 112, 0], by revert k; decide +kernel⟩
instance (k : _) : ClosedOff (k0_off356 k) := ⟨![(k.val + 1) % 2, 1, 112, 0], by revert k; decide +kernel⟩
instance (k : _) : ClosedOff (k0_off357 k) := ⟨![(k.val + 1) % 2, 2, 112, 0], by revert k; decide +kernel⟩
instance (k : _) : ClosedOff (k0_off358 k) := ⟨![(k.val + 1) % 2, 0, 144, 0], by revert k; decide +kernel⟩
instance (k : _) : ClosedOff (k0_off359 k) := ⟨![(k.val + 1) % 2, 1, 144, 0], by revert k; decide +kernel⟩
instance (k : _) : ClosedOff (k0_off360 k) := ⟨![(k.val + 1) % 2, 2, 144, 0], by revert k; decide +kernel⟩
instance (k : _) : ClosedOff (k0_off361 k) := ⟨![(k.val + 1) % 2, 0, 176, 0], by revert k; decide +kernel⟩
instance (k : _) : ClosedOff (k0_off362 k) := ⟨![(k.val + 1) % 2, 1, 176, 0], by revert k; decide +kernel⟩
instance (k : _) : ClosedOff (k0_off363 k) := ⟨![(k.val + 1) % 2, 2, 176, 0], by revert k; decide +kernel⟩
instance (k : _) : ClosedOff (k0_off364 k) := ⟨![(k.val + 1) % 2, 0, 208, 0], by revert k; decide +kernel⟩
instance (k : _) : ClosedOff (k0_off365 k) := ⟨![(k.val + 1) % 2, 1, 208, 0], by revert k; decide +kernel⟩
instance (k : _) : ClosedOff (k0_off366 k) := ⟨![(k.val + 1) % 2, 2, 208, 0], by revert k; decide +kernel⟩
instance (k : _) : ClosedOff (k0_off367 k) := ⟨![(k.val + 1) % 2, 0, 240, 0], by revert k; decide +kernel⟩
instance (k : _) : ClosedOff (k0_off368 k) := ⟨![(k.val + 1) % 2, 1, 240, 0], by revert k; decide +kernel⟩
instance (k : _) : ClosedOff (k0_off369 k) := ⟨![(k.val + 1) % 2, 2, 240, 0], by revert k; decide +kernel⟩
instance (k : _) : ClosedOff (k0_off434 k) := ⟨![(k.val + 1) % 2, 0, 0, 128], by revert k; decide +kernel⟩
instance (k : _) : ClosedOff (k0_off435 k) := ⟨![(k.val + 1) % 2, 1, 0, 128], by revert k; decide +kernel⟩
instance (k : _) : ClosedOff (k0_off436 k) := ⟨![(k.val + 1) % 2, 2, 0, 128], by revert k; decide +kernel⟩
instance (k : _) : ClosedOff (k0_off437 k) := ⟨![(k.val + 1) % 2, 0, 32, 128], by revert k; decide +kernel⟩
instance (k : _) : ClosedOff (k0_off438 k) := ⟨![(k.val + 1) % 2, 1, 32, 128], by revert k; decide +kernel⟩
instance (k : _) : ClosedOff (k0_off439 k) := ⟨![(k.val + 1) % 2, 2, 32, 128], by revert k; decide +kernel⟩
instance (k : _) : ClosedOff (k0_off440 k) := ⟨![(k.val + 1) % 2, 0, 64, 128], by revert k; decide +kernel⟩
instance (k : _) : ClosedOff (k0_off441 k) := ⟨![(k.val + 1) % 2, 1, 64, 128], by revert k; decide +kernel⟩
instance (k : _) : ClosedOff (k0_off442 k) := ⟨![(k.val + 1) % 2, 2, 64, 128], by revert k; decide +kernel⟩
instance (k : _) : ClosedOff (k0_off443 k) := ⟨![(k.val + 1) % 2, 0, 96, 128], by revert k; decide +kernel⟩
instance (k : _) : ClosedOff (k0_off444 k) := ⟨![(k.val + 1) % 2, 1, 96, 128], by revert k; decide +kernel⟩
instance (k : _) : ClosedOff (k0_off445 k) := ⟨![(k.val + 1) % 2, 2, 96, 128], by revert k; decide +kernel⟩
instance (k : _) : ClosedOff (k0_off446 k) := ⟨![(k.val + 1) % 2, 0, 128, 128], by revert k; decide +kernel⟩
instance (k : _) : ClosedOff (k0_off447 k) := ⟨![(k.val + 1) % 2, 1, 128, 128], by revert k; decide +kernel⟩
instance (k : _) : ClosedOff (k0_off448 k) := ⟨![(k.val + 1) % 2, 2, 128, 128], by revert k; decide +kernel⟩
instance (k : _) : ClosedOff (k0_off449 k) := ⟨![(k.val + 1) % 2, 0, 160, 128], by revert k; decide +kernel⟩
instance (k : _) : ClosedOff (k0_off450 k) := ⟨![(k.val + 1) % 2, 1, 160, 128], by revert k; decide +kernel⟩
instance (k : _) : ClosedOff (k0_off451 k) := ⟨![(k.val + 1) % 2, 2, 160, 128], by revert k; decide +kernel⟩
instance (k : _) : ClosedOff (k0_off452 k) := ⟨![(k.val + 1) % 2, 0, 192, 128], by revert k; decide +kernel⟩
instance (k : _) : ClosedOff (k0_off453 k) := ⟨![(k.val + 1) % 2, 1, 192, 128], by revert k; decide +kernel⟩
instance (k : _) : ClosedOff (k0_off454 k) := ⟨![(k.val + 1) % 2, 2, 192, 128], by revert k; decide +kernel⟩
instance (k : _) : ClosedOff (k0_off455 k) := ⟨![(k.val + 1) % 2, 0, 224, 128], by revert k; decide +kernel⟩
instance (k : _) : ClosedOff (k0_off456 k) := ⟨![(k.val + 1) % 2, 1, 224, 128], by revert k; decide +kernel⟩
instance (k : _) : ClosedOff (k0_off457 k) := ⟨![(k.val + 1) % 2, 2, 224, 128], by revert k; decide +kernel⟩
instance (k : _) : ClosedOff (k0_off522 k) := ⟨![(k.val + 1) % 2, 0, 16, 128], by revert k; decide +kernel⟩
instance (k : _) : ClosedOff (k0_off523 k) := ⟨![(k.val + 1) % 2, 1, 16, 128], by revert k; decide +kernel⟩
instance (k : _) : ClosedOff (k0_off524 k) := ⟨![(k.val + 1) % 2, 2, 16, 128], by revert k; decide +kernel⟩
instance (k : _) : ClosedOff (k0_off525 k) := ⟨![(k.val + 1) % 2, 0, 48, 128], by revert k; decide +kernel⟩
instance (k : _) : ClosedOff (k0_off526 k) := ⟨![(k.val + 1) % 2, 1, 48, 128], by revert k; decide +kernel⟩
instance (k : _) : ClosedOff (k0_off527 k) := ⟨![(k.val + 1) % 2, 2, 48, 128], by revert k; decide +kernel⟩
instance (k : _) : ClosedOff (k0_off528 k) := ⟨![(k.val + 1) % 2, 0, 80, 128], by revert k; decide +kernel⟩
instance (k : _) : ClosedOff (k0_off529 k) := ⟨![(k.val + 1) % 2, 1, 80, 128], by revert k; decide +kernel⟩
instance (k : _) : ClosedOff (k0_off530 k) := ⟨![(k.val + 1) % 2, 2, 80, 128], by revert k; decide +kernel⟩
instance (k : _) : ClosedOff (k0_off531 k) := ⟨![(k.val + 1) % 2, 0, 112, 128], by revert k; decide +kernel⟩
instance (k : _) : ClosedOff (k0_off532 k) := ⟨![(k.val + 1) % 2, 1, 112, 128], by revert k; decide +kernel⟩
instance (k : _) : ClosedOff (k0_off533 k) := ⟨![(k.val + 1) % 2, 2, 112, 128], by revert k; decide +kernel⟩
instance (k : _) : ClosedOff (k0_off534 k) := ⟨![(k.val + 1) % 2, 0, 144, 128], by revert k; decide +kernel⟩
instance (k : _) : ClosedOff (k0_off535 k) := ⟨![(k.val + 1) % 2, 1, 144, 128], by revert k; decide +kernel⟩
instance (k : _) : ClosedOff (k0_off536 k) := ⟨![(k.val + 1) % 2, 2, 144, 128], by revert k; decide +kernel⟩
instance (k : _) : ClosedOff (k0_off537 k) := ⟨![(k.val + 1) % 2, 0, 176, 128], by revert k; decide +kernel⟩
instance (k : _) : ClosedOff (k0_off538 k) := ⟨![(k.val + 1) % 2, 1, 176, 128], by revert k; decide +kernel⟩
instance (k : _) : ClosedOff (k0_off539 k) := ⟨![(k.val + 1) % 2, 2, 176, 128], by revert k; decide +kernel⟩
instance (k : _) : ClosedOff (k0_off540 k) := ⟨![(k.val + 1) % 2, 0, 208, 128], by revert k; decide +kernel⟩
instance (k : _) : ClosedOff (k0_off541 k) := ⟨![(k.val + 1) % 2, 1, 208, 128], by revert k; decide +kernel⟩
instance (k : _) : ClosedOff (k0_off542 k) := ⟨![(k.val + 1) % 2, 2, 208, 128], by revert k; decide +kernel⟩
instance (k : _) : ClosedOff (k0_off543 k) := ⟨![(k.val + 1) % 2, 0, 240, 128], by revert k; decide +kernel⟩
instance (k : _) : ClosedOff (k0_off544 k) := ⟨![(k.val + 1) % 2, 1, 240, 128], by revert k; decide +kernel⟩
instance (k : _) : ClosedOff (k0_off545 k) := ⟨![(k.val + 1) % 2, 2, 240, 128], by revert k; decide +kernel⟩
instance (k : _) : ClosedOff (k0_off546 k) := ⟨![k.val % 2, 0, 0, 0], by revert k; decide +kernel⟩
instance (k : _) : ClosedOff (k0_off547 k) := ⟨![k.val % 2, 1, 0, 0], by revert k; decide +kernel⟩
instance (k : _) : ClosedOff (k0_off548 k) := ⟨![k.val % 2, 2, 0, 0], by revert k; decide +kernel⟩
instance (k : _) : ClosedOff (k0_off549 k) := ⟨![k.val, 0, 0], by revert k; decide +kernel⟩

abbrev Trip (c : Dev nD) (arg1 : Memref sig .tc .smem S12x4 .i32) (arg2 : Memref sig .tc .vmem S256x256 .bf16) (arg7 : Memref sig .tc .vmem S4x8x8x2x32x128 .f32)
    (arg8 : Memref sig .tc .vmem S2x3x256x256 .bf16) (arg9 : Memref sig .tc .vmem S12x256x256 .f32) (arg10 : Memref sig .tc .vmem S32x256 .f32)
    (s : BufTy.Contents (Elt F) arg1.view.ty) (w : BufTy.Contents (Elt F) arg2.view.ty) (t : BufTy.Contents (Elt F) arg7.view.ty)
    (x : BufTy.Contents (Elt F) arg8.view.ty) (r : BufTy.Contents (Elt F) arg9.view.ty) (m : BufTy.Contents (Elt F) arg10.view.ty) : sProp (MT nD τ sig Unit (Elt F) ℕ (UR sig nD τ) ℕ) :=
  iprop((arg1.view.loc (c : Thread nD τ) ↦[arg1.view.set]{fullShare} s) ∗ (arg2.view.loc (c : Thread nD τ) ↦[arg2.view.set]{fullShare} w)
    ∗ (arg7.view.loc (c : Thread nD τ) ↦[arg7.view.set]{fullShare} t) ∗ (arg8.view.loc (c : Thread nD τ) ↦[arg8.view.set]{fullShare} x)
    ∗ (arg9.view.loc (c : Thread nD τ) ↦[arg9.view.set]{fullShare} r) ∗ (arg10.view.loc (c : Thread nD τ) ↦[arg10.view.set]{fullShare} m))

set_option sl_exec.closedPieces true in
@[irreducible] def trip (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (x : BufTy.Contents (Elt F) arg8.view.ty) (r : BufTy.Contents (Elt F) arg9.view.ty) (m : BufTy.Contents (Elt F) arg10.view.ty) (k : Fin k0_t2_loop.trips) :
    Σ' (LX : List (View.Piece (Elt F) S2x3x256x256 .bf16)) (LR : List (View.Piece (Elt F) S12x256x256 .f32)), { LM : List (View.Piece (Elt F) S32x256 .f32) // ∀ (E : Set ℕ),
      Trip (F := F) c arg1 arg2 arg7 arg8 arg9 arg10 s w t x r m
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 v1236 v1381 k PUnit.unit)
          (fun _ => Trip (F := F) c arg1 arg2 arg7 arg8 arg9 arg10 s w t (arg8.view.writes (Elt F) x LX) (arg9.view.writes (Elt F) r LR) (arg10.view.writes (Elt F) m LM)) } := by
  have hk : k.val < 11 := Nat.lt_of_lt_of_le k.isLt k0_t2_abs.2.1
  refine ⟨?_, ?_, ?_, fun E => ?run⟩
  case run =>
    unfold k0_t2_body
    iintro ⟨HS, HW, HT, HX, HR, HM⟩
    sl_exec (disch := exact chk_at _ (hs _) _ _ _ _ (by decide) (by decide) (by decide) (by decide))
    sl_step
    sl_close

end Cert.Proof.Step

end
-- ==== Proof.RotateLoop.lean ====
module

public import proofs.«01_k».proof.Proof.RotateStep
public import Idealize.ShloMosaic.Lib.Pointwise

@[expose] public section
set_option maxRecDepth 16384
set_option maxHeartbeats 40000000
noncomputable section
namespace Cert.Proof.Step

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What the trips before `k` have stored into the narrow parts, the rotated tokens and the running maximum, the last first. -/
def pb (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (X : BufTy.Contents (Elt F) arg8.view.ty) (R : BufTy.Contents (Elt F) arg9.view.ty) (M : BufTy.Contents (Elt F) arg10.view.ty) : ℕ →
    List (View.Piece (Elt F) S2x3x256x256 .bf16) × List (View.Piece (Elt F) S12x256x256 .f32) × List (View.Piece (Elt F) S32x256 .f32)
  | 0 => ([], [], [])
  | k + 1 =>
    let p := pb 𝒱 c bd i arg1 harg1 arg2 harg2 arg3 harg3 arg4 harg4 arg5 harg5 arg6 harg6 arg7 harg7 arg8 harg8 arg9 harg9 arg10 harg10 v1236 v1381 s hs w t X R M k
    if h : k < k0_t2_loop.trips then
      let T := trip 𝒱 c bd i arg1 harg1 arg2 harg2 arg3 harg3 arg4 harg4 arg5 harg5 arg6 harg6 arg7 harg7 arg8 harg8 arg9 harg9 arg10 harg10 v1236 v1381 s hs w t (arg8.view.writes (Elt F) X p.1) (arg9.view.writes (Elt F) R p.2.1) (arg10.view.writes (Elt F) M p.2.2) ⟨k, h⟩
      (T.1 ++ p.1, T.2.1 ++ p.2.1, T.2.2.1 ++ p.2.2)
    else p

theorem pb_succ (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (X : BufTy.Contents (Elt F) arg8.view.ty) (R : BufTy.Contents (Elt F) arg9.view.ty) (M : BufTy.Contents (Elt F) arg10.view.ty) (k : Fin k0_t2_loop.trips) :
    pb 𝒱 c bd i arg1 harg1 arg2 harg2 arg3 harg3 arg4 harg4 arg5 harg5 arg6 harg6 arg7 harg7 arg8 harg8 arg9 harg9 arg10 harg10 v1236 v1381 s hs w t X R M (k.val + 1)
      = (let p := pb 𝒱 c bd i arg1 harg1 arg2 harg2 arg3 harg3 arg4 harg4 arg5 harg5 arg6 harg6 arg7 harg7 arg8 harg8 arg9 harg9 arg10 harg10 v1236 v1381 s hs w t X R M k.val
         let T := trip 𝒱 c bd i arg1 harg1 arg2 harg2 arg3 harg3 arg4 harg4 arg5 harg5 arg6 harg6 arg7 harg7 arg8 harg8 arg9 harg9 arg10 harg10 v1236 v1381 s hs w t (arg8.view.writes (Elt F) X p.1) (arg9.view.writes (Elt F) R p.2.1) (arg10.view.writes (Elt F) M p.2.2) k
         (T.1 ++ p.1, T.2.1 ++ p.2.1, T.2.2.1 ++ p.2.2)) := by
  rw [pb.eq_2]; exact dif_pos k.isLt

/-- The loop's invariant: the stores of the trips before, over the contents at entry. -/
abbrev inv (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (X : BufTy.Contents (Elt F) arg8.view.ty) (R : BufTy.Contents (Elt F) arg9.view.ty) (M : BufTy.Contents (Elt F) arg10.view.ty) (k : ℕ) (_u : PUnit) : sProp (MT nD τ sig Unit (Elt F) ℕ (UR sig nD τ) ℕ) :=
  iprop((arg1.view.loc (c : Thread nD τ) ↦[arg1.view.set]{fullShare} s) ∗ (arg2.view.loc (c : Thread nD τ) ↦[arg2.view.set]{fullShare} w)
    ∗ (arg7.view.loc (c : Thread nD τ) ↦[arg7.view.set]{fullShare} t)
    ∗ (∃ f, (arg8.view.loc (c : Thread nD τ) ↦[arg8.view.set]{fullShare} f) ∗ ⌜f = arg8.view.writes (Elt F) X (pb 𝒱 c bd i arg1 harg1 arg2 harg2 arg3 harg3 arg4 harg4 arg5 harg5 arg6 harg6 arg7 harg7 arg8 harg8 arg9 harg9 arg10 harg10 v1236 v1381 s hs w t X R M k).1⌝)
    ∗ (∃ f, (arg9.view.loc (c : Thread nD τ) ↦[arg9.view.set]{fullShare} f) ∗ ⌜f = arg9.view.writes (Elt F) R (pb 𝒱 c bd i arg1 harg1 arg2 harg2 arg3 harg3 arg4 harg4 arg5 harg5 arg6 harg6 arg7 harg7 arg8 harg8 arg9 harg9 arg10 harg10 v1236 v1381 s hs w t X R M k).2.1⌝)
    ∗ (∃ f, (arg10.view.loc (c : Thread nD τ) ↦[arg10.view.set]{fullShare} f) ∗ ⌜f = arg10.view.writes (Elt F) M (pb 𝒱 c bd i arg1 harg1 arg2 harg2 arg3 harg3 arg4 harg4 arg5 harg5 arg6 harg6 arg7 harg7 arg8 harg8 arg9 harg9 arg10 harg10 v1236 v1381 s hs w t X R M k).2.2⌝))

set_option warn.classDefReducibility false in
@[sl_loop] def loopInv_k0_t2 (𝒱 : Variants) (c : Dev nD) (bd : Option 𝒱.V) (E : Set ℕ) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (X : BufTy.Contents (Elt F) arg8.view.ty) (R : BufTy.Contents (Elt F) arg9.view.ty) (M : BufTy.Contents (Elt F) arg10.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 v1236 v1381 where
  inv := inv 𝒱 c bd i arg1 harg1 arg2 harg2 arg3 harg3 arg4 harg4 arg5 harg5 arg6 harg6 arg7 harg7 arg8 harg8 arg9 harg9 arg10 harg10 v1236 v1381 s hs w t X R M
  step k acc := by
    iintro ⟨HS, HW, HT, ⟨%fx, HX, %hx⟩, ⟨%fr, HR, %hr⟩, ⟨%fm, HM, %hm⟩⟩
    subst hx hr hm
    iapply (wp_wand_r Idealize.ShloMosaic.frame (wpE (defs₀ (F := F)) 𝒱 (c : Thread nD τ) bd) E)
    isplitl [HS HW HT HX HR HM]
    · iapply ((trip (F := F) 𝒱 c bd i arg1 harg1 arg2 harg2 arg3 harg3 arg4 harg4 arg5 harg5 arg6 harg6 arg7 harg7 arg8 harg8 arg9 harg9 arg10 harg10 v1236 v1381 s hs w t _ _ _ k).2.2.2 E)
      isplitl [HS]; · iexact HS
      isplitl [HW]; · iexact HW
      isplitl [HT]; · iexact HT
      isplitl [HX]; · iexact HX
      isplitl [HR]; · iexact HR
      iexact HM
    · iintro %_ ⟨HS, HW, HT, HX, HR, HM⟩
      isplitl [HS]; · iexact HS
      isplitl [HW]; · iexact HW
      isplitl [HT]; · iexact HT
      rw [pb_succ]
      isplitl [HX]
      · iexists _; isplitl [HX]; · iexact HX
        ipureintro; rw [← View.writes_append]
      isplitl [HR]
      · iexists _; isplitl [HR]; · iexact HR
        ipureintro; rw [← View.writes_append]
      iexists _; isplitl [HM]; · iexact HM
      ipureintro; rw [← View.writes_append]

end Cert.Proof.Step

end
-- ==== Proof.RotateBody.lean ====
module

public import proofs.«01_k».proof.Proof.RotateTable
public import proofs.«01_k».proof.Proof.RotateLoop
public import Idealize.ShloMosaic.Lib.Pointwise

@[expose] public section
set_option maxRecDepth 16384
set_option maxHeartbeats 40000000
noncomputable section
namespace Cert.Proof.Body

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The kernel's ten buffers at their contents. -/
abbrev Held (c : Dev nD) (arg1 : Memref sig .tc .smem S12x4 .i32) (arg2 : Memref sig .tc .vmem S256x256 .bf16) (arg3 : Memref sig .tc .vmem S32x24576 .bf16) (arg4 : Memref sig .tc .vmem S32x24576 .bf16) (arg5 : Memref sig .tc .vmem S32x24576 .i8) (arg6 : Memref sig .tc .vmem S32x128 .f32) (arg7 : Memref sig .tc .vmem S4x8x8x2x32x128 .f32) (arg8 : Memref sig .tc .vmem S2x3x256x256 .bf16) (arg9 : Memref sig .tc .vmem S12x256x256 .f32) (arg10 : Memref sig .tc .vmem S32x256 .f32)
    (s : BufTy.Contents (Elt F) arg1.view.ty) (w : BufTy.Contents (Elt F) arg2.view.ty) (g : BufTy.Contents (Elt F) arg3.view.ty) (u : BufTy.Contents (Elt F) arg4.view.ty) (q : BufTy.Contents (Elt F) arg5.view.ty) (a : BufTy.Contents (Elt F) arg6.view.ty) (t : BufTy.Contents (Elt F) arg7.view.ty) (x : BufTy.Contents (Elt F) arg8.view.ty) (r : BufTy.Contents (Elt F) arg9.view.ty) (m : BufTy.Contents (Elt F) arg10.view.ty) : sProp (MT nD τ sig Unit (Elt F) ℕ (UR sig nD τ) ℕ) :=
  iprop((arg1.view.loc (c : Thread nD τ) ↦[arg1.view.set]{fullShare} s)
    ∗ (arg2.view.loc (c : Thread nD τ) ↦[arg2.view.set]{fullShare} w)
    ∗ (arg3.view.loc (c : Thread nD τ) ↦[arg3.view.set]{fullShare} g)
    ∗ (arg4.view.loc (c : Thread nD τ) ↦[arg4.view.set]{fullShare} u)
    ∗ (arg5.view.loc (c : Thread nD τ) ↦[arg5.view.set]{fullShare} q)
    ∗ (arg6.view.loc (c : Thread nD τ) ↦[arg6.view.set]{fullShare} a)
    ∗ (arg7.view.loc (c : Thread nD τ) ↦[arg7.view.set]{fullShare} t)
    ∗ (arg8.view.loc (c : Thread nD τ) ↦[arg8.view.set]{fullShare} x)
    ∗ (arg9.view.loc (c : Thread nD τ) ↦[arg9.view.set]{fullShare} r)
    ∗ (arg10.view.loc (c : Thread nD τ) ↦[arg10.view.set]{fullShare} m))

set_option sl_exec.closedPieces true in
/-- The kernel's run: what it leaves in each buffer it stores into. -/
@[irreducible] def run (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (q : BufTy.Contents (Elt F) arg5.view.ty) (a : BufTy.Contents (Elt F) arg6.view.ty) (t : BufTy.Contents (Elt F) arg7.view.ty) (x : BufTy.Contents (Elt F) arg8.view.ty) (r : BufTy.Contents (Elt F) arg9.view.ty) (m : BufTy.Contents (Elt F) arg10.view.ty)
    (hs : ∀ j, BitVec.toNat (w := 32) (arg1.view.read (Elt F) s j) ≤ 7) :
    Σ' (q' : BufTy.Contents (Elt F) arg5.view.ty) (a' : BufTy.Contents (Elt F) arg6.view.ty) (t' : BufTy.Contents (Elt F) arg7.view.ty)
      (x' : BufTy.Contents (Elt F) arg8.view.ty) (r' : BufTy.Contents (Elt F) arg9.view.ty), { m' : BufTy.Contents (Elt F) arg10.view.ty // ∀ (E : Set ℕ),
      Held (F := F) c arg1 arg2 arg3 arg4 arg5 arg6 arg7 arg8 arg9 arg10 s w g u q a t x r m
      ⊢ wp frame (wpE (defs₀ (F := F)) 𝒱 (c : Thread nD τ) bd) E (cc0_swiglu_rotate_quantise (F := F) i arg1 harg1 arg2 harg2 arg3 harg3 arg4 harg4 arg5 harg5 arg6 harg6 arg7 harg7 arg8 harg8 arg9 harg9 arg10 harg10)
          (fun _ => Held (F := F) c arg1 arg2 arg3 arg4 arg5 arg6 arg7 arg8 arg9 arg10 s w g u q' a' t' x' r' m') } := by
  refine ⟨?_, ?_, ?_, ?_, ?_, ?_, fun E => ?run⟩
  case run =>
    rw [cc0_swiglu_rotate_quantise_eq_skeleton]
    unfold cc0_swiglu_rotate_quantise_skel
    iintro ⟨H1, H2, H3, H4, H5, H6, H7, H8, H9, H10⟩
    sl_exec (disch := exact Step.chk_at _ (hs _) _ _ _ _ (by decide) (by decide) (by decide) (by decide))
    sl_step
    sl_close

end Cert.Proof.Body

end
-- ==== Proof.RotateCombine.lean ====
module

public import proofs.«01_k».proof.Proof.RotateStep
public import Idealize.ShloMosaic.Lib.Pointwise

@[expose] public section
set_option maxRecDepth 16384
set_option maxHeartbeats 40000000
noncomputable section
namespace Cert.Proof.Step

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The three stages of the butterfly over eight values. -/
def fly1 (x : Fin 8 → F .f32) : Fin 8 → F .f32 :=
  ![FloatOps.addf (x 0) (x 1), FloatOps.subf (x 0) (x 1), FloatOps.addf (x 2) (x 3), FloatOps.subf (x 2) (x 3),
    FloatOps.addf (x 4) (x 5), FloatOps.subf (x 4) (x 5), FloatOps.addf (x 6) (x 7), FloatOps.subf (x 6) (x 7)]
def fly2 (x : Fin 8 → F .f32) : Fin 8 → F .f32 :=
  ![FloatOps.addf (x 0) (x 2), FloatOps.addf (x 1) (x 3), FloatOps.subf (x 0) (x 2), FloatOps.subf (x 1) (x 3),
    FloatOps.addf (x 4) (x 6), FloatOps.addf (x 5) (x 7), FloatOps.subf (x 4) (x 6), FloatOps.subf (x 5) (x 7)]
def fly4 (x : Fin 8 → F .f32) : Fin 8 → F .f32 :=
  ![FloatOps.addf (x 0) (x 4), FloatOps.addf (x 1) (x 5), FloatOps.addf (x 2) (x 6), FloatOps.addf (x 3) (x 7),
    FloatOps.subf (x 0) (x 4), FloatOps.subf (x 1) (x 5), FloatOps.subf (x 2) (x 6), FloatOps.subf (x 3) (x 7)]

/-- The value rounded to the narrow format and widened again. -/
def hi (x : F .f32) : F .f32 := FloatOps.extf .f32 bitsLt_bf16_f32 (FloatOps.truncf .bf16 bitsLt_bf16_f32 x)

/-- The three narrow parts of a value. -/
def part3 (q : Fin 3) (x : F .f32) : F .bf16 :=
  FloatOps.truncf .bf16 bitsLt_bf16_f32
    (match q with
     | 0 => hi x
     | 1 => hi (FloatOps.subf x (hi x))
     | 2 => FloatOps.subf (FloatOps.subf x (hi x)) (hi (FloatOps.subf x (hi x))))

theorem v_inb (sg : Fin 4 → BitVec 32) (hsg : ∀ g, (sg g).toNat ≤ 7) (g : Fin 4) (p : Fin 8) (c rt : Fin 2) :
    ∀ a, (![g.val, (sg g).toNat, p.val, c.val, 16 * rt.val, 0] : Fin 6 → ℕ) a + S1x1x1x1x16x128.size a ≤ S4x8x8x2x32x128.size a :=
  chk_at _ (hsg g) _ _ _ _ (by omega) (by omega) (by omega) (by omega)

/-- The tile of the table that group `g` contributes to block `p`, half `c`, rows `rt`. -/
def vTile (arg7 : Memref sig .tc .vmem S4x8x8x2x32x128 .f32) (t : BufTy.Contents (Elt F) arg7.view.ty) (sg : Fin 4 → BitVec 32)
    (hsg : ∀ g, (sg g).toNat ≤ 7) (c rt : Fin 2) (p : Fin 8) (g : Fin 4) : S16x128.Idx → F .f32 :=
  shapeCast S16x128 (View.readAt (Elt F) arg7.view (Rect.unit (s := S4x8x8x2x32x128) ![g.val, (sg g).toNat, p.val, c.val, 16 * rt.val, 0]
    S1x1x1x1x16x128.size (v_inb sg hsg g p c rt)).toLoadRect t) shapeCasts_S1x1x1x1x16x128_S16x128

theorem x_inb (slot : ℕ) (hs : slot < 2) (c rt : Fin 2) (p : Fin 8) (q : Fin 3) :
    ∀ a, (![slot, q.val, 32 * p.val + 16 * rt.val, 128 * c.val] : Fin 4 → ℕ) a + S1x1x16x128.size a ≤ S2x3x256x256.size a := by
  intro a
  match a with
  | ⟨0, _⟩ => show slot + 1 ≤ 2; omega
  | ⟨1, _⟩ => show q.val + 1 ≤ 3; omega
  | ⟨2, _⟩ => show 32 * p.val + 16 * rt.val + 16 ≤ 256; omega
  | ⟨3, _⟩ => show 128 * c.val + 128 ≤ 256; omega

/-- What a combination stores for part `q` of block `p`, half `c`, rows `rt`. -/
def pieceOf (arg7 : Memref sig .tc .vmem S4x8x8x2x32x128 .f32) (t : BufTy.Contents (Elt F) arg7.view.ty) (sg : Fin 4 → BitVec 32)
    (hsg : ∀ g, (sg g).toNat ≤ 7) (slot : ℕ) (hslot : slot < 2) (c rt : Fin 2) (p : Fin 8) (q : Fin 3) : View.Piece (Elt F) S2x3x256x256 .bf16 :=
  ⟨Rect.unit (s := S2x3x256x256) ![slot, q.val, 32 * p.val + 16 * rt.val, 128 * c.val] S1x1x16x128.size (x_inb slot hslot c rt p q),
    shapeCast S1x1x16x128 (fun x : S16x128.Idx => part3 q (fly4 (fly2 (fly1 fun p' =>
      FloatOps.addf (FloatOps.addf (vTile arg7 t sg hsg c rt p' 0 x) (vTile arg7 t sg hsg c rt p' 1 x))
        (FloatOps.addf (vTile arg7 t sg hsg c rt p' 2 x) (vTile arg7 t sg hsg c rt p' 3 x)))) p)) shapeCasts_S16x128_S1x1x16x128⟩

/-- The pieces of a combination, the last stored first. -/
def pieces (arg7 : Memref sig .tc .vmem S4x8x8x2x32x128 .f32) (t : BufTy.Contents (Elt F) arg7.view.ty) (sg : Fin 4 → BitVec 32)
    (hsg : ∀ g, (sg g).toNat ≤ 7) (slot : ℕ) (hslot : slot < 2) : List (View.Piece (Elt F) S2x3x256x256 .bf16) :=
  ([(1, 1), (1, 0), (0, 1), (0, 0)] : List (Fin 2 × Fin 2)).flatMap fun cr => ([7, 6, 5, 4, 3, 2, 1, 0] : List (Fin 8)).flatMap fun p =>
    ([2, 1, 0] : List (Fin 3)).map fun q => pieceOf arg7 t sg hsg slot hslot cr.1 cr.2 p q

/-- The four sign words of a trip. -/
def signs (arg1 : Memref sig .tc .smem S12x4 .i32) (s : BufTy.Contents (Elt F) arg1.view.ty) (k : Fin k0_t2_loop.trips) (g : Fin 4) : BitVec 32 :=
  arg1.view.read (Elt F) s (ix2 (⟨k.val + 1, by have : k.val < 11 := Nat.lt_of_lt_of_le k.isLt k0_t2_abs.2.1; omega⟩ : Fin 12) g)

/-- The four words as a trip loads them. -/
def signsL (arg1 : Memref sig .tc .smem S12x4 .i32) (s : BufTy.Contents (Elt F) arg1.view.ty) (k : Fin k0_t2_loop.trips) (g : Fin 4) : BitVec 32 :=
  match g with
  | 0 => trip.sl.r arg1 s k
  | 1 => trip.sl.r_1 arg1 s k
  | 2 => trip.sl.r_2 arg1 s k
  | 3 => trip.sl.r_3 arg1 s k

theorem trip_pieces (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (x : BufTy.Contents (Elt F) arg8.view.ty) (r : BufTy.Contents (Elt F) arg9.view.ty) (m : BufTy.Contents (Elt F) arg10.view.ty) (k : Fin k0_t2_loop.trips)
    (hsg : ∀ g, (signsL arg1 s k g).toNat ≤ 7) :
   trip.sl.HX_96 arg1 arg7 s hs t k = pieces arg7 t (signsL arg1 s k) hsg ((k.val + 1) % 2) (Nat.mod_lt _ (by decide)) := by
  unfold trip.sl.HX_96
  sl_kernel_rfl

/-! ### The combination at an index -/

/-- The combined value of part `q` at row `row` and column `col`: rows are block by token, columns half by lane. -/
def XV (sg : Fin 4 → Fin 8) (T : Vec F S4x8x8x2x32x128 .f32) (q : Fin 3) (row col : Fin 256) : F .bf16 :=
  part3 q (fly4 (fly2 (fly1 fun p' =>
    let v := fun g : Fin 4 => T (ix6 g (sg g) p' (⟨col.val / 128, by omega⟩ : Fin 2) (⟨row.val % 32, by omega⟩ : Fin 32) (⟨col.val % 128, by omega⟩ : Fin 128))
    FloatOps.addf (FloatOps.addf (v 0) (v 1)) (FloatOps.addf (v 2) (v 3)))) ⟨row.val / 32, by omega⟩)

/-- The same as the contents of the buffer of narrow parts, in either slot. -/
def XG (sg : Fin 4 → Fin 8) (T : Vec F S4x8x8x2x32x128 .f32) : Vec F S2x3x256x256 .bf16 :=
  fun y => XV sg T (y 1) (y 2) (y 3)

/-- Sign words as numbers below eight. -/
def asFin (sg : Fin 4 → BitVec 32) (hsg : ∀ g, (sg g).toNat ≤ 7) (g : Fin 4) : Fin 8 := ⟨(sg g).toNat, by have := hsg g; omega⟩

/-- A tile's cast drops the four unit axes. -/
theorem cast_tile (f : Vec F S1x1x1x1x16x128 .f32) (r : Fin 16) (l : Fin 128) :
    shapeCast S16x128 f shapeCasts_S1x1x1x1x16x128_S16x128 (ix2 r l) = f (ix6 (0 : Fin 1) (0 : Fin 1) (0 : Fin 1) (0 : Fin 1) r l) := by
  pointwise
  try rfl

theorem vTile_apply (arg7 : Memref sig .tc .vmem S4x8x8x2x32x128 .f32) (t : BufTy.Contents (Elt F) arg7.view.ty) (sg : Fin 4 → BitVec 32)
    (hsg : ∀ g, (sg g).toNat ≤ 7) (c rt : Fin 2) (p : Fin 8) (g : Fin 4) (r : Fin 16) (l : Fin 128) :
    vTile arg7 t sg hsg c rt p g (ix2 r l) = arg7.view.read (Elt F) t (ix6 g (asFin sg hsg g) p c (⟨16 * rt.val + r.val, by omega⟩ : Fin 32) l) := by
  refine (cast_tile _ r l).trans ?_
  refine congrArg (arg7.view.read (Elt F) t) (funext fun a => Fin.ext ?_)
  match a with
  | ⟨0, _⟩ => show g.val + 1 * 0 = g.val; omega
  | ⟨1, _⟩ => show (sg g).toNat + 1 * 0 = (sg g).toNat; omega
  | ⟨2, _⟩ => show p.val + 1 * 0 = p.val; omega
  | ⟨3, _⟩ => show c.val + 1 * 0 = c.val; omega
  | ⟨4, _⟩ => show 16 * rt.val + 1 * r.val = 16 * rt.val + r.val; omega
  | ⟨5, _⟩ => show 0 + 1 * l.val = l.val; omega

theorem piece_apply (arg7 : Memref sig .tc .vmem S4x8x8x2x32x128 .f32) (t : BufTy.Contents (Elt F) arg7.view.ty) (sg : Fin 4 → BitVec 32)
    (hsg : ∀ g, (sg g).toNat ≤ 7) (slot : ℕ) (hslot : slot < 2) (c rt : Fin 2) (p : Fin 8) (q : Fin 3) (x : S1x1x16x128.Idx) :
    (pieceOf arg7 t sg hsg slot hslot c rt p q).2 x
      = XG (asFin sg hsg) (arg7.view.read (Elt F) t) ((pieceOf arg7 t sg hsg slot hslot c rt p q).1.emb x) := by
  have h0 : (x 0).val < 1 := (x 0).isLt
  have h1 : (x 1).val < 1 := (x 1).isLt
  have h2 : (x 2).val < 16 := (x 2).isLt
  have h3 : (x 3).val < 128 := (x 3).isLt
  have e : (pieceOf arg7 t sg hsg slot hslot c rt p q).1.emb x
      = ix4 (⟨slot, hslot⟩ : Fin 2) q (⟨32 * p.val + 16 * rt.val + (x 2).val, by omega⟩ : Fin 256) (⟨128 * c.val + (x 3).val, by omega⟩ : Fin 256) := by
    refine funext fun a => Fin.ext ?_
    match a with
    | ⟨0, _⟩ => show slot + 1 * (x 0).val = slot; omega
    | ⟨1, _⟩ => show q.val + 1 * (x 1).val = q.val; omega
    | ⟨2, _⟩ => show 32 * p.val + 16 * rt.val + 1 * (x 2).val = 32 * p.val + 16 * rt.val + (x 2).val; omega
    | ⟨3, _⟩ => show 128 * c.val + 1 * (x 3).val = 128 * c.val + (x 3).val; omega
  rw [e]
  have hc : (pieceOf arg7 t sg hsg slot hslot c rt p q).2 x
      = (fun x : S16x128.Idx => part3 q (fly4 (fly2 (fly1 fun p' =>
      FloatOps.addf (FloatOps.addf (vTile arg7 t sg hsg c rt p' 0 x) (vTile arg7 t sg hsg c rt p' 1 x))
        (FloatOps.addf (vTile arg7 t sg hsg c rt p' 2 x) (vTile arg7 t sg hsg c rt p' 3 x)))) p)) (ix2 (x 2 : Fin 16) (x 3 : Fin 128)) := by
    unfold pieceOf
    pointwise
    try rfl
  rw [hc]
  dsimp only
  have hv := fun (p' : Fin 8) (g : Fin 4) => vTile_apply arg7 t sg hsg c rt p' g (x 2 : Fin 16) (x 3 : Fin 128)
  have hx : (fun p' => FloatOps.addf (FloatOps.addf (vTile arg7 t sg hsg c rt p' 0 (ix2 (x 2 : Fin 16) (x 3 : Fin 128))) (vTile arg7 t sg hsg c rt p' 1 (ix2 (x 2 : Fin 16) (x 3 : Fin 128))))
        (FloatOps.addf (vTile arg7 t sg hsg c rt p' 2 (ix2 (x 2 : Fin 16) (x 3 : Fin 128))) (vTile arg7 t sg hsg c rt p' 3 (ix2 (x 2 : Fin 16) (x 3 : Fin 128)))))
      = fun p' =>
    let v := fun g : Fin 4 => arg7.view.read (Elt F) t (ix6 g (asFin sg hsg g) p' c (⟨16 * rt.val + (x 2).val, by omega⟩ : Fin 32) (x 3 : Fin 128))
    FloatOps.addf (FloatOps.addf (v 0) (v 1)) (FloatOps.addf (v 2) (v 3)) :=
    funext fun p' => congrArg₂ _ (congrArg₂ _ (hv p' 0) (hv p' 1)) (congrArg₂ _ (hv p' 2) (hv p' 3))
  refine (congrArg (fun z => part3 q (fly4 (fly2 (fly1 z)) p)) hx).trans ?_
  show _ = XV (asFin sg hsg) (arg7.view.read (Elt F) t) q (⟨32 * p.val + 16 * rt.val + (x 2).val, by omega⟩ : Fin 256) (⟨128 * c.val + (x 3).val, by omega⟩ : Fin 256)
  unfold XV
  have e0 : (⟨(32 * p.val + 16 * rt.val + (x 2).val) / 32, by omega⟩ : Fin 8) = p := Fin.ext (by show (32 * p.val + 16 * rt.val + (x 2).val) / 32 = p.val; omega)
  have e1 : (⟨(32 * p.val + 16 * rt.val + (x 2).val) % 32, by omega⟩ : Fin 32) = ⟨16 * rt.val + (x 2).val, by omega⟩ := Fin.ext (by show (32 * p.val + 16 * rt.val + (x 2).val) % 32 = 16 * rt.val + (x 2).val; omega)
  have e2 : (⟨(128 * c.val + (x 3).val) / 128, by omega⟩ : Fin 2) = c := Fin.ext (by show (128 * c.val + (x 3).val) / 128 = c.val; omega)
  have e3 : (⟨(128 * c.val + (x 3).val) % 128, by omega⟩ : Fin 128) = (x 3 : Fin 128) := Fin.ext (by show (128 * c.val + (x 3).val) % 128 = (x 3).val; omega)
  dsimp only
  rw [e0, e1, e2, e3]

theorem mem_piece (arg7 : Memref sig .tc .vmem S4x8x8x2x32x128 .f32) (t : BufTy.Contents (Elt F) arg7.view.ty) (sg : Fin 4 → BitVec 32)
    (hsg : ∀ g, (sg g).toNat ≤ 7) (slot : ℕ) (hslot : slot < 2) (c rt : Fin 2) (p : Fin 8) (q : Fin 3) (y : S2x3x256x256.Idx) :
    y ∈ (pieceOf arg7 t sg hsg slot hslot c rt p q).1.set
      ↔ (y 0).val = slot ∧ (y 1).val = q.val ∧ (y 2).val / 16 = 2 * p.val + rt.val ∧ (y 3).val / 128 = c.val := by
  unfold pieceOf
  rw [Rect.mem_set_unit]
  constructor
  · intro h
    have a0 : slot ≤ (y 0).val ∧ (y 0).val < slot + 1 := h 0
    have a1 : q.val ≤ (y 1).val ∧ (y 1).val < q.val + 1 := h 1
    have a2 : 32 * p.val + 16 * rt.val ≤ (y 2).val ∧ (y 2).val < 32 * p.val + 16 * rt.val + 16 := h 2
    have a3 : 128 * c.val ≤ (y 3).val ∧ (y 3).val < 128 * c.val + 128 := h 3
    omega
  · rintro ⟨e0, e1, e2, e3⟩ a
    match a with
    | ⟨0, _⟩ => show slot ≤ (y 0).val ∧ (y 0).val < slot + 1; omega
    | ⟨1, _⟩ => show q.val ≤ (y 1).val ∧ (y 1).val < q.val + 1; omega
    | ⟨2, _⟩ => show 32 * p.val + 16 * rt.val ≤ (y 2).val ∧ (y 2).val < 32 * p.val + 16 * rt.val + 16; omega
    | ⟨3, _⟩ => show 128 * c.val ≤ (y 3).val ∧ (y 3).val < 128 * c.val + 128; omega

theorem mem_pieces {arg7 : Memref sig .tc .vmem S4x8x8x2x32x128 .f32} {t : BufTy.Contents (Elt F) arg7.view.ty} {sg : Fin 4 → BitVec 32}
    {hsg : ∀ g, (sg g).toNat ≤ 7} {slot : ℕ} {hslot : slot < 2} {P : View.Piece (Elt F) S2x3x256x256 .bf16}
    (h : P ∈ pieces arg7 t sg hsg slot hslot) : ∃ c rt p q, P = pieceOf arg7 t sg hsg slot hslot c rt p q := by
  obtain ⟨cr, -, h⟩ := List.mem_flatMap.mp h
  obtain ⟨p, -, h⟩ := List.mem_flatMap.mp h
  obtain ⟨q, -, rfl⟩ := List.mem_map.mp h
  exact ⟨cr.1, cr.2, p, q, rfl⟩

theorem mem_all (c rt : Fin 2) (p : Fin 8) (q : Fin 3) : (c, rt) ∈ ([(1, 1), (1, 0), (0, 1), (0, 0)] : List (Fin 2 × Fin 2))
    ∧ p ∈ ([7, 6, 5, 4, 3, 2, 1, 0] : List (Fin 8)) ∧ q ∈ ([2, 1, 0] : List (Fin 3)) := by
  exact ⟨by revert c rt; decide, by revert p; decide, by revert q; decide⟩

/-- A combination fills its slot … -/
theorem pieces_hit (arg7 : Memref sig .tc .vmem S4x8x8x2x32x128 .f32) (t : BufTy.Contents (Elt F) arg7.view.ty) (sg : Fin 4 → BitVec 32)
    (hsg : ∀ g, (sg g).toNat ≤ 7) (slot : ℕ) (hslot : slot < 2) (arg8 : Memref sig .tc .vmem S2x3x256x256 .bf16)
    (x : BufTy.Contents (Elt F) arg8.view.ty) (y : S2x3x256x256.Idx) (hy : (y 0).val = slot) :
    arg8.view.read (Elt F) (arg8.view.writes (Elt F) x (pieces arg7 t sg hsg slot hslot)) y
      = XG (asFin sg hsg) (arg7.view.read (Elt F) t) y := by
  have y1 : (y 1).val < 3 := (y 1).isLt
  have y2 : (y 2).val < 256 := (y 2).isLt
  have y3 : (y 3).val < 256 := (y 3).isLt
  refine View.read_writes_apply_of_pieces _ _ (XG (asFin sg hsg) (arg7.view.read (Elt F) t)) _ ?_ y ?_
  · intro P hP
    obtain ⟨c, rt, p, q, rfl⟩ := mem_pieces hP
    exact piece_apply _ _ _ _ _ _ _ _ _ _
  · obtain ⟨hm, hp, hq⟩ := mem_all ⟨(y 3).val / 128, by omega⟩ ⟨(y 2).val / 16 % 2, by omega⟩ ⟨(y 2).val / 32, by omega⟩ ⟨(y 1).val, y1⟩
    refine ⟨_, List.mem_flatMap.mpr ⟨_, hm, List.mem_flatMap.mpr ⟨_, hp, List.mem_map.mpr ⟨_, hq, rfl⟩⟩⟩, (mem_piece _ _ _ _ _ _ _ _ _ _ _).mpr ⟨hy, rfl, ?_, rfl⟩⟩
    show (y 2).val / 16 = 2 * ((y 2).val / 32) + (y 2).val / 16 % 2
    omega

/-- … and leaves the other alone. -/
theorem pieces_miss (arg7 : Memref sig .tc .vmem S4x8x8x2x32x128 .f32) (t : BufTy.Contents (Elt F) arg7.view.ty) (sg : Fin 4 → BitVec 32)
    (hsg : ∀ g, (sg g).toNat ≤ 7) (slot : ℕ) (hslot : slot < 2) (arg8 : Memref sig .tc .vmem S2x3x256x256 .bf16)
    (x : BufTy.Contents (Elt F) arg8.view.ty) (y : S2x3x256x256.Idx) (hy : (y 0).val ≠ slot) :
    arg8.view.read (Elt F) (arg8.view.writes (Elt F) x (pieces arg7 t sg hsg slot hslot)) y = arg8.view.read (Elt F) x y :=
  View.read_writes_apply_of_forall_not_mem _ _ _ _ fun P hP => by
    obtain ⟨c, rt, p, q, rfl⟩ := mem_pieces hP
    rw [mem_piece]; exact fun h => hy h.1

end Cert.Proof.Step

end
-- ==== Proof.RotateValue.lean ====
module

public import proofs.«01_k».proof.Proof.RotateCombine
public import proofs.«01_k».proof.Proof.RotateLoop
public import Idealize.ShloMosaic.Lib.WritesUnit
public import Idealize.ShloMosaic.Lib.VecWindow
public import Idealize.ShloMosaic.Lib.Pointwise

@[expose] public section
set_option maxRecDepth 16384
set_option maxHeartbeats 40000000
noncomputable section
namespace Cert.Proof.Step

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ### The spoken values -/

/-- The four sign words of row `n`, as numbers. -/
def sgn (S : Vec F S12x4 .i32) (hS : ∀ j, BitVec.toNat (w := 32) (S j) ≤ 7) (n : ℕ) (g : Fin 4) : Fin 8 :=
  ⟨BitVec.toNat (w := 32) (S (ix2 (⟨n % 12, Nat.mod_lt _ (by decide)⟩ : Fin 12) g)), by have := hS (ix2 (⟨n % 12, Nat.mod_lt _ (by decide)⟩ : Fin 12) g); omega⟩

/-- Narrow part `q` of a row's combination, as the matrix unit loads it. -/
def Xs (sg : Fin 4 → Fin 8) (T : Vec F S4x8x8x2x32x128 .f32) (q : Fin 3) : Vec F S1x1x256x256 .bf16 :=
  fun y => XV sg T q (y 2) (y 3)

/-- Row `n` rotated. -/
def Rot (W : Vec F S256x256 .bf16) (sg : Fin 4 → Fin 8) (T : Vec F S4x8x8x2x32x128 .f32) : FVec F S1x256x256 .f32 :=
  k0_pay542 W (Xs sg T 0) (Xs sg T 1) (Xs sg T 2)

/-- The running maximum after a row. -/
def bump (W : Vec F S256x256 .bf16) (sg : Fin 4 → Fin 8) (T : Vec F S4x8x8x2x32x128 .f32) (m : FVec F S32x256 .f32) : FVec F S32x256 .f32 :=
  k0_pay944 (k0_pay544 (k0_pay541 W (Xs sg T 0) (Xs sg T 1) (Xs sg T 2)) (k0_pay543 W (Xs sg T 0) (Xs sg T 1) (Xs sg T 2) m))

/-- The running maximum of the rows before `n`. -/
def Mx (W : Vec F S256x256 .bf16) (S : Vec F S12x4 .i32) (hS : ∀ j, BitVec.toNat (w := 32) (S j) ≤ 7) (T : Vec F S4x8x8x2x32x128 .f32) : ℕ → FVec F S32x256 .f32
  | 0 => k0_pay556
  | n + 1 => bump W (sgn S hS n) T (Mx W S hS T n)

theorem load_part (arg8 : Memref sig .tc .vmem S2x3x256x256 .bf16) (x : BufTy.Contents (Elt F) arg8.view.ty) (sg : Fin 4 → Fin 8)
    (T : Vec F S4x8x8x2x32x128 .f32) (sl : ℕ) (hsl : sl < 2) (q : Fin 3) (off : Fin 4 → ℕ) (ho : off = ![sl, q.val, 0, 0])
    (inb : ∀ a, off a + S1x1x256x256.size a ≤ S2x3x256x256.size a)
    (hx : ∀ y : S2x3x256x256.Idx, (y 0).val = sl → arg8.view.read (Elt F) x y = XG sg T y) :
    View.readAt (Elt F) arg8.view (Rect.unit (s := S2x3x256x256) off S1x1x256x256.size inb).toLoadRect x = Xs sg T q := by
  subst ho
  funext y
  have h0 : (y 0).val < 1 := (y 0).isLt
  have h1 : (y 1).val < 1 := (y 1).isLt
  have e : (Rect.unit (s := S2x3x256x256) ![sl, q.val, 0, 0] S1x1x256x256.size inb).toLoadRect.idx y
      = ix4 (⟨sl, hsl⟩ : Fin 2) q (y 2 : Fin 256) (y 3 : Fin 256) := by
    refine funext fun a => Fin.ext ?_
    match a with
    | ⟨0, _⟩ => show sl + 1 * (y 0).val = sl; omega
    | ⟨1, _⟩ => show q.val + 1 * (y 1).val = q.val; omega
    | ⟨2, _⟩ => show 0 + 1 * (y 2).val = (y 2).val; omega
    | ⟨3, _⟩ => show 0 + 1 * (y 3).val = (y 3).val; omega
  exact (congrArg (arg8.view.read (Elt F) x) e).trans (hx _ rfl)

theorem off546 (k : _) : k0_off546 k = ![k.val % 2, (0 : Fin 3).val, 0, 0] := by revert k; decide +kernel
theorem off547 (k : _) : k0_off547 k = ![k.val % 2, (1 : Fin 3).val, 0, 0] := by revert k; decide +kernel
theorem off548 (k : _) : k0_off548 k = ![k.val % 2, (2 : Fin 3).val, 0, 0] := by revert k; decide +kernel
theorem trips2_eq : k0_t2_loop.trips = 11 := by decide +kernel

theorem hz2 : (![0, 0] : Fin 2 → ℕ) = fun _ => 0 := by decide

/-- A trip's stores, named: the next row's parts, the row rotated, the maximum. -/
theorem trip_LX (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (x : BufTy.Contents (Elt F) arg8.view.ty) (r : BufTy.Contents (Elt F) arg9.view.ty) (m : BufTy.Contents (Elt F) arg10.view.ty) (k : Fin k0_t2_loop.trips) :
    (trip 𝒱 c bd i arg1 harg1 arg2 harg2 arg3 harg3 arg4 harg4 arg5 harg5 arg6 harg6 arg7 harg7 arg8 harg8 arg9 harg9 arg10 harg10 v1236 v1381 s hs w t x r m k).1 = trip.sl.HX_96 arg1 arg7 s hs t k := by
  unfold trip; rfl

abbrev ldX (arg8 : Memref sig .tc .vmem S2x3x256x256 .bf16) (x : BufTy.Contents (Elt F) arg8.view.ty) (off : Fin 4 → ℕ)
    (inb : ∀ a, off a + S1x1x256x256.size a ≤ S2x3x256x256.size a) : Vec F S1x1x256x256 .bf16 :=
  View.readAt (Elt F) arg8.view (Rect.unit (s := S2x3x256x256) off S1x1x256x256.size inb).toLoadRect x

theorem trip_LR (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (x : BufTy.Contents (Elt F) arg8.view.ty) (r : BufTy.Contents (Elt F) arg9.view.ty) (m : BufTy.Contents (Elt F) arg10.view.ty) (k : Fin k0_t2_loop.trips) :
    ∃ inb0 inb1 inb2 inbw inbr,
    (trip 𝒱 c bd i arg1 harg1 arg2 harg2 arg3 harg3 arg4 harg4 arg5 harg5 arg6 harg6 arg7 harg7 arg8 harg8 arg9 harg9 arg10 harg10 v1236 v1381 s hs w t x r m k).2.1
      = (let x' := arg8.view.writes (Elt F) x (trip.sl.HX_96 arg1 arg7 s hs t k)
         let W := View.readAt (Elt F) arg2.view (Rect.unit (s := S256x256) ![0, 0] S256x256.size inbw).toLoadRect w
         [⟨Rect.unit (s := S12x256x256) ![k.val, 0, 0] S1x256x256.size inbr, k0_pay542 W (ldX arg8 x' (k0_off546 k) inb0) (ldX arg8 x' (k0_off547 k) inb1) (ldX arg8 x' (k0_off548 k) inb2)⟩]) := by
  unfold trip; exact ⟨_, _, _, _, _, rfl⟩

theorem trip_LM (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (x : BufTy.Contents (Elt F) arg8.view.ty) (r : BufTy.Contents (Elt F) arg9.view.ty) (m : BufTy.Contents (Elt F) arg10.view.ty) (k : Fin k0_t2_loop.trips) :
    ∃ inb0 inb1 inb2 inbw inbm inbm',
    (trip 𝒱 c bd i arg1 harg1 arg2 harg2 arg3 harg3 arg4 harg4 arg5 harg5 arg6 harg6 arg7 harg7 arg8 harg8 arg9 harg9 arg10 harg10 v1236 v1381 s hs w t x r m k).2.2.1
      = (let x' := arg8.view.writes (Elt F) x (trip.sl.HX_96 arg1 arg7 s hs t k)
         let W := View.readAt (Elt F) arg2.view (Rect.unit (s := S256x256) ![0, 0] S256x256.size inbw).toLoadRect w
         let m' := View.readAt (Elt F) arg10.view (Rect.unit (s := S32x256) ![0, 0] S32x256.size inbm).toLoadRect m
         [⟨Rect.unit (s := S32x256) ![0, 0] S32x256.size inbm', k0_pay944 (k0_pay544 (k0_pay541 W (ldX arg8 x' (k0_off546 k) inb0) (ldX arg8 x' (k0_off547 k) inb1) (ldX arg8 x' (k0_off548 k) inb2))
            (k0_pay543 W (ldX arg8 x' (k0_off546 k) inb0) (ldX arg8 x' (k0_off547 k) inb1) (ldX arg8 x' (k0_off548 k) inb2) m'))⟩]) := by
  unfold trip; exact ⟨_, _, _, _, _, _, rfl⟩

/-- A word of the sign table as it is loaded. -/
theorem word (arg1 : Memref sig .tc .smem S12x4 .i32) (s : BufTy.Contents (Elt F) arg1.view.ty) (row : Fin 12) (g : Fin 4) (off : Fin 2 → ℕ)
    (ho : off = ![row.val, g.val]) (inb : ∀ a, off a + S1x1.size a ≤ S12x4.size a) (h : _) :
    View.readAt (Elt F) arg1.view (Rect.unit (s := S12x4) off S1x1.size inb).toLoadRect s (Shape.Idx.first h) = arg1.view.read (Elt F) s (ix2 row g) := by
  subst ho
  refine congrArg (arg1.view.read (Elt F) s) (funext fun a => Fin.ext ?_)
  match a with
  | ⟨0, h0⟩ =>
    have : ((Shape.Idx.first h) ⟨0, h0⟩ : Fin 1).val < 1 := Fin.isLt _
    show row.val + 1 * ((Shape.Idx.first h) ⟨0, h0⟩ : Fin 1).val = row.val
    omega
  | ⟨1, h0⟩ =>
    have : ((Shape.Idx.first h) ⟨1, h0⟩ : Fin 1).val < 1 := Fin.isLt _
    show g.val + 1 * ((Shape.Idx.first h) ⟨1, h0⟩ : Fin 1).val = g.val
    omega

theorem off194 (k : Fin k0_t2_loop.trips) : k0_off194 k = ![k.val + 1, (0 : Fin 4).val] := by revert k; decide +kernel
theorem off196 (k : Fin k0_t2_loop.trips) : k0_off196 k = ![k.val + 1, (1 : Fin 4).val] := by revert k; decide +kernel
theorem off198 (k : Fin k0_t2_loop.trips) : k0_off198 k = ![k.val + 1, (2 : Fin 4).val] := by revert k; decide +kernel
theorem off200 (k : Fin k0_t2_loop.trips) : k0_off200 k = ![k.val + 1, (3 : Fin 4).val] := by revert k; decide +kernel

theorem signsL_eq (arg1 : Memref sig .tc .smem S12x4 .i32) (s : BufTy.Contents (Elt F) arg1.view.ty) (k : Fin k0_t2_loop.trips) (g : Fin 4) :
    signsL arg1 s k g = signs arg1 s k g := by
  have hk : k.val < 11 := Nat.lt_of_lt_of_le k.isLt k0_t2_abs.2.1
  match g with
  | 0 => show trip.sl.r arg1 s k = _; unfold trip.sl.r; exact word arg1 s ⟨k.val + 1, by omega⟩ 0 _ (off194 k) _ _
  | 1 => show trip.sl.r_1 arg1 s k = _; unfold trip.sl.r_1; exact word arg1 s ⟨k.val + 1, by omega⟩ 1 _ (off196 k) _ _
  | 2 => show trip.sl.r_2 arg1 s k = _; unfold trip.sl.r_2; exact word arg1 s ⟨k.val + 1, by omega⟩ 2 _ (off198 k) _ _
  | 3 => show trip.sl.r_3 arg1 s k = _; unfold trip.sl.r_3; exact word arg1 s ⟨k.val + 1, by omega⟩ 3 _ (off200 k) _ _

theorem asFin_eq (arg1 : Memref sig .tc .smem S12x4 .i32) (s : BufTy.Contents (Elt F) arg1.view.ty) (hs : ∀ j, BitVec.toNat (w := 32) (arg1.view.read (Elt F) s j) ≤ 7)
    (sg : Fin 4 → BitVec 32) (hsg : ∀ g, (sg g).toNat ≤ 7) (n : Fin 12) (h : ∀ g, sg g = arg1.view.read (Elt F) s (ix2 n g)) :
    asFin sg hsg = sgn (arg1.view.read (Elt F) s) hs n.val := by
  funext g
  refine Fin.ext ?_
  show (sg g).toNat = BitVec.toNat (w := 32) (arg1.view.read (Elt F) s (ix2 (⟨n.val % 12, Nat.mod_lt _ (by decide)⟩ : Fin 12) g))
  have e : (⟨n.val % 12, Nat.mod_lt _ (by decide)⟩ : Fin 12) = n := Fin.ext (Nat.mod_eq_of_lt n.isLt)
  rw [e, h g]

/-- What the loop holds before trip `k`: the current row's parts, the rows before it rotated, and their maximum. -/
theorem state (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (X : BufTy.Contents (Elt F) arg8.view.ty) (R : BufTy.Contents (Elt F) arg9.view.ty) (M : BufTy.Contents (Elt F) arg10.view.ty)
    (hX : ∀ y : S2x3x256x256.Idx, (y 0).val = 0 → arg8.view.read (Elt F) X y = XG (sgn (arg1.view.read (Elt F) s) hs 0) (arg7.view.read (Elt F) t) y)
    (hM : arg10.view.read (Elt F) M = k0_pay556) :
    ∀ k, k ≤ k0_t2_loop.trips →
      (∀ y : S2x3x256x256.Idx, (y 0).val = k % 2 → arg8.view.read (Elt F) (arg8.view.writes (Elt F) X (pb 𝒱 c bd i arg1 harg1 arg2 harg2 arg3 harg3 arg4 harg4 arg5 harg5 arg6 harg6 arg7 harg7 arg8 harg8 arg9 harg9 arg10 harg10 v1236 v1381 s hs w t X R M k).1) y
        = XG (sgn (arg1.view.read (Elt F) s) hs k) (arg7.view.read (Elt F) t) y)
      ∧ (∀ y : S12x256x256.Idx, (y 0).val < k → arg9.view.read (Elt F) (arg9.view.writes (Elt F) R (pb 𝒱 c bd i arg1 harg1 arg2 harg2 arg3 harg3 arg4 harg4 arg5 harg5 arg6 harg6 arg7 harg7 arg8 harg8 arg9 harg9 arg10 harg10 v1236 v1381 s hs w t X R M k).2.1) y
        = Rot (arg2.view.read (Elt F) w) (sgn (arg1.view.read (Elt F) s) hs (y 0).val) (arg7.view.read (Elt F) t) (ix3 (0 : Fin 1) (y 1) (y 2)))
      ∧ arg10.view.read (Elt F) (arg10.view.writes (Elt F) M (pb 𝒱 c bd i arg1 harg1 arg2 harg2 arg3 harg3 arg4 harg4 arg5 harg5 arg6 harg6 arg7 harg7 arg8 harg8 arg9 harg9 arg10 harg10 v1236 v1381 s hs w t X R M k).2.2)
        = Mx (arg2.view.read (Elt F) w) (arg1.view.read (Elt F) s) hs (arg7.view.read (Elt F) t) k
  | 0, _ => ⟨fun y hy => hX y hy, fun y hy => absurd hy (Nat.not_lt_zero _), hM⟩
  | k + 1, hk => by
    obtain ⟨ihX, ihR, ihM⟩ := state 𝒱 c bd i arg1 harg1 arg2 harg2 arg3 harg3 arg4 harg4 arg5 harg5 arg6 harg6 arg7 harg7 arg8 harg8 arg9 harg9 arg10 harg10 v1236 v1381 s hs w t X R M hX hM k (Nat.le_of_succ_le hk)
    have hsg : ∀ g, (signsL arg1 s ⟨k, hk⟩ g).toNat ≤ 7 := fun g => by rw [signsL_eq]; exact hs _
    have hk' : k < 11 := Nat.lt_of_lt_of_le hk k0_t2_abs.2.1
    have hfin : asFin (signsL arg1 s ⟨k, hk⟩) hsg = sgn (arg1.view.read (Elt F) s) hs (k + 1) :=
      asFin_eq arg1 s hs _ hsg ⟨k + 1, by omega⟩ fun g => signsL_eq arg1 s ⟨k, hk⟩ g
    have hP := trip_pieces 𝒱 c bd i arg1 harg1 arg2 harg2 arg3 harg3 arg4 harg4 arg5 harg5 arg6 harg6 arg7 harg7 arg8 harg8 arg9 harg9 arg10 harg10 v1236 v1381 s hs w t X R M ⟨k, hk⟩ hsg
    have hpb := pb_succ 𝒱 c bd i arg1 harg1 arg2 harg2 arg3 harg3 arg4 harg4 arg5 harg5 arg6 harg6 arg7 harg7 arg8 harg8 arg9 harg9 arg10 harg10 v1236 v1381 s hs w t X R M ⟨k, hk⟩
    generalize pb 𝒱 c bd i arg1 harg1 arg2 harg2 arg3 harg3 arg4 harg4 arg5 harg5 arg6 harg6 arg7 harg7 arg8 harg8 arg9 harg9 arg10 harg10 v1236 v1381 s hs w t X R M k = p at ihX ihR ihM hpb
    dsimp only at hpb
    have hkeep : ∀ y : S2x3x256x256.Idx, (y 0).val = k % 2 →
        arg8.view.read (Elt F) (arg8.view.writes (Elt F) (arg8.view.writes (Elt F) X p.1) (trip.sl.HX_96 arg1 arg7 s hs t ⟨k, hk⟩)) y
          = XG (sgn (arg1.view.read (Elt F) s) hs k) (arg7.view.read (Elt F) t) y := fun y hy => by
      rw [hP, pieces_miss _ _ _ _ _ _ _ _ _ (by show (y 0).val ≠ (k + 1) % 2; omega)]; exact ihX y hy
    rw [hpb]
    refine ⟨fun y hy => ?_, fun y hy => ?_, ?_⟩
    · dsimp only
      rw [View.writes_append, trip_LX, hP, pieces_hit _ _ _ _ _ _ _ _ _ hy, hfin]
    · dsimp only
      obtain ⟨i0, i1, i2, iw, ir, hR⟩ := trip_LR 𝒱 c bd i arg1 harg1 arg2 harg2 arg3 harg3 arg4 harg4 arg5 harg5 arg6 harg6 arg7 harg7 arg8 harg8 arg9 harg9 arg10 harg10 v1236 v1381 s hs w t (arg8.view.writes (Elt F) X p.1) (arg9.view.writes (Elt F) R p.2.1) (arg10.view.writes (Elt F) M p.2.2) ⟨k, hk⟩
      rw [View.writes_append, hR]
      dsimp only
      unfold ldX
      by_cases hlt : (y 0).val < k
      · rw [View.read_writes_cons_unit_of_not_mem _ _ _ _ _ _ rfl (0 : Fin 3) (.inl hlt)]
        exact ihR y hlt
      · have e0 : (y 0).val = k := by omega
        refine (View.read_writes_cons_unit_of_mem (off' := ![k, 0, 0]) _ _ ir _ _ y (ix3 (0 : Fin 1) (y 1 : Fin 256) (y 2 : Fin 256)) rfl (fun a => by
          match a with
          | ⟨0, _⟩ => show (y 0).val = k + 0; omega
          | ⟨1, _⟩ => show (y 1).val = 0 + (y 1).val; omega
          | ⟨2, _⟩ => show (y 2).val = 0 + (y 2).val; omega)).trans ?_
        rw [load_part _ _ _ _ (k % 2) (by omega) 0 _ (off546 ⟨k, hk⟩) i0 hkeep, load_part _ _ _ _ (k % 2) (by omega) 1 _ (off547 ⟨k, hk⟩) i1 hkeep, load_part _ _ _ _ (k % 2) (by omega) 2 _ (off548 ⟨k, hk⟩) i2 hkeep,
          View.readAt_eq_ld, View.ld_unit_zero (S := S256x256) hz2, e0]
        rfl
    · dsimp only
      obtain ⟨i0, i1, i2, iw, im, im', hM'⟩ := trip_LM 𝒱 c bd i arg1 harg1 arg2 harg2 arg3 harg3 arg4 harg4 arg5 harg5 arg6 harg6 arg7 harg7 arg8 harg8 arg9 harg9 arg10 harg10 v1236 v1381 s hs w t (arg8.view.writes (Elt F) X p.1) (arg9.view.writes (Elt F) R p.2.1) (arg10.view.writes (Elt F) M p.2.2) ⟨k, hk⟩
      rw [View.writes_append, hM']
      dsimp only
      unfold ldX
      refine (View.read_writes_full _ _ _ _ _).trans ?_
      rw [load_part _ _ _ _ (k % 2) (by omega) 0 _ (off546 ⟨k, hk⟩) i0 hkeep, load_part _ _ _ _ (k % 2) (by omega) 1 _ (off547 ⟨k, hk⟩) i1 hkeep, load_part _ _ _ _ (k % 2) (by omega) 2 _ (off548 ⟨k, hk⟩) i2 hkeep,
        View.readAt_eq_ld, View.ld_unit_zero (S := S256x256) hz2, View.readAt_eq_ld, View.ld_unit_zero (S := S32x256) hz2, ihM]
      rfl

end Cert.Proof.Step

end
-- ==== Proof.RotateFinal.lean ====
module

public import proofs.«01_k».proof.Proof.RotateBody
public import proofs.«01_k».proof.Proof.RotateValue
public import Idealize.ShloMosaic.Lib.Pointwise

@[expose] public section
set_option maxRecDepth 16384
set_option maxHeartbeats 40000000
noncomputable section
namespace Cert.Proof.Body

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.Step (Xs Rot bump Mx sgn XG)

/-- The table as the first loop leaves it. -/
abbrev tEnd (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (t : BufTy.Contents (Elt F) arg7.view.ty) : BufTy.Contents (Elt F) arg7.view.ty :=
  arg7.view.writes (Elt F) t (Build.pb 𝒱 c bd i arg1 harg1 arg2 harg2 arg3 harg3 arg4 harg4 arg5 harg5 arg6 harg6 arg7 harg7 arg8 harg8 arg9 harg9 arg10 harg10 g u (Scf.trips k0_t1_loop.lb k0_t1_loop.ub k0_t1_loop.st))

/-- Row zero's sign words as they are loaded. -/
def sg0 (arg1 : Memref sig .tc .smem S12x4 .i32) (s : BufTy.Contents (Elt F) arg1.view.ty) (g : Fin 4) : BitVec 32 :=
  match g with
  | 0 => run.sl.r arg1 s
  | 1 => run.sl.r_1 arg1 s
  | 2 => run.sl.r_2 arg1 s
  | 3 => run.sl.r_3 arg1 s

theorem sg0_eq (arg1 : Memref sig .tc .smem S12x4 .i32) (s : BufTy.Contents (Elt F) arg1.view.ty) (g : Fin 4) :
    sg0 arg1 s g = arg1.view.read (Elt F) s (ix2 (0 : Fin 12) g) := by
  match g with
  | 0 => show run.sl.r arg1 s = _; unfold run.sl.r; exact Step.word arg1 s 0 0 _ rfl _ _
  | 1 => show run.sl.r_1 arg1 s = _; unfold run.sl.r_1; exact Step.word arg1 s 0 1 _ rfl _ _
  | 2 => show run.sl.r_2 arg1 s = _; unfold run.sl.r_2; exact Step.word arg1 s 0 2 _ rfl _ _
  | 3 => show run.sl.r_3 arg1 s = _; unfold run.sl.r_3; exact Step.word arg1 s 0 3 _ rfl _ _

theorem sg0_le (arg1 : Memref sig .tc .smem S12x4 .i32) (s : BufTy.Contents (Elt F) arg1.view.ty)
    (hs : ∀ j, BitVec.toNat (w := 32) (arg1.view.read (Elt F) s j) ≤ 7) (g : Fin 4) : (sg0 arg1 s g).toNat ≤ 7 := by
  rw [sg0_eq]; exact hs _

/-- What the second loop stores, where the first row's parts are the pieces `L`. -/
abbrev P2 (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) (L : List (View.Piece (Elt F) S2x3x256x256 .bf16)) :=
  Step.pb 𝒱 c bd i arg1 harg1 arg2 harg2 arg3 harg3 arg4 harg4 arg5 harg5 arg6 harg6 arg7 harg7 arg8 harg8 arg9 harg9 arg10 harg10 (run.sl.r_143 𝒱 c bd i arg1 harg1 arg2 harg2 arg3 harg3 arg4 harg4 arg5 harg5 arg6 harg6 arg7 harg7 arg8 harg8 arg9 harg9 arg10 harg10 s g u t hs) (run.sl.r_149 𝒱 c bd i arg1 harg1 arg2 harg2 arg3 harg3 arg4 harg4 arg5 harg5 arg6 harg6 arg7 harg7 arg8 harg8 arg9 harg9 arg10 harg10 s g u t hs) s hs w (tEnd 𝒱 c bd i arg1 harg1 arg2 harg2 arg3 harg3 arg4 harg4 arg5 harg5 arg6 harg6 arg7 harg7 arg8 harg8 arg9 harg9 arg10 harg10 g u t) (arg8.view.writes (Elt F) x L) r
    (arg10.view.writes (Elt F) arg10.view.junk run.sl.H10_1) (Scf.trips k0_t2_loop.lb k0_t2_loop.ub k0_t2_loop.st)

theorem v1416_eq (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) :
    ∃ L : List (View.Piece (Elt F) S2x3x256x256 .bf16), (L = Step.pieces arg7 (tEnd 𝒱 c bd i arg1 harg1 arg2 harg2 arg3 harg3 arg4 harg4 arg5 harg5 arg6 harg6 arg7 harg7 arg8 harg8 arg9 harg9 arg10 harg10 g u t) (sg0 arg1 s) (sg0_le arg1 s hs) 0 (by decide)) ∧
      run.sl.v1416 𝒱 c bd i arg1 harg1 arg2 harg2 arg3 harg3 arg4 harg4 arg5 harg5 arg6 harg6 arg7 harg7 arg8 harg8 arg9 harg9 arg10 harg10 s w g u t x r hs = View.readAt (Elt F) arg8.view (Rect.unit (s := S2x3x256x256) ![1, 0, 0, 0] S1x1x256x256.size inb_S2x3x256x256_S1x1x256x256_1_0_0_0).toLoadRect (arg8.view.writes (Elt F) x ((P2 𝒱 c bd i arg1 harg1 arg2 harg2 arg3 harg3 arg4 harg4 arg5 harg5 arg6 harg6 arg7 harg7 arg8 harg8 arg9 harg9 arg10 harg10 s w g u t x r hs L).1 ++ L)) := by
  unfold run.sl.v1416
  refine ⟨?_, ?h, ?e⟩
  case e =>
    refine congrArg (View.readAt (Elt F) arg8.view _) ?_
    refine congrArg (arg8.view.writes (Elt F) x) ?_
    refine congrArg₂ (fun a b => a ++ b) (congrArg Prod.fst ?_) ?_
    rotate_left
    exact rfl
    refine congrArg₂ (fun (a : BufTy.Contents (Elt F) arg8.view.ty) b => Step.pb _ _ _ _ _ _ _ _ _ _ _ _ _ _ _ _ _ _ _ _ _ _ _ _ _ _ _ _ _ _ a _ _ b) ?_ ?_
    exact rfl
    exact rfl
  case h => sl_kernel_rfl

theorem v1419_eq (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) :
    ∃ L : List (View.Piece (Elt F) S2x3x256x256 .bf16), (L = Step.pieces arg7 (tEnd 𝒱 c bd i arg1 harg1 arg2 harg2 arg3 harg3 arg4 harg4 arg5 harg5 arg6 harg6 arg7 harg7 arg8 harg8 arg9 harg9 arg10 harg10 g u t) (sg0 arg1 s) (sg0_le arg1 s hs) 0 (by decide)) ∧
      run.sl.v1419 𝒱 c bd i arg1 harg1 arg2 harg2 arg3 harg3 arg4 harg4 arg5 harg5 arg6 harg6 arg7 harg7 arg8 harg8 arg9 harg9 arg10 harg10 s w g u t x r hs = View.readAt (Elt F) arg8.view (Rect.unit (s := S2x3x256x256) ![1, 1, 0, 0] S1x1x256x256.size inb_S2x3x256x256_S1x1x256x256_1_1_0_0).toLoadRect (arg8.view.writes (Elt F) x ((P2 𝒱 c bd i arg1 harg1 arg2 harg2 arg3 harg3 arg4 harg4 arg5 harg5 arg6 harg6 arg7 harg7 arg8 harg8 arg9 harg9 arg10 harg10 s w g u t x r hs L).1 ++ L)) := by
  unfold run.sl.v1419
  refine ⟨?_, ?h, ?e⟩
  case e =>
    refine congrArg (View.readAt (Elt F) arg8.view _) ?_
    refine congrArg (arg8.view.writes (Elt F) x) ?_
    refine congrArg₂ (fun a b => a ++ b) (congrArg Prod.fst ?_) ?_
    rotate_left
    exact rfl
    refine congrArg₂ (fun (a : BufTy.Contents (Elt F) arg8.view.ty) b => Step.pb _ _ _ _ _ _ _ _ _ _ _ _ _ _ _ _ _ _ _ _ _ _ _ _ _ _ _ _ _ _ a _ _ b) ?_ ?_
    exact rfl
    exact rfl
  case h => sl_kernel_rfl

theorem v1423_eq (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) :
    ∃ L : List (View.Piece (Elt F) S2x3x256x256 .bf16), (L = Step.pieces arg7 (tEnd 𝒱 c bd i arg1 harg1 arg2 harg2 arg3 harg3 arg4 harg4 arg5 harg5 arg6 harg6 arg7 harg7 arg8 harg8 arg9 harg9 arg10 harg10 g u t) (sg0 arg1 s) (sg0_le arg1 s hs) 0 (by decide)) ∧
      run.sl.v1423 𝒱 c bd i arg1 harg1 arg2 harg2 arg3 harg3 arg4 harg4 arg5 harg5 arg6 harg6 arg7 harg7 arg8 harg8 arg9 harg9 arg10 harg10 s w g u t x r hs = View.readAt (Elt F) arg8.view (Rect.unit (s := S2x3x256x256) ![1, 2, 0, 0] S1x1x256x256.size inb_S2x3x256x256_S1x1x256x256_1_2_0_0).toLoadRect (arg8.view.writes (Elt F) x ((P2 𝒱 c bd i arg1 harg1 arg2 harg2 arg3 harg3 arg4 harg4 arg5 harg5 arg6 harg6 arg7 harg7 arg8 harg8 arg9 harg9 arg10 harg10 s w g u t x r hs L).1 ++ L)) := by
  unfold run.sl.v1423
  refine ⟨?_, ?h, ?e⟩
  case e =>
    refine congrArg (View.readAt (Elt F) arg8.view _) ?_
    refine congrArg (arg8.view.writes (Elt F) x) ?_
    refine congrArg₂ (fun a b => a ++ b) (congrArg Prod.fst ?_) ?_
    rotate_left
    exact rfl
    refine congrArg₂ (fun (a : BufTy.Contents (Elt F) arg8.view.ty) b => Step.pb _ _ _ _ _ _ _ _ _ _ _ _ _ _ _ _ _ _ _ _ _ _ _ _ _ _ _ _ _ _ a _ _ b) ?_ ?_
    exact rfl
    exact rfl
  case h => sl_kernel_rfl

theorem v1430_eq (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) :
    ∃ L : List (View.Piece (Elt F) S2x3x256x256 .bf16), (L = Step.pieces arg7 (tEnd 𝒱 c bd i arg1 harg1 arg2 harg2 arg3 harg3 arg4 harg4 arg5 harg5 arg6 harg6 arg7 harg7 arg8 harg8 arg9 harg9 arg10 harg10 g u t) (sg0 arg1 s) (sg0_le arg1 s hs) 0 (by decide)) ∧
      run.sl.v1430 𝒱 c bd i arg1 harg1 arg2 harg2 arg3 harg3 arg4 harg4 arg5 harg5 arg6 harg6 arg7 harg7 arg8 harg8 arg9 harg9 arg10 harg10 s w g u t x r hs = arg10.view.readCov ((P2 𝒱 c bd i arg1 harg1 arg2 harg2 arg3 harg3 arg4 harg4 arg5 harg5 arg6 harg6 arg7 harg7 arg8 harg8 arg9 harg9 arg10 harg10 s w g u t x r hs L).2.2 ++ run.sl.H10_1) (Rect.unit (s := S32x256) ![0, 0] S32x256.size inb_S32x256_S32x256_0_0).toLoadRect := by
  unfold run.sl.v1430
  refine ⟨?_, ?h, ?e⟩
  case e =>
    refine congrArg (fun L => arg10.view.readCov L _) ?_
    refine congrArg₂ (fun a b => a ++ b) (congrArg Prod.snd (congrArg Prod.snd ?_)) rfl
    refine congrArg₂ (fun (a : BufTy.Contents (Elt F) arg8.view.ty) b => Step.pb _ _ _ _ _ _ _ _ _ _ _ _ _ _ _ _ _ _ _ _ _ _ _ _ _ _ _ _ _ _ a _ _ b) ?_ ?_
    exact rfl
    exact rfl
  case h => sl_kernel_rfl

theorem v1458_eq (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) :
    run.sl.v1458 𝒱 c bd i arg1 harg1 arg2 harg2 arg3 harg3 arg4 harg4 arg5 harg5 arg6 harg6 arg7 harg7 arg8 harg8 arg9 harg9 arg10 harg10 s w g u t x r hs = k0_pay949 (run.sl.r_150 arg2 w) (run.sl.r_151 𝒱 c bd i arg1 harg1 arg2 harg2 arg3 harg3 arg4 harg4 arg5 harg5 arg6 harg6 arg7 harg7 arg8 harg8 arg9 harg9 arg10 harg10 s w g u t x r hs) run.sl.cst_1332 (run.sl.v1419 𝒱 c bd i arg1 harg1 arg2 harg2 arg3 harg3 arg4 harg4 arg5 harg5 arg6 harg6 arg7 harg7 arg8 harg8 arg9 harg9 arg10 harg10 s w g u t x r hs) (run.sl.v1423 𝒱 c bd i arg1 harg1 arg2 harg2 arg3 harg3 arg4 harg4 arg5 harg5 arg6 harg6 arg7 harg7 arg8 harg8 arg9 harg9 arg10 harg10 s w g u t x r hs) (run.sl.v1430 𝒱 c bd i arg1 harg1 arg2 harg2 arg3 harg3 arg4 harg4 arg5 harg5 arg6 harg6 arg7 harg7 arg8 harg8 arg9 harg9 arg10 harg10 s w g u t x r hs) := by
  unfold run.sl.v1458 run.sl.H10_1_1
  exact View.readCov_cons_toLoadRect _ _ _ _

theorem scale_form (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (q : BufTy.Contents (Elt F) arg5.view.ty) (a : BufTy.Contents (Elt F) arg6.view.ty) (t : BufTy.Contents (Elt F) arg7.view.ty) (x : BufTy.Contents (Elt F) arg8.view.ty) (r : BufTy.Contents (Elt F) arg9.view.ty) (m : BufTy.Contents (Elt F) arg10.view.ty)
    (hs : ∀ j, BitVec.toNat (w := 32) (arg1.view.read (Elt F) s j) ≤ 7) :
    (run (F := F) 𝒱 c bd i arg1 harg1 arg2 harg2 arg3 harg3 arg4 harg4 arg5 harg5 arg6 harg6 arg7 harg7 arg8 harg8 arg9 harg9 arg10 harg10 s w g u q a t x r m hs).2.1 = arg6.view.writes (Elt F) arg6.view.junk [⟨Rect.unit (s := S32x128) ![0, 0] S32x128.size inb_S32x128_S32x128_0_0,
      k0_pay3 (k0_pay950 (run.sl.v1458 𝒱 c bd i arg1 harg1 arg2 harg2 arg3 harg3 arg4 harg4 arg5 harg5 arg6 harg6 arg7 harg7 arg8 harg8 arg9 harg9 arg10 harg10 s w g u t x r hs)) (k0_pay951 (run.sl.v1458 𝒱 c bd i arg1 harg1 arg2 harg2 arg3 harg3 arg4 harg4 arg5 harg5 arg6 harg6 arg7 harg7 arg8 harg8 arg9 harg9 arg10 harg10 s w g u t x r hs))⟩] := by
  unfold run
  dsimp only
  unfold run.sl.H6_1 run.sl.r_152 run.sl.r_153
  rfl

theorem codes_form (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (q : BufTy.Contents (Elt F) arg5.view.ty) (a : BufTy.Contents (Elt F) arg6.view.ty) (t : BufTy.Contents (Elt F) arg7.view.ty) (x : BufTy.Contents (Elt F) arg8.view.ty) (r : BufTy.Contents (Elt F) arg9.view.ty) (m : BufTy.Contents (Elt F) arg10.view.ty)
    (hs : ∀ j, BitVec.toNat (w := 32) (arg1.view.read (Elt F) s j) ≤ 7) :
    ∃ L : List (View.Piece (Elt F) S2x3x256x256 .bf16), ∃ inb, (L = Step.pieces arg7 (tEnd 𝒱 c bd i arg1 harg1 arg2 harg2 arg3 harg3 arg4 harg4 arg5 harg5 arg6 harg6 arg7 harg7 arg8 harg8 arg9 harg9 arg10 harg10 g u t) (sg0 arg1 s) (sg0_le arg1 s hs) 0 (by decide)) ∧
    (run (F := F) 𝒱 c bd i arg1 harg1 arg2 harg2 arg3 harg3 arg4 harg4 arg5 harg5 arg6 harg6 arg7 harg7 arg8 harg8 arg9 harg9 arg10 harg10 s w g u q a t x r m hs).1 = arg5.view.writes (Elt F) q
      (pb_k0_t3 𝒱 c bd i arg1 harg1 arg2 harg2 arg3 harg3 arg4 harg4 arg5 harg5 arg6 harg6 arg7 harg7 arg8 harg8 arg9 harg9 arg10 harg10 (k0_pay950 (run.sl.v1458 𝒱 c bd i arg1 harg1 arg2 harg2 arg3 harg3 arg4 harg4 arg5 harg5 arg6 harg6 arg7 harg7 arg8 harg8 arg9 harg9 arg10 harg10 s w g u t x r hs)) (k0_pay951 (run.sl.v1458 𝒱 c bd i arg1 harg1 arg2 harg2 arg3 harg3 arg4 harg4 arg5 harg5 arg6 harg6 arg7 harg7 arg8 harg8 arg9 harg9 arg10 harg10 s w g u t x r hs))
        (arg9.view.writes (Elt F) r (⟨Rect.unit (s := S12x256x256) ![11, 0, 0] S1x256x256.size inb,
          k0_pay948 (run.sl.r_150 arg2 w) (run.sl.r_151 𝒱 c bd i arg1 harg1 arg2 harg2 arg3 harg3 arg4 harg4 arg5 harg5 arg6 harg6 arg7 harg7 arg8 harg8 arg9 harg9 arg10 harg10 s w g u t x r hs) run.sl.cst_1332 (run.sl.v1419 𝒱 c bd i arg1 harg1 arg2 harg2 arg3 harg3 arg4 harg4 arg5 harg5 arg6 harg6 arg7 harg7 arg8 harg8 arg9 harg9 arg10 harg10 s w g u t x r hs) (run.sl.v1423 𝒱 c bd i arg1 harg1 arg2 harg2 arg3 harg3 arg4 harg4 arg5 harg5 arg6 harg6 arg7 harg7 arg8 harg8 arg9 harg9 arg10 harg10 s w g u t x r hs)⟩ :: (P2 𝒱 c bd i arg1 harg1 arg2 harg2 arg3 harg3 arg4 harg4 arg5 harg5 arg6 harg6 arg7 harg7 arg8 harg8 arg9 harg9 arg10 harg10 s w g u t x r hs L).2.1))
        (Scf.trips k0_t3_loop.lb k0_t3_loop.ub k0_t3_loop.st)) := by
  unfold run
  refine ⟨?_, ?_, ?h, ?e⟩
  case e =>
    refine congrArg (arg5.view.writes (Elt F) q) ?_
    refine congrArg₂ (fun (a : BufTy.Contents (Elt F) arg9.view.ty) b => pb_k0_t3 _ _ _ _ _ _ _ _ _ _ _ _ _ _ _ _ _ _ _ _ _ _ _ _ _ _ a b) ?_ rfl
    refine congrArg (arg9.view.writes (Elt F) r) ?_
    refine congrArg (fun L => _ :: L) ?_
    refine congrArg Prod.fst (congrArg Prod.snd ?_)
    refine congrArg₂ (fun (a : BufTy.Contents (Elt F) arg8.view.ty) b => Step.pb _ _ _ _ _ _ _ _ _ _ _ _ _ _ _ _ _ _ _ _ _ _ _ _ _ _ _ _ _ _ a _ _ b) ?_ ?_
    exact rfl
    exact rfl
  case h => sl_kernel_rfl

end Cert.Proof.Body

end
-- ==== Proof.RotateCodes.lean ====
module

public import proofs.«01_k».proof.Proof.RotateFinal
public import proofs.«01_k».proof.Proof.RotateTable
public import Idealize.ShloMosaic.Lib.Pointwise

@[expose] public section
set_option maxRecDepth 16384
set_option maxHeartbeats 40000000
noncomputable section
namespace Cert.Proof.Body

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Cert.Proof.Step (Xs Rot bump Mx sgn XG)

/-- The table the first loop leaves, read. -/
theorem tEnd_read (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (t : BufTy.Contents (Elt F) arg7.view.ty) :
    arg7.view.read (Elt F) (tEnd 𝒱 c bd i arg1 harg1 arg2 harg2 arg3 harg3 arg4 harg4 arg5 harg5 arg6 harg6 arg7 harg7 arg8 harg8 arg9 harg9 arg10 harg10 g u t) = (Build.T (arg3.view.read (Elt F) g) (arg4.view.read (Elt F) u)) :=
  Build.table_eq 𝒱 c bd i arg1 harg1 arg2 harg2 arg3 harg3 arg4 harg4 arg5 harg5 arg6 harg6 arg7 harg7 arg8 harg8 arg9 harg9 arg10 harg10 g u t

/-- What the second loop leaves: row eleven's parts, the rows before it rotated, and their maximum. -/
theorem after2 (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) (L : List (View.Piece (Elt F) S2x3x256x256 .bf16)) (hL : L = Step.pieces arg7 (tEnd 𝒱 c bd i arg1 harg1 arg2 harg2 arg3 harg3 arg4 harg4 arg5 harg5 arg6 harg6 arg7 harg7 arg8 harg8 arg9 harg9 arg10 harg10 g u t) (sg0 arg1 s) (sg0_le arg1 s hs) 0 (by decide)) :
    (∀ y : S2x3x256x256.Idx, (y 0).val = 1 → arg8.view.read (Elt F) (arg8.view.writes (Elt F) x ((P2 𝒱 c bd i arg1 harg1 arg2 harg2 arg3 harg3 arg4 harg4 arg5 harg5 arg6 harg6 arg7 harg7 arg8 harg8 arg9 harg9 arg10 harg10 s w g u t x r hs L).1 ++ L)) y = XG (sgn (arg1.view.read (Elt F) s) hs 11) (Build.T (arg3.view.read (Elt F) g) (arg4.view.read (Elt F) u)) y)
    ∧ (∀ y : S12x256x256.Idx, (y 0).val < 11 → arg9.view.read (Elt F) (arg9.view.writes (Elt F) r (P2 𝒱 c bd i arg1 harg1 arg2 harg2 arg3 harg3 arg4 harg4 arg5 harg5 arg6 harg6 arg7 harg7 arg8 harg8 arg9 harg9 arg10 harg10 s w g u t x r hs L).2.1) y
        = Rot (arg2.view.read (Elt F) w) (sgn (arg1.view.read (Elt F) s) hs (y 0).val) (Build.T (arg3.view.read (Elt F) g) (arg4.view.read (Elt F) u)) (ix3 (0 : Fin 1) (y 1) (y 2)))
    ∧ arg10.view.read (Elt F) (arg10.view.writes (Elt F) arg10.view.junk ((P2 𝒱 c bd i arg1 harg1 arg2 harg2 arg3 harg3 arg4 harg4 arg5 harg5 arg6 harg6 arg7 harg7 arg8 harg8 arg9 harg9 arg10 harg10 s w g u t x r hs L).2.2 ++ run.sl.H10_1)) = Mx (arg2.view.read (Elt F) w) (arg1.view.read (Elt F) s) hs (Build.T (arg3.view.read (Elt F) g) (arg4.view.read (Elt F) u)) 11 := by
  have h11 : Scf.trips k0_t2_loop.lb k0_t2_loop.ub k0_t2_loop.st = 11 := by decide +kernel
  have hT := tEnd_read 𝒱 c bd i arg1 harg1 arg2 harg2 arg3 harg3 arg4 harg4 arg5 harg5 arg6 harg6 arg7 harg7 arg8 harg8 arg9 harg9 arg10 harg10 g u t
  have h := Step.state 𝒱 c bd i arg1 harg1 arg2 harg2 arg3 harg3 arg4 harg4 arg5 harg5 arg6 harg6 arg7 harg7 arg8 harg8 arg9 harg9 arg10 harg10 (run.sl.r_143 𝒱 c bd i arg1 harg1 arg2 harg2 arg3 harg3 arg4 harg4 arg5 harg5 arg6 harg6 arg7 harg7 arg8 harg8 arg9 harg9 arg10 harg10 s g u t hs) (run.sl.r_149 𝒱 c bd i arg1 harg1 arg2 harg2 arg3 harg3 arg4 harg4 arg5 harg5 arg6 harg6 arg7 harg7 arg8 harg8 arg9 harg9 arg10 harg10 s g u t hs) s hs w (tEnd 𝒱 c bd i arg1 harg1 arg2 harg2 arg3 harg3 arg4 harg4 arg5 harg5 arg6 harg6 arg7 harg7 arg8 harg8 arg9 harg9 arg10 harg10 g u t)
    (arg8.view.writes (Elt F) x L) r (arg10.view.writes (Elt F) arg10.view.junk run.sl.H10_1)
    (fun y hy => by
      rw [hL, Step.pieces_hit _ _ _ _ _ _ _ _ _ hy, Step.asFin_eq arg1 s hs _ _ (0 : Fin 12) (sg0_eq arg1 s)]; rfl)
    (by unfold run.sl.H10_1; exact View.read_writes_full _ _ _ _ _)
    11 (by decide +kernel)
  rw [hT] at h
  unfold P2
  rw [h11, View.writes_append, View.writes_append]
  exact h

theorem v1416_val (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) :
    run.sl.v1416 𝒱 c bd i arg1 harg1 arg2 harg2 arg3 harg3 arg4 harg4 arg5 harg5 arg6 harg6 arg7 harg7 arg8 harg8 arg9 harg9 arg10 harg10 s w g u t x r hs = Xs (sgn (arg1.view.read (Elt F) s) hs 11) (Build.T (arg3.view.read (Elt F) g) (arg4.view.read (Elt F) u)) 0 := by
  obtain ⟨L, hL, e⟩ := v1416_eq 𝒱 c bd i arg1 harg1 arg2 harg2 arg3 harg3 arg4 harg4 arg5 harg5 arg6 harg6 arg7 harg7 arg8 harg8 arg9 harg9 arg10 harg10 s w g u t x r hs
  rw [e]
  exact Step.load_part _ _ _ _ 1 (by decide) 0 _ rfl _ (after2 𝒱 c bd i arg1 harg1 arg2 harg2 arg3 harg3 arg4 harg4 arg5 harg5 arg6 harg6 arg7 harg7 arg8 harg8 arg9 harg9 arg10 harg10 s w g u t x r hs L hL).1

theorem v1419_val (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) :
    run.sl.v1419 𝒱 c bd i arg1 harg1 arg2 harg2 arg3 harg3 arg4 harg4 arg5 harg5 arg6 harg6 arg7 harg7 arg8 harg8 arg9 harg9 arg10 harg10 s w g u t x r hs = Xs (sgn (arg1.view.read (Elt F) s) hs 11) (Build.T (arg3.view.read (Elt F) g) (arg4.view.read (Elt F) u)) 1 := by
  obtain ⟨L, hL, e⟩ := v1419_eq 𝒱 c bd i arg1 harg1 arg2 harg2 arg3 harg3 arg4 harg4 arg5 harg5 arg6 harg6 arg7 harg7 arg8 harg8 arg9 harg9 arg10 harg10 s w g u t x r hs
  rw [e]
  exact Step.load_part _ _ _ _ 1 (by decide) 1 _ rfl _ (after2 𝒱 c bd i arg1 harg1 arg2 harg2 arg3 harg3 arg4 harg4 arg5 harg5 arg6 harg6 arg7 harg7 arg8 harg8 arg9 harg9 arg10 harg10 s w g u t x r hs L hL).1

theorem v1423_val (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) :
    run.sl.v1423 𝒱 c bd i arg1 harg1 arg2 harg2 arg3 harg3 arg4 harg4 arg5 harg5 arg6 harg6 arg7 harg7 arg8 harg8 arg9 harg9 arg10 harg10 s w g u t x r hs = Xs (sgn (arg1.view.read (Elt F) s) hs 11) (Build.T (arg3.view.read (Elt F) g) (arg4.view.read (Elt F) u)) 2 := by
  obtain ⟨L, hL, e⟩ := v1423_eq 𝒱 c bd i arg1 harg1 arg2 harg2 arg3 harg3 arg4 harg4 arg5 harg5 arg6 harg6 arg7 harg7 arg8 harg8 arg9 harg9 arg10 harg10 s w g u t x r hs
  rw [e]
  exact Step.load_part _ _ _ _ 1 (by decide) 2 _ rfl _ (after2 𝒱 c bd i arg1 harg1 arg2 harg2 arg3 harg3 arg4 harg4 arg5 harg5 arg6 harg6 arg7 harg7 arg8 harg8 arg9 harg9 arg10 harg10 s w g u t x r hs L hL).1

theorem v1430_val (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) :
    run.sl.v1430 𝒱 c bd i arg1 harg1 arg2 harg2 arg3 harg3 arg4 harg4 arg5 harg5 arg6 harg6 arg7 harg7 arg8 harg8 arg9 harg9 arg10 harg10 s w g u t x r hs = Mx (arg2.view.read (Elt F) w) (arg1.view.read (Elt F) s) hs (Build.T (arg3.view.read (Elt F) g) (arg4.view.read (Elt F) u)) 11 := by
  obtain ⟨L, hL, e⟩ := v1430_eq 𝒱 c bd i arg1 harg1 arg2 harg2 arg3 harg3 arg4 harg4 arg5 harg5 arg6 harg6 arg7 harg7 arg8 harg8 arg9 harg9 arg10 harg10 s w g u t x r hs
  rw [e]
  exact (View.readAt_full _ _ _).trans (after2 𝒱 c bd i arg1 harg1 arg2 harg2 arg3 harg3 arg4 harg4 arg5 harg5 arg6 harg6 arg7 harg7 arg8 harg8 arg9 harg9 arg10 harg10 s w g u t x r hs L hL).2.2

/-- The maximum over all rows. -/
theorem v1458_val (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) :
    run.sl.v1458 𝒱 c bd i arg1 harg1 arg2 harg2 arg3 harg3 arg4 harg4 arg5 harg5 arg6 harg6 arg7 harg7 arg8 harg8 arg9 harg9 arg10 harg10 s w g u t x r hs = Mx (arg2.view.read (Elt F) w) (arg1.view.read (Elt F) s) hs (Build.T (arg3.view.read (Elt F) g) (arg4.view.read (Elt F) u)) 12 := by
  rw [v1458_eq, v1419_val, v1423_val, v1430_val]
  unfold run.sl.r_150 run.sl.r_151
  rw [v1416_val, View.readAt_full]
  rfl

/-- The rows as the third loop finds them. -/
theorem rows (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (t : BufTy.Contents (Elt F) arg7.view.ty) (x : BufTy.Contents (Elt F) arg8.view.ty) (r : BufTy.Contents (Elt F) arg9.view.ty)
    (hs : ∀ j, BitVec.toNat (w := 32) (arg1.view.read (Elt F) s j) ≤ 7) (L : List (View.Piece (Elt F) S2x3x256x256 .bf16)) (hL : L = Step.pieces arg7 (tEnd 𝒱 c bd i arg1 harg1 arg2 harg2 arg3 harg3 arg4 harg4 arg5 harg5 arg6 harg6 arg7 harg7 arg8 harg8 arg9 harg9 arg10 harg10 g u t) (sg0 arg1 s) (sg0_le arg1 s hs) 0 (by decide)) (inb : _) (y : S12x256x256.Idx) :
    arg9.view.read (Elt F) (arg9.view.writes (Elt F) r (⟨Rect.unit (s := S12x256x256) ![11, 0, 0] S1x256x256.size inb,
          k0_pay948 (run.sl.r_150 arg2 w) (run.sl.r_151 𝒱 c bd i arg1 harg1 arg2 harg2 arg3 harg3 arg4 harg4 arg5 harg5 arg6 harg6 arg7 harg7 arg8 harg8 arg9 harg9 arg10 harg10 s w g u t x r hs) run.sl.cst_1332 (run.sl.v1419 𝒱 c bd i arg1 harg1 arg2 harg2 arg3 harg3 arg4 harg4 arg5 harg5 arg6 harg6 arg7 harg7 arg8 harg8 arg9 harg9 arg10 harg10 s w g u t x r hs) (run.sl.v1423 𝒱 c bd i arg1 harg1 arg2 harg2 arg3 harg3 arg4 harg4 arg5 harg5 arg6 harg6 arg7 harg7 arg8 harg8 arg9 harg9 arg10 harg10 s w g u t x r hs)⟩ :: (P2 𝒱 c bd i arg1 harg1 arg2 harg2 arg3 harg3 arg4 harg4 arg5 harg5 arg6 harg6 arg7 harg7 arg8 harg8 arg9 harg9 arg10 harg10 s w g u t x r hs L).2.1)) y
      = Rot (arg2.view.read (Elt F) w) (sgn (arg1.view.read (Elt F) s) hs (y 0).val) (Build.T (arg3.view.read (Elt F) g) (arg4.view.read (Elt F) u)) (ix3 (0 : Fin 1) (y 1) (y 2)) := by
  have y0 : (y 0).val < 12 := (y 0).isLt
  by_cases hlt : (y 0).val < 11
  · rw [View.read_writes_cons_unit_of_not_mem _ _ _ _ _ _ rfl (0 : Fin 3) (.inl hlt)]
    exact (after2 𝒱 c bd i arg1 harg1 arg2 harg2 arg3 harg3 arg4 harg4 arg5 harg5 arg6 harg6 arg7 harg7 arg8 harg8 arg9 harg9 arg10 harg10 s w g u t x r hs L hL).2.1 y hlt
  · have e0 : (y 0).val = 11 := by omega
    refine (View.read_writes_cons_unit_of_mem (off' := ![11, 0, 0]) _ _ inb _ _ y (ix3 (0 : Fin 1) (y 1 : Fin 256) (y 2 : Fin 256)) rfl (fun a => by
          match a with
          | ⟨0, _⟩ => show (y 0).val = 11 + 0; omega
          | ⟨1, _⟩ => show (y 1).val = 0 + (y 1).val; omega
          | ⟨2, _⟩ => show (y 2).val = 0 + (y 2).val; omega)).trans ?_
    rw [v1419_val, v1423_val]
    unfold run.sl.r_150 run.sl.r_151
    rw [v1416_val, View.readAt_full, e0]
    rfl

/-! ### The third loop: the codes -/

/-- One code: a rotated value times the inverse scale, rounded, clipped, as a whole number. -/
def code (inv v : F .f32) : BitVec 8 :=
  FloatOps.fptosi 8 (FloatOps.minimumf (FloatOps.ofBits .f32 0x40E00000#32) (FloatOps.maximumf (FloatOps.ofBits .f32 0xC0E00000#32) (FloatOps.roundeven (FloatOps.mulf v inv))))

theorem pay545_apply (v : FVec F S32x256 .f32) (f : Vec F S1x32x256 .f32) (a : Fin 32) (b : Fin 256) :
    k0_pay545 v f (ix2 a b) = code (v (ix2 a b)) (f (ix3 (0 : Fin 1) a b)) := by
  unfold k0_pay545
  pointwise
  rfl

/-- The offsets of a trip's loads. -/
def rOff (k : Fin k0_t3_loop.trips) (p : Fin 8) : Fin 3 → ℕ :=
  match p with
  | 0 => k0_off550 k
  | 1 => k0_off552 k
  | 2 => k0_off553 k
  | 3 => k0_off554 k
  | 4 => k0_off555 k
  | 5 => k0_off556 k
  | 6 => k0_off557 k
  | 7 => k0_off558 k

theorem rOff_eq (k : Fin k0_t3_loop.trips) (p : Fin 8) : rOff k p = ![k.val, 32 * p.val, 0] := by revert k p; decide +kernel
theorem cOff_eq (k : Fin k0_t3_loop.trips) (p : Fin 8) : k0_off551 k (BitVec.ofNat 32 (256 * p.val)) = ![0, 2048 * k.val + 256 * p.val] := by revert k p; decide +kernel

theorem rOff_inb (k : Fin k0_t3_loop.trips) (p : Fin 8) : ∀ a, rOff k p a + S1x32x256.size a ≤ S12x256x256.size a := by
  rw [rOff_eq]
  have hk : k.val < 12 := Nat.lt_of_lt_of_le k.isLt k0_t3_abs.2.1
  intro a
  match a with
  | ⟨0, _⟩ => show k.val + 1 ≤ 12; omega
  | ⟨1, _⟩ => show 32 * p.val + 32 ≤ 256; omega
  | ⟨2, _⟩ => show 0 + 256 ≤ 256; omega

theorem cOff_inb (k : Fin k0_t3_loop.trips) (p : Fin 8) : ∀ a, k0_off551 k (BitVec.ofNat 32 (256 * p.val)) a + S32x256.size a ≤ S32x24576.size a := by
  rw [cOff_eq]
  have hk : k.val < 12 := Nat.lt_of_lt_of_le k.isLt k0_t3_abs.2.1
  intro a
  match a with
  | ⟨0, _⟩ => show 0 + 32 ≤ 32; omega
  | ⟨1, _⟩ => show 2048 * k.val + 256 * p.val + 256 ≤ 24576; omega

/-- The store of block `p` of row `k`. -/
def cPiece (arg9 : Memref sig .tc .vmem S12x256x256 .f32) (inv : FVec F S32x256 .f32) (X : BufTy.Contents (Elt F) arg9.view.ty)
    (k : Fin k0_t3_loop.trips) (p : Fin 8) : View.Piece (Elt F) S32x24576 .i8 :=
  ⟨Rect.unit (s := S32x24576) (k0_off551 k (BitVec.ofNat 32 (256 * p.val))) S32x256.size (cOff_inb k p),
    k0_pay545 inv (View.readAt (Elt F) arg9.view (Rect.unit (s := S12x256x256) (rOff k p) S1x32x256.size (rOff_inb k p)).toLoadRect X)⟩

theorem trip3_pieces (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (v1462 : FVec F S32x1 .f32) (v1464 : IVec S32x1 1) (X : BufTy.Contents (Elt F) arg9.view.ty) (k : Fin k0_t3_loop.trips) :
    tripL_k0_t3 𝒱 c bd i arg1 harg1 arg2 harg2 arg3 harg3 arg4 harg4 arg5 harg5 arg6 harg6 arg7 harg7 arg8 harg8 arg9 harg9 arg10 harg10 v1462 v1464 X k
      = ([7, 6, 5, 4, 3, 2, 1, 0] : List (Fin 8)).map fun p => cPiece arg9 (k0_pay2 v1462 v1464) X k p := by
  unfold tripL_k0_t3 trip_k0_t3
  sl_kernel_rfl

/-- The codes as one function of the inverse scale and the rows. -/
def codesOf (inv : FVec F S32x256 .f32) (R : Vec F S12x256x256 .f32) : Vec F S32x24576 .i8 := fun y =>
  have h0 : (y 0).val < 32 := (y 0).isLt
  have h1 : (y 1).val < 24576 := (y 1).isLt
  code (inv (ix2 (⟨(y 0).val, h0⟩ : Fin 32) (⟨(y 1).val % 256, by omega⟩ : Fin 256)))
    (R (ix3 (⟨(y 1).val / 2048, by omega⟩ : Fin 12) (⟨32 * ((y 1).val % 2048 / 256) + (y 0).val, by omega⟩ : Fin 256) (⟨(y 1).val % 256, by omega⟩ : Fin 256)))

theorem cPiece_apply (arg9 : Memref sig .tc .vmem S12x256x256 .f32) (inv : FVec F S32x256 .f32) (X : BufTy.Contents (Elt F) arg9.view.ty)
    (k : Fin k0_t3_loop.trips) (p : Fin 8) (z : (cPiece arg9 inv X k p).1.shape.Idx) :
    (cPiece arg9 inv X k p).2 z = codesOf inv (arg9.view.read (Elt F) X) ((cPiece arg9 inv X k p).1.emb z) := by
  have hk : k.val < 12 := Nat.lt_of_lt_of_le k.isLt k0_t3_abs.2.1
  obtain ⟨a, b, rfl⟩ : ∃ (a : Fin 32) (b : Fin 256), z = ix2 a b := ⟨z 0, z 1, (eq_ix2 z)⟩
  have c0 : k0_off551 k (BitVec.ofNat 32 (256 * p.val)) (0 : Fin 2) = 0 := by rw [cOff_eq]; rfl
  have c1 : k0_off551 k (BitVec.ofNat 32 (256 * p.val)) (1 : Fin 2) = 2048 * k.val + 256 * p.val := by rw [cOff_eq]; rfl
  have r0 : rOff k p (0 : Fin 3) = k.val := by rw [rOff_eq]; rfl
  have r1 : rOff k p (1 : Fin 3) = 32 * p.val := by rw [rOff_eq]; rfl
  have r2 : rOff k p (2 : Fin 3) = 0 := by rw [rOff_eq]; rfl
  have e0 : ((cPiece arg9 inv X k p).1.emb (ix2 a b) (0 : Fin 2)).val = a.val := by
    show k0_off551 k (BitVec.ofNat 32 (256 * p.val)) (0 : Fin 2) + 1 * a.val = a.val; omega
  have e1 : ((cPiece arg9 inv X k p).1.emb (ix2 a b) (1 : Fin 2)).val = 2048 * k.val + 256 * p.val + b.val := by
    show k0_off551 k (BitVec.ofNat 32 (256 * p.val)) (1 : Fin 2) + 1 * b.val = _; omega
  refine (pay545_apply _ _ a b).trans ?_
  unfold codesOf
  refine congrArg₂ code (congrArg inv ?_) (congrArg (arg9.view.read (Elt F) X) ?_)
  · refine funext fun d => Fin.ext ?_
    match d with
    | ⟨0, _⟩ => exact e0.symm
    | ⟨1, _⟩ => show b.val = ((cPiece arg9 inv X k p).1.emb (ix2 a b) (1 : Fin 2)).val % 256; omega
  · refine funext fun d => Fin.ext ?_
    match d with
    | ⟨0, _⟩ => show rOff k p (0 : Fin 3) + 1 * 0 = ((cPiece arg9 inv X k p).1.emb (ix2 a b) (1 : Fin 2)).val / 2048; omega
    | ⟨1, _⟩ => show rOff k p (1 : Fin 3) + 1 * a.val = 32 * (((cPiece arg9 inv X k p).1.emb (ix2 a b) (1 : Fin 2)).val % 2048 / 256) + ((cPiece arg9 inv X k p).1.emb (ix2 a b) (0 : Fin 2)).val; omega
    | ⟨2, _⟩ => show rOff k p (2 : Fin 3) + 1 * b.val = ((cPiece arg9 inv X k p).1.emb (ix2 a b) (1 : Fin 2)).val % 256; omega

theorem cPiece_mem (arg9 : Memref sig .tc .vmem S12x256x256 .f32) (inv : FVec F S32x256 .f32) (X : BufTy.Contents (Elt F) arg9.view.ty)
    (k : Fin k0_t3_loop.trips) (p : Fin 8) (y : S32x24576.Idx) :
    y ∈ (cPiece arg9 inv X k p).1.set ↔ 2048 * k.val + 256 * p.val ≤ (y 1).val ∧ (y 1).val < 2048 * k.val + 256 * p.val + 256 := by
  have y0 : (y 0).val < 32 := (y 0).isLt
  have c0 : k0_off551 k (BitVec.ofNat 32 (256 * p.val)) (0 : Fin 2) = 0 := by rw [cOff_eq]; rfl
  have c1 : k0_off551 k (BitVec.ofNat 32 (256 * p.val)) (1 : Fin 2) = 2048 * k.val + 256 * p.val := by rw [cOff_eq]; rfl
  show y ∈ (Rect.unit (s := S32x24576) (k0_off551 k (BitVec.ofNat 32 (256 * p.val))) S32x256.size (cOff_inb k p)).set ↔ _
  rw [Rect.mem_set_unit]
  refine ⟨fun h => ?_, fun h a => ?_⟩
  · have h1 : k0_off551 k (BitVec.ofNat 32 (256 * p.val)) (1 : Fin 2) ≤ (y 1).val ∧ (y 1).val < k0_off551 k (BitVec.ofNat 32 (256 * p.val)) (1 : Fin 2) + 256 := h (1 : Fin 2)
    omega
  · match a with
    | ⟨0, _⟩ =>
      show k0_off551 k (BitVec.ofNat 32 (256 * p.val)) (0 : Fin 2) ≤ (y 0).val ∧ (y 0).val < k0_off551 k (BitVec.ofNat 32 (256 * p.val)) (0 : Fin 2) + 32
      omega
    | ⟨1, _⟩ =>
      show k0_off551 k (BitVec.ofNat 32 (256 * p.val)) (1 : Fin 2) ≤ (y 1).val ∧ (y 1).val < k0_off551 k (BitVec.ofNat 32 (256 * p.val)) (1 : Fin 2) + 256
      omega

theorem pb3_value (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (v1462 : FVec F S32x1 .f32) (v1464 : IVec S32x1 1) (X : BufTy.Contents (Elt F) arg9.view.ty) (q : BufTy.Contents (Elt F) arg5.view.ty) :
    ∀ k, k ≤ k0_t3_loop.trips → ∀ y : S32x24576.Idx, (y 1).val < 2048 * k →
      arg5.view.read (Elt F) (arg5.view.writes (Elt F) q (pb_k0_t3 𝒱 c bd i arg1 harg1 arg2 harg2 arg3 harg3 arg4 harg4 arg5 harg5 arg6 harg6 arg7 harg7 arg8 harg8 arg9 harg9 arg10 harg10 v1462 v1464 X k)) y
        = codesOf (k0_pay2 v1462 v1464) (arg9.view.read (Elt F) X) y
  | 0, _ => fun y hy => absurd hy (by omega)
  | k + 1, hk => fun y hy => by
    have hpb := pb_k0_t3_succ 𝒱 c bd i arg1 harg1 arg2 harg2 arg3 harg3 arg4 harg4 arg5 harg5 arg6 harg6 arg7 harg7 arg8 harg8 arg9 harg9 arg10 harg10 v1462 v1464 X ⟨k, hk⟩
    dsimp only at hpb
    have ih := pb3_value 𝒱 c bd i arg1 harg1 arg2 harg2 arg3 harg3 arg4 harg4 arg5 harg5 arg6 harg6 arg7 harg7 arg8 harg8 arg9 harg9 arg10 harg10 v1462 v1464 X q k (Nat.le_of_succ_le hk) y
    have y0 : (y 0).val < 32 := (y 0).isLt
    rw [hpb, View.writes_append, trip3_pieces]
    have mem : ∀ p : Fin 8, y ∈ (cPiece arg9 (k0_pay2 v1462 v1464) X ⟨k, hk⟩ p).1.set ↔ 2048 * k + 256 * p.val ≤ (y 1).val ∧ (y 1).val < 2048 * k + 256 * p.val + 256 :=
      fun p => cPiece_mem _ _ _ ⟨k, hk⟩ p y
    by_cases hlt : (y 1).val < 2048 * k
    · rw [View.read_writes_apply_of_forall_not_mem _ _ _ _ fun P hP => by
        obtain ⟨p, -, rfl⟩ := List.mem_map.mp hP
        rw [mem]; omega]
      exact ih hlt
    · refine View.read_writes_apply_of_pieces _ _ (codesOf (k0_pay2 v1462 v1464) (arg9.view.read (Elt F) X)) _ (fun P hP => ?_) y ?_
      · obtain ⟨p, -, rfl⟩ := List.mem_map.mp hP
        exact cPiece_apply _ _ _ _ _
      · refine ⟨_, List.mem_map.mpr ⟨(⟨((y 1).val - 2048 * k) / 256, by omega⟩ : Fin 8), ?_, rfl⟩, (mem _).mpr ⟨?_, ?_⟩⟩
        · generalize (⟨((y 1).val - 2048 * k) / 256, _⟩ : Fin 8) = p
          revert p; decide
        · show 2048 * k + 256 * (((y 1).val - 2048 * k) / 256) ≤ (y 1).val; omega
        · show (y 1).val < 2048 * k + 256 * (((y 1).val - 2048 * k) / 256) + 256; omega

/-! ### The two results as functions of the four inputs -/

/-- All rows rotated. -/
def rowsOf (W : Vec F S256x256 .bf16) (S : Vec F S12x4 .i32) (hS : ∀ j, BitVec.toNat (w := 32) (S j) ≤ 7) (g u : Vec F S32x24576 .bf16) : Vec F S12x256x256 .f32 :=
  fun y => Rot W (sgn S hS (y 0).val) (Build.T g u) (ix3 (0 : Fin 1) (y 1) (y 2))

/-- The maximum over the rows and blocks, per column. -/
abbrev maxOf (W : Vec F S256x256 .bf16) (S : Vec F S12x4 .i32) (hS : ∀ j, BitVec.toNat (w := 32) (S j) ≤ 7) (g u : Vec F S32x24576 .bf16) : FVec F S32x256 .f32 :=
  Mx W S hS (Build.T g u) 12

/-- The scale result of a block of tokens. -/
def scaleVal (W : Vec F S256x256 .bf16) (S : Vec F S12x4 .i32) (hS : ∀ j, BitVec.toNat (w := 32) (S j) ≤ 7) (g u : Vec F S32x24576 .bf16) : FVec F S32x128 .f32 :=
  k0_pay3 (k0_pay950 (maxOf W S hS g u)) (k0_pay951 (maxOf W S hS g u))

/-- The codes of a block of tokens. -/
def codesVal (W : Vec F S256x256 .bf16) (S : Vec F S12x4 .i32) (hS : ∀ j, BitVec.toNat (w := 32) (S j) ≤ 7) (g u : Vec F S32x24576 .bf16) : Vec F S32x24576 .i8 :=
  codesOf (k0_pay2 (k0_pay950 (maxOf W S hS g u)) (k0_pay951 (maxOf W S hS g u))) (rowsOf W S hS g u)

theorem scale_read (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (q : BufTy.Contents (Elt F) arg5.view.ty) (a : BufTy.Contents (Elt F) arg6.view.ty) (t : BufTy.Contents (Elt F) arg7.view.ty) (x : BufTy.Contents (Elt F) arg8.view.ty) (r : BufTy.Contents (Elt F) arg9.view.ty) (m : BufTy.Contents (Elt F) arg10.view.ty)
    (hs : ∀ j, BitVec.toNat (w := 32) (arg1.view.read (Elt F) s j) ≤ 7) :
    arg6.view.read (Elt F) (run (F := F) 𝒱 c bd i arg1 harg1 arg2 harg2 arg3 harg3 arg4 harg4 arg5 harg5 arg6 harg6 arg7 harg7 arg8 harg8 arg9 harg9 arg10 harg10 s w g u q a t x r m hs).2.1 = scaleVal (arg2.view.read (Elt F) w) (arg1.view.read (Elt F) s) hs (arg3.view.read (Elt F) g) (arg4.view.read (Elt F) u) := by
  rw [scale_form, v1458_val]
  exact View.read_writes_full _ _ _ _ _

theorem codes_read (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (q : BufTy.Contents (Elt F) arg5.view.ty) (a : BufTy.Contents (Elt F) arg6.view.ty) (t : BufTy.Contents (Elt F) arg7.view.ty) (x : BufTy.Contents (Elt F) arg8.view.ty) (r : BufTy.Contents (Elt F) arg9.view.ty) (m : BufTy.Contents (Elt F) arg10.view.ty)
    (hs : ∀ j, BitVec.toNat (w := 32) (arg1.view.read (Elt F) s j) ≤ 7) :
    arg5.view.read (Elt F) (run (F := F) 𝒱 c bd i arg1 harg1 arg2 harg2 arg3 harg3 arg4 harg4 arg5 harg5 arg6 harg6 arg7 harg7 arg8 harg8 arg9 harg9 arg10 harg10 s w g u q a t x r m hs).1 = codesVal (arg2.view.read (Elt F) w) (arg1.view.read (Elt F) s) hs (arg3.view.read (Elt F) g) (arg4.view.read (Elt F) u) := by
  obtain ⟨L, inb, hL, e⟩ := codes_form 𝒱 c bd i arg1 harg1 arg2 harg2 arg3 harg3 arg4 harg4 arg5 harg5 arg6 harg6 arg7 harg7 arg8 harg8 arg9 harg9 arg10 harg10 s w g u q a t x r m hs
  have hR := rows 𝒱 c bd i arg1 harg1 arg2 harg2 arg3 harg3 arg4 harg4 arg5 harg5 arg6 harg6 arg7 harg7 arg8 harg8 arg9 harg9 arg10 harg10 s w g u t x r hs L hL inb
  rw [e, v1458_val]
  funext y
  have y1 : (y 1).val < 24576 := (y 1).isLt
  have h12 : Scf.trips k0_t3_loop.lb k0_t3_loop.ub k0_t3_loop.st = 12 := by decide +kernel
  refine (pb3_value 𝒱 c bd i arg1 harg1 arg2 harg2 arg3 harg3 arg4 harg4 arg5 harg5 arg6 harg6 arg7 harg7 arg8 harg8 arg9 harg9 arg10 harg10 _ _ _ q _ (by rfl) y (by rw [h12]; omega)).trans ?_
  unfold codesVal
  exact congrArg (fun R => codesOf _ R y) (funext hR)

end Cert.Proof.Body

end
-- ==== Proof.RotateRun.lean ====
module

public import proofs.«01_k».proof.Proof.RotateCodes
public import proofs.«01_k».proof.Proof.Gen.RotateIdeal.Frame
public import Idealize.ShloMosaic.Lib.Pointwise
public import Idealize.ShloMosaic.Lib.Claim

@[expose] public section
set_option maxRecDepth 16384
set_option maxHeartbeats 4000000
noncomputable section
namespace Cert.Proof.Run

open Cert.RotateIdeal Cert.RotateIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

open Cert.Proof.Body (codesVal scaleVal)

variable (m : (ℓ : Loc nD τ sig) → Buf (Elt F) ℓ) (ρ : Dev nD → PrngReg)

/-! ### The sign words are below eight -/

theorem bit_le (b : BitVec 1) : (b.setWidth 32).toNat ≤ 1 := by revert b; decide

theorem word_le (a b d : BitVec 32) (ha : a.toNat ≤ 1) (hb : b.toNat ≤ 1) (hd : d.toNat ≤ 1) : (a * 4#32 + b * 2#32 + d).toNat ≤ 7 := by
  have : a = 0#32 ∨ a = 1#32 := by
    rcases Nat.le_one_iff_eq_zero_or_eq_one.mp ha with h | h
    · exact .inl (BitVec.eq_of_toNat_eq h)
    · exact .inr (BitVec.eq_of_toNat_eq h)
  have : b = 0#32 ∨ b = 1#32 := by
    rcases Nat.le_one_iff_eq_zero_or_eq_one.mp hb with h | h
    · exact .inl (BitVec.eq_of_toNat_eq h)
    · exact .inr (BitVec.eq_of_toNat_eq h)
  have : d = 0#32 ∨ d = 1#32 := by
    rcases Nat.le_one_iff_eq_zero_or_eq_one.mp hd with h | h
    · exact .inl (BitVec.eq_of_toNat_eq h)
    · exact .inr (BitVec.eq_of_toNat_eq h)
  rcases ‹a = _ ∨ _› with rfl | rfl <;> rcases ‹b = _ ∨ _› with rfl | rfl <;> rcases ‹d = _ ∨ _› with rfl | rfl <;> decide

/-- The sign bits of the twelve by twelve matrix, three to a group. -/
def negs (A : Vec F S12x12 .f32) : IVec S12x4x3 32 :=
  shapeCast S12x4x3 (extui 32 (cmpf .olt A (broadcastInDim S12x12 ![] bcast_S_S12x12 (constant S_ .f32 0x00000000#32))) natLt_1_32) shapeCasts_S12x12_S12x4x3

/-- One bit of each group, as a table of words. -/
def bitOf (k : Fin 3) (N : IVec S12x4x3 32) : IVec S12x4 32 := fun y => N (ix3 (y 0) (y 1) k)

/-- The table of sign words. -/
def signTab (A : Vec F S12x12 .f32) : IVec S12x4 32 := fun y =>
  bitOf 0 (negs A) y * 4#32 + bitOf 1 (negs A) y * 2#32 + bitOf 2 (negs A) y

theorem signTab_le (A : Vec F S12x12 .f32) (y : S12x4.Idx) : (signTab A y).toNat ≤ 7 :=
  word_le _ _ _ (bit_le _) (bit_le _) (bit_le _)

theorem drop0 (N : IVec S12x4x3 32) (a : Fin 12) (b : Fin 4) :
    shapeCast S12x4 (extractStridedSlice S12x4x1 ![0, 0, 0] N slices_S12x4x3_S12x4x1_0_0_0) shapeCasts_S12x4x1_S12x4 (ix2 a b) = N (ix3 a b (0 : Fin 3)) := by
  pointwise
  try rfl
theorem drop1 (N : IVec S12x4x3 32) (a : Fin 12) (b : Fin 4) :
    shapeCast S12x4 (extractStridedSlice S12x4x1 ![0, 0, 1] N slices_S12x4x3_S12x4x1_0_0_1) shapeCasts_S12x4x1_S12x4 (ix2 a b) = N (ix3 a b (1 : Fin 3)) := by
  pointwise
  try rfl
theorem drop2 (N : IVec S12x4x3 32) (a : Fin 12) (b : Fin 4) :
    shapeCast S12x4 (extractStridedSlice S12x4x1 ![0, 0, 2] N slices_S12x4x3_S12x4x1_0_0_2) shapeCasts_S12x4x1_S12x4 (ix2 a b) = N (ix3 a b (2 : Fin 3)) := by
  pointwise
  try rfl

theorem V_signs (c : Dev nD) : (V m c main_v15 : IVec S12x4 32) = signTab (m ((c : Thread nD τ).loc main_arg2)) := by
  have e : (V m c main_v15 : IVec S12x4 32) = addi (addi
      (muli (shapeCast S12x4 (extractStridedSlice S12x4x1 ![0, 0, 0] (negs (m ((c : Thread nD τ).loc main_arg2))) slices_S12x4x3_S12x4x1_0_0_0) shapeCasts_S12x4x1_S12x4) (broadcastInDim S12x4 ![] bcast_S_S12x4 (constantI S_ 32 4#32)))
      (muli (shapeCast S12x4 (extractStridedSlice S12x4x1 ![0, 0, 1] (negs (m ((c : Thread nD τ).loc main_arg2))) slices_S12x4x3_S12x4x1_0_0_1) shapeCasts_S12x4x1_S12x4) (broadcastInDim S12x4 ![] bcast_S_S12x4 (constantI S_ 32 2#32))))
      (shapeCast S12x4 (extractStridedSlice S12x4x1 ![0, 0, 2] (negs (m ((c : Thread nD τ).loc main_arg2))) slices_S12x4x3_S12x4x1_0_0_2) shapeCasts_S12x4x1_S12x4) := by
    show StableHlo.after hostOps0 (fun b => m (c, b)) (Proc.devRef .tc main_v15) = _
    after_results
    rfl
  rw [e]
  funext y
  obtain ⟨a, b, rfl⟩ : ∃ (a : Fin 12) (b : Fin 4), y = ix2 a b := ⟨y 0, y 1, eq_ix2 y⟩
  show (shapeCast S12x4 (extractStridedSlice S12x4x1 ![0, 0, 0] (negs (m ((c : Thread nD τ).loc main_arg2))) slices_S12x4x3_S12x4x1_0_0_0) shapeCasts_S12x4x1_S12x4 (ix2 a b)) * 4#32
    + (shapeCast S12x4 (extractStridedSlice S12x4x1 ![0, 0, 1] (negs (m ((c : Thread nD τ).loc main_arg2))) slices_S12x4x3_S12x4x1_0_0_1) shapeCasts_S12x4x1_S12x4 (ix2 a b)) * 2#32
    + (shapeCast S12x4 (extractStridedSlice S12x4x1 ![0, 0, 2] (negs (m ((c : Thread nD τ).loc main_arg2))) slices_S12x4x3_S12x4x1_0_0_2) shapeCasts_S12x4x1_S12x4 (ix2 a b)) = _
  rw [drop0, drop1, drop2]
  rfl

theorem signs_le (c : Dev nD) (t : Fin cfg0.N) (j : S12x4.Idx) : BitVec.toNat (w := 32) (iblk m c 0 t j) ≤ 7 := by
  unfold iblk
  show BitVec.toNat (w := 32) (((cfg0.win 0).blk t).view.read (Elt F) (V m c main_v15 : IVec S12x4 32) j) ≤ 7
  rw [V_signs]
  exact signTab_le _ _

/-! ### The body's triple -/

theorem sound_kernel (c : Dev nD) (E : Set ℕ) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole)
    (x0 : Vec F S12x4 .i32) (hx0 : ∀ j, BitVec.toNat (w := 32) (x0 j) ≤ 7) (x1 : Vec F S256x256 .bf16) (x2 x3 : Vec F S32x24576 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ Pipeline.ΦA spec0 c
        ∗ (iprop(owns (c : Thread nD τ) arg1 fullShare x0 ∗ owns (c : Thread nD τ) arg2 fullShare x1 ∗ owns (c : Thread nD τ) arg3 fullShare x2 ∗ owns (c : Thread nD τ) arg4 fullShare x3
            ∗ owns (c : Thread nD τ) arg5 fullShare (codesVal x1 x0 hx0 x2 x3) ∗ owns (c : Thread nD τ) arg6 fullShare (scaleVal x1 x0 hx0 x2 x3) ∗ Pipeline.ΦA spec0 c) -∗ K ()))
      ⊢ wp frame (wpE (defs₀ (F := F)) Variants.none c none) E (cc0_swiglu_rotate_quantise i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold Pipeline.ΦA
  rw [scopedRest0_eq]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨⟨⟨%f6, H6⟩, ⟨%f7, H7⟩, ⟨%f8, H8⟩, ⟨%f9, H9⟩⟩, Hr⟩, Hk⟩
  subst hf0 hf1 hf2 hf3
  iapply (wp_wand_r Idealize.ShloMosaic.frame (wpE (defs₀ (F := F)) Variants.none (c : Thread nD τ) none) E)
  isplitl [H0 H1 H2 H3 H4 H5 H6 H7 H8 H9]
  · iapply ((Body.run (F := F) Variants.none c none i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _)
        f0 f1 f2 f3 f4 f5 f6 f7 f8 f9 hx0).2.2.2.2.2.2 E)
    unfold Body.Held
    isplitl [H0]; · iexact H0
    isplitl [H1]; · iexact H1
    isplitl [H2]; · iexact H2
    isplitl [H3]; · iexact H3
    isplitl [H4]; · iexact H4
    isplitl [H5]; · iexact H5
    simp only [Memref.view_whole, View.set_whole]
    isplitl [H6]; · iexact H6
    isplitl [H7]; · iexact H7
    isplitl [H8]; · iexact H8
    iexact H9
  iintro %_ ⟨H0, H1, H2, H3, H4, H5, H6, H7, H8, H9⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact Body.codes_read Variants.none c none i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 f9 hx0
  isplitl [H5]
  · iexists _; isplitr
    swap; · iexact H5
    ipureintro
    exact Body.scale_read Variants.none c none i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _) f0 f1 f2 f3 f4 f5 f6 f7 f8 f9 hx0
  simp only [Memref.view_whole, View.set_whole]
  isplitl [H6 H7 H8 H9]
  · isplitl [H6]; · iexists _; iexact H6
    isplitl [H7]; · iexists _; iexact H7
    isplitl [H8]; · iexists _; iexact H8
    iexists _; iexact H9
  iexact Hr

/-! ### The pipeline's proof data -/

/-- The codes and scales of point `t`'s tokens. -/
def outC (c : Dev nD) (t : Fin cfg0.N) : Vec F S32x24576 .i8 :=
  codesVal (iblk m c 1 t) (iblk m c 0 t) (signs_le m c t) (iblk m c 2 t) (iblk m c 3 t)
def outS (c : Dev nD) (t : Fin cfg0.N) : Vec F S32x128 .f32 :=
  scaleVal (iblk m c 1 t) (iblk m c 0 t) (signs_le m c t) (iblk m c 2 t) (iblk m c 3 t)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outC m c t
    | ⟨5, _⟩ => outS m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = outC m c t := by dsimp only [dats]
theorem after0_5 (c : Dev nD) (t : Fin cfg0.N) : (dats m 0 c).after 5 t = outS m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ### The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (signs_le m c t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HΦ]; · iexact HΦ
  iintro ⟨H0, H1, H2, H3, H4, H5, HΦ⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The run and the frame -/

set_option backward.isDefEq.respectTransparency.types false in
set_option maxHeartbeats 4000000 in
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- The three arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Proof.Run

end
-- ==== Proof.WordBuild.lean ====
/-
  ROTATION, step 1.
-/
module

public import proofs.«01_k».proof.Proof.Gen.Rotate.Loops
public import proofs.«01_k».proof.Proof.Gen.Rotate.Frame

@[expose] public section

set_option maxRecDepth 16384
set_option maxHeartbeats 4000000

noncomputable section

namespace Cert.Proof.Word.Build

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- Where trip `k` stores the sign pattern `s` of block `p`. -/
abbrev tOff (k : Fin k0_t1_loop.trips) (s p : ℕ) : Fin 6 → ℕ := ![k.val / 4, s, p, k.val / 2 % 2, 16 * (k.val % 2), 0]

instance (k : _) : ClosedOff (k0_off2 k) := ⟨![k.val / 4, 0, 0, k.val / 2 % 2, 16 * (k.val % 2), 0], by revert k; decide +kernel⟩
instance (k : _) : ClosedOff (k0_off3 k) := ⟨![k.val / 4, 7, 0, k.val / 2 % 2, 16 * (k.val % 2), 0], by revert k; decide +kernel⟩
instance (k : _) : ClosedOff (k0_off4 k) := ⟨![k.val / 4, 1, 0, k.val / 2 % 2, 16 * (k.val % 2), 0], by revert k; decide +kernel⟩
instance (k : _) : ClosedOff (k0_off5 k) := ⟨![k.val / 4, 6, 0, k.val / 2 % 2, 16 * (k.val % 2), 0], by revert k; decide +kernel⟩
instance (k : _) : ClosedOff (k0_off6 k) := ⟨![k.val / 4, 2, 0, k.val / 2 % 2, 16 * (k.val % 2), 0], by revert k; decide +kernel⟩
instance (k : _) : ClosedOff (k0_off7 k) := ⟨![k.val / 4, 5, 0, k.val / 2 % 2, 16 * (k.val % 2), 0], by revert k; decide +kernel⟩
instance (k : _) : ClosedOff (k0_off8 k) := ⟨![k.val / 4, 3, 0, k.val / 2 % 2, 16 * (k.val % 2), 0], by revert k; decide +kernel⟩
instance (k : _) : ClosedOff (k0_off9 k) := ⟨![k.val / 4, 4, 0, k.val / 2 % 2, 16 * (k.val % 2), 0], by revert k; decide +kernel⟩
instance (k : _) : ClosedOff (k0_off10 k) := ⟨![k.val / 4, 0, 1, k.val / 2 % 2, 16 * (k.val % 2), 0], by revert k; decide +kernel⟩
instance (k : _) : ClosedOff (k0_off11 k) := ⟨![k.val / 4, 7, 1, k.val / 2 % 2, 16 * (k.val % 2), 0], by revert k; decide +kernel⟩
instance (k : _) : ClosedOff (k0_off12 k) := ⟨![k.val / 4, 1, 1, k.val / 2 % 2, 16 * (k.val % 2), 0], by revert k; decide +kernel⟩
instance (k : _) : ClosedOff (k0_off13 k) := ⟨![k.val / 4, 6, 1, k.val / 2 % 2, 16 * (k.val % 2), 0], by revert k; decide +kernel⟩
instance (k : _) : ClosedOff (k0_off14 k) := ⟨![k.val / 4, 2, 1, k.val / 2 % 2, 16 * (k.val % 2), 0], by revert k; decide +kernel⟩
instance (k : _) : ClosedOff (k0_off15 k) := ⟨![k.val / 4, 5, 1, k.val / 2 % 2, 16 * (k.val % 2), 0], by revert k; decide +kernel⟩
instance (k : _) : ClosedOff (k0_off16 k) := ⟨![k.val / 4, 3, 1, k.val / 2 % 2, 16 * (k.val % 2), 0], by revert k; decide +kernel⟩
instance (k : _) : ClosedOff (k0_off17 k) := ⟨![k.val / 4, 4, 1, k.val / 2 % 2, 16 * (k.val % 2), 0], by revert k; decide +kernel⟩
instance (k : _) : ClosedOff (k0_off18 k) := ⟨![k.val / 4, 0, 2, k.val / 2 % 2, 16 * (k.val % 2), 0], by revert k; decide +kernel⟩
instance (k : _) : ClosedOff (k0_off19 k) := ⟨![k.val / 4, 7, 2, k.val / 2 % 2, 16 * (k.val % 2), 0], by revert k; decide +kernel⟩
instance (k : _) : ClosedOff (k0_off20 k) := ⟨![k.val / 4, 1, 2, k.val / 2 % 2, 16 * (k.val % 2), 0], by revert k; decide +kernel⟩
instance (k : _) : ClosedOff (k0_off21 k) := ⟨![k.val / 4, 6, 2, k.val / 2 % 2, 16 * (k.val % 2), 0], by revert k; decide +kernel⟩
instance (k : _) : ClosedOff (k0_off22 k) := ⟨![k.val / 4, 2, 2, k.val / 2 % 2, 16 * (k.val % 2), 0], by revert k; decide +kernel⟩
instance (k : _) : ClosedOff (k0_off23 k) := ⟨![k.val / 4, 5, 2, k.val / 2 % 2, 16 * (k.val % 2), 0], by revert k; decide +kernel⟩
instance (k : _) : ClosedOff (k0_off24 k) := ⟨![k.val / 4, 3, 2, k.val / 2 % 2, 16 * (k.val % 2), 0], by revert k; decide +kernel⟩
instance (k : _) : ClosedOff (k0_off25 k) := ⟨![k.val / 4, 4, 2, k.val / 2 % 2, 16 * (k.val % 2), 0], by revert k; decide +kernel⟩
instance (k : _) : ClosedOff (k0_off26 k) := ⟨![k.val / 4, 0, 3, k.val / 2 % 2, 16 * (k.val % 2), 0], by revert k; decide +kernel⟩
instance (k : _) : ClosedOff (k0_off27 k) := ⟨![k.val / 4, 7, 3, k.val / 2 % 2, 16 * (k.val % 2), 0], by revert k; decide +kernel⟩
instance (k : _) : ClosedOff (k0_off28 k) := ⟨![k.val / 4, 1, 3, k.val / 2 % 2, 16 * (k.val % 2), 0], by revert k; decide +kernel⟩
instance (k : _) : ClosedOff (k0_off29 k) := ⟨![k.val / 4, 6, 3, k.val / 2 % 2, 16 * (k.val % 2), 0], by revert k; decide +kernel⟩
instance (k : _) : ClosedOff (k0_off30 k) := ⟨![k.val / 4, 2, 3, k.val / 2 % 2, 16 * (k.val % 2), 0], by revert k; decide +kernel⟩
instance (k : _) : ClosedOff (k0_off31 k) := ⟨![k.val / 4, 5, 3, k.val / 2 % 2, 16 * (k.val % 2), 0], by revert k; decide +kernel⟩
instance (k : _) : ClosedOff (k0_off32 k) := ⟨![k.val / 4, 3, 3, k.val / 2 % 2, 16 * (k.val % 2), 0], by revert k; decide +kernel⟩
instance (k : _) : ClosedOff (k0_off33 k) := ⟨![k.val / 4, 4, 3, k.val / 2 % 2, 16 * (k.val % 2), 0], by revert k; decide +kernel⟩
instance (k : _) : ClosedOff (k0_off34 k) := ⟨![k.val / 4, 0, 4, k.val / 2 % 2, 16 * (k.val % 2), 0], by revert k; decide +kernel⟩
instance (k : _) : ClosedOff (k0_off35 k) := ⟨![k.val / 4, 7, 4, k.val / 2 % 2, 16 * (k.val % 2), 0], by revert k; decide +kernel⟩
instance (k : _) : ClosedOff (k0_off36 k) := ⟨![k.val / 4, 1, 4, k.val / 2 % 2, 16 * (k.val % 2), 0], by revert k; decide +kernel⟩
instance (k : _) : ClosedOff (k0_off37 k) := ⟨![k.val / 4, 6, 4, k.val / 2 % 2, 16 * (k.val % 2), 0], by revert k; decide +kernel⟩
instance (k : _) : ClosedOff (k0_off38 k) := ⟨![k.val / 4, 2, 4, k.val / 2 % 2, 16 * (k.val % 2), 0], by revert k; decide +kernel⟩
instance (k : _) : ClosedOff (k0_off39 k) := ⟨![k.val / 4, 5, 4, k.val / 2 % 2, 16 * (k.val % 2), 0], by revert k; decide +kernel⟩
instance (k : _) : ClosedOff (k0_off40 k) := ⟨![k.val / 4, 3, 4, k.val / 2 % 2, 16 * (k.val % 2), 0], by revert k; decide +kernel⟩
instance (k : _) : ClosedOff (k0_off41 k) := ⟨![k.val / 4, 4, 4, k.val / 2 % 2, 16 * (k.val % 2), 0], by revert k; decide +kernel⟩
instance (k : _) : ClosedOff (k0_off42 k) := ⟨![k.val / 4, 0, 5, k.val / 2 % 2, 16 * (k.val % 2), 0], by revert k; decide +kernel⟩
instance (k : _) : ClosedOff (k0_off43 k) := ⟨![k.val / 4, 7, 5, k.val / 2 % 2, 16 * (k.val % 2), 0], by revert k; decide +kernel⟩
instance (k : _) : ClosedOff (k0_off44 k) := ⟨![k.val / 4, 1, 5, k.val / 2 % 2, 16 * (k.val % 2), 0], by revert k; decide +kernel⟩
instance (k : _) : ClosedOff (k0_off45 k) := ⟨![k.val / 4, 6, 5, k.val / 2 % 2, 16 * (k.val % 2), 0], by revert k; decide +kernel⟩
instance (k : _) : ClosedOff (k0_off46 k) := ⟨![k.val / 4, 2, 5, k.val / 2 % 2, 16 * (k.val % 2), 0], by revert k; decide +kernel⟩
instance (k : _) : ClosedOff (k0_off47 k) := ⟨![k.val / 4, 5, 5, k.val / 2 % 2, 16 * (k.val % 2), 0], by revert k; decide +kernel⟩
instance (k : _) : ClosedOff (k0_off48 k) := ⟨![k.val / 4, 3, 5, k.val / 2 % 2, 16 * (k.val % 2), 0], by revert k; decide +kernel⟩
instance (k : _) : ClosedOff (k0_off49 k) := ⟨![k.val / 4, 4, 5, k.val / 2 % 2, 16 * (k.val % 2), 0], by revert k; decide +kernel⟩
instance (k : _) : ClosedOff (k0_off50 k) := ⟨![k.val / 4, 0, 6, k.val / 2 % 2, 16 * (k.val % 2), 0], by revert k; decide +kernel⟩
instance (k : _) : ClosedOff (k0_off51 k) := ⟨![k.val / 4, 7, 6, k.val / 2 % 2, 16 * (k.val % 2), 0], by revert k; decide +kernel⟩
instance (k : _) : ClosedOff (k0_off52 k) := ⟨![k.val / 4, 1, 6, k.val / 2 % 2, 16 * (k.val % 2), 0], by revert k; decide +kernel⟩
instance (k : _) : ClosedOff (k0_off53 k) := ⟨![k.val / 4, 6, 6, k.val / 2 % 2, 16 * (k.val % 2), 0], by revert k; decide +kernel⟩
instance (k : _) : ClosedOff (k0_off54 k) := ⟨![k.val / 4, 2, 6, k.val / 2 % 2, 16 * (k.val % 2), 0], by revert k; decide +kernel⟩
instance (k : _) : ClosedOff (k0_off55 k) := ⟨![k.val / 4, 5, 6, k.val / 2 % 2, 16 * (k.val % 2), 0], by revert k; decide +kernel⟩
instance (k : _) : ClosedOff (k0_off56 k) := ⟨![k.val / 4, 3, 6, k.val / 2 % 2, 16 * (k.val % 2), 0], by revert k; decide +kernel⟩
instance (k : _) : ClosedOff (k0_off57 k) := ⟨![k.val / 4, 4, 6, k.val / 2 % 2, 16 * (k.val % 2), 0], by revert k; decide +kernel⟩
instance (k : _) : ClosedOff (k0_off58 k) := ⟨![k.val / 4, 0, 7, k.val / 2 % 2, 16 * (k.val % 2), 0], by revert k; decide +kernel⟩
instance (k : _) : ClosedOff (k0_off59 k) := ⟨![k.val / 4, 7, 7, k.val / 2 % 2, 16 * (k.val % 2), 0], by revert k; decide +kernel⟩
instance (k : _) : ClosedOff (k0_off60 k) := ⟨![k.val / 4, 1, 7, k.val / 2 % 2, 16 * (k.val % 2), 0], by revert k; decide +kernel⟩
instance (k : _) : ClosedOff (k0_off61 k) := ⟨![k.val / 4, 6, 7, k.val / 2 % 2, 16 * (k.val % 2), 0], by revert k; decide +kernel⟩
instance (k : _) : ClosedOff (k0_off62 k) := ⟨![k.val / 4, 2, 7, k.val / 2 % 2, 16 * (k.val % 2), 0], by revert k; decide +kernel⟩
instance (k : _) : ClosedOff (k0_off63 k) := ⟨![k.val / 4, 5, 7, k.val / 2 % 2, 16 * (k.val % 2), 0], by revert k; decide +kernel⟩
instance (k : _) : ClosedOff (k0_off64 k) := ⟨![k.val / 4, 3, 7, k.val / 2 % 2, 16 * (k.val % 2), 0], by revert k; decide +kernel⟩
instance (k : _) : ClosedOff (k0_off65 k) := ⟨![k.val / 4, 4, 7, k.val / 2 % 2, 16 * (k.val % 2), 0], by revert k; decide +kernel⟩

abbrev Trip (c : Dev nD) (arg3 arg4 : Memref sig .tc .vmem S32x24576 .bf16) (arg7 : Memref sig .tc .vmem S4x8x8x2x32x128 .f32)
    (g : BufTy.Contents (Elt F) arg3.view.ty) (u : BufTy.Contents (Elt F) arg4.view.ty) (t : BufTy.Contents (Elt F) arg7.view.ty) : sProp (MT nD τ sig Unit (Elt F) ℕ (UR sig nD τ) ℕ) :=
  iprop((arg3.view.loc (c : Thread nD τ) ↦[arg3.view.set]{fullShare} g) ∗ (arg4.view.loc (c : Thread nD τ) ↦[arg4.view.set]{fullShare} u)
    ∗ (arg7.view.loc (c : Thread nD τ) ↦[arg7.view.set]{fullShare} t))

set_option sl_exec.closedPieces true in
@[irreducible] def trip (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (k : Fin k0_t1_loop.trips) :
    { L : List (View.Piece (Elt F) S4x8x8x2x32x128 .f32) // ∀ (E : Set ℕ) (t : BufTy.Contents (Elt F) arg7.view.ty),
      Trip (F := F) c arg3 arg4 arg7 g u t
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 k PUnit.unit)
          (fun _ => Trip (F := F) c arg3 arg4 arg7 g u (arg7.view.writes (Elt F) t L)) } := by
  have hk : k.val < 16 := Nat.lt_of_lt_of_le k.isLt k0_t1_abs.2.1
  refine ⟨?_, fun E t => ?run⟩
  case run =>
    unfold k0_t1_body
    iintro ⟨HG, HU, HT⟩
    sl_exec
    sl_step
    sl_close

end Cert.Proof.Word.Build

end
-- ==== Proof.WordTable.lean ====
module

public import proofs.«01_k».proof.Proof.WordBuild

@[expose] public section
set_option maxRecDepth 16384
set_option maxHeartbeats 40000000
noncomputable section
namespace Cert.Proof.Word.Build

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The pieces of the trips before `k`, the last first. -/
def pb (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) : ℕ → List (View.Piece (Elt F) S4x8x8x2x32x128 .f32)
  | 0 => []
  | k + 1 => if h : k < k0_t1_loop.trips then
      (trip 𝒱 c bd i arg1 harg1 arg2 harg2 arg3 harg3 arg4 harg4 arg5 harg5 arg6 harg6 arg7 harg7 arg8 harg8 arg9 harg9 arg10 harg10 g u ⟨k, h⟩).1 ++ pb 𝒱 c bd i arg1 harg1 arg2 harg2 arg3 harg3 arg4 harg4 arg5 harg5 arg6 harg6 arg7 harg7 arg8 harg8 arg9 harg9 arg10 harg10 g u k
    else pb 𝒱 c bd i arg1 harg1 arg2 harg2 arg3 harg3 arg4 harg4 arg5 harg5 arg6 harg6 arg7 harg7 arg8 harg8 arg9 harg9 arg10 harg10 g u k

theorem pb_succ (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (k : Fin k0_t1_loop.trips) :
    pb 𝒱 c bd i arg1 harg1 arg2 harg2 arg3 harg3 arg4 harg4 arg5 harg5 arg6 harg6 arg7 harg7 arg8 harg8 arg9 harg9 arg10 harg10 g u (k.val + 1) = (trip 𝒱 c bd i arg1 harg1 arg2 harg2 arg3 harg3 arg4 harg4 arg5 harg5 arg6 harg6 arg7 harg7 arg8 harg8 arg9 harg9 arg10 harg10 g u k).1 ++ pb 𝒱 c bd i arg1 harg1 arg2 harg2 arg3 harg3 arg4 harg4 arg5 harg5 arg6 harg6 arg7 harg7 arg8 harg8 arg9 harg9 arg10 harg10 g u k.val := by
  rw [pb.eq_2]; exact dif_pos k.isLt

/-- The loop's invariant: the pieces of the trips before, over the contents at entry. -/
abbrev inv (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (G : BufTy.Contents (Elt F) arg7.view.ty) (k : ℕ) (_u : PUnit) : sProp (MT nD τ sig Unit (Elt F) ℕ (UR sig nD τ) ℕ) :=
  iprop((arg3.view.loc (c : Thread nD τ) ↦[arg3.view.set]{fullShare} g) ∗ (arg4.view.loc (c : Thread nD τ) ↦[arg4.view.set]{fullShare} u)
    ∗ (∃ f, (arg7.view.loc (c : Thread nD τ) ↦[arg7.view.set]{fullShare} f) ∗ ⌜f = arg7.view.writes (Elt F) G (pb 𝒱 c bd i arg1 harg1 arg2 harg2 arg3 harg3 arg4 harg4 arg5 harg5 arg6 harg6 arg7 harg7 arg8 harg8 arg9 harg9 arg10 harg10 g u k)⌝))

set_option warn.classDefReducibility false in
@[sl_loop] def loopInv_k0_t1 (𝒱 : Variants) (c : Dev nD) (bd : Option 𝒱.V) (E : Set ℕ) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (g : BufTy.Contents (Elt F) arg3.view.ty) (u : BufTy.Contents (Elt F) arg4.view.ty) (G : BufTy.Contents (Elt F) arg7.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 arg10 harg10 where
  inv := inv 𝒱 c bd i arg1 harg1 arg2 harg2 arg3 harg3 arg4 harg4 arg5 harg5 arg6 harg6 arg7 harg7 arg8 harg8 arg9 harg9 arg10 harg10 g u G
  step k acc := by
    iintro ⟨HG, HU, ⟨%f, HT, %h⟩⟩
    iapply (wp_wand_r Idealize.ShloMosaic.frame (wpE (defs₀ (F := F)) 𝒱 (c : Thread nD τ) bd) E)
    isplitl [HG HU HT]
    · iapply ((trip (F := F) 𝒱 c bd i arg1 harg1 arg2 harg2 arg3 harg3 arg4 harg4 arg5 harg5 arg6 harg6 arg7 harg7 arg8 harg8 arg9 harg9 arg10 harg10 g u k).2 E f)
      isplitl [HG]; · iexact HG
      isplitl [HU]; · iexact HU
      iexact HT
    · iintro %_ ⟨HG, HU, HT⟩
      isplitl [HG]; · iexact HG
      isplitl [HU]; · iexact HU
      rw [pb_succ]
      iexists _; isplitl [HT]; · iexact HT
      ipureintro; rw [h, ← View.writes_append]

end Cert.Proof.Word.Build

end
-- ==== Proof.WordStep.lean ====
/-
  ROTATION, step 2.
-/
module

public import proofs.«01_k».proof.Proof.Gen.Rotate.Loops
public import proofs.«01_k».proof.Proof.Gen.Rotate.Frame

@[expose] public section

set_option maxRecDepth 16384
set_option maxHeartbeats 40000000

noncomputable section

namespace Cert.Proof.Word.Step

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

theorem chk_at (v : BitVec 32) (hv : v.toNat ≤ 7) (g p c r : ℕ) (hg : g + 1 ≤ 4) (hp : p + 1 ≤ 8) (hc : c + 1 ≤ 2) (hr : r + 16 ≤ 32) :
    ∀ a, (![g, v.toNat, p, c, r, 0] : Fin 6 → ℕ) a + S1x1x1x1x16x128.size a ≤ S4x8x8x2x32x128.size a := by
  intro a
  fin_cases a
  · exact hg
  · show v.toNat + 1 ≤ 8
    omega
  · exact hp
  · exact hc
  · exact hr
  · exact Nat.le_refl _

instance (k : _) : ClosedOff (k0_off258 k) := ⟨![(k.val + 1) % 2, 0, 0, 0], by revert k; decide +kernel⟩
instance (k : _) : ClosedOff (k0_off259 k) := ⟨![(k.val + 1) % 2, 1, 0, 0], by revert k; decide +kernel⟩
instance (k : _) : ClosedOff (k0_off260 k) := ⟨![(k.val + 1) % 2, 2, 0, 0], by revert k; decide +kernel⟩
instance (k : _) : ClosedOff (k0_off261 k) := ⟨![(k.val + 1) % 2, 0, 32, 0], by revert k; decide +kernel⟩
instance (k : _) : ClosedOff (k0_off262 k) := ⟨![(k.val + 1) % 2, 1, 32, 0], by revert k; decide +kernel⟩
instance (k : _) : ClosedOff (k0_off263 k) := ⟨![(k.val + 1) % 2, 2, 32, 0], by revert k; decide +kernel⟩
instance (k : _) : ClosedOff (k0_off264 k) := ⟨![(k.val + 1) % 2, 0, 64, 0], by revert k; decide +kernel⟩
instance (k : _) : ClosedOff (k0_off265 k) := ⟨![(k.val + 1) % 2, 1, 64, 0], by revert k; decide +kernel⟩
instance (k : _) : ClosedOff (k0_off266 k) := ⟨![(k.val + 1) % 2, 2, 64, 0], by revert k; decide +kernel⟩
instance (k : _) : ClosedOff (k0_off267 k) := ⟨![(k.val + 1) % 2, 0, 96, 0], by revert k; decide +kernel⟩
instance (k : _) : ClosedOff (k0_off268 k) := ⟨![(k.val + 1) % 2, 1, 96, 0], by revert k; decide +kernel⟩
instance (k : _) : ClosedOff (k0_off269 k) := ⟨![(k.val + 1) % 2, 2, 96, 0], by revert k; decide +kernel⟩
instance (k : _) : ClosedOff (k0_off270 k) := ⟨![(k.val + 1) % 2, 0, 128, 0], by revert k; decide +kernel⟩
instance (k : _) : ClosedOff (k0_off271 k) := ⟨![(k.val + 1) % 2, 1, 128, 0], by revert k; decide +kernel⟩
instance (k : _) : ClosedOff (k0_off272 k) := ⟨![(k.val + 1) % 2, 2, 128, 0], by revert k; decide +kernel⟩
instance (k : _) : ClosedOff (k0_off273 k) := ⟨![(k.val + 1) % 2, 0, 160, 0], by revert k; decide +kernel⟩
instance (k : _) : ClosedOff (k0_off274 k) := ⟨![(k.val + 1) % 2, 1, 160, 0], by revert k; decide +kernel⟩
instance (k : _) : ClosedOff (k0_off275 k) := ⟨![(k.val + 1) % 2, 2, 160, 0], by revert k; decide +kernel⟩
instance (k : _) : ClosedOff (k0_off276 k) := ⟨![(k.val + 1) % 2, 0, 192, 0], by revert k; decide +kernel⟩
instance (k : _) : ClosedOff (k0_off277 k) := ⟨![(k.val + 1) % 2, 1, 192, 0], by revert k; decide +kernel⟩
instance (k : _) : ClosedOff (k0_off278 k) := ⟨![(k.val + 1) % 2, 2, 192, 0], by revert k; decide +kernel⟩
instance (k : _) : ClosedOff (k0_off279 k) := ⟨![(k.val + 1) % 2, 0, 224, 0], by revert k; decide +kernel⟩
instance (k : _) : ClosedOff (k0_off280 k) := ⟨![(k.val + 1) % 2, 1, 224, 0], by revert k; decide +kernel⟩
instance (k : _) : ClosedOff (k0_off281 k) := ⟨![(k.val + 1) % 2, 2, 224, 0], by revert k; decide +kernel⟩
instance (k : _) : ClosedOff (k0_off346 k) := ⟨![(k.val + 1) % 2, 0, 16, 0], by revert k; decide +kernel⟩
instance (k : _) : ClosedOff (k0_off347 k) := ⟨![(k.val + 1) % 2, 1, 16, 0], by revert k; decide +kernel⟩
instance (k : _) : ClosedOff (k0_off348 k) := ⟨![(k.val + 1) % 2, 2, 16, 0], by revert k; decide +kernel⟩
instance (k : _) : ClosedOff (k0_off349 k) := ⟨![(k.val + 1) % 2, 0, 48, 0], by revert k; decide +kernel⟩
instance (k : _) : ClosedOff (k0_off350 k) := ⟨![(k.val + 1) % 2, 1, 48, 0], by revert k; decide +kernel⟩
instance (k : _) : ClosedOff (k0_off351 k) := ⟨![(k.val + 1) % 2, 2, 48, 0], by revert k; decide +kernel⟩
instance (k : _) : ClosedOff (k0_off352 k) := ⟨![(k.val + 1) % 2, 0, 80, 0], by revert k; decide +kernel⟩
instance (k : _) : ClosedOff (k0_off353 k) := ⟨![(k.val + 1) % 2, 1, 80, 0], by revert k; decide +kernel⟩
instance (k : _) : ClosedOff (k0_off354 k) := ⟨![(k.val + 1) % 2, 2, 80, 0], by revert k; decide +kernel⟩
instance (k : _) : ClosedOff (k0_off355 k) := ⟨![(k.val + 1) % 2, 0, 112, 0], by revert k; decide +kernel⟩
instance (k : _) : ClosedOff (k0_off356 k) := ⟨![(k.val + 1) % 2, 1, 112, 0], by revert k; decide +kernel⟩
instance (k : _) : ClosedOff (k0_off357 k) := ⟨![(k.val + 1) % 2, 2, 112, 0], by revert k; decide +kernel⟩
instance (k : _) : ClosedOff (k0_off358 k) := ⟨![(k.val + 1) % 2, 0, 144, 0], by revert k; decide +kernel⟩
instance (k : _) : ClosedOff (k0_off359 k) := ⟨![(k.val + 1) % 2, 1, 144, 0], by revert k; decide +kernel⟩
instance (k : _) : ClosedOff (k0_off360 k) := ⟨![(k.val + 1) % 2, 2, 144, 0], by revert k; decide +kernel⟩
instance (k : _) : ClosedOff (k0_off361 k) := ⟨![(k.val + 1) % 2, 0, 176, 0], by revert k; decide +kernel⟩
instance (k : _) : ClosedOff (k0_off362 k) := ⟨![(k.val + 1) % 2, 1, 176, 0], by revert k; decide +kernel⟩
instance (k : _) : ClosedOff (k0_off363 k) := ⟨![(k.val + 1) % 2, 2, 176, 0], by revert k; decide +kernel⟩
instance (k : _) : ClosedOff (k0_off364 k) := ⟨![(k.val + 1) % 2, 0, 208, 0], by revert k; decide +kernel⟩
instance (k : _) : ClosedOff (k0_off365 k) := ⟨![(k.val + 1) % 2, 1, 208, 0], by revert k; decide +kernel⟩
instance (k : _) : ClosedOff (k0_off366 k) := ⟨![(k.val + 1) % 2, 2, 208, 0], by revert k; decide +kernel⟩
instance (k : _) : ClosedOff (k0_off367 k) := ⟨![(k.val + 1) % 2, 0, 240, 0], by revert k; decide +kernel⟩
instance (k : _) : ClosedOff (k0_off368 k) := ⟨![(k.val + 1) % 2, 1, 240, 0], by revert k; decide +kernel⟩
instance (k : _) : ClosedOff (k0_off369 k) := ⟨![(k.val + 1) % 2, 2, 240, 0], by revert k; decide +kernel⟩
instance (k : _) : ClosedOff (k0_off434 k) := ⟨![(k.val + 1) % 2, 0, 0, 128], by revert k; decide +kernel⟩
instance (k : _) : ClosedOff (k0_off435 k) := ⟨![(k.val + 1) % 2, 1, 0, 128], by revert k; decide +kernel⟩
instance (k : _) : ClosedOff (k0_off436 k) := ⟨![(k.val + 1) % 2, 2, 0, 128], by revert k; decide +kernel⟩
instance (k : _) : ClosedOff (k0_off437 k) := ⟨![(k.val + 1) % 2, 0, 32, 128], by revert k; decide +kernel⟩
instance (k : _) : ClosedOff (k0_off438 k) := ⟨![(k.val + 1) % 2, 1, 32, 128], by revert k; decide +kernel⟩
instance (k : _) : ClosedOff (k0_off439 k) := ⟨![(k.val + 1) % 2, 2, 32, 128], by revert k; decide +kernel⟩
instance (k : _) : ClosedOff (k0_off440 k) := ⟨![(k.val + 1) % 2, 0, 64, 128], by revert k; decide +kernel⟩
instance (k : _) : ClosedOff (k0_off441 k) := ⟨![(k.val + 1) % 2, 1, 64, 128], by revert k; decide +kernel⟩
instance (k : _) : ClosedOff (k0_off442 k) := ⟨![(k.val + 1) % 2, 2, 64, 128], by revert k; decide +kernel⟩
instance (k : _) : ClosedOff (k0_off443 k) := ⟨![(k.val + 1) % 2, 0, 96, 128], by revert k; decide +kernel⟩
instance (k : _) : ClosedOff (k0_off444 k) := ⟨![(k.val + 1) % 2, 1, 96, 128], by revert k; decide +kernel⟩
instance (k : _) : ClosedOff (k0_off445 k) := ⟨![(k.val + 1) % 2, 2, 96, 128], by revert k; decide +kernel⟩
instance (k : _) : ClosedOff (k0_off446 k) := ⟨![(k.val + 1) % 2, 0, 128, 128], by revert k; decide +kernel⟩
instance (k : _) : ClosedOff (k0_off447 k) := ⟨![(k.val + 1) % 2, 1, 128, 128], by revert k; decide +kernel⟩
instance (k : _) : ClosedOff (k0_off448 k) := ⟨![(k.val + 1) % 2, 2, 128, 128], by revert k; decide +kernel⟩
instance (k : _) : ClosedOff (k0_off449 k) := ⟨![(k.val + 1) % 2, 0, 160, 128], by revert k; decide +kernel⟩
instance (k : _) : ClosedOff (k0_off450 k) := ⟨![(k.val + 1) % 2, 1, 160, 128], by revert k; decide +kernel⟩
instance (k : _) : ClosedOff (k0_off451 k) := ⟨![(k.val + 1) % 2, 2, 160, 128], by revert k; decide +kernel⟩
instance (k : _) : ClosedOff (k0_off452 k) := ⟨![(k.val + 1) % 2, 0, 192, 128], by revert k; decide +kernel⟩
instance (k : _) : ClosedOff (k0_off453 k) := ⟨![(k.val + 1) % 2, 1, 192, 128], by revert k; decide +kernel⟩
instance (k : _) : ClosedOff (k0_off454 k) := ⟨![(k.val + 1) % 2, 2, 192, 128], by revert k; decide +kernel⟩
instance (k : _) : ClosedOff (k0_off455 k) := ⟨![(k.val + 1) % 2, 0, 224, 128], by revert k; decide +kernel⟩
instance (k : _) : ClosedOff (k0_off456 k) := ⟨![(k.val + 1) % 2, 1, 224, 128], by revert k; decide +kernel⟩
instance (k : _) : ClosedOff (k0_off457 k) := ⟨![(k.val + 1) % 2, 2, 224, 128], by revert k; decide +kernel⟩
instance (k : _) : ClosedOff (k0_off522 k) := ⟨![(k.val + 1) % 2, 0, 16, 128], by revert k; decide +kernel⟩
instance (k : _) : ClosedOff (k0_off523 k) := ⟨![(k.val + 1) % 2, 1, 16, 128], by revert k; decide +kernel⟩
instance (k : _) : ClosedOff (k0_off524 k) := ⟨![(k.val + 1) % 2, 2, 16, 128], by revert k; decide +kernel⟩
instance (k : _) : ClosedOff (k0_off525 k) := ⟨![(k.val + 1) % 2, 0, 48, 128], by revert k; decide +kernel⟩
instance (k : _) : ClosedOff (k0_off526 k) := ⟨![(k.val + 1) % 2, 1, 48, 128], by revert k; decide +kernel⟩
instance (k : _) : ClosedOff (k0_off527 k) := ⟨![(k.val + 1) % 2, 2, 48, 128], by revert k; decide +kernel⟩
instance (k : _) : ClosedOff (k0_off528 k) := ⟨![(k.val + 1) % 2, 0, 80, 128], by revert k; decide +kernel⟩
instance (k : _) : ClosedOff (k0_off529 k) := ⟨![(k.val + 1) % 2, 1, 80, 128], by revert k; decide +kernel⟩
instance (k : _) : ClosedOff (k0_off530 k) := ⟨![(k.val + 1) % 2, 2, 80, 128], by revert k; decide +kernel⟩
instance (k : _) : ClosedOff (k0_off531 k) := ⟨![(k.val + 1) % 2, 0, 112, 128], by revert k; decide +kernel⟩
instance (k : _) : ClosedOff (k0_off532 k) := ⟨![(k.val + 1) % 2, 1, 112, 128], by revert k; decide +kernel⟩
instance (k : _) : ClosedOff (k0_off533 k) := ⟨![(k.val + 1) % 2, 2, 112, 128], by revert k; decide +kernel⟩
instance (k : _) : ClosedOff (k0_off534 k) := ⟨![(k.val + 1) % 2, 0, 144, 128], by revert k; decide +kernel⟩
instance (k : _) : ClosedOff (k0_off535 k) := ⟨![(k.val + 1) % 2, 1, 144, 128], by revert k; decide +kernel⟩
instance (k : _) : ClosedOff (k0_off536 k) := ⟨![(k.val + 1) % 2, 2, 144, 128], by revert k; decide +kernel⟩
instance (k : _) : ClosedOff (k0_off537 k) := ⟨![(k.val + 1) % 2, 0, 176, 128], by revert k; decide +kernel⟩
instance (k : _) : ClosedOff (k0_off538 k) := ⟨![(k.val + 1) % 2, 1, 176, 128], by revert k; decide +kernel⟩
instance (k : _) : ClosedOff (k0_off539 k) := ⟨![(k.val + 1) % 2, 2, 176, 128], by revert k; decide +kernel⟩
instance (k : _) : ClosedOff (k0_off540 k) := ⟨![(k.val + 1) % 2, 0, 208, 128], by revert k; decide +kernel⟩
instance (k : _) : ClosedOff (k0_off541 k) := ⟨![(k.val + 1) % 2, 1, 208, 128], by revert k; decide +kernel⟩
instance (k : _) : ClosedOff (k0_off542 k) := ⟨![(k.val + 1) % 2, 2, 208, 128], by revert k; decide +kernel⟩
instance (k : _) : ClosedOff (k0_off543 k) := ⟨![(k.val + 1) % 2, 0, 240, 128], by revert k; decide +kernel⟩
instance (k : _) : ClosedOff (k0_off544 k) := ⟨![(k.val + 1) % 2, 1, 240, 128], by revert k; decide +kernel⟩
instance (k : _) : ClosedOff (k0_off545 k) := ⟨![(k.val + 1) % 2, 2, 240, 128], by revert k; decide +kernel⟩
instance (k : _) : ClosedOff (k0_off546 k) := ⟨![k.val % 2, 0, 0, 0], by revert k; decide +kernel⟩
instance (k : _) : ClosedOff (k0_off547 k) := ⟨![k.val % 2, 1, 0, 0], by revert k; decide +kernel⟩
instance (k : _) : ClosedOff (k0_off548 k) := ⟨![k.val % 2, 2, 0, 0], by revert k; decide +kernel⟩
instance (k : _) : ClosedOff (k0_off549 k) := ⟨![k.val, 0, 0], by revert k; decide +kernel⟩

abbrev Trip (c : Dev nD) (arg1 : Memref sig .tc .smem S12x4 .i32) (arg2 : Memref sig .tc .vmem S256x256 .bf16) (arg7 : Memref sig .tc .vmem S4x8x8x2x32x128 .f32)
    (arg8 : Memref sig .tc .vmem S2x3x256x256 .bf16) (arg9 : Memref sig .tc .vmem S12x256x256 .f32) (arg10 : Memref sig .tc .vmem S32x256 .f32)
    (s : BufTy.Contents (Elt F) arg1.view.ty) (w : BufTy.Contents (Elt F) arg2.view.ty) (t : BufTy.Contents (Elt F) arg7.view.ty)
    (x : BufTy.Contents (Elt F) arg8.view.ty) (r : BufTy.Contents (Elt F) arg9.view.ty) (m : BufTy.Contents (Elt F) arg10.view.ty) : sProp (MT nD τ sig Unit (Elt F) ℕ (UR sig nD τ) ℕ) :=
  iprop((arg1.view.loc (c : Thread nD τ) ↦[arg1.view.set]{fullShare} s) ∗ (arg2.view.loc (c : Thread nD τ) ↦[arg2.view.set]{fullShare} w)
    ∗ (arg7.view.loc (c : Thread nD τ) ↦[arg7.view.set]{fullShare} t) ∗ (arg8.view.loc (c : Thread nD τ) ↦[arg8.view.set]{fullShare} x)
    ∗ (arg9.view.loc (c : Thread nD τ) ↦[arg9.view.set]{fullShare} r) ∗ (arg10.view.loc (c : Thread nD τ) ↦[arg10.view.set]{fullShare} m))

set_option sl_exec.closedPieces true in
@[irreducible] def trip (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1380 : FVec F S16x128 .bf16) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (x : BufTy.Contents (Elt F) arg8.view.ty) (r : BufTy.Contents (Elt F) arg9.view.ty) (m : BufTy.Contents (Elt F) arg10.view.ty) (k : Fin k0_t2_loop.trips) :
    Σ' (LX : List (View.Piece (Elt F) S2x3x256x256 .bf16)) (LR : List (View.Piece (Elt F) S12x256x256 .f32)), { LM : List (View.Piece (Elt F) S32x256 .f32) // ∀ (E : Set ℕ),
      Trip (F := F) c arg1 arg2 arg7 arg8 arg9 arg10 s w t x r m
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 v1236 v1380 v1381 k PUnit.unit)
          (fun _ => Trip (F := F) c arg1 arg2 arg7 arg8 arg9 arg10 s w t (arg8.view.writes (Elt F) x LX) (arg9.view.writes (Elt F) r LR) (arg10.view.writes (Elt F) m LM)) } := by
  have hk : k.val < 11 := Nat.lt_of_lt_of_le k.isLt k0_t2_abs.2.1
  refine ⟨?_, ?_, ?_, fun E => ?run⟩
  case run =>
    unfold k0_t2_body
    iintro ⟨HS, HW, HT, HX, HR, HM⟩
    sl_exec (disch := exact chk_at _ (hs _) _ _ _ _ (by decide) (by decide) (by decide) (by decide))
    sl_step
    sl_close

end Cert.Proof.Word.Step

end
-- ==== Proof.WordLoop.lean ====
module

public import proofs.«01_k».proof.Proof.WordStep
public import Idealize.ShloMosaic.Lib.Pointwise

@[expose] public section
set_option maxRecDepth 16384
set_option maxHeartbeats 40000000
noncomputable section
namespace Cert.Proof.Word.Step

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- What the trips before `k` have stored into the narrow parts, the rotated tokens and the running maximum, the last first. -/
def pb (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1380 : FVec F S16x128 .bf16) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (X : BufTy.Contents (Elt F) arg8.view.ty) (R : BufTy.Contents (Elt F) arg9.view.ty) (M : BufTy.Contents (Elt F) arg10.view.ty) : ℕ →
    List (View.Piece (Elt F) S2x3x256x256 .bf16) × List (View.Piece (Elt F) S12x256x256 .f32) × List (View.Piece (Elt F) S32x256 .f32)
  | 0 => ([], [], [])
  | k + 1 =>
    let p := pb 𝒱 c bd i arg1 harg1 arg2 harg2 arg3 harg3 arg4 harg4 arg5 harg5 arg6 harg6 arg7 harg7 arg8 harg8 arg9 harg9 arg10 harg10 v1236 v1380 v1381 s hs w t X R M k
    if h : k < k0_t2_loop.trips then
      let T := trip 𝒱 c bd i arg1 harg1 arg2 harg2 arg3 harg3 arg4 harg4 arg5 harg5 arg6 harg6 arg7 harg7 arg8 harg8 arg9 harg9 arg10 harg10 v1236 v1380 v1381 s hs w t (arg8.view.writes (Elt F) X p.1) (arg9.view.writes (Elt F) R p.2.1) (arg10.view.writes (Elt F) M p.2.2) ⟨k, h⟩
      (T.1 ++ p.1, T.2.1 ++ p.2.1, T.2.2.1 ++ p.2.2)
    else p

theorem pb_succ (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1380 : FVec F S16x128 .bf16) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (X : BufTy.Contents (Elt F) arg8.view.ty) (R : BufTy.Contents (Elt F) arg9.view.ty) (M : BufTy.Contents (Elt F) arg10.view.ty) (k : Fin k0_t2_loop.trips) :
    pb 𝒱 c bd i arg1 harg1 arg2 harg2 arg3 harg3 arg4 harg4 arg5 harg5 arg6 harg6 arg7 harg7 arg8 harg8 arg9 harg9 arg10 harg10 v1236 v1380 v1381 s hs w t X R M (k.val + 1)
      = (let p := pb 𝒱 c bd i arg1 harg1 arg2 harg2 arg3 harg3 arg4 harg4 arg5 harg5 arg6 harg6 arg7 harg7 arg8 harg8 arg9 harg9 arg10 harg10 v1236 v1380 v1381 s hs w t X R M k.val
         let T := trip 𝒱 c bd i arg1 harg1 arg2 harg2 arg3 harg3 arg4 harg4 arg5 harg5 arg6 harg6 arg7 harg7 arg8 harg8 arg9 harg9 arg10 harg10 v1236 v1380 v1381 s hs w t (arg8.view.writes (Elt F) X p.1) (arg9.view.writes (Elt F) R p.2.1) (arg10.view.writes (Elt F) M p.2.2) k
         (T.1 ++ p.1, T.2.1 ++ p.2.1, T.2.2.1 ++ p.2.2)) := by
  rw [pb.eq_2]; exact dif_pos k.isLt

/-- The loop's invariant: the stores of the trips before, over the contents at entry. -/
abbrev inv (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1380 : FVec F S16x128 .bf16) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (X : BufTy.Contents (Elt F) arg8.view.ty) (R : BufTy.Contents (Elt F) arg9.view.ty) (M : BufTy.Contents (Elt F) arg10.view.ty) (k : ℕ) (_u : PUnit) : sProp (MT nD τ sig Unit (Elt F) ℕ (UR sig nD τ) ℕ) :=
  iprop((arg1.view.loc (c : Thread nD τ) ↦[arg1.view.set]{fullShare} s) ∗ (arg2.view.loc (c : Thread nD τ) ↦[arg2.view.set]{fullShare} w)
    ∗ (arg7.view.loc (c : Thread nD τ) ↦[arg7.view.set]{fullShare} t)
    ∗ (∃ f, (arg8.view.loc (c : Thread nD τ) ↦[arg8.view.set]{fullShare} f) ∗ ⌜f = arg8.view.writes (Elt F) X (pb 𝒱 c bd i arg1 harg1 arg2 harg2 arg3 harg3 arg4 harg4 arg5 harg5 arg6 harg6 arg7 harg7 arg8 harg8 arg9 harg9 arg10 harg10 v1236 v1380 v1381 s hs w t X R M k).1⌝)
    ∗ (∃ f, (arg9.view.loc (c : Thread nD τ) ↦[arg9.view.set]{fullShare} f) ∗ ⌜f = arg9.view.writes (Elt F) R (pb 𝒱 c bd i arg1 harg1 arg2 harg2 arg3 harg3 arg4 harg4 arg5 harg5 arg6 harg6 arg7 harg7 arg8 harg8 arg9 harg9 arg10 harg10 v1236 v1380 v1381 s hs w t X R M k).2.1⌝)
    ∗ (∃ f, (arg10.view.loc (c : Thread nD τ) ↦[arg10.view.set]{fullShare} f) ∗ ⌜f = arg10.view.writes (Elt F) M (pb 𝒱 c bd i arg1 harg1 arg2 harg2 arg3 harg3 arg4 harg4 arg5 harg5 arg6 harg6 arg7 harg7 arg8 harg8 arg9 harg9 arg10 harg10 v1236 v1380 v1381 s hs w t X R M k).2.2⌝))

set_option warn.classDefReducibility false in
@[sl_loop] def loopInv_k0_t2 (𝒱 : Variants) (c : Dev nD) (bd : Option 𝒱.V) (E : Set ℕ) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole) (v1236 : FVec F S16x128 .f32) (v1380 : FVec F S16x128 .bf16) (v1381 : FVec F S16x128 .bf16)
    (s : BufTy.Contents (Elt F) arg1.view.ty) (hs : ∀ j, BitVec.toNat (w := 32) (arg1.view.read (Elt F) s j) ≤ 7) (w : BufTy.Contents (Elt F) arg2.view.ty) (t : BufTy.Contents (Elt F) arg7.view.ty)
    (X : BufTy.Contents (Elt F) arg8.view.ty) (R : BufTy.Contents (Elt F) arg9.view.ty) (M : BufTy.Contents (Elt F) arg10.view.ty) :
    LoopInvTy_k0_t2 (F := F) Unit ℕ (UR sig nD τ) ℕ 𝒱 c bd E i arg1 harg1 arg2 harg2 arg3 harg3 arg4 harg4 arg5 harg5 arg6 harg6 arg7 harg7 arg8 harg8 arg9 harg9 arg10 harg10 v1236 v1380 v1381 where
  inv := inv 𝒱 c bd i arg1 harg1 arg2 harg2 arg3 harg3 arg4 harg4 arg5 harg5 arg6 harg6 arg7 harg7 arg8 harg8 arg9 harg9 arg10 harg10 v1236 v1380 v1381 s hs w t X R M
  step k acc := by
    iintro ⟨HS, HW, HT, ⟨%fx, HX, %hx⟩, ⟨%fr, HR, %hr⟩, ⟨%fm, HM, %hm⟩⟩
    subst hx hr hm
    iapply (wp_wand_r Idealize.ShloMosaic.frame (wpE (defs₀ (F := F)) 𝒱 (c : Thread nD τ) bd) E)
    isplitl [HS HW HT HX HR HM]
    · iapply ((trip (F := F) 𝒱 c bd i arg1 harg1 arg2 harg2 arg3 harg3 arg4 harg4 arg5 harg5 arg6 harg6 arg7 harg7 arg8 harg8 arg9 harg9 arg10 harg10 v1236 v1380 v1381 s hs w t _ _ _ k).2.2.2 E)
      isplitl [HS]; · iexact HS
      isplitl [HW]; · iexact HW
      isplitl [HT]; · iexact HT
      isplitl [HX]; · iexact HX
      isplitl [HR]; · iexact HR
      iexact HM
    · iintro %_ ⟨HS, HW, HT, HX, HR, HM⟩
      isplitl [HS]; · iexact HS
      isplitl [HW]; · iexact HW
      isplitl [HT]; · iexact HT
      rw [pb_succ]
      isplitl [HX]
      · iexists _; isplitl [HX]; · iexact HX
        ipureintro; rw [← View.writes_append]
      isplitl [HR]
      · iexists _; isplitl [HR]; · iexact HR
        ipureintro; rw [← View.writes_append]
      iexists _; isplitl [HM]; · iexact HM
      ipureintro; rw [← View.writes_append]

end Cert.Proof.Word.Step

end
-- ==== Proof.WordBody.lean ====
module

public import proofs.«01_k».proof.Proof.WordTable
public import proofs.«01_k».proof.Proof.WordLoop
public import Idealize.ShloMosaic.Lib.Pointwise

@[expose] public section
set_option maxRecDepth 16384
set_option maxHeartbeats 40000000
noncomputable section
namespace Cert.Proof.Word.Body

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [BitOps F]

/-- The kernel's ten buffers at their contents. -/
abbrev Held (c : Dev nD) (arg1 : Memref sig .tc .smem S12x4 .i32) (arg2 : Memref sig .tc .vmem S256x256 .bf16) (arg3 : Memref sig .tc .vmem S32x24576 .bf16) (arg4 : Memref sig .tc .vmem S32x24576 .bf16) (arg5 : Memref sig .tc .vmem S32x24576 .i8) (arg6 : Memref sig .tc .vmem S32x128 .f32) (arg7 : Memref sig .tc .vmem S4x8x8x2x32x128 .f32) (arg8 : Memref sig .tc .vmem S2x3x256x256 .bf16) (arg9 : Memref sig .tc .vmem S12x256x256 .f32) (arg10 : Memref sig .tc .vmem S32x256 .f32)
    (s : BufTy.Contents (Elt F) arg1.view.ty) (w : BufTy.Contents (Elt F) arg2.view.ty) (g : BufTy.Contents (Elt F) arg3.view.ty) (u : BufTy.Contents (Elt F) arg4.view.ty) (q : BufTy.Contents (Elt F) arg5.view.ty) (a : BufTy.Contents (Elt F) arg6.view.ty) (t : BufTy.Contents (Elt F) arg7.view.ty) (x : BufTy.Contents (Elt F) arg8.view.ty) (r : BufTy.Contents (Elt F) arg9.view.ty) (m : BufTy.Contents (Elt F) arg10.view.ty) : sProp (MT nD τ sig Unit (Elt F) ℕ (UR sig nD τ) ℕ) :=
  iprop((arg1.view.loc (c : Thread nD τ) ↦[arg1.view.set]{fullShare} s)
    ∗ (arg2.view.loc (c : Thread nD τ) ↦[arg2.view.set]{fullShare} w)
    ∗ (arg3.view.loc (c : Thread nD τ) ↦[arg3.view.set]{fullShare} g)
    ∗ (arg4.view.loc (c : Thread nD τ) ↦[arg4.view.set]{fullShare} u)
    ∗ (arg5.view.loc (c : Thread nD τ) ↦[arg5.view.set]{fullShare} q)
    ∗ (arg6.view.loc (c : Thread nD τ) ↦[arg6.view.set]{fullShare} a)
    ∗ (arg7.view.loc (c : Thread nD τ) ↦[arg7.view.set]{fullShare} t)
    ∗ (arg8.view.loc (c : Thread nD τ) ↦[arg8.view.set]{fullShare} x)
    ∗ (arg9.view.loc (c : Thread nD τ) ↦[arg9.view.set]{fullShare} r)
    ∗ (arg10.view.loc (c : Thread nD τ) ↦[arg10.view.set]{fullShare} m))

set_option sl_exec.closedPieces true in
/-- The kernel's run: what it leaves in each buffer it stores into. -/
@[irreducible] def run (𝒱 : Variants) (c : Dev nD) (bd : Option 𝒱.V) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole) (arg7 : Memref sig .tc .vmem S4x8x8x2x32x128 .f32) (harg7 : arg7.IsWhole) (arg8 : Memref sig .tc .vmem S2x3x256x256 .bf16) (harg8 : arg8.IsWhole) (arg9 : Memref sig .tc .vmem S12x256x256 .f32) (harg9 : arg9.IsWhole) (arg10 : Memref sig .tc .vmem S32x256 .f32) (harg10 : arg10.IsWhole)
    (s : BufTy.Contents (Elt F) arg1.view.ty) (w : BufTy.Contents (Elt F) arg2.view.ty) (g : BufTy.Contents (Elt F) arg3.view.ty) (u : BufTy.Contents (Elt F) arg4.view.ty) (q : BufTy.Contents (Elt F) arg5.view.ty) (a : BufTy.Contents (Elt F) arg6.view.ty) (t : BufTy.Contents (Elt F) arg7.view.ty) (x : BufTy.Contents (Elt F) arg8.view.ty) (r : BufTy.Contents (Elt F) arg9.view.ty) (m : BufTy.Contents (Elt F) arg10.view.ty)
    (hs : ∀ j, BitVec.toNat (w := 32) (arg1.view.read (Elt F) s j) ≤ 7) :
    Σ' (q' : BufTy.Contents (Elt F) arg5.view.ty) (a' : BufTy.Contents (Elt F) arg6.view.ty) (t' : BufTy.Contents (Elt F) arg7.view.ty)
      (x' : BufTy.Contents (Elt F) arg8.view.ty) (r' : BufTy.Contents (Elt F) arg9.view.ty), { m' : BufTy.Contents (Elt F) arg10.view.ty // ∀ (E : Set ℕ),
      Held (F := F) c arg1 arg2 arg3 arg4 arg5 arg6 arg7 arg8 arg9 arg10 s w g u q a t x r m
      ⊢ wp frame (wpE (defs₀ (F := F)) 𝒱 (c : Thread nD τ) bd) E (cc0_swiglu_rotate_quantise (F := F) i arg1 harg1 arg2 harg2 arg3 harg3 arg4 harg4 arg5 harg5 arg6 harg6 arg7 harg7 arg8 harg8 arg9 harg9 arg10 harg10)
          (fun _ => Held (F := F) c arg1 arg2 arg3 arg4 arg5 arg6 arg7 arg8 arg9 arg10 s w g u q' a' t' x' r' m') } := by
  refine ⟨?_, ?_, ?_, ?_, ?_, ?_, fun E => ?run⟩
  case run =>
    rw [cc0_swiglu_rotate_quantise_eq_skeleton]
    unfold cc0_swiglu_rotate_quantise_skel
    iintro ⟨H1, H2, H3, H4, H5, H6, H7, H8, H9, H10⟩
    sl_exec (disch := exact Step.chk_at _ (hs _) _ _ _ _ (by decide) (by decide) (by decide) (by decide))
    sl_step
    sl_close

end Cert.Proof.Word.Body

end
-- ==== Proof.WordRun.lean ====
module

public import proofs.«01_k».proof.Proof.WordBody
public import proofs.«01_k».proof.Proof.Gen.Rotate.Frame
public import Idealize.ShloMosaic.Lib.Pointwise
public import Idealize.ShloMosaic.Lib.Claim

@[expose] public section
set_option maxRecDepth 16384
set_option maxHeartbeats 4000000
noncomputable section
namespace Cert.Proof.Word.Run

open Cert.Rotate Cert.Rotate.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

variable (m : (ℓ : Loc nD τ sig) → Buf (Elt F) ℓ) (ρ : Dev nD → PrngReg)

/-! ### The sign words are below eight -/

theorem bit_le (b : BitVec 1) : (b.setWidth 32).toNat ≤ 1 := by revert b; decide

theorem word_le (a b d : BitVec 32) (ha : a.toNat ≤ 1) (hb : b.toNat ≤ 1) (hd : d.toNat ≤ 1) : (a * 4#32 + b * 2#32 + d).toNat ≤ 7 := by
  have : a = 0#32 ∨ a = 1#32 := by
    rcases Nat.le_one_iff_eq_zero_or_eq_one.mp ha with h | h
    · exact .inl (BitVec.eq_of_toNat_eq h)
    · exact .inr (BitVec.eq_of_toNat_eq h)
  have : b = 0#32 ∨ b = 1#32 := by
    rcases Nat.le_one_iff_eq_zero_or_eq_one.mp hb with h | h
    · exact .inl (BitVec.eq_of_toNat_eq h)
    · exact .inr (BitVec.eq_of_toNat_eq h)
  have : d = 0#32 ∨ d = 1#32 := by
    rcases Nat.le_one_iff_eq_zero_or_eq_one.mp hd with h | h
    · exact .inl (BitVec.eq_of_toNat_eq h)
    · exact .inr (BitVec.eq_of_toNat_eq h)
  rcases ‹a = _ ∨ _› with rfl | rfl <;> rcases ‹b = _ ∨ _› with rfl | rfl <;> rcases ‹d = _ ∨ _› with rfl | rfl <;> decide

/-- The sign bits of the twelve by twelve matrix, three to a group. -/
def negs (A : Vec F S12x12 .f32) : IVec S12x4x3 32 :=
  shapeCast S12x4x3 (extui 32 (cmpf .olt A (broadcastInDim S12x12 ![] bcast_S_S12x12 (constant S_ .f32 0x00000000#32))) natLt_1_32) shapeCasts_S12x12_S12x4x3

/-- One bit of each group, as a table of words. -/
def bitOf (k : Fin 3) (N : IVec S12x4x3 32) : IVec S12x4 32 := fun y => N (ix3 (y 0) (y 1) k)

/-- The table of sign words. -/
def signTab (A : Vec F S12x12 .f32) : IVec S12x4 32 := fun y =>
  bitOf 0 (negs A) y * 4#32 + bitOf 1 (negs A) y * 2#32 + bitOf 2 (negs A) y

theorem signTab_le (A : Vec F S12x12 .f32) (y : S12x4.Idx) : (signTab A y).toNat ≤ 7 :=
  word_le _ _ _ (bit_le _) (bit_le _) (bit_le _)

theorem drop0 (N : IVec S12x4x3 32) (a : Fin 12) (b : Fin 4) :
    shapeCast S12x4 (extractStridedSlice S12x4x1 ![0, 0, 0] N slices_S12x4x3_S12x4x1_0_0_0) shapeCasts_S12x4x1_S12x4 (ix2 a b) = N (ix3 a b (0 : Fin 3)) := by
  pointwise
  try rfl
theorem drop1 (N : IVec S12x4x3 32) (a : Fin 12) (b : Fin 4) :
    shapeCast S12x4 (extractStridedSlice S12x4x1 ![0, 0, 1] N slices_S12x4x3_S12x4x1_0_0_1) shapeCasts_S12x4x1_S12x4 (ix2 a b) = N (ix3 a b (1 : Fin 3)) := by
  pointwise
  try rfl
theorem drop2 (N : IVec S12x4x3 32) (a : Fin 12) (b : Fin 4) :
    shapeCast S12x4 (extractStridedSlice S12x4x1 ![0, 0, 2] N slices_S12x4x3_S12x4x1_0_0_2) shapeCasts_S12x4x1_S12x4 (ix2 a b) = N (ix3 a b (2 : Fin 3)) := by
  pointwise
  try rfl

theorem V_signs (c : Dev nD) : (V m c main_v15 : IVec S12x4 32) = signTab (m ((c : Thread nD τ).loc main_arg2)) := by
  have e : (V m c main_v15 : IVec S12x4 32) = addi (addi
      (muli (shapeCast S12x4 (extractStridedSlice S12x4x1 ![0, 0, 0] (negs (m ((c : Thread nD τ).loc main_arg2))) slices_S12x4x3_S12x4x1_0_0_0) shapeCasts_S12x4x1_S12x4) (broadcastInDim S12x4 ![] bcast_S_S12x4 (constantI S_ 32 4#32)))
      (muli (shapeCast S12x4 (extractStridedSlice S12x4x1 ![0, 0, 1] (negs (m ((c : Thread nD τ).loc main_arg2))) slices_S12x4x3_S12x4x1_0_0_1) shapeCasts_S12x4x1_S12x4) (broadcastInDim S12x4 ![] bcast_S_S12x4 (constantI S_ 32 2#32))))
      (shapeCast S12x4 (extractStridedSlice S12x4x1 ![0, 0, 2] (negs (m ((c : Thread nD τ).loc main_arg2))) slices_S12x4x3_S12x4x1_0_0_2) shapeCasts_S12x4x1_S12x4) := by
    show StableHlo.after hostOps0 (fun b => m (c, b)) (Proc.devRef .tc main_v15) = _
    after_results
    rfl
  rw [e]
  funext y
  obtain ⟨a, b, rfl⟩ : ∃ (a : Fin 12) (b : Fin 4), y = ix2 a b := ⟨y 0, y 1, eq_ix2 y⟩
  show (shapeCast S12x4 (extractStridedSlice S12x4x1 ![0, 0, 0] (negs (m ((c : Thread nD τ).loc main_arg2))) slices_S12x4x3_S12x4x1_0_0_0) shapeCasts_S12x4x1_S12x4 (ix2 a b)) * 4#32
    + (shapeCast S12x4 (extractStridedSlice S12x4x1 ![0, 0, 1] (negs (m ((c : Thread nD τ).loc main_arg2))) slices_S12x4x3_S12x4x1_0_0_1) shapeCasts_S12x4x1_S12x4 (ix2 a b)) * 2#32
    + (shapeCast S12x4 (extractStridedSlice S12x4x1 ![0, 0, 2] (negs (m ((c : Thread nD τ).loc main_arg2))) slices_S12x4x3_S12x4x1_0_0_2) shapeCasts_S12x4x1_S12x4 (ix2 a b)) = _
  rw [drop0, drop1, drop2]
  rfl

theorem signs_le (c : Dev nD) (t : Fin cfg0.N) (j : S12x4.Idx) : BitVec.toNat (w := 32) (iblk m c 0 t j) ≤ 7 := by
  unfold iblk
  show BitVec.toNat (w := 32) (((cfg0.win 0).blk t).view.read (Elt F) (V m c main_v15 : IVec S12x4 32) j) ≤ 7
  rw [V_signs]
  exact signTab_le _ _

/-! ### The body's triple -/

theorem sound_kernel (c : Dev nD) (E : Set ℕ) (i : grid0.Coords) (arg1 : Memref sig .tc .smem S12x4 .i32) (harg1 : arg1.IsWhole) (arg2 : Memref sig .tc .vmem S256x256 .bf16) (harg2 : arg2.IsWhole) (arg3 : Memref sig .tc .vmem S32x24576 .bf16) (harg3 : arg3.IsWhole) (arg4 : Memref sig .tc .vmem S32x24576 .bf16) (harg4 : arg4.IsWhole) (arg5 : Memref sig .tc .vmem S32x24576 .i8) (harg5 : arg5.IsWhole) (arg6 : Memref sig .tc .vmem S32x128 .f32) (harg6 : arg6.IsWhole)
    (x0 : Vec F S12x4 .i32) (hx0 : ∀ j, BitVec.toNat (w := 32) (x0 j) ≤ 7) (x1 : Vec F S256x256 .bf16) (x2 x3 : Vec F S32x24576 .bf16) (K : PUnit → sProp (MT nD τ sig Unit (Elt F) ℕ (UR sig nD τ) ℕ)) :
    iprop(owns (c : Thread nD τ) arg1 fullShare x0 ∗ owns (c : Thread nD τ) arg2 fullShare x1 ∗ owns (c : Thread nD τ) arg3 fullShare x2 ∗ owns (c : Thread nD τ) arg4 fullShare x3
        ∗ (∃ d, owns (c : Thread nD τ) arg5 fullShare d) ∗ (∃ d, owns (c : Thread nD τ) arg6 fullShare d)
        ∗ Pipeline.ΦA spec0 c
        ∗ (iprop(owns (c : Thread nD τ) arg1 fullShare x0 ∗ owns (c : Thread nD τ) arg2 fullShare x1 ∗ owns (c : Thread nD τ) arg3 fullShare x2 ∗ owns (c : Thread nD τ) arg4 fullShare x3
            ∗ (∃ d, owns (c : Thread nD τ) arg5 fullShare d) ∗ (∃ d, owns (c : Thread nD τ) arg6 fullShare d) ∗ Pipeline.ΦA spec0 c) -∗ K ()))
      ⊢ wp frame (wpE (defs₀ (F := F)) Variants.none c none) E (cc0_swiglu_rotate_quantise i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _)) K := by
  unfold Pipeline.ΦA
  rw [scopedRest0_eq]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨⟨⟨%f6, H6⟩, ⟨%f7, H7⟩, ⟨%f8, H8⟩, ⟨%f9, H9⟩⟩, Hr⟩, Hk⟩
  subst hf0 hf1 hf2 hf3
  iapply (wp_wand_r Idealize.ShloMosaic.frame (wpE (defs₀ (F := F)) Variants.none (c : Thread nD τ) none) E)
  isplitl [H0 H1 H2 H3 H4 H5 H6 H7 H8 H9]
  · iapply ((Body.run (F := F) Variants.none c none i arg1 harg1 arg2 harg2 arg3 harg3 arg4 harg4 arg5 harg5 arg6 harg6 (Memref.whole cc0_scratch0) (Memref.isWhole_whole _) (Memref.whole cc0_scratch1) (Memref.isWhole_whole _) (Memref.whole cc0_scratch2) (Memref.isWhole_whole _) (Memref.whole cc0_scratch3) (Memref.isWhole_whole _)
        f0 f1 f2 f3 f4 f5 f6 f7 f8 f9 hx0).2.2.2.2.2.2 E)
    unfold Body.Held
    isplitl [H0]; · iexact H0
    isplitl [H1]; · iexact H1
    isplitl [H2]; · iexact H2
    isplitl [H3]; · iexact H3
    isplitl [H4]; · iexact H4
    isplitl [H5]; · iexact H5
    simp only [Memref.view_whole, View.set_whole]
    isplitl [H6]; · iexact H6
    isplitl [H7]; · iexact H7
    isplitl [H8]; · iexact H8
    iexact H9
  iintro %_ ⟨H0, H1, H2, H3, H4, H5, H6, H7, H8, H9⟩
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; iexists _; isplitr
    swap; · iexact H4
    ipureintro; rfl
  isplitl [H5]
  · iexists _; iexists _; isplitr
    swap; · iexact H5
    ipureintro; rfl
  simp only [Memref.view_whole, View.set_whole]
  isplitl [H6 H7 H8 H9]
  · isplitl [H6]; · iexists _; iexact H6
    isplitl [H7]; · iexists _; iexact H7
    isplitl [H8]; · iexists _; iexact H8
    iexists _; iexact H9
  iexact Hr

/-! ### The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => Dat.unnamed (cfg := cfg0) 4 t
    | ⟨5, _⟩ => Dat.unnamed (cfg := cfg0) 5 t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- The two results are left unnamed. -/
def fgt (w : Fin cfg0.W) : Bool := w == 4 || w == 5

/-! ### The body at a point -/

def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare d)
    ∗ (∃ d, owns (c : Thread nD τ) (st0_5 t) fullShare d))

def bodyPost (c : Dev nD) (t : Fin cfg0.N) : sProp (MT nD τ sig Unit (Elt F) ℕ (UR sig nD τ) ℕ) :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ (∃ d, owns (c : Thread nD τ) (st0_4 t) fullShare d)
    ∗ (∃ d, owns (c : Thread nD τ) (st0_5 t) fullShare d))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3]
  rw [show (dats m 0 c).Φ t.castSucc = Pipeline.ΦA spec0 c from rfl]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (signs_le m c t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [HΦ]; · iexact HΦ
  iintro ⟨H0, H1, H2, H3, H4, H5, HΦ⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ fgt := fun t => by
  rw [bigSep_W0, bigSep_W0, defs₀_row]
  exact triple_restated (sound_body m c t) rfl .rfl fun _ => .rfl

/-! ### The run and the frame -/

set_option backward.isDefEq.respectTransparency.types false in
set_option maxHeartbeats 4000000 in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- An array the body only reads ends as it began. -/
theorem arr_in (c : Dev nD) (w : Fin cfg0.W) (hf : fgt w = false) (hw : (cfg0.win w).isOut = false) (G)
    (h : ((dats (F := F) m 0 c).toRForget fgt).ArrAt w cfg0.N G) : G = V m c (Pipeline.arrRef spec0 w) :=
  (((dats m 0 c).toRForget_arrAt_iff hf _ _).mp h).trans (((dats m 0 c).arrAt_in w hw _).trans (A_eq m c w))

/-- The three arrays end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(arr_in m c 2 rfl rfl _ ((h.1 c).1 2)).trans (V_main_arg0 m c),
      (arr_in m c 3 rfl rfl _ ((h.1 c).1 3)).trans (V_main_arg1 m c),
      ((h.1 c).2 main_arg2 (Pipeline.mem_restRefs_of main_arg2 (by decide) (by decide))).trans (V_main_arg2 m c)⟩, h.2⟩) (run_main m ρ)

end Cert.Proof.Word.Run

end
-- ==== Proof.RotateMath.lean ====
/- Hand-written, untrusted. THE ARITHMETIC OF THE ROTATION over the extended reals: a value is either infinite, or a stated
   real; sums, differences and signed copies keep track of which. -/
module

public import Idealize.ShloMosaic.PureOps.Ideal
public import Mathlib.Data.EReal.Operations
public import Mathlib.Data.EReal.Inv
public import Mathlib.Tactic.Ring
public import Mathlib.Tactic.FinCases
public import Mathlib.Algebra.BigOperators.Fin

@[expose] public section
set_option maxRecDepth 16384
noncomputable section
namespace Cert.Proof.Math

open Idealize.ShloMosaic

/-- Infinite, of either sign. -/
def Inf (x : EReal) : Prop := x = ⊤ ∨ x = ⊥

/-- `x` is infinite when `p` holds, and otherwise the real `r`. -/
def Rep (x : EReal) (p : Prop) (r : ℝ) : Prop := (p → Inf x) ∧ (¬ p → x = (r : EReal))

theorem rep_self (x : EReal) : Rep x (Inf x) x.toReal :=
  ⟨id, fun h => (EReal.coe_toReal (fun e => h (.inl e)) (fun e => h (.inr e))).symm⟩

theorem Rep.congr {x : EReal} {p q : Prop} {r s : ℝ} (h : Rep x p r) (hp : p ↔ q) (hr : r = s) : Rep x q s := by
  subst hr; exact ⟨fun hq => h.1 (hp.2 hq), fun hq => h.2 fun k => hq (hp.1 k)⟩

theorem inf_add_left {x y : EReal} (h : Inf x) : Inf (x + y) := by
  rcases h with rfl | rfl
  · induction y <;> simp [Inf]
  · simp [Inf]

theorem Rep.add {x y : EReal} {p q : Prop} {r s : ℝ} (hx : Rep x p r) (hy : Rep y q s) : Rep (x + y) (p ∨ q) (r + s) := by
  refine ⟨fun h => h.elim (fun h => inf_add_left (hx.1 h)) (fun h => by rw [add_comm]; exact inf_add_left (hy.1 h)), fun h => ?_⟩
  rw [hx.2 (fun k => h (.inl k)), hy.2 (fun k => h (.inr k)), EReal.coe_add]

theorem Rep.neg {x : EReal} {p : Prop} {r : ℝ} (hx : Rep x p r) : Rep (-x) p (-r) := by
  refine ⟨fun h => ?_, fun h => by rw [hx.2 h, EReal.coe_neg]⟩
  rcases hx.1 h with e | e <;> simp [Inf, e]

theorem Rep.sub {x y : EReal} {p q : Prop} {r s : ℝ} (hx : Rep x p r) (hy : Rep y q s) : Rep (x - y) (p ∨ q) (r - s) := by
  rw [sub_eq_add_neg, sub_eq_add_neg]; exact hx.add hy.neg

theorem Rep.zero_sub {x : EReal} {p : Prop} {r : ℝ} (hx : Rep x p r) : Rep (0 - x) p (-r) := by
  rw [_root_.zero_sub]; exact hx.neg

theorem Rep.coe (r : ℝ) : Rep (r : EReal) False r := ⟨False.elim, fun _ => rfl⟩

theorem Rep.sum {ι : Type} (s : Finset ι) {x : ι → EReal} {p : ι → Prop} {r : ι → ℝ} (h : ∀ i, Rep (x i) (p i) (r i)) :
    Rep (∑ i ∈ s, x i) (∃ i ∈ s, p i) (∑ i ∈ s, r i) := by
  classical
  induction s using Finset.induction with
  | empty => exact (Rep.coe 0).congr (by simp) (by simp)
  | insert a s ha ih =>
    rw [Finset.sum_insert ha, Finset.sum_insert ha]
    exact ((h a).add ih).congr (by simp) rfl

theorem Rep.sumAll {ι : Type} [Fintype ι] {x : ι → EReal} {p : ι → Prop} {r : ι → ℝ} (h : ∀ i, Rep (x i) (p i) (r i)) :
    Rep (∑ i, x i) (∃ i, p i) (∑ i, r i) := (Rep.sum Finset.univ h).congr (by simp) rfl

theorem Rep.mul_coe {x : EReal} {p : Prop} {r : ℝ} (hx : Rep x p r) {c : ℝ} (hc : c ≠ 0) : Rep (x * (c : EReal)) p (r * c) := by
  refine ⟨fun h => ?_, fun h => by rw [hx.2 h, EReal.coe_mul]⟩
  rcases lt_or_gt_of_ne hc with h0 | h0 <;> rcases hx.1 h with e | e
  · rw [e, EReal.top_mul_coe_of_neg h0]; exact .inr rfl
  · rw [e, EReal.bot_mul_coe_of_neg h0]; exact .inl rfl
  · rw [e, EReal.top_mul_coe_of_pos h0]; exact .inl rfl
  · rw [e, EReal.bot_mul_coe_of_pos h0]; exact .inr rfl

theorem Rep.coe_mul {x : EReal} {p : Prop} {r : ℝ} (hx : Rep x p r) {c : ℝ} (hc : c ≠ 0) : Rep ((c : EReal) * x) p (c * r) := by
  rw [mul_comm, mul_comm c]; exact hx.mul_coe hc

/-- The three narrow parts add up to the value again. -/
theorem Rep.parts {x : EReal} {p : Prop} {r : ℝ} (hx : Rep x p r) :
    Rep (x - x) p 0 ∧ Rep ((x - x) - (x - x)) p 0 :=
  ⟨(hx.sub hx).congr (by simp) (by simp), ((hx.sub hx).sub (hx.sub hx)).congr (by simp) (by simp)⟩

/-- The Walsh sign of two indices, as a whole number. -/
def wz (i j : ℕ) : ℤ := (1#32 - 2#32 * (IntOp.ctpop (BitVec.ofNat 32 i &&& BitVec.ofNat 32 j) &&& 1#32)).toInt

/-- The Walsh sign as a real. -/
def wv (i j : ℕ) : ℝ := (wz i j : ℝ)

/-- The low bit of a word is 0 or 1, so the sign is 1 or −1. -/
theorem sign_cases : ∀ b : BitVec 1, (1#32 - 2#32 * b.setWidth 32).toInt = 1 ∨ (1#32 - 2#32 * b.setWidth 32).toInt = -1 := by decide

theorem wz_cases (i j : ℕ) : wz i j = 1 ∨ wz i j = -1 := by
  unfold wz
  generalize IntOp.ctpop (BitVec.ofNat 32 i &&& BitVec.ofNat 32 j) = x
  have e : x &&& 1#32 = (x.setWidth 1).setWidth 32 := by
    apply BitVec.eq_of_getLsbD_eq
    intro i hi
    rcases Nat.eq_zero_or_pos i with rfl | h
    · simp
    · have h1 : ¬ i < 1 := by omega
      have h0 : i ≠ 0 := by omega
      simp [BitVec.getLsbD_one, h1, h0]
  rw [e]
  exact sign_cases _

theorem wv_ne (i j : ℕ) : wv i j ≠ 0 := by
  unfold wv; rcases wz_cases i j with e | e <;> rw [e] <;> norm_num

/-- The sign of one word: by the parity of its bits. -/
def wb (v : ℕ) : ℤ := (1#32 - 2#32 * (IntOp.ctpop (BitVec.ofNat 32 v) &&& 1#32)).toInt

theorem wz_eq (i j : ℕ) : wz i j = wb (i &&& j) := by
  have e : BitVec.ofNat 32 i &&& BitVec.ofNat 32 j = BitVec.ofNat 32 (i &&& j) := by
    apply BitVec.eq_of_toNat_eq
    simp only [BitVec.toNat_and, BitVec.toNat_ofNat, Nat.and_mod_two_pow]
  unfold wz wb; rw [e]

theorem land_split (k a a' b b' : ℕ) (hb : b < 2 ^ k) (hb' : b' < 2 ^ k) :
    (2 ^ k * a + b) &&& (2 ^ k * a' + b') = 2 ^ k * (a &&& a') + (b &&& b') := by
  have hc : b &&& b' < 2 ^ k := lt_of_le_of_lt Nat.and_le_left hb
  refine Nat.eq_of_testBit_eq fun j => ?_
  rw [Nat.testBit_and, Nat.testBit_two_pow_mul_add _ hb, Nat.testBit_two_pow_mul_add _ hb', Nat.testBit_two_pow_mul_add _ hc]
  split <;> simp [Nat.testBit_and]

theorem wb_4_64 : ∀ (c : Fin 4) (d : Fin 64), wb (64 * c + d) = wb c * wb d := by decide +kernel
theorem wb_8_4 : ∀ (c : Fin 8) (d : Fin 4), wb (4 * c + d) = wb c * wb d := by decide +kernel

theorem wz_mul_4_64 (a a' : Fin 4) (b b' : Fin 64) : wz (64 * a + b) (64 * a' + b') = wz a a' * wz b b' := by
  rw [wz_eq, wz_eq, wz_eq, show (64 * a.val + b.val) &&& (64 * a'.val + b'.val) = 64 * (a.val &&& a'.val) + (b.val &&& b'.val) from
    land_split 6 _ _ _ _ b.isLt b'.isLt]
  exact wb_4_64 ⟨a.val &&& a'.val, lt_of_le_of_lt Nat.and_le_left a.isLt⟩ ⟨b.val &&& b'.val, lt_of_le_of_lt Nat.and_le_left b.isLt⟩
theorem wz_mul_8_4 (p p' : Fin 8) (a a' : Fin 4) : wz (4 * p + a) (4 * p' + a') = wz p p' * wz a a' := by
  rw [wz_eq, wz_eq, wz_eq, show (4 * p.val + a.val) &&& (4 * p'.val + a'.val) = 4 * (p.val &&& p'.val) + (a.val &&& a'.val) from
    land_split 2 _ _ _ _ a.isLt a'.isLt]
  exact wb_8_4 ⟨p.val &&& p'.val, lt_of_le_of_lt Nat.and_le_left p.isLt⟩ ⟨a.val &&& a'.val, lt_of_le_of_lt Nat.and_le_left a.isLt⟩
theorem wz_symm (i j : ℕ) : wz i j = wz j i := by rw [wz_eq, wz_eq, Nat.and_comm]

theorem wv_mul_4_64 (a a' : Fin 4) (b b' : Fin 64) : wv (64 * a + b) (64 * a' + b') = wv a a' * wv b b' := by
  unfold wv; rw [wz_mul_4_64]; push_cast; rfl
theorem wv_mul_8_4 (p p' : Fin 8) (a a' : Fin 4) : wv (4 * p + a) (4 * p' + a') = wv p p' * wv a a' := by
  unfold wv; rw [wz_mul_8_4]; push_cast; rfl

theorem sum_split (m n : ℕ) (f : Fin (m * n) → ℝ) : ∑ x, f x = ∑ a : Fin m, ∑ b : Fin n, f (finProdFinEquiv (a, b)) := by
  rw [← finProdFinEquiv.sum_comp, Fintype.sum_prod_type]

theorem ex_split (m n : ℕ) (P : Fin (m * n) → Prop) : (∃ x, P x) ↔ ∃ (a : Fin m) (b : Fin n), P (finProdFinEquiv (a, b)) :=
  ⟨fun ⟨x, h⟩ => ⟨(finProdFinEquiv.symm x).1, (finProdFinEquiv.symm x).2, by rw [Prod.mk.eta, Equiv.apply_symm_apply]; exact h⟩, fun ⟨a, b, h⟩ => ⟨_, h⟩⟩

theorem sum256 (f : ℕ → ℝ) : ∑ x : Fin 256, f x = ∑ a : Fin 4, ∑ b : Fin 64, f (64 * a + b) := by
  refine (sum_split 4 64 (fun x => f x)).trans (Finset.sum_congr rfl fun a _ => Finset.sum_congr rfl fun b _ => congrArg f ?_)
  simp [finProdFinEquiv, add_comm]
theorem sum384 (f : ℕ → ℝ) : ∑ x : Fin 384, f x = ∑ j : Fin 12, ∑ p : Fin 8, ∑ a : Fin 4, f (32 * j + 4 * p + a) := by
  refine (sum_split 12 32 (fun x => f x)).trans (Finset.sum_congr rfl fun j _ => ?_)
  refine (sum_split 8 4 (fun x => f (finProdFinEquiv (j, x) : Fin (12 * 32)))).trans
    (Finset.sum_congr rfl fun b _ => Finset.sum_congr rfl fun a _ => congrArg f ?_)
  simp [finProdFinEquiv]; ring

/-- The two factorings of the rotation agree: eight blocks by 256 lanes, or 32 far by 64 near, are the same 2048 signs. -/
theorem walsh_eq (s : ℕ → ℝ) (h : ℕ → ℝ) (p : Fin 8) (a : Fin 4) (b : Fin 64) :
    ∑ l : Fin 256, (∑ p' : Fin 8, wv p p' * ∑ j : Fin 12, s j * h (2048 * j + 256 * p' + l)) * wv (64 * a + b) l
      = ∑ m : Fin 384, (s (m / 32) * wv (4 * p + a) (m % 32)) * ∑ i : Fin 64, h (64 * m + i) * wv b i := by
  rw [sum384 (fun m => (s (m / 32) * wv (4 * p + a) (m % 32)) * ∑ i : Fin 64, h (64 * m + i) * wv b i),
    sum256 (fun l => (∑ p' : Fin 8, wv p p' * ∑ j : Fin 12, s j * h (2048 * j + 256 * p' + l)) * wv (64 * a + b) l)]
  have e1 : ∀ (j : Fin 12) (p' : Fin 8) (a' : Fin 4), (32 * j.val + 4 * p'.val + a'.val) / 32 = j.val := fun j p' a' => by omega
  have e2 : ∀ (j : Fin 12) (p' : Fin 8) (a' : Fin 4), (32 * j.val + 4 * p'.val + a'.val) % 32 = 4 * p'.val + a'.val := fun j p' a' => by omega
  have e3 : ∀ (j : Fin 12) (p' : Fin 8) (a' : Fin 4) (i : Fin 64), 64 * (32 * j.val + 4 * p'.val + a'.val) + i.val = 2048 * j.val + 256 * p'.val + (64 * a'.val + i.val) :=
    fun j p' a' i => by omega
  simp only [e1, e2, e3, wv_mul_4_64, wv_mul_8_4, Finset.sum_mul, Finset.mul_sum]
  have l : ∀ F : Fin 4 → Fin 64 → Fin 8 → Fin 12 → ℝ, (∑ a', ∑ i, ∑ p', ∑ j, F a' i p' j) = ∑ j, ∑ p', ∑ a', ∑ i, F a' i p' j := fun F => by
    calc (∑ a', ∑ i, ∑ p', ∑ j, F a' i p' j) = ∑ a', ∑ p', ∑ j, ∑ i, F a' i p' j := by
          refine Finset.sum_congr rfl fun a' _ => ?_
          rw [Finset.sum_comm]
          exact Finset.sum_congr rfl fun p' _ => Finset.sum_comm
      _ = ∑ p', ∑ j, ∑ a', ∑ i, F a' i p' j := by
          rw [Finset.sum_comm]
          exact Finset.sum_congr rfl fun p' _ => Finset.sum_comm
      _ = _ := Finset.sum_comm
  rw [l]
  refine Finset.sum_congr rfl fun j _ => Finset.sum_congr rfl fun p' _ => Finset.sum_congr rfl fun a' _ => Finset.sum_congr rfl fun i _ => ?_
  ring

/-! ### The largest of a family -/

/-- `M` is the largest of the values `x`. -/
def IsMx {ι : Type} (M : EReal) (x : ι → EReal) : Prop := (∀ i, x i ≤ M) ∧ ∃ i, M = x i

theorem IsMx.unique {ι : Type} {M N : EReal} {x : ι → EReal} (h : IsMx M x) (k : IsMx N x) : M = N := by
  obtain ⟨i, hi⟩ := h.2
  obtain ⟨j, hj⟩ := k.2
  exact le_antisymm (hi ▸ k.1 i) (hj ▸ h.1 j)

theorem IsMx.mul {ι : Type} {M : EReal} {x : ι → EReal} (h : IsMx M x) {c : EReal} (hc : 0 ≤ c) : IsMx (M * c) (fun i => x i * c) :=
  ⟨fun i => mul_le_mul_of_nonneg_right (h.1 i) hc, h.2.imp fun i e => by rw [e]⟩

/-! ### One code -/

/-- The magnitude. -/
def mag (x : EReal) : EReal := max x (-x)

theorem mag_mul (x : EReal) {c : ℝ} (hc : 0 < c) : mag (x * (c : EReal)) = mag x * (c : EReal) := by
  unfold mag
  have hc' : (0 : EReal) ≤ (c : EReal) := by exact_mod_cast hc.le
  rw [← EReal.neg_mul]
  exact ((monotone_mul_right_of_nonneg hc').map_max).symm

theorem mag_inf {x : EReal} (h : Inf x) : mag x = ⊤ := by rcases h with rfl | rfl <;> simp [mag]
theorem mag_nonneg (x : EReal) : 0 ≤ mag x := by
  unfold mag
  rcases le_total 0 x with h | h
  · exact le_max_of_le_left h
  · exact le_max_of_le_right (by simpa using h)

end Cert.Proof.Math
-- ==== Proof.RotateRow.lean ====
/- Hand-written, untrusted. A ROTATED ROW OVER THE EXTENDED REALS: infinite when any gated value of the token is, and otherwise
   the sum over 256 lanes of the blocks' butterflies of the signed sums. -/
module

public import proofs.«01_k».proof.Proof.RotateCodes
public import proofs.«01_k».proof.Proof.RotateMath
public import Idealize.ShloMosaic.Lib.IdealHost
public import Idealize.ShloMosaic.Lib.MatmulPlain
public import Idealize.ShloMosaic.Lib.Pointwise

@[expose] public section
set_option maxRecDepth 16384
set_option maxHeartbeats 4000000
noncomputable section
namespace Cert.Proof.Row

open Cert.RotateIdeal Cert.RotateIdeal.Gen
open Idealize.ShloMosaic Idealize.ShloMosaic.TcCoe Idealize.ShloMosaic.Tactic
open Cert.Proof.Math Cert.Proof.Step Cert.Proof.Build

/-- The sign that bit `d` of a pattern stands for. -/
def bs (s : Fin 8) (d : ℕ) : ℝ := if s.val / d % 2 = 1 then -1 else 1

theorem zero_bits : (Scalar.ofBits .f32 0x00000000#32 : Ideal .f32) = (0 : EReal) := Ideal.ofBits_zero_f32

theorem quad_rep (s : Fin 8) {x y z : Ideal .f32} {p q t : Prop} {a b c : ℝ} (hx : Rep x p a) (hy : Rep y q b) (hz : Rep z t c) :
    Rep (quadE (F := Ideal) s x y z) (p ∨ q ∨ t) (bs s 4 * a + bs s 2 * b + bs s 1 * c) := by
  have e := zero_bits
  fin_cases s
  · exact ((hx.add hy).add hz).congr (by tauto) (by norm_num [bs])
  · exact ((hx.add hy).sub hz).congr (by tauto) (by norm_num [bs]; try ring)
  · exact ((hx.sub hy).add hz).congr (by tauto) (by norm_num [bs]; try ring)
  · exact ((hx.sub hy).sub hz).congr (by tauto) (by norm_num [bs]; try ring)
  · show Rep ((Scalar.ofBits .f32 0x00000000#32 : Ideal .f32) - (x - y - z) : EReal) _ _
    rw [e]; exact ((hx.sub hy).sub hz).zero_sub.congr (by tauto) (by norm_num [bs]; try ring)
  · show Rep ((Scalar.ofBits .f32 0x00000000#32 : Ideal .f32) - (x - y + z) : EReal) _ _
    rw [e]; exact ((hx.sub hy).add hz).zero_sub.congr (by tauto) (by norm_num [bs]; try ring)
  · show Rep ((Scalar.ofBits .f32 0x00000000#32 : Ideal .f32) - (x + y - z) : EReal) _ _
    rw [e]; exact ((hx.add hy).sub hz).zero_sub.congr (by tauto) (by norm_num [bs]; try ring)
  · show Rep ((Scalar.ofBits .f32 0x00000000#32 : Ideal .f32) - (x + y + z) : EReal) _ _
    rw [e]; exact ((hx.add hy).add hz).zero_sub.congr (by tauto) (by norm_num [bs]; try ring)

/-- The sign of two bits. -/
def b2 (i j : ℕ) : ℤ := if i % 2 = 1 ∧ j % 2 = 1 then -1 else 1

theorem wz_8 : ∀ p p' : Fin 8, wz p p' = b2 p p' * b2 (p / 2) (p' / 2) * b2 (p / 4) (p' / 4) := by decide +kernel

/-- The stages on reals with their finiteness: one stage of sums and differences. -/
theorem fly_rep {v : Fin 8 → Ideal .f32} {P : Fin 8 → Prop} {r : Fin 8 → ℝ} (h : ∀ p, Rep (v p) (P p) (r p)) (p : Fin 8) :
    Rep (fly4 (F := Ideal) (fly2 (fly1 v)) p) (∃ p', P p') (∑ p' : Fin 8, wv p p' * r p') := by
  have a0 := (h 0).add (h 1); have s0 := (h 0).sub (h 1)
  have a1 := (h 2).add (h 3); have s1 := (h 2).sub (h 3)
  have a2 := (h 4).add (h 5); have s2 := (h 4).sub (h 5)
  have a3 := (h 6).add (h 7); have s3 := (h 6).sub (h 7)
  have hP : (∃ p', P p') ↔ P 0 ∨ P 1 ∨ P 2 ∨ P 3 ∨ P 4 ∨ P 5 ∨ P 6 ∨ P 7 :=
    ⟨fun ⟨p', hp⟩ => by fin_cases p' <;> simp_all, fun hp => by rcases hp with k | k | k | k | k | k | k | k <;> exact ⟨_, k⟩⟩
  rw [hP, Fin.sum_univ_eight]
  simp only [wv, wz_8]
  fin_cases p
  · exact ((a0.add a1).add (a2.add a3)).congr (by tauto) (by norm_num [b2]; try ring)
  · exact ((s0.add s1).add (s2.add s3)).congr (by tauto) (by norm_num [b2]; try ring)
  · exact ((a0.sub a1).add (a2.sub a3)).congr (by tauto) (by norm_num [b2]; try ring)
  · exact ((s0.sub s1).add (s2.sub s3)).congr (by tauto) (by norm_num [b2]; try ring)
  · exact ((a0.add a1).sub (a2.add a3)).congr (by tauto) (by norm_num [b2]; try ring)
  · exact ((s0.add s1).sub (s2.add s3)).congr (by tauto) (by norm_num [b2]; try ring)
  · exact ((a0.sub a1).sub (a2.sub a3)).congr (by tauto) (by norm_num [b2]; try ring)
  · exact ((s0.sub s1).sub (s2.sub s3)).congr (by tauto) (by norm_num [b2]; try ring)

/-- The gated value of a token at column `n`. -/
def hv (g u : Vec Ideal S32x24576 .bf16) (r : Fin 32) (n : ℕ) : EReal := if h : n < 24576 then H g u r ⟨n, h⟩ else 0

theorem hv_col (g u : Vec Ideal S32x24576 .bf16) (r : Fin 32) (a : Fin 4) (j : Fin 3) (p : Fin 8) (l : Fin 256) :
    H g u r (colOf a j p (⟨l.val / 128, by omega⟩ : Fin 2) (⟨l.val % 128, by omega⟩ : Fin 128)) = hv g u r (2048 * (3 * a.val + j.val) + 256 * p.val + l.val) := by
  unfold hv
  rw [dif_pos (by omega)]
  refine congrArg (H g u r) (Fin.ext ?_)
  show (a.val * 3 + j.val) * 2048 + p.val * 256 + l.val / 128 * 128 + l.val % 128 = 2048 * (3 * a.val + j.val) + 256 * p.val + l.val
  omega

/-- The sign of row `j` in a row's four patterns. -/
def rs (sg : Fin 4 → Fin 8) (j : ℕ) : ℝ := bs (sg ⟨j / 3 % 4, by omega⟩) (if j % 3 = 0 then 4 else if j % 3 = 1 then 2 else 1)

/-- Whether any gated value of the token is infinite. -/
def AnyInf (h : ℕ → EReal) : Prop := ∃ n, Inf (h n)

/-- The combined value of block `p`, lane `l`. -/
def cmb (sg : Fin 4 → Fin 8) (T : Vec Ideal S4x8x8x2x32x128 .f32) (r : Fin 32) (l : Fin 256) (p : Fin 8) : Ideal .f32 :=
  fly4 (F := Ideal) (fly2 (fly1 fun p' =>
    let v := fun g : Fin 4 => T (ix6 g (sg g) p' (⟨l.val / 128, by omega⟩ : Fin 2) r (⟨l.val % 128, by omega⟩ : Fin 128))
    FloatOps.addf (FloatOps.addf (v 0) (v 1)) (FloatOps.addf (v 2) (v 3)))) p

theorem cmb_rep (sg : Fin 4 → Fin 8) (g u : Vec Ideal S32x24576 .bf16) (r : Fin 32) (l : Fin 256) (p : Fin 8) :
    Rep (cmb sg (Build.T g u) r l p) (∃ (p' : Fin 8) (j : Fin 12), Inf (hv g u r (2048 * j + 256 * p' + l)))
      (∑ p' : Fin 8, wv p p' * ∑ j : Fin 12, rs sg j * (hv g u r (2048 * j + 256 * p' + l)).toReal) := by
  unfold cmb
  refine fly_rep (fun p' => ?_) p
  have q : ∀ a : Fin 4, Rep (Build.T g u (ix6 a (sg a) p' (⟨l.val / 128, by omega⟩ : Fin 2) r (⟨l.val % 128, by omega⟩ : Fin 128))) _ _ := fun a => by
    show Rep (quadE (sg a) (H g u r (colOf a 0 p' (⟨l.val / 128, by omega⟩ : Fin 2) (⟨l.val % 128, by omega⟩ : Fin 128)))
      (H g u r (colOf a 1 p' (⟨l.val / 128, by omega⟩ : Fin 2) (⟨l.val % 128, by omega⟩ : Fin 128)))
      (H g u r (colOf a 2 p' (⟨l.val / 128, by omega⟩ : Fin 2) (⟨l.val % 128, by omega⟩ : Fin 128)))) _ _
    rw [hv_col, hv_col, hv_col]
    exact quad_rep (sg a) (rep_self _) (rep_self _) (rep_self _)
  refine (((q 0).add (q 1)).add ((q 2).add (q 3))).congr ?_ ?_
  · constructor
    · intro k
      rcases k with ((k | k | k) | (k | k | k)) | ((k | k | k) | (k | k | k))
      · exact ⟨0, k⟩
      · exact ⟨1, k⟩
      · exact ⟨2, k⟩
      · exact ⟨3, k⟩
      · exact ⟨4, k⟩
      · exact ⟨5, k⟩
      · exact ⟨6, k⟩
      · exact ⟨7, k⟩
      · exact ⟨8, k⟩
      · exact ⟨9, k⟩
      · exact ⟨10, k⟩
      · exact ⟨11, k⟩
    · rintro ⟨j, k⟩
      fin_cases j
      · exact .inl (.inl (.inl k))
      · exact .inl (.inl (.inr (.inl k)))
      · exact .inl (.inl (.inr (.inr k)))
      · exact .inl (.inr (.inl k))
      · exact .inl (.inr (.inr (.inl k)))
      · exact .inl (.inr (.inr (.inr k)))
      · exact .inr (.inl (.inl k))
      · exact .inr (.inl (.inr (.inl k)))
      · exact .inr (.inl (.inr (.inr k)))
      · exact .inr (.inr (.inl k))
      · exact .inr (.inr (.inr (.inl k)))
      · exact .inr (.inr (.inr (.inr k)))
  · simp only [Fin.sum_univ_succ, Finset.univ_eq_empty, Finset.sum_empty]
    simp [rs]
    ring

theorem anyInf_iff (g u : Vec Ideal S32x24576 .bf16) (r : Fin 32) :
    (∃ (l : Fin 256) (p' : Fin 8) (j : Fin 12), Inf (hv g u r (2048 * j + 256 * p' + l))) ↔ AnyInf (hv g u r) := by
  refine ⟨fun ⟨l, p', j, k⟩ => ⟨_, k⟩, fun ⟨n, k⟩ => ?_⟩
  by_cases hn : n < 24576
  · refine ⟨⟨n % 256, by omega⟩, ⟨n / 256 % 8, by omega⟩, ⟨n / 2048, by omega⟩, ?_⟩
    have e : 2048 * (n / 2048) + 256 * (n / 256 % 8) + n % 256 = n := by omega
    show Inf (hv g u r (2048 * (n / 2048) + 256 * (n / 256 % 8) + n % 256))
    rw [e]; exact k
  · exfalso
    unfold hv at k
    rw [dif_neg hn] at k
    rcases k with k | k <;> simp at k

/-- A rotated row, read. -/
theorem rot_apply (W : Vec Ideal S256x256 .bf16) (X0 X1 X2 : Vec Ideal S1x1x256x256 .bf16) (a b : Fin 256) :
    k0_pay542 (F := Ideal) W X0 X1 X2 (ix3 (0 : Fin 1) a b)
      = ((∑ l : Fin 256, (X0 (ix4 (0 : Fin 1) (0 : Fin 1) a l) : EReal) * W (ix2 l b)) + ∑ l : Fin 256, (X1 (ix4 (0 : Fin 1) (0 : Fin 1) a l) : EReal) * W (ix2 l b))
        + ∑ l : Fin 256, (X2 (ix4 (0 : Fin 1) (0 : Fin 1) a l) : EReal) * W (ix2 l b) := by
  have hm : ∀ X : Vec Ideal S1x1x256x256 .bf16,
      matmul dot_S256x256_S256x256_S256x256_1_0_0_1_n_n none (shapeCast S256x256 X shapeCasts_S1x1x256x256_S256x256 : FVec Ideal S256x256 .bf16) (shapeCast S256x256 W shapeCasts_S256x256_S256x256 : FVec Ideal S256x256 .bf16)
        (constant S256x256 .f32 0x00000000#32 : FVec Ideal S256x256 .f32) (ix2 a b) = ∑ l : Fin 256, (X (ix4 (0 : Fin 1) (0 : Fin 1) a l) : EReal) * W (ix2 l b) := by
    intro X
    have hX : ∀ l : Fin 256, shapeCast S256x256 X shapeCasts_S1x1x256x256_S256x256 (ix2 a l) = X (ix4 (0 : Fin 1) (0 : Fin 1) a l) := fun l => by pointwise; try rfl
    have hW : ∀ l : Fin 256, shapeCast S256x256 W shapeCasts_S256x256_S256x256 (ix2 l b) = W (ix2 l b) := fun l => by pointwise; try rfl
    refine (Ideal.matmul_plain_apply (M := 256) (K := 256) (N := 256) none _ _ _ a b).trans ?_
    exact (congrArg₂ (fun x y : EReal => x + y) zero_bits (Finset.sum_congr rfl fun l _ => congrArg₂ (fun x y : EReal => x * y) (hX l) (hW l))).trans (zero_add _)
  have hc : k0_pay542 (F := Ideal) W X0 X1 X2 (ix3 (0 : Fin 1) a b) = k0_pay541 (F := Ideal) W X0 X1 X2 (ix2 a b) := by
    unfold k0_pay542
    pointwise
    try rfl
  rw [hc, ← hm X0, ← hm X1, ← hm X2]
  rfl

theorem rot_rep (W : Vec Ideal S256x256 .bf16) (hW : ∀ l b : Fin 256, W (ix2 l b) = ((wv b l : ℝ) : EReal)) (sg : Fin 4 → Fin 8)
    (g u : Vec Ideal S32x24576 .bf16) (r : Fin 32) (p : Fin 8) (a b : Fin 256) (ha : a.val = 32 * p.val + r.val) :
    Rep (Rot (F := Ideal) W sg (Build.T g u) (ix3 (0 : Fin 1) a b)) (AnyInf (hv g u r))
      (∑ l : Fin 256, (∑ p' : Fin 8, wv p p' * ∑ j : Fin 12, rs sg j * (hv g u r (2048 * j + 256 * p' + l)).toReal) * wv b l) := by
  unfold Rot
  rw [rot_apply]
  have hx : ∀ (q : Fin 3) (l : Fin 256), Xs sg (Build.T g u) q (ix4 (0 : Fin 1) (0 : Fin 1) a l) = part3 (F := Ideal) q (cmb sg (Build.T g u) r l p) := by
    intro q l
    have e1 : (⟨a.val / 32, by omega⟩ : Fin 8) = p := Fin.ext (by show a.val / 32 = p.val; omega)
    have e2 : (⟨a.val % 32, by omega⟩ : Fin 32) = r := Fin.ext (by show a.val % 32 = r.val; omega)
    show XV sg (Build.T g u) q a l = _
    unfold XV cmb
    rw [e1, e2]
  simp only [hx, hW]
  have h0 := fun l => cmb_rep sg g u r l p
  have r0 := Rep.sumAll fun l => (h0 l).mul_coe (wv_ne b l)
  have r1 := Rep.sumAll fun l => (h0 l).parts.1.mul_coe (wv_ne b l)
  have r2 := Rep.sumAll fun l => (h0 l).parts.2.mul_coe (wv_ne b l)
  refine Rep.congr ((r0.add r1).add r2) ?_ (by simp)
  rw [or_self, or_self]
  exact anyInf_iff g u r

end Cert.Proof.Row
-- ==== Proof.RotateInputs.lean ====
/- Hand-written, untrusted. THE KERNEL'S INPUT BLOCKS: the rows of a point, the Walsh matrix and the signs. -/
module

public import proofs.«01_k».proof.Proof.RotateRun
public import proofs.«01_k».proof.Proof.RotateRow

@[expose] public section
set_option maxRecDepth 16384
set_option maxHeartbeats 1000000
noncomputable section
namespace Cert.Proof.Inputs

open Cert.RotateIdeal Cert.RotateIdeal.Gen
open Idealize.ShloMosaic Idealize.ShloMosaic.TcCoe Idealize.ShloMosaic.Tactic
open Cert.Proof.Math
open Cert.Proof.Run (signTab V_signs bitOf negs)
open Cert.Proof.Step (sgn)
open Cert.Proof.Row (rs bs)

variable (m : (ℓ : Loc nD τ sig) → Buf (Elt Ideal) ℓ)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = t.val ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx5 : ∀ t : Fin cfg0.N, win0_5.index t (0 : Fin 2) = t.val ∧ win0_5.index t (1 : Fin 2) = 0 :=
  (by decide +kernel : ∀ t : Fin grid0.N, _)

theorem N_lt (t : Fin cfg0.N) : t.val < 192 := lt_of_lt_of_eq t.isLt N_0

/-- The token of row `r` of point `t`. -/
def tok (t : Fin cfg0.N) (r : Fin 32) : Fin 6144 := ⟨t.val * 32 + r.val, by have := N_lt t; omega⟩

theorem gate_apply (c : Dev nD) (t : Fin cfg0.N) (r : Fin 32) (q : Fin 24576) :
    iblk m c 2 t (ix2 r q) = m ((c : Thread nD τ).loc main_arg0) (ix2 (tok t r) q) := by
  obtain ⟨e0, e1⟩ := idx2 t
  rw [← V_main_arg0 m c]
  refine congrArg (V m c main_arg0) (funext fun a => Fin.ext ?_)
  match a with
  | ⟨0, _⟩ => show win0_2.index t (0 : Fin 2) * 32 + 1 * r.val = t.val * 32 + r.val; omega
  | ⟨1, _⟩ => show win0_2.index t (1 : Fin 2) * 24576 + 1 * q.val = q.val; omega

theorem up_apply (c : Dev nD) (t : Fin cfg0.N) (r : Fin 32) (q : Fin 24576) :
    iblk m c 3 t (ix2 r q) = m ((c : Thread nD τ).loc main_arg1) (ix2 (tok t r) q) := by
  obtain ⟨e0, e1⟩ := idx3 t
  rw [← V_main_arg1 m c]
  refine congrArg (V m c main_arg1) (funext fun a => Fin.ext ?_)
  match a with
  | ⟨0, _⟩ => show win0_3.index t (0 : Fin 2) * 32 + 1 * r.val = t.val * 32 + r.val; omega
  | ⟨1, _⟩ => show win0_3.index t (1 : Fin 2) * 24576 + 1 * q.val = q.val; omega

theorem signs_apply (c : Dev nD) (t : Fin cfg0.N) (k : Fin 12) (g : Fin 4) :
    iblk m c 0 t (ix2 k g) = signTab (m ((c : Thread nD τ).loc main_arg2)) (ix2 k g) := by
  obtain ⟨e0, e1⟩ := idx0 t
  rw [← V_signs m c]
  refine congrArg (V m c main_v15) (funext fun a => Fin.ext ?_)
  match a with
  | ⟨0, _⟩ => show win0_0.index t (0 : Fin 2) * 12 + 1 * k.val = k.val; omega
  | ⟨1, _⟩ => show win0_0.index t (1 : Fin 2) * 4 + 1 * g.val = g.val; omega

/-- The Walsh matrix as the host builds it. -/
def walsh : FVec Ideal S256x256 .bf16 :=
  sitofp .bf16 (subi (broadcastInDim S256x256 ![] bcast_S_S256x256 (constantI S_ 32 1#32)) (muli (broadcastInDim S256x256 ![] bcast_S_S256x256 (constantI S_ 32 2#32)) (andi (ctpop (andi (broadcastInDim S256x256 ![0, 1] bcast_S256x1_S256x256_0_1 (broadcastInDim S256x1 ![0] bcast_S256_S256x1_0 (iotaInDim S256 32 0))) (broadcastInDim S256x256 ![0, 1] bcast_S1x256_S256x256_0_1 (broadcastInDim S1x256 ![1] bcast_S256_S1x256_1 (iotaInDim S256 32 0))))) (broadcastInDim S256x256 ![] bcast_S_S256x256 (constantI S_ 32 1#32)))))

theorem walsh_val (a b : Fin 256) : walsh (ix2 a b) = ((wv a b : ℝ) : EReal) := by
  unfold walsh
  pointwise
  rfl

theorem V_walsh (c : Dev nD) : (V m c main_v29 : FVec Ideal S256x256 .bf16) = walsh := by
  show StableHlo.after hostOps0 (fun b => m (c, b)) (Proc.devRef .tc main_v29) = _
  after_results
  rfl

theorem walsh_apply (c : Dev nD) (t : Fin cfg0.N) (l b : Fin 256) : iblk m c 1 t (ix2 l b) = ((wv b l : ℝ) : EReal) := by
  obtain ⟨e0, e1⟩ := idx1 t
  have e : ((wv b l : ℝ) : EReal) = walsh (ix2 l b) := by rw [walsh_val]; unfold wv; rw [wz_symm]
  rw [e, ← V_walsh m c]
  refine congrArg (V m c main_v29) (funext fun a => Fin.ext ?_)
  match a with
  | ⟨0, _⟩ => show win0_1.index t (0 : Fin 2) * 256 + 1 * l.val = l.val; omega
  | ⟨1, _⟩ => show win0_1.index t (1 : Fin 2) * 256 + 1 * b.val = b.val; omega

/-! ### The sign words -/

/-- Whether a value is below nought, as a bit. -/
def below (x : EReal) : BitVec 1 := FloatOps.cmpf (F := Ideal) (φ := .f32) .olt x (FloatOps.ofBits .f32 0x00000000#32)

theorem below_one : below ((1 : ℝ) : EReal) = 0#1 := by
  unfold below
  show Ideal.cmp .olt _ (Ideal.ofBits .f32 0x00000000#32) = _
  rw [Ideal.ofBits_zero_f32]
  have h : ¬ ((1 : ℝ) : EReal) < 0 := not_lt.mpr (EReal.coe_nonneg.mpr zero_le_one)
  show BitVec.ofBool (decide (((1 : ℝ) : EReal) < 0)) = 0#1
  rw [decide_eq_false h]
  rfl
theorem below_neg : below ((-1 : ℝ) : EReal) = 1#1 := by
  unfold below
  show Ideal.cmp .olt _ (Ideal.ofBits .f32 0x00000000#32) = _
  rw [Ideal.ofBits_zero_f32]; simp [Ideal.cmp]

theorem negs_apply (A : Vec Ideal S12x12 .f32) (k : Fin 12) (g : Fin 4) (i : Fin 3) :
    negs (F := Ideal) A (ix3 k g i) = (below (A (ix2 k (⟨3 * g.val + i.val, by omega⟩ : Fin 12)))).setWidth 32 := by
  unfold negs
  refine (shapeCast_apply _ shapeCasts_S12x12_S12x4x3 (ix3 k g i) (ix2 k (⟨3 * g.val + i.val, by omega⟩ : Fin 12)) ?_).trans rfl
  rw [Shape.rowMajor_val_two, Shape.rowMajor_val_three]
  show k.val * 12 + (3 * g.val + i.val) = (k.val * 4 + g.val) * 3 + i.val
  omega

theorem word_bits : ∀ a b d : BitVec 1,
    ((a.setWidth 32 * 4#32 + b.setWidth 32 * 2#32 + d.setWidth 32).toNat / 4 % 2 = 1 ↔ a = 1#1)
    ∧ ((a.setWidth 32 * 4#32 + b.setWidth 32 * 2#32 + d.setWidth 32).toNat / 2 % 2 = 1 ↔ b = 1#1)
    ∧ ((a.setWidth 32 * 4#32 + b.setWidth 32 * 2#32 + d.setWidth 32).toNat / 1 % 2 = 1 ↔ d = 1#1) := by decide

/-- The kernel's sign of an entry is the entry, when the entry is 1 or −1. -/
theorem rs_eq (c : Dev nD) (t : Fin cfg0.N) (k j : Fin 12) (hS : _)
    (h : m ((c : Thread nD τ).loc main_arg2) (ix2 k j) = ((1 : ℝ) : EReal) ∨ m ((c : Thread nD τ).loc main_arg2) (ix2 k j) = ((-1 : ℝ) : EReal)) :
    m ((c : Thread nD τ).loc main_arg2) (ix2 k j) = ((rs (sgn (F := Ideal) (iblk m c 0 t) hS k.val) j.val : ℝ) : EReal)
      ∧ rs (sgn (F := Ideal) (iblk m c 0 t) hS k.val) j.val ≠ 0 := by
  have hg : (⟨j.val / 3 % 4, by omega⟩ : Fin 4) = ⟨j.val / 3, by omega⟩ := Fin.ext (by show j.val / 3 % 4 = j.val / 3; omega)
  have hk : (⟨k.val % 12, Nat.mod_lt _ (by decide)⟩ : Fin 12) = k := Fin.ext (Nat.mod_eq_of_lt k.isLt)
  have hw : (sgn (F := Ideal) (iblk m c 0 t) hS k.val ⟨j.val / 3 % 4, by omega⟩).val
      = ((below (m ((c : Thread nD τ).loc main_arg2) (ix2 k (⟨3 * (j.val / 3) + 0, by omega⟩ : Fin 12)))).setWidth 32 * 4#32
        + (below (m ((c : Thread nD τ).loc main_arg2) (ix2 k (⟨3 * (j.val / 3) + 1, by omega⟩ : Fin 12)))).setWidth 32 * 2#32
        + (below (m ((c : Thread nD τ).loc main_arg2) (ix2 k (⟨3 * (j.val / 3) + 2, by omega⟩ : Fin 12)))).setWidth 32).toNat := by
    rw [hg]
    show BitVec.toNat (w := 32) (iblk m c 0 t (ix2 (⟨k.val % 12, Nat.mod_lt _ (by decide)⟩ : Fin 12) (⟨j.val / 3, by omega⟩ : Fin 4))) = _
    rw [hk, signs_apply]
    refine congrArg BitVec.toNat ?_
    show negs (F := Ideal) (m ((c : Thread nD τ).loc main_arg2)) (ix3 k (⟨j.val / 3, by omega⟩ : Fin 4) (0 : Fin 3)) * 4#32
      + negs (F := Ideal) (m ((c : Thread nD τ).loc main_arg2)) (ix3 k (⟨j.val / 3, by omega⟩ : Fin 4) (1 : Fin 3)) * 2#32
      + negs (F := Ideal) (m ((c : Thread nD τ).loc main_arg2)) (ix3 k (⟨j.val / 3, by omega⟩ : Fin 4) (2 : Fin 3)) = _
    rw [negs_apply, negs_apply, negs_apply]
    rfl
  have hb : ∃ d, rs (sgn (F := Ideal) (iblk m c 0 t) hS k.val) j.val = (if (sgn (F := Ideal) (iblk m c 0 t) hS k.val ⟨j.val / 3 % 4, by omega⟩).val / d % 2 = 1 then -1 else 1)
      ∧ ((sgn (F := Ideal) (iblk m c 0 t) hS k.val ⟨j.val / 3 % 4, by omega⟩).val / d % 2 = 1 ↔ below (m ((c : Thread nD τ).loc main_arg2) (ix2 k j)) = 1#1) := by
    have w := word_bits (below (m ((c : Thread nD τ).loc main_arg2) (ix2 k (⟨3 * (j.val / 3) + 0, by omega⟩ : Fin 12))))
      (below (m ((c : Thread nD τ).loc main_arg2) (ix2 k (⟨3 * (j.val / 3) + 1, by omega⟩ : Fin 12))))
      (below (m ((c : Thread nD τ).loc main_arg2) (ix2 k (⟨3 * (j.val / 3) + 2, by omega⟩ : Fin 12))))
    rw [← hw] at w
    obtain ⟨w0, w1, w2⟩ := w
    have h3 : j.val % 3 = 0 ∨ j.val % 3 = 1 ∨ j.val % 3 = 2 := by omega
    rcases h3 with e | e | e
    · refine ⟨4, by unfold rs bs; rw [if_pos e], ?_⟩
      rwa [show (⟨3 * (j.val / 3) + 0, by omega⟩ : Fin 12) = j from Fin.ext (by show 3 * (j.val / 3) + 0 = j.val; omega)] at w0
    · refine ⟨2, by unfold rs bs; rw [if_neg (show ¬ j.val % 3 = 0 by omega), if_pos e], ?_⟩
      rwa [show (⟨3 * (j.val / 3) + 1, by omega⟩ : Fin 12) = j from Fin.ext (by show 3 * (j.val / 3) + 1 = j.val; omega)] at w1
    · refine ⟨1, by unfold rs bs; rw [if_neg (show ¬ j.val % 3 = 0 by omega), if_neg (show ¬ j.val % 3 = 1 by omega)], ?_⟩
      rwa [show (⟨3 * (j.val / 3) + 2, by omega⟩ : Fin 12) = j from Fin.ext (by show 3 * (j.val / 3) + 2 = j.val; omega)] at w2
  obtain ⟨d, e1, e2⟩ := hb
  rw [e1]
  rcases h with h | h
  · rw [if_neg (by rw [e2, h, below_one]; decide), h]; exact ⟨rfl, one_ne_zero⟩
  · rw [if_pos (by rw [e2, h, below_neg]), h]; exact ⟨rfl, by norm_num⟩

end Cert.Proof.Inputs

end
-- ==== Proof.RotateMax.lean ====
/- Hand-written, untrusted. THE KERNEL'S MAXIMUM: the running maximum after all rows bounds every rotated value's magnitude and is one of them. -/
module

public import proofs.«01_k».proof.Proof.RotateCodes
public import proofs.«01_k».proof.Proof.RotateRow

@[expose] public section
set_option maxRecDepth 16384
set_option maxHeartbeats 2000000
noncomputable section
namespace Cert.Proof.Top

open Cert.RotateIdeal Cert.RotateIdeal.Gen
open Idealize.ShloMosaic Idealize.ShloMosaic.TcCoe Idealize.ShloMosaic.Tactic
open Cert.Proof.Math
open Cert.Proof.Step (Xs Rot bump Mx sgn)

/-- A value joined with eight others, one after the other. -/
def max8 (m : EReal) (x : Fin 8 → EReal) : EReal :=
  max (max (max (max (max (max (max (max m (x 0)) (x 1)) (x 2)) (x 3)) (x 4)) (x 5)) (x 6)) (x 7)

theorem max8_base (m : EReal) (x : Fin 8 → EReal) : m ≤ max8 m x := by simp [max8]
theorem max8_le (m : EReal) (x : Fin 8 → EReal) (p : Fin 8) : x p ≤ max8 m x := by
  fin_cases p <;> simp [max8]
theorem max8_mem (m : EReal) (x : Fin 8 → EReal) : max8 m x = m ∨ ∃ p, max8 m x = x p := by
  unfold max8
  rcases max_choice (max (max (max (max (max (max (max m (x 0)) (x 1)) (x 2)) (x 3)) (x 4)) (x 5)) (x 6)) (x 7) with h | h <;> rw [h]
  swap; · exact .inr ⟨7, rfl⟩
  rcases max_choice (max (max (max (max (max (max m (x 0)) (x 1)) (x 2)) (x 3)) (x 4)) (x 5)) (x 6) with h | h <;> rw [h]
  swap; · exact .inr ⟨6, rfl⟩
  rcases max_choice (max (max (max (max (max m (x 0)) (x 1)) (x 2)) (x 3)) (x 4)) (x 5) with h | h <;> rw [h]
  swap; · exact .inr ⟨5, rfl⟩
  rcases max_choice (max (max (max (max m (x 0)) (x 1)) (x 2)) (x 3)) (x 4) with h | h <;> rw [h]
  swap; · exact .inr ⟨4, rfl⟩
  rcases max_choice (max (max (max m (x 0)) (x 1)) (x 2)) (x 3) with h | h <;> rw [h]
  swap; · exact .inr ⟨3, rfl⟩
  rcases max_choice (max (max m (x 0)) (x 1)) (x 2) with h | h <;> rw [h]
  swap; · exact .inr ⟨2, rfl⟩
  rcases max_choice (max m (x 0)) (x 1) with h | h <;> rw [h]
  swap; · exact .inr ⟨1, rfl⟩
  rcases max_choice m (x 0) with h | h <;> rw [h]
  · exact .inl rfl
  · exact .inr ⟨0, rfl⟩

theorem bump_form (R : FVec Ideal S256x256 .f32) (m : FVec Ideal S32x256 .f32) (r : Fin 32) (b : Fin 256) :
    maximumf (maximumf (maximumf (maximumf (maximumf (maximumf (maximumf (maximumf m
      (absf (extractStridedSlice S32x256 ![0, 0] R slices_S256x256_o0_0_S32x256)))
      (absf (extractStridedSlice S32x256 ![32, 0] R slices_S256x256_o32_0_S32x256)))
      (absf (extractStridedSlice S32x256 ![64, 0] R slices_S256x256_o64_0_S32x256)))
      (absf (extractStridedSlice S32x256 ![96, 0] R slices_S256x256_o96_0_S32x256)))
      (absf (extractStridedSlice S32x256 ![128, 0] R slices_S256x256_o128_0_S32x256)))
      (absf (extractStridedSlice S32x256 ![160, 0] R slices_S256x256_o160_0_S32x256)))
      (absf (extractStridedSlice S32x256 ![192, 0] R slices_S256x256_o192_0_S32x256)))
      (absf (extractStridedSlice S32x256 ![224, 0] R slices_S256x256_o224_0_S32x256)) (ix2 r b)
    = max8 (m (ix2 r b)) fun p => mag (R (ix2 (⟨32 * p.val + r.val, by omega⟩ : Fin 256) b)) := by
  pointwise
  have h0 : (⟨r.val, by omega⟩ : Fin 256) = ⟨32 * (0 : Fin 8).val + r.val, by omega⟩ := Fin.ext (by show r.val = 32 * 0 + r.val; omega)
  rw [h0]
  rfl

theorem rot_flat (W : Vec Ideal S256x256 .bf16) (sg : Fin 4 → Fin 8) (T : Vec Ideal S4x8x8x2x32x128 .f32) (a b : Fin 256) :
    Rot (F := Ideal) W sg T (ix3 (0 : Fin 1) a b) = k0_pay541 W (Xs sg T 0) (Xs sg T 1) (Xs sg T 2) (ix2 a b) := by
  unfold Rot k0_pay542
  pointwise
  try rfl

theorem bump_apply (W : Vec Ideal S256x256 .bf16) (sg : Fin 4 → Fin 8) (T : Vec Ideal S4x8x8x2x32x128 .f32) (m : FVec Ideal S32x256 .f32) (r : Fin 32) (b : Fin 256) :
    bump (F := Ideal) W sg T m (ix2 r b) = max8 (m (ix2 r b)) fun p => mag (Rot (F := Ideal) W sg T (ix3 (0 : Fin 1) (⟨32 * p.val + r.val, by omega⟩ : Fin 256) b)) := by
  simp only [rot_flat]
  rw [← bump_form]
  unfold bump k0_pay944
  rw [shapeCast_self]
  rfl

theorem mx_spec (W : Vec Ideal S256x256 .bf16) (S : Vec Ideal S12x4 .i32) (hS : ∀ j, BitVec.toNat (w := 32) (S j) ≤ 7) (T : Vec Ideal S4x8x8x2x32x128 .f32) (r : Fin 32) (b : Fin 256) (n : ℕ) :
    (0 : EReal) ≤ Mx (F := Ideal) W S hS T n (ix2 r b)
    ∧ (∀ k, k < n → ∀ p : Fin 8, mag (Rot (F := Ideal) W (sgn S hS k) T (ix3 (0 : Fin 1) (⟨32 * p.val + r.val, by omega⟩ : Fin 256) b)) ≤ Mx (F := Ideal) W S hS T n (ix2 r b))
    ∧ (Mx (F := Ideal) W S hS T n (ix2 r b) = (0 : EReal) ∨ ∃ k, k < n ∧ ∃ p : Fin 8, Mx (F := Ideal) W S hS T n (ix2 r b) = mag (Rot (F := Ideal) W (sgn S hS k) T (ix3 (0 : Fin 1) (⟨32 * p.val + r.val, by omega⟩ : Fin 256) b))) := by
  induction n with
  | zero =>
    have e : Mx (F := Ideal) W S hS T 0 (ix2 r b) = (0 : EReal) := by
      show k0_pay556 (F := Ideal) (ix2 r b) = _
      unfold k0_pay556
      rw [shapeCast_self]
      exact Row.zero_bits
    exact ⟨e.ge, fun k h => absurd h (Nat.not_lt_zero k), .inl e⟩
  | succ n ih =>
    have e : Mx (F := Ideal) W S hS T (n + 1) (ix2 r b) = _ := bump_apply W (sgn S hS n) T (Mx W S hS T n) r b
    rw [e]
    obtain ⟨h0, h1, h2⟩ := ih
    refine ⟨h0.trans (max8_base _ _), fun k hk p => ?_, ?_⟩
    · rcases Nat.lt_succ_iff_lt_or_eq.mp hk with h | rfl
      · exact (h1 k h p).trans (max8_base _ _)
      · exact max8_le _ (fun p : Fin 8 => mag (Rot (F := Ideal) W (sgn S hS k) T (ix3 (0 : Fin 1) (⟨32 * p.val + r.val, by omega⟩ : Fin 256) b))) p
    · rcases max8_mem (Mx (F := Ideal) W S hS T n (ix2 r b)) (fun p => mag (Rot (F := Ideal) W (sgn S hS n) T (ix3 (0 : Fin 1) (⟨32 * p.val + r.val, by omega⟩ : Fin 256) b))) with h | ⟨p, h⟩
      · rw [h]
        exact h2.imp id fun ⟨k, hk, p, hp⟩ => ⟨k, by omega, p, hp⟩
      · exact .inr ⟨n, by omega, p, h⟩

end Cert.Proof.Top

end
-- ==== Proof.QuantMath.lean ====
/- Hand-written, untrusted. THE QUANTISER AT THE IDEAL VALUES: maxima by folding, the scale, and a code by either order of the products. -/
module

public import proofs.«01_k».proof.Proof.RotateMath
public import Idealize.ShloMosaic.Lib.IdealHost

@[expose] public section
set_option maxHeartbeats 1000000
noncomputable section
namespace Cert.Proof.Math

open Idealize.ShloMosaic

/-- A maximum folded from below is the greatest of the values. -/
theorem fold_mx {n : ℕ} (f : Fin (n + 1) → EReal) : IsMx (Finset.univ.fold max ⊥ f) f := by
  have e : Finset.univ.fold max ⊥ f = Finset.univ.sup f := rfl
  rw [e]
  refine ⟨fun i => Finset.le_sup (Finset.mem_univ i), ?_⟩
  obtain ⟨i, -, h⟩ := Finset.exists_mem_eq_sup Finset.univ ⟨0, Finset.mem_univ _⟩ f
  exact ⟨i, h⟩

theorem bits_bot : Ideal.ofBits .f32 0xFF800000#32 = (⊥ : EReal) := by
  simp [Ideal.ofBits, Ideal.ieee]

theorem bits_seven : Ideal.ofBits .f32 0x40E00000#32 = ((7 : ℝ) : EReal) := by
  simp [Ideal.ofBits, Ideal.ieee, -EReal.coe_mul]; norm_num

theorem bits_neg_seven : Ideal.ofBits .f32 0xC0E00000#32 = ((-7 : ℝ) : EReal) := by
  simp [Ideal.ofBits, Ideal.ieee, -EReal.coe_mul, -EReal.coe_neg]; norm_num

/-- The rotation's constant is a positive real. -/
theorem bits_norm : ∃ k : ℝ, 0 < k ∧ Ideal.ofBits .f32 0x3BD105EC#32 = (k : EReal) := by
  refine ⟨?_, ?_, ?e⟩
  case e => simp [Ideal.ofBits, Ideal.ieee, -EReal.coe_mul]; exact rfl
  norm_num

/-- The scale of a token from its maximum. -/
def sc (a : EReal) : EReal := if a = 0 then 1 else Ideal.div a ((7 : ℝ) : EReal)

theorem sc_ne (a : EReal) : sc a ≠ 0 := by
  unfold sc
  split
  · exact one_ne_zero
  · rename_i h
    rw [Ideal.div_coe (by norm_num)]
    refine mul_ne_zero h ?_
    exact_mod_cast (by norm_num : (1 / 7 : ℝ) ≠ 0)

theorem sc_top : sc ⊤ = ⊤ := by
  unfold sc
  rw [if_neg (by simp), Ideal.div_coe (by norm_num)]
  exact EReal.top_mul_coe_of_pos (by norm_num)

/-- A value scaled: by the constant over the scale, or by the constant and then over the scale. -/
theorem scaled_eq {v x : EReal} {p : Prop} {r : ℝ} (hv : Rep v p r) (hx : Rep x p r) (K a : EReal) (hp : p → a = ⊤) :
    v * Ideal.div K (sc a) = Ideal.div (x * K) (sc a) := by
  by_cases h : p
  · rw [hp h, sc_top]
    simp [Ideal.div]
  · rw [hv.2 h, hx.2 h]
    unfold Ideal.div
    rw [if_neg (sc_ne a), if_neg (sc_ne a), mul_assoc]

theorem narrow (t : ℤ) (h : -7 ≤ t) (h' : t ≤ 7) : BitVec.ofInt 8 t = (BitVec.ofInt 32 t).setWidth 8 := by
  obtain ⟨n, rfl⟩ : ∃ n : Fin 15, t = (n.val : ℤ) - 7 := ⟨⟨(t + 7).toNat, by omega⟩, by show t = ((t + 7).toNat : ℤ) - 7; omega⟩
  revert n; decide

/-- A clipped value's code is the same through the wide whole number. -/
theorem clip_code (y : EReal) : Ideal.fptosi 8 (min ((7 : ℝ) : EReal) (max ((-7 : ℝ) : EReal) y))
    = (Ideal.fptosi 32 (min ((7 : ℝ) : EReal) (max ((-7 : ℝ) : EReal) y))).setWidth 8 := by
  obtain ⟨r, h1, h2, e⟩ : ∃ r : ℝ, -7 ≤ r ∧ r ≤ 7 ∧ min ((7 : ℝ) : EReal) (max ((-7 : ℝ) : EReal) y) = (r : EReal) := by
    induction y with
    | bot => exact ⟨-7, le_rfl, by norm_num, by rw [max_eq_left bot_le]; exact min_eq_right (by exact_mod_cast (by norm_num : (-7 : ℝ) ≤ 7))⟩
    | top => exact ⟨7, by norm_num, le_rfl, by rw [max_eq_right le_top]; exact min_eq_left le_top⟩
    | coe y =>
      refine ⟨min 7 (max (-7) y), le_min (by norm_num) (le_max_left _ _), min_le_left _ _, ?_⟩
      rw [EReal.coe_strictMono.monotone.map_min, EReal.coe_strictMono.monotone.map_max]
  rw [e]
  have hb : -7 ≤ (if 0 ≤ r then ⌊r⌋ else ⌈r⌉) ∧ (if 0 ≤ r then ⌊r⌋ else ⌈r⌉) ≤ (7 : ℤ) := by
    split
    · exact ⟨Int.le_floor.2 (by push_cast; linarith), by have : (⌊r⌋ : ℝ) ≤ 7 := (Int.floor_le r).trans h2; exact_mod_cast this⟩
    · exact ⟨by have : (-7 : ℝ) ≤ (⌈r⌉ : ℝ) := h1.trans (Int.le_ceil r); exact_mod_cast this, Int.ceil_le.2 (by push_cast; linarith)⟩
  unfold Ideal.fptosi
  rw [Ideal.toIntClamped_coe, Ideal.toIntClamped_coe]
  generalize (if 0 ≤ r then ⌊r⌋ else ⌈r⌉) = t at hb ⊢
  obtain ⟨ha, hc⟩ := hb
  rw [show max (-((2 ^ (8 - 1) : ℕ) : ℤ)) (min (((2 ^ (8 - 1) : ℕ) : ℤ) - 1) t) = t by norm_num; omega,
    show max (-((2 ^ (32 - 1) : ℕ) : ℤ)) (min (((2 ^ (32 - 1) : ℕ) : ℤ) - 1) t) = t by norm_num; omega]
  exact narrow t ha hc

end Cert.Proof.Math

end
-- ==== Proof.RotateOut.lean ====
/- Hand-written, untrusted. THE KERNEL'S TWO BLOCKS AT AN INDEX: a row's scale from its greatest magnitude, a code from the rotated value and the scale. -/
module

public import proofs.«01_k».proof.Proof.RotateMax
public import proofs.«01_k».proof.Proof.QuantMath

@[expose] public section
set_option maxRecDepth 16384
set_option maxHeartbeats 1000000
noncomputable section
namespace Cert.Proof.Top

open Cert.RotateIdeal Cert.RotateIdeal.Gen
open Idealize.ShloMosaic Idealize.ShloMosaic.TcCoe Idealize.ShloMosaic.Tactic
open Cert.Proof.Math
open Cert.Proof.Body (codesVal scaleVal maxOf rowsOf code codesOf)
open Cert.Proof.Step (Xs Rot bump Mx sgn)

/-- The rotation's constant. -/
abbrev K : EReal := Ideal.ofBits .f32 0x3BD105EC#32

/-- The greatest of a row's maxima, lane by lane. -/
theorem lanes (M : Vec Ideal S32x256 .f32) (r : Fin 32) :
    ∃ N : EReal, IsMx N (fun b : Fin 256 => M (ix2 r b)) ∧ k0_pay950 (F := Ideal) M (ix2 r (0 : Fin 1)) = N * K := by
  refine ⟨Finset.univ.fold max ⊥ fun b : Fin 256 => (M (ix2 r b) : EReal), fold_mx (n := 255) _, ?_⟩
  rw [← bits_bot]
  unfold k0_pay950
  pointwise
  try rfl

theorem pay1_apply (M : Vec Ideal S32x256 .f32) (r : Fin 32) :
    k0_pay1 (F := Ideal) (k0_pay950 M) (k0_pay951 M) (ix2 r (0 : Fin 1)) = sc (k0_pay950 (F := Ideal) M (ix2 r (0 : Fin 1))) := by
  have e : k0_pay1 (F := Ideal) (k0_pay950 M) (k0_pay951 M) (ix2 r (0 : Fin 1))
      = if Ideal.cmp .oeq (k0_pay950 (F := Ideal) M (ix2 r (0 : Fin 1))) (Ideal.ofBits .f32 0x00000000#32) = 1#1 then Ideal.ofBits .f32 0x3F800000#32
        else Ideal.div (k0_pay950 (F := Ideal) M (ix2 r (0 : Fin 1))) (Ideal.ofBits .f32 0x40E00000#32) := by
    unfold k0_pay1 k0_pay951
    rfl
  rw [e, Ideal.ofBits_zero_f32, Ideal.ofBits_one_f32, bits_seven]
  unfold sc
  generalize k0_pay950 (F := Ideal) M (ix2 r (0 : Fin 1)) = z
  by_cases h : z = (0 : EReal)
  · rw [if_pos h, if_pos]; simp [Ideal.cmp, h]
  · rw [if_neg h, if_neg]; simp [Ideal.cmp, h]

theorem pay3_apply (M : Vec Ideal S32x256 .f32) (r : Fin 32) (l : Fin 128) :
    k0_pay3 (F := Ideal) (k0_pay950 M) (k0_pay951 M) (ix2 r l) = sc (k0_pay950 (F := Ideal) M (ix2 r (0 : Fin 1))) := by
  rw [← pay1_apply]
  unfold k0_pay3
  generalize k0_pay1 (F := Ideal) (k0_pay950 M) (k0_pay951 M) = z
  pointwise
  try rfl

theorem pay2_apply (M : Vec Ideal S32x256 .f32) (r : Fin 32) (b : Fin 256) :
    k0_pay2 (F := Ideal) (k0_pay950 M) (k0_pay951 M) (ix2 r b) = Ideal.div K (sc (k0_pay950 (F := Ideal) M (ix2 r (0 : Fin 1)))) := by
  rw [← pay1_apply]
  unfold k0_pay2
  generalize k0_pay1 (F := Ideal) (k0_pay950 M) (k0_pay951 M) = z
  pointwise
  split <;> rfl

theorem code_eq (inv v : EReal) : code (F := Ideal) inv v
    = Ideal.fptosi 8 (min ((7 : ℝ) : EReal) (max ((-7 : ℝ) : EReal) (Ideal.liftRound Ideal.roundHalfEven (v * inv)))) := by
  rw [← bits_seven, ← bits_neg_seven]
  rfl

variable (W : Vec Ideal S256x256 .bf16) (S : Vec Ideal S12x4 .i32) (hS : ∀ j, BitVec.toNat (w := 32) (S j) ≤ 7) (g u : Vec Ideal S32x24576 .bf16)

/-- The rotated value of row `r` at column `n`. -/
def kv (r : Fin 32) (n : Fin 24576) : EReal :=
  Rot (F := Ideal) W (sgn S hS (n.val / 2048)) (Build.T g u) (ix3 (0 : Fin 1) (⟨32 * (n.val % 2048 / 256) + r.val, by omega⟩ : Fin 256) (⟨n.val % 256, by omega⟩ : Fin 256))

/-- Row `r`'s greatest magnitude, times the constant. -/
def top (r : Fin 32) : EReal := k0_pay950 (F := Ideal) (maxOf (F := Ideal) W S hS g u) (ix2 r (0 : Fin 1))

theorem scale_val (r : Fin 32) (l : Fin 128) : scaleVal (F := Ideal) W S hS g u (ix2 r l) = sc (top W S hS g u r) := pay3_apply _ r l

theorem codes_val (r : Fin 32) (n : Fin 24576) : codesVal (F := Ideal) W S hS g u (ix2 r n)
    = Ideal.fptosi 8 (min ((7 : ℝ) : EReal) (max ((-7 : ℝ) : EReal) (Ideal.liftRound Ideal.roundHalfEven (kv W S hS g u r n * Ideal.div K (sc (top W S hS g u r)))))) := by
  unfold codesVal codesOf
  exact (congrArg₂ (code (F := Ideal)) (pay2_apply _ r _) (rfl : _ = kv W S hS g u r n)).trans (code_eq _ _)

theorem top_mx (r : Fin 32) : ∃ N : EReal, IsMx N (fun n : Fin 24576 => mag (kv W S hS g u r n)) ∧ top W S hS g u r = N * K := by
  obtain ⟨N, ⟨h1, b, hb⟩, e⟩ := lanes (maxOf (F := Ideal) W S hS g u) r
  refine ⟨N, ⟨fun n => ?_, ?_⟩, e⟩
  · have h := (mx_spec W S hS (Build.T g u) r (⟨n.val % 256, by omega⟩ : Fin 256) 12).2.1 (n.val / 2048) (by omega) (⟨n.val % 2048 / 256, by omega⟩ : Fin 8)
    exact h.trans (h1 _)
  · obtain ⟨h0, hle, hm⟩ := mx_spec W S hS (Build.T g u) r b 12
    have hat : ∀ (k : ℕ) (hk : k < 12) (p : Fin 8), kv W S hS g u r (⟨2048 * k + 256 * p.val + b.val, by omega⟩ : Fin 24576)
        = Rot (F := Ideal) W (sgn S hS k) (Build.T g u) (ix3 (0 : Fin 1) (⟨32 * p.val + r.val, by omega⟩ : Fin 256) b) := by
      intro k hk p
      unfold kv
      have e1 : (2048 * k + 256 * p.val + b.val) / 2048 = k := by omega
      have e2 : (⟨32 * ((2048 * k + 256 * p.val + b.val) % 2048 / 256) + r.val, by omega⟩ : Fin 256) = ⟨32 * p.val + r.val, by omega⟩ := Fin.ext (by
        show 32 * ((2048 * k + 256 * p.val + b.val) % 2048 / 256) + r.val = 32 * p.val + r.val; omega)
      have e3 : (⟨(2048 * k + 256 * p.val + b.val) % 256, by omega⟩ : Fin 256) = b := Fin.ext (by
        show (2048 * k + 256 * p.val + b.val) % 256 = b.val; omega)
      rw [e1, e2, e3]
    rcases hm with hm | ⟨k, hk, p, hm⟩
    · refine ⟨⟨2048 * 0 + 256 * (0 : Fin 8).val + b.val, by show 2048 * 0 + 256 * 0 + b.val < 24576; omega⟩, ?_⟩
      refine Eq.trans ?_ (congrArg mag (hat 0 (by decide) 0)).symm
      refine hb.trans (hm.trans (le_antisymm (mag_nonneg _) ?_))
      exact (hle 0 (by decide) 0).trans hm.le
    · refine ⟨⟨2048 * k + 256 * p.val + b.val, by omega⟩, ?_⟩
      refine Eq.trans ?_ (congrArg mag (hat k hk p)).symm
      exact hb.trans hm

end Cert.Proof.Top

end
-- ==== Proof.RotationRow.lean ====
/- Hand-written, untrusted. THE REFERENCE'S ROTATED ROW AT AN INDEX. -/
module

public import proofs.«01_k».proof.Proof.Gen.RotationIdeal.Run
public import proofs.«01_k».proof.Proof.RotateMath
public import Idealize.ShloMosaic.Lib.IdealHost
public import Idealize.ShloMosaic.Lib.MatmulPlain
public import Idealize.ShloMosaic.Lib.StackMember
public import Idealize.ShloMosaic.Lib.Pointwise
public import Idealize.ShloMosaic.Lib.Pipeline.Value

@[expose] public section
set_option maxRecDepth 16384
set_option maxHeartbeats 1000000
noncomputable section
namespace Cert.Proof.Ref

open Cert.RotationIdeal Cert.RotationIdeal.Gen
open Idealize.ShloMosaic Idealize.ShloMosaic.TcCoe Idealize.ShloMosaic.Tactic
open Cert.Proof.Math

/-- The gated values. -/
def Hs (A B : FVec Ideal S6144x24576 .bf16) : FVec Ideal S6144x24576 .f32 :=
  mulf (mulf (extf .f32 A bitsLt_bf16_f32) (Host.divf (broadcastInDim S6144x24576 ![] bcast_S_S6144x24576 (constant S_ .f32 0x3F800000#32))
    (addf (broadcastInDim S6144x24576 ![] bcast_S_S6144x24576 (constant S_ .f32 0x3F800000#32)) (Host.exp (Host.negf (extf .f32 A bitsLt_bf16_f32))))))
    (extf .f32 B bitsLt_bf16_f32)

/-- The near Walsh matrix. -/
def w64 : FVec Ideal S64x64 .f32 :=
  sitofp .f32 (subi (broadcastInDim S64x64 ![] bcast_S_S64x64 (constantI S_ 32 1#32)) (muli (broadcastInDim S64x64 ![] bcast_S_S64x64 (constantI S_ 32 2#32)) (andi (ctpop (andi (broadcastInDim S64x64 ![0, 1] bcast_S64x1_S64x64_0_1 (broadcastInDim S64x1 ![0] bcast_S64_S64x1_0 (iotaInDim S64 32 0))) (broadcastInDim S64x64 ![0, 1] bcast_S1x64_S64x64_0_1 (broadcastInDim S1x64 ![1] bcast_S64_S1x64_1 (iotaInDim S64 32 0))))) (broadcastInDim S64x64 ![] bcast_S_S64x64 (constantI S_ 32 1#32)))))

/-- The far Walsh matrix. -/
def w32 : FVec Ideal S32x32 .f32 :=
  sitofp .f32 (subi (broadcastInDim S32x32 ![] bcast_S_S32x32 (constantI S_ 32 1#32)) (muli (broadcastInDim S32x32 ![] bcast_S_S32x32 (constantI S_ 32 2#32)) (andi (ctpop (andi (broadcastInDim S32x32 ![0, 1] bcast_S32x1_S32x32_0_1 (broadcastInDim S32x1 ![0] bcast_S32_S32x1_0 (iotaInDim S32 32 0))) (broadcastInDim S32x32 ![0, 1] bcast_S1x32_S32x32_0_1 (broadcastInDim S1x32 ![1] bcast_S32_S1x32_1 (iotaInDim S32 32 0))))) (broadcastInDim S32x32 ![] bcast_S_S32x32 (constantI S_ 32 1#32)))))

/-- The far rotation: the given matrix and the far Walsh matrix, by the Kronecker product. -/
def far (A : FVec Ideal S12x12 .f32) : FVec Ideal S384x384 .f32 :=
  shapeCast _ (mulf (broadcastInDim S12x32x12x32 ![0, 1, 2, 3] bcast_S12x1x12x1_S12x32x12x32_0_1_2_3 (broadcastInDim S12x1x12x1 ![0, 2] bcast_S12x12_S12x1x12x1_0_2 A))
    (broadcastInDim S12x32x12x32 ![0, 1, 2, 3] bcast_S1x32x1x32_S12x32x12x32_0_1_2_3 (broadcastInDim S1x32x1x32 ![1, 3] bcast_S32x32_S1x32x1x32_1_3 w32))) shapeCasts_S12x32x12x32_S384x384

/-- The near rotation of the gated values. -/
def near (A B : FVec Ideal S6144x24576 .bf16) : FVec Ideal S6144x384x64 .f32 :=
  Host.dotGeneral dot_S6144x384x64_S64x64_S6144x384x64_2_1_01_0_n_n (some .fp32) (shapeCast _ (Hs A B) shapeCasts_S6144x24576_S6144x384x64 : FVec Ideal S6144x384x64 .f32) w64

/-- The rotated values, times the constant. -/
def rn (A B : FVec Ideal S6144x24576 .bf16) (C : FVec Ideal S12x12 .f32) : FVec Ideal S6144x24576 .f32 :=
  shapeCast _ (mulf (transpose S6144x384x64 [0, 2, 1] (Host.dotGeneral dot_S6144x384x64_S384x384_S6144x64x384_1_1_02_0_n_n (some .fp32) (near A B) (far C)) transposes_S6144x64x384_S6144x384x64_0_2_1)
    (broadcastInDim S6144x384x64 ![] bcast_S_S6144x384x64 (constant S_ .f32 0x3BD105EC#32))) shapeCasts_S6144x384x64_S6144x24576

theorem w64_apply (a b : Fin 64) : w64 (ix2 a b) = ((wv a b : ℝ) : EReal) := by
  unfold w64
  pointwise
  rfl

theorem w32_apply (a b : Fin 32) : w32 (ix2 a b) = ((wv a b : ℝ) : EReal) := by
  unfold w32
  pointwise
  rfl

/-- A gated value. -/
def gv (a b : EReal) : EReal := a * Ideal.div 1 (1 + Ideal.exp (-a)) * b

theorem Hs_apply (A B : FVec Ideal S6144x24576 .bf16) (s : Fin 6144) (n : Fin 24576) : Hs A B (ix2 s n) = gv (A (ix2 s n)) (B (ix2 s n)) := by
  have e : (FloatOps.ofBits .f32 0x3F800000#32 : Ideal .f32) = (1 : EReal) := Ideal.ofBits_one_f32
  show (A (ix2 s n) * Ideal.div (FloatOps.ofBits .f32 0x3F800000#32 : Ideal .f32) ((FloatOps.ofBits .f32 0x3F800000#32 : Ideal .f32) + Ideal.exp (-(A (ix2 s n)))) * B (ix2 s n) : EReal) = _
  rw [e]; rfl

theorem far_apply (C : FVec Ideal S12x12 .f32) (n m : Fin 384) :
    far C (ix2 n m) = (C (ix2 (⟨n.val / 32, by omega⟩ : Fin 12) (⟨m.val / 32, by omega⟩ : Fin 12)) : EReal) * ((wv (n.val % 32) (m.val % 32) : ℝ) : EReal) := by
  have e := w32_apply (⟨n.val % 32, by omega⟩ : Fin 32) (⟨m.val % 32, by omega⟩ : Fin 32)
  refine Eq.trans ?_ (congrArg (fun z : EReal => (C (ix2 (⟨n.val / 32, by omega⟩ : Fin 12) (⟨m.val / 32, by omega⟩ : Fin 12)) : EReal) * z) e)
  unfold far
  refine (shapeCast_apply _ shapeCasts_S12x32x12x32_S384x384 (ix2 n m) (ix4 (⟨n.val / 32, by omega⟩ : Fin 12) (⟨n.val % 32, by omega⟩ : Fin 32) (⟨m.val / 32, by omega⟩ : Fin 12) (⟨m.val % 32, by omega⟩ : Fin 32)) ?_).trans ?_
  · rw [Shape.rowMajor_val_four, Shape.rowMajor_val_two]
    show ((n.val / 32 * 32 + n.val % 32) * 12 + m.val / 32) * 32 + m.val % 32 = n.val * 384 + m.val
    omega
  · refine congrArg₂ (fun x y : EReal => x * y) ?_ ?_
    · refine (broadcastInDim_apply _ _ _ _ (ix4 (⟨n.val / 32, by omega⟩ : Fin 12) (0 : Fin 1) (⟨m.val / 32, by omega⟩ : Fin 12) (0 : Fin 1)) fun a => ?_).trans (broadcastInDim_apply _ _ _ _ (ix2 (⟨n.val / 32, by omega⟩ : Fin 12) (⟨m.val / 32, by omega⟩ : Fin 12)) fun a => ?_)
      · match a with
        | ⟨0, _⟩ => rfl
        | ⟨1, _⟩ => rfl
        | ⟨2, _⟩ => rfl
        | ⟨3, _⟩ => rfl
      · match a with
        | ⟨0, _⟩ => rfl
        | ⟨1, _⟩ => rfl
    · refine (broadcastInDim_apply _ _ _ _ (ix4 (0 : Fin 1) (⟨n.val % 32, by omega⟩ : Fin 32) (0 : Fin 1) (⟨m.val % 32, by omega⟩ : Fin 32)) fun a => ?_).trans (broadcastInDim_apply _ _ _ _ (ix2 (⟨n.val % 32, by omega⟩ : Fin 32) (⟨m.val % 32, by omega⟩ : Fin 32)) fun a => ?_)
      · match a with
        | ⟨0, _⟩ => rfl
        | ⟨1, _⟩ => rfl
        | ⟨2, _⟩ => rfl
        | ⟨3, _⟩ => rfl
      · match a with
        | ⟨0, _⟩ => rfl
        | ⟨1, _⟩ => rfl

theorem near_apply (A B : FVec Ideal S6144x24576 .bf16) (s : Fin 6144) (m : Fin 384) (q : Fin 64) :
    near A B (ix3 s m q) = ∑ j : Fin 64, gv (A (ix2 s (⟨64 * m.val + j.val, by omega⟩ : Fin 24576))) (B (ix2 s (⟨64 * m.val + j.val, by omega⟩ : Fin 24576))) * ((wv q j : ℝ) : EReal) := by
  unfold near
  show FloatOps.dotGeneral _ _ _ _ _ (ix3 s m q) = _
  rw [Ideal.dotGeneral_apply, ← Equiv.sum_comp (ValueIdx.contrEquiv1 dot_S6144x384x64_S64x64_S6144x384x64_2_1_01_0_n_n 64 rfl rfl).symm]
  refine Finset.sum_congr rfl fun j _ => ?_
  have hk := ValueIdx.contrEquiv1_symm_val dot_S6144x384x64_S64x64_S6144x384x64_2_1_01_0_n_n 64 rfl rfl j
  have el : dot_S6144x384x64_S64x64_S6144x384x64_2_1_01_0_n_n.lhsIdx (ix3 s m q) ((ValueIdx.contrEquiv1 dot_S6144x384x64_S64x64_S6144x384x64_2_1_01_0_n_n 64 rfl rfl).symm j) = ix3 s m j := by
    funext a; apply Fin.ext
    match a with
    | ⟨0, _⟩ => simp [DotDims.lhsIdx]; rfl
    | ⟨1, _⟩ => simp [DotDims.lhsIdx]; rfl
    | ⟨2, _⟩ => simp [DotDims.lhsIdx]; exact hk
  have er : dot_S6144x384x64_S64x64_S6144x384x64_2_1_01_0_n_n.rhsIdx (ix3 s m q) ((ValueIdx.contrEquiv1 dot_S6144x384x64_S64x64_S6144x384x64_2_1_01_0_n_n 64 rfl rfl).symm j) = ix2 q j := by
    funext a; apply Fin.ext
    match a with
    | ⟨0, _⟩ => rfl
    | ⟨1, _⟩ => exact hk
  rw [el, er, w64_apply, ← Hs_apply]
  refine congrArg (· * ((wv q j : ℝ) : EReal)) ?_
  refine shapeCast_apply _ shapeCasts_S6144x24576_S6144x384x64 (ix3 s m j) (ix2 s (⟨64 * m.val + j.val, by omega⟩ : Fin 24576)) ?_
  rw [Shape.rowMajor_val_two, Shape.rowMajor_val_three]
  show s.val * 24576 + (64 * m.val + j.val) = (s.val * 384 + m.val) * 64 + j.val
  omega

theorem mid_apply (X : FVec Ideal S6144x384x64 .f32) (Y : FVec Ideal S384x384 .f32) (s : Fin 6144) (q : Fin 64) (n : Fin 384) :
    Host.dotGeneral dot_S6144x384x64_S384x384_S6144x64x384_1_1_02_0_n_n (some .fp32) X Y (ix3 s q n) = ∑ m : Fin 384, X (ix3 s m q) * Y (ix2 n m) := by
  show FloatOps.dotGeneral _ _ _ _ _ (ix3 s q n) = _
  rw [Ideal.dotGeneral_apply, ← Equiv.sum_comp (ValueIdx.contrEquiv1 dot_S6144x384x64_S384x384_S6144x64x384_1_1_02_0_n_n 384 rfl rfl).symm]
  refine Finset.sum_congr rfl fun j _ => ?_
  have hk := ValueIdx.contrEquiv1_symm_val dot_S6144x384x64_S384x384_S6144x64x384_1_1_02_0_n_n 384 rfl rfl j
  have el : dot_S6144x384x64_S384x384_S6144x64x384_1_1_02_0_n_n.lhsIdx (ix3 s q n) ((ValueIdx.contrEquiv1 dot_S6144x384x64_S384x384_S6144x64x384_1_1_02_0_n_n 384 rfl rfl).symm j) = ix3 s j q := by
    funext a; apply Fin.ext
    match a with
    | ⟨0, _⟩ => simp [DotDims.lhsIdx]; rfl
    | ⟨1, _⟩ => simp [DotDims.lhsIdx]; exact hk
    | ⟨2, _⟩ => simp [DotDims.lhsIdx]; rfl
  have er : dot_S6144x384x64_S384x384_S6144x64x384_1_1_02_0_n_n.rhsIdx (ix3 s q n) ((ValueIdx.contrEquiv1 dot_S6144x384x64_S384x384_S6144x64x384_1_1_02_0_n_n 384 rfl rfl).symm j) = ix2 n j := by
    funext a; apply Fin.ext
    match a with
    | ⟨0, _⟩ => simp [DotDims.rhsIdx]; rfl
    | ⟨1, _⟩ => simp [DotDims.rhsIdx]; exact hk
  rw [el, er]

theorem rn_apply (A B : FVec Ideal S6144x24576 .bf16) (C : FVec Ideal S12x12 .f32) (s : Fin 6144) (n : Fin 24576) (k : Fin 384) (q : Fin 64) (h : n.val = 64 * k.val + q.val) :
    rn A B C (ix2 s n) = (∑ m : Fin 384, near A B (ix3 s m q) * far C (ix2 k m)) * (FloatOps.ofBits .f32 0x3BD105EC#32 : Ideal .f32) := by
  rw [← mid_apply]
  unfold rn
  refine (shapeCast_apply _ shapeCasts_S6144x384x64_S6144x24576 (ix2 s n) (ix3 s k q) ?_).trans ?_
  · rw [Shape.rowMajor_val_two, Shape.rowMajor_val_three]
    show (s.val * 384 + k.val) * 64 + q.val = s.val * 24576 + n.val
    omega
  · refine congrArg₂ (fun x y : EReal => x * y) ?_ ?_
    · exact transpose_apply _ _ _ _ _ fun c => match c with | ⟨0, _⟩ => rfl | ⟨1, _⟩ => rfl | ⟨2, _⟩ => rfl
    · rfl

end Cert.Proof.Ref
-- ==== Proof.RotationOut.lean ====
/- Hand-written, untrusted. THE REFERENCE'S TWO RESULTS AT AN INDEX: a token's scale from its greatest magnitude, a code from the value and the scale. -/
module

public import proofs.«01_k».proof.Proof.RotationRow
public import proofs.«01_k».proof.Proof.QuantMath

@[expose] public section
set_option maxRecDepth 16384
set_option maxHeartbeats 1000000
noncomputable section
namespace Cert.Proof.Ref

open Cert.RotationIdeal Cert.RotationIdeal.Gen
open Idealize.ShloMosaic Idealize.ShloMosaic.TcCoe Idealize.ShloMosaic.Tactic
open Cert.Proof.Math

/-- The greatest magnitudes. -/
def am (R : FVec Ideal S6144x24576 .f32) : FVec Ideal S6144 .f32 :=
  Host.reduce FloatOps.maximumf (Host.absf R) (constant S_ .f32 0xFF800000#32) reducesTo_S6144x24576_S6144_d1 h_S_

/-- The scales. -/
def scv (R : FVec Ideal S6144x24576 .f32) : FVec Ideal S6144 .f32 :=
  select (cmpf .oeq (am R) (broadcastInDim S6144 ![] bcast_S_S6144 (constant S_ .f32 0x00000000#32))) (broadcastInDim S6144 ![] bcast_S_S6144 (constant S_ .f32 0x3F800000#32))
    (Host.divf (am R) (broadcastInDim S6144 ![] bcast_S_S6144 (constant S_ .f32 0x40E00000#32)))

/-- The scales, over the lanes of the result. -/
def scaleRef (R : FVec Ideal S6144x24576 .f32) : FVec Ideal S6144x128 .f32 :=
  broadcastInDim S6144x128 ![0, 1] bcast_S6144x1_S6144x128_0_1 (broadcastInDim S6144x1 ![0] bcast_S6144_S6144x1_0 (scv R))

/-- The codes. -/
def codeRef (R : FVec Ideal S6144x24576 .f32) : IVec S6144x24576 8 :=
  trunci 8 (fptosi 32 (minimumf (broadcastInDim S6144x24576 ![] bcast_S_S6144x24576 (sitofp .f32 (constantI S_ 32 7#32))) (maximumf (broadcastInDim S6144x24576 ![] bcast_S_S6144x24576 (sitofp .f32 (constantI S_ 32 4294967289#32))) (Host.roundeven (Host.divf R (broadcastInDim S6144x24576 ![0, 1] bcast_S6144x1_S6144x24576_0_1 (broadcastInDim S6144x1 ![0] bcast_S6144_S6144x1_0 (scv R)))))))) natLt_8_32

theorem am_mx (R : FVec Ideal S6144x24576 .f32) (s : Fin 6144) : IsMx (am R (ix1 s)) fun n : Fin 24576 => mag (R (ix2 s n)) := by
  have e : (am R (ix1 s) : EReal) = Finset.univ.fold max (Ideal.ofBits .f32 0xFF800000#32) fun n : Fin 24576 => mag (R (ix2 s n)) := by
    unfold am
    pointwise
    rfl
  rw [e, bits_bot]
  exact fold_mx (n := 24575) _

theorem constant_at (w : BitVec 32) (j : S_.Idx) : constant (F := Ideal) S_ .f32 w j = Ideal.ofBits .f32 w := rfl

/-- A scalar over every entry. -/
theorem const_apply {t : Shape} {α : Type} (h : S_.BroadcastsInDim t (![] : Fin 0 → Fin t.rank)) (x : S_.Idx → α) (j : t.Idx) :
    broadcastInDim t ![] h x j = x (fun a => a.elim0) :=
  broadcastInDim_apply _ h x j (fun a => a.elim0) fun a => a.elim0

/-- One where the greatest magnitude is nought, a seventh of it elsewhere. -/
theorem pick_apply (z b0 b1 b7 : FVec Ideal S6144 .f32) (j : S6144.Idx) :
    select (cmpf .oeq z b0) b1 (Host.divf z b7) j = if Ideal.cmp .oeq (z j) (b0 j) = 1#1 then b1 j else Ideal.div (z j) (b7 j) := rfl

theorem scv_apply (R : FVec Ideal S6144x24576 .f32) (s : Fin 6144) : scv R (ix1 s) = sc (am R (ix1 s)) := by
  unfold scv
  rw [pick_apply, const_apply, const_apply, const_apply, constant_at, constant_at, constant_at, Ideal.ofBits_zero_f32, Ideal.ofBits_one_f32, bits_seven]
  unfold sc
  generalize am R (ix1 s) = y
  by_cases h : y = (0 : EReal)
  · rw [if_pos h, if_pos]; simp [Ideal.cmp, h]
  · rw [if_neg h, if_neg]; simp [Ideal.cmp, h]

/-- A code, entry by entry. -/
theorem clip_apply (lo hi R z : FVec Ideal S6144x24576 .f32) (j : S6144x24576.Idx) :
    trunci 8 (fptosi 32 (minimumf hi (maximumf lo (Host.roundeven (Host.divf R z))))) natLt_8_32 j
      = (Ideal.fptosi 32 (min (hi j) (max (lo j) (Ideal.liftRound Ideal.roundHalfEven (Ideal.div (R j) (z j)))))).setWidth 8 := rfl

theorem scaleRef_apply (R : FVec Ideal S6144x24576 .f32) (s : Fin 6144) (l : Fin 128) : scaleRef R (ix2 s l) = sc (am R (ix1 s)) := by
  refine Eq.trans ?_ (scv_apply R s)
  refine (broadcastInDim_apply _ _ _ _ (ix2 s (0 : Fin 1)) fun a => ?_).trans (broadcastInDim_apply _ _ _ _ (ix1 s) fun a => ?_)
  · match a with
    | ⟨0, _⟩ => rfl
    | ⟨1, _⟩ => rfl
  · match a with
    | ⟨0, _⟩ => rfl

theorem codeRef_apply (R : FVec Ideal S6144x24576 .f32) (s : Fin 6144) (n : Fin 24576) :
    codeRef R (ix2 s n) = (Ideal.fptosi 32 (min ((7 : ℝ) : EReal) (max ((-7 : ℝ) : EReal) (Ideal.liftRound Ideal.roundHalfEven (Ideal.div (R (ix2 s n)) (sc (am R (ix1 s)))))))).setWidth 8 := by
  have hb : broadcastInDim S6144x24576 ![0, 1] bcast_S6144x1_S6144x24576_0_1 (broadcastInDim S6144x1 ![0] bcast_S6144_S6144x1_0 (scv R)) (ix2 s n) = sc (am R (ix1 s)) := by
    refine Eq.trans ?_ (scv_apply R s)
    refine (broadcastInDim_apply _ _ _ _ (ix2 s (0 : Fin 1)) fun a => ?_).trans (broadcastInDim_apply _ _ _ _ (ix1 s) fun a => ?_)
    · match a with
      | ⟨0, _⟩ => rfl
      | ⟨1, _⟩ => rfl
    · match a with
      | ⟨0, _⟩ => rfl
  have e7 : sitofp (F := Ideal) .f32 (constantI S_ 32 7#32) (fun a => a.elim0) = ((7 : ℝ) : EReal) := by
    show (((7#32 : BitVec 32).toInt : ℝ) : EReal) = _
    rw [show (7#32 : BitVec 32).toInt = 7 by decide]; norm_num
  have e8 : sitofp (F := Ideal) .f32 (constantI S_ 32 4294967289#32) (fun a => a.elim0) = ((-7 : ℝ) : EReal) := by
    show (((4294967289#32 : BitVec 32).toInt : ℝ) : EReal) = _
    rw [show (4294967289#32 : BitVec 32).toInt = -7 by decide]; norm_num
  unfold codeRef
  rw [clip_apply, hb, const_apply, const_apply, e7, e8]

variable (m : (ℓ : Loc nD τ sig) → Buf (Elt Ideal) ℓ)

theorem scale_res (c : Dev nD) : Value.res_main_v66 m c
    = scaleRef (rn (m ((c.tc : Thread nD τ).loc main_arg0)) (m ((c.tc : Thread nD τ).loc main_arg1)) (m ((c.tc : Thread nD τ).loc main_arg2))) := by
  unfold Value.res_main_v66
  rfl

theorem code_res (c : Dev nD) : Value.res_main_v64 m c
    = codeRef (rn (m ((c.tc : Thread nD τ).loc main_arg0)) (m ((c.tc : Thread nD τ).loc main_arg1)) (m ((c.tc : Thread nD τ).loc main_arg2))) := by
  unfold Value.res_main_v64
  rfl

end Cert.Proof.Ref

end
-- ==== Proof.RotationRep.lean ====
/- Hand-written, untrusted. THE REFERENCE'S ROTATED ROW AS A REAL: infinite when a gated value is, otherwise the sum the kernel's factoring computes. -/
module

public import proofs.«01_k».proof.Proof.RotationRow
public import proofs.«01_k».proof.Proof.RotateRow

@[expose] public section
set_option maxRecDepth 16384
set_option maxHeartbeats 1000000
noncomputable section
namespace Cert.Proof.Ref

open Cert.RotationIdeal Cert.RotationIdeal.Gen
open Idealize.ShloMosaic Idealize.ShloMosaic.TcCoe Idealize.ShloMosaic.Tactic
open Cert.Proof.Math
open Cert.Proof.Row (AnyInf)

/-- A token's gated values, nought beyond the last. -/
def hr (A B : FVec Ideal S6144x24576 .bf16) (s : Fin 6144) (n : ℕ) : EReal :=
  if h : n < 24576 then gv (A (ix2 s ⟨n, h⟩)) (B (ix2 s ⟨n, h⟩)) else 0

theorem hr_lt (A B : FVec Ideal S6144x24576 .bf16) (s : Fin 6144) (m : Fin 384) (j : Fin 64) :
    hr A B s (64 * m.val + j.val) = gv (A (ix2 s (⟨64 * m.val + j.val, by omega⟩ : Fin 24576))) (B (ix2 s (⟨64 * m.val + j.val, by omega⟩ : Fin 24576))) := by
  unfold hr; rw [dif_pos]

theorem near_rep (A B : FVec Ideal S6144x24576 .bf16) (s : Fin 6144) (m : Fin 384) (q : Fin 64) :
    Rep (near A B (ix3 s m q)) (∃ j : Fin 64, Inf (hr A B s (64 * m.val + j.val))) (∑ j : Fin 64, (hr A B s (64 * m.val + j.val)).toReal * wv q j) := by
  rw [near_apply]
  simp only [← hr_lt]
  exact Rep.sumAll fun j => (rep_self _).mul_coe (wv_ne q j)

theorem any_inf (A B : FVec Ideal S6144x24576 .bf16) (s : Fin 6144) :
    (∃ (m : Fin 384) (j : Fin 64), Inf (hr A B s (64 * m.val + j.val))) ↔ AnyInf (hr A B s) := by
  refine ⟨fun ⟨m, j, h⟩ => ⟨_, h⟩, fun ⟨n, h⟩ => ?_⟩
  by_cases hn : n < 24576
  · exact ⟨⟨n / 64, by omega⟩, ⟨n % 64, by omega⟩, by
      show Inf (hr A B s (64 * (n / 64) + n % 64))
      rw [Nat.div_add_mod]; exact h⟩
  · unfold hr at h
    rw [dif_neg hn] at h
    simp [Inf] at h

/-- A rotated value before the constant, at block `k`, part `p`, `a`, `q`. -/
theorem row_rep (A B : FVec Ideal S6144x24576 .bf16) (C : FVec Ideal S12x12 .f32) (s : Fin 6144) (k : Fin 12) (p : Fin 8) (a : Fin 4) (q : Fin 64)
    (n : Fin 384) (hn : n.val = 32 * k.val + (4 * p.val + a.val)) (c : ℕ → ℝ) (hc : ∀ j : Fin 12, c j ≠ 0) (hC : ∀ j : Fin 12, C (ix2 k j) = ((c j : ℝ) : EReal)) :
    Rep (∑ m : Fin 384, near A B (ix3 s m q) * far C (ix2 n m)) (AnyInf (hr A B s))
      (∑ l : Fin 256, (∑ p' : Fin 8, wv p p' * ∑ j : Fin 12, c j * (hr A B s (2048 * j + 256 * p' + l)).toReal) * wv (64 * a + q) l) := by
  have hf : ∀ m : Fin 384, far C (ix2 n m) = ((c (m.val / 32) * wv (4 * p.val + a.val) (m.val % 32) : ℝ) : EReal) := by
    intro m
    rw [far_apply, EReal.coe_mul]
    have e1 : (⟨n.val / 32, by omega⟩ : Fin 12) = k := Fin.ext (by show n.val / 32 = k.val; omega)
    have e2 : n.val % 32 = 4 * p.val + a.val := by omega
    rw [e1, e2, hC]
  have h := Rep.sumAll fun m : Fin 384 => (near_rep A B s m q).mul_coe (c := c (m.val / 32) * wv (4 * p.val + a.val) (m.val % 32))
    (mul_ne_zero (hc ⟨m.val / 32, by omega⟩) (wv_ne _ _))
  simp only [← hf] at h
  refine h.congr (any_inf A B s) ?_
  rw [walsh_eq c (fun n => (hr A B s n).toReal) p a q]
  exact Finset.sum_congr rfl fun m _ => mul_comm _ _

end Cert.Proof.Ref

end
-- ==== Proof.RotateJoin.lean ====
/- Hand-written, untrusted. KERNEL AND REFERENCE MEET: at every token and column the kernel's code and scale are the reference's. -/
module

public import proofs.«01_k».proof.Proof.RotateInputs
public import proofs.«01_k».proof.Proof.RotateOut
public import proofs.«01_k».proof.Proof.RotationOut
public import proofs.«01_k».proof.Proof.RotationRep

@[expose] public section
set_option maxRecDepth 16384
set_option maxHeartbeats 1000000
noncomputable section
namespace Cert.Proof.Join

open Cert.RotateIdeal Cert.RotateIdeal.Gen
open Idealize.ShloMosaic Idealize.ShloMosaic.TcCoe Idealize.ShloMosaic.Tactic
open Cert.Proof.Math
open Cert.Proof.Run (signs_le outC outS)
open Cert.Proof.Step (sgn)
open Cert.Proof.Row (AnyInf rs hv)
open Cert.Proof.Top (kv top K)
open Cert.Proof.Inputs (tok)

variable (m : (ℓ : Loc nD τ sig) → Buf (Elt Ideal) ℓ)

/-- The gate argument. -/
def ga (c : Dev nD) : FVec Ideal S6144x24576 .bf16 := m ((c : Thread nD τ).loc main_arg0)
/-- The up argument. -/
def ua (c : Dev nD) : FVec Ideal S6144x24576 .bf16 := m ((c : Thread nD τ).loc main_arg1)
/-- The factor argument. -/
def fa (c : Dev nD) : FVec Ideal S12x12 .f32 := m ((c : Thread nD τ).loc main_arg2)

/-- Every entry of the factor is one or minus one. -/
def Signs (c : Dev nD) : Prop := ∀ k j : Fin 12, fa m c (ix2 k j) = ((1 : ℝ) : EReal) ∨ fa m c (ix2 k j) = ((-1 : ℝ) : EReal)

/-- The gated value is the same in both spellings. -/
theorem gate_eq (a b : EReal) : Build.hE (F := Ideal) a b = Ref.gv a b := by
  show a * b * Ideal.div (Ideal.ofBits .f32 0x3F800000#32) (Ideal.ofBits .f32 0x3F800000#32 + Ideal.exp (Ideal.ofBits .f32 0x00000000#32 - a)) = _
  rw [Ideal.ofBits_one_f32, Ideal.ofBits_zero_f32, zero_sub]
  exact mul_right_comm _ _ _

theorem gated (c : Dev nD) (t : Fin cfg0.N) (r : Fin 32) : hv (iblk m c 2 t) (iblk m c 3 t) r = Ref.hr (ga m c) (ua m c) (tok t r) := by
  funext n
  unfold hv Ref.hr
  by_cases h : n < 24576
  · rw [dif_pos h, dif_pos h]
    refine (gate_eq _ _).trans ?_
    rw [Inputs.gate_apply, Inputs.up_apply]
    rfl
  · rw [dif_neg h, dif_neg h]

/-- The reference's rotated value before the constant. -/
def xr (A B : FVec Ideal S6144x24576 .bf16) (C : FVec Ideal S12x12 .f32) (s : Fin 6144) (n : Fin 24576) : EReal :=
  ∑ i : Fin 384, Ref.near A B (ix3 s i (⟨n.val % 64, by omega⟩ : Fin 64)) * Ref.far C (ix2 (⟨n.val / 64, by omega⟩ : Fin 384) i)

theorem rn_eq (A B : FVec Ideal S6144x24576 .bf16) (C : FVec Ideal S12x12 .f32) (s : Fin 6144) (n : Fin 24576) : Ref.rn A B C (ix2 s n) = xr A B C s n * K :=
  Ref.rn_apply A B C s n (⟨n.val / 64, by omega⟩ : Fin 384) (⟨n.val % 64, by omega⟩ : Fin 64) (by show n.val = 64 * (n.val / 64) + n.val % 64; omega)

/-- The kernel's rotated value at a point. -/
abbrev kr (c : Dev nD) (t : Fin cfg0.N) (r : Fin 32) (n : Fin 24576) : EReal := kv (iblk m c 1 t) (iblk m c 0 t) (signs_le m c t) (iblk m c 2 t) (iblk m c 3 t) r n

/-- Both rotated values are the one real number, or both infinite. -/
theorem both (c : Dev nD) (t : Fin cfg0.N) (r : Fin 32) (n : Fin 24576) (h : Signs m c) :
    ∃ z : ℝ, Rep (kr m c t r n) (AnyInf (Ref.hr (ga m c) (ua m c) (tok t r))) z
      ∧ Rep (xr (ga m c) (ua m c) (fa m c) (tok t r) n) (AnyInf (Ref.hr (ga m c) (ua m c) (tok t r))) z := by
  have h1 := Row.rot_rep (iblk m c 1 t) (Inputs.walsh_apply m c t) (sgn (F := Ideal) (iblk m c 0 t) (signs_le m c t) (n.val / 2048)) (iblk m c 2 t) (iblk m c 3 t) r
    (⟨n.val % 2048 / 256, by omega⟩ : Fin 8) (⟨32 * (n.val % 2048 / 256) + r.val, by omega⟩ : Fin 256) (⟨n.val % 256, by omega⟩ : Fin 256) rfl
  have h2 := Ref.row_rep (ga m c) (ua m c) (fa m c) (tok t r) (⟨n.val / 2048, by omega⟩ : Fin 12) (⟨n.val % 2048 / 256, by omega⟩ : Fin 8) (⟨n.val % 256 / 64, by omega⟩ : Fin 4)
    (⟨n.val % 64, by omega⟩ : Fin 64) (⟨n.val / 64, by omega⟩ : Fin 384)
    (by show n.val / 64 = 32 * (n.val / 2048) + (4 * (n.val % 2048 / 256) + n.val % 256 / 64); omega)
    (rs (sgn (F := Ideal) (iblk m c 0 t) (signs_le m c t) (n.val / 2048)))
    (fun j => (Inputs.rs_eq m c t (⟨n.val / 2048, by omega⟩ : Fin 12) j (signs_le m c t) (h _ j)).2)
    (fun j => (Inputs.rs_eq m c t (⟨n.val / 2048, by omega⟩ : Fin 12) j (signs_le m c t) (h _ j)).1)
  rw [gated m c t r] at h1
  have e : 64 * (n.val % 256 / 64) + n.val % 64 = n.val % 256 := by omega
  dsimp only at h2
  rw [e] at h2
  exact ⟨_, h1, h2⟩

/-- Both rotated values have the same magnitude. -/
theorem mag_both (c : Dev nD) (t : Fin cfg0.N) (r : Fin 32) (n : Fin 24576) (h : Signs m c) :
    mag (kr m c t r n) = mag (xr (ga m c) (ua m c) (fa m c) (tok t r) n) := by
  obtain ⟨z, h1, h2⟩ := both m c t r n h
  by_cases hp : AnyInf (Ref.hr (ga m c) (ua m c) (tok t r))
  · rw [mag_inf (h1.1 hp), mag_inf (h2.1 hp)]
  · rw [h1.2 hp, h2.2 hp]

/-- The kernel's greatest magnitude is the reference's. -/
theorem top_eq (c : Dev nD) (t : Fin cfg0.N) (r : Fin 32) (h : Signs m c) :
    top (iblk m c 1 t) (iblk m c 0 t) (signs_le m c t) (iblk m c 2 t) (iblk m c 3 t) r = Ref.am (Ref.rn (ga m c) (ua m c) (fa m c)) (ix1 (tok t r))
      ∧ (AnyInf (Ref.hr (ga m c) (ua m c) (tok t r)) → top (iblk m c 1 t) (iblk m c 0 t) (signs_le m c t) (iblk m c 2 t) (iblk m c 3 t) r = ⊤) := by
  obtain ⟨k, hk, ek⟩ := bits_norm
  obtain ⟨N, hN, eN⟩ := Top.top_mx (iblk m c 1 t) (iblk m c 0 t) (signs_le m c t) (iblk m c 2 t) (iblk m c 3 t) r
  have eK : K = (k : EReal) := ek
  rw [eN, eK]
  refine ⟨?_, fun hp => ?_⟩
  · have h1 := hN.mul (c := (k : EReal)) (EReal.coe_nonneg.mpr hk.le)
    have h2 := Ref.am_mx (Ref.rn (ga m c) (ua m c) (fa m c)) (tok t r)
    have e : (fun n : Fin 24576 => mag (Ref.rn (ga m c) (ua m c) (fa m c) (ix2 (tok t r) n))) = fun n : Fin 24576 => mag (kr m c t r n) * (k : EReal) := by
      funext n
      rw [rn_eq, eK, mag_mul _ hk, mag_both m c t r n h]
    rw [e] at h2
    exact h1.unique h2
  · obtain ⟨z, h1, _⟩ := both m c t r (0 : Fin 24576) h
    have h3 := hN.1 (0 : Fin 24576)
    rw [top_le_iff.mp ((mag_inf (h1.1 hp)).ge.trans h3)]
    exact EReal.top_mul_coe_of_pos hk

/-- The scale at a point. -/
theorem scale_eq (c : Dev nD) (t : Fin cfg0.N) (r : Fin 32) (l : Fin 128) (h : Signs m c) :
    outS m c t (ix2 r l) = Ref.scaleRef (Ref.rn (ga m c) (ua m c) (fa m c)) (ix2 (tok t r) l) := by
  rw [Ref.scaleRef_apply, ← (top_eq m c t r h).1]
  exact Top.scale_val _ _ _ _ _ r l

/-- The code at a point. -/
theorem code_eq (c : Dev nD) (t : Fin cfg0.N) (r : Fin 32) (n : Fin 24576) (h : Signs m c) :
    outC m c t (ix2 r n) = Ref.codeRef (Ref.rn (ga m c) (ua m c) (fa m c)) (ix2 (tok t r) n) := by
  obtain ⟨z, h1, h2⟩ := both m c t r n h
  rw [Ref.codeRef_apply, ← (top_eq m c t r h).1, rn_eq, ← scaled_eq h1 h2 K _ (top_eq m c t r h).2, ← clip_code]
  exact Top.codes_val _ _ _ _ _ r n

end Cert.Proof.Join

end
-- ==== Proof.RotateArrays.lean ====
/- Hand-written, untrusted. THE ROTATION'S RUN ENDS WITH THE REFERENCE'S ARRAYS, of a factor whose entries are one or minus one. -/
module

public import proofs.«01_k».proof.Pre_signs
public import proofs.«01_k».proof.Proof.RotateJoin
public import Idealize.ShloMosaic.Lib.ReduceAll

@[expose] public section
set_option maxRecDepth 16384
set_option maxHeartbeats 1000000
noncomputable section
namespace Cert.Proof.Join

open Cert.RotateIdeal Cert.RotateIdeal.Gen
open Idealize.ShloMosaic Idealize.ShloMosaic.TcCoe Idealize.ShloMosaic.Tactic
open Cert.Proof.Run (dats outC outS after0_4 after0_5 run_main A_eq)
open Cert.Proof.Inputs (tok idx4 idx5 N_lt)

/-- The precondition's side conditions. -/
instance signsFacts : Cert.Pre_signs.Facts where
  bcast_S_S12x12 := by decide
  reducesTo_S12x12_S_d0_1 := by decide
  h_S_ := by decide

theorem bits_neg_one : Ideal.ofBits .f32 0xBF800000#32 = ((-1 : ℝ) : EReal) := by
  simp [Ideal.ofBits, Ideal.ieee, -EReal.coe_mul, -EReal.coe_neg]; norm_num

theorem or_one : ∀ a b : BitVec 1, a ||| b = 1#1 → a = 1#1 ∨ b = 1#1 := by decide

theorem cmp_eq {x y : EReal} (h : Ideal.cmp .oeq x y = 1#1) : x = y := by
  by_contra hn
  have : Ideal.cmp .oeq x y = 0#1 := by simp [Ideal.cmp, hn]
  rw [this] at h
  exact absurd h (by decide)

instance : Subsingleton Cert.Pre_signs.S_.Idx := ⟨fun a b => funext fun i => i.elim0⟩

/-- What the precondition says of the factor's entries. -/
theorem signs_of (A B : FVec Ideal S6144x24576 .bf16) (C : FVec Ideal S12x12 .f32) (h : Cert.Pre_signs.fn (F := Ideal) A B C = fun _ => 1#1) (k j : Fin 12) :
    C (ix2 k j) = ((1 : ℝ) : EReal) ∨ C (ix2 k j) = ((-1 : ℝ) : EReal) := by
  have h1 := congrFun h (fun a => a.elim0)
  unfold Cert.Pre_signs.fn at h1
  have h2 := Host.reduce_andi_all _ _ _ _ _ h1 (ix2 k j)
  rcases or_one _ _ h2 with h3 | h3
  · refine Or.inl ((cmp_eq h3).trans ?_)
    refine (broadcastInDim_apply _ _ _ _ (fun a => a.elim0) fun a => a.elim0).trans (Ideal.ofBits_one_f32.trans EReal.coe_one.symm)
  · refine Or.inr ((cmp_eq h3).trans ?_)
    exact (broadcastInDim_apply _ _ _ _ (fun a => a.elim0) fun a => a.elim0).trans bits_neg_one

variable (m : (ℓ : Loc nD τ sig) → Buf (Elt Ideal) ℓ)

/-- The point that writes a token. -/
def pt (i0 : Fin 6144) : Fin cfg0.N := ⟨i0.val / 32, lt_of_lt_of_eq (by omega) N_0.symm⟩

theorem flush4_all : ∀ t : Fin cfg0.N, (cfg0.win 4).flush t = true := (by decide +kernel : ∀ t : Fin grid0.N, win0_4.flush t = true)
theorem flush5_all : ∀ t : Fin cfg0.N, (cfg0.win 5).flush t = true := (by decide +kernel : ∀ t : Fin grid0.N, win0_5.flush t = true)

/-- The codes after the run. -/
theorem final4 (c : Dev nD) (hs : Signs m c) : (dats m 0 c).arrAt 4 cfg0.N = Ref.codeRef (Ref.rn (ga m c) (ua m c) (fa m c)) := by
  refine (dats m 0 c).arrAt_eq_of_cover 4 _ (fun t _ => ?_) (fun i => ?_)
  · show (cfg0.win 4).cut (grid0.coords t) ((dats m 0 c).after 4 t) = _
    rw [after0_4]
    funext y
    obtain ⟨e0, e1⟩ := idx4 t
    have hemb : ((cfg0.win 4).blk t).view.emb y = ix2 (tok t (y 0)) (y 1) := funext fun a => Fin.ext (by
      match a with
      | ⟨0, _⟩ => show win0_4.index t (0 : Fin 2) * 32 + 1 * (y 0).val = t.val * 32 + (y 0).val; omega
      | ⟨1, _⟩ => show win0_4.index t (1 : Fin 2) * 24576 + 1 * (y 1).val = (y 1).val; omega)
    refine Eq.trans ?_ ((code_eq m c t (y 0) (y 1) hs).trans (congrArg (Ref.codeRef (Ref.rn (ga m c) (ua m c) (fa m c))) hemb.symm))
    exact congrArg (outC m c t) (eq_ix2 (n0 := 32) (n1 := 24576) y)
  · have h0 : (i 0).val < 6144 := (i 0).isLt
    have h1 : (i 1).val < 24576 := (i 1).isLt
    obtain ⟨e0, e1⟩ := idx4 (pt (i 0))
    have ht : (pt (i 0)).val = (i 0).val / 32 := rfl
    refine ⟨pt (i 0), flush4_all _, ?_⟩
    show i ∈ ((View.whole main_v30_0).slice (win0_4.rect (pt (i 0)))).set
    rw [View.set_slice_whole, Rect.mem_set_unit]
    intro a
    match a with
    | ⟨0, _⟩ => show win0_4.index (pt (i 0)) (0 : Fin 2) * 32 ≤ (i 0).val ∧ (i 0).val < win0_4.index (pt (i 0)) (0 : Fin 2) * 32 + 32; omega
    | ⟨1, _⟩ => show win0_4.index (pt (i 0)) (1 : Fin 2) * 24576 ≤ (i 1).val ∧ (i 1).val < win0_4.index (pt (i 0)) (1 : Fin 2) * 24576 + 24576; omega

/-- An array every point's scales agree with is the one the run ends with. -/
theorem cover5 (c : Dev nD) (G : FVec Ideal S6144x128 .f32) (hG : ∀ (t : Fin cfg0.N) (r : Fin 32) (l : Fin 128), outS m c t (ix2 r l) = G (ix2 (tok t r) l)) :
    (dats m 0 c).arrAt 5 cfg0.N = G := by
  refine (dats m 0 c).arrAt_eq_of_cover 5 _ (fun t _ => ?_) (fun i => ?_)
  · show (cfg0.win 5).cut (grid0.coords t) ((dats m 0 c).after 5 t) = _
    rw [after0_5]
    funext y
    obtain ⟨e0, e1⟩ := idx5 t
    have hemb : ((cfg0.win 5).blk t).view.emb y = ix2 (tok t (y 0)) (y 1) := funext fun a => Fin.ext (by
      match a with
      | ⟨0, _⟩ => show win0_5.index t (0 : Fin 2) * 32 + 1 * (y 0).val = t.val * 32 + (y 0).val; omega
      | ⟨1, _⟩ => show win0_5.index t (1 : Fin 2) * 128 + 1 * (y 1).val = (y 1).val; omega)
    refine Eq.trans ?_ ((hG t (y 0) (y 1)).trans (congrArg G hemb.symm))
    exact congrArg (outS m c t) (eq_ix2 (n0 := 32) (n1 := 128) y)
  · have h0 : (i 0).val < 6144 := (i 0).isLt
    have h1 : (i 1).val < 128 := (i 1).isLt
    obtain ⟨e0, e1⟩ := idx5 (pt (i 0))
    have ht : (pt (i 0)).val = (i 0).val / 32 := rfl
    refine ⟨pt (i 0), flush5_all _, ?_⟩
    show i ∈ ((View.whole main_v30_1).slice (win0_5.rect (pt (i 0)))).set
    rw [View.set_slice_whole, Rect.mem_set_unit]
    intro a
    match a with
    | ⟨0, _⟩ => show win0_5.index (pt (i 0)) (0 : Fin 2) * 32 ≤ (i 0).val ∧ (i 0).val < win0_5.index (pt (i 0)) (0 : Fin 2) * 32 + 32; omega
    | ⟨1, _⟩ => show win0_5.index (pt (i 0)) (1 : Fin 2) * 128 ≤ (i 1).val ∧ (i 1).val < win0_5.index (pt (i 0)) (1 : Fin 2) * 128 + 128; omega

/-- The scales after the run. -/
theorem final5 (c : Dev nD) (hs : Signs m c) : (dats m 0 c).arrAt 5 cfg0.N = Ref.scaleRef (Ref.rn (ga m c) (ua m c) (fa m c)) :=
  cover5 m c _ fun t r l => scale_eq m c t r l hs

/-- The kernel's run: codes and scales are the reference's formulas of the arguments, which end unchanged. -/
theorem run (ρ : Dev nD → PrngReg) (hs : ∀ c, Signs m c) : θ_run defs (onTc (τ := τ) (main (F := Ideal))) ⟨m, fun _ => 0, ρ⟩ (fun r => ∀ c : Dev nD,
      r.2.mem ((c.tc : Thread nD τ).loc main_v30_0) = Ref.codeRef (Ref.rn (ga m c) (ua m c) (fa m c))
      ∧ r.2.mem ((c.tc : Thread nD τ).loc main_v30_1) = Ref.scaleRef (Ref.rn (ga m c) (ua m c) (fa m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final4 m c (hs c)), ((h c).1 5).trans (final5 m c (hs c)),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (V_main_arg2 m c)⟩) (run_main m ρ)

end Cert.Proof.Join

end
-- ==== Proof.Spec.lean ====
/- Hand-written, untrusted. THE RESULTS AS FORMULAS over the ideal values, which the kernel and the reference both meet. -/
module

public import Idealize.ShloMosaic.Lib.Pointwise

@[expose] public section

noncomputable section

namespace Cert.Proof.Spec

open Idealize.ShloMosaic

/-- The down projection: codes times weights, summed over each half of the columns, the halves added, then the scale of the
    token and the scale of the output column. -/
def product (a : Vec Ideal ⟨2, ![6144, 24576]⟩ .i8) (lo hi : Vec Ideal ⟨2, ![3072, 12288]⟩ .fp8e4m3)
    (s : Vec Ideal ⟨2, ![6144, 128]⟩ .f32) (w : Vec Ideal ⟨1, ![3072]⟩ .f32) : Vec Ideal ⟨2, ![6144, 3072]⟩ .bf16 := fun i =>
  let r : Fin 6144 := i 0
  let c : Fin 3072 := i 1
  ((∑ k : Fin 12288, FloatOps.sitofp (F := Ideal) .bf16 (a (ix2 r ⟨k.val, by omega⟩)) * lo (ix2 c k)
    + ∑ k : Fin 12288, FloatOps.sitofp (F := Ideal) .bf16 (a (ix2 r ⟨12288 + k.val, by omega⟩)) * hi (ix2 c k))
      * s (ix2 r 0) * w (ix1 c) : EReal)

/-- The signed value of a 4-bit code. -/
def nibble (v : BitVec 32) : BitVec 32 :=
  Scalar.select (IntOp.cmpi .sge (IntOp.andi v 15#32) 8#32) (IntOp.subi (IntOp.andi v 15#32) 16#32) (IntOp.andi v 15#32)

/-- The step of a group, two to the minus exponent. -/
def step (e : BitVec 8) : EReal := FloatOps.exp2 (F := Ideal) (φ := .f32) (0 - FloatOps.sitofp (F := Ideal) .f32 (BitVec.setWidth 32 e) : EReal)

/-- The weights of the low codes: a code times the step of its group of 128 columns. -/
def weightsLo (p : Vec Ideal ⟨2, ![3072, 12288]⟩ .i8) (e : Vec Ideal ⟨2, ![3072, 192]⟩ .i8) :
    Vec Ideal ⟨2, ![3072, 12288]⟩ .fp8e4m3 := fun i =>
  let r : Fin 3072 := i 0
  let q : Fin 12288 := i 1
  (FloatOps.sitofp (F := Ideal) .bf16 (nibble (BitVec.setWidth 32 (p (ix2 r q)))) * step (e (ix2 r ⟨q.val / 128, by omega⟩)) : EReal)

/-- The weights of the high codes; their groups' exponents are the second half of the exponents. -/
def weightsHi (p : Vec Ideal ⟨2, ![3072, 12288]⟩ .i8) (e : Vec Ideal ⟨2, ![3072, 192]⟩ .i8) :
    Vec Ideal ⟨2, ![3072, 12288]⟩ .fp8e4m3 := fun i =>
  let r : Fin 3072 := i 0
  let q : Fin 12288 := i 1
  (FloatOps.sitofp (F := Ideal) .bf16 (nibble (IntOp.shrsi .vector (BitVec.setWidth 32 (p (ix2 r q))) 4#32))
    * step (e (ix2 r ⟨96 + q.val / 128, by omega⟩)) : EReal)

end Cert.Proof.Spec

end
-- ==== Proof.Matmul.lean ====
/- Hand-written, untrusted. WHAT ONE GRID POINT OF THE MATMUL LEAVES, and the whole result at an index.

   The kernel carries one scratch buffer, the codes of the row of blocks recast to the 8-bit format: filled at the first point
   of the row, read at all twelve. So after every point it holds that recast of the point's own block of codes (`scratch_eq`),
   and every point's block is the same payload of its own five input blocks (`outsAt_eq`). Read at an index over the ideal
   values, this is the product of the two halves, summed, times the two scales (`G5_apply`). -/
module

public import proofs.«01_k».proof.Proof.Gen.KernelIdeal.Value
public import proofs.«01_k».proof.Proof.Spec

@[expose] public section

set_option maxRecDepth 16384

noncomputable section

namespace Cert.Proof.Matmul

open Cert.KernelIdeal Cert.KernelIdeal.Gen Cert.KernelIdeal.Value Idealize.ShloMosaic Idealize.ShloMosaic.TcCoe
open Idealize.SL.Sem

section Block

variable {F : FTy → Type} [FloatOps F]

theorem hz : (![0, 0] : Fin 2 → Nat) = fun _ => 0 := funext fun a => by fin_cases a <;> rfl

/-- One block of the result from the recast codes `a8` and the blocks of the two weight halves and the two scales. -/
def blockOf (a8 : Vec F S512x24576 .fp8e4m3) (lo hi : Vec F S256x12288 .fp8e4m3) (s : Vec F S512x128 .f32)
    (w : Vec F S1x256 .f32) : Vec F S512x256 .bf16 :=
  k0_pay2 (View.ld a8 (Rect.unit (s := S512x24576) ![0, 0] S512x12288.size inb_S512x24576_S512x12288_0_0)) lo
    (View.ld a8 (Rect.unit (s := S512x24576) ![0, 12288] S512x12288.size inb_S512x24576_S512x12288_0_12288)) hi
    (View.ld s (Rect.unit (s := S512x128) ![0, 0] S512x1.size inb_S512x128_S512x1_0_0)) w

/-- A later point of a row reads the scratch as it finds it. -/
theorem out_B (c : Dev nD) (i : grid0.Coords) (a2 : Memref sig .tc .vmem S512x24576 .i8) (h2 : a2.IsWhole)
    (a3 : Memref sig .tc .vmem S256x12288 .fp8e4m3) (h3 : a3.IsWhole) (a4 : Memref sig .tc .vmem S256x12288 .fp8e4m3) (h4 : a4.IsWhole)
    (a5 : Memref sig .tc .vmem S512x128 .f32) (h5 : a5.IsWhole) (a6 : Memref sig .tc .vmem S1x256 .f32) (h6 : a6.IsWhole)
    (a7 : Memref sig .tc .vmem S512x256 .bf16) (h7 : a7.IsWhole) (a8 : Memref sig .tc .vmem S512x24576 .fp8e4m3) (h8 : a8.IsWhole)
    (hc : ¬cond0_0 i) (x0 : Vec F S512x24576 .i8) (x1 x2 : Vec F S256x12288 .fp8e4m3) (x3 : Vec F S512x128 .f32)
    (x4 : Vec F S1x256 .f32) (xs : Vec F S512x24576 .fp8e4m3) :
    out0_B_5 c i a2 h2 a3 h3 a4 h4 a5 h5 a6 h6 a7 h7 a8 h8 hc x0 x1 x2 x3 x4 xs = blockOf xs x1 x2 x3 x4 := by
  unfold out0_B_5
  rw [View.read_writes_eq_canon _ _ _ (cover0_B_5 c i a2 h2 a3 h3 a4 h4 a5 h5 a6 h6 a7 h7 a8 h8 hc x0 x1 x2 x3 x4 xs)]
  unfold kernelRun0_B
  dsimp only
  rw [View.canon_unit_zero hz]
  unfold blockOf
  simp only [View.readAt_eq_ld, h2.read_unread, h3.read_unread, h4.read_unread, h5.read_unread, h6.read_unread, h8.read_unread,
    View.ld_unit_zero (S := S256x12288) hz, View.ld_unit_zero (S := S1x256) hz]

/-- The first point of a row fills the scratch with the recast codes. -/
theorem sout_A (c : Dev nD) (i : grid0.Coords) (a2 : Memref sig .tc .vmem S512x24576 .i8) (h2 : a2.IsWhole)
    (a3 : Memref sig .tc .vmem S256x12288 .fp8e4m3) (h3 : a3.IsWhole) (a4 : Memref sig .tc .vmem S256x12288 .fp8e4m3) (h4 : a4.IsWhole)
    (a5 : Memref sig .tc .vmem S512x128 .f32) (h5 : a5.IsWhole) (a6 : Memref sig .tc .vmem S1x256 .f32) (h6 : a6.IsWhole)
    (a7 : Memref sig .tc .vmem S512x256 .bf16) (h7 : a7.IsWhole) (a8 : Memref sig .tc .vmem S512x24576 .fp8e4m3) (h8 : a8.IsWhole)
    (hc : cond0_0 i) (x0 : Vec F S512x24576 .i8) (x1 x2 : Vec F S256x12288 .fp8e4m3) (x3 : Vec F S512x128 .f32)
    (x4 : Vec F S1x256 .f32) :
    sout0_A_0 c i a2 h2 a3 h3 a4 h4 a5 h5 a6 h6 a7 h7 a8 h8 hc x0 x1 x2 x3 x4 = k0_pay1 x0 := by
  unfold sout0_A_0
  rw [View.read_writes_eq_canon _ _ _ (scover0_A_0 c i a2 h2 a3 h3 a4 h4 a5 h5 a6 h6 a7 h7 a8 h8 hc x0 x1 x2 x3 x4)]
  unfold kernelRun0_A
  dsimp only
  sl_unfold_words
  rw [View.canon_unit_zero hz]
  simp only [View.readAt_eq_ld, h2.read_unread, View.ld_unit_zero (S := S512x24576) hz]

/-- … and reads it back for its own block. -/
theorem out_A (c : Dev nD) (i : grid0.Coords) (a2 : Memref sig .tc .vmem S512x24576 .i8) (h2 : a2.IsWhole)
    (a3 : Memref sig .tc .vmem S256x12288 .fp8e4m3) (h3 : a3.IsWhole) (a4 : Memref sig .tc .vmem S256x12288 .fp8e4m3) (h4 : a4.IsWhole)
    (a5 : Memref sig .tc .vmem S512x128 .f32) (h5 : a5.IsWhole) (a6 : Memref sig .tc .vmem S1x256 .f32) (h6 : a6.IsWhole)
    (a7 : Memref sig .tc .vmem S512x256 .bf16) (h7 : a7.IsWhole) (a8 : Memref sig .tc .vmem S512x24576 .fp8e4m3) (h8 : a8.IsWhole)
    (hc : cond0_0 i) (x0 : Vec F S512x24576 .i8) (x1 x2 : Vec F S256x12288 .fp8e4m3) (x3 : Vec F S512x128 .f32)
    (x4 : Vec F S1x256 .f32) :
    out0_A_5 c i a2 h2 a3 h3 a4 h4 a5 h5 a6 h6 a7 h7 a8 h8 hc x0 x1 x2 x3 x4 = blockOf (k0_pay1 x0) x1 x2 x3 x4 := by
  unfold out0_A_5
  rw [View.read_writes_eq_canon _ _ _ (cover0_A_5 c i a2 h2 a3 h3 a4 h4 a5 h5 a6 h6 a7 h7 a8 h8 hc x0 x1 x2 x3 x4)]
  unfold kernelRun0_A
  dsimp only
  sl_unfold_words
  rw [View.canon_unit_zero hz]
  unfold blockOf
  simp only [View.readAt_eq_ld, h2.read_unread, h3.read_unread, h4.read_unread, h5.read_unread, h6.read_unread,
    View.ld_unit_zero (S := S256x12288) hz, View.ld_unit_zero (S := S1x256) hz, View.ld_unit_zero (S := S512x24576) hz]
  rw [View.readCov_eq_canon', View.readCov_eq_canon', View.canon_unit_zero hz]

variable (m : (ℓ : Loc nD τ sig) → Buf (Elt F) ℓ)

/-- The block of codes at a point depends on the point's row alone. -/
theorem idx0 : ∀ t : Fin cfg0.N, win0_0.index t (0 : Fin 2) = t.val / 12 ∧ win0_0.index t (1 : Fin 2) = 0 :=
  (by decide +kernel : ∀ t : Fin grid0.N, _)
theorem idx1 : ∀ t : Fin cfg0.N, win0_1.index t (0 : Fin 2) = t.val % 12 ∧ win0_1.index t (1 : Fin 2) = 0 :=
  (by decide +kernel : ∀ t : Fin grid0.N, _)
theorem idx2 : ∀ t : Fin cfg0.N, win0_2.index t (0 : Fin 2) = t.val % 12 ∧ win0_2.index t (1 : Fin 2) = 0 :=
  (by decide +kernel : ∀ t : Fin grid0.N, _)
theorem idx3 : ∀ t : Fin cfg0.N, win0_3.index t (0 : Fin 2) = t.val / 12 ∧ win0_3.index t (1 : Fin 2) = 0 :=
  (by decide +kernel : ∀ t : Fin grid0.N, _)
theorem idx4 : ∀ t : Fin cfg0.N, win0_4.index t (0 : Fin 2) = 0 ∧ win0_4.index t (1 : Fin 2) = t.val % 12 :=
  (by decide +kernel : ∀ t : Fin grid0.N, _)

/-- A block of an array that starts at `(p, q)`, at an index. -/
theorem iblk0_apply (c : Dev nD) (t : Fin cfg0.N) (r : Fin 512) (k : Fin 24576) :
    iblk m c 0 t (ix2 r k) = V m c main_arg0 (ix2 ⟨t.val / 12 * 512 + r.val, by have := t.isLt; have : cfg0.N = 144 := N_0; omega⟩ k) := by
  obtain ⟨e0, e1⟩ := idx0 t
  refine congrArg (V m c main_arg0) (funext fun a => Fin.ext ?_)
  match a with
  | ⟨0, _⟩ => show win0_0.index t (0 : Fin 2) * 512 + 1 * r.val = t.val / 12 * 512 + r.val; omega
  | ⟨1, _⟩ => show win0_0.index t (1 : Fin 2) * 24576 + 1 * k.val = k.val; omega
theorem iblk1_apply (c : Dev nD) (t : Fin cfg0.N) (r : Fin 256) (k : Fin 12288) :
    iblk m c 1 t (ix2 r k) = V m c main_arg1 (ix2 ⟨t.val % 12 * 256 + r.val, by omega⟩ k) := by
  obtain ⟨e0, e1⟩ := idx1 t
  refine congrArg (V m c main_arg1) (funext fun a => Fin.ext ?_)
  match a with
  | ⟨0, _⟩ => show win0_1.index t (0 : Fin 2) * 256 + 1 * r.val = t.val % 12 * 256 + r.val; omega
  | ⟨1, _⟩ => show win0_1.index t (1 : Fin 2) * 12288 + 1 * k.val = k.val; omega
theorem iblk2_apply (c : Dev nD) (t : Fin cfg0.N) (r : Fin 256) (k : Fin 12288) :
    iblk m c 2 t (ix2 r k) = V m c main_arg2 (ix2 ⟨t.val % 12 * 256 + r.val, by omega⟩ k) := by
  obtain ⟨e0, e1⟩ := idx2 t
  refine congrArg (V m c main_arg2) (funext fun a => Fin.ext ?_)
  match a with
  | ⟨0, _⟩ => show win0_2.index t (0 : Fin 2) * 256 + 1 * r.val = t.val % 12 * 256 + r.val; omega
  | ⟨1, _⟩ => show win0_2.index t (1 : Fin 2) * 12288 + 1 * k.val = k.val; omega
theorem iblk3_apply (c : Dev nD) (t : Fin cfg0.N) (r : Fin 512) (k : Fin 128) :
    iblk m c 3 t (ix2 r k) = V m c main_arg3 (ix2 ⟨t.val / 12 * 512 + r.val, by have := t.isLt; have : cfg0.N = 144 := N_0; omega⟩ k) := by
  obtain ⟨e0, e1⟩ := idx3 t
  refine congrArg (V m c main_arg3) (funext fun a => Fin.ext ?_)
  match a with
  | ⟨0, _⟩ => show win0_3.index t (0 : Fin 2) * 512 + 1 * r.val = t.val / 12 * 512 + r.val; omega
  | ⟨1, _⟩ => show win0_3.index t (1 : Fin 2) * 128 + 1 * k.val = k.val; omega
theorem iblk4_apply (c : Dev nD) (t : Fin cfg0.N) (k : Fin 256) :
    iblk m c 4 t (ix2 0 k) = V m c main_v0 (ix2 0 ⟨t.val % 12 * 256 + k.val, by omega⟩) := by
  obtain ⟨e0, e1⟩ := idx4 t
  refine congrArg (V m c main_v0) (funext fun a => Fin.ext ?_)
  match a with
  | ⟨0, _⟩ => show win0_4.index t (0 : Fin 2) * 1 + 1 * 0 = 0; omega
  | ⟨1, _⟩ => show win0_4.index t (1 : Fin 2) * 256 + 1 * k.val = t.val % 12 * 256 + k.val; omega

/-- So two points of one row of the grid have the same block of codes. -/
theorem iblk0_row (c : Dev nD) (t t' : Fin cfg0.N) (h : t.val / 12 = t'.val / 12) : iblk m c 0 t = iblk m c 0 t' := by
  funext j
  rw [eq_ix2 j]
  refine (iblk0_apply m c t _ _).trans (Eq.trans ?_ (iblk0_apply m c t' _ _).symm)
  simp only [h]

/-- After every point the scratch holds the recast of the point's own block of codes. -/
theorem scratch_eq (c : Dev nD) : ∀ (n : ℕ) (h : n < cfg0.N), (outsAt0 m c n h).2 = k0_pay1 (iblk m c 0 ⟨n, h⟩)
  | 0, h => by
    rw [outsAt0_A m c ⟨0, h⟩ rfl]
    dsimp only
    rw [sout_A]
  | n + 1, h => by
    by_cases h0 : (n + 1) % 12 = 0
    · rw [outsAt0_A m c ⟨n + 1, h⟩ h0]
      dsimp only
      rw [sout_A]
    · rw [outsAt0_B m c ⟨n + 1, h⟩ h0]
      show (outsAt0 m c n _).2 = _
      rw [scratch_eq c n, iblk0_row m c ⟨n, _⟩ ⟨n + 1, h⟩ (by dsimp only; omega)]

/-- Every point's block of the result, from the point's own input blocks. -/
theorem outsAt_eq (c : Dev nD) (t : Fin cfg0.N) : (outsAt0 m c t.val t.isLt).1
    = blockOf (k0_pay1 (iblk m c 0 t)) (iblk m c 1 t) (iblk m c 2 t) (iblk m c 3 t) (iblk m c 4 t) := by
  by_cases h0 : t.val % 12 = 0
  · rw [outsAt0_A m c t h0]
    dsimp only
    rw [out_A]
  · rw [outsAt0_B m c t h0]
    dsimp only
    rw [out_B, scratch_eq, iblk0_row m c ⟨t.val - 1, _⟩ t (by dsimp only; omega)]

end Block

/-- A block over the ideal values, at an index. -/
theorem blockOf_apply (x0 : Vec Ideal S512x24576 .i8) (lo hi : Vec Ideal S256x12288 .fp8e4m3) (s : Vec Ideal S512x128 .f32)
    (w : Vec Ideal S1x256 .f32) (r : Fin 512) (q : Fin 256) : blockOf (F := Ideal) (k0_pay1 (F := Ideal) x0) lo hi s w (ix2 r q)
      = ((∑ k : Fin 12288, FloatOps.sitofp (F := Ideal) .bf16 (x0 (ix2 r ⟨k.val, by omega⟩)) * lo (ix2 q k)
        + ∑ k : Fin 12288, FloatOps.sitofp (F := Ideal) .bf16 (x0 (ix2 r ⟨12288 + k.val, by omega⟩)) * hi (ix2 q k))
          * s (ix2 r 0) * w (ix2 0 q) : EReal) := by
  unfold blockOf k0_pay2 k0_pay1
  pointwise

section Value

variable (m : (ℓ : Loc nD τ sig) → Buf (Elt Ideal) ℓ)

/-- The column scales, reshaped to one row before the call. -/
theorem V_main_v0 (c : Dev nD) (q : Fin 3072) :
    V m c main_v0 (ix2 0 q) = m ((c : Thread nD τ).loc main_arg4) (ix1 q) := by
  have e : V m c main_v0 = shapeCast S1x3072 (m ((c : Thread nD τ).loc main_arg4)) shapeCasts_S3072_S1x3072 := by
    show StableHlo.after hostOps0 _ (Proc.devRef .tc main_v0) = _
    after_results
    rfl
  rw [e]
  pointwise

/-- The kernel's result is the down projection of its arguments. -/
theorem G5_eq (c : Dev nD) : G5 m c = Spec.product (m ((c : Thread nD τ).loc main_arg0)) (m ((c : Thread nD τ).loc main_arg1))
    (m ((c : Thread nD τ).loc main_arg2)) (m ((c : Thread nD τ).loc main_arg3)) (m ((c : Thread nD τ).loc main_arg4)) := by
  funext i
  idx_vars i
  have hp : pt5Of (ix2 i0 i1) = 12 * (i0.val / 512) + i1.val / 256 := by
    show 12 * (i0.val / 512 - 0) + 1 * (i1.val / 256 - 0) = _
    omega
  have hN : cfg0.N = 144 := N_0
  have hlt : pt5Of (ix2 i0 i1) < cfg0.N := by rw [hp]; omega
  have hl : loc5Of (ix2 i0 i1) = ix2 ⟨i0.val % 512, Nat.mod_lt _ (by decide)⟩ ⟨i1.val % 256, Nat.mod_lt _ (by decide)⟩ := by
    funext a; apply Fin.ext
    match a with
    | ⟨0, _⟩ => rfl
    | ⟨1, _⟩ => rfl
  unfold G5
  rw [dif_pos hlt, ← outsAt0_sweep m c _ hlt, outsAt_eq m c ⟨_, hlt⟩, hl, blockOf_apply]
  have hr : (⟨pt5Of (ix2 i0 i1) / 12 * 512 + i0.val % 512, by rw [hp]; omega⟩ : Fin 6144) = i0 := Fin.ext (by
    show pt5Of (ix2 i0 i1) / 12 * 512 + i0.val % 512 = i0.val; rw [hp]; omega)
  have hq : (⟨pt5Of (ix2 i0 i1) % 12 * 256 + i1.val % 256, by omega⟩ : Fin 3072) = i1 := Fin.ext (by
    show pt5Of (ix2 i0 i1) % 12 * 256 + i1.val % 256 = i1.val; rw [hp]; omega)
  simp only [iblk0_apply, iblk1_apply, iblk2_apply, iblk3_apply, iblk4_apply, hr, hq]
  rw [V_main_arg0 m c, V_main_arg1 m c, V_main_arg2 m c, V_main_arg3 m c, V_main_v0 m c]
  rfl

end Value

end Cert.Proof.Matmul

end
-- ==== Proof.Product.lean ====
/- Hand-written, untrusted. THE REFERENCE'S RESULT AT AN INDEX: its one grid point reads its whole arguments and writes the
   whole result. -/
module

public import proofs.«01_k».proof.Proof.Gen.ProductIdeal.Value
public import proofs.«01_k».proof.Proof.Spec

@[expose] public section

set_option maxRecDepth 16384

noncomputable section

namespace Cert.Proof.Product

open Cert.ProductIdeal Cert.ProductIdeal.Gen Cert.ProductIdeal.Value Idealize.ShloMosaic Idealize.ShloMosaic.TcCoe
open Idealize.SL.Sem

theorem hz : (![0, 0] : Fin 2 → Nat) = fun _ => 0 := funext fun a => by fin_cases a <;> rfl

section Whole

variable {F : FTy → Type} [FloatOps F] (m : (ℓ : Loc nD τ sig) → Buf (Elt F) ℓ)

theorem idx0 (t : Fin cfg0.N) : (fun a => win0_0.index t a * main_arg0.ty.shape.size a) = fun _ => 0 :=
  funext fun a => by rw [(by decide +kernel : ∀ (t : Fin grid0.N) (a : Fin 2), win0_0.index t a = 0) t a, Nat.zero_mul]
theorem idx1 (t : Fin cfg0.N) : (fun a => win0_1.index t a * main_arg1.ty.shape.size a) = fun _ => 0 :=
  funext fun a => by rw [(by decide +kernel : ∀ (t : Fin grid0.N) (a : Fin 2), win0_1.index t a = 0) t a, Nat.zero_mul]
theorem idx2 (t : Fin cfg0.N) : (fun a => win0_2.index t a * main_arg2.ty.shape.size a) = fun _ => 0 :=
  funext fun a => by rw [(by decide +kernel : ∀ (t : Fin grid0.N) (a : Fin 2), win0_2.index t a = 0) t a, Nat.zero_mul]
theorem idx3 (t : Fin cfg0.N) : (fun a => win0_3.index t a * main_arg3.ty.shape.size a) = fun _ => 0 :=
  funext fun a => by rw [(by decide +kernel : ∀ (t : Fin grid0.N) (a : Fin 2), win0_3.index t a = 0) t a, Nat.zero_mul]
theorem idx4 (t : Fin cfg0.N) : (fun a => win0_4.index t a * main_v0.ty.shape.size a) = fun _ => 0 :=
  funext fun a => by rw [(by decide +kernel : ∀ (t : Fin grid0.N) (a : Fin 2), win0_4.index t a = 0) t a, Nat.zero_mul]
theorem idx5 (t : Fin cfg0.N) : (fun a => win0_5.index t a * main_v1.ty.shape.size a) = fun _ => 0 :=
  funext fun a => by rw [(by decide +kernel : ∀ (t : Fin grid0.N) (a : Fin 2), win0_5.index t a = 0) t a, Nat.zero_mul]

/-- Each window's one block is its array. -/
theorem iblk0_eq (c : Dev nD) (t : Fin cfg0.N) : iblk m c 0 t = V m c main_arg0 :=
  Memref.read_access_unit_zero (Elt F) main_arg0 (idx0 t) (fun a => by rw [congrFun (idx0 t) a]; simp) _
theorem iblk1_eq (c : Dev nD) (t : Fin cfg0.N) : iblk m c 1 t = V m c main_arg1 :=
  Memref.read_access_unit_zero (Elt F) main_arg1 (idx1 t) (fun a => by rw [congrFun (idx1 t) a]; simp) _
theorem iblk2_eq (c : Dev nD) (t : Fin cfg0.N) : iblk m c 2 t = V m c main_arg2 :=
  Memref.read_access_unit_zero (Elt F) main_arg2 (idx2 t) (fun a => by rw [congrFun (idx2 t) a]; simp) _
theorem iblk3_eq (c : Dev nD) (t : Fin cfg0.N) : iblk m c 3 t = V m c main_arg3 :=
  Memref.read_access_unit_zero (Elt F) main_arg3 (idx3 t) (fun a => by rw [congrFun (idx3 t) a]; simp) _
theorem iblk4_eq (c : Dev nD) (t : Fin cfg0.N) : iblk m c 4 t = V m c main_v0 :=
  Memref.read_access_unit_zero (Elt F) main_v0 (idx4 t) (fun a => by rw [congrFun (idx4 t) a]; simp) _

/-- The result of the body from its five whole arguments: the one payload. -/
theorem out_eq (x0 : Vec F S6144x24576 .i8) (x1 x2 : Vec F S3072x12288 .fp8e4m3) (x3 : Vec F S6144x128 .f32)
    (x4 : Vec F S1x3072 .f32) : out0_5 x0 x1 x2 x3 x4
      = k0_pay1 x0 x1 x2 (View.ld x3 (Rect.unit (s := S6144x128) ![0, 0] S6144x1.size inb_S6144x128_S6144x1_0_0)) x4 := by
  unfold out0_5
  rw [View.canon_unit_zero hz, View.ld_unit_zero hz, View.ld_unit_zero hz, View.ld_unit_zero hz, View.ld_unit_zero hz]

/-- The one grid point. -/
def t₀ : Fin cfg0.N := ⟨0, by decide⟩

/-- The result array after the run. -/
theorem final5 (c : Dev nD) : (dats m 0 c).arrAt 5 cfg0.N
    = out0_5 (V m c main_arg0) (V m c main_arg1) (V m c main_arg2) (V m c main_arg3) (V m c main_v0) := by
  have hb := blocks5 m c t₀ (by decide +kernel)
  rw [flushed5, iblk0_eq, iblk1_eq, iblk2_eq, iblk3_eq, iblk4_eq] at hb
  exact (Memref.read_access_unit_zero (Elt F) main_v1 (idx5 t₀) (fun a => by rw [congrFun (idx5 t₀) a]; simp) _).symm.trans hb

end Whole

section Value

variable (m : (ℓ : Loc nD τ sig) → Buf (Elt Ideal) ℓ)

/-- The column scales, reshaped to one row before the call. -/
theorem V_main_v0 (c : Dev nD) (q : Fin 3072) :
    V m c main_v0 (ix2 0 q) = m ((c : Thread nD τ).loc main_arg4) (ix1 q) := by
  have e : V m c main_v0 = shapeCast S1x3072 (m ((c : Thread nD τ).loc main_arg4)) shapeCasts_S3072_S1x3072 := by
    show StableHlo.after hostOps0 _ (Proc.devRef .tc main_v0) = _
    after_results
    rfl
  rw [e]
  pointwise

/-- The reference's result is the down projection of its arguments. -/
theorem final_eq (c : Dev nD) : (dats m 0 c).arrAt 5 cfg0.N
    = Spec.product (m ((c : Thread nD τ).loc main_arg0)) (m ((c : Thread nD τ).loc main_arg1))
    (m ((c : Thread nD τ).loc main_arg2)) (m ((c : Thread nD τ).loc main_arg3)) (m ((c : Thread nD τ).loc main_arg4)) := by
  rw [final5, out_eq]
  funext i
  idx_vars i
  unfold k0_pay1
  pointwise
  rw [V_main_arg0 m c, V_main_arg1 m c, V_main_arg2 m c, V_main_arg3 m c, V_main_v0 m c]
  rfl

end Value

end Cert.Proof.Product

end
-- ==== Proof.Unpack.lean ====
/- Hand-written, untrusted. THE UNPACKED WEIGHTS OF THE KERNEL at an index. A block multiplies its codes by the product of the
   groups' steps with a matrix of zeros and ones, one in the row of a column's group; so that product is the step of the
   column's group (`onehot_sum`), and the two shifts of a packed byte are the signed value of its 4-bit code (`shift_lo`,
   `shift_hi`). -/
module

public import proofs.«01_k».proof.Proof.Gen.UnpackIdeal.Value
public import proofs.«01_k».proof.Proof.Spec

@[expose] public section

set_option maxRecDepth 16384

noncomputable section

namespace Cert.Proof.Unpack

open Cert.UnpackIdeal Cert.UnpackIdeal.Gen Cert.UnpackIdeal.Value Idealize.ShloMosaic Idealize.ShloMosaic.TcCoe
open Idealize.SL.Sem

/-- Shifting a byte up and arithmetically down again is the signed value of its low code. -/
theorem shift_lo : ∀ b : BitVec 8, IntOp.shrsi .vector (IntOp.shli .vector (BitVec.setWidth 32 b) 28#32) 28#32
    = Spec.nibble (BitVec.setWidth 32 b) := by decide +kernel

/-- … and of its high code. -/
theorem shift_hi : ∀ b : BitVec 8, IntOp.shrsi .vector (IntOp.shli .vector (BitVec.setWidth 32 b) 24#32) 28#32
    = Spec.nibble (IntOp.shrsi .vector (BitVec.setWidth 32 b) 4#32) := by decide +kernel

section Host

/-- The group of each column of a block, a floor division by 128. -/
def group : IVec S1x2048 32 :=
  let col : IVec S1x2048 32 := broadcastInDim S1x2048 ![1] bcast_S2048_S1x2048_1 (iotaInDim S2048 32 0)
  let by128 : IVec S1x2048 32 := broadcastInDim S1x2048 ![] bcast_S_S1x2048 (constantI S_ 32 128#32)
  select (andi (cmpi .ne (signi col) (broadcastInDim S1x2048 ![] bcast_S_S1x2048 (signi (constantI S_ 32 128#32))))
      (cmpi .ne (Host.remsi col by128) (broadcastInDim S1x2048 ![] bcast_S_S1x2048 (constantI S_ 32 0#32))))
    (subi (Host.divsi col by128) (broadcastInDim S1x2048 ![] bcast_S_S1x2048 (constantI S_ 32 1#32)))
    (Host.divsi col by128)

theorem eq_word : ∀ g n : Fin 16, IntOp.cmpi .eq (BitVec.ofNat 32 g.val) (BitVec.ofNat 32 n.val)
    = if g.val = n.val then 1#1 else 0#1 := by decide +kernel

theorem group_apply : ∀ q : Fin 2048, group (ix2 0 q) = BitVec.ofNat 32 (q.val / 128) := by
  intro q
  unfold group
  pointwise
  revert q
  decide +kernel

variable (m : (ℓ : Loc nD τ sig) → Buf (Elt Ideal) ℓ)

/-- The matrix of zeros and ones, at an index. -/
theorem V_onehot (c : Dev nD) (g : Fin 16) (q : Fin 2048) :
    V m c main_v10 (ix2 g q) = if g.val = q.val / 128 then (1 : EReal) else 0 := by
  have e : V m c main_v10 = uitofp (F := Ideal) .bf16 (cmpi .eq (broadcastInDim S16x2048 ![0, 1] bcast_S16x1_S16x2048_0_1
      (broadcastInDim S16x1 ![0] bcast_S16_S16x1_0 (iotaInDim S16 32 0)))
      (broadcastInDim S16x2048 ![0, 1] bcast_S1x2048_S16x2048_0_1 group)) := by
    show StableHlo.after (List.flatten [hostOps0, hostOps0_1, hostOps0_2]) _ (Proc.devRef .tc main_v10) = _
    simp only [List.flatten_cons, List.flatten_nil, List.append_nil, List.cons_append, List.nil_append]
    after_results
    rfl
  rw [e]
  pointwise
  rw [group_apply]
  refine (congrArg (FloatOps.uitofp (F := Ideal) .bf16) (eq_word g ⟨q.val / 128, by omega⟩)).trans ?_
  split
  · show ((BitVec.toNat 1#1 : ℝ) : EReal) = 1
    norm_num
  · show ((BitVec.toNat 0#1 : ℝ) : EReal) = 0
    norm_num

/-- The exponents, regrouped by block of columns and half. -/
theorem V_gexp (c : Dev nD) (j : Fin 6) (h : Fin 2) (r : Fin 3072) (g : Fin 16) :
    V m c main_v1 (ix4 j h r g) = m ((c : Thread nD τ).loc main_arg1) (ix2 r ⟨h.val * 96 + j.val * 16 + g.val, by omega⟩) := by
  have e : V m c main_v1 = transpose S6x2x3072x16 [2, 1, 0, 3]
      (shapeCast S3072x2x6x16 (m ((c : Thread nD τ).loc main_arg1)) shapeCasts_S3072x192_S3072x2x6x16)
      transposes_S3072x2x6x16_S6x2x3072x16_2_1_0_3 := by
    show StableHlo.after  (List.flatten [hostOps0, hostOps0_1, hostOps0_2]) _ (Proc.devRef .tc main_v1) = _
    simp only [List.flatten_cons, List.flatten_nil, List.append_nil, List.cons_append, List.nil_append]
    after_results
    rfl
  rw [e]
  pointwise

end Host

/-- A product with the matrix of zeros and ones picks one group. -/
theorem onehot_sum (f : Fin 16 → EReal) (n : Fin 16) :
    ∑ g : Fin 16, f g * (if g.val = n.val then (1 : EReal) else 0) = f n := by
  rw [Finset.sum_eq_single n]
  · simp
  · intro g _ hg
    rw [if_neg (fun h => hg (Fin.ext h)), mul_zero]
  · simp

section Block

variable (m : (ℓ : Loc nD τ sig) → Buf (Elt Ideal) ℓ)

theorem idx0 : ∀ t : Fin cfg0.N, win0_0.index t (0 : Fin 2) = t.val / 6 ∧ win0_0.index t (1 : Fin 2) = t.val % 6 :=
  (by decide +kernel : ∀ t : Fin grid0.N, _)
theorem idx1 : ∀ t : Fin cfg0.N, win0_1.index t (0 : Fin 4) = t.val % 6 ∧ win0_1.index t (1 : Fin 4) = 0
    ∧ win0_1.index t (2 : Fin 4) = t.val / 6 ∧ win0_1.index t (3 : Fin 4) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = t.val / 6 ∧ win0_3.index t (1 : Fin 2) = t.val % 6 :=
  (by decide +kernel : ∀ t : Fin grid0.N, _)
theorem idx4 : ∀ t : Fin cfg0.N, win0_4.index t (0 : Fin 2) = t.val / 6 ∧ win0_4.index t (1 : Fin 2) = t.val % 6 :=
  (by decide +kernel : ∀ t : Fin grid0.N, _)

theorem N_lt (t : Fin cfg0.N) : t.val < 72 := lt_of_lt_of_eq t.isLt N_0

/-- Row and column of the arrays at a place of a point's block. -/
def row (t : Fin cfg0.N) (r : Fin 256) : Fin 3072 := ⟨t.val / 6 * 256 + r.val, by have := N_lt t; omega⟩
def col (t : Fin cfg0.N) (q : Fin 2048) : Fin 12288 := ⟨t.val % 6 * 2048 + q.val, by omega⟩

theorem iblk0_apply (c : Dev nD) (t : Fin cfg0.N) (r : Fin 256) (q : Fin 2048) :
    iblk m c 0 t (ix2 r q) = m ((c : Thread nD τ).loc main_arg0) (ix2 (row t r) (col t q)) := by
  obtain ⟨e0, e1⟩ := idx0 t
  rw [← V_main_arg0 m c]
  refine congrArg (V m c main_arg0) (funext fun a => Fin.ext ?_)
  match a with
  | ⟨0, _⟩ => show win0_0.index t (0 : Fin 2) * 256 + 1 * r.val = t.val / 6 * 256 + r.val; omega
  | ⟨1, _⟩ => show win0_0.index t (1 : Fin 2) * 2048 + 1 * q.val = t.val % 6 * 2048 + q.val; omega

theorem iblk1_apply (c : Dev nD) (t : Fin cfg0.N) (h : Fin 2) (r : Fin 256) (g : Fin 16) :
    iblk m c 1 t (ix4 0 h r g) = m ((c : Thread nD τ).loc main_arg1)
      (ix2 (row t r) ⟨h.val * 96 + t.val % 6 * 16 + g.val, by omega⟩) := by
  obtain ⟨e0, e1, e2, e3⟩ := idx1 t
  refine Eq.trans ?_ (V_gexp m c ⟨t.val % 6, by omega⟩ h (row t r) g)
  refine congrArg (V m c main_v1) (funext fun a => Fin.ext ?_)
  match a with
  | ⟨0, _⟩ => show win0_1.index t (0 : Fin 4) * 1 + 1 * 0 = t.val % 6; omega
  | ⟨1, _⟩ => show win0_1.index t (1 : Fin 4) * 2 + 1 * h.val = h.val; omega
  | ⟨2, _⟩ => show win0_1.index t (2 : Fin 4) * 256 + 1 * r.val = t.val / 6 * 256 + r.val; omega
  | ⟨3, _⟩ => show win0_1.index t (3 : Fin 4) * 16 + 1 * g.val = g.val; omega

theorem iblk2_apply (c : Dev nD) (t : Fin cfg0.N) (g : Fin 16) (q : Fin 2048) :
    iblk m c 2 t (ix2 g q) = if g.val = q.val / 128 then (1 : EReal) else 0 := by
  obtain ⟨e0, e1⟩ := idx2 t
  refine Eq.trans ?_ (V_onehot m c g q)
  refine congrArg (V m c main_v10) (funext fun a => Fin.ext ?_)
  match a with
  | ⟨0, _⟩ => show win0_2.index t (0 : Fin 2) * 16 + 1 * g.val = g.val; omega
  | ⟨1, _⟩ => show win0_2.index t (1 : Fin 2) * 2048 + 1 * q.val = q.val; omega

theorem hz : (![0, 0] : Fin 2 → Nat) = fun _ => 0 := funext fun a => by fin_cases a <;> rfl
theorem hz4 : (![0, 0, 0, 0] : Fin 4 → Nat) = fun _ => 0 := funext fun a => by fin_cases a <;> rfl

/-- What a point writes of the low weights, at a place of its block. -/
theorem out3_apply (c : Dev nD) (t : Fin cfg0.N) (r : Fin 256) (q : Fin 2048) :
    out0_3 (iblk m c 0 t) (iblk m c 1 t) (iblk m c 2 t) (ix2 r q)
      = Spec.weightsLo (m ((c : Thread nD τ).loc main_arg0)) (m ((c : Thread nD τ).loc main_arg1)) (ix2 (row t r) (col t q)) := by
  unfold out0_3
  rw [View.canon_unit_zero hz, View.ld_unit_zero (S := S256x2048) hz, View.ld_unit_zero (S := S16x2048) hz, View.ld_unit_zero hz4]
  unfold k0_pay3 k0_pay2 k0_pay1
  pointwise
  simp only [iblk0_apply, iblk1_apply, iblk2_apply]
  rw [onehot_sum _ ⟨q.val / 128, by omega⟩, shift_lo]
  have hg : (⟨(0 : Fin 2).val * 96 + t.val % 6 * 16 + q.val / 128, by omega⟩ : Fin 192) = ⟨(col t q).val / 128, by omega⟩ :=
    Fin.ext (by show 0 * 96 + t.val % 6 * 16 + q.val / 128 = (t.val % 6 * 2048 + q.val) / 128; omega)
  rw [hg]
  rfl

/-- What a point writes of the high weights, at a place of its block. -/
theorem out4_apply (c : Dev nD) (t : Fin cfg0.N) (r : Fin 256) (q : Fin 2048) :
    out0_4 (iblk m c 0 t) (iblk m c 1 t) (iblk m c 2 t) (ix2 r q)
      = Spec.weightsHi (m ((c : Thread nD τ).loc main_arg0)) (m ((c : Thread nD τ).loc main_arg1)) (ix2 (row t r) (col t q)) := by
  unfold out0_4
  rw [View.canon_unit_zero hz, View.ld_unit_zero (S := S256x2048) hz, View.ld_unit_zero (S := S16x2048) hz, View.ld_unit_zero hz4]
  unfold k0_pay4 k0_pay2 k0_pay1
  pointwise
  simp only [iblk0_apply, iblk1_apply, iblk2_apply]
  rw [onehot_sum _ ⟨q.val / 128, by omega⟩, shift_hi]
  have hg : (⟨(1 : Fin 2).val * 96 + t.val % 6 * 16 + q.val / 128, by omega⟩ : Fin 192) = ⟨96 + (col t q).val / 128, by omega⟩ :=
    Fin.ext (by show 1 * 96 + t.val % 6 * 16 + q.val / 128 = 96 + (t.val % 6 * 2048 + q.val) / 128; omega)
  rw [hg]
  rfl

/-- The point whose block holds an index. -/
def pt (i0 : Fin 3072) (i1 : Fin 12288) : Fin cfg0.N := ⟨i0.val / 256 * 6 + i1.val / 2048, lt_of_lt_of_eq (by omega) N_0.symm⟩

theorem flush3_all : ∀ t : Fin cfg0.N, (cfg0.win 3).flush t = true := (by decide +kernel : ∀ t : Fin grid0.N, win0_3.flush t = true)
theorem flush4_all : ∀ t : Fin cfg0.N, (cfg0.win 4).flush t = true := (by decide +kernel : ∀ t : Fin grid0.N, win0_4.flush t = true)

/-- The low weights after the run. -/
theorem final3 (c : Dev nD) : (dats m 0 c).arrAt 3 cfg0.N
    = Spec.weightsLo (m ((c : Thread nD τ).loc main_arg0)) (m ((c : Thread nD τ).loc main_arg1)) := by
  refine (dats m 0 c).arrAt_eq_of_cover 3 _ (fun t _ => ?_) (fun i => ?_)
  · rw [flushed3]
    funext y
    obtain ⟨e0, e1⟩ := idx3 t
    have hemb : ((cfg0.win 3).blk t).view.emb y = ix2 (row t (y 0)) (col t (y 1)) := funext fun a => Fin.ext (by
      match a with
      | ⟨0, _⟩ => show win0_3.index t (0 : Fin 2) * 256 + 1 * (y 0).val = t.val / 6 * 256 + (y 0).val; omega
      | ⟨1, _⟩ => show win0_3.index t (1 : Fin 2) * 2048 + 1 * (y 1).val = t.val % 6 * 2048 + (y 1).val; omega)
    refine Eq.trans ?_ ((out3_apply m c t (y 0) (y 1)).trans (congrArg (Spec.weightsLo _ _) hemb.symm))
    exact congrArg (out0_3 _ _ _) (eq_ix2 (n0 := 256) (n1 := 2048) y)
  · have h0 : (i 0).val < 3072 := (i 0).isLt
    have h1 : (i 1).val < 12288 := (i 1).isLt
    obtain ⟨e0, e1⟩ := idx3 (pt (i 0) (i 1))
    have ht : (pt (i 0) (i 1)).val = (i 0).val / 256 * 6 + (i 1).val / 2048 := rfl
    refine ⟨pt (i 0) (i 1), flush3_all _, ?_⟩
    show i ∈ ((View.whole main_v11_0).slice (win0_3.rect (pt (i 0) (i 1)))).set
    rw [View.set_slice_whole, Rect.mem_set_unit]
    intro a
    match a with
    | ⟨0, _⟩ => show win0_3.index (pt (i 0) (i 1)) (0 : Fin 2) * 256 ≤ (i 0).val
        ∧ (i 0).val < win0_3.index (pt (i 0) (i 1)) (0 : Fin 2) * 256 + 256; omega
    | ⟨1, _⟩ => show win0_3.index (pt (i 0) (i 1)) (1 : Fin 2) * 2048 ≤ (i 1).val
        ∧ (i 1).val < win0_3.index (pt (i 0) (i 1)) (1 : Fin 2) * 2048 + 2048; omega

/-- The high weights after the run. -/
theorem final4 (c : Dev nD) : (dats m 0 c).arrAt 4 cfg0.N
    = Spec.weightsHi (m ((c : Thread nD τ).loc main_arg0)) (m ((c : Thread nD τ).loc main_arg1)) := by
  refine (dats m 0 c).arrAt_eq_of_cover 4 _ (fun t _ => ?_) (fun i => ?_)
  · rw [flushed4]
    funext y
    obtain ⟨e0, e1⟩ := idx4 t
    have hemb : ((cfg0.win 4).blk t).view.emb y = ix2 (row t (y 0)) (col t (y 1)) := funext fun a => Fin.ext (by
      match a with
      | ⟨0, _⟩ => show win0_4.index t (0 : Fin 2) * 256 + 1 * (y 0).val = t.val / 6 * 256 + (y 0).val; omega
      | ⟨1, _⟩ => show win0_4.index t (1 : Fin 2) * 2048 + 1 * (y 1).val = t.val % 6 * 2048 + (y 1).val; omega)
    refine Eq.trans ?_ ((out4_apply m c t (y 0) (y 1)).trans (congrArg (Spec.weightsHi _ _) hemb.symm))
    exact congrArg (out0_4 _ _ _) (eq_ix2 (n0 := 256) (n1 := 2048) y)
  · have h0 : (i 0).val < 3072 := (i 0).isLt
    have h1 : (i 1).val < 12288 := (i 1).isLt
    obtain ⟨e0, e1⟩ := idx4 (pt (i 0) (i 1))
    have ht : (pt (i 0) (i 1)).val = (i 0).val / 256 * 6 + (i 1).val / 2048 := rfl
    refine ⟨pt (i 0) (i 1), flush4_all _, ?_⟩
    show i ∈ ((View.whole main_v11_1).slice (win0_4.rect (pt (i 0) (i 1)))).set
    rw [View.set_slice_whole, Rect.mem_set_unit]
    intro a
    match a with
    | ⟨0, _⟩ => show win0_4.index (pt (i 0) (i 1)) (0 : Fin 2) * 256 ≤ (i 0).val
        ∧ (i 0).val < win0_4.index (pt (i 0) (i 1)) (0 : Fin 2) * 256 + 256; omega
    | ⟨1, _⟩ => show win0_4.index (pt (i 0) (i 1)) (1 : Fin 2) * 2048 ≤ (i 1).val
        ∧ (i 1).val < win0_4.index (pt (i 0) (i 1)) (1 : Fin 2) * 2048 + 2048; omega

end Block

end Cert.Proof.Unpack

end
-- ==== Proof.Weights.lean ====
/- Hand-written, untrusted. THE UNPACKED WEIGHTS OF THE REFERENCE at an index: a signed 4-bit code times the step of its group. -/
module

public import proofs.«01_k».proof.Proof.Gen.WeightsIdeal.Value
public import proofs.«01_k».proof.Proof.Spec

@[expose] public section

set_option maxRecDepth 16384

noncomputable section

namespace Cert.Proof.Weights

open Cert.WeightsIdeal Cert.WeightsIdeal.Gen Cert.WeightsIdeal.Value Idealize.ShloMosaic

theorem lo_eq (p : Vec Ideal S3072x12288 .i8) (e : Vec Ideal S3072x192 .i8) : G2 (F := Ideal) p e = Spec.weightsLo p e := by
  funext i
  idx_vars i
  unfold G2 k0_pay3 k0_pay2 k0_pay1
  pointwise
  rfl

theorem hi_eq (p : Vec Ideal S3072x12288 .i8) (e : Vec Ideal S3072x192 .i8) : G3 (F := Ideal) p e = Spec.weightsHi p e := by
  funext i
  idx_vars i
  unfold G3 k0_pay4 k0_pay2 k0_pay1
  pointwise
  rfl

end Cert.Proof.Weights

end
-- ==== Proof.lean ====
/- Hand-written, untrusted: the proof of `Cert.Claim`. Each result is one formula of the arguments (Proof/Spec.lean), which
   Proof/Matmul.lean and Proof/Unpack.lean show of the kernel's calls, Proof/Product.lean and Proof/Weights.lean of the
   references; the rotation's two meet in Proof/RotateJoin.lean, token by token. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ProductIdeal
public import proofs.«01_k».proof.Proof.Gen.ProductIdeal.Skeleton
public import proofs.«01_k».proof.Proof.Gen.ProductIdeal.Launch
public import proofs.«01_k».proof.Proof.Gen.ProductIdeal.Points
public import proofs.«01_k».proof.Proof.Gen.ProductIdeal.Frame
public import proofs.«01_k».proof.Proof.Gen.KernelIdeal.Value
public import proofs.«01_k».proof.Proof.Gen.ProductIdeal.Value
public import proofs.«01_k».proof.Proof.Gen.Unpack.Frame
public import proofs.«01_k».proof.Proof.Gen.UnpackIdeal.Value
public import proofs.«01_k».proof.Proof.Gen.WeightsIdeal.Value
public import proofs.«01_k».proof.Proof.Gen.Rotate.Frame
public import proofs.«01_k».proof.Proof.Gen.Rotate.Loops
public import proofs.«01_k».proof.Proof.Gen.RotateIdeal.Frame
public import proofs.«01_k».proof.Proof.Gen.RotateIdeal.Loops
public import proofs.«01_k».proof.Proof.Gen.RotationIdeal.Run
public import proofs.«01_k».proof.Proof.RotateRun
public import proofs.«01_k».proof.Proof.WordRun
public import proofs.«01_k».proof.Proof.RotateArrays
public import proofs.«01_k».proof.Proof.Matmul
public import proofs.«01_k».proof.Proof.Product
public import proofs.«01_k».proof.Proof.Unpack
public import proofs.«01_k».proof.Proof.Weights
public import Idealize.ShloMosaic.Adequacy
public import Idealize.ShloMosaic.Init

@[expose] public section

noncomputable section

namespace Cert.Proof

open Idealize.ShloMosaic Idealize.SL.Sem

/-- The down projection: kernel and reference end with the same array. -/
theorem algebraic_product : Cert.algebraic_KernelIdeal_ProductIdeal (hKernelIdeal := Cert.KernelIdeal.Gen.facts)
    (hProductIdeal := Cert.ProductIdeal.Gen.facts) := by
  intro m ρ m' ρ' _ hag
  refine ⟨fun c => Cert.KernelIdeal.Value.G5 m c, Cert.KernelIdeal.Value.run m ρ, ?_⟩
  refine (θ_run (Cert.ProductIdeal.defs (F := Ideal)) _ _).mono (fun r h c => ⟨(h c).1.trans ?_, (h c).2⟩)
    (Cert.ProductIdeal.Value.run_blocks m' ρ')
  rw [Product.final_eq]
  refine Eq.trans ?_ (Matmul.G5_eq m c).symm
  obtain ⟨h0, h1, h2, h3, h4⟩ := hag c
  rw [h0, h1, h2, h3, h4]

/-- The weights: kernel and reference end with the same two arrays. -/
theorem algebraic_weights : Cert.algebraic_UnpackIdeal_WeightsIdeal (hUnpackIdeal := Cert.UnpackIdeal.Gen.facts)
    (hWeightsIdeal := Cert.WeightsIdeal.Gen.facts) := by
  intro m ρ m' ρ' _ hag
  refine ⟨_, _, Cert.UnpackIdeal.Value.run_blocks m ρ, ?_⟩
  refine (θ_run (Cert.WeightsIdeal.defs (F := Ideal)) _ _).mono
    (fun r h c => ⟨(h c).1.trans ?_, (h c).2.1.trans ?_, (h c).2.2⟩) (Cert.WeightsIdeal.Value.run m' ρ')
  · rw [Weights.lo_eq, (hag c).1, (hag c).2]
    exact (Unpack.final3 m c).symm
  · rw [Weights.hi_eq, (hag c).1, (hag c).2]
    exact (Unpack.final4 m c).symm

/-- The rotation's reference: the three arguments end unchanged and every counter at zero. -/
theorem frame_rotation : Cert.quiescent_RotationIdeal (hRotationIdeal := Cert.RotationIdeal.Gen.facts) := fun m ρ _ =>
  (θ_run (Cert.RotationIdeal.defs (F := Ideal)) _ _).mono (fun _ h => ⟨fun c => (h c).2.2, sem_eq_zero_of_no_sems (by decide) _⟩)
    (Cert.RotationIdeal.Value.run m ρ)

/-- The rotation, of a factor whose entries are one or minus one: kernel and reference end with the same codes and scales. -/
theorem algebraic_rotation : Cert.algebraic_RotateIdeal_RotationIdeal_pre_signs (hRotateIdeal := Cert.RotateIdeal.Gen.facts)
    (hRotationIdeal := Cert.RotationIdeal.Gen.facts) (hPre_signs := Join.signsFacts) := by
  intro m ρ m' ρ' hp hag
  refine ⟨_, _, Join.run m ρ fun c => Join.signs_of _ _ _ (hp c), ?_⟩
  refine (θ_run (Cert.RotationIdeal.defs (F := Ideal)) _ _).mono
    (fun r h c => ⟨(h c).1.trans ?_, (h c).2.1.trans ?_, (h c).2.2⟩) (Cert.RotationIdeal.Value.run m' ρ')
  · rw [Ref.code_res, (hag c).1, (hag c).2.1, (hag c).2.2]
    rfl
  · rw [Ref.scale_res, (hag c).1, (hag c).2.1, (hag c).2.2]
    rfl

theorem claim : Cert.Claim := ⟨Cert.Kernel.Gen.facts, Cert.KernelIdeal.Gen.facts, Cert.ProductIdeal.Gen.facts,
  Cert.Unpack.Gen.facts, Cert.UnpackIdeal.Gen.facts, Cert.WeightsIdeal.Gen.facts,
  Cert.Rotate.Gen.facts, Cert.RotateIdeal.Gen.facts, Cert.RotationIdeal.Gen.facts, Join.signsFacts,
  fun m ρ _ => Cert.Kernel.Gen.frame m ρ, fun m ρ _ => Cert.KernelIdeal.Gen.frame m ρ,
  fun m ρ _ => Cert.ProductIdeal.Gen.frame m ρ, fun m ρ _ => Cert.Unpack.Gen.frame m ρ,
  fun m ρ _ => Cert.UnpackIdeal.Gen.frame m ρ, fun m ρ _ => Cert.WeightsIdeal.Gen.frame m ρ,
  fun m ρ _ => Word.Run.frame m ρ, fun m ρ _ => Run.frame m ρ, fun m ρ _ => Run.frame m ρ, frame_rotation,
  fun m ρ _ => frame_rotation m ρ trivial,
  trivial, algebraic_product, trivial, algebraic_weights, IdealRules.bf16_pack.statement _, algebraic_rotation⟩

end Cert.Proof

end
